-- ==== Defs.lean ====
def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_ReferenceXIdeal (m : (ℓ : Loc Cert.ReferenceXIdeal.nD Cert.ReferenceXIdeal.τ Cert.ReferenceXIdeal.sig) → Buf (Elt Ideal) ℓ) : Prop :=
  True

def Pre_KernelT (m : (ℓ : Loc Cert.KernelT.nD Cert.KernelT.τ Cert.KernelT.sig) → Buf (Elt Bits) ℓ) : Prop :=
  True

def Pre_KernelTIdeal (m : (ℓ : Loc Cert.KernelTIdeal.nD Cert.KernelTIdeal.τ Cert.KernelTIdeal.sig) → Buf (Elt Ideal) ℓ) : Prop :=
  True

def Pre_ReferenceTIdeal (m : (ℓ : Loc Cert.ReferenceTIdeal.nD Cert.ReferenceTIdeal.τ Cert.ReferenceTIdeal.sig) → Buf (Elt Ideal) ℓ) : Prop :=
  True

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_KernelFIdeal_logits_finite [hPre_logits_finite : Cert.Pre_logits_finite.Facts] (m : (ℓ : Loc Cert.KernelFIdeal.nD Cert.KernelFIdeal.τ Cert.KernelFIdeal.sig) → Buf (Elt Ideal) ℓ) : Prop :=
  ∀ c : Dev Cert.KernelFIdeal.nD,
    (Cert.Pre_logits_finite.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1)) (m ((c.tc : Thread Cert.KernelFIdeal.nD Cert.KernelFIdeal.τ).loc Cert.KernelFIdeal.main_arg2))) = (fun _ => 1#1)

def Pre_ReferenceFIdeal (m : (ℓ : Loc Cert.ReferenceFIdeal.nD Cert.ReferenceFIdeal.τ Cert.ReferenceFIdeal.sig) → Buf (Elt Ideal) ℓ) : Prop :=
  True

def Pre_ReferenceFIdeal_logits_finite [hPre_logits_finite : Cert.Pre_logits_finite.Facts] (m : (ℓ : Loc Cert.ReferenceFIdeal.nD Cert.ReferenceFIdeal.τ Cert.ReferenceFIdeal.sig) → Buf (Elt Ideal) ℓ) : Prop :=
  ∀ c : Dev Cert.ReferenceFIdeal.nD,
    (Cert.Pre_logits_finite.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2))) = (fun _ => 1#1)

def Pre_KernelL (m : (ℓ : Loc Cert.KernelL.nD Cert.KernelL.τ Cert.KernelL.sig) → Buf (Elt Bits) ℓ) : Prop :=
  True

def Pre_KernelLIdeal (m : (ℓ : Loc Cert.KernelLIdeal.nD Cert.KernelLIdeal.τ Cert.KernelLIdeal.sig) → Buf (Elt Ideal) ℓ) : Prop :=
  True

def Pre_KernelLIdeal_logits_and_cotangent_finite [hPre_logits_and_cotangent_finite : Cert.Pre_logits_and_cotangent_finite.Facts] (m : (ℓ : Loc Cert.KernelLIdeal.nD Cert.KernelLIdeal.τ Cert.KernelLIdeal.sig) → Buf (Elt Ideal) ℓ) : Prop :=
  ∀ c : Dev Cert.KernelLIdeal.nD,
    (Cert.Pre_logits_and_cotangent_finite.fn (F := Ideal) (m ((c.tc : Thread Cert.KernelLIdeal.nD Cert.KernelLIdeal.τ).loc Cert.KernelLIdeal.main_arg0)) (m ((c.tc : Thread Cert.KernelLIdeal.nD Cert.KernelLIdeal.τ).loc Cert.KernelLIdeal.main_arg1)) (m ((c.tc : Thread Cert.KernelLIdeal.nD Cert.KernelLIdeal.τ).loc Cert.KernelLIdeal.main_arg2)) (m ((c.tc : Thread Cert.KernelLIdeal.nD Cert.KernelLIdeal.τ).loc Cert.KernelLIdeal.main_arg3)) (m ((c.tc : Thread Cert.KernelLIdeal.nD Cert.KernelLIdeal.τ).loc Cert.KernelLIdeal.main_arg4)) (m ((c.tc : Thread Cert.KernelLIdeal.nD Cert.KernelLIdeal.τ).loc Cert.KernelLIdeal.main_arg5)) (m ((c.tc : Thread Cert.KernelLIdeal.nD Cert.KernelLIdeal.τ).loc Cert.KernelLIdeal.main_arg6)) (m ((c.tc : Thread Cert.KernelLIdeal.nD Cert.KernelLIdeal.τ).loc Cert.KernelLIdeal.main_arg7))) = (fun _ => 1#1)

def Pre_ReferenceLIdeal (m : (ℓ : Loc Cert.ReferenceLIdeal.nD Cert.ReferenceLIdeal.τ Cert.ReferenceLIdeal.sig) → Buf (Elt Ideal) ℓ) : Prop :=
  True

def Pre_ReferenceLIdeal_logits_and_cotangent_finite [hPre_logits_and_cotangent_finite : Cert.Pre_logits_and_cotangent_finite.Facts] (m : (ℓ : Loc Cert.ReferenceLIdeal.nD Cert.ReferenceLIdeal.τ Cert.ReferenceLIdeal.sig) → Buf (Elt Ideal) ℓ) : Prop :=
  ∀ c : Dev Cert.ReferenceLIdeal.nD,
    (Cert.Pre_logits_and_cotangent_finite.fn (F := Ideal) (m ((c.tc : Thread Cert.ReferenceLIdeal.nD Cert.ReferenceLIdeal.τ).loc Cert.ReferenceLIdeal.main_arg0)) (m ((c.tc : Thread Cert.ReferenceLIdeal.nD Cert.ReferenceLIdeal.τ).loc Cert.ReferenceLIdeal.main_arg1)) (m ((c.tc : Thread Cert.ReferenceLIdeal.nD Cert.ReferenceLIdeal.τ).loc Cert.ReferenceLIdeal.main_arg2)) (m ((c.tc : Thread Cert.ReferenceLIdeal.nD Cert.ReferenceLIdeal.τ).loc Cert.ReferenceLIdeal.main_arg3)) (m ((c.tc : Thread Cert.ReferenceLIdeal.nD Cert.ReferenceLIdeal.τ).loc Cert.ReferenceLIdeal.main_arg4)) (m ((c.tc : Thread Cert.ReferenceLIdeal.nD Cert.ReferenceLIdeal.τ).loc Cert.ReferenceLIdeal.main_arg5)) (m ((c.tc : Thread Cert.ReferenceLIdeal.nD Cert.ReferenceLIdeal.τ).loc Cert.ReferenceLIdeal.main_arg6)) (m ((c.tc : Thread Cert.ReferenceLIdeal.nD Cert.ReferenceLIdeal.τ).loc Cert.ReferenceLIdeal.main_arg7))) = (fun _ => 1#1)

def Pre_KernelS (m : (ℓ : Loc Cert.KernelS.nD Cert.KernelS.τ Cert.KernelS.sig) → Buf (Elt Bits) ℓ) : Prop :=
  True

def Pre_KernelSIdeal (m : (ℓ : Loc Cert.KernelSIdeal.nD Cert.KernelSIdeal.τ Cert.KernelSIdeal.sig) → Buf (Elt Ideal) ℓ) : Prop :=
  True

def Pre_ReferenceSIdeal (m : (ℓ : Loc Cert.ReferenceSIdeal.nD Cert.ReferenceSIdeal.τ Cert.ReferenceSIdeal.sig) → Buf (Elt Ideal) ℓ) : Prop :=
  True

def Pre_KernelU (m : (ℓ : Loc Cert.KernelU.nD Cert.KernelU.τ Cert.KernelU.sig) → Buf (Elt Bits) ℓ) : Prop :=
  True

def Pre_KernelUIdeal (m : (ℓ : Loc Cert.KernelUIdeal.nD Cert.KernelUIdeal.τ Cert.KernelUIdeal.sig) → Buf (Elt Ideal) ℓ) : Prop :=
  True

def Pre_ReferenceUIdeal (m : (ℓ : Loc Cert.ReferenceUIdeal.nD Cert.ReferenceUIdeal.τ Cert.ReferenceUIdeal.sig) → Buf (Elt Ideal) ℓ) : Prop :=
  True

def Pre_KernelW (m : (ℓ : Loc Cert.KernelW.nD Cert.KernelW.τ Cert.KernelW.sig) → Buf (Elt Bits) ℓ) : Prop :=
  True

def Pre_KernelWIdeal (m : (ℓ : Loc Cert.KernelWIdeal.nD Cert.KernelWIdeal.τ Cert.KernelWIdeal.sig) → Buf (Elt Ideal) ℓ) : Prop :=
  True

def Pre_ReferenceWIdeal (m : (ℓ : Loc Cert.ReferenceWIdeal.nD Cert.ReferenceWIdeal.τ Cert.ReferenceWIdeal.sig) → Buf (Elt Ideal) ℓ) : Prop :=
  True

def Pre_KernelG (m : (ℓ : Loc Cert.KernelG.nD Cert.KernelG.τ Cert.KernelG.sig) → Buf (Elt Bits) ℓ) : Prop :=
  True

def Pre_KernelGIdeal (m : (ℓ : Loc Cert.KernelGIdeal.nD Cert.KernelGIdeal.τ Cert.KernelGIdeal.sig) → Buf (Elt Ideal) ℓ) : Prop :=
  True

def Pre_ReferenceGIdeal (m : (ℓ : Loc Cert.ReferenceGIdeal.nD Cert.ReferenceGIdeal.τ Cert.ReferenceGIdeal.sig) → Buf (Elt Ideal) ℓ) : Prop :=
  True

def Pre_KernelH (m : (ℓ : Loc Cert.KernelH.nD Cert.KernelH.τ Cert.KernelH.sig) → Buf (Elt Bits) ℓ) : Prop :=
  True

def Pre_KernelHIdeal (m : (ℓ : Loc Cert.KernelHIdeal.nD Cert.KernelHIdeal.τ Cert.KernelHIdeal.sig) → Buf (Elt Ideal) ℓ) : Prop :=
  True

def Pre_KernelN (m : (ℓ : Loc Cert.KernelN.nD Cert.KernelN.τ Cert.KernelN.sig) → Buf (Elt Bits) ℓ) : Prop :=
  True

def Pre_KernelNIdeal (m : (ℓ : Loc Cert.KernelNIdeal.nD Cert.KernelNIdeal.τ Cert.KernelNIdeal.sig) → Buf (Elt Ideal) ℓ) : Prop :=
  True

def Pre_ReferenceNIdeal (m : (ℓ : Loc Cert.ReferenceNIdeal.nD Cert.ReferenceNIdeal.τ Cert.ReferenceNIdeal.sig) → Buf (Elt Ideal) ℓ) : Prop :=
  True

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_ReferenceMIdeal (m : (ℓ : Loc Cert.ReferenceMIdeal.nD Cert.ReferenceMIdeal.τ Cert.ReferenceMIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelP (m : (ℓ : Loc Cert.KernelP.nD Cert.KernelP.τ Cert.KernelP.sig) → Buf (Elt Bits) ℓ) : Prop :=
  True

def Pre_KernelPIdeal (m : (ℓ : Loc Cert.KernelPIdeal.nD Cert.KernelPIdeal.τ Cert.KernelPIdeal.sig) → Buf (Elt Ideal) ℓ) : Prop :=
  True

def Pre_ReferencePIdeal (m : (ℓ : Loc Cert.ReferencePIdeal.nD Cert.ReferencePIdeal.τ Cert.ReferencePIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelY (m : (ℓ : Loc Cert.KernelY.nD Cert.KernelY.τ Cert.KernelY.sig) → Buf (Elt Bits) ℓ) : Prop :=
  True

def Pre_KernelYIdeal (m : (ℓ : Loc Cert.KernelYIdeal.nD Cert.KernelYIdeal.τ Cert.KernelYIdeal.sig) → Buf (Elt Ideal) ℓ) : Prop :=
  True

def Pre_ReferenceYIdeal (m : (ℓ : Loc Cert.ReferenceYIdeal.nD Cert.ReferenceYIdeal.τ Cert.ReferenceYIdeal.sig) → Buf (Elt Ideal) ℓ) : Prop :=
  True

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_KernelE (m : (ℓ : Loc Cert.KernelE.nD Cert.KernelE.τ Cert.KernelE.sig) → Buf (Elt Bits) ℓ) : Prop :=
  True

def Pre_KernelEIdeal (m : (ℓ : Loc Cert.KernelEIdeal.nD Cert.KernelEIdeal.τ Cert.KernelEIdeal.sig) → Buf (Elt Ideal) ℓ) : Prop :=
  True

def Pre_ReferenceEIdeal (m : (ℓ : Loc Cert.ReferenceEIdeal.nD Cert.ReferenceEIdeal.τ Cert.ReferenceEIdeal.sig) → Buf (Elt Ideal) ℓ) : Prop :=
  True

def Pre_KernelI (m : (ℓ : Loc Cert.KernelI.nD Cert.KernelI.τ Cert.KernelI.sig) → Buf (Elt Bits) ℓ) : Prop :=
  True

def Pre_KernelIIdeal (m : (ℓ : Loc Cert.KernelIIdeal.nD Cert.KernelIIdeal.τ Cert.KernelIIdeal.sig) → Buf (Elt Ideal) ℓ) : Prop :=
  True

def Pre_ReferenceIIdeal (m : (ℓ : Loc Cert.ReferenceIIdeal.nD Cert.ReferenceIIdeal.τ Cert.ReferenceIIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_ReferenceBIdeal (m : (ℓ : Loc Cert.ReferenceBIdeal.nD Cert.ReferenceBIdeal.τ Cert.ReferenceBIdeal.sig) → Buf (Elt Ideal) ℓ) : Prop :=
  True

def Pre_KernelJ (m : (ℓ : Loc Cert.KernelJ.nD Cert.KernelJ.τ Cert.KernelJ.sig) → Buf (Elt Bits) ℓ) : Prop :=
  True

def Pre_KernelJIdeal (m : (ℓ : Loc Cert.KernelJIdeal.nD Cert.KernelJIdeal.τ Cert.KernelJIdeal.sig) → Buf (Elt Ideal) ℓ) : Prop :=
  True

def Pre_ReferenceJIdeal (m : (ℓ : Loc Cert.ReferenceJIdeal.nD Cert.ReferenceJIdeal.τ Cert.ReferenceJIdeal.sig) → Buf (Elt Ideal) ℓ) : Prop :=
  True

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1)
      ∧ r.2.mem ((c.tc : Thread Cert.KernelX.nD Cert.KernelX.τ).loc Cert.KernelX.main_arg2) = m ((c.tc : Thread Cert.KernelX.nD Cert.KernelX.τ).loc Cert.KernelX.main_arg2)
      ∧ r.2.mem ((c.tc : Thread Cert.KernelX.nD Cert.KernelX.τ).loc Cert.KernelX.main_arg3) = m ((c.tc : Thread Cert.KernelX.nD Cert.KernelX.τ).loc Cert.KernelX.main_arg3))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
      ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2)
      ∧ r.2.mem ((c.tc : Thread Cert.ReferenceXIdeal.nD Cert.ReferenceXIdeal.τ).loc Cert.ReferenceXIdeal.main_arg3) = m ((c.tc : Thread Cert.ReferenceXIdeal.nD Cert.ReferenceXIdeal.τ).loc Cert.ReferenceXIdeal.main_arg3))
      ∧ r.2.sem = fun _ => 0)

def quiescent_KernelT [hKernelT : Cert.KernelT.Facts] : Prop :=
  ∀ (m : (ℓ : Loc Cert.KernelT.nD Cert.KernelT.τ Cert.KernelT.sig) → Buf (Elt Bits) ℓ) (g : Dev Cert.KernelT.nD → PrngReg), Pre_KernelT m →
    θ_run (Cert.KernelT.defs (F := Bits)) (onTc (τ := Cert.KernelT.τ) (Cert.KernelT.main (F := Bits))) ⟨m, fun _ => 0, g⟩ (fun r => (∀ c : Dev Cert.KernelT.nD,
      r.2.mem ((c.tc : Thread Cert.KernelT.nD Cert.KernelT.τ).loc Cert.KernelT.main_arg0) = m ((c.tc : Thread Cert.KernelT.nD Cert.KernelT.τ).loc Cert.KernelT.main_arg0)
      ∧ r.2.mem ((c.tc : Thread Cert.KernelT.nD Cert.KernelT.τ).loc Cert.KernelT.main_arg1) = m ((c.tc : Thread Cert.KernelT.nD Cert.KernelT.τ).loc Cert.KernelT.main_arg1)
      ∧ r.2.mem ((c.tc : Thread Cert.KernelT.nD Cert.KernelT.τ).loc Cert.KernelT.main_arg2) = m ((c.tc : Thread Cert.KernelT.nD Cert.KernelT.τ).loc Cert.KernelT.main_arg2)
      ∧ r.2.mem ((c.tc : Thread Cert.KernelT.nD Cert.KernelT.τ).loc Cert.KernelT.main_arg3) = m ((c.tc : Thread Cert.KernelT.nD Cert.KernelT.τ).loc Cert.KernelT.main_arg3)
      ∧ r.2.mem ((c.tc : Thread Cert.KernelT.nD Cert.KernelT.τ).loc Cert.KernelT.main_arg4) = m ((c.tc : Thread Cert.KernelT.nD Cert.KernelT.τ).loc Cert.KernelT.main_arg4)
      ∧ r.2.mem ((c.tc : Thread Cert.KernelT.nD Cert.KernelT.τ).loc Cert.KernelT.main_arg5) = m ((c.tc : Thread Cert.KernelT.nD Cert.KernelT.τ).loc Cert.KernelT.main_arg5)
      ∧ r.2.mem ((c.tc : Thread Cert.KernelT.nD Cert.KernelT.τ).loc Cert.KernelT.main_arg6) = m ((c.tc : Thread Cert.KernelT.nD Cert.KernelT.τ).loc Cert.KernelT.main_arg6)
      ∧ r.2.mem ((c.tc : Thread Cert.KernelT.nD Cert.KernelT.τ).loc Cert.KernelT.main_arg7) = m ((c.tc : Thread Cert.KernelT.nD Cert.KernelT.τ).loc Cert.KernelT.main_arg7)
      ∧ r.2.mem ((c.tc : Thread Cert.KernelT.nD Cert.KernelT.τ).loc Cert.KernelT.main_arg8) = m ((c.tc : Thread Cert.KernelT.nD Cert.KernelT.τ).loc Cert.KernelT.main_arg8)
      ∧ r.2.mem ((c.tc : Thread Cert.KernelT.nD Cert.KernelT.τ).loc Cert.KernelT.main_arg9) = m ((c.tc : Thread Cert.KernelT.nD Cert.KernelT.τ).loc Cert.KernelT.main_arg9))
      ∧ r.2.sem = fun _ => 0)

def quiescent_KernelTIdeal [hKernelTIdeal : Cert.KernelTIdeal.Facts] : Prop :=
  ∀ (m : (ℓ : Loc Cert.KernelTIdeal.nD Cert.KernelTIdeal.τ Cert.KernelTIdeal.sig) → Buf (Elt Ideal) ℓ) (g : Dev Cert.KernelTIdeal.nD → PrngReg), Pre_KernelTIdeal m →
    θ_run (Cert.KernelTIdeal.defs (F := Ideal)) (onTc (τ := Cert.KernelTIdeal.τ) (Cert.KernelTIdeal.main (F := Ideal))) ⟨m, fun _ => 0, g⟩ (fun r => (∀ c : Dev Cert.KernelTIdeal.nD,
      r.2.mem ((c.tc : Thread Cert.KernelTIdeal.nD Cert.KernelTIdeal.τ).loc Cert.KernelTIdeal.main_arg0) = m ((c.tc : Thread Cert.KernelTIdeal.nD Cert.KernelTIdeal.τ).loc Cert.KernelTIdeal.main_arg0)
      ∧ r.2.mem ((c.tc : Thread Cert.KernelTIdeal.nD Cert.KernelTIdeal.τ).loc Cert.KernelTIdeal.main_arg1) = m ((c.tc : Thread Cert.KernelTIdeal.nD Cert.KernelTIdeal.τ).loc Cert.KernelTIdeal.main_arg1)
      ∧ r.2.mem ((c.tc : Thread Cert.KernelTIdeal.nD Cert.KernelTIdeal.τ).loc Cert.KernelTIdeal.main_arg2) = m ((c.tc : Thread Cert.KernelTIdeal.nD Cert.KernelTIdeal.τ).loc Cert.KernelTIdeal.main_arg2)
      ∧ r.2.mem ((c.tc : Thread Cert.KernelTIdeal.nD Cert.KernelTIdeal.τ).loc Cert.KernelTIdeal.main_arg3) = m ((c.tc : Thread Cert.KernelTIdeal.nD Cert.KernelTIdeal.τ).loc Cert.KernelTIdeal.main_arg3)
      ∧ r.2.mem ((c.tc : Thread Cert.KernelTIdeal.nD Cert.KernelTIdeal.τ).loc Cert.KernelTIdeal.main_arg4) = m ((c.tc : Thread Cert.KernelTIdeal.nD Cert.KernelTIdeal.τ).loc Cert.KernelTIdeal.main_arg4)
      ∧ r.2.mem ((c.tc : Thread Cert.KernelTIdeal.nD Cert.KernelTIdeal.τ).loc Cert.KernelTIdeal.main_arg5) = m ((c.tc : Thread Cert.KernelTIdeal.nD Cert.KernelTIdeal.τ).loc Cert.KernelTIdeal.main_arg5)
      ∧ r.2.mem ((c.tc : Thread Cert.KernelTIdeal.nD Cert.KernelTIdeal.τ).loc Cert.KernelTIdeal.main_arg6) = m ((c.tc : Thread Cert.KernelTIdeal.nD Cert.KernelTIdeal.τ).loc Cert.KernelTIdeal.main_arg6)
      ∧ r.2.mem ((c.tc : Thread Cert.KernelTIdeal.nD Cert.KernelTIdeal.τ).loc Cert.KernelTIdeal.main_arg7) = m ((c.tc : Thread Cert.KernelTIdeal.nD Cert.KernelTIdeal.τ).loc Cert.KernelTIdeal.main_arg7)
      ∧ r.2.mem ((c.tc : Thread Cert.KernelTIdeal.nD Cert.KernelTIdeal.τ).loc Cert.KernelTIdeal.main_arg8) = m ((c.tc : Thread Cert.KernelTIdeal.nD Cert.KernelTIdeal.τ).loc Cert.KernelTIdeal.main_arg8)
      ∧ r.2.mem ((c.tc : Thread Cert.KernelTIdeal.nD Cert.KernelTIdeal.τ).loc Cert.KernelTIdeal.main_arg9) = m ((c.tc : Thread Cert.KernelTIdeal.nD Cert.KernelTIdeal.τ).loc Cert.KernelTIdeal.main_arg9))
      ∧ r.2.sem = fun _ => 0)

def quiescent_ReferenceTIdeal [hReferenceTIdeal : Cert.ReferenceTIdeal.Facts] : Prop :=
  ∀ (m : (ℓ : Loc Cert.ReferenceTIdeal.nD Cert.ReferenceTIdeal.τ Cert.ReferenceTIdeal.sig) → Buf (Elt Ideal) ℓ) (g : Dev Cert.ReferenceTIdeal.nD → PrngReg), Pre_ReferenceTIdeal m →
    θ_run (Cert.ReferenceTIdeal.defs (F := Ideal)) (onTc (τ := Cert.ReferenceTIdeal.τ) (Cert.ReferenceTIdeal.main (F := Ideal))) ⟨m, fun _ => 0, g⟩ (fun r => (∀ c : Dev Cert.ReferenceTIdeal.nD,
      r.2.mem ((c.tc : Thread Cert.ReferenceTIdeal.nD Cert.ReferenceTIdeal.τ).loc Cert.ReferenceTIdeal.main_arg0) = m ((c.tc : Thread Cert.ReferenceTIdeal.nD Cert.ReferenceTIdeal.τ).loc Cert.ReferenceTIdeal.main_arg0)
      ∧ r.2.mem ((c.tc : Thread Cert.ReferenceTIdeal.nD Cert.ReferenceTIdeal.τ).loc Cert.ReferenceTIdeal.main_arg1) = m ((c.tc : Thread Cert.ReferenceTIdeal.nD Cert.ReferenceTIdeal.τ).loc Cert.ReferenceTIdeal.main_arg1)
      ∧ r.2.mem ((c.tc : Thread Cert.ReferenceTIdeal.nD Cert.ReferenceTIdeal.τ).loc Cert.ReferenceTIdeal.main_arg2) = m ((c.tc : Thread Cert.ReferenceTIdeal.nD Cert.ReferenceTIdeal.τ).loc Cert.ReferenceTIdeal.main_arg2)
      ∧ r.2.mem ((c.tc : Thread Cert.ReferenceTIdeal.nD Cert.ReferenceTIdeal.τ).loc Cert.ReferenceTIdeal.main_arg3) = m ((c.tc : Thread Cert.ReferenceTIdeal.nD Cert.ReferenceTIdeal.τ).loc Cert.ReferenceTIdeal.main_arg3)
      ∧ r.2.mem ((c.tc : Thread Cert.ReferenceTIdeal.nD Cert.ReferenceTIdeal.τ).loc Cert.ReferenceTIdeal.main_arg4) = m ((c.tc : Thread Cert.ReferenceTIdeal.nD Cert.ReferenceTIdeal.τ).loc Cert.ReferenceTIdeal.main_arg4)
      ∧ r.2.mem ((c.tc : Thread Cert.ReferenceTIdeal.nD Cert.ReferenceTIdeal.τ).loc Cert.ReferenceTIdeal.main_arg5) = m ((c.tc : Thread Cert.ReferenceTIdeal.nD Cert.ReferenceTIdeal.τ).loc Cert.ReferenceTIdeal.main_arg5)
      ∧ r.2.mem ((c.tc : Thread Cert.ReferenceTIdeal.nD Cert.ReferenceTIdeal.τ).loc Cert.ReferenceTIdeal.main_arg6) = m ((c.tc : Thread Cert.ReferenceTIdeal.nD Cert.ReferenceTIdeal.τ).loc Cert.ReferenceTIdeal.main_arg6)
      ∧ r.2.mem ((c.tc : Thread Cert.ReferenceTIdeal.nD Cert.ReferenceTIdeal.τ).loc Cert.ReferenceTIdeal.main_arg7) = m ((c.tc : Thread Cert.ReferenceTIdeal.nD Cert.ReferenceTIdeal.τ).loc Cert.ReferenceTIdeal.main_arg7)
      ∧ r.2.mem ((c.tc : Thread Cert.ReferenceTIdeal.nD Cert.ReferenceTIdeal.τ).loc Cert.ReferenceTIdeal.main_arg8) = m ((c.tc : Thread Cert.ReferenceTIdeal.nD Cert.ReferenceTIdeal.τ).loc Cert.ReferenceTIdeal.main_arg8)
      ∧ r.2.mem ((c.tc : Thread Cert.ReferenceTIdeal.nD Cert.ReferenceTIdeal.τ).loc Cert.ReferenceTIdeal.main_arg9) = m ((c.tc : Thread Cert.ReferenceTIdeal.nD Cert.ReferenceTIdeal.τ).loc Cert.ReferenceTIdeal.main_arg9))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2))
      ∧ r.2.sem = fun _ => 0)

def quiescent_KernelFIdeal_pre_logits_finite [hKernelFIdeal : Cert.KernelFIdeal.Facts] [hPre_logits_finite : Cert.Pre_logits_finite.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal_logits_finite m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2))
      ∧ r.2.sem = fun _ => 0)

def quiescent_ReferenceFIdeal_pre_logits_finite [hReferenceFIdeal : Cert.ReferenceFIdeal.Facts] [hPre_logits_finite : Cert.Pre_logits_finite.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal_logits_finite m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2))
      ∧ r.2.sem = fun _ => 0)

def quiescent_KernelL [hKernelL : Cert.KernelL.Facts] : Prop :=
  ∀ (m : (ℓ : Loc Cert.KernelL.nD Cert.KernelL.τ Cert.KernelL.sig) → Buf (Elt Bits) ℓ) (g : Dev Cert.KernelL.nD → PrngReg), Pre_KernelL m →
    θ_run (Cert.KernelL.defs (F := Bits)) (onTc (τ := Cert.KernelL.τ) (Cert.KernelL.main (F := Bits))) ⟨m, fun _ => 0, g⟩ (fun r => (∀ c : Dev Cert.KernelL.nD,
      r.2.mem ((c.tc : Thread Cert.KernelL.nD Cert.KernelL.τ).loc Cert.KernelL.main_arg0) = m ((c.tc : Thread Cert.KernelL.nD Cert.KernelL.τ).loc Cert.KernelL.main_arg0)
      ∧ r.2.mem ((c.tc : Thread Cert.KernelL.nD Cert.KernelL.τ).loc Cert.KernelL.main_arg1) = m ((c.tc : Thread Cert.KernelL.nD Cert.KernelL.τ).loc Cert.KernelL.main_arg1)
      ∧ r.2.mem ((c.tc : Thread Cert.KernelL.nD Cert.KernelL.τ).loc Cert.KernelL.main_arg2) = m ((c.tc : Thread Cert.KernelL.nD Cert.KernelL.τ).loc Cert.KernelL.main_arg2)
      ∧ r.2.mem ((c.tc : Thread Cert.KernelL.nD Cert.KernelL.τ).loc Cert.KernelL.main_arg3) = m ((c.tc : Thread Cert.KernelL.nD Cert.KernelL.τ).loc Cert.KernelL.main_arg3)
      ∧ r.2.mem ((c.tc : Thread Cert.KernelL.nD Cert.KernelL.τ).loc Cert.KernelL.main_arg4) = m ((c.tc : Thread Cert.KernelL.nD Cert.KernelL.τ).loc Cert.KernelL.main_arg4)
      ∧ r.2.mem ((c.tc : Thread Cert.KernelL.nD Cert.KernelL.τ).loc Cert.KernelL.main_arg5) = m ((c.tc : Thread Cert.KernelL.nD Cert.KernelL.τ).loc Cert.KernelL.main_arg5)
      ∧ r.2.mem ((c.tc : Thread Cert.KernelL.nD Cert.KernelL.τ).loc Cert.KernelL.main_arg6) = m ((c.tc : Thread Cert.KernelL.nD Cert.KernelL.τ).loc Cert.KernelL.main_arg6)
      ∧ r.2.mem ((c.tc : Thread Cert.KernelL.nD Cert.KernelL.τ).loc Cert.KernelL.main_arg7) = m ((c.tc : Thread Cert.KernelL.nD Cert.KernelL.τ).loc Cert.KernelL.main_arg7))
      ∧ r.2.sem = fun _ => 0)

def quiescent_KernelLIdeal [hKernelLIdeal : Cert.KernelLIdeal.Facts] : Prop :=
  ∀ (m : (ℓ : Loc Cert.KernelLIdeal.nD Cert.KernelLIdeal.τ Cert.KernelLIdeal.sig) → Buf (Elt Ideal) ℓ) (g : Dev Cert.KernelLIdeal.nD → PrngReg), Pre_KernelLIdeal m →
    θ_run (Cert.KernelLIdeal.defs (F := Ideal)) (onTc (τ := Cert.KernelLIdeal.τ) (Cert.KernelLIdeal.main (F := Ideal))) ⟨m, fun _ => 0, g⟩ (fun r => (∀ c : Dev Cert.KernelLIdeal.nD,
      r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
      ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
      ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
      ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
      ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4)
      ∧ r.2.mem ((c.tc : Thread Cert.KernelLIdeal.nD Cert.KernelLIdeal.τ).loc Cert.KernelLIdeal.main_arg5) = m ((c.tc : Thread Cert.KernelLIdeal.nD Cert.KernelLIdeal.τ).loc Cert.KernelLIdeal.main_arg5)
      ∧ r.2.mem ((c.tc : Thread Cert.KernelLIdeal.nD Cert.KernelLIdeal.τ).loc Cert.KernelLIdeal.main_arg6) = m ((c.tc : Thread Cert.KernelLIdeal.nD Cert.KernelLIdeal.τ).loc Cert.KernelLIdeal.main_arg6)
      ∧ r.2.mem ((c.tc : Thread Cert.KernelLIdeal.nD Cert.KernelLIdeal.τ).loc Cert.KernelLIdeal.main_arg7) = m ((c.tc : Thread Cert.KernelLIdeal.nD Cert.KernelLIdeal.τ).loc Cert.KernelLIdeal.main_arg7))
      ∧ r.2.sem = fun _ => 0)

def quiescent_KernelLIdeal_pre_logits_and_cotangent_finite [hKernelLIdeal : Cert.KernelLIdeal.Facts] [hPre_logits_and_cotangent_finite : Cert.Pre_logits_and_cotangent_finite.Facts] : Prop :=
  ∀ (m : (ℓ : Loc Cert.KernelLIdeal.nD Cert.KernelLIdeal.τ Cert.KernelLIdeal.sig) → Buf (Elt Ideal) ℓ) (g : Dev Cert.KernelLIdeal.nD → PrngReg), Pre_KernelLIdeal_logits_and_cotangent_finite m →
    θ_run (Cert.KernelLIdeal.defs (F := Ideal)) (onTc (τ := Cert.KernelLIdeal.τ) (Cert.KernelLIdeal.main (F := Ideal))) ⟨m, fun _ => 0, g⟩ (fun r => (∀ c : Dev Cert.KernelLIdeal.nD,
      r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
      ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
      ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
      ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
      ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4)
      ∧ r.2.mem ((c.tc : Thread Cert.KernelLIdeal.nD Cert.KernelLIdeal.τ).loc Cert.KernelLIdeal.main_arg5) = m ((c.tc : Thread Cert.KernelLIdeal.nD Cert.KernelLIdeal.τ).loc Cert.KernelLIdeal.main_arg5)
      ∧ r.2.mem ((c.tc : Thread Cert.KernelLIdeal.nD Cert.KernelLIdeal.τ).loc Cert.KernelLIdeal.main_arg6) = m ((c.tc : Thread Cert.KernelLIdeal.nD Cert.KernelLIdeal.τ).loc Cert.KernelLIdeal.main_arg6)
      ∧ r.2.mem ((c.tc : Thread Cert.KernelLIdeal.nD Cert.KernelLIdeal.τ).loc Cert.KernelLIdeal.main_arg7) = m ((c.tc : Thread Cert.KernelLIdeal.nD Cert.KernelLIdeal.τ).loc Cert.KernelLIdeal.main_arg7))
      ∧ r.2.sem = fun _ => 0)

def quiescent_ReferenceLIdeal [hReferenceLIdeal : Cert.ReferenceLIdeal.Facts] : Prop :=
  ∀ (m : (ℓ : Loc Cert.ReferenceLIdeal.nD Cert.ReferenceLIdeal.τ Cert.ReferenceLIdeal.sig) → Buf (Elt Ideal) ℓ) (g : Dev Cert.ReferenceLIdeal.nD → PrngReg), Pre_ReferenceLIdeal m →
    θ_run (Cert.ReferenceLIdeal.defs (F := Ideal)) (onTc (τ := Cert.ReferenceLIdeal.τ) (Cert.ReferenceLIdeal.main (F := Ideal))) ⟨m, fun _ => 0, g⟩ (fun r => (∀ c : Dev Cert.ReferenceLIdeal.nD,
      r.2.mem ((c.tc : Thread Cert.ReferenceLIdeal.nD Cert.ReferenceLIdeal.τ).loc Cert.ReferenceLIdeal.main_arg0) = m ((c.tc : Thread Cert.ReferenceLIdeal.nD Cert.ReferenceLIdeal.τ).loc Cert.ReferenceLIdeal.main_arg0)
      ∧ r.2.mem ((c.tc : Thread Cert.ReferenceLIdeal.nD Cert.ReferenceLIdeal.τ).loc Cert.ReferenceLIdeal.main_arg1) = m ((c.tc : Thread Cert.ReferenceLIdeal.nD Cert.ReferenceLIdeal.τ).loc Cert.ReferenceLIdeal.main_arg1)
      ∧ r.2.mem ((c.tc : Thread Cert.ReferenceLIdeal.nD Cert.ReferenceLIdeal.τ).loc Cert.ReferenceLIdeal.main_arg2) = m ((c.tc : Thread Cert.ReferenceLIdeal.nD Cert.ReferenceLIdeal.τ).loc Cert.ReferenceLIdeal.main_arg2)
      ∧ r.2.mem ((c.tc : Thread Cert.ReferenceLIdeal.nD Cert.ReferenceLIdeal.τ).loc Cert.ReferenceLIdeal.main_arg3) = m ((c.tc : Thread Cert.ReferenceLIdeal.nD Cert.ReferenceLIdeal.τ).loc Cert.ReferenceLIdeal.main_arg3)
      ∧ r.2.mem ((c.tc : Thread Cert.ReferenceLIdeal.nD Cert.ReferenceLIdeal.τ).loc Cert.ReferenceLIdeal.main_arg4) = m ((c.tc : Thread Cert.ReferenceLIdeal.nD Cert.ReferenceLIdeal.τ).loc Cert.ReferenceLIdeal.main_arg4)
      ∧ r.2.mem ((c.tc : Thread Cert.ReferenceLIdeal.nD Cert.ReferenceLIdeal.τ).loc Cert.ReferenceLIdeal.main_arg5) = m ((c.tc : Thread Cert.ReferenceLIdeal.nD Cert.ReferenceLIdeal.τ).loc Cert.ReferenceLIdeal.main_arg5)
      ∧ r.2.mem ((c.tc : Thread Cert.ReferenceLIdeal.nD Cert.ReferenceLIdeal.τ).loc Cert.ReferenceLIdeal.main_arg6) = m ((c.tc : Thread Cert.ReferenceLIdeal.nD Cert.ReferenceLIdeal.τ).loc Cert.ReferenceLIdeal.main_arg6)
      ∧ r.2.mem ((c.tc : Thread Cert.ReferenceLIdeal.nD Cert.ReferenceLIdeal.τ).loc Cert.ReferenceLIdeal.main_arg7) = m ((c.tc : Thread Cert.ReferenceLIdeal.nD Cert.ReferenceLIdeal.τ).loc Cert.ReferenceLIdeal.main_arg7))
      ∧ r.2.sem = fun _ => 0)

def quiescent_ReferenceLIdeal_pre_logits_and_cotangent_finite [hReferenceLIdeal : Cert.ReferenceLIdeal.Facts] [hPre_logits_and_cotangent_finite : Cert.Pre_logits_and_cotangent_finite.Facts] : Prop :=
  ∀ (m : (ℓ : Loc Cert.ReferenceLIdeal.nD Cert.ReferenceLIdeal.τ Cert.ReferenceLIdeal.sig) → Buf (Elt Ideal) ℓ) (g : Dev Cert.ReferenceLIdeal.nD → PrngReg), Pre_ReferenceLIdeal_logits_and_cotangent_finite m →
    θ_run (Cert.ReferenceLIdeal.defs (F := Ideal)) (onTc (τ := Cert.ReferenceLIdeal.τ) (Cert.ReferenceLIdeal.main (F := Ideal))) ⟨m, fun _ => 0, g⟩ (fun r => (∀ c : Dev Cert.ReferenceLIdeal.nD,
      r.2.mem ((c.tc : Thread Cert.ReferenceLIdeal.nD Cert.ReferenceLIdeal.τ).loc Cert.ReferenceLIdeal.main_arg0) = m ((c.tc : Thread Cert.ReferenceLIdeal.nD Cert.ReferenceLIdeal.τ).loc Cert.ReferenceLIdeal.main_arg0)
      ∧ r.2.mem ((c.tc : Thread Cert.ReferenceLIdeal.nD Cert.ReferenceLIdeal.τ).loc Cert.ReferenceLIdeal.main_arg1) = m ((c.tc : Thread Cert.ReferenceLIdeal.nD Cert.ReferenceLIdeal.τ).loc Cert.ReferenceLIdeal.main_arg1)
      ∧ r.2.mem ((c.tc : Thread Cert.ReferenceLIdeal.nD Cert.ReferenceLIdeal.τ).loc Cert.ReferenceLIdeal.main_arg2) = m ((c.tc : Thread Cert.ReferenceLIdeal.nD Cert.ReferenceLIdeal.τ).loc Cert.ReferenceLIdeal.main_arg2)
      ∧ r.2.mem ((c.tc : Thread Cert.ReferenceLIdeal.nD Cert.ReferenceLIdeal.τ).loc Cert.ReferenceLIdeal.main_arg3) = m ((c.tc : Thread Cert.ReferenceLIdeal.nD Cert.ReferenceLIdeal.τ).loc Cert.ReferenceLIdeal.main_arg3)
      ∧ r.2.mem ((c.tc : Thread Cert.ReferenceLIdeal.nD Cert.ReferenceLIdeal.τ).loc Cert.ReferenceLIdeal.main_arg4) = m ((c.tc : Thread Cert.ReferenceLIdeal.nD Cert.ReferenceLIdeal.τ).loc Cert.ReferenceLIdeal.main_arg4)
      ∧ r.2.mem ((c.tc : Thread Cert.ReferenceLIdeal.nD Cert.ReferenceLIdeal.τ).loc Cert.ReferenceLIdeal.main_arg5) = m ((c.tc : Thread Cert.ReferenceLIdeal.nD Cert.ReferenceLIdeal.τ).loc Cert.ReferenceLIdeal.main_arg5)
      ∧ r.2.mem ((c.tc : Thread Cert.ReferenceLIdeal.nD Cert.ReferenceLIdeal.τ).loc Cert.ReferenceLIdeal.main_arg6) = m ((c.tc : Thread Cert.ReferenceLIdeal.nD Cert.ReferenceLIdeal.τ).loc Cert.ReferenceLIdeal.main_arg6)
      ∧ r.2.mem ((c.tc : Thread Cert.ReferenceLIdeal.nD Cert.ReferenceLIdeal.τ).loc Cert.ReferenceLIdeal.main_arg7) = m ((c.tc : Thread Cert.ReferenceLIdeal.nD Cert.ReferenceLIdeal.τ).loc Cert.ReferenceLIdeal.main_arg7))
      ∧ r.2.sem = fun _ => 0)

def quiescent_KernelS [hKernelS : Cert.KernelS.Facts] : Prop :=
  ∀ (m : (ℓ : Loc Cert.KernelS.nD Cert.KernelS.τ Cert.KernelS.sig) → Buf (Elt Bits) ℓ) (g : Dev Cert.KernelS.nD → PrngReg), Pre_KernelS m →
    θ_run (Cert.KernelS.defs (F := Bits)) (onTc (τ := Cert.KernelS.τ) (Cert.KernelS.main (F := Bits))) ⟨m, fun _ => 0, g⟩ (fun r => (∀ c : Dev Cert.KernelS.nD,
      r.2.mem ((c.tc : Thread Cert.KernelS.nD Cert.KernelS.τ).loc Cert.KernelS.main_arg0) = m ((c.tc : Thread Cert.KernelS.nD Cert.KernelS.τ).loc Cert.KernelS.main_arg0)
      ∧ r.2.mem ((c.tc : Thread Cert.KernelS.nD Cert.KernelS.τ).loc Cert.KernelS.main_arg1) = m ((c.tc : Thread Cert.KernelS.nD Cert.KernelS.τ).loc Cert.KernelS.main_arg1)
      ∧ r.2.mem ((c.tc : Thread Cert.KernelS.nD Cert.KernelS.τ).loc Cert.KernelS.main_arg2) = m ((c.tc : Thread Cert.KernelS.nD Cert.KernelS.τ).loc Cert.KernelS.main_arg2)
      ∧ r.2.mem ((c.tc : Thread Cert.KernelS.nD Cert.KernelS.τ).loc Cert.KernelS.main_arg3) = m ((c.tc : Thread Cert.KernelS.nD Cert.KernelS.τ).loc Cert.KernelS.main_arg3)
      ∧ r.2.mem ((c.tc : Thread Cert.KernelS.nD Cert.KernelS.τ).loc Cert.KernelS.main_arg4) = m ((c.tc : Thread Cert.KernelS.nD Cert.KernelS.τ).loc Cert.KernelS.main_arg4)
      ∧ r.2.mem ((c.tc : Thread Cert.KernelS.nD Cert.KernelS.τ).loc Cert.KernelS.main_arg5) = m ((c.tc : Thread Cert.KernelS.nD Cert.KernelS.τ).loc Cert.KernelS.main_arg5)
      ∧ r.2.mem ((c.tc : Thread Cert.KernelS.nD Cert.KernelS.τ).loc Cert.KernelS.main_arg6) = m ((c.tc : Thread Cert.KernelS.nD Cert.KernelS.τ).loc Cert.KernelS.main_arg6)
      ∧ r.2.mem ((c.tc : Thread Cert.KernelS.nD Cert.KernelS.τ).loc Cert.KernelS.main_arg7) = m ((c.tc : Thread Cert.KernelS.nD Cert.KernelS.τ).loc Cert.KernelS.main_arg7)
      ∧ r.2.mem ((c.tc : Thread Cert.KernelS.nD Cert.KernelS.τ).loc Cert.KernelS.main_arg8) = m ((c.tc : Thread Cert.KernelS.nD Cert.KernelS.τ).loc Cert.KernelS.main_arg8)
      ∧ r.2.mem ((c.tc : Thread Cert.KernelS.nD Cert.KernelS.τ).loc Cert.KernelS.main_arg9) = m ((c.tc : Thread Cert.KernelS.nD Cert.KernelS.τ).loc Cert.KernelS.main_arg9)
      ∧ r.2.mem ((c.tc : Thread Cert.KernelS.nD Cert.KernelS.τ).loc Cert.KernelS.main_arg10) = m ((c.tc : Thread Cert.KernelS.nD Cert.KernelS.τ).loc Cert.KernelS.main_arg10)
      ∧ r.2.mem ((c.tc : Thread Cert.KernelS.nD Cert.KernelS.τ).loc Cert.KernelS.main_arg11) = m ((c.tc : Thread Cert.KernelS.nD Cert.KernelS.τ).loc Cert.KernelS.main_arg11)
      ∧ r.2.mem ((c.tc : Thread Cert.KernelS.nD Cert.KernelS.τ).loc Cert.KernelS.main_arg12) = m ((c.tc : Thread Cert.KernelS.nD Cert.KernelS.τ).loc Cert.KernelS.main_arg12)
      ∧ r.2.mem ((c.tc : Thread Cert.KernelS.nD Cert.KernelS.τ).loc Cert.KernelS.main_arg13) = m ((c.tc : Thread Cert.KernelS.nD Cert.KernelS.τ).loc Cert.KernelS.main_arg13))
      ∧ r.2.sem = fun _ => 0)

def quiescent_KernelSIdeal [hKernelSIdeal : Cert.KernelSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
      ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
      ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
      ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
      ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
      ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
      ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6)
      ∧ r.2.mem ((c.tc : Thread Cert.KernelSIdeal.nD Cert.KernelSIdeal.τ).loc Cert.KernelSIdeal.main_arg7) = m ((c.tc : Thread Cert.KernelSIdeal.nD Cert.KernelSIdeal.τ).loc Cert.KernelSIdeal.main_arg7)
      ∧ r.2.mem ((c.tc : Thread Cert.KernelSIdeal.nD Cert.KernelSIdeal.τ).loc Cert.KernelSIdeal.main_arg8) = m ((c.tc : Thread Cert.KernelSIdeal.nD Cert.KernelSIdeal.τ).loc Cert.KernelSIdeal.main_arg8)
      ∧ r.2.mem ((c.tc : Thread Cert.KernelSIdeal.nD Cert.KernelSIdeal.τ).loc Cert.KernelSIdeal.main_arg9) = m ((c.tc : Thread Cert.KernelSIdeal.nD Cert.KernelSIdeal.τ).loc Cert.KernelSIdeal.main_arg9)
      ∧ r.2.mem ((c.tc : Thread Cert.KernelSIdeal.nD Cert.KernelSIdeal.τ).loc Cert.KernelSIdeal.main_arg10) = m ((c.tc : Thread Cert.KernelSIdeal.nD Cert.KernelSIdeal.τ).loc Cert.KernelSIdeal.main_arg10)
      ∧ r.2.mem ((c.tc : Thread Cert.KernelSIdeal.nD Cert.KernelSIdeal.τ).loc Cert.KernelSIdeal.main_arg11) = m ((c.tc : Thread Cert.KernelSIdeal.nD Cert.KernelSIdeal.τ).loc Cert.KernelSIdeal.main_arg11)
      ∧ r.2.mem ((c.tc : Thread Cert.KernelSIdeal.nD Cert.KernelSIdeal.τ).loc Cert.KernelSIdeal.main_arg12) = m ((c.tc : Thread Cert.KernelSIdeal.nD Cert.KernelSIdeal.τ).loc Cert.KernelSIdeal.main_arg12)
      ∧ r.2.mem ((c.tc : Thread Cert.KernelSIdeal.nD Cert.KernelSIdeal.τ).loc Cert.KernelSIdeal.main_arg13) = m ((c.tc : Thread Cert.KernelSIdeal.nD Cert.KernelSIdeal.τ).loc Cert.KernelSIdeal.main_arg13))
      ∧ r.2.sem = fun _ => 0)

def quiescent_ReferenceSIdeal [hReferenceSIdeal : Cert.ReferenceSIdeal.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0)
      ∧ r.2.mem ((c.tc : Thread Cert.ReferenceSIdeal.nD Cert.ReferenceSIdeal.τ).loc Cert.ReferenceSIdeal.main_arg1) = m ((c.tc : Thread Cert.ReferenceSIdeal.nD Cert.ReferenceSIdeal.τ).loc Cert.ReferenceSIdeal.main_arg1)
      ∧ r.2.mem ((c.tc : Thread Cert.ReferenceSIdeal.nD Cert.ReferenceSIdeal.τ).loc Cert.ReferenceSIdeal.main_arg2) = m ((c.tc : Thread Cert.ReferenceSIdeal.nD Cert.ReferenceSIdeal.τ).loc Cert.ReferenceSIdeal.main_arg2)
      ∧ r.2.mem ((c.tc : Thread Cert.ReferenceSIdeal.nD Cert.ReferenceSIdeal.τ).loc Cert.ReferenceSIdeal.main_arg3) = m ((c.tc : Thread Cert.ReferenceSIdeal.nD Cert.ReferenceSIdeal.τ).loc Cert.ReferenceSIdeal.main_arg3)
      ∧ r.2.mem ((c.tc : Thread Cert.ReferenceSIdeal.nD Cert.ReferenceSIdeal.τ).loc Cert.ReferenceSIdeal.main_arg4) = m ((c.tc : Thread Cert.ReferenceSIdeal.nD Cert.ReferenceSIdeal.τ).loc Cert.ReferenceSIdeal.main_arg4)
      ∧ r.2.mem ((c.tc : Thread Cert.ReferenceSIdeal.nD Cert.ReferenceSIdeal.τ).loc Cert.ReferenceSIdeal.main_arg5) = m ((c.tc : Thread Cert.ReferenceSIdeal.nD Cert.ReferenceSIdeal.τ).loc Cert.ReferenceSIdeal.main_arg5)
      ∧ r.2.mem ((c.tc : Thread Cert.ReferenceSIdeal.nD Cert.ReferenceSIdeal.τ).loc Cert.ReferenceSIdeal.main_arg6) = m ((c.tc : Thread Cert.ReferenceSIdeal.nD Cert.ReferenceSIdeal.τ).loc Cert.ReferenceSIdeal.main_arg6)
      ∧ r.2.mem ((c.tc : Thread Cert.ReferenceSIdeal.nD Cert.ReferenceSIdeal.τ).loc Cert.ReferenceSIdeal.main_arg7) = m ((c.tc : Thread Cert.ReferenceSIdeal.nD Cert.ReferenceSIdeal.τ).loc Cert.ReferenceSIdeal.main_arg7)
      ∧ r.2.mem ((c.tc : Thread Cert.ReferenceSIdeal.nD Cert.ReferenceSIdeal.τ).loc Cert.ReferenceSIdeal.main_arg8) = m ((c.tc : Thread Cert.ReferenceSIdeal.nD Cert.ReferenceSIdeal.τ).loc Cert.ReferenceSIdeal.main_arg8)
      ∧ r.2.mem ((c.tc : Thread Cert.ReferenceSIdeal.nD Cert.ReferenceSIdeal.τ).loc Cert.ReferenceSIdeal.main_arg9) = m ((c.tc : Thread Cert.ReferenceSIdeal.nD Cert.ReferenceSIdeal.τ).loc Cert.ReferenceSIdeal.main_arg9)
      ∧ r.2.mem ((c.tc : Thread Cert.ReferenceSIdeal.nD Cert.ReferenceSIdeal.τ).loc Cert.ReferenceSIdeal.main_arg10) = m ((c.tc : Thread Cert.ReferenceSIdeal.nD Cert.ReferenceSIdeal.τ).loc Cert.ReferenceSIdeal.main_arg10)
      ∧ r.2.mem ((c.tc : Thread Cert.ReferenceSIdeal.nD Cert.ReferenceSIdeal.τ).loc Cert.ReferenceSIdeal.main_arg11) = m ((c.tc : Thread Cert.ReferenceSIdeal.nD Cert.ReferenceSIdeal.τ).loc Cert.ReferenceSIdeal.main_arg11)
      ∧ r.2.mem ((c.tc : Thread Cert.ReferenceSIdeal.nD Cert.ReferenceSIdeal.τ).loc Cert.ReferenceSIdeal.main_arg12) = m ((c.tc : Thread Cert.ReferenceSIdeal.nD Cert.ReferenceSIdeal.τ).loc Cert.ReferenceSIdeal.main_arg12)
      ∧ r.2.mem ((c.tc : Thread Cert.ReferenceSIdeal.nD Cert.ReferenceSIdeal.τ).loc Cert.ReferenceSIdeal.main_arg13) = m ((c.tc : Thread Cert.ReferenceSIdeal.nD Cert.ReferenceSIdeal.τ).loc Cert.ReferenceSIdeal.main_arg13))
      ∧ r.2.sem = fun _ => 0)

def quiescent_KernelU [hKernelU : Cert.KernelU.Facts] : Prop :=
  ∀ (m : (ℓ : Loc Cert.KernelU.nD Cert.KernelU.τ Cert.KernelU.sig) → Buf (Elt Bits) ℓ) (g : Dev Cert.KernelU.nD → PrngReg), Pre_KernelU m →
    θ_run (Cert.KernelU.defs (F := Bits)) (onTc (τ := Cert.KernelU.τ) (Cert.KernelU.main (F := Bits))) ⟨m, fun _ => 0, g⟩ (fun r => (∀ c : Dev Cert.KernelU.nD,
      r.2.mem ((c.tc : Thread Cert.KernelU.nD Cert.KernelU.τ).loc Cert.KernelU.main_arg0) = m ((c.tc : Thread Cert.KernelU.nD Cert.KernelU.τ).loc Cert.KernelU.main_arg0)
      ∧ r.2.mem ((c.tc : Thread Cert.KernelU.nD Cert.KernelU.τ).loc Cert.KernelU.main_arg1) = m ((c.tc : Thread Cert.KernelU.nD Cert.KernelU.τ).loc Cert.KernelU.main_arg1)
      ∧ r.2.mem ((c.tc : Thread Cert.KernelU.nD Cert.KernelU.τ).loc Cert.KernelU.main_arg2) = m ((c.tc : Thread Cert.KernelU.nD Cert.KernelU.τ).loc Cert.KernelU.main_arg2)
      ∧ r.2.mem ((c.tc : Thread Cert.KernelU.nD Cert.KernelU.τ).loc Cert.KernelU.main_arg3) = m ((c.tc : Thread Cert.KernelU.nD Cert.KernelU.τ).loc Cert.KernelU.main_arg3)
      ∧ r.2.mem ((c.tc : Thread Cert.KernelU.nD Cert.KernelU.τ).loc Cert.KernelU.main_arg4) = m ((c.tc : Thread Cert.KernelU.nD Cert.KernelU.τ).loc Cert.KernelU.main_arg4)
      ∧ r.2.mem ((c.tc : Thread Cert.KernelU.nD Cert.KernelU.τ).loc Cert.KernelU.main_arg5) = m ((c.tc : Thread Cert.KernelU.nD Cert.KernelU.τ).loc Cert.KernelU.main_arg5)
      ∧ r.2.mem ((c.tc : Thread Cert.KernelU.nD Cert.KernelU.τ).loc Cert.KernelU.main_arg6) = m ((c.tc : Thread Cert.KernelU.nD Cert.KernelU.τ).loc Cert.KernelU.main_arg6)
      ∧ r.2.mem ((c.tc : Thread Cert.KernelU.nD Cert.KernelU.τ).loc Cert.KernelU.main_arg7) = m ((c.tc : Thread Cert.KernelU.nD Cert.KernelU.τ).loc Cert.KernelU.main_arg7)
      ∧ r.2.mem ((c.tc : Thread Cert.KernelU.nD Cert.KernelU.τ).loc Cert.KernelU.main_arg8) = m ((c.tc : Thread Cert.KernelU.nD Cert.KernelU.τ).loc Cert.KernelU.main_arg8)
      ∧ r.2.mem ((c.tc : Thread Cert.KernelU.nD Cert.KernelU.τ).loc Cert.KernelU.main_arg9) = m ((c.tc : Thread Cert.KernelU.nD Cert.KernelU.τ).loc Cert.KernelU.main_arg9)
      ∧ r.2.mem ((c.tc : Thread Cert.KernelU.nD Cert.KernelU.τ).loc Cert.KernelU.main_arg10) = m ((c.tc : Thread Cert.KernelU.nD Cert.KernelU.τ).loc Cert.KernelU.main_arg10)
      ∧ r.2.mem ((c.tc : Thread Cert.KernelU.nD Cert.KernelU.τ).loc Cert.KernelU.main_arg11) = m ((c.tc : Thread Cert.KernelU.nD Cert.KernelU.τ).loc Cert.KernelU.main_arg11)
      ∧ r.2.mem ((c.tc : Thread Cert.KernelU.nD Cert.KernelU.τ).loc Cert.KernelU.main_arg12) = m ((c.tc : Thread Cert.KernelU.nD Cert.KernelU.τ).loc Cert.KernelU.main_arg12)
      ∧ r.2.mem ((c.tc : Thread Cert.KernelU.nD Cert.KernelU.τ).loc Cert.KernelU.main_arg13) = m ((c.tc : Thread Cert.KernelU.nD Cert.KernelU.τ).loc Cert.KernelU.main_arg13))
      ∧ r.2.sem = fun _ => 0)

def quiescent_KernelUIdeal [hKernelUIdeal : Cert.KernelUIdeal.Facts] : Prop :=
  ∀ (m : (ℓ : Loc Cert.KernelUIdeal.nD Cert.KernelUIdeal.τ Cert.KernelUIdeal.sig) → Buf (Elt Ideal) ℓ) (g : Dev Cert.KernelUIdeal.nD → PrngReg), Pre_KernelUIdeal m →
    θ_run (Cert.KernelUIdeal.defs (F := Ideal)) (onTc (τ := Cert.KernelUIdeal.τ) (Cert.KernelUIdeal.main (F := Ideal))) ⟨m, fun _ => 0, g⟩ (fun r => (∀ c : Dev Cert.KernelUIdeal.nD,
      r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
      ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1)
      ∧ r.2.mem ((c.tc : Thread Cert.KernelUIdeal.nD Cert.KernelUIdeal.τ).loc Cert.KernelUIdeal.main_arg2) = m ((c.tc : Thread Cert.KernelUIdeal.nD Cert.KernelUIdeal.τ).loc Cert.KernelUIdeal.main_arg2)
      ∧ r.2.mem ((c.tc : Thread Cert.KernelUIdeal.nD Cert.KernelUIdeal.τ).loc Cert.KernelUIdeal.main_arg3) = m ((c.tc : Thread Cert.KernelUIdeal.nD Cert.KernelUIdeal.τ).loc Cert.KernelUIdeal.main_arg3)
      ∧ r.2.mem ((c.tc : Thread Cert.KernelUIdeal.nD Cert.KernelUIdeal.τ).loc Cert.KernelUIdeal.main_arg4) = m ((c.tc : Thread Cert.KernelUIdeal.nD Cert.KernelUIdeal.τ).loc Cert.KernelUIdeal.main_arg4)
      ∧ r.2.mem ((c.tc : Thread Cert.KernelUIdeal.nD Cert.KernelUIdeal.τ).loc Cert.KernelUIdeal.main_arg5) = m ((c.tc : Thread Cert.KernelUIdeal.nD Cert.KernelUIdeal.τ).loc Cert.KernelUIdeal.main_arg5)
      ∧ r.2.mem ((c.tc : Thread Cert.KernelUIdeal.nD Cert.KernelUIdeal.τ).loc Cert.KernelUIdeal.main_arg6) = m ((c.tc : Thread Cert.KernelUIdeal.nD Cert.KernelUIdeal.τ).loc Cert.KernelUIdeal.main_arg6)
      ∧ r.2.mem ((c.tc : Thread Cert.KernelUIdeal.nD Cert.KernelUIdeal.τ).loc Cert.KernelUIdeal.main_arg7) = m ((c.tc : Thread Cert.KernelUIdeal.nD Cert.KernelUIdeal.τ).loc Cert.KernelUIdeal.main_arg7)
      ∧ r.2.mem ((c.tc : Thread Cert.KernelUIdeal.nD Cert.KernelUIdeal.τ).loc Cert.KernelUIdeal.main_arg8) = m ((c.tc : Thread Cert.KernelUIdeal.nD Cert.KernelUIdeal.τ).loc Cert.KernelUIdeal.main_arg8)
      ∧ r.2.mem ((c.tc : Thread Cert.KernelUIdeal.nD Cert.KernelUIdeal.τ).loc Cert.KernelUIdeal.main_arg9) = m ((c.tc : Thread Cert.KernelUIdeal.nD Cert.KernelUIdeal.τ).loc Cert.KernelUIdeal.main_arg9)
      ∧ r.2.mem ((c.tc : Thread Cert.KernelUIdeal.nD Cert.KernelUIdeal.τ).loc Cert.KernelUIdeal.main_arg10) = m ((c.tc : Thread Cert.KernelUIdeal.nD Cert.KernelUIdeal.τ).loc Cert.KernelUIdeal.main_arg10)
      ∧ r.2.mem ((c.tc : Thread Cert.KernelUIdeal.nD Cert.KernelUIdeal.τ).loc Cert.KernelUIdeal.main_arg11) = m ((c.tc : Thread Cert.KernelUIdeal.nD Cert.KernelUIdeal.τ).loc Cert.KernelUIdeal.main_arg11)
      ∧ r.2.mem ((c.tc : Thread Cert.KernelUIdeal.nD Cert.KernelUIdeal.τ).loc Cert.KernelUIdeal.main_arg12) = m ((c.tc : Thread Cert.KernelUIdeal.nD Cert.KernelUIdeal.τ).loc Cert.KernelUIdeal.main_arg12)
      ∧ r.2.mem ((c.tc : Thread Cert.KernelUIdeal.nD Cert.KernelUIdeal.τ).loc Cert.KernelUIdeal.main_arg13) = m ((c.tc : Thread Cert.KernelUIdeal.nD Cert.KernelUIdeal.τ).loc Cert.KernelUIdeal.main_arg13))
      ∧ r.2.sem = fun _ => 0)

def quiescent_ReferenceUIdeal [hReferenceUIdeal : Cert.ReferenceUIdeal.Facts] : Prop :=
  ∀ (m : (ℓ : Loc Cert.ReferenceUIdeal.nD Cert.ReferenceUIdeal.τ Cert.ReferenceUIdeal.sig) → Buf (Elt Ideal) ℓ) (g : Dev Cert.ReferenceUIdeal.nD → PrngReg), Pre_ReferenceUIdeal m →
    θ_run (Cert.ReferenceUIdeal.defs (F := Ideal)) (onTc (τ := Cert.ReferenceUIdeal.τ) (Cert.ReferenceUIdeal.main (F := Ideal))) ⟨m, fun _ => 0, g⟩ (fun r => (∀ c : Dev Cert.ReferenceUIdeal.nD,
      r.2.mem ((c.tc : Thread Cert.ReferenceUIdeal.nD Cert.ReferenceUIdeal.τ).loc Cert.ReferenceUIdeal.main_arg0) = m ((c.tc : Thread Cert.ReferenceUIdeal.nD Cert.ReferenceUIdeal.τ).loc Cert.ReferenceUIdeal.main_arg0)
      ∧ r.2.mem ((c.tc : Thread Cert.ReferenceUIdeal.nD Cert.ReferenceUIdeal.τ).loc Cert.ReferenceUIdeal.main_arg1) = m ((c.tc : Thread Cert.ReferenceUIdeal.nD Cert.ReferenceUIdeal.τ).loc Cert.ReferenceUIdeal.main_arg1)
      ∧ r.2.mem ((c.tc : Thread Cert.ReferenceUIdeal.nD Cert.ReferenceUIdeal.τ).loc Cert.ReferenceUIdeal.main_arg2) = m ((c.tc : Thread Cert.ReferenceUIdeal.nD Cert.ReferenceUIdeal.τ).loc Cert.ReferenceUIdeal.main_arg2)
      ∧ r.2.mem ((c.tc : Thread Cert.ReferenceUIdeal.nD Cert.ReferenceUIdeal.τ).loc Cert.ReferenceUIdeal.main_arg3) = m ((c.tc : Thread Cert.ReferenceUIdeal.nD Cert.ReferenceUIdeal.τ).loc Cert.ReferenceUIdeal.main_arg3)
      ∧ r.2.mem ((c.tc : Thread Cert.ReferenceUIdeal.nD Cert.ReferenceUIdeal.τ).loc Cert.ReferenceUIdeal.main_arg4) = m ((c.tc : Thread Cert.ReferenceUIdeal.nD Cert.ReferenceUIdeal.τ).loc Cert.ReferenceUIdeal.main_arg4)
      ∧ r.2.mem ((c.tc : Thread Cert.ReferenceUIdeal.nD Cert.ReferenceUIdeal.τ).loc Cert.ReferenceUIdeal.main_arg5) = m ((c.tc : Thread Cert.ReferenceUIdeal.nD Cert.ReferenceUIdeal.τ).loc Cert.ReferenceUIdeal.main_arg5)
      ∧ r.2.mem ((c.tc : Thread Cert.ReferenceUIdeal.nD Cert.ReferenceUIdeal.τ).loc Cert.ReferenceUIdeal.main_arg6) = m ((c.tc : Thread Cert.ReferenceUIdeal.nD Cert.ReferenceUIdeal.τ).loc Cert.ReferenceUIdeal.main_arg6)
      ∧ r.2.mem ((c.tc : Thread Cert.ReferenceUIdeal.nD Cert.ReferenceUIdeal.τ).loc Cert.ReferenceUIdeal.main_arg7) = m ((c.tc : Thread Cert.ReferenceUIdeal.nD Cert.ReferenceUIdeal.τ).loc Cert.ReferenceUIdeal.main_arg7)
      ∧ r.2.mem ((c.tc : Thread Cert.ReferenceUIdeal.nD Cert.ReferenceUIdeal.τ).loc Cert.ReferenceUIdeal.main_arg8) = m ((c.tc : Thread Cert.ReferenceUIdeal.nD Cert.ReferenceUIdeal.τ).loc Cert.ReferenceUIdeal.main_arg8)
      ∧ r.2.mem ((c.tc : Thread Cert.ReferenceUIdeal.nD Cert.ReferenceUIdeal.τ).loc Cert.ReferenceUIdeal.main_arg9) = m ((c.tc : Thread Cert.ReferenceUIdeal.nD Cert.ReferenceUIdeal.τ).loc Cert.ReferenceUIdeal.main_arg9)
      ∧ r.2.mem ((c.tc : Thread Cert.ReferenceUIdeal.nD Cert.ReferenceUIdeal.τ).loc Cert.ReferenceUIdeal.main_arg10) = m ((c.tc : Thread Cert.ReferenceUIdeal.nD Cert.ReferenceUIdeal.τ).loc Cert.ReferenceUIdeal.main_arg10)
      ∧ r.2.mem ((c.tc : Thread Cert.ReferenceUIdeal.nD Cert.ReferenceUIdeal.τ).loc Cert.ReferenceUIdeal.main_arg11) = m ((c.tc : Thread Cert.ReferenceUIdeal.nD Cert.ReferenceUIdeal.τ).loc Cert.ReferenceUIdeal.main_arg11)
      ∧ r.2.mem ((c.tc : Thread Cert.ReferenceUIdeal.nD Cert.ReferenceUIdeal.τ).loc Cert.ReferenceUIdeal.main_arg12) = m ((c.tc : Thread Cert.ReferenceUIdeal.nD Cert.ReferenceUIdeal.τ).loc Cert.ReferenceUIdeal.main_arg12)
      ∧ r.2.mem ((c.tc : Thread Cert.ReferenceUIdeal.nD Cert.ReferenceUIdeal.τ).loc Cert.ReferenceUIdeal.main_arg13) = m ((c.tc : Thread Cert.ReferenceUIdeal.nD Cert.ReferenceUIdeal.τ).loc Cert.ReferenceUIdeal.main_arg13))
      ∧ r.2.sem = fun _ => 0)

def quiescent_KernelW [hKernelW : Cert.KernelW.Facts] : Prop :=
  ∀ (m : (ℓ : Loc Cert.KernelW.nD Cert.KernelW.τ Cert.KernelW.sig) → Buf (Elt Bits) ℓ) (g : Dev Cert.KernelW.nD → PrngReg), Pre_KernelW m →
    θ_run (Cert.KernelW.defs (F := Bits)) (onTc (τ := Cert.KernelW.τ) (Cert.KernelW.main (F := Bits))) ⟨m, fun _ => 0, g⟩ (fun r => (∀ c : Dev Cert.KernelW.nD,
      r.2.mem ((c.tc : Thread Cert.KernelW.nD Cert.KernelW.τ).loc Cert.KernelW.main_arg0) = m ((c.tc : Thread Cert.KernelW.nD Cert.KernelW.τ).loc Cert.KernelW.main_arg0)
      ∧ r.2.mem ((c.tc : Thread Cert.KernelW.nD Cert.KernelW.τ).loc Cert.KernelW.main_arg1) = m ((c.tc : Thread Cert.KernelW.nD Cert.KernelW.τ).loc Cert.KernelW.main_arg1)
      ∧ r.2.mem ((c.tc : Thread Cert.KernelW.nD Cert.KernelW.τ).loc Cert.KernelW.main_arg2) = m ((c.tc : Thread Cert.KernelW.nD Cert.KernelW.τ).loc Cert.KernelW.main_arg2)
      ∧ r.2.mem ((c.tc : Thread Cert.KernelW.nD Cert.KernelW.τ).loc Cert.KernelW.main_arg3) = m ((c.tc : Thread Cert.KernelW.nD Cert.KernelW.τ).loc Cert.KernelW.main_arg3)
      ∧ r.2.mem ((c.tc : Thread Cert.KernelW.nD Cert.KernelW.τ).loc Cert.KernelW.main_arg4) = m ((c.tc : Thread Cert.KernelW.nD Cert.KernelW.τ).loc Cert.KernelW.main_arg4)
      ∧ r.2.mem ((c.tc : Thread Cert.KernelW.nD Cert.KernelW.τ).loc Cert.KernelW.main_arg5) = m ((c.tc : Thread Cert.KernelW.nD Cert.KernelW.τ).loc Cert.KernelW.main_arg5)
      ∧ r.2.mem ((c.tc : Thread Cert.KernelW.nD Cert.KernelW.τ).loc Cert.KernelW.main_arg6) = m ((c.tc : Thread Cert.KernelW.nD Cert.KernelW.τ).loc Cert.KernelW.main_arg6)
      ∧ r.2.mem ((c.tc : Thread Cert.KernelW.nD Cert.KernelW.τ).loc Cert.KernelW.main_arg7) = m ((c.tc : Thread Cert.KernelW.nD Cert.KernelW.τ).loc Cert.KernelW.main_arg7)
      ∧ r.2.mem ((c.tc : Thread Cert.KernelW.nD Cert.KernelW.τ).loc Cert.KernelW.main_arg8) = m ((c.tc : Thread Cert.KernelW.nD Cert.KernelW.τ).loc Cert.KernelW.main_arg8)
      ∧ r.2.mem ((c.tc : Thread Cert.KernelW.nD Cert.KernelW.τ).loc Cert.KernelW.main_arg9) = m ((c.tc : Thread Cert.KernelW.nD Cert.KernelW.τ).loc Cert.KernelW.main_arg9))
      ∧ r.2.sem = fun _ => 0)

def quiescent_KernelWIdeal [hKernelWIdeal : Cert.KernelWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg), Pre_KernelWIdeal m →
    θ_run (Cert.KernelWIdeal.defs (F := Ideal)) (onTc (τ := Cert.KernelWIdeal.τ) (Cert.KernelWIdeal.main (F := Ideal))) ⟨m, fun _ => 0, g⟩ (fun r => (∀ c : Dev Cert.KernelWIdeal.nD,
      r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
      ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
      ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2)
      ∧ r.2.mem ((c.tc : Thread Cert.KernelWIdeal.nD Cert.KernelWIdeal.τ).loc Cert.KernelWIdeal.main_arg3) = m ((c.tc : Thread Cert.KernelWIdeal.nD Cert.KernelWIdeal.τ).loc Cert.KernelWIdeal.main_arg3)
      ∧ r.2.mem ((c.tc : Thread Cert.KernelWIdeal.nD Cert.KernelWIdeal.τ).loc Cert.KernelWIdeal.main_arg4) = m ((c.tc : Thread Cert.KernelWIdeal.nD Cert.KernelWIdeal.τ).loc Cert.KernelWIdeal.main_arg4)
      ∧ r.2.mem ((c.tc : Thread Cert.KernelWIdeal.nD Cert.KernelWIdeal.τ).loc Cert.KernelWIdeal.main_arg5) = m ((c.tc : Thread Cert.KernelWIdeal.nD Cert.KernelWIdeal.τ).loc Cert.KernelWIdeal.main_arg5)
      ∧ r.2.mem ((c.tc : Thread Cert.KernelWIdeal.nD Cert.KernelWIdeal.τ).loc Cert.KernelWIdeal.main_arg6) = m ((c.tc : Thread Cert.KernelWIdeal.nD Cert.KernelWIdeal.τ).loc Cert.KernelWIdeal.main_arg6)
      ∧ r.2.mem ((c.tc : Thread Cert.KernelWIdeal.nD Cert.KernelWIdeal.τ).loc Cert.KernelWIdeal.main_arg7) = m ((c.tc : Thread Cert.KernelWIdeal.nD Cert.KernelWIdeal.τ).loc Cert.KernelWIdeal.main_arg7)
      ∧ r.2.mem ((c.tc : Thread Cert.KernelWIdeal.nD Cert.KernelWIdeal.τ).loc Cert.KernelWIdeal.main_arg8) = m ((c.tc : Thread Cert.KernelWIdeal.nD Cert.KernelWIdeal.τ).loc Cert.KernelWIdeal.main_arg8)
      ∧ r.2.mem ((c.tc : Thread Cert.KernelWIdeal.nD Cert.KernelWIdeal.τ).loc Cert.KernelWIdeal.main_arg9) = m ((c.tc : Thread Cert.KernelWIdeal.nD Cert.KernelWIdeal.τ).loc Cert.KernelWIdeal.main_arg9))
      ∧ r.2.sem = fun _ => 0)

def quiescent_ReferenceWIdeal [hReferenceWIdeal : Cert.ReferenceWIdeal.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0)
      ∧ r.2.mem ((c.tc : Thread Cert.ReferenceWIdeal.nD Cert.ReferenceWIdeal.τ).loc Cert.ReferenceWIdeal.main_arg1) = m ((c.tc : Thread Cert.ReferenceWIdeal.nD Cert.ReferenceWIdeal.τ).loc Cert.ReferenceWIdeal.main_arg1)
      ∧ r.2.mem ((c.tc : Thread Cert.ReferenceWIdeal.nD Cert.ReferenceWIdeal.τ).loc Cert.ReferenceWIdeal.main_arg2) = m ((c.tc : Thread Cert.ReferenceWIdeal.nD Cert.ReferenceWIdeal.τ).loc Cert.ReferenceWIdeal.main_arg2)
      ∧ r.2.mem ((c.tc : Thread Cert.ReferenceWIdeal.nD Cert.ReferenceWIdeal.τ).loc Cert.ReferenceWIdeal.main_arg3) = m ((c.tc : Thread Cert.ReferenceWIdeal.nD Cert.ReferenceWIdeal.τ).loc Cert.ReferenceWIdeal.main_arg3)
      ∧ r.2.mem ((c.tc : Thread Cert.ReferenceWIdeal.nD Cert.ReferenceWIdeal.τ).loc Cert.ReferenceWIdeal.main_arg4) = m ((c.tc : Thread Cert.ReferenceWIdeal.nD Cert.ReferenceWIdeal.τ).loc Cert.ReferenceWIdeal.main_arg4)
      ∧ r.2.mem ((c.tc : Thread Cert.ReferenceWIdeal.nD Cert.ReferenceWIdeal.τ).loc Cert.ReferenceWIdeal.main_arg5) = m ((c.tc : Thread Cert.ReferenceWIdeal.nD Cert.ReferenceWIdeal.τ).loc Cert.ReferenceWIdeal.main_arg5)
      ∧ r.2.mem ((c.tc : Thread Cert.ReferenceWIdeal.nD Cert.ReferenceWIdeal.τ).loc Cert.ReferenceWIdeal.main_arg6) = m ((c.tc : Thread Cert.ReferenceWIdeal.nD Cert.ReferenceWIdeal.τ).loc Cert.ReferenceWIdeal.main_arg6)
      ∧ r.2.mem ((c.tc : Thread Cert.ReferenceWIdeal.nD Cert.ReferenceWIdeal.τ).loc Cert.ReferenceWIdeal.main_arg7) = m ((c.tc : Thread Cert.ReferenceWIdeal.nD Cert.ReferenceWIdeal.τ).loc Cert.ReferenceWIdeal.main_arg7)
      ∧ r.2.mem ((c.tc : Thread Cert.ReferenceWIdeal.nD Cert.ReferenceWIdeal.τ).loc Cert.ReferenceWIdeal.main_arg8) = m ((c.tc : Thread Cert.ReferenceWIdeal.nD Cert.ReferenceWIdeal.τ).loc Cert.ReferenceWIdeal.main_arg8)
      ∧ r.2.mem ((c.tc : Thread Cert.ReferenceWIdeal.nD Cert.ReferenceWIdeal.τ).loc Cert.ReferenceWIdeal.main_arg9) = m ((c.tc : Thread Cert.ReferenceWIdeal.nD Cert.ReferenceWIdeal.τ).loc Cert.ReferenceWIdeal.main_arg9))
      ∧ r.2.sem = fun _ => 0)

def quiescent_KernelG [hKernelG : Cert.KernelG.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1)
      ∧ r.2.mem ((c.tc : Thread Cert.KernelG.nD Cert.KernelG.τ).loc Cert.KernelG.main_arg2) = m ((c.tc : Thread Cert.KernelG.nD Cert.KernelG.τ).loc Cert.KernelG.main_arg2)
      ∧ r.2.mem ((c.tc : Thread Cert.KernelG.nD Cert.KernelG.τ).loc Cert.KernelG.main_arg3) = m ((c.tc : Thread Cert.KernelG.nD Cert.KernelG.τ).loc Cert.KernelG.main_arg3)
      ∧ r.2.mem ((c.tc : Thread Cert.KernelG.nD Cert.KernelG.τ).loc Cert.KernelG.main_arg4) = m ((c.tc : Thread Cert.KernelG.nD Cert.KernelG.τ).loc Cert.KernelG.main_arg4)
      ∧ r.2.mem ((c.tc : Thread Cert.KernelG.nD Cert.KernelG.τ).loc Cert.KernelG.main_arg5) = m ((c.tc : Thread Cert.KernelG.nD Cert.KernelG.τ).loc Cert.KernelG.main_arg5)
      ∧ r.2.mem ((c.tc : Thread Cert.KernelG.nD Cert.KernelG.τ).loc Cert.KernelG.main_arg6) = m ((c.tc : Thread Cert.KernelG.nD Cert.KernelG.τ).loc Cert.KernelG.main_arg6))
      ∧ r.2.sem = fun _ => 0)

def quiescent_KernelGIdeal [hKernelGIdeal : Cert.KernelGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg), Pre_KernelGIdeal m →
    θ_run (Cert.KernelGIdeal.defs (F := Ideal)) (onTc (τ := Cert.KernelGIdeal.τ) (Cert.KernelGIdeal.main (F := Ideal))) ⟨m, fun _ => 0, g⟩ (fun r => (∀ c : Dev Cert.KernelGIdeal.nD,
      r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
      ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
      ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2)
      ∧ r.2.mem ((c.tc : Thread Cert.KernelGIdeal.nD Cert.KernelGIdeal.τ).loc Cert.KernelGIdeal.main_arg3) = m ((c.tc : Thread Cert.KernelGIdeal.nD Cert.KernelGIdeal.τ).loc Cert.KernelGIdeal.main_arg3)
      ∧ r.2.mem ((c.tc : Thread Cert.KernelGIdeal.nD Cert.KernelGIdeal.τ).loc Cert.KernelGIdeal.main_arg4) = m ((c.tc : Thread Cert.KernelGIdeal.nD Cert.KernelGIdeal.τ).loc Cert.KernelGIdeal.main_arg4)
      ∧ r.2.mem ((c.tc : Thread Cert.KernelGIdeal.nD Cert.KernelGIdeal.τ).loc Cert.KernelGIdeal.main_arg5) = m ((c.tc : Thread Cert.KernelGIdeal.nD Cert.KernelGIdeal.τ).loc Cert.KernelGIdeal.main_arg5)
      ∧ r.2.mem ((c.tc : Thread Cert.KernelGIdeal.nD Cert.KernelGIdeal.τ).loc Cert.KernelGIdeal.main_arg6) = m ((c.tc : Thread Cert.KernelGIdeal.nD Cert.KernelGIdeal.τ).loc Cert.KernelGIdeal.main_arg6))
      ∧ r.2.sem = fun _ => 0)

def quiescent_ReferenceGIdeal [hReferenceGIdeal : Cert.ReferenceGIdeal.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1)
      ∧ r.2.mem ((c.tc : Thread Cert.ReferenceGIdeal.nD Cert.ReferenceGIdeal.τ).loc Cert.ReferenceGIdeal.main_arg2) = m ((c.tc : Thread Cert.ReferenceGIdeal.nD Cert.ReferenceGIdeal.τ).loc Cert.ReferenceGIdeal.main_arg2)
      ∧ r.2.mem ((c.tc : Thread Cert.ReferenceGIdeal.nD Cert.ReferenceGIdeal.τ).loc Cert.ReferenceGIdeal.main_arg3) = m ((c.tc : Thread Cert.ReferenceGIdeal.nD Cert.ReferenceGIdeal.τ).loc Cert.ReferenceGIdeal.main_arg3)
      ∧ r.2.mem ((c.tc : Thread Cert.ReferenceGIdeal.nD Cert.ReferenceGIdeal.τ).loc Cert.ReferenceGIdeal.main_arg4) = m ((c.tc : Thread Cert.ReferenceGIdeal.nD Cert.ReferenceGIdeal.τ).loc Cert.ReferenceGIdeal.main_arg4)
      ∧ r.2.mem ((c.tc : Thread Cert.ReferenceGIdeal.nD Cert.ReferenceGIdeal.τ).loc Cert.ReferenceGIdeal.main_arg5) = m ((c.tc : Thread Cert.ReferenceGIdeal.nD Cert.ReferenceGIdeal.τ).loc Cert.ReferenceGIdeal.main_arg5)
      ∧ r.2.mem ((c.tc : Thread Cert.ReferenceGIdeal.nD Cert.ReferenceGIdeal.τ).loc Cert.ReferenceGIdeal.main_arg6) = m ((c.tc : Thread Cert.ReferenceGIdeal.nD Cert.ReferenceGIdeal.τ).loc Cert.ReferenceGIdeal.main_arg6))
      ∧ r.2.sem = fun _ => 0)

def quiescent_KernelH [hKernelH : Cert.KernelH.Facts] : Prop :=
  ∀ (m : (ℓ : Loc Cert.KernelH.nD Cert.KernelH.τ Cert.KernelH.sig) → Buf (Elt Bits) ℓ) (g : Dev Cert.KernelH.nD → PrngReg), Pre_KernelH m →
    θ_run (Cert.KernelH.defs (F := Bits)) (onTc (τ := Cert.KernelH.τ) (Cert.KernelH.main (F := Bits))) ⟨m, fun _ => 0, g⟩ (fun r => (∀ c : Dev Cert.KernelH.nD,
      r.2.mem ((c.tc : Thread Cert.KernelH.nD Cert.KernelH.τ).loc Cert.KernelH.main_arg0) = m ((c.tc : Thread Cert.KernelH.nD Cert.KernelH.τ).loc Cert.KernelH.main_arg0)
      ∧ r.2.mem ((c.tc : Thread Cert.KernelH.nD Cert.KernelH.τ).loc Cert.KernelH.main_arg1) = m ((c.tc : Thread Cert.KernelH.nD Cert.KernelH.τ).loc Cert.KernelH.main_arg1)
      ∧ r.2.mem ((c.tc : Thread Cert.KernelH.nD Cert.KernelH.τ).loc Cert.KernelH.main_arg2) = m ((c.tc : Thread Cert.KernelH.nD Cert.KernelH.τ).loc Cert.KernelH.main_arg2)
      ∧ r.2.mem ((c.tc : Thread Cert.KernelH.nD Cert.KernelH.τ).loc Cert.KernelH.main_arg3) = m ((c.tc : Thread Cert.KernelH.nD Cert.KernelH.τ).loc Cert.KernelH.main_arg3)
      ∧ r.2.mem ((c.tc : Thread Cert.KernelH.nD Cert.KernelH.τ).loc Cert.KernelH.main_arg4) = m ((c.tc : Thread Cert.KernelH.nD Cert.KernelH.τ).loc Cert.KernelH.main_arg4)
      ∧ r.2.mem ((c.tc : Thread Cert.KernelH.nD Cert.KernelH.τ).loc Cert.KernelH.main_arg5) = m ((c.tc : Thread Cert.KernelH.nD Cert.KernelH.τ).loc Cert.KernelH.main_arg5))
      ∧ r.2.sem = fun _ => 0)

def quiescent_KernelHIdeal [hKernelHIdeal : Cert.KernelHIdeal.Facts] : Prop :=
  ∀ (m : (ℓ : Loc Cert.KernelHIdeal.nD Cert.KernelHIdeal.τ Cert.KernelHIdeal.sig) → Buf (Elt Ideal) ℓ) (g : Dev Cert.KernelHIdeal.nD → PrngReg), Pre_KernelHIdeal m →
    θ_run (Cert.KernelHIdeal.defs (F := Ideal)) (onTc (τ := Cert.KernelHIdeal.τ) (Cert.KernelHIdeal.main (F := Ideal))) ⟨m, fun _ => 0, g⟩ (fun r => (∀ c : Dev Cert.KernelHIdeal.nD,
      r.2.mem ((c.tc : Thread Cert.KernelHIdeal.nD Cert.KernelHIdeal.τ).loc Cert.KernelHIdeal.main_arg0) = m ((c.tc : Thread Cert.KernelHIdeal.nD Cert.KernelHIdeal.τ).loc Cert.KernelHIdeal.main_arg0)
      ∧ r.2.mem ((c.tc : Thread Cert.KernelHIdeal.nD Cert.KernelHIdeal.τ).loc Cert.KernelHIdeal.main_arg1) = m ((c.tc : Thread Cert.KernelHIdeal.nD Cert.KernelHIdeal.τ).loc Cert.KernelHIdeal.main_arg1)
      ∧ r.2.mem ((c.tc : Thread Cert.KernelHIdeal.nD Cert.KernelHIdeal.τ).loc Cert.KernelHIdeal.main_arg2) = m ((c.tc : Thread Cert.KernelHIdeal.nD Cert.KernelHIdeal.τ).loc Cert.KernelHIdeal.main_arg2)
      ∧ r.2.mem ((c.tc : Thread Cert.KernelHIdeal.nD Cert.KernelHIdeal.τ).loc Cert.KernelHIdeal.main_arg3) = m ((c.tc : Thread Cert.KernelHIdeal.nD Cert.KernelHIdeal.τ).loc Cert.KernelHIdeal.main_arg3)
      ∧ r.2.mem ((c.tc : Thread Cert.KernelHIdeal.nD Cert.KernelHIdeal.τ).loc Cert.KernelHIdeal.main_arg4) = m ((c.tc : Thread Cert.KernelHIdeal.nD Cert.KernelHIdeal.τ).loc Cert.KernelHIdeal.main_arg4)
      ∧ r.2.mem ((c.tc : Thread Cert.KernelHIdeal.nD Cert.KernelHIdeal.τ).loc Cert.KernelHIdeal.main_arg5) = m ((c.tc : Thread Cert.KernelHIdeal.nD Cert.KernelHIdeal.τ).loc Cert.KernelHIdeal.main_arg5))
      ∧ r.2.sem = fun _ => 0)

def quiescent_KernelN [hKernelN : Cert.KernelN.Facts] : Prop :=
  ∀ (m : (ℓ : Loc Cert.KernelN.nD Cert.KernelN.τ Cert.KernelN.sig) → Buf (Elt Bits) ℓ) (g : Dev Cert.KernelN.nD → PrngReg), Pre_KernelN m →
    θ_run (Cert.KernelN.defs (F := Bits)) (onTc (τ := Cert.KernelN.τ) (Cert.KernelN.main (F := Bits))) ⟨m, fun _ => 0, g⟩ (fun r => (∀ c : Dev Cert.KernelN.nD,
      r.2.mem ((c.tc : Thread Cert.KernelN.nD Cert.KernelN.τ).loc Cert.KernelN.main_arg0) = m ((c.tc : Thread Cert.KernelN.nD Cert.KernelN.τ).loc Cert.KernelN.main_arg0)
      ∧ r.2.mem ((c.tc : Thread Cert.KernelN.nD Cert.KernelN.τ).loc Cert.KernelN.main_arg1) = m ((c.tc : Thread Cert.KernelN.nD Cert.KernelN.τ).loc Cert.KernelN.main_arg1))
      ∧ r.2.sem = fun _ => 0)

def quiescent_KernelNIdeal [hKernelNIdeal : Cert.KernelNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg), Pre_KernelNIdeal m →
    θ_run (Cert.KernelNIdeal.defs (F := Ideal)) (onTc (τ := Cert.KernelNIdeal.τ) (Cert.KernelNIdeal.main (F := Ideal))) ⟨m, fun _ => 0, g⟩ (fun r => (∀ c : Dev Cert.KernelNIdeal.nD,
      r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
      ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1))
      ∧ r.2.sem = fun _ => 0)

def quiescent_ReferenceNIdeal [hReferenceNIdeal : Cert.ReferenceNIdeal.Facts] : Prop :=
  ∀ (m : (ℓ : Loc Cert.ReferenceNIdeal.nD Cert.ReferenceNIdeal.τ Cert.ReferenceNIdeal.sig) → Buf (Elt Ideal) ℓ) (g : Dev Cert.ReferenceNIdeal.nD → PrngReg), Pre_ReferenceNIdeal m →
    θ_run (Cert.ReferenceNIdeal.defs (F := Ideal)) (onTc (τ := Cert.ReferenceNIdeal.τ) (Cert.ReferenceNIdeal.main (F := Ideal))) ⟨m, fun _ => 0, g⟩ (fun r => (∀ c : Dev Cert.ReferenceNIdeal.nD,
      r.2.mem ((c.tc : Thread Cert.ReferenceNIdeal.nD Cert.ReferenceNIdeal.τ).loc Cert.ReferenceNIdeal.main_arg0) = m ((c.tc : Thread Cert.ReferenceNIdeal.nD Cert.ReferenceNIdeal.τ).loc Cert.ReferenceNIdeal.main_arg0)
      ∧ r.2.mem ((c.tc : Thread Cert.ReferenceNIdeal.nD Cert.ReferenceNIdeal.τ).loc Cert.ReferenceNIdeal.main_arg1) = m ((c.tc : Thread Cert.ReferenceNIdeal.nD Cert.ReferenceNIdeal.τ).loc Cert.ReferenceNIdeal.main_arg1))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3))
      ∧ r.2.sem = fun _ => 0)

def quiescent_KernelP [hKernelP : Cert.KernelP.Facts] : Prop :=
  ∀ (m : (ℓ : Loc Cert.KernelP.nD Cert.KernelP.τ Cert.KernelP.sig) → Buf (Elt Bits) ℓ) (g : Dev Cert.KernelP.nD → PrngReg), Pre_KernelP m →
    θ_run (Cert.KernelP.defs (F := Bits)) (onTc (τ := Cert.KernelP.τ) (Cert.KernelP.main (F := Bits))) ⟨m, fun _ => 0, g⟩ (fun r => (∀ c : Dev Cert.KernelP.nD,
      r.2.mem ((c.tc : Thread Cert.KernelP.nD Cert.KernelP.τ).loc Cert.KernelP.main_arg0) = m ((c.tc : Thread Cert.KernelP.nD Cert.KernelP.τ).loc Cert.KernelP.main_arg0)
      ∧ r.2.mem ((c.tc : Thread Cert.KernelP.nD Cert.KernelP.τ).loc Cert.KernelP.main_arg1) = m ((c.tc : Thread Cert.KernelP.nD Cert.KernelP.τ).loc Cert.KernelP.main_arg1)
      ∧ r.2.mem ((c.tc : Thread Cert.KernelP.nD Cert.KernelP.τ).loc Cert.KernelP.main_arg2) = m ((c.tc : Thread Cert.KernelP.nD Cert.KernelP.τ).loc Cert.KernelP.main_arg2)
      ∧ r.2.mem ((c.tc : Thread Cert.KernelP.nD Cert.KernelP.τ).loc Cert.KernelP.main_arg3) = m ((c.tc : Thread Cert.KernelP.nD Cert.KernelP.τ).loc Cert.KernelP.main_arg3))
      ∧ r.2.sem = fun _ => 0)

def quiescent_KernelPIdeal [hKernelPIdeal : Cert.KernelPIdeal.Facts] : Prop :=
  ∀ (m : (ℓ : Loc Cert.KernelPIdeal.nD Cert.KernelPIdeal.τ Cert.KernelPIdeal.sig) → Buf (Elt Ideal) ℓ) (g : Dev Cert.KernelPIdeal.nD → PrngReg), Pre_KernelPIdeal m →
    θ_run (Cert.KernelPIdeal.defs (F := Ideal)) (onTc (τ := Cert.KernelPIdeal.τ) (Cert.KernelPIdeal.main (F := Ideal))) ⟨m, fun _ => 0, g⟩ (fun r => (∀ c : Dev Cert.KernelPIdeal.nD,
      r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
      ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1)
      ∧ r.2.mem ((c.tc : Thread Cert.KernelPIdeal.nD Cert.KernelPIdeal.τ).loc Cert.KernelPIdeal.main_arg2) = m ((c.tc : Thread Cert.KernelPIdeal.nD Cert.KernelPIdeal.τ).loc Cert.KernelPIdeal.main_arg2)
      ∧ r.2.mem ((c.tc : Thread Cert.KernelPIdeal.nD Cert.KernelPIdeal.τ).loc Cert.KernelPIdeal.main_arg3) = m ((c.tc : Thread Cert.KernelPIdeal.nD Cert.KernelPIdeal.τ).loc Cert.KernelPIdeal.main_arg3))
      ∧ r.2.sem = fun _ => 0)

def quiescent_ReferencePIdeal [hReferencePIdeal : Cert.ReferencePIdeal.Facts] : Prop :=
  ∀ (m : (ℓ : Loc Cert.ReferencePIdeal.nD Cert.ReferencePIdeal.τ Cert.ReferencePIdeal.sig) → Buf (Elt Ideal) ℓ) (g : Dev Cert.ReferencePIdeal.nD → PrngReg), Pre_ReferencePIdeal m →
    θ_run (Cert.ReferencePIdeal.defs (F := Ideal)) (onTc (τ := Cert.ReferencePIdeal.τ) (Cert.ReferencePIdeal.main (F := Ideal))) ⟨m, fun _ => 0, g⟩ (fun r => (∀ c : Dev Cert.ReferencePIdeal.nD,
      r.2.mem ((c.tc : Thread Cert.ReferencePIdeal.nD Cert.ReferencePIdeal.τ).loc Cert.ReferencePIdeal.main_arg0) = m ((c.tc : Thread Cert.ReferencePIdeal.nD Cert.ReferencePIdeal.τ).loc Cert.ReferencePIdeal.main_arg0)
      ∧ r.2.mem ((c.tc : Thread Cert.ReferencePIdeal.nD Cert.ReferencePIdeal.τ).loc Cert.ReferencePIdeal.main_arg1) = m ((c.tc : Thread Cert.ReferencePIdeal.nD Cert.ReferencePIdeal.τ).loc Cert.ReferencePIdeal.main_arg1)
      ∧ r.2.mem ((c.tc : Thread Cert.ReferencePIdeal.nD Cert.ReferencePIdeal.τ).loc Cert.ReferencePIdeal.main_arg2) = m ((c.tc : Thread Cert.ReferencePIdeal.nD Cert.ReferencePIdeal.τ).loc Cert.ReferencePIdeal.main_arg2)
      ∧ r.2.mem ((c.tc : Thread Cert.ReferencePIdeal.nD Cert.ReferencePIdeal.τ).loc Cert.ReferencePIdeal.main_arg3) = m ((c.tc : Thread Cert.ReferencePIdeal.nD Cert.ReferencePIdeal.τ).loc Cert.ReferencePIdeal.main_arg3))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2)
      ∧ r.2.mem ((c.tc : Thread Cert.KernelQ.nD Cert.KernelQ.τ).loc Cert.KernelQ.main_arg3) = m ((c.tc : Thread Cert.KernelQ.nD Cert.KernelQ.τ).loc Cert.KernelQ.main_arg3))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2)
      ∧ r.2.mem ((c.tc : Thread Cert.KernelQIdeal.nD Cert.KernelQIdeal.τ).loc Cert.KernelQIdeal.main_arg3) = m ((c.tc : Thread Cert.KernelQIdeal.nD Cert.KernelQIdeal.τ).loc Cert.KernelQIdeal.main_arg3))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2)
      ∧ r.2.mem ((c.tc : Thread Cert.ReferenceQIdeal.nD Cert.ReferenceQIdeal.τ).loc Cert.ReferenceQIdeal.main_arg3) = m ((c.tc : Thread Cert.ReferenceQIdeal.nD Cert.ReferenceQIdeal.τ).loc Cert.ReferenceQIdeal.main_arg3))
      ∧ r.2.sem = fun _ => 0)

def quiescent_KernelY [hKernelY : Cert.KernelY.Facts] : Prop :=
  ∀ (m : (ℓ : Loc Cert.KernelY.nD Cert.KernelY.τ Cert.KernelY.sig) → Buf (Elt Bits) ℓ) (g : Dev Cert.KernelY.nD → PrngReg), Pre_KernelY m →
    θ_run (Cert.KernelY.defs (F := Bits)) (onTc (τ := Cert.KernelY.τ) (Cert.KernelY.main (F := Bits))) ⟨m, fun _ => 0, g⟩ (fun r => (∀ c : Dev Cert.KernelY.nD,
      r.2.mem ((c.tc : Thread Cert.KernelY.nD Cert.KernelY.τ).loc Cert.KernelY.main_arg0) = m ((c.tc : Thread Cert.KernelY.nD Cert.KernelY.τ).loc Cert.KernelY.main_arg0)
      ∧ r.2.mem ((c.tc : Thread Cert.KernelY.nD Cert.KernelY.τ).loc Cert.KernelY.main_arg1) = m ((c.tc : Thread Cert.KernelY.nD Cert.KernelY.τ).loc Cert.KernelY.main_arg1)
      ∧ r.2.mem ((c.tc : Thread Cert.KernelY.nD Cert.KernelY.τ).loc Cert.KernelY.main_arg2) = m ((c.tc : Thread Cert.KernelY.nD Cert.KernelY.τ).loc Cert.KernelY.main_arg2)
      ∧ r.2.mem ((c.tc : Thread Cert.KernelY.nD Cert.KernelY.τ).loc Cert.KernelY.main_arg3) = m ((c.tc : Thread Cert.KernelY.nD Cert.KernelY.τ).loc Cert.KernelY.main_arg3))
      ∧ r.2.sem = fun _ => 0)

def quiescent_KernelYIdeal [hKernelYIdeal : Cert.KernelYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
      ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2)
      ∧ r.2.mem ((c.tc : Thread Cert.KernelYIdeal.nD Cert.KernelYIdeal.τ).loc Cert.KernelYIdeal.main_arg3) = m ((c.tc : Thread Cert.KernelYIdeal.nD Cert.KernelYIdeal.τ).loc Cert.KernelYIdeal.main_arg3))
      ∧ r.2.sem = fun _ => 0)

def quiescent_ReferenceYIdeal [hReferenceYIdeal : Cert.ReferenceYIdeal.Facts] : Prop :=
  ∀ (m : (ℓ : Loc Cert.ReferenceYIdeal.nD Cert.ReferenceYIdeal.τ Cert.ReferenceYIdeal.sig) → Buf (Elt Ideal) ℓ) (g : Dev Cert.ReferenceYIdeal.nD → PrngReg), Pre_ReferenceYIdeal m →
    θ_run (Cert.ReferenceYIdeal.defs (F := Ideal)) (onTc (τ := Cert.ReferenceYIdeal.τ) (Cert.ReferenceYIdeal.main (F := Ideal))) ⟨m, fun _ => 0, g⟩ (fun r => (∀ c : Dev Cert.ReferenceYIdeal.nD,
      r.2.mem ((c.tc : Thread Cert.ReferenceYIdeal.nD Cert.ReferenceYIdeal.τ).loc Cert.ReferenceYIdeal.main_arg0) = m ((c.tc : Thread Cert.ReferenceYIdeal.nD Cert.ReferenceYIdeal.τ).loc Cert.ReferenceYIdeal.main_arg0)
      ∧ r.2.mem ((c.tc : Thread Cert.ReferenceYIdeal.nD Cert.ReferenceYIdeal.τ).loc Cert.ReferenceYIdeal.main_arg1) = m ((c.tc : Thread Cert.ReferenceYIdeal.nD Cert.ReferenceYIdeal.τ).loc Cert.ReferenceYIdeal.main_arg1)
      ∧ r.2.mem ((c.tc : Thread Cert.ReferenceYIdeal.nD Cert.ReferenceYIdeal.τ).loc Cert.ReferenceYIdeal.main_arg2) = m ((c.tc : Thread Cert.ReferenceYIdeal.nD Cert.ReferenceYIdeal.τ).loc Cert.ReferenceYIdeal.main_arg2)
      ∧ r.2.mem ((c.tc : Thread Cert.ReferenceYIdeal.nD Cert.ReferenceYIdeal.τ).loc Cert.ReferenceYIdeal.main_arg3) = m ((c.tc : Thread Cert.ReferenceYIdeal.nD Cert.ReferenceYIdeal.τ).loc Cert.ReferenceYIdeal.main_arg3))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2)
      ∧ r.2.mem ((c.tc : Thread Cert.KernelC.nD Cert.KernelC.τ).loc Cert.KernelC.main_arg3) = m ((c.tc : Thread Cert.KernelC.nD Cert.KernelC.τ).loc Cert.KernelC.main_arg3)
      ∧ r.2.mem ((c.tc : Thread Cert.KernelC.nD Cert.KernelC.τ).loc Cert.KernelC.main_arg4) = m ((c.tc : Thread Cert.KernelC.nD Cert.KernelC.τ).loc Cert.KernelC.main_arg4)
      ∧ r.2.mem ((c.tc : Thread Cert.KernelC.nD Cert.KernelC.τ).loc Cert.KernelC.main_arg5) = m ((c.tc : Thread Cert.KernelC.nD Cert.KernelC.τ).loc Cert.KernelC.main_arg5)
      ∧ r.2.mem ((c.tc : Thread Cert.KernelC.nD Cert.KernelC.τ).loc Cert.KernelC.main_arg6) = m ((c.tc : Thread Cert.KernelC.nD Cert.KernelC.τ).loc Cert.KernelC.main_arg6)
      ∧ r.2.mem ((c.tc : Thread Cert.KernelC.nD Cert.KernelC.τ).loc Cert.KernelC.main_arg7) = m ((c.tc : Thread Cert.KernelC.nD Cert.KernelC.τ).loc Cert.KernelC.main_arg7))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2)
      ∧ r.2.mem ((c.tc : Thread Cert.KernelCIdeal.nD Cert.KernelCIdeal.τ).loc Cert.KernelCIdeal.main_arg3) = m ((c.tc : Thread Cert.KernelCIdeal.nD Cert.KernelCIdeal.τ).loc Cert.KernelCIdeal.main_arg3)
      ∧ r.2.mem ((c.tc : Thread Cert.KernelCIdeal.nD Cert.KernelCIdeal.τ).loc Cert.KernelCIdeal.main_arg4) = m ((c.tc : Thread Cert.KernelCIdeal.nD Cert.KernelCIdeal.τ).loc Cert.KernelCIdeal.main_arg4)
      ∧ r.2.mem ((c.tc : Thread Cert.KernelCIdeal.nD Cert.KernelCIdeal.τ).loc Cert.KernelCIdeal.main_arg5) = m ((c.tc : Thread Cert.KernelCIdeal.nD Cert.KernelCIdeal.τ).loc Cert.KernelCIdeal.main_arg5)
      ∧ r.2.mem ((c.tc : Thread Cert.KernelCIdeal.nD Cert.KernelCIdeal.τ).loc Cert.KernelCIdeal.main_arg6) = m ((c.tc : Thread Cert.KernelCIdeal.nD Cert.KernelCIdeal.τ).loc Cert.KernelCIdeal.main_arg6)
      ∧ r.2.mem ((c.tc : Thread Cert.KernelCIdeal.nD Cert.KernelCIdeal.τ).loc Cert.KernelCIdeal.main_arg7) = m ((c.tc : Thread Cert.KernelCIdeal.nD Cert.KernelCIdeal.τ).loc Cert.KernelCIdeal.main_arg7))
      ∧ r.2.sem = fun _ => 0)

def quiescent_KernelE [hKernelE : Cert.KernelE.Facts] : Prop :=
  ∀ (m : (ℓ : Loc Cert.KernelE.nD Cert.KernelE.τ Cert.KernelE.sig) → Buf (Elt Bits) ℓ) (g : Dev Cert.KernelE.nD → PrngReg), Pre_KernelE m →
    θ_run (Cert.KernelE.defs (F := Bits)) (onTc (τ := Cert.KernelE.τ) (Cert.KernelE.main (F := Bits))) ⟨m, fun _ => 0, g⟩ (fun r => (∀ c : Dev Cert.KernelE.nD,
      r.2.mem ((c.tc : Thread Cert.KernelE.nD Cert.KernelE.τ).loc Cert.KernelE.main_arg0) = m ((c.tc : Thread Cert.KernelE.nD Cert.KernelE.τ).loc Cert.KernelE.main_arg0))
      ∧ r.2.sem = fun _ => 0)

def quiescent_KernelEIdeal [hKernelEIdeal : Cert.KernelEIdeal.Facts] : Prop :=
  ∀ (m : (ℓ : Loc Cert.KernelEIdeal.nD Cert.KernelEIdeal.τ Cert.KernelEIdeal.sig) → Buf (Elt Ideal) ℓ) (g : Dev Cert.KernelEIdeal.nD → PrngReg), Pre_KernelEIdeal m →
    θ_run (Cert.KernelEIdeal.defs (F := Ideal)) (onTc (τ := Cert.KernelEIdeal.τ) (Cert.KernelEIdeal.main (F := Ideal))) ⟨m, fun _ => 0, g⟩ (fun r => (∀ c : Dev Cert.KernelEIdeal.nD,
      r.2.mem ((c.tc : Thread Cert.KernelEIdeal.nD Cert.KernelEIdeal.τ).loc Cert.KernelEIdeal.main_arg0) = m ((c.tc : Thread Cert.KernelEIdeal.nD Cert.KernelEIdeal.τ).loc Cert.KernelEIdeal.main_arg0))
      ∧ r.2.sem = fun _ => 0)

def quiescent_ReferenceEIdeal [hReferenceEIdeal : Cert.ReferenceEIdeal.Facts] : Prop :=
  ∀ (m : (ℓ : Loc Cert.ReferenceEIdeal.nD Cert.ReferenceEIdeal.τ Cert.ReferenceEIdeal.sig) → Buf (Elt Ideal) ℓ) (g : Dev Cert.ReferenceEIdeal.nD → PrngReg), Pre_ReferenceEIdeal m →
    θ_run (Cert.ReferenceEIdeal.defs (F := Ideal)) (onTc (τ := Cert.ReferenceEIdeal.τ) (Cert.ReferenceEIdeal.main (F := Ideal))) ⟨m, fun _ => 0, g⟩ (fun r => (∀ c : Dev Cert.ReferenceEIdeal.nD,
      r.2.mem ((c.tc : Thread Cert.ReferenceEIdeal.nD Cert.ReferenceEIdeal.τ).loc Cert.ReferenceEIdeal.main_arg0) = m ((c.tc : Thread Cert.ReferenceEIdeal.nD Cert.ReferenceEIdeal.τ).loc Cert.ReferenceEIdeal.main_arg0))
      ∧ r.2.sem = fun _ => 0)

def quiescent_KernelI [hKernelI : Cert.KernelI.Facts] : Prop :=
  ∀ (m : (ℓ : Loc Cert.KernelI.nD Cert.KernelI.τ Cert.KernelI.sig) → Buf (Elt Bits) ℓ) (g : Dev Cert.KernelI.nD → PrngReg), Pre_KernelI m →
    θ_run (Cert.KernelI.defs (F := Bits)) (onTc (τ := Cert.KernelI.τ) (Cert.KernelI.main (F := Bits))) ⟨m, fun _ => 0, g⟩ (fun r => (∀ c : Dev Cert.KernelI.nD,
      r.2.mem ((c.tc : Thread Cert.KernelI.nD Cert.KernelI.τ).loc Cert.KernelI.main_arg0) = m ((c.tc : Thread Cert.KernelI.nD Cert.KernelI.τ).loc Cert.KernelI.main_arg0)
      ∧ r.2.mem ((c.tc : Thread Cert.KernelI.nD Cert.KernelI.τ).loc Cert.KernelI.main_arg1) = m ((c.tc : Thread Cert.KernelI.nD Cert.KernelI.τ).loc Cert.KernelI.main_arg1))
      ∧ r.2.sem = fun _ => 0)

def quiescent_KernelIIdeal [hKernelIIdeal : Cert.KernelIIdeal.Facts] : Prop :=
  ∀ (m : (ℓ : Loc Cert.KernelIIdeal.nD Cert.KernelIIdeal.τ Cert.KernelIIdeal.sig) → Buf (Elt Ideal) ℓ) (g : Dev Cert.KernelIIdeal.nD → PrngReg), Pre_KernelIIdeal m →
    θ_run (Cert.KernelIIdeal.defs (F := Ideal)) (onTc (τ := Cert.KernelIIdeal.τ) (Cert.KernelIIdeal.main (F := Ideal))) ⟨m, fun _ => 0, g⟩ (fun r => (∀ c : Dev Cert.KernelIIdeal.nD,
      r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
      ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1))
      ∧ r.2.sem = fun _ => 0)

def quiescent_ReferenceIIdeal [hReferenceIIdeal : Cert.ReferenceIIdeal.Facts] : Prop :=
  ∀ (m : (ℓ : Loc Cert.ReferenceIIdeal.nD Cert.ReferenceIIdeal.τ Cert.ReferenceIIdeal.sig) → Buf (Elt Ideal) ℓ) (g : Dev Cert.ReferenceIIdeal.nD → PrngReg), Pre_ReferenceIIdeal m →
    θ_run (Cert.ReferenceIIdeal.defs (F := Ideal)) (onTc (τ := Cert.ReferenceIIdeal.τ) (Cert.ReferenceIIdeal.main (F := Ideal))) ⟨m, fun _ => 0, g⟩ (fun r => (∀ c : Dev Cert.ReferenceIIdeal.nD,
      r.2.mem ((c.tc : Thread Cert.ReferenceIIdeal.nD Cert.ReferenceIIdeal.τ).loc Cert.ReferenceIIdeal.main_arg0) = m ((c.tc : Thread Cert.ReferenceIIdeal.nD Cert.ReferenceIIdeal.τ).loc Cert.ReferenceIIdeal.main_arg0)
      ∧ r.2.mem ((c.tc : Thread Cert.ReferenceIIdeal.nD Cert.ReferenceIIdeal.τ).loc Cert.ReferenceIIdeal.main_arg1) = m ((c.tc : Thread Cert.ReferenceIIdeal.nD Cert.ReferenceIIdeal.τ).loc Cert.ReferenceIIdeal.main_arg1))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2))
      ∧ r.2.sem = fun _ => 0)

def quiescent_KernelJ [hKernelJ : Cert.KernelJ.Facts] : Prop :=
  ∀ (m : (ℓ : Loc Cert.KernelJ.nD Cert.KernelJ.τ Cert.KernelJ.sig) → Buf (Elt Bits) ℓ) (g : Dev Cert.KernelJ.nD → PrngReg), Pre_KernelJ m →
    θ_run (Cert.KernelJ.defs (F := Bits)) (onTc (τ := Cert.KernelJ.τ) (Cert.KernelJ.main (F := Bits))) ⟨m, fun _ => 0, g⟩ (fun r => (∀ c : Dev Cert.KernelJ.nD,
      r.2.mem ((c.tc : Thread Cert.KernelJ.nD Cert.KernelJ.τ).loc Cert.KernelJ.main_arg0) = m ((c.tc : Thread Cert.KernelJ.nD Cert.KernelJ.τ).loc Cert.KernelJ.main_arg0)
      ∧ r.2.mem ((c.tc : Thread Cert.KernelJ.nD Cert.KernelJ.τ).loc Cert.KernelJ.main_arg1) = m ((c.tc : Thread Cert.KernelJ.nD Cert.KernelJ.τ).loc Cert.KernelJ.main_arg1)
      ∧ r.2.mem ((c.tc : Thread Cert.KernelJ.nD Cert.KernelJ.τ).loc Cert.KernelJ.main_arg2) = m ((c.tc : Thread Cert.KernelJ.nD Cert.KernelJ.τ).loc Cert.KernelJ.main_arg2))
      ∧ r.2.sem = fun _ => 0)

def quiescent_KernelJIdeal [hKernelJIdeal : Cert.KernelJIdeal.Facts] : Prop :=
  ∀ (m : (ℓ : Loc Cert.KernelJIdeal.nD Cert.KernelJIdeal.τ Cert.KernelJIdeal.sig) → Buf (Elt Ideal) ℓ) (g : Dev Cert.KernelJIdeal.nD → PrngReg), Pre_KernelJIdeal m →
    θ_run (Cert.KernelJIdeal.defs (F := Ideal)) (onTc (τ := Cert.KernelJIdeal.τ) (Cert.KernelJIdeal.main (F := Ideal))) ⟨m, fun _ => 0, g⟩ (fun r => (∀ c : Dev Cert.KernelJIdeal.nD,
      r.2.mem ((c.tc : Thread Cert.KernelJIdeal.nD Cert.KernelJIdeal.τ).loc Cert.KernelJIdeal.main_arg0) = m ((c.tc : Thread Cert.KernelJIdeal.nD Cert.KernelJIdeal.τ).loc Cert.KernelJIdeal.main_arg0)
      ∧ r.2.mem ((c.tc : Thread Cert.KernelJIdeal.nD Cert.KernelJIdeal.τ).loc Cert.KernelJIdeal.main_arg1) = m ((c.tc : Thread Cert.KernelJIdeal.nD Cert.KernelJIdeal.τ).loc Cert.KernelJIdeal.main_arg1)
      ∧ r.2.mem ((c.tc : Thread Cert.KernelJIdeal.nD Cert.KernelJIdeal.τ).loc Cert.KernelJIdeal.main_arg2) = m ((c.tc : Thread Cert.KernelJIdeal.nD Cert.KernelJIdeal.τ).loc Cert.KernelJIdeal.main_arg2))
      ∧ r.2.sem = fun _ => 0)

def quiescent_ReferenceJIdeal [hReferenceJIdeal : Cert.ReferenceJIdeal.Facts] : Prop :=
  ∀ (m : (ℓ : Loc Cert.ReferenceJIdeal.nD Cert.ReferenceJIdeal.τ Cert.ReferenceJIdeal.sig) → Buf (Elt Ideal) ℓ) (g : Dev Cert.ReferenceJIdeal.nD → PrngReg), Pre_ReferenceJIdeal m →
    θ_run (Cert.ReferenceJIdeal.defs (F := Ideal)) (onTc (τ := Cert.ReferenceJIdeal.τ) (Cert.ReferenceJIdeal.main (F := Ideal))) ⟨m, fun _ => 0, g⟩ (fun r => (∀ c : Dev Cert.ReferenceJIdeal.nD,
      r.2.mem ((c.tc : Thread Cert.ReferenceJIdeal.nD Cert.ReferenceJIdeal.τ).loc Cert.ReferenceJIdeal.main_arg0) = m ((c.tc : Thread Cert.ReferenceJIdeal.nD Cert.ReferenceJIdeal.τ).loc Cert.ReferenceJIdeal.main_arg0)
      ∧ r.2.mem ((c.tc : Thread Cert.ReferenceJIdeal.nD Cert.ReferenceJIdeal.τ).loc Cert.ReferenceJIdeal.main_arg1) = m ((c.tc : Thread Cert.ReferenceJIdeal.nD Cert.ReferenceJIdeal.τ).loc Cert.ReferenceJIdeal.main_arg1)
      ∧ r.2.mem ((c.tc : Thread Cert.ReferenceJIdeal.nD Cert.ReferenceJIdeal.τ).loc Cert.ReferenceJIdeal.main_arg2) = m ((c.tc : Thread Cert.ReferenceJIdeal.nD Cert.ReferenceJIdeal.τ).loc Cert.ReferenceJIdeal.main_arg2))
      ∧ r.2.sem = fun _ => 0)

def preserves_KernelX_KernelXIdeal : Prop :=
  True

def algebraic_KernelXIdeal_ReferenceXIdeal [hKernelXIdeal : Cert.KernelXIdeal.Facts] [hReferenceXIdeal : Cert.ReferenceXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)
      ∧ m' ((c.tc : Thread Cert.ReferenceXIdeal.nD Cert.ReferenceXIdeal.τ).loc Cert.ReferenceXIdeal.main_arg2) = m ((c.tc : Thread Cert.KernelXIdeal.nD Cert.KernelXIdeal.τ).loc Cert.KernelXIdeal.main_arg2)
      ∧ m' ((c.tc : Thread Cert.ReferenceXIdeal.nD Cert.ReferenceXIdeal.τ).loc Cert.ReferenceXIdeal.main_arg3) = m ((c.tc : Thread Cert.KernelXIdeal.nD Cert.KernelXIdeal.τ).loc Cert.KernelXIdeal.main_arg3)) →
    ∃ (v0 : (c : Dev Cert.KernelXIdeal.nD) → Buf (Elt Ideal) ((c.tc : Thread Cert.KernelXIdeal.nD Cert.KernelXIdeal.τ).loc Cert.KernelXIdeal.main_v1_0)) (v1 : (c : Dev Cert.KernelXIdeal.nD) → Buf (Elt Ideal) ((c.tc : Thread Cert.KernelXIdeal.nD Cert.KernelXIdeal.τ).loc Cert.KernelXIdeal.main_v1_1)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v1_0) = v0 c
          ∧ r.2.mem ((c.tc : Thread Cert.KernelXIdeal.nD Cert.KernelXIdeal.τ).loc Cert.KernelXIdeal.main_v1_1) = v1 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
          ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
          ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v44) = v0 c
          ∧ r.2.mem ((c.tc : Thread Cert.ReferenceXIdeal.nD Cert.ReferenceXIdeal.τ).loc Cert.ReferenceXIdeal.main_v45) = v1 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1)
          ∧ r.2.mem ((c.tc : Thread Cert.ReferenceXIdeal.nD Cert.ReferenceXIdeal.τ).loc Cert.ReferenceXIdeal.main_arg2) = m' ((c.tc : Thread Cert.ReferenceXIdeal.nD Cert.ReferenceXIdeal.τ).loc Cert.ReferenceXIdeal.main_arg2)
          ∧ r.2.mem ((c.tc : Thread Cert.ReferenceXIdeal.nD Cert.ReferenceXIdeal.τ).loc Cert.ReferenceXIdeal.main_arg3) = m' ((c.tc : Thread Cert.ReferenceXIdeal.nD Cert.ReferenceXIdeal.τ).loc Cert.ReferenceXIdeal.main_arg3))

def preserves_KernelT_KernelTIdeal : Prop :=
  True

def algebraic_KernelTIdeal_ReferenceTIdeal [hKernelTIdeal : Cert.KernelTIdeal.Facts] [hReferenceTIdeal : Cert.ReferenceTIdeal.Facts] : Prop :=
  ∀ (m : (ℓ : Loc Cert.KernelTIdeal.nD Cert.KernelTIdeal.τ Cert.KernelTIdeal.sig) → Buf (Elt Ideal) ℓ) (g : Dev Cert.KernelTIdeal.nD → PrngReg)
    (m' : (ℓ : Loc Cert.ReferenceTIdeal.nD Cert.ReferenceTIdeal.τ Cert.ReferenceTIdeal.sig) → Buf (Elt Ideal) ℓ) (g' : Dev Cert.ReferenceTIdeal.nD → PrngReg), Pre_KernelTIdeal m →
    (∀ c : Dev Cert.KernelTIdeal.nD,
      m' ((c.tc : Thread Cert.ReferenceTIdeal.nD Cert.ReferenceTIdeal.τ).loc Cert.ReferenceTIdeal.main_arg0) = m ((c.tc : Thread Cert.KernelTIdeal.nD Cert.KernelTIdeal.τ).loc Cert.KernelTIdeal.main_arg0)
      ∧ m' ((c.tc : Thread Cert.ReferenceTIdeal.nD Cert.ReferenceTIdeal.τ).loc Cert.ReferenceTIdeal.main_arg1) = m ((c.tc : Thread Cert.KernelTIdeal.nD Cert.KernelTIdeal.τ).loc Cert.KernelTIdeal.main_arg1)
      ∧ m' ((c.tc : Thread Cert.ReferenceTIdeal.nD Cert.ReferenceTIdeal.τ).loc Cert.ReferenceTIdeal.main_arg2) = m ((c.tc : Thread Cert.KernelTIdeal.nD Cert.KernelTIdeal.τ).loc Cert.KernelTIdeal.main_arg2)
      ∧ m' ((c.tc : Thread Cert.ReferenceTIdeal.nD Cert.ReferenceTIdeal.τ).loc Cert.ReferenceTIdeal.main_arg3) = m ((c.tc : Thread Cert.KernelTIdeal.nD Cert.KernelTIdeal.τ).loc Cert.KernelTIdeal.main_arg3)
      ∧ m' ((c.tc : Thread Cert.ReferenceTIdeal.nD Cert.ReferenceTIdeal.τ).loc Cert.ReferenceTIdeal.main_arg4) = m ((c.tc : Thread Cert.KernelTIdeal.nD Cert.KernelTIdeal.τ).loc Cert.KernelTIdeal.main_arg4)
      ∧ m' ((c.tc : Thread Cert.ReferenceTIdeal.nD Cert.ReferenceTIdeal.τ).loc Cert.ReferenceTIdeal.main_arg5) = m ((c.tc : Thread Cert.KernelTIdeal.nD Cert.KernelTIdeal.τ).loc Cert.KernelTIdeal.main_arg5)
      ∧ m' ((c.tc : Thread Cert.ReferenceTIdeal.nD Cert.ReferenceTIdeal.τ).loc Cert.ReferenceTIdeal.main_arg6) = m ((c.tc : Thread Cert.KernelTIdeal.nD Cert.KernelTIdeal.τ).loc Cert.KernelTIdeal.main_arg6)
      ∧ m' ((c.tc : Thread Cert.ReferenceTIdeal.nD Cert.ReferenceTIdeal.τ).loc Cert.ReferenceTIdeal.main_arg7) = m ((c.tc : Thread Cert.KernelTIdeal.nD Cert.KernelTIdeal.τ).loc Cert.KernelTIdeal.main_arg7)
      ∧ m' ((c.tc : Thread Cert.ReferenceTIdeal.nD Cert.ReferenceTIdeal.τ).loc Cert.ReferenceTIdeal.main_arg8) = m ((c.tc : Thread Cert.KernelTIdeal.nD Cert.KernelTIdeal.τ).loc Cert.KernelTIdeal.main_arg8)
      ∧ m' ((c.tc : Thread Cert.ReferenceTIdeal.nD Cert.ReferenceTIdeal.τ).loc Cert.ReferenceTIdeal.main_arg9) = m ((c.tc : Thread Cert.KernelTIdeal.nD Cert.KernelTIdeal.τ).loc Cert.KernelTIdeal.main_arg9)) →
    ∃ (v0 : (c : Dev Cert.KernelTIdeal.nD) → Buf (Elt Ideal) ((c.tc : Thread Cert.KernelTIdeal.nD Cert.KernelTIdeal.τ).loc Cert.KernelTIdeal.main_v10_0)) (v1 : (c : Dev Cert.KernelTIdeal.nD) → Buf (Elt Ideal) ((c.tc : Thread Cert.KernelTIdeal.nD Cert.KernelTIdeal.τ).loc Cert.KernelTIdeal.main_v10_1)) (v2 : (c : Dev Cert.KernelTIdeal.nD) → Buf (Elt Ideal) ((c.tc : Thread Cert.KernelTIdeal.nD Cert.KernelTIdeal.τ).loc Cert.KernelTIdeal.main_v10_2)) (v3 : (c : Dev Cert.KernelTIdeal.nD) → Buf (Elt Ideal) ((c.tc : Thread Cert.KernelTIdeal.nD Cert.KernelTIdeal.τ).loc Cert.KernelTIdeal.main_v10_3)) (v4 : (c : Dev Cert.KernelTIdeal.nD) → Buf (Elt Ideal) ((c.tc : Thread Cert.KernelTIdeal.nD Cert.KernelTIdeal.τ).loc Cert.KernelTIdeal.main_v10_4)) (v5 : (c : Dev Cert.KernelTIdeal.nD) → Buf (Elt Ideal) ((c.tc : Thread Cert.KernelTIdeal.nD Cert.KernelTIdeal.τ).loc Cert.KernelTIdeal.main_v10_5)) (v6 : (c : Dev Cert.KernelTIdeal.nD) → Buf (Elt Ideal) ((c.tc : Thread Cert.KernelTIdeal.nD Cert.KernelTIdeal.τ).loc Cert.KernelTIdeal.main_v10_6)) (v7 : (c : Dev Cert.KernelTIdeal.nD) → Buf (Elt Ideal) ((c.tc : Thread Cert.KernelTIdeal.nD Cert.KernelTIdeal.τ).loc Cert.KernelTIdeal.main_v10_7)),
      θ_run (Cert.KernelTIdeal.defs (F := Ideal)) (onTc (τ := Cert.KernelTIdeal.τ) (Cert.KernelTIdeal.main (F := Ideal))) ⟨m, fun _ => 0, g⟩ (fun r => ∀ c : Dev Cert.KernelTIdeal.nD,
          r.2.mem ((c.tc : Thread Cert.KernelTIdeal.nD Cert.KernelTIdeal.τ).loc Cert.KernelTIdeal.main_v10_0) = v0 c
          ∧ r.2.mem ((c.tc : Thread Cert.KernelTIdeal.nD Cert.KernelTIdeal.τ).loc Cert.KernelTIdeal.main_v10_1) = v1 c
          ∧ r.2.mem ((c.tc : Thread Cert.KernelTIdeal.nD Cert.KernelTIdeal.τ).loc Cert.KernelTIdeal.main_v10_2) = v2 c
          ∧ r.2.mem ((c.tc : Thread Cert.KernelTIdeal.nD Cert.KernelTIdeal.τ).loc Cert.KernelTIdeal.main_v10_3) = v3 c
          ∧ r.2.mem ((c.tc : Thread Cert.KernelTIdeal.nD Cert.KernelTIdeal.τ).loc Cert.KernelTIdeal.main_v10_4) = v4 c
          ∧ r.2.mem ((c.tc : Thread Cert.KernelTIdeal.nD Cert.KernelTIdeal.τ).loc Cert.KernelTIdeal.main_v10_5) = v5 c
          ∧ r.2.mem ((c.tc : Thread Cert.KernelTIdeal.nD Cert.KernelTIdeal.τ).loc Cert.KernelTIdeal.main_v10_6) = v6 c
          ∧ r.2.mem ((c.tc : Thread Cert.KernelTIdeal.nD Cert.KernelTIdeal.τ).loc Cert.KernelTIdeal.main_v10_7) = v7 c
          ∧ r.2.mem ((c.tc : Thread Cert.KernelTIdeal.nD Cert.KernelTIdeal.τ).loc Cert.KernelTIdeal.main_arg0) = m ((c.tc : Thread Cert.KernelTIdeal.nD Cert.KernelTIdeal.τ).loc Cert.KernelTIdeal.main_arg0)
          ∧ r.2.mem ((c.tc : Thread Cert.KernelTIdeal.nD Cert.KernelTIdeal.τ).loc Cert.KernelTIdeal.main_arg1) = m ((c.tc : Thread Cert.KernelTIdeal.nD Cert.KernelTIdeal.τ).loc Cert.KernelTIdeal.main_arg1)
          ∧ r.2.mem ((c.tc : Thread Cert.KernelTIdeal.nD Cert.KernelTIdeal.τ).loc Cert.KernelTIdeal.main_arg2) = m ((c.tc : Thread Cert.KernelTIdeal.nD Cert.KernelTIdeal.τ).loc Cert.KernelTIdeal.main_arg2)
          ∧ r.2.mem ((c.tc : Thread Cert.KernelTIdeal.nD Cert.KernelTIdeal.τ).loc Cert.KernelTIdeal.main_arg3) = m ((c.tc : Thread Cert.KernelTIdeal.nD Cert.KernelTIdeal.τ).loc Cert.KernelTIdeal.main_arg3)
          ∧ r.2.mem ((c.tc : Thread Cert.KernelTIdeal.nD Cert.KernelTIdeal.τ).loc Cert.KernelTIdeal.main_arg4) = m ((c.tc : Thread Cert.KernelTIdeal.nD Cert.KernelTIdeal.τ).loc Cert.KernelTIdeal.main_arg4)
          ∧ r.2.mem ((c.tc : Thread Cert.KernelTIdeal.nD Cert.KernelTIdeal.τ).loc Cert.KernelTIdeal.main_arg5) = m ((c.tc : Thread Cert.KernelTIdeal.nD Cert.KernelTIdeal.τ).loc Cert.KernelTIdeal.main_arg5)
          ∧ r.2.mem ((c.tc : Thread Cert.KernelTIdeal.nD Cert.KernelTIdeal.τ).loc Cert.KernelTIdeal.main_arg6) = m ((c.tc : Thread Cert.KernelTIdeal.nD Cert.KernelTIdeal.τ).loc Cert.KernelTIdeal.main_arg6)
          ∧ r.2.mem ((c.tc : Thread Cert.KernelTIdeal.nD Cert.KernelTIdeal.τ).loc Cert.KernelTIdeal.main_arg7) = m ((c.tc : Thread Cert.KernelTIdeal.nD Cert.KernelTIdeal.τ).loc Cert.KernelTIdeal.main_arg7)
          ∧ r.2.mem ((c.tc : Thread Cert.KernelTIdeal.nD Cert.KernelTIdeal.τ).loc Cert.KernelTIdeal.main_arg8) = m ((c.tc : Thread Cert.KernelTIdeal.nD Cert.KernelTIdeal.τ).loc Cert.KernelTIdeal.main_arg8)
          ∧ r.2.mem ((c.tc : Thread Cert.KernelTIdeal.nD Cert.KernelTIdeal.τ).loc Cert.KernelTIdeal.main_arg9) = m ((c.tc : Thread Cert.KernelTIdeal.nD Cert.KernelTIdeal.τ).loc Cert.KernelTIdeal.main_arg9))
      ∧ θ_run (Cert.ReferenceTIdeal.defs (F := Ideal)) (onTc (τ := Cert.ReferenceTIdeal.τ) (Cert.ReferenceTIdeal.main (F := Ideal))) ⟨m', fun _ => 0, g'⟩ (fun r => ∀ c : Dev Cert.ReferenceTIdeal.nD,
          r.2.mem ((c.tc : Thread Cert.ReferenceTIdeal.nD Cert.ReferenceTIdeal.τ).loc Cert.ReferenceTIdeal.main_v121) = v0 c
          ∧ r.2.mem ((c.tc : Thread Cert.ReferenceTIdeal.nD Cert.ReferenceTIdeal.τ).loc Cert.ReferenceTIdeal.main_v122) = v1 c
          ∧ r.2.mem ((c.tc : Thread Cert.ReferenceTIdeal.nD Cert.ReferenceTIdeal.τ).loc Cert.ReferenceTIdeal.main_v129) = v2 c
          ∧ r.2.mem ((c.tc : Thread Cert.ReferenceTIdeal.nD Cert.ReferenceTIdeal.τ).loc Cert.ReferenceTIdeal.main_v131) = v3 c
          ∧ r.2.mem ((c.tc : Thread Cert.ReferenceTIdeal.nD Cert.ReferenceTIdeal.τ).loc Cert.ReferenceTIdeal.main_v133) = v4 c
          ∧ r.2.mem ((c.tc : Thread Cert.ReferenceTIdeal.nD Cert.ReferenceTIdeal.τ).loc Cert.ReferenceTIdeal.main_v135) = v5 c
          ∧ r.2.mem ((c.tc : Thread Cert.ReferenceTIdeal.nD Cert.ReferenceTIdeal.τ).loc Cert.ReferenceTIdeal.main_v137) = v6 c
          ∧ r.2.mem ((c.tc : Thread Cert.ReferenceTIdeal.nD Cert.ReferenceTIdeal.τ).loc Cert.ReferenceTIdeal.main_v138) = v7 c
          ∧ r.2.mem ((c.tc : Thread Cert.ReferenceTIdeal.nD Cert.ReferenceTIdeal.τ).loc Cert.ReferenceTIdeal.main_arg0) = m' ((c.tc : Thread Cert.ReferenceTIdeal.nD Cert.ReferenceTIdeal.τ).loc Cert.ReferenceTIdeal.main_arg0)
          ∧ r.2.mem ((c.tc : Thread Cert.ReferenceTIdeal.nD Cert.ReferenceTIdeal.τ).loc Cert.ReferenceTIdeal.main_arg1) = m' ((c.tc : Thread Cert.ReferenceTIdeal.nD Cert.ReferenceTIdeal.τ).loc Cert.ReferenceTIdeal.main_arg1)
          ∧ r.2.mem ((c.tc : Thread Cert.ReferenceTIdeal.nD Cert.ReferenceTIdeal.τ).loc Cert.ReferenceTIdeal.main_arg2) = m' ((c.tc : Thread Cert.ReferenceTIdeal.nD Cert.ReferenceTIdeal.τ).loc Cert.ReferenceTIdeal.main_arg2)
          ∧ r.2.mem ((c.tc : Thread Cert.ReferenceTIdeal.nD Cert.ReferenceTIdeal.τ).loc Cert.ReferenceTIdeal.main_arg3) = m' ((c.tc : Thread Cert.ReferenceTIdeal.nD Cert.ReferenceTIdeal.τ).loc Cert.ReferenceTIdeal.main_arg3)
          ∧ r.2.mem ((c.tc : Thread Cert.ReferenceTIdeal.nD Cert.ReferenceTIdeal.τ).loc Cert.ReferenceTIdeal.main_arg4) = m' ((c.tc : Thread Cert.ReferenceTIdeal.nD Cert.ReferenceTIdeal.τ).loc Cert.ReferenceTIdeal.main_arg4)
          ∧ r.2.mem ((c.tc : Thread Cert.ReferenceTIdeal.nD Cert.ReferenceTIdeal.τ).loc Cert.ReferenceTIdeal.main_arg5) = m' ((c.tc : Thread Cert.ReferenceTIdeal.nD Cert.ReferenceTIdeal.τ).loc Cert.ReferenceTIdeal.main_arg5)
          ∧ r.2.mem ((c.tc : Thread Cert.ReferenceTIdeal.nD Cert.ReferenceTIdeal.τ).loc Cert.ReferenceTIdeal.main_arg6) = m' ((c.tc : Thread Cert.ReferenceTIdeal.nD Cert.ReferenceTIdeal.τ).loc Cert.ReferenceTIdeal.main_arg6)
          ∧ r.2.mem ((c.tc : Thread Cert.ReferenceTIdeal.nD Cert.ReferenceTIdeal.τ).loc Cert.ReferenceTIdeal.main_arg7) = m' ((c.tc : Thread Cert.ReferenceTIdeal.nD Cert.ReferenceTIdeal.τ).loc Cert.ReferenceTIdeal.main_arg7)
          ∧ r.2.mem ((c.tc : Thread Cert.ReferenceTIdeal.nD Cert.ReferenceTIdeal.τ).loc Cert.ReferenceTIdeal.main_arg8) = m' ((c.tc : Thread Cert.ReferenceTIdeal.nD Cert.ReferenceTIdeal.τ).loc Cert.ReferenceTIdeal.main_arg8)
          ∧ r.2.mem ((c.tc : Thread Cert.ReferenceTIdeal.nD Cert.ReferenceTIdeal.τ).loc Cert.ReferenceTIdeal.main_arg9) = m' ((c.tc : Thread Cert.ReferenceTIdeal.nD Cert.ReferenceTIdeal.τ).loc Cert.ReferenceTIdeal.main_arg9))

def preserves_KernelF_KernelFIdeal : Prop :=
  True

def algebraic_KernelFIdeal_ReferenceFIdeal_pre_logits_finite [hKernelFIdeal : Cert.KernelFIdeal.Facts] [hReferenceFIdeal : Cert.ReferenceFIdeal.Facts] [hPre_logits_finite : Cert.Pre_logits_finite.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal_logits_finite m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)) →
    ∃ (v0 : (c : Dev Cert.KernelFIdeal.nD) → Buf (Elt Ideal) ((c.tc : Thread Cert.KernelFIdeal.nD Cert.KernelFIdeal.τ).loc Cert.KernelFIdeal.main_v1_0)) (v1 : (c : Dev Cert.KernelFIdeal.nD) → Buf (Elt Ideal) ((c.tc : Thread Cert.KernelFIdeal.nD Cert.KernelFIdeal.τ).loc Cert.KernelFIdeal.main_v1_1)) (v2 : (c : Dev Cert.KernelFIdeal.nD) → Buf (Elt Ideal) ((c.tc : Thread Cert.KernelFIdeal.nD Cert.KernelFIdeal.τ).loc Cert.KernelFIdeal.main_v1_2)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v1_0) = v0 c
          ∧ r.2.mem ((c.tc : Thread Cert.KernelFIdeal.nD Cert.KernelFIdeal.τ).loc Cert.KernelFIdeal.main_v1_1) = v1 c
          ∧ r.2.mem ((c.tc : Thread Cert.KernelFIdeal.nD Cert.KernelFIdeal.τ).loc Cert.KernelFIdeal.main_v1_2) = v2 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v79) = v0 c
          ∧ r.2.mem ((c.tc : Thread Cert.ReferenceFIdeal.nD Cert.ReferenceFIdeal.τ).loc Cert.ReferenceFIdeal.main_v81) = v1 c
          ∧ r.2.mem ((c.tc : Thread Cert.ReferenceFIdeal.nD Cert.ReferenceFIdeal.τ).loc Cert.ReferenceFIdeal.main_v83) = v2 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2))

def preserves_KernelL_KernelLIdeal : Prop :=
  True

def algebraic_KernelLIdeal_ReferenceLIdeal_pre_logits_and_cotangent_finite [hKernelLIdeal : Cert.KernelLIdeal.Facts] [hReferenceLIdeal : Cert.ReferenceLIdeal.Facts] [hPre_logits_and_cotangent_finite : Cert.Pre_logits_and_cotangent_finite.Facts] : Prop :=
  ∀ (m : (ℓ : Loc Cert.KernelLIdeal.nD Cert.KernelLIdeal.τ Cert.KernelLIdeal.sig) → Buf (Elt Ideal) ℓ) (g : Dev Cert.KernelLIdeal.nD → PrngReg)
    (m' : (ℓ : Loc Cert.ReferenceLIdeal.nD Cert.ReferenceLIdeal.τ Cert.ReferenceLIdeal.sig) → Buf (Elt Ideal) ℓ) (g' : Dev Cert.ReferenceLIdeal.nD → PrngReg), Pre_KernelLIdeal_logits_and_cotangent_finite m →
    (∀ c : Dev Cert.KernelLIdeal.nD,
      m' ((c.tc : Thread Cert.ReferenceLIdeal.nD Cert.ReferenceLIdeal.τ).loc Cert.ReferenceLIdeal.main_arg0) = m ((c.tc : Thread Cert.KernelLIdeal.nD Cert.KernelLIdeal.τ).loc Cert.KernelLIdeal.main_arg0)
      ∧ m' ((c.tc : Thread Cert.ReferenceLIdeal.nD Cert.ReferenceLIdeal.τ).loc Cert.ReferenceLIdeal.main_arg1) = m ((c.tc : Thread Cert.KernelLIdeal.nD Cert.KernelLIdeal.τ).loc Cert.KernelLIdeal.main_arg1)
      ∧ m' ((c.tc : Thread Cert.ReferenceLIdeal.nD Cert.ReferenceLIdeal.τ).loc Cert.ReferenceLIdeal.main_arg2) = m ((c.tc : Thread Cert.KernelLIdeal.nD Cert.KernelLIdeal.τ).loc Cert.KernelLIdeal.main_arg2)
      ∧ m' ((c.tc : Thread Cert.ReferenceLIdeal.nD Cert.ReferenceLIdeal.τ).loc Cert.ReferenceLIdeal.main_arg3) = m ((c.tc : Thread Cert.KernelLIdeal.nD Cert.KernelLIdeal.τ).loc Cert.KernelLIdeal.main_arg3)
      ∧ m' ((c.tc : Thread Cert.ReferenceLIdeal.nD Cert.ReferenceLIdeal.τ).loc Cert.ReferenceLIdeal.main_arg4) = m ((c.tc : Thread Cert.KernelLIdeal.nD Cert.KernelLIdeal.τ).loc Cert.KernelLIdeal.main_arg4)
      ∧ m' ((c.tc : Thread Cert.ReferenceLIdeal.nD Cert.ReferenceLIdeal.τ).loc Cert.ReferenceLIdeal.main_arg5) = m ((c.tc : Thread Cert.KernelLIdeal.nD Cert.KernelLIdeal.τ).loc Cert.KernelLIdeal.main_arg5)
      ∧ m' ((c.tc : Thread Cert.ReferenceLIdeal.nD Cert.ReferenceLIdeal.τ).loc Cert.ReferenceLIdeal.main_arg6) = m ((c.tc : Thread Cert.KernelLIdeal.nD Cert.KernelLIdeal.τ).loc Cert.KernelLIdeal.main_arg6)
      ∧ m' ((c.tc : Thread Cert.ReferenceLIdeal.nD Cert.ReferenceLIdeal.τ).loc Cert.ReferenceLIdeal.main_arg7) = m ((c.tc : Thread Cert.KernelLIdeal.nD Cert.KernelLIdeal.τ).loc Cert.KernelLIdeal.main_arg7)) →
    ∃ (v0 : (c : Dev Cert.KernelLIdeal.nD) → Buf (Elt Ideal) ((c.tc : Thread Cert.KernelLIdeal.nD Cert.KernelLIdeal.τ).loc Cert.KernelLIdeal.main_v8_0)) (v1 : (c : Dev Cert.KernelLIdeal.nD) → Buf (Elt Ideal) ((c.tc : Thread Cert.KernelLIdeal.nD Cert.KernelLIdeal.τ).loc Cert.KernelLIdeal.main_v8_1)) (v2 : (c : Dev Cert.KernelLIdeal.nD) → Buf (Elt Ideal) ((c.tc : Thread Cert.KernelLIdeal.nD Cert.KernelLIdeal.τ).loc Cert.KernelLIdeal.main_v8_2)) (v3 : (c : Dev Cert.KernelLIdeal.nD) → Buf (Elt Ideal) ((c.tc : Thread Cert.KernelLIdeal.nD Cert.KernelLIdeal.τ).loc Cert.KernelLIdeal.main_v8_3)) (v4 : (c : Dev Cert.KernelLIdeal.nD) → Buf (Elt Ideal) ((c.tc : Thread Cert.KernelLIdeal.nD Cert.KernelLIdeal.τ).loc Cert.KernelLIdeal.main_v8_4)) (v5 : (c : Dev Cert.KernelLIdeal.nD) → Buf (Elt Ideal) ((c.tc : Thread Cert.KernelLIdeal.nD Cert.KernelLIdeal.τ).loc Cert.KernelLIdeal.main_v8_5)) (v6 : (c : Dev Cert.KernelLIdeal.nD) → Buf (Elt Ideal) ((c.tc : Thread Cert.KernelLIdeal.nD Cert.KernelLIdeal.τ).loc Cert.KernelLIdeal.main_v8_6)) (v7 : (c : Dev Cert.KernelLIdeal.nD) → Buf (Elt Ideal) ((c.tc : Thread Cert.KernelLIdeal.nD Cert.KernelLIdeal.τ).loc Cert.KernelLIdeal.main_v8_7)),
      θ_run (Cert.KernelLIdeal.defs (F := Ideal)) (onTc (τ := Cert.KernelLIdeal.τ) (Cert.KernelLIdeal.main (F := Ideal))) ⟨m, fun _ => 0, g⟩ (fun r => ∀ c : Dev Cert.KernelLIdeal.nD,
          r.2.mem ((c.tc : Thread Cert.KernelLIdeal.nD Cert.KernelLIdeal.τ).loc Cert.KernelLIdeal.main_v8_0) = v0 c
          ∧ r.2.mem ((c.tc : Thread Cert.KernelLIdeal.nD Cert.KernelLIdeal.τ).loc Cert.KernelLIdeal.main_v8_1) = v1 c
          ∧ r.2.mem ((c.tc : Thread Cert.KernelLIdeal.nD Cert.KernelLIdeal.τ).loc Cert.KernelLIdeal.main_v8_2) = v2 c
          ∧ r.2.mem ((c.tc : Thread Cert.KernelLIdeal.nD Cert.KernelLIdeal.τ).loc Cert.KernelLIdeal.main_v8_3) = v3 c
          ∧ r.2.mem ((c.tc : Thread Cert.KernelLIdeal.nD Cert.KernelLIdeal.τ).loc Cert.KernelLIdeal.main_v8_4) = v4 c
          ∧ r.2.mem ((c.tc : Thread Cert.KernelLIdeal.nD Cert.KernelLIdeal.τ).loc Cert.KernelLIdeal.main_v8_5) = v5 c
          ∧ r.2.mem ((c.tc : Thread Cert.KernelLIdeal.nD Cert.KernelLIdeal.τ).loc Cert.KernelLIdeal.main_v8_6) = v6 c
          ∧ r.2.mem ((c.tc : Thread Cert.KernelLIdeal.nD Cert.KernelLIdeal.τ).loc Cert.KernelLIdeal.main_v8_7) = v7 c
          ∧ r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
          ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
          ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
          ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
          ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4)
          ∧ r.2.mem ((c.tc : Thread Cert.KernelLIdeal.nD Cert.KernelLIdeal.τ).loc Cert.KernelLIdeal.main_arg5) = m ((c.tc : Thread Cert.KernelLIdeal.nD Cert.KernelLIdeal.τ).loc Cert.KernelLIdeal.main_arg5)
          ∧ r.2.mem ((c.tc : Thread Cert.KernelLIdeal.nD Cert.KernelLIdeal.τ).loc Cert.KernelLIdeal.main_arg6) = m ((c.tc : Thread Cert.KernelLIdeal.nD Cert.KernelLIdeal.τ).loc Cert.KernelLIdeal.main_arg6)
          ∧ r.2.mem ((c.tc : Thread Cert.KernelLIdeal.nD Cert.KernelLIdeal.τ).loc Cert.KernelLIdeal.main_arg7) = m ((c.tc : Thread Cert.KernelLIdeal.nD Cert.KernelLIdeal.τ).loc Cert.KernelLIdeal.main_arg7))
      ∧ θ_run (Cert.ReferenceLIdeal.defs (F := Ideal)) (onTc (τ := Cert.ReferenceLIdeal.τ) (Cert.ReferenceLIdeal.main (F := Ideal))) ⟨m', fun _ => 0, g'⟩ (fun r => ∀ c : Dev Cert.ReferenceLIdeal.nD,
          r.2.mem ((c.tc : Thread Cert.ReferenceLIdeal.nD Cert.ReferenceLIdeal.τ).loc Cert.ReferenceLIdeal.main_v45) = v0 c
          ∧ r.2.mem ((c.tc : Thread Cert.ReferenceLIdeal.nD Cert.ReferenceLIdeal.τ).loc Cert.ReferenceLIdeal.main_v69) = v1 c
          ∧ r.2.mem ((c.tc : Thread Cert.ReferenceLIdeal.nD Cert.ReferenceLIdeal.τ).loc Cert.ReferenceLIdeal.main_v50) = v2 c
          ∧ r.2.mem ((c.tc : Thread Cert.ReferenceLIdeal.nD Cert.ReferenceLIdeal.τ).loc Cert.ReferenceLIdeal.main_v56) = v3 c
          ∧ r.2.mem ((c.tc : Thread Cert.ReferenceLIdeal.nD Cert.ReferenceLIdeal.τ).loc Cert.ReferenceLIdeal.main_v94) = v4 c
          ∧ r.2.mem ((c.tc : Thread Cert.ReferenceLIdeal.nD Cert.ReferenceLIdeal.τ).loc Cert.ReferenceLIdeal.main_v95) = v5 c
          ∧ r.2.mem ((c.tc : Thread Cert.ReferenceLIdeal.nD Cert.ReferenceLIdeal.τ).loc Cert.ReferenceLIdeal.main_v96) = v6 c
          ∧ r.2.mem ((c.tc : Thread Cert.ReferenceLIdeal.nD Cert.ReferenceLIdeal.τ).loc Cert.ReferenceLIdeal.main_v97) = v7 c
          ∧ r.2.mem ((c.tc : Thread Cert.ReferenceLIdeal.nD Cert.ReferenceLIdeal.τ).loc Cert.ReferenceLIdeal.main_arg0) = m' ((c.tc : Thread Cert.ReferenceLIdeal.nD Cert.ReferenceLIdeal.τ).loc Cert.ReferenceLIdeal.main_arg0)
          ∧ r.2.mem ((c.tc : Thread Cert.ReferenceLIdeal.nD Cert.ReferenceLIdeal.τ).loc Cert.ReferenceLIdeal.main_arg1) = m' ((c.tc : Thread Cert.ReferenceLIdeal.nD Cert.ReferenceLIdeal.τ).loc Cert.ReferenceLIdeal.main_arg1)
          ∧ r.2.mem ((c.tc : Thread Cert.ReferenceLIdeal.nD Cert.ReferenceLIdeal.τ).loc Cert.ReferenceLIdeal.main_arg2) = m' ((c.tc : Thread Cert.ReferenceLIdeal.nD Cert.ReferenceLIdeal.τ).loc Cert.ReferenceLIdeal.main_arg2)
          ∧ r.2.mem ((c.tc : Thread Cert.ReferenceLIdeal.nD Cert.ReferenceLIdeal.τ).loc Cert.ReferenceLIdeal.main_arg3) = m' ((c.tc : Thread Cert.ReferenceLIdeal.nD Cert.ReferenceLIdeal.τ).loc Cert.ReferenceLIdeal.main_arg3)
          ∧ r.2.mem ((c.tc : Thread Cert.ReferenceLIdeal.nD Cert.ReferenceLIdeal.τ).loc Cert.ReferenceLIdeal.main_arg4) = m' ((c.tc : Thread Cert.ReferenceLIdeal.nD Cert.ReferenceLIdeal.τ).loc Cert.ReferenceLIdeal.main_arg4)
          ∧ r.2.mem ((c.tc : Thread Cert.ReferenceLIdeal.nD Cert.ReferenceLIdeal.τ).loc Cert.ReferenceLIdeal.main_arg5) = m' ((c.tc : Thread Cert.ReferenceLIdeal.nD Cert.ReferenceLIdeal.τ).loc Cert.ReferenceLIdeal.main_arg5)
          ∧ r.2.mem ((c.tc : Thread Cert.ReferenceLIdeal.nD Cert.ReferenceLIdeal.τ).loc Cert.ReferenceLIdeal.main_arg6) = m' ((c.tc : Thread Cert.ReferenceLIdeal.nD Cert.ReferenceLIdeal.τ).loc Cert.ReferenceLIdeal.main_arg6)
          ∧ r.2.mem ((c.tc : Thread Cert.ReferenceLIdeal.nD Cert.ReferenceLIdeal.τ).loc Cert.ReferenceLIdeal.main_arg7) = m' ((c.tc : Thread Cert.ReferenceLIdeal.nD Cert.ReferenceLIdeal.τ).loc Cert.ReferenceLIdeal.main_arg7))

def preserves_KernelS_KernelSIdeal : Prop :=
  True

def algebraic_KernelSIdeal_ReferenceSIdeal [hKernelSIdeal : Cert.KernelSIdeal.Facts] [hReferenceSIdeal : Cert.ReferenceSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg)
    (m' : (ℓ : Loc Cert.ReferenceSIdeal.nD Cert.ReferenceSIdeal.τ Cert.ReferenceSIdeal.sig) → Buf (Elt Ideal) ℓ) (g' : Dev Cert.ReferenceSIdeal.nD → PrngReg), Pre_KernelSIdeal m →
    (∀ c : Dev Cert.KernelSIdeal.nD,
      m' ((c.tc : Thread Cert.ReferenceSIdeal.nD Cert.ReferenceSIdeal.τ).loc Cert.ReferenceSIdeal.main_arg0) = m ((c.tc : Thread Cert.KernelSIdeal.nD Cert.KernelSIdeal.τ).loc Cert.KernelSIdeal.main_arg0)
      ∧ m' ((c.tc : Thread Cert.ReferenceSIdeal.nD Cert.ReferenceSIdeal.τ).loc Cert.ReferenceSIdeal.main_arg1) = m ((c.tc : Thread Cert.KernelSIdeal.nD Cert.KernelSIdeal.τ).loc Cert.KernelSIdeal.main_arg1)
      ∧ m' ((c.tc : Thread Cert.ReferenceSIdeal.nD Cert.ReferenceSIdeal.τ).loc Cert.ReferenceSIdeal.main_arg2) = m ((c.tc : Thread Cert.KernelSIdeal.nD Cert.KernelSIdeal.τ).loc Cert.KernelSIdeal.main_arg2)
      ∧ m' ((c.tc : Thread Cert.ReferenceSIdeal.nD Cert.ReferenceSIdeal.τ).loc Cert.ReferenceSIdeal.main_arg3) = m ((c.tc : Thread Cert.KernelSIdeal.nD Cert.KernelSIdeal.τ).loc Cert.KernelSIdeal.main_arg3)
      ∧ m' ((c.tc : Thread Cert.ReferenceSIdeal.nD Cert.ReferenceSIdeal.τ).loc Cert.ReferenceSIdeal.main_arg4) = m ((c.tc : Thread Cert.KernelSIdeal.nD Cert.KernelSIdeal.τ).loc Cert.KernelSIdeal.main_arg4)
      ∧ m' ((c.tc : Thread Cert.ReferenceSIdeal.nD Cert.ReferenceSIdeal.τ).loc Cert.ReferenceSIdeal.main_arg5) = m ((c.tc : Thread Cert.KernelSIdeal.nD Cert.KernelSIdeal.τ).loc Cert.KernelSIdeal.main_arg5)
      ∧ m' ((c.tc : Thread Cert.ReferenceSIdeal.nD Cert.ReferenceSIdeal.τ).loc Cert.ReferenceSIdeal.main_arg6) = m ((c.tc : Thread Cert.KernelSIdeal.nD Cert.KernelSIdeal.τ).loc Cert.KernelSIdeal.main_arg6)
      ∧ m' ((c.tc : Thread Cert.ReferenceSIdeal.nD Cert.ReferenceSIdeal.τ).loc Cert.ReferenceSIdeal.main_arg7) = m ((c.tc : Thread Cert.KernelSIdeal.nD Cert.KernelSIdeal.τ).loc Cert.KernelSIdeal.main_arg7)
      ∧ m' ((c.tc : Thread Cert.ReferenceSIdeal.nD Cert.ReferenceSIdeal.τ).loc Cert.ReferenceSIdeal.main_arg8) = m ((c.tc : Thread Cert.KernelSIdeal.nD Cert.KernelSIdeal.τ).loc Cert.KernelSIdeal.main_arg8)
      ∧ m' ((c.tc : Thread Cert.ReferenceSIdeal.nD Cert.ReferenceSIdeal.τ).loc Cert.ReferenceSIdeal.main_arg9) = m ((c.tc : Thread Cert.KernelSIdeal.nD Cert.KernelSIdeal.τ).loc Cert.KernelSIdeal.main_arg9)
      ∧ m' ((c.tc : Thread Cert.ReferenceSIdeal.nD Cert.ReferenceSIdeal.τ).loc Cert.ReferenceSIdeal.main_arg10) = m ((c.tc : Thread Cert.KernelSIdeal.nD Cert.KernelSIdeal.τ).loc Cert.KernelSIdeal.main_arg10)
      ∧ m' ((c.tc : Thread Cert.ReferenceSIdeal.nD Cert.ReferenceSIdeal.τ).loc Cert.ReferenceSIdeal.main_arg11) = m ((c.tc : Thread Cert.KernelSIdeal.nD Cert.KernelSIdeal.τ).loc Cert.KernelSIdeal.main_arg11)
      ∧ m' ((c.tc : Thread Cert.ReferenceSIdeal.nD Cert.ReferenceSIdeal.τ).loc Cert.ReferenceSIdeal.main_arg12) = m ((c.tc : Thread Cert.KernelSIdeal.nD Cert.KernelSIdeal.τ).loc Cert.KernelSIdeal.main_arg12)
      ∧ m' ((c.tc : Thread Cert.ReferenceSIdeal.nD Cert.ReferenceSIdeal.τ).loc Cert.ReferenceSIdeal.main_arg13) = m ((c.tc : Thread Cert.KernelSIdeal.nD Cert.KernelSIdeal.τ).loc Cert.KernelSIdeal.main_arg13)) →
    ∃ (v0 : (c : Dev Cert.KernelSIdeal.nD) → Buf (Elt Ideal) ((c.tc : Thread Cert.KernelSIdeal.nD Cert.KernelSIdeal.τ).loc Cert.KernelSIdeal.main_v5_0)) (v1 : (c : Dev Cert.KernelSIdeal.nD) → Buf (Elt Ideal) ((c.tc : Thread Cert.KernelSIdeal.nD Cert.KernelSIdeal.τ).loc Cert.KernelSIdeal.main_v5_1)) (v2 : (c : Dev Cert.KernelSIdeal.nD) → Buf (Elt Ideal) ((c.tc : Thread Cert.KernelSIdeal.nD Cert.KernelSIdeal.τ).loc Cert.KernelSIdeal.main_v5_2)) (v3 : (c : Dev Cert.KernelSIdeal.nD) → Buf (Elt Ideal) ((c.tc : Thread Cert.KernelSIdeal.nD Cert.KernelSIdeal.τ).loc Cert.KernelSIdeal.main_v5_3)) (v4 : (c : Dev Cert.KernelSIdeal.nD) → Buf (Elt Ideal) ((c.tc : Thread Cert.KernelSIdeal.nD Cert.KernelSIdeal.τ).loc Cert.KernelSIdeal.main_v5_4)) (v5 : (c : Dev Cert.KernelSIdeal.nD) → Buf (Elt Ideal) ((c.tc : Thread Cert.KernelSIdeal.nD Cert.KernelSIdeal.τ).loc Cert.KernelSIdeal.main_v5_5)) (v6 : (c : Dev Cert.KernelSIdeal.nD) → Buf (Elt Ideal) ((c.tc : Thread Cert.KernelSIdeal.nD Cert.KernelSIdeal.τ).loc Cert.KernelSIdeal.main_v5_6)) (v7 : (c : Dev Cert.KernelSIdeal.nD) → Buf (Elt Ideal) ((c.tc : Thread Cert.KernelSIdeal.nD Cert.KernelSIdeal.τ).loc Cert.KernelSIdeal.main_v5_7)) (v8 : (c : Dev Cert.KernelSIdeal.nD) → Buf (Elt Ideal) ((c.tc : Thread Cert.KernelSIdeal.nD Cert.KernelSIdeal.τ).loc Cert.KernelSIdeal.main_v5_8)) (v9 : (c : Dev Cert.KernelSIdeal.nD) → Buf (Elt Ideal) ((c.tc : Thread Cert.KernelSIdeal.nD Cert.KernelSIdeal.τ).loc Cert.KernelSIdeal.main_v5_9)) (v10 : (c : Dev Cert.KernelSIdeal.nD) → Buf (Elt Ideal) ((c.tc : Thread Cert.KernelSIdeal.nD Cert.KernelSIdeal.τ).loc Cert.KernelSIdeal.main_v5_10)) (v11 : (c : Dev Cert.KernelSIdeal.nD) → Buf (Elt Ideal) ((c.tc : Thread Cert.KernelSIdeal.nD Cert.KernelSIdeal.τ).loc Cert.KernelSIdeal.main_v5_11)),
      θ_run (Cert.KernelSIdeal.defs (F := Ideal)) (onTc (τ := Cert.KernelSIdeal.τ) (Cert.KernelSIdeal.main (F := Ideal))) ⟨m, fun _ => 0, g⟩ (fun r => ∀ c : Dev Cert.KernelSIdeal.nD,
          r.2.mem ((c.tc : Thread Cert.KernelSIdeal.nD Cert.KernelSIdeal.τ).loc Cert.KernelSIdeal.main_v5_0) = v0 c
          ∧ r.2.mem ((c.tc : Thread Cert.KernelSIdeal.nD Cert.KernelSIdeal.τ).loc Cert.KernelSIdeal.main_v5_1) = v1 c
          ∧ r.2.mem ((c.tc : Thread Cert.KernelSIdeal.nD Cert.KernelSIdeal.τ).loc Cert.KernelSIdeal.main_v5_2) = v2 c
          ∧ r.2.mem ((c.tc : Thread Cert.KernelSIdeal.nD Cert.KernelSIdeal.τ).loc Cert.KernelSIdeal.main_v5_3) = v3 c
          ∧ r.2.mem ((c.tc : Thread Cert.KernelSIdeal.nD Cert.KernelSIdeal.τ).loc Cert.KernelSIdeal.main_v5_4) = v4 c
          ∧ r.2.mem ((c.tc : Thread Cert.KernelSIdeal.nD Cert.KernelSIdeal.τ).loc Cert.KernelSIdeal.main_v5_5) = v5 c
          ∧ r.2.mem ((c.tc : Thread Cert.KernelSIdeal.nD Cert.KernelSIdeal.τ).loc Cert.KernelSIdeal.main_v5_6) = v6 c
          ∧ r.2.mem ((c.tc : Thread Cert.KernelSIdeal.nD Cert.KernelSIdeal.τ).loc Cert.KernelSIdeal.main_v5_7) = v7 c
          ∧ r.2.mem ((c.tc : Thread Cert.KernelSIdeal.nD Cert.KernelSIdeal.τ).loc Cert.KernelSIdeal.main_v5_8) = v8 c
          ∧ r.2.mem ((c.tc : Thread Cert.KernelSIdeal.nD Cert.KernelSIdeal.τ).loc Cert.KernelSIdeal.main_v5_9) = v9 c
          ∧ r.2.mem ((c.tc : Thread Cert.KernelSIdeal.nD Cert.KernelSIdeal.τ).loc Cert.KernelSIdeal.main_v5_10) = v10 c
          ∧ r.2.mem ((c.tc : Thread Cert.KernelSIdeal.nD Cert.KernelSIdeal.τ).loc Cert.KernelSIdeal.main_v5_11) = v11 c
          ∧ r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
          ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
          ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
          ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
          ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
          ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
          ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6)
          ∧ r.2.mem ((c.tc : Thread Cert.KernelSIdeal.nD Cert.KernelSIdeal.τ).loc Cert.KernelSIdeal.main_arg7) = m ((c.tc : Thread Cert.KernelSIdeal.nD Cert.KernelSIdeal.τ).loc Cert.KernelSIdeal.main_arg7)
          ∧ r.2.mem ((c.tc : Thread Cert.KernelSIdeal.nD Cert.KernelSIdeal.τ).loc Cert.KernelSIdeal.main_arg8) = m ((c.tc : Thread Cert.KernelSIdeal.nD Cert.KernelSIdeal.τ).loc Cert.KernelSIdeal.main_arg8)
          ∧ r.2.mem ((c.tc : Thread Cert.KernelSIdeal.nD Cert.KernelSIdeal.τ).loc Cert.KernelSIdeal.main_arg9) = m ((c.tc : Thread Cert.KernelSIdeal.nD Cert.KernelSIdeal.τ).loc Cert.KernelSIdeal.main_arg9)
          ∧ r.2.mem ((c.tc : Thread Cert.KernelSIdeal.nD Cert.KernelSIdeal.τ).loc Cert.KernelSIdeal.main_arg10) = m ((c.tc : Thread Cert.KernelSIdeal.nD Cert.KernelSIdeal.τ).loc Cert.KernelSIdeal.main_arg10)
          ∧ r.2.mem ((c.tc : Thread Cert.KernelSIdeal.nD Cert.KernelSIdeal.τ).loc Cert.KernelSIdeal.main_arg11) = m ((c.tc : Thread Cert.KernelSIdeal.nD Cert.KernelSIdeal.τ).loc Cert.KernelSIdeal.main_arg11)
          ∧ r.2.mem ((c.tc : Thread Cert.KernelSIdeal.nD Cert.KernelSIdeal.τ).loc Cert.KernelSIdeal.main_arg12) = m ((c.tc : Thread Cert.KernelSIdeal.nD Cert.KernelSIdeal.τ).loc Cert.KernelSIdeal.main_arg12)
          ∧ r.2.mem ((c.tc : Thread Cert.KernelSIdeal.nD Cert.KernelSIdeal.τ).loc Cert.KernelSIdeal.main_arg13) = m ((c.tc : Thread Cert.KernelSIdeal.nD Cert.KernelSIdeal.τ).loc Cert.KernelSIdeal.main_arg13))
      ∧ θ_run (Cert.ReferenceSIdeal.defs (F := Ideal)) (onTc (τ := Cert.ReferenceSIdeal.τ) (Cert.ReferenceSIdeal.main (F := Ideal))) ⟨m', fun _ => 0, g'⟩ (fun r => ∀ c : Dev Cert.ReferenceSIdeal.nD,
          r.2.mem ((c.tc : Thread Cert.ReferenceSIdeal.nD Cert.ReferenceSIdeal.τ).loc Cert.ReferenceSIdeal.main_arg2) = v0 c
          ∧ r.2.mem ((c.tc : Thread Cert.ReferenceSIdeal.nD Cert.ReferenceSIdeal.τ).loc Cert.ReferenceSIdeal.main_v23) = v1 c
          ∧ r.2.mem ((c.tc : Thread Cert.ReferenceSIdeal.nD Cert.ReferenceSIdeal.τ).loc Cert.ReferenceSIdeal.main_v4) = v2 c
          ∧ r.2.mem ((c.tc : Thread Cert.ReferenceSIdeal.nD Cert.ReferenceSIdeal.τ).loc Cert.ReferenceSIdeal.main_v10) = v3 c
          ∧ r.2.mem ((c.tc : Thread Cert.ReferenceSIdeal.nD Cert.ReferenceSIdeal.τ).loc Cert.ReferenceSIdeal.main_arg3) = v4 c
          ∧ r.2.mem ((c.tc : Thread Cert.ReferenceSIdeal.nD Cert.ReferenceSIdeal.τ).loc Cert.ReferenceSIdeal.main_v47) = v5 c
          ∧ r.2.mem ((c.tc : Thread Cert.ReferenceSIdeal.nD Cert.ReferenceSIdeal.τ).loc Cert.ReferenceSIdeal.main_v28) = v6 c
          ∧ r.2.mem ((c.tc : Thread Cert.ReferenceSIdeal.nD Cert.ReferenceSIdeal.τ).loc Cert.ReferenceSIdeal.main_v34) = v7 c
          ∧ r.2.mem ((c.tc : Thread Cert.ReferenceSIdeal.nD Cert.ReferenceSIdeal.τ).loc Cert.ReferenceSIdeal.main_arg4) = v8 c
          ∧ r.2.mem ((c.tc : Thread Cert.ReferenceSIdeal.nD Cert.ReferenceSIdeal.τ).loc Cert.ReferenceSIdeal.main_v71) = v9 c
          ∧ r.2.mem ((c.tc : Thread Cert.ReferenceSIdeal.nD Cert.ReferenceSIdeal.τ).loc Cert.ReferenceSIdeal.main_v52) = v10 c
          ∧ r.2.mem ((c.tc : Thread Cert.ReferenceSIdeal.nD Cert.ReferenceSIdeal.τ).loc Cert.ReferenceSIdeal.main_v58) = v11 c
          ∧ r.2.mem ((c.tc : Thread Cert.ReferenceSIdeal.nD Cert.ReferenceSIdeal.τ).loc Cert.ReferenceSIdeal.main_arg0) = m' ((c.tc : Thread Cert.ReferenceSIdeal.nD Cert.ReferenceSIdeal.τ).loc Cert.ReferenceSIdeal.main_arg0)
          ∧ r.2.mem ((c.tc : Thread Cert.ReferenceSIdeal.nD Cert.ReferenceSIdeal.τ).loc Cert.ReferenceSIdeal.main_arg1) = m' ((c.tc : Thread Cert.ReferenceSIdeal.nD Cert.ReferenceSIdeal.τ).loc Cert.ReferenceSIdeal.main_arg1)
          ∧ r.2.mem ((c.tc : Thread Cert.ReferenceSIdeal.nD Cert.ReferenceSIdeal.τ).loc Cert.ReferenceSIdeal.main_arg2) = m' ((c.tc : Thread Cert.ReferenceSIdeal.nD Cert.ReferenceSIdeal.τ).loc Cert.ReferenceSIdeal.main_arg2)
          ∧ r.2.mem ((c.tc : Thread Cert.ReferenceSIdeal.nD Cert.ReferenceSIdeal.τ).loc Cert.ReferenceSIdeal.main_arg3) = m' ((c.tc : Thread Cert.ReferenceSIdeal.nD Cert.ReferenceSIdeal.τ).loc Cert.ReferenceSIdeal.main_arg3)
          ∧ r.2.mem ((c.tc : Thread Cert.ReferenceSIdeal.nD Cert.ReferenceSIdeal.τ).loc Cert.ReferenceSIdeal.main_arg4) = m' ((c.tc : Thread Cert.ReferenceSIdeal.nD Cert.ReferenceSIdeal.τ).loc Cert.ReferenceSIdeal.main_arg4)
          ∧ r.2.mem ((c.tc : Thread Cert.ReferenceSIdeal.nD Cert.ReferenceSIdeal.τ).loc Cert.ReferenceSIdeal.main_arg5) = m' ((c.tc : Thread Cert.ReferenceSIdeal.nD Cert.ReferenceSIdeal.τ).loc Cert.ReferenceSIdeal.main_arg5)
          ∧ r.2.mem ((c.tc : Thread Cert.ReferenceSIdeal.nD Cert.ReferenceSIdeal.τ).loc Cert.ReferenceSIdeal.main_arg6) = m' ((c.tc : Thread Cert.ReferenceSIdeal.nD Cert.ReferenceSIdeal.τ).loc Cert.ReferenceSIdeal.main_arg6)
          ∧ r.2.mem ((c.tc : Thread Cert.ReferenceSIdeal.nD Cert.ReferenceSIdeal.τ).loc Cert.ReferenceSIdeal.main_arg7) = m' ((c.tc : Thread Cert.ReferenceSIdeal.nD Cert.ReferenceSIdeal.τ).loc Cert.ReferenceSIdeal.main_arg7)
          ∧ r.2.mem ((c.tc : Thread Cert.ReferenceSIdeal.nD Cert.ReferenceSIdeal.τ).loc Cert.ReferenceSIdeal.main_arg8) = m' ((c.tc : Thread Cert.ReferenceSIdeal.nD Cert.ReferenceSIdeal.τ).loc Cert.ReferenceSIdeal.main_arg8)
          ∧ r.2.mem ((c.tc : Thread Cert.ReferenceSIdeal.nD Cert.ReferenceSIdeal.τ).loc Cert.ReferenceSIdeal.main_arg9) = m' ((c.tc : Thread Cert.ReferenceSIdeal.nD Cert.ReferenceSIdeal.τ).loc Cert.ReferenceSIdeal.main_arg9)
          ∧ r.2.mem ((c.tc : Thread Cert.ReferenceSIdeal.nD Cert.ReferenceSIdeal.τ).loc Cert.ReferenceSIdeal.main_arg10) = m' ((c.tc : Thread Cert.ReferenceSIdeal.nD Cert.ReferenceSIdeal.τ).loc Cert.ReferenceSIdeal.main_arg10)
          ∧ r.2.mem ((c.tc : Thread Cert.ReferenceSIdeal.nD Cert.ReferenceSIdeal.τ).loc Cert.ReferenceSIdeal.main_arg11) = m' ((c.tc : Thread Cert.ReferenceSIdeal.nD Cert.ReferenceSIdeal.τ).loc Cert.ReferenceSIdeal.main_arg11)
          ∧ r.2.mem ((c.tc : Thread Cert.ReferenceSIdeal.nD Cert.ReferenceSIdeal.τ).loc Cert.ReferenceSIdeal.main_arg12) = m' ((c.tc : Thread Cert.ReferenceSIdeal.nD Cert.ReferenceSIdeal.τ).loc Cert.ReferenceSIdeal.main_arg12)
          ∧ r.2.mem ((c.tc : Thread Cert.ReferenceSIdeal.nD Cert.ReferenceSIdeal.τ).loc Cert.ReferenceSIdeal.main_arg13) = m' ((c.tc : Thread Cert.ReferenceSIdeal.nD Cert.ReferenceSIdeal.τ).loc Cert.ReferenceSIdeal.main_arg13))

def preserves_KernelU_KernelUIdeal : Prop :=
  True

def algebraic_KernelUIdeal_ReferenceUIdeal [hKernelUIdeal : Cert.KernelUIdeal.Facts] [hReferenceUIdeal : Cert.ReferenceUIdeal.Facts] : Prop :=
  ∀ (m : (ℓ : Loc Cert.KernelUIdeal.nD Cert.KernelUIdeal.τ Cert.KernelUIdeal.sig) → Buf (Elt Ideal) ℓ) (g : Dev Cert.KernelUIdeal.nD → PrngReg)
    (m' : (ℓ : Loc Cert.ReferenceUIdeal.nD Cert.ReferenceUIdeal.τ Cert.ReferenceUIdeal.sig) → Buf (Elt Ideal) ℓ) (g' : Dev Cert.ReferenceUIdeal.nD → PrngReg), Pre_KernelUIdeal m →
    (∀ c : Dev Cert.KernelUIdeal.nD,
      m' ((c.tc : Thread Cert.ReferenceUIdeal.nD Cert.ReferenceUIdeal.τ).loc Cert.ReferenceUIdeal.main_arg0) = m ((c.tc : Thread Cert.KernelUIdeal.nD Cert.KernelUIdeal.τ).loc Cert.KernelUIdeal.main_arg0)
      ∧ m' ((c.tc : Thread Cert.ReferenceUIdeal.nD Cert.ReferenceUIdeal.τ).loc Cert.ReferenceUIdeal.main_arg1) = m ((c.tc : Thread Cert.KernelUIdeal.nD Cert.KernelUIdeal.τ).loc Cert.KernelUIdeal.main_arg1)
      ∧ m' ((c.tc : Thread Cert.ReferenceUIdeal.nD Cert.ReferenceUIdeal.τ).loc Cert.ReferenceUIdeal.main_arg2) = m ((c.tc : Thread Cert.KernelUIdeal.nD Cert.KernelUIdeal.τ).loc Cert.KernelUIdeal.main_arg2)
      ∧ m' ((c.tc : Thread Cert.ReferenceUIdeal.nD Cert.ReferenceUIdeal.τ).loc Cert.ReferenceUIdeal.main_arg3) = m ((c.tc : Thread Cert.KernelUIdeal.nD Cert.KernelUIdeal.τ).loc Cert.KernelUIdeal.main_arg3)
      ∧ m' ((c.tc : Thread Cert.ReferenceUIdeal.nD Cert.ReferenceUIdeal.τ).loc Cert.ReferenceUIdeal.main_arg4) = m ((c.tc : Thread Cert.KernelUIdeal.nD Cert.KernelUIdeal.τ).loc Cert.KernelUIdeal.main_arg4)
      ∧ m' ((c.tc : Thread Cert.ReferenceUIdeal.nD Cert.ReferenceUIdeal.τ).loc Cert.ReferenceUIdeal.main_arg5) = m ((c.tc : Thread Cert.KernelUIdeal.nD Cert.KernelUIdeal.τ).loc Cert.KernelUIdeal.main_arg5)
      ∧ m' ((c.tc : Thread Cert.ReferenceUIdeal.nD Cert.ReferenceUIdeal.τ).loc Cert.ReferenceUIdeal.main_arg6) = m ((c.tc : Thread Cert.KernelUIdeal.nD Cert.KernelUIdeal.τ).loc Cert.KernelUIdeal.main_arg6)
      ∧ m' ((c.tc : Thread Cert.ReferenceUIdeal.nD Cert.ReferenceUIdeal.τ).loc Cert.ReferenceUIdeal.main_arg7) = m ((c.tc : Thread Cert.KernelUIdeal.nD Cert.KernelUIdeal.τ).loc Cert.KernelUIdeal.main_arg7)
      ∧ m' ((c.tc : Thread Cert.ReferenceUIdeal.nD Cert.ReferenceUIdeal.τ).loc Cert.ReferenceUIdeal.main_arg8) = m ((c.tc : Thread Cert.KernelUIdeal.nD Cert.KernelUIdeal.τ).loc Cert.KernelUIdeal.main_arg8)
      ∧ m' ((c.tc : Thread Cert.ReferenceUIdeal.nD Cert.ReferenceUIdeal.τ).loc Cert.ReferenceUIdeal.main_arg9) = m ((c.tc : Thread Cert.KernelUIdeal.nD Cert.KernelUIdeal.τ).loc Cert.KernelUIdeal.main_arg9)
      ∧ m' ((c.tc : Thread Cert.ReferenceUIdeal.nD Cert.ReferenceUIdeal.τ).loc Cert.ReferenceUIdeal.main_arg10) = m ((c.tc : Thread Cert.KernelUIdeal.nD Cert.KernelUIdeal.τ).loc Cert.KernelUIdeal.main_arg10)
      ∧ m' ((c.tc : Thread Cert.ReferenceUIdeal.nD Cert.ReferenceUIdeal.τ).loc Cert.ReferenceUIdeal.main_arg11) = m ((c.tc : Thread Cert.KernelUIdeal.nD Cert.KernelUIdeal.τ).loc Cert.KernelUIdeal.main_arg11)
      ∧ m' ((c.tc : Thread Cert.ReferenceUIdeal.nD Cert.ReferenceUIdeal.τ).loc Cert.ReferenceUIdeal.main_arg12) = m ((c.tc : Thread Cert.KernelUIdeal.nD Cert.KernelUIdeal.τ).loc Cert.KernelUIdeal.main_arg12)
      ∧ m' ((c.tc : Thread Cert.ReferenceUIdeal.nD Cert.ReferenceUIdeal.τ).loc Cert.ReferenceUIdeal.main_arg13) = m ((c.tc : Thread Cert.KernelUIdeal.nD Cert.KernelUIdeal.τ).loc Cert.KernelUIdeal.main_arg13)) →
    ∃ (v0 : (c : Dev Cert.KernelUIdeal.nD) → Buf (Elt Ideal) ((c.tc : Thread Cert.KernelUIdeal.nD Cert.KernelUIdeal.τ).loc Cert.KernelUIdeal.main_v5_0)) (v1 : (c : Dev Cert.KernelUIdeal.nD) → Buf (Elt Ideal) ((c.tc : Thread Cert.KernelUIdeal.nD Cert.KernelUIdeal.τ).loc Cert.KernelUIdeal.main_v5_1)) (v2 : (c : Dev Cert.KernelUIdeal.nD) → Buf (Elt Ideal) ((c.tc : Thread Cert.KernelUIdeal.nD Cert.KernelUIdeal.τ).loc Cert.KernelUIdeal.main_v5_2)) (v3 : (c : Dev Cert.KernelUIdeal.nD) → Buf (Elt Ideal) ((c.tc : Thread Cert.KernelUIdeal.nD Cert.KernelUIdeal.τ).loc Cert.KernelUIdeal.main_v5_3)) (v4 : (c : Dev Cert.KernelUIdeal.nD) → Buf (Elt Ideal) ((c.tc : Thread Cert.KernelUIdeal.nD Cert.KernelUIdeal.τ).loc Cert.KernelUIdeal.main_v5_4)) (v5 : (c : Dev Cert.KernelUIdeal.nD) → Buf (Elt Ideal) ((c.tc : Thread Cert.KernelUIdeal.nD Cert.KernelUIdeal.τ).loc Cert.KernelUIdeal.main_v5_5)) (v6 : (c : Dev Cert.KernelUIdeal.nD) → Buf (Elt Ideal) ((c.tc : Thread Cert.KernelUIdeal.nD Cert.KernelUIdeal.τ).loc Cert.KernelUIdeal.main_v5_6)) (v7 : (c : Dev Cert.KernelUIdeal.nD) → Buf (Elt Ideal) ((c.tc : Thread Cert.KernelUIdeal.nD Cert.KernelUIdeal.τ).loc Cert.KernelUIdeal.main_v5_7)) (v8 : (c : Dev Cert.KernelUIdeal.nD) → Buf (Elt Ideal) ((c.tc : Thread Cert.KernelUIdeal.nD Cert.KernelUIdeal.τ).loc Cert.KernelUIdeal.main_v5_8)) (v9 : (c : Dev Cert.KernelUIdeal.nD) → Buf (Elt Ideal) ((c.tc : Thread Cert.KernelUIdeal.nD Cert.KernelUIdeal.τ).loc Cert.KernelUIdeal.main_v5_9)) (v10 : (c : Dev Cert.KernelUIdeal.nD) → Buf (Elt Ideal) ((c.tc : Thread Cert.KernelUIdeal.nD Cert.KernelUIdeal.τ).loc Cert.KernelUIdeal.main_v5_10)) (v11 : (c : Dev Cert.KernelUIdeal.nD) → Buf (Elt Ideal) ((c.tc : Thread Cert.KernelUIdeal.nD Cert.KernelUIdeal.τ).loc Cert.KernelUIdeal.main_v5_11)),
      θ_run (Cert.KernelUIdeal.defs (F := Ideal)) (onTc (τ := Cert.KernelUIdeal.τ) (Cert.KernelUIdeal.main (F := Ideal))) ⟨m, fun _ => 0, g⟩ (fun r => ∀ c : Dev Cert.KernelUIdeal.nD,
          r.2.mem ((c.tc : Thread Cert.KernelUIdeal.nD Cert.KernelUIdeal.τ).loc Cert.KernelUIdeal.main_v5_0) = v0 c
          ∧ r.2.mem ((c.tc : Thread Cert.KernelUIdeal.nD Cert.KernelUIdeal.τ).loc Cert.KernelUIdeal.main_v5_1) = v1 c
          ∧ r.2.mem ((c.tc : Thread Cert.KernelUIdeal.nD Cert.KernelUIdeal.τ).loc Cert.KernelUIdeal.main_v5_2) = v2 c
          ∧ r.2.mem ((c.tc : Thread Cert.KernelUIdeal.nD Cert.KernelUIdeal.τ).loc Cert.KernelUIdeal.main_v5_3) = v3 c
          ∧ r.2.mem ((c.tc : Thread Cert.KernelUIdeal.nD Cert.KernelUIdeal.τ).loc Cert.KernelUIdeal.main_v5_4) = v4 c
          ∧ r.2.mem ((c.tc : Thread Cert.KernelUIdeal.nD Cert.KernelUIdeal.τ).loc Cert.KernelUIdeal.main_v5_5) = v5 c
          ∧ r.2.mem ((c.tc : Thread Cert.KernelUIdeal.nD Cert.KernelUIdeal.τ).loc Cert.KernelUIdeal.main_v5_6) = v6 c
          ∧ r.2.mem ((c.tc : Thread Cert.KernelUIdeal.nD Cert.KernelUIdeal.τ).loc Cert.KernelUIdeal.main_v5_7) = v7 c
          ∧ r.2.mem ((c.tc : Thread Cert.KernelUIdeal.nD Cert.KernelUIdeal.τ).loc Cert.KernelUIdeal.main_v5_8) = v8 c
          ∧ r.2.mem ((c.tc : Thread Cert.KernelUIdeal.nD Cert.KernelUIdeal.τ).loc Cert.KernelUIdeal.main_v5_9) = v9 c
          ∧ r.2.mem ((c.tc : Thread Cert.KernelUIdeal.nD Cert.KernelUIdeal.τ).loc Cert.KernelUIdeal.main_v5_10) = v10 c
          ∧ r.2.mem ((c.tc : Thread Cert.KernelUIdeal.nD Cert.KernelUIdeal.τ).loc Cert.KernelUIdeal.main_v5_11) = v11 c
          ∧ r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
          ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1)
          ∧ r.2.mem ((c.tc : Thread Cert.KernelUIdeal.nD Cert.KernelUIdeal.τ).loc Cert.KernelUIdeal.main_arg2) = m ((c.tc : Thread Cert.KernelUIdeal.nD Cert.KernelUIdeal.τ).loc Cert.KernelUIdeal.main_arg2)
          ∧ r.2.mem ((c.tc : Thread Cert.KernelUIdeal.nD Cert.KernelUIdeal.τ).loc Cert.KernelUIdeal.main_arg3) = m ((c.tc : Thread Cert.KernelUIdeal.nD Cert.KernelUIdeal.τ).loc Cert.KernelUIdeal.main_arg3)
          ∧ r.2.mem ((c.tc : Thread Cert.KernelUIdeal.nD Cert.KernelUIdeal.τ).loc Cert.KernelUIdeal.main_arg4) = m ((c.tc : Thread Cert.KernelUIdeal.nD Cert.KernelUIdeal.τ).loc Cert.KernelUIdeal.main_arg4)
          ∧ r.2.mem ((c.tc : Thread Cert.KernelUIdeal.nD Cert.KernelUIdeal.τ).loc Cert.KernelUIdeal.main_arg5) = m ((c.tc : Thread Cert.KernelUIdeal.nD Cert.KernelUIdeal.τ).loc Cert.KernelUIdeal.main_arg5)
          ∧ r.2.mem ((c.tc : Thread Cert.KernelUIdeal.nD Cert.KernelUIdeal.τ).loc Cert.KernelUIdeal.main_arg6) = m ((c.tc : Thread Cert.KernelUIdeal.nD Cert.KernelUIdeal.τ).loc Cert.KernelUIdeal.main_arg6)
          ∧ r.2.mem ((c.tc : Thread Cert.KernelUIdeal.nD Cert.KernelUIdeal.τ).loc Cert.KernelUIdeal.main_arg7) = m ((c.tc : Thread Cert.KernelUIdeal.nD Cert.KernelUIdeal.τ).loc Cert.KernelUIdeal.main_arg7)
          ∧ r.2.mem ((c.tc : Thread Cert.KernelUIdeal.nD Cert.KernelUIdeal.τ).loc Cert.KernelUIdeal.main_arg8) = m ((c.tc : Thread Cert.KernelUIdeal.nD Cert.KernelUIdeal.τ).loc Cert.KernelUIdeal.main_arg8)
          ∧ r.2.mem ((c.tc : Thread Cert.KernelUIdeal.nD Cert.KernelUIdeal.τ).loc Cert.KernelUIdeal.main_arg9) = m ((c.tc : Thread Cert.KernelUIdeal.nD Cert.KernelUIdeal.τ).loc Cert.KernelUIdeal.main_arg9)
          ∧ r.2.mem ((c.tc : Thread Cert.KernelUIdeal.nD Cert.KernelUIdeal.τ).loc Cert.KernelUIdeal.main_arg10) = m ((c.tc : Thread Cert.KernelUIdeal.nD Cert.KernelUIdeal.τ).loc Cert.KernelUIdeal.main_arg10)
          ∧ r.2.mem ((c.tc : Thread Cert.KernelUIdeal.nD Cert.KernelUIdeal.τ).loc Cert.KernelUIdeal.main_arg11) = m ((c.tc : Thread Cert.KernelUIdeal.nD Cert.KernelUIdeal.τ).loc Cert.KernelUIdeal.main_arg11)
          ∧ r.2.mem ((c.tc : Thread Cert.KernelUIdeal.nD Cert.KernelUIdeal.τ).loc Cert.KernelUIdeal.main_arg12) = m ((c.tc : Thread Cert.KernelUIdeal.nD Cert.KernelUIdeal.τ).loc Cert.KernelUIdeal.main_arg12)
          ∧ r.2.mem ((c.tc : Thread Cert.KernelUIdeal.nD Cert.KernelUIdeal.τ).loc Cert.KernelUIdeal.main_arg13) = m ((c.tc : Thread Cert.KernelUIdeal.nD Cert.KernelUIdeal.τ).loc Cert.KernelUIdeal.main_arg13))
      ∧ θ_run (Cert.ReferenceUIdeal.defs (F := Ideal)) (onTc (τ := Cert.ReferenceUIdeal.τ) (Cert.ReferenceUIdeal.main (F := Ideal))) ⟨m', fun _ => 0, g'⟩ (fun r => ∀ c : Dev Cert.ReferenceUIdeal.nD,
          r.2.mem ((c.tc : Thread Cert.ReferenceUIdeal.nD Cert.ReferenceUIdeal.τ).loc Cert.ReferenceUIdeal.main_arg2) = v0 c
          ∧ r.2.mem ((c.tc : Thread Cert.ReferenceUIdeal.nD Cert.ReferenceUIdeal.τ).loc Cert.ReferenceUIdeal.main_v23) = v1 c
          ∧ r.2.mem ((c.tc : Thread Cert.ReferenceUIdeal.nD Cert.ReferenceUIdeal.τ).loc Cert.ReferenceUIdeal.main_v4) = v2 c
          ∧ r.2.mem ((c.tc : Thread Cert.ReferenceUIdeal.nD Cert.ReferenceUIdeal.τ).loc Cert.ReferenceUIdeal.main_v10) = v3 c
          ∧ r.2.mem ((c.tc : Thread Cert.ReferenceUIdeal.nD Cert.ReferenceUIdeal.τ).loc Cert.ReferenceUIdeal.main_arg3) = v4 c
          ∧ r.2.mem ((c.tc : Thread Cert.ReferenceUIdeal.nD Cert.ReferenceUIdeal.τ).loc Cert.ReferenceUIdeal.main_v47) = v5 c
          ∧ r.2.mem ((c.tc : Thread Cert.ReferenceUIdeal.nD Cert.ReferenceUIdeal.τ).loc Cert.ReferenceUIdeal.main_v28) = v6 c
          ∧ r.2.mem ((c.tc : Thread Cert.ReferenceUIdeal.nD Cert.ReferenceUIdeal.τ).loc Cert.ReferenceUIdeal.main_v34) = v7 c
          ∧ r.2.mem ((c.tc : Thread Cert.ReferenceUIdeal.nD Cert.ReferenceUIdeal.τ).loc Cert.ReferenceUIdeal.main_arg4) = v8 c
          ∧ r.2.mem ((c.tc : Thread Cert.ReferenceUIdeal.nD Cert.ReferenceUIdeal.τ).loc Cert.ReferenceUIdeal.main_v71) = v9 c
          ∧ r.2.mem ((c.tc : Thread Cert.ReferenceUIdeal.nD Cert.ReferenceUIdeal.τ).loc Cert.ReferenceUIdeal.main_v52) = v10 c
          ∧ r.2.mem ((c.tc : Thread Cert.ReferenceUIdeal.nD Cert.ReferenceUIdeal.τ).loc Cert.ReferenceUIdeal.main_v58) = v11 c
          ∧ r.2.mem ((c.tc : Thread Cert.ReferenceUIdeal.nD Cert.ReferenceUIdeal.τ).loc Cert.ReferenceUIdeal.main_arg0) = m' ((c.tc : Thread Cert.ReferenceUIdeal.nD Cert.ReferenceUIdeal.τ).loc Cert.ReferenceUIdeal.main_arg0)
          ∧ r.2.mem ((c.tc : Thread Cert.ReferenceUIdeal.nD Cert.ReferenceUIdeal.τ).loc Cert.ReferenceUIdeal.main_arg1) = m' ((c.tc : Thread Cert.ReferenceUIdeal.nD Cert.ReferenceUIdeal.τ).loc Cert.ReferenceUIdeal.main_arg1)
          ∧ r.2.mem ((c.tc : Thread Cert.ReferenceUIdeal.nD Cert.ReferenceUIdeal.τ).loc Cert.ReferenceUIdeal.main_arg2) = m' ((c.tc : Thread Cert.ReferenceUIdeal.nD Cert.ReferenceUIdeal.τ).loc Cert.ReferenceUIdeal.main_arg2)
          ∧ r.2.mem ((c.tc : Thread Cert.ReferenceUIdeal.nD Cert.ReferenceUIdeal.τ).loc Cert.ReferenceUIdeal.main_arg3) = m' ((c.tc : Thread Cert.ReferenceUIdeal.nD Cert.ReferenceUIdeal.τ).loc Cert.ReferenceUIdeal.main_arg3)
          ∧ r.2.mem ((c.tc : Thread Cert.ReferenceUIdeal.nD Cert.ReferenceUIdeal.τ).loc Cert.ReferenceUIdeal.main_arg4) = m' ((c.tc : Thread Cert.ReferenceUIdeal.nD Cert.ReferenceUIdeal.τ).loc Cert.ReferenceUIdeal.main_arg4)
          ∧ r.2.mem ((c.tc : Thread Cert.ReferenceUIdeal.nD Cert.ReferenceUIdeal.τ).loc Cert.ReferenceUIdeal.main_arg5) = m' ((c.tc : Thread Cert.ReferenceUIdeal.nD Cert.ReferenceUIdeal.τ).loc Cert.ReferenceUIdeal.main_arg5)
          ∧ r.2.mem ((c.tc : Thread Cert.ReferenceUIdeal.nD Cert.ReferenceUIdeal.τ).loc Cert.ReferenceUIdeal.main_arg6) = m' ((c.tc : Thread Cert.ReferenceUIdeal.nD Cert.ReferenceUIdeal.τ).loc Cert.ReferenceUIdeal.main_arg6)
          ∧ r.2.mem ((c.tc : Thread Cert.ReferenceUIdeal.nD Cert.ReferenceUIdeal.τ).loc Cert.ReferenceUIdeal.main_arg7) = m' ((c.tc : Thread Cert.ReferenceUIdeal.nD Cert.ReferenceUIdeal.τ).loc Cert.ReferenceUIdeal.main_arg7)
          ∧ r.2.mem ((c.tc : Thread Cert.ReferenceUIdeal.nD Cert.ReferenceUIdeal.τ).loc Cert.ReferenceUIdeal.main_arg8) = m' ((c.tc : Thread Cert.ReferenceUIdeal.nD Cert.ReferenceUIdeal.τ).loc Cert.ReferenceUIdeal.main_arg8)
          ∧ r.2.mem ((c.tc : Thread Cert.ReferenceUIdeal.nD Cert.ReferenceUIdeal.τ).loc Cert.ReferenceUIdeal.main_arg9) = m' ((c.tc : Thread Cert.ReferenceUIdeal.nD Cert.ReferenceUIdeal.τ).loc Cert.ReferenceUIdeal.main_arg9)
          ∧ r.2.mem ((c.tc : Thread Cert.ReferenceUIdeal.nD Cert.ReferenceUIdeal.τ).loc Cert.ReferenceUIdeal.main_arg10) = m' ((c.tc : Thread Cert.ReferenceUIdeal.nD Cert.ReferenceUIdeal.τ).loc Cert.ReferenceUIdeal.main_arg10)
          ∧ r.2.mem ((c.tc : Thread Cert.ReferenceUIdeal.nD Cert.ReferenceUIdeal.τ).loc Cert.ReferenceUIdeal.main_arg11) = m' ((c.tc : Thread Cert.ReferenceUIdeal.nD Cert.ReferenceUIdeal.τ).loc Cert.ReferenceUIdeal.main_arg11)
          ∧ r.2.mem ((c.tc : Thread Cert.ReferenceUIdeal.nD Cert.ReferenceUIdeal.τ).loc Cert.ReferenceUIdeal.main_arg12) = m' ((c.tc : Thread Cert.ReferenceUIdeal.nD Cert.ReferenceUIdeal.τ).loc Cert.ReferenceUIdeal.main_arg12)
          ∧ r.2.mem ((c.tc : Thread Cert.ReferenceUIdeal.nD Cert.ReferenceUIdeal.τ).loc Cert.ReferenceUIdeal.main_arg13) = m' ((c.tc : Thread Cert.ReferenceUIdeal.nD Cert.ReferenceUIdeal.τ).loc Cert.ReferenceUIdeal.main_arg13))

def preserves_KernelW_KernelWIdeal : Prop :=
  True

def algebraic_KernelWIdeal_ReferenceWIdeal [hKernelWIdeal : Cert.KernelWIdeal.Facts] [hReferenceWIdeal : Cert.ReferenceWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg)
    (m' : (ℓ : Loc Cert.ReferenceWIdeal.nD Cert.ReferenceWIdeal.τ Cert.ReferenceWIdeal.sig) → Buf (Elt Ideal) ℓ) (g' : Dev Cert.ReferenceWIdeal.nD → PrngReg), Pre_KernelWIdeal m →
    (∀ c : Dev Cert.KernelWIdeal.nD,
      m' ((c.tc : Thread Cert.ReferenceWIdeal.nD Cert.ReferenceWIdeal.τ).loc Cert.ReferenceWIdeal.main_arg0) = m ((c.tc : Thread Cert.KernelWIdeal.nD Cert.KernelWIdeal.τ).loc Cert.KernelWIdeal.main_arg0)
      ∧ m' ((c.tc : Thread Cert.ReferenceWIdeal.nD Cert.ReferenceWIdeal.τ).loc Cert.ReferenceWIdeal.main_arg1) = m ((c.tc : Thread Cert.KernelWIdeal.nD Cert.KernelWIdeal.τ).loc Cert.KernelWIdeal.main_arg1)
      ∧ m' ((c.tc : Thread Cert.ReferenceWIdeal.nD Cert.ReferenceWIdeal.τ).loc Cert.ReferenceWIdeal.main_arg2) = m ((c.tc : Thread Cert.KernelWIdeal.nD Cert.KernelWIdeal.τ).loc Cert.KernelWIdeal.main_arg2)
      ∧ m' ((c.tc : Thread Cert.ReferenceWIdeal.nD Cert.ReferenceWIdeal.τ).loc Cert.ReferenceWIdeal.main_arg3) = m ((c.tc : Thread Cert.KernelWIdeal.nD Cert.KernelWIdeal.τ).loc Cert.KernelWIdeal.main_arg3)
      ∧ m' ((c.tc : Thread Cert.ReferenceWIdeal.nD Cert.ReferenceWIdeal.τ).loc Cert.ReferenceWIdeal.main_arg4) = m ((c.tc : Thread Cert.KernelWIdeal.nD Cert.KernelWIdeal.τ).loc Cert.KernelWIdeal.main_arg4)
      ∧ m' ((c.tc : Thread Cert.ReferenceWIdeal.nD Cert.ReferenceWIdeal.τ).loc Cert.ReferenceWIdeal.main_arg5) = m ((c.tc : Thread Cert.KernelWIdeal.nD Cert.KernelWIdeal.τ).loc Cert.KernelWIdeal.main_arg5)
      ∧ m' ((c.tc : Thread Cert.ReferenceWIdeal.nD Cert.ReferenceWIdeal.τ).loc Cert.ReferenceWIdeal.main_arg6) = m ((c.tc : Thread Cert.KernelWIdeal.nD Cert.KernelWIdeal.τ).loc Cert.KernelWIdeal.main_arg6)
      ∧ m' ((c.tc : Thread Cert.ReferenceWIdeal.nD Cert.ReferenceWIdeal.τ).loc Cert.ReferenceWIdeal.main_arg7) = m ((c.tc : Thread Cert.KernelWIdeal.nD Cert.KernelWIdeal.τ).loc Cert.KernelWIdeal.main_arg7)
      ∧ m' ((c.tc : Thread Cert.ReferenceWIdeal.nD Cert.ReferenceWIdeal.τ).loc Cert.ReferenceWIdeal.main_arg8) = m ((c.tc : Thread Cert.KernelWIdeal.nD Cert.KernelWIdeal.τ).loc Cert.KernelWIdeal.main_arg8)
      ∧ m' ((c.tc : Thread Cert.ReferenceWIdeal.nD Cert.ReferenceWIdeal.τ).loc Cert.ReferenceWIdeal.main_arg9) = m ((c.tc : Thread Cert.KernelWIdeal.nD Cert.KernelWIdeal.τ).loc Cert.KernelWIdeal.main_arg9)) →
    ∃ (v0 : (c : Dev Cert.KernelWIdeal.nD) → Buf (Elt Ideal) ((c.tc : Thread Cert.KernelWIdeal.nD Cert.KernelWIdeal.τ).loc Cert.KernelWIdeal.main_v7_0)) (v1 : (c : Dev Cert.KernelWIdeal.nD) → Buf (Elt Ideal) ((c.tc : Thread Cert.KernelWIdeal.nD Cert.KernelWIdeal.τ).loc Cert.KernelWIdeal.main_v7_1)) (v2 : (c : Dev Cert.KernelWIdeal.nD) → Buf (Elt Ideal) ((c.tc : Thread Cert.KernelWIdeal.nD Cert.KernelWIdeal.τ).loc Cert.KernelWIdeal.main_v7_2)) (v3 : (c : Dev Cert.KernelWIdeal.nD) → Buf (Elt Ideal) ((c.tc : Thread Cert.KernelWIdeal.nD Cert.KernelWIdeal.τ).loc Cert.KernelWIdeal.main_v7_3)) (v4 : (c : Dev Cert.KernelWIdeal.nD) → Buf (Elt Ideal) ((c.tc : Thread Cert.KernelWIdeal.nD Cert.KernelWIdeal.τ).loc Cert.KernelWIdeal.main_v7_4)) (v5 : (c : Dev Cert.KernelWIdeal.nD) → Buf (Elt Ideal) ((c.tc : Thread Cert.KernelWIdeal.nD Cert.KernelWIdeal.τ).loc Cert.KernelWIdeal.main_v7_5)) (v6 : (c : Dev Cert.KernelWIdeal.nD) → Buf (Elt Ideal) ((c.tc : Thread Cert.KernelWIdeal.nD Cert.KernelWIdeal.τ).loc Cert.KernelWIdeal.main_v7_6)) (v7 : (c : Dev Cert.KernelWIdeal.nD) → Buf (Elt Ideal) ((c.tc : Thread Cert.KernelWIdeal.nD Cert.KernelWIdeal.τ).loc Cert.KernelWIdeal.main_v7_7)),
      θ_run (Cert.KernelWIdeal.defs (F := Ideal)) (onTc (τ := Cert.KernelWIdeal.τ) (Cert.KernelWIdeal.main (F := Ideal))) ⟨m, fun _ => 0, g⟩ (fun r => ∀ c : Dev Cert.KernelWIdeal.nD,
          r.2.mem ((c.tc : Thread Cert.KernelWIdeal.nD Cert.KernelWIdeal.τ).loc Cert.KernelWIdeal.main_v7_0) = v0 c
          ∧ r.2.mem ((c.tc : Thread Cert.KernelWIdeal.nD Cert.KernelWIdeal.τ).loc Cert.KernelWIdeal.main_v7_1) = v1 c
          ∧ r.2.mem ((c.tc : Thread Cert.KernelWIdeal.nD Cert.KernelWIdeal.τ).loc Cert.KernelWIdeal.main_v7_2) = v2 c
          ∧ r.2.mem ((c.tc : Thread Cert.KernelWIdeal.nD Cert.KernelWIdeal.τ).loc Cert.KernelWIdeal.main_v7_3) = v3 c
          ∧ r.2.mem ((c.tc : Thread Cert.KernelWIdeal.nD Cert.KernelWIdeal.τ).loc Cert.KernelWIdeal.main_v7_4) = v4 c
          ∧ r.2.mem ((c.tc : Thread Cert.KernelWIdeal.nD Cert.KernelWIdeal.τ).loc Cert.KernelWIdeal.main_v7_5) = v5 c
          ∧ r.2.mem ((c.tc : Thread Cert.KernelWIdeal.nD Cert.KernelWIdeal.τ).loc Cert.KernelWIdeal.main_v7_6) = v6 c
          ∧ r.2.mem ((c.tc : Thread Cert.KernelWIdeal.nD Cert.KernelWIdeal.τ).loc Cert.KernelWIdeal.main_v7_7) = v7 c
          ∧ r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
          ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
          ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2)
          ∧ r.2.mem ((c.tc : Thread Cert.KernelWIdeal.nD Cert.KernelWIdeal.τ).loc Cert.KernelWIdeal.main_arg3) = m ((c.tc : Thread Cert.KernelWIdeal.nD Cert.KernelWIdeal.τ).loc Cert.KernelWIdeal.main_arg3)
          ∧ r.2.mem ((c.tc : Thread Cert.KernelWIdeal.nD Cert.KernelWIdeal.τ).loc Cert.KernelWIdeal.main_arg4) = m ((c.tc : Thread Cert.KernelWIdeal.nD Cert.KernelWIdeal.τ).loc Cert.KernelWIdeal.main_arg4)
          ∧ r.2.mem ((c.tc : Thread Cert.KernelWIdeal.nD Cert.KernelWIdeal.τ).loc Cert.KernelWIdeal.main_arg5) = m ((c.tc : Thread Cert.KernelWIdeal.nD Cert.KernelWIdeal.τ).loc Cert.KernelWIdeal.main_arg5)
          ∧ r.2.mem ((c.tc : Thread Cert.KernelWIdeal.nD Cert.KernelWIdeal.τ).loc Cert.KernelWIdeal.main_arg6) = m ((c.tc : Thread Cert.KernelWIdeal.nD Cert.KernelWIdeal.τ).loc Cert.KernelWIdeal.main_arg6)
          ∧ r.2.mem ((c.tc : Thread Cert.KernelWIdeal.nD Cert.KernelWIdeal.τ).loc Cert.KernelWIdeal.main_arg7) = m ((c.tc : Thread Cert.KernelWIdeal.nD Cert.KernelWIdeal.τ).loc Cert.KernelWIdeal.main_arg7)
          ∧ r.2.mem ((c.tc : Thread Cert.KernelWIdeal.nD Cert.KernelWIdeal.τ).loc Cert.KernelWIdeal.main_arg8) = m ((c.tc : Thread Cert.KernelWIdeal.nD Cert.KernelWIdeal.τ).loc Cert.KernelWIdeal.main_arg8)
          ∧ r.2.mem ((c.tc : Thread Cert.KernelWIdeal.nD Cert.KernelWIdeal.τ).loc Cert.KernelWIdeal.main_arg9) = m ((c.tc : Thread Cert.KernelWIdeal.nD Cert.KernelWIdeal.τ).loc Cert.KernelWIdeal.main_arg9))
      ∧ θ_run (Cert.ReferenceWIdeal.defs (F := Ideal)) (onTc (τ := Cert.ReferenceWIdeal.τ) (Cert.ReferenceWIdeal.main (F := Ideal))) ⟨m', fun _ => 0, g'⟩ (fun r => ∀ c : Dev Cert.ReferenceWIdeal.nD,
          r.2.mem ((c.tc : Thread Cert.ReferenceWIdeal.nD Cert.ReferenceWIdeal.τ).loc Cert.ReferenceWIdeal.main_arg2) = v0 c
          ∧ r.2.mem ((c.tc : Thread Cert.ReferenceWIdeal.nD Cert.ReferenceWIdeal.τ).loc Cert.ReferenceWIdeal.main_v23) = v1 c
          ∧ r.2.mem ((c.tc : Thread Cert.ReferenceWIdeal.nD Cert.ReferenceWIdeal.τ).loc Cert.ReferenceWIdeal.main_v4) = v2 c
          ∧ r.2.mem ((c.tc : Thread Cert.ReferenceWIdeal.nD Cert.ReferenceWIdeal.τ).loc Cert.ReferenceWIdeal.main_v10) = v3 c
          ∧ r.2.mem ((c.tc : Thread Cert.ReferenceWIdeal.nD Cert.ReferenceWIdeal.τ).loc Cert.ReferenceWIdeal.main_v48) = v4 c
          ∧ r.2.mem ((c.tc : Thread Cert.ReferenceWIdeal.nD Cert.ReferenceWIdeal.τ).loc Cert.ReferenceWIdeal.main_v49) = v5 c
          ∧ r.2.mem ((c.tc : Thread Cert.ReferenceWIdeal.nD Cert.ReferenceWIdeal.τ).loc Cert.ReferenceWIdeal.main_v50) = v6 c
          ∧ r.2.mem ((c.tc : Thread Cert.ReferenceWIdeal.nD Cert.ReferenceWIdeal.τ).loc Cert.ReferenceWIdeal.main_v51) = v7 c
          ∧ r.2.mem ((c.tc : Thread Cert.ReferenceWIdeal.nD Cert.ReferenceWIdeal.τ).loc Cert.ReferenceWIdeal.main_arg0) = m' ((c.tc : Thread Cert.ReferenceWIdeal.nD Cert.ReferenceWIdeal.τ).loc Cert.ReferenceWIdeal.main_arg0)
          ∧ r.2.mem ((c.tc : Thread Cert.ReferenceWIdeal.nD Cert.ReferenceWIdeal.τ).loc Cert.ReferenceWIdeal.main_arg1) = m' ((c.tc : Thread Cert.ReferenceWIdeal.nD Cert.ReferenceWIdeal.τ).loc Cert.ReferenceWIdeal.main_arg1)
          ∧ r.2.mem ((c.tc : Thread Cert.ReferenceWIdeal.nD Cert.ReferenceWIdeal.τ).loc Cert.ReferenceWIdeal.main_arg2) = m' ((c.tc : Thread Cert.ReferenceWIdeal.nD Cert.ReferenceWIdeal.τ).loc Cert.ReferenceWIdeal.main_arg2)
          ∧ r.2.mem ((c.tc : Thread Cert.ReferenceWIdeal.nD Cert.ReferenceWIdeal.τ).loc Cert.ReferenceWIdeal.main_arg3) = m' ((c.tc : Thread Cert.ReferenceWIdeal.nD Cert.ReferenceWIdeal.τ).loc Cert.ReferenceWIdeal.main_arg3)
          ∧ r.2.mem ((c.tc : Thread Cert.ReferenceWIdeal.nD Cert.ReferenceWIdeal.τ).loc Cert.ReferenceWIdeal.main_arg4) = m' ((c.tc : Thread Cert.ReferenceWIdeal.nD Cert.ReferenceWIdeal.τ).loc Cert.ReferenceWIdeal.main_arg4)
          ∧ r.2.mem ((c.tc : Thread Cert.ReferenceWIdeal.nD Cert.ReferenceWIdeal.τ).loc Cert.ReferenceWIdeal.main_arg5) = m' ((c.tc : Thread Cert.ReferenceWIdeal.nD Cert.ReferenceWIdeal.τ).loc Cert.ReferenceWIdeal.main_arg5)
          ∧ r.2.mem ((c.tc : Thread Cert.ReferenceWIdeal.nD Cert.ReferenceWIdeal.τ).loc Cert.ReferenceWIdeal.main_arg6) = m' ((c.tc : Thread Cert.ReferenceWIdeal.nD Cert.ReferenceWIdeal.τ).loc Cert.ReferenceWIdeal.main_arg6)
          ∧ r.2.mem ((c.tc : Thread Cert.ReferenceWIdeal.nD Cert.ReferenceWIdeal.τ).loc Cert.ReferenceWIdeal.main_arg7) = m' ((c.tc : Thread Cert.ReferenceWIdeal.nD Cert.ReferenceWIdeal.τ).loc Cert.ReferenceWIdeal.main_arg7)
          ∧ r.2.mem ((c.tc : Thread Cert.ReferenceWIdeal.nD Cert.ReferenceWIdeal.τ).loc Cert.ReferenceWIdeal.main_arg8) = m' ((c.tc : Thread Cert.ReferenceWIdeal.nD Cert.ReferenceWIdeal.τ).loc Cert.ReferenceWIdeal.main_arg8)
          ∧ r.2.mem ((c.tc : Thread Cert.ReferenceWIdeal.nD Cert.ReferenceWIdeal.τ).loc Cert.ReferenceWIdeal.main_arg9) = m' ((c.tc : Thread Cert.ReferenceWIdeal.nD Cert.ReferenceWIdeal.τ).loc Cert.ReferenceWIdeal.main_arg9))

def preserves_KernelG_KernelGIdeal : Prop :=
  True

def algebraic_KernelGIdeal_ReferenceGIdeal [hKernelGIdeal : Cert.KernelGIdeal.Facts] [hReferenceGIdeal : Cert.ReferenceGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg)
    (m' : (ℓ : Loc Cert.ReferenceGIdeal.nD Cert.ReferenceGIdeal.τ Cert.ReferenceGIdeal.sig) → Buf (Elt Ideal) ℓ) (g' : Dev Cert.ReferenceGIdeal.nD → PrngReg), Pre_KernelGIdeal m →
    (∀ c : Dev Cert.KernelGIdeal.nD,
      m' ((c.tc : Thread Cert.ReferenceGIdeal.nD Cert.ReferenceGIdeal.τ).loc Cert.ReferenceGIdeal.main_arg0) = m ((c.tc : Thread Cert.KernelGIdeal.nD Cert.KernelGIdeal.τ).loc Cert.KernelGIdeal.main_arg0)
      ∧ m' ((c.tc : Thread Cert.ReferenceGIdeal.nD Cert.ReferenceGIdeal.τ).loc Cert.ReferenceGIdeal.main_arg1) = m ((c.tc : Thread Cert.KernelGIdeal.nD Cert.KernelGIdeal.τ).loc Cert.KernelGIdeal.main_arg1)
      ∧ m' ((c.tc : Thread Cert.ReferenceGIdeal.nD Cert.ReferenceGIdeal.τ).loc Cert.ReferenceGIdeal.main_arg2) = m ((c.tc : Thread Cert.KernelGIdeal.nD Cert.KernelGIdeal.τ).loc Cert.KernelGIdeal.main_arg2)
      ∧ m' ((c.tc : Thread Cert.ReferenceGIdeal.nD Cert.ReferenceGIdeal.τ).loc Cert.ReferenceGIdeal.main_arg3) = m ((c.tc : Thread Cert.KernelGIdeal.nD Cert.KernelGIdeal.τ).loc Cert.KernelGIdeal.main_arg3)
      ∧ m' ((c.tc : Thread Cert.ReferenceGIdeal.nD Cert.ReferenceGIdeal.τ).loc Cert.ReferenceGIdeal.main_arg4) = m ((c.tc : Thread Cert.KernelGIdeal.nD Cert.KernelGIdeal.τ).loc Cert.KernelGIdeal.main_arg4)
      ∧ m' ((c.tc : Thread Cert.ReferenceGIdeal.nD Cert.ReferenceGIdeal.τ).loc Cert.ReferenceGIdeal.main_arg5) = m ((c.tc : Thread Cert.KernelGIdeal.nD Cert.KernelGIdeal.τ).loc Cert.KernelGIdeal.main_arg5)
      ∧ m' ((c.tc : Thread Cert.ReferenceGIdeal.nD Cert.ReferenceGIdeal.τ).loc Cert.ReferenceGIdeal.main_arg6) = m ((c.tc : Thread Cert.KernelGIdeal.nD Cert.KernelGIdeal.τ).loc Cert.KernelGIdeal.main_arg6)) →
    ∃ (v0 : (c : Dev Cert.KernelGIdeal.nD) → Buf (Elt Ideal) ((c.tc : Thread Cert.KernelGIdeal.nD Cert.KernelGIdeal.τ).loc Cert.KernelGIdeal.main_v5_0)) (v1 : (c : Dev Cert.KernelGIdeal.nD) → Buf (Elt Ideal) ((c.tc : Thread Cert.KernelGIdeal.nD Cert.KernelGIdeal.τ).loc Cert.KernelGIdeal.main_v5_1)),
      θ_run (Cert.KernelGIdeal.defs (F := Ideal)) (onTc (τ := Cert.KernelGIdeal.τ) (Cert.KernelGIdeal.main (F := Ideal))) ⟨m, fun _ => 0, g⟩ (fun r => ∀ c : Dev Cert.KernelGIdeal.nD,
          r.2.mem ((c.tc : Thread Cert.KernelGIdeal.nD Cert.KernelGIdeal.τ).loc Cert.KernelGIdeal.main_v5_0) = v0 c
          ∧ r.2.mem ((c.tc : Thread Cert.KernelGIdeal.nD Cert.KernelGIdeal.τ).loc Cert.KernelGIdeal.main_v5_1) = v1 c
          ∧ r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
          ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
          ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2)
          ∧ r.2.mem ((c.tc : Thread Cert.KernelGIdeal.nD Cert.KernelGIdeal.τ).loc Cert.KernelGIdeal.main_arg3) = m ((c.tc : Thread Cert.KernelGIdeal.nD Cert.KernelGIdeal.τ).loc Cert.KernelGIdeal.main_arg3)
          ∧ r.2.mem ((c.tc : Thread Cert.KernelGIdeal.nD Cert.KernelGIdeal.τ).loc Cert.KernelGIdeal.main_arg4) = m ((c.tc : Thread Cert.KernelGIdeal.nD Cert.KernelGIdeal.τ).loc Cert.KernelGIdeal.main_arg4)
          ∧ r.2.mem ((c.tc : Thread Cert.KernelGIdeal.nD Cert.KernelGIdeal.τ).loc Cert.KernelGIdeal.main_arg5) = m ((c.tc : Thread Cert.KernelGIdeal.nD Cert.KernelGIdeal.τ).loc Cert.KernelGIdeal.main_arg5)
          ∧ r.2.mem ((c.tc : Thread Cert.KernelGIdeal.nD Cert.KernelGIdeal.τ).loc Cert.KernelGIdeal.main_arg6) = m ((c.tc : Thread Cert.KernelGIdeal.nD Cert.KernelGIdeal.τ).loc Cert.KernelGIdeal.main_arg6))
      ∧ θ_run (Cert.ReferenceGIdeal.defs (F := Ideal)) (onTc (τ := Cert.ReferenceGIdeal.τ) (Cert.ReferenceGIdeal.main (F := Ideal))) ⟨m', fun _ => 0, g'⟩ (fun r => ∀ c : Dev Cert.ReferenceGIdeal.nD,
          r.2.mem ((c.tc : Thread Cert.ReferenceGIdeal.nD Cert.ReferenceGIdeal.τ).loc Cert.ReferenceGIdeal.main_v274) = v0 c
          ∧ r.2.mem ((c.tc : Thread Cert.ReferenceGIdeal.nD Cert.ReferenceGIdeal.τ).loc Cert.ReferenceGIdeal.main_v275) = v1 c
          ∧ r.2.mem ((c.tc : Thread Cert.ReferenceGIdeal.nD Cert.ReferenceGIdeal.τ).loc Cert.ReferenceGIdeal.main_arg0) = m' ((c.tc : Thread Cert.ReferenceGIdeal.nD Cert.ReferenceGIdeal.τ).loc Cert.ReferenceGIdeal.main_arg0)
          ∧ r.2.mem ((c.tc : Thread Cert.ReferenceGIdeal.nD Cert.ReferenceGIdeal.τ).loc Cert.ReferenceGIdeal.main_arg1) = m' ((c.tc : Thread Cert.ReferenceGIdeal.nD Cert.ReferenceGIdeal.τ).loc Cert.ReferenceGIdeal.main_arg1)
          ∧ r.2.mem ((c.tc : Thread Cert.ReferenceGIdeal.nD Cert.ReferenceGIdeal.τ).loc Cert.ReferenceGIdeal.main_arg2) = m' ((c.tc : Thread Cert.ReferenceGIdeal.nD Cert.ReferenceGIdeal.τ).loc Cert.ReferenceGIdeal.main_arg2)
          ∧ r.2.mem ((c.tc : Thread Cert.ReferenceGIdeal.nD Cert.ReferenceGIdeal.τ).loc Cert.ReferenceGIdeal.main_arg3) = m' ((c.tc : Thread Cert.ReferenceGIdeal.nD Cert.ReferenceGIdeal.τ).loc Cert.ReferenceGIdeal.main_arg3)
          ∧ r.2.mem ((c.tc : Thread Cert.ReferenceGIdeal.nD Cert.ReferenceGIdeal.τ).loc Cert.ReferenceGIdeal.main_arg4) = m' ((c.tc : Thread Cert.ReferenceGIdeal.nD Cert.ReferenceGIdeal.τ).loc Cert.ReferenceGIdeal.main_arg4)
          ∧ r.2.mem ((c.tc : Thread Cert.ReferenceGIdeal.nD Cert.ReferenceGIdeal.τ).loc Cert.ReferenceGIdeal.main_arg5) = m' ((c.tc : Thread Cert.ReferenceGIdeal.nD Cert.ReferenceGIdeal.τ).loc Cert.ReferenceGIdeal.main_arg5)
          ∧ r.2.mem ((c.tc : Thread Cert.ReferenceGIdeal.nD Cert.ReferenceGIdeal.τ).loc Cert.ReferenceGIdeal.main_arg6) = m' ((c.tc : Thread Cert.ReferenceGIdeal.nD Cert.ReferenceGIdeal.τ).loc Cert.ReferenceGIdeal.main_arg6))

def preserves_KernelH_KernelHIdeal : Prop :=
  True

def preserves_KernelN_KernelNIdeal : Prop :=
  True

def algebraic_KernelNIdeal_ReferenceNIdeal [hKernelNIdeal : Cert.KernelNIdeal.Facts] [hReferenceNIdeal : Cert.ReferenceNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg)
    (m' : (ℓ : Loc Cert.ReferenceNIdeal.nD Cert.ReferenceNIdeal.τ Cert.ReferenceNIdeal.sig) → Buf (Elt Ideal) ℓ) (g' : Dev Cert.ReferenceNIdeal.nD → PrngReg), Pre_KernelNIdeal m →
    (∀ c : Dev Cert.KernelNIdeal.nD,
      m' ((c.tc : Thread Cert.ReferenceNIdeal.nD Cert.ReferenceNIdeal.τ).loc Cert.ReferenceNIdeal.main_arg0) = m ((c.tc : Thread Cert.KernelNIdeal.nD Cert.KernelNIdeal.τ).loc Cert.KernelNIdeal.main_arg0)
      ∧ m' ((c.tc : Thread Cert.ReferenceNIdeal.nD Cert.ReferenceNIdeal.τ).loc Cert.ReferenceNIdeal.main_arg1) = m ((c.tc : Thread Cert.KernelNIdeal.nD Cert.KernelNIdeal.τ).loc Cert.KernelNIdeal.main_arg1)) →
    ∃ (v0 : (c : Dev Cert.KernelNIdeal.nD) → Buf (Elt Ideal) ((c.tc : Thread Cert.KernelNIdeal.nD Cert.KernelNIdeal.τ).loc Cert.KernelNIdeal.main_v1)),
      θ_run (Cert.KernelNIdeal.defs (F := Ideal)) (onTc (τ := Cert.KernelNIdeal.τ) (Cert.KernelNIdeal.main (F := Ideal))) ⟨m, fun _ => 0, g⟩ (fun r => ∀ c : Dev Cert.KernelNIdeal.nD,
          r.2.mem ((c.tc : Thread Cert.KernelNIdeal.nD Cert.KernelNIdeal.τ).loc Cert.KernelNIdeal.main_v1) = v0 c
          ∧ r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
          ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1))
      ∧ θ_run (Cert.ReferenceNIdeal.defs (F := Ideal)) (onTc (τ := Cert.ReferenceNIdeal.τ) (Cert.ReferenceNIdeal.main (F := Ideal))) ⟨m', fun _ => 0, g'⟩ (fun r => ∀ c : Dev Cert.ReferenceNIdeal.nD,
          r.2.mem ((c.tc : Thread Cert.ReferenceNIdeal.nD Cert.ReferenceNIdeal.τ).loc Cert.ReferenceNIdeal.main_v15) = v0 c
          ∧ r.2.mem ((c.tc : Thread Cert.ReferenceNIdeal.nD Cert.ReferenceNIdeal.τ).loc Cert.ReferenceNIdeal.main_arg0) = m' ((c.tc : Thread Cert.ReferenceNIdeal.nD Cert.ReferenceNIdeal.τ).loc Cert.ReferenceNIdeal.main_arg0)
          ∧ r.2.mem ((c.tc : Thread Cert.ReferenceNIdeal.nD Cert.ReferenceNIdeal.τ).loc Cert.ReferenceNIdeal.main_arg1) = m' ((c.tc : Thread Cert.ReferenceNIdeal.nD Cert.ReferenceNIdeal.τ).loc Cert.ReferenceNIdeal.main_arg1))

def preserves_KernelM_KernelMIdeal : Prop :=
  True

def algebraic_KernelMIdeal_ReferenceMIdeal [hKernelMIdeal : Cert.KernelMIdeal.Facts] [hReferenceMIdeal : Cert.ReferenceMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)) →
    ∃ (v0 : (c : Dev Cert.KernelMIdeal.nD) → Buf (Elt Ideal) ((c.tc : Thread Cert.KernelMIdeal.nD Cert.KernelMIdeal.τ).loc Cert.KernelMIdeal.main_v0)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v0) = v0 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v3) = v0 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)) →
    ∃ (v0 : (c : Dev Cert.KernelOIdeal.nD) → Buf (Elt Ideal) ((c.tc : Thread Cert.KernelOIdeal.nD Cert.KernelOIdeal.τ).loc Cert.KernelOIdeal.main_v3_0)) (v1 : (c : Dev Cert.KernelOIdeal.nD) → Buf (Elt Ideal) ((c.tc : Thread Cert.KernelOIdeal.nD Cert.KernelOIdeal.τ).loc Cert.KernelOIdeal.main_v3_1)) (v2 : (c : Dev Cert.KernelOIdeal.nD) → Buf (Elt Ideal) ((c.tc : Thread Cert.KernelOIdeal.nD Cert.KernelOIdeal.τ).loc Cert.KernelOIdeal.main_v3_2)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v3_0) = v0 c
          ∧ r.2.mem ((c.tc : Thread Cert.KernelOIdeal.nD Cert.KernelOIdeal.τ).loc Cert.KernelOIdeal.main_v3_1) = v1 c
          ∧ r.2.mem ((c.tc : Thread Cert.KernelOIdeal.nD Cert.KernelOIdeal.τ).loc Cert.KernelOIdeal.main_v3_2) = v2 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v25) = v0 c
          ∧ r.2.mem ((c.tc : Thread Cert.ReferenceOIdeal.nD Cert.ReferenceOIdeal.τ).loc Cert.ReferenceOIdeal.main_v26) = v1 c
          ∧ r.2.mem ((c.tc : Thread Cert.ReferenceOIdeal.nD Cert.ReferenceOIdeal.τ).loc Cert.ReferenceOIdeal.main_v27) = v2 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3))

def preserves_KernelP_KernelPIdeal : Prop :=
  True

def algebraic_KernelPIdeal_ReferencePIdeal [hKernelPIdeal : Cert.KernelPIdeal.Facts] [hReferencePIdeal : Cert.ReferencePIdeal.Facts] : Prop :=
  ∀ (m : (ℓ : Loc Cert.KernelPIdeal.nD Cert.KernelPIdeal.τ Cert.KernelPIdeal.sig) → Buf (Elt Ideal) ℓ) (g : Dev Cert.KernelPIdeal.nD → PrngReg)
    (m' : (ℓ : Loc Cert.ReferencePIdeal.nD Cert.ReferencePIdeal.τ Cert.ReferencePIdeal.sig) → Buf (Elt Ideal) ℓ) (g' : Dev Cert.ReferencePIdeal.nD → PrngReg), Pre_KernelPIdeal m →
    (∀ c : Dev Cert.KernelPIdeal.nD,
      m' ((c.tc : Thread Cert.ReferencePIdeal.nD Cert.ReferencePIdeal.τ).loc Cert.ReferencePIdeal.main_arg0) = m ((c.tc : Thread Cert.KernelPIdeal.nD Cert.KernelPIdeal.τ).loc Cert.KernelPIdeal.main_arg0)
      ∧ m' ((c.tc : Thread Cert.ReferencePIdeal.nD Cert.ReferencePIdeal.τ).loc Cert.ReferencePIdeal.main_arg1) = m ((c.tc : Thread Cert.KernelPIdeal.nD Cert.KernelPIdeal.τ).loc Cert.KernelPIdeal.main_arg1)
      ∧ m' ((c.tc : Thread Cert.ReferencePIdeal.nD Cert.ReferencePIdeal.τ).loc Cert.ReferencePIdeal.main_arg2) = m ((c.tc : Thread Cert.KernelPIdeal.nD Cert.KernelPIdeal.τ).loc Cert.KernelPIdeal.main_arg2)
      ∧ m' ((c.tc : Thread Cert.ReferencePIdeal.nD Cert.ReferencePIdeal.τ).loc Cert.ReferencePIdeal.main_arg3) = m ((c.tc : Thread Cert.KernelPIdeal.nD Cert.KernelPIdeal.τ).loc Cert.KernelPIdeal.main_arg3)) →
    ∃ (v0 : (c : Dev Cert.KernelPIdeal.nD) → Buf (Elt Ideal) ((c.tc : Thread Cert.KernelPIdeal.nD Cert.KernelPIdeal.τ).loc Cert.KernelPIdeal.main_v3_0)) (v1 : (c : Dev Cert.KernelPIdeal.nD) → Buf (Elt Ideal) ((c.tc : Thread Cert.KernelPIdeal.nD Cert.KernelPIdeal.τ).loc Cert.KernelPIdeal.main_v3_1)) (v2 : (c : Dev Cert.KernelPIdeal.nD) → Buf (Elt Ideal) ((c.tc : Thread Cert.KernelPIdeal.nD Cert.KernelPIdeal.τ).loc Cert.KernelPIdeal.main_v3_2)),
      θ_run (Cert.KernelPIdeal.defs (F := Ideal)) (onTc (τ := Cert.KernelPIdeal.τ) (Cert.KernelPIdeal.main (F := Ideal))) ⟨m, fun _ => 0, g⟩ (fun r => ∀ c : Dev Cert.KernelPIdeal.nD,
          r.2.mem ((c.tc : Thread Cert.KernelPIdeal.nD Cert.KernelPIdeal.τ).loc Cert.KernelPIdeal.main_v3_0) = v0 c
          ∧ r.2.mem ((c.tc : Thread Cert.KernelPIdeal.nD Cert.KernelPIdeal.τ).loc Cert.KernelPIdeal.main_v3_1) = v1 c
          ∧ r.2.mem ((c.tc : Thread Cert.KernelPIdeal.nD Cert.KernelPIdeal.τ).loc Cert.KernelPIdeal.main_v3_2) = v2 c
          ∧ r.2.mem ((c.tc : Thread Cert.KernelPIdeal.nD Cert.KernelPIdeal.τ).loc Cert.KernelPIdeal.main_arg0) = m ((c.tc : Thread Cert.KernelPIdeal.nD Cert.KernelPIdeal.τ).loc Cert.KernelPIdeal.main_arg0)
          ∧ r.2.mem ((c.tc : Thread Cert.KernelPIdeal.nD Cert.KernelPIdeal.τ).loc Cert.KernelPIdeal.main_arg1) = m ((c.tc : Thread Cert.KernelPIdeal.nD Cert.KernelPIdeal.τ).loc Cert.KernelPIdeal.main_arg1)
          ∧ r.2.mem ((c.tc : Thread Cert.KernelPIdeal.nD Cert.KernelPIdeal.τ).loc Cert.KernelPIdeal.main_arg2) = m ((c.tc : Thread Cert.KernelPIdeal.nD Cert.KernelPIdeal.τ).loc Cert.KernelPIdeal.main_arg2)
          ∧ r.2.mem ((c.tc : Thread Cert.KernelPIdeal.nD Cert.KernelPIdeal.τ).loc Cert.KernelPIdeal.main_arg3) = m ((c.tc : Thread Cert.KernelPIdeal.nD Cert.KernelPIdeal.τ).loc Cert.KernelPIdeal.main_arg3))
      ∧ θ_run (Cert.ReferencePIdeal.defs (F := Ideal)) (onTc (τ := Cert.ReferencePIdeal.τ) (Cert.ReferencePIdeal.main (F := Ideal))) ⟨m', fun _ => 0, g'⟩ (fun r => ∀ c : Dev Cert.ReferencePIdeal.nD,
          r.2.mem ((c.tc : Thread Cert.ReferencePIdeal.nD Cert.ReferencePIdeal.τ).loc Cert.ReferencePIdeal.main_v25) = v0 c
          ∧ r.2.mem ((c.tc : Thread Cert.ReferencePIdeal.nD Cert.ReferencePIdeal.τ).loc Cert.ReferencePIdeal.main_v26) = v1 c
          ∧ r.2.mem ((c.tc : Thread Cert.ReferencePIdeal.nD Cert.ReferencePIdeal.τ).loc Cert.ReferencePIdeal.main_v27) = v2 c
          ∧ r.2.mem ((c.tc : Thread Cert.ReferencePIdeal.nD Cert.ReferencePIdeal.τ).loc Cert.ReferencePIdeal.main_arg0) = m' ((c.tc : Thread Cert.ReferencePIdeal.nD Cert.ReferencePIdeal.τ).loc Cert.ReferencePIdeal.main_arg0)
          ∧ r.2.mem ((c.tc : Thread Cert.ReferencePIdeal.nD Cert.ReferencePIdeal.τ).loc Cert.ReferencePIdeal.main_arg1) = m' ((c.tc : Thread Cert.ReferencePIdeal.nD Cert.ReferencePIdeal.τ).loc Cert.ReferencePIdeal.main_arg1)
          ∧ r.2.mem ((c.tc : Thread Cert.ReferencePIdeal.nD Cert.ReferencePIdeal.τ).loc Cert.ReferencePIdeal.main_arg2) = m' ((c.tc : Thread Cert.ReferencePIdeal.nD Cert.ReferencePIdeal.τ).loc Cert.ReferencePIdeal.main_arg2)
          ∧ r.2.mem ((c.tc : Thread Cert.ReferencePIdeal.nD Cert.ReferencePIdeal.τ).loc Cert.ReferencePIdeal.main_arg3) = m' ((c.tc : Thread Cert.ReferencePIdeal.nD Cert.ReferencePIdeal.τ).loc Cert.ReferencePIdeal.main_arg3))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)
      ∧ m' ((c.tc : Thread Cert.ReferenceQIdeal.nD Cert.ReferenceQIdeal.τ).loc Cert.ReferenceQIdeal.main_arg3) = m ((c.tc : Thread Cert.KernelQIdeal.nD Cert.KernelQIdeal.τ).loc Cert.KernelQIdeal.main_arg3)) →
    ∃ (v0 : (c : Dev Cert.KernelQIdeal.nD) → Buf (Elt Ideal) ((c.tc : Thread Cert.KernelQIdeal.nD Cert.KernelQIdeal.τ).loc Cert.KernelQIdeal.main_v3_0)) (v1 : (c : Dev Cert.KernelQIdeal.nD) → Buf (Elt Ideal) ((c.tc : Thread Cert.KernelQIdeal.nD Cert.KernelQIdeal.τ).loc Cert.KernelQIdeal.main_v3_1)) (v2 : (c : Dev Cert.KernelQIdeal.nD) → Buf (Elt Ideal) ((c.tc : Thread Cert.KernelQIdeal.nD Cert.KernelQIdeal.τ).loc Cert.KernelQIdeal.main_v3_2)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v3_0) = v0 c
          ∧ r.2.mem ((c.tc : Thread Cert.KernelQIdeal.nD Cert.KernelQIdeal.τ).loc Cert.KernelQIdeal.main_v3_1) = v1 c
          ∧ r.2.mem ((c.tc : Thread Cert.KernelQIdeal.nD Cert.KernelQIdeal.τ).loc Cert.KernelQIdeal.main_v3_2) = v2 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2)
          ∧ r.2.mem ((c.tc : Thread Cert.KernelQIdeal.nD Cert.KernelQIdeal.τ).loc Cert.KernelQIdeal.main_arg3) = m ((c.tc : Thread Cert.KernelQIdeal.nD Cert.KernelQIdeal.τ).loc Cert.KernelQIdeal.main_arg3))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v25) = v0 c
          ∧ r.2.mem ((c.tc : Thread Cert.ReferenceQIdeal.nD Cert.ReferenceQIdeal.τ).loc Cert.ReferenceQIdeal.main_v26) = v1 c
          ∧ r.2.mem ((c.tc : Thread Cert.ReferenceQIdeal.nD Cert.ReferenceQIdeal.τ).loc Cert.ReferenceQIdeal.main_v27) = v2 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2)
          ∧ r.2.mem ((c.tc : Thread Cert.ReferenceQIdeal.nD Cert.ReferenceQIdeal.τ).loc Cert.ReferenceQIdeal.main_arg3) = m' ((c.tc : Thread Cert.ReferenceQIdeal.nD Cert.ReferenceQIdeal.τ).loc Cert.ReferenceQIdeal.main_arg3))

def preserves_KernelY_KernelYIdeal : Prop :=
  True

def algebraic_KernelYIdeal_ReferenceYIdeal [hKernelYIdeal : Cert.KernelYIdeal.Facts] [hReferenceYIdeal : Cert.ReferenceYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg)
    (m' : (ℓ : Loc Cert.ReferenceYIdeal.nD Cert.ReferenceYIdeal.τ Cert.ReferenceYIdeal.sig) → Buf (Elt Ideal) ℓ) (g' : Dev Cert.ReferenceYIdeal.nD → PrngReg), Pre_KernelYIdeal m →
    (∀ c : Dev Cert.KernelYIdeal.nD,
      m' ((c.tc : Thread Cert.ReferenceYIdeal.nD Cert.ReferenceYIdeal.τ).loc Cert.ReferenceYIdeal.main_arg0) = m ((c.tc : Thread Cert.KernelYIdeal.nD Cert.KernelYIdeal.τ).loc Cert.KernelYIdeal.main_arg0)
      ∧ m' ((c.tc : Thread Cert.ReferenceYIdeal.nD Cert.ReferenceYIdeal.τ).loc Cert.ReferenceYIdeal.main_arg1) = m ((c.tc : Thread Cert.KernelYIdeal.nD Cert.KernelYIdeal.τ).loc Cert.KernelYIdeal.main_arg1)
      ∧ m' ((c.tc : Thread Cert.ReferenceYIdeal.nD Cert.ReferenceYIdeal.τ).loc Cert.ReferenceYIdeal.main_arg2) = m ((c.tc : Thread Cert.KernelYIdeal.nD Cert.KernelYIdeal.τ).loc Cert.KernelYIdeal.main_arg2)
      ∧ m' ((c.tc : Thread Cert.ReferenceYIdeal.nD Cert.ReferenceYIdeal.τ).loc Cert.ReferenceYIdeal.main_arg3) = m ((c.tc : Thread Cert.KernelYIdeal.nD Cert.KernelYIdeal.τ).loc Cert.KernelYIdeal.main_arg3)) →
    ∃ (v0 : (c : Dev Cert.KernelYIdeal.nD) → Buf (Elt Ideal) ((c.tc : Thread Cert.KernelYIdeal.nD Cert.KernelYIdeal.τ).loc Cert.KernelYIdeal.main_v3_0)) (v1 : (c : Dev Cert.KernelYIdeal.nD) → Buf (Elt Ideal) ((c.tc : Thread Cert.KernelYIdeal.nD Cert.KernelYIdeal.τ).loc Cert.KernelYIdeal.main_v3_1)) (v2 : (c : Dev Cert.KernelYIdeal.nD) → Buf (Elt Ideal) ((c.tc : Thread Cert.KernelYIdeal.nD Cert.KernelYIdeal.τ).loc Cert.KernelYIdeal.main_v3_2)),
      θ_run (Cert.KernelYIdeal.defs (F := Ideal)) (onTc (τ := Cert.KernelYIdeal.τ) (Cert.KernelYIdeal.main (F := Ideal))) ⟨m, fun _ => 0, g⟩ (fun r => ∀ c : Dev Cert.KernelYIdeal.nD,
          r.2.mem ((c.tc : Thread Cert.KernelYIdeal.nD Cert.KernelYIdeal.τ).loc Cert.KernelYIdeal.main_v3_0) = v0 c
          ∧ r.2.mem ((c.tc : Thread Cert.KernelYIdeal.nD Cert.KernelYIdeal.τ).loc Cert.KernelYIdeal.main_v3_1) = v1 c
          ∧ r.2.mem ((c.tc : Thread Cert.KernelYIdeal.nD Cert.KernelYIdeal.τ).loc Cert.KernelYIdeal.main_v3_2) = v2 c
          ∧ r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
          ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
          ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2)
          ∧ r.2.mem ((c.tc : Thread Cert.KernelYIdeal.nD Cert.KernelYIdeal.τ).loc Cert.KernelYIdeal.main_arg3) = m ((c.tc : Thread Cert.KernelYIdeal.nD Cert.KernelYIdeal.τ).loc Cert.KernelYIdeal.main_arg3))
      ∧ θ_run (Cert.ReferenceYIdeal.defs (F := Ideal)) (onTc (τ := Cert.ReferenceYIdeal.τ) (Cert.ReferenceYIdeal.main (F := Ideal))) ⟨m', fun _ => 0, g'⟩ (fun r => ∀ c : Dev Cert.ReferenceYIdeal.nD,
          r.2.mem ((c.tc : Thread Cert.ReferenceYIdeal.nD Cert.ReferenceYIdeal.τ).loc Cert.ReferenceYIdeal.main_v25) = v0 c
          ∧ r.2.mem ((c.tc : Thread Cert.ReferenceYIdeal.nD Cert.ReferenceYIdeal.τ).loc Cert.ReferenceYIdeal.main_v26) = v1 c
          ∧ r.2.mem ((c.tc : Thread Cert.ReferenceYIdeal.nD Cert.ReferenceYIdeal.τ).loc Cert.ReferenceYIdeal.main_v27) = v2 c
          ∧ r.2.mem ((c.tc : Thread Cert.ReferenceYIdeal.nD Cert.ReferenceYIdeal.τ).loc Cert.ReferenceYIdeal.main_arg0) = m' ((c.tc : Thread Cert.ReferenceYIdeal.nD Cert.ReferenceYIdeal.τ).loc Cert.ReferenceYIdeal.main_arg0)
          ∧ r.2.mem ((c.tc : Thread Cert.ReferenceYIdeal.nD Cert.ReferenceYIdeal.τ).loc Cert.ReferenceYIdeal.main_arg1) = m' ((c.tc : Thread Cert.ReferenceYIdeal.nD Cert.ReferenceYIdeal.τ).loc Cert.ReferenceYIdeal.main_arg1)
          ∧ r.2.mem ((c.tc : Thread Cert.ReferenceYIdeal.nD Cert.ReferenceYIdeal.τ).loc Cert.ReferenceYIdeal.main_arg2) = m' ((c.tc : Thread Cert.ReferenceYIdeal.nD Cert.ReferenceYIdeal.τ).loc Cert.ReferenceYIdeal.main_arg2)
          ∧ r.2.mem ((c.tc : Thread Cert.ReferenceYIdeal.nD Cert.ReferenceYIdeal.τ).loc Cert.ReferenceYIdeal.main_arg3) = m' ((c.tc : Thread Cert.ReferenceYIdeal.nD Cert.ReferenceYIdeal.τ).loc Cert.ReferenceYIdeal.main_arg3))

def preserves_KernelC_KernelCIdeal : Prop :=
  True

def preserves_KernelE_KernelEIdeal : Prop :=
  True

def algebraic_KernelEIdeal_ReferenceEIdeal [hKernelEIdeal : Cert.KernelEIdeal.Facts] [hReferenceEIdeal : Cert.ReferenceEIdeal.Facts] : Prop :=
  ∀ (m : (ℓ : Loc Cert.KernelEIdeal.nD Cert.KernelEIdeal.τ Cert.KernelEIdeal.sig) → Buf (Elt Ideal) ℓ) (g : Dev Cert.KernelEIdeal.nD → PrngReg)
    (m' : (ℓ : Loc Cert.ReferenceEIdeal.nD Cert.ReferenceEIdeal.τ Cert.ReferenceEIdeal.sig) → Buf (Elt Ideal) ℓ) (g' : Dev Cert.ReferenceEIdeal.nD → PrngReg), Pre_KernelEIdeal m →
    (∀ c : Dev Cert.KernelEIdeal.nD,
      m' ((c.tc : Thread Cert.ReferenceEIdeal.nD Cert.ReferenceEIdeal.τ).loc Cert.ReferenceEIdeal.main_arg0) = m ((c.tc : Thread Cert.KernelEIdeal.nD Cert.KernelEIdeal.τ).loc Cert.KernelEIdeal.main_arg0)) →
    ∃ (v0 : (c : Dev Cert.KernelEIdeal.nD) → Buf (Elt Ideal) ((c.tc : Thread Cert.KernelEIdeal.nD Cert.KernelEIdeal.τ).loc Cert.KernelEIdeal.main_v0)),
      θ_run (Cert.KernelEIdeal.defs (F := Ideal)) (onTc (τ := Cert.KernelEIdeal.τ) (Cert.KernelEIdeal.main (F := Ideal))) ⟨m, fun _ => 0, g⟩ (fun r => ∀ c : Dev Cert.KernelEIdeal.nD,
          r.2.mem ((c.tc : Thread Cert.KernelEIdeal.nD Cert.KernelEIdeal.τ).loc Cert.KernelEIdeal.main_v0) = v0 c
          ∧ r.2.mem ((c.tc : Thread Cert.KernelEIdeal.nD Cert.KernelEIdeal.τ).loc Cert.KernelEIdeal.main_arg0) = m ((c.tc : Thread Cert.KernelEIdeal.nD Cert.KernelEIdeal.τ).loc Cert.KernelEIdeal.main_arg0))
      ∧ θ_run (Cert.ReferenceEIdeal.defs (F := Ideal)) (onTc (τ := Cert.ReferenceEIdeal.τ) (Cert.ReferenceEIdeal.main (F := Ideal))) ⟨m', fun _ => 0, g'⟩ (fun r => ∀ c : Dev Cert.ReferenceEIdeal.nD,
          r.2.mem ((c.tc : Thread Cert.ReferenceEIdeal.nD Cert.ReferenceEIdeal.τ).loc Cert.ReferenceEIdeal.main_v0) = v0 c
          ∧ r.2.mem ((c.tc : Thread Cert.ReferenceEIdeal.nD Cert.ReferenceEIdeal.τ).loc Cert.ReferenceEIdeal.main_arg0) = m' ((c.tc : Thread Cert.ReferenceEIdeal.nD Cert.ReferenceEIdeal.τ).loc Cert.ReferenceEIdeal.main_arg0))

def preserves_KernelI_KernelIIdeal : Prop :=
  True

def algebraic_KernelIIdeal_ReferenceIIdeal [hKernelIIdeal : Cert.KernelIIdeal.Facts] [hReferenceIIdeal : Cert.ReferenceIIdeal.Facts] : Prop :=
  ∀ (m : (ℓ : Loc Cert.KernelIIdeal.nD Cert.KernelIIdeal.τ Cert.KernelIIdeal.sig) → Buf (Elt Ideal) ℓ) (g : Dev Cert.KernelIIdeal.nD → PrngReg)
    (m' : (ℓ : Loc Cert.ReferenceIIdeal.nD Cert.ReferenceIIdeal.τ Cert.ReferenceIIdeal.sig) → Buf (Elt Ideal) ℓ) (g' : Dev Cert.ReferenceIIdeal.nD → PrngReg), Pre_KernelIIdeal m →
    (∀ c : Dev Cert.KernelIIdeal.nD,
      m' ((c.tc : Thread Cert.ReferenceIIdeal.nD Cert.ReferenceIIdeal.τ).loc Cert.ReferenceIIdeal.main_arg0) = m ((c.tc : Thread Cert.KernelIIdeal.nD Cert.KernelIIdeal.τ).loc Cert.KernelIIdeal.main_arg0)
      ∧ m' ((c.tc : Thread Cert.ReferenceIIdeal.nD Cert.ReferenceIIdeal.τ).loc Cert.ReferenceIIdeal.main_arg1) = m ((c.tc : Thread Cert.KernelIIdeal.nD Cert.KernelIIdeal.τ).loc Cert.KernelIIdeal.main_arg1)) →
    ∃ (v0 : (c : Dev Cert.KernelIIdeal.nD) → Buf (Elt Ideal) ((c.tc : Thread Cert.KernelIIdeal.nD Cert.KernelIIdeal.τ).loc Cert.KernelIIdeal.main_v0)),
      θ_run (Cert.KernelIIdeal.defs (F := Ideal)) (onTc (τ := Cert.KernelIIdeal.τ) (Cert.KernelIIdeal.main (F := Ideal))) ⟨m, fun _ => 0, g⟩ (fun r => ∀ c : Dev Cert.KernelIIdeal.nD,
          r.2.mem ((c.tc : Thread Cert.KernelIIdeal.nD Cert.KernelIIdeal.τ).loc Cert.KernelIIdeal.main_v0) = v0 c
          ∧ r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
          ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1))
      ∧ θ_run (Cert.ReferenceIIdeal.defs (F := Ideal)) (onTc (τ := Cert.ReferenceIIdeal.τ) (Cert.ReferenceIIdeal.main (F := Ideal))) ⟨m', fun _ => 0, g'⟩ (fun r => ∀ c : Dev Cert.ReferenceIIdeal.nD,
          r.2.mem ((c.tc : Thread Cert.ReferenceIIdeal.nD Cert.ReferenceIIdeal.τ).loc Cert.ReferenceIIdeal.main_v2) = v0 c
          ∧ r.2.mem ((c.tc : Thread Cert.ReferenceIIdeal.nD Cert.ReferenceIIdeal.τ).loc Cert.ReferenceIIdeal.main_arg0) = m' ((c.tc : Thread Cert.ReferenceIIdeal.nD Cert.ReferenceIIdeal.τ).loc Cert.ReferenceIIdeal.main_arg0)
          ∧ r.2.mem ((c.tc : Thread Cert.ReferenceIIdeal.nD Cert.ReferenceIIdeal.τ).loc Cert.ReferenceIIdeal.main_arg1) = m' ((c.tc : Thread Cert.ReferenceIIdeal.nD Cert.ReferenceIIdeal.τ).loc Cert.ReferenceIIdeal.main_arg1))

def preserves_KernelB_KernelBIdeal : Prop :=
  True

def algebraic_KernelBIdeal_ReferenceBIdeal [hKernelBIdeal : Cert.KernelBIdeal.Facts] [hReferenceBIdeal : Cert.ReferenceBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)) →
    ∃ (v0 : (c : Dev Cert.KernelBIdeal.nD) → Buf (Elt Ideal) ((c.tc : Thread Cert.KernelBIdeal.nD Cert.KernelBIdeal.τ).loc Cert.KernelBIdeal.main_v0)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v0) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v4) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2))

def preserves_KernelJ_KernelJIdeal : Prop :=
  True

def algebraic_KernelJIdeal_ReferenceJIdeal [hKernelJIdeal : Cert.KernelJIdeal.Facts] [hReferenceJIdeal : Cert.ReferenceJIdeal.Facts] : Prop :=
  ∀ (m : (ℓ : Loc Cert.KernelJIdeal.nD Cert.KernelJIdeal.τ Cert.KernelJIdeal.sig) → Buf (Elt Ideal) ℓ) (g : Dev Cert.KernelJIdeal.nD → PrngReg)
    (m' : (ℓ : Loc Cert.ReferenceJIdeal.nD Cert.ReferenceJIdeal.τ Cert.ReferenceJIdeal.sig) → Buf (Elt Ideal) ℓ) (g' : Dev Cert.ReferenceJIdeal.nD → PrngReg), Pre_KernelJIdeal m →
    (∀ c : Dev Cert.KernelJIdeal.nD,
      m' ((c.tc : Thread Cert.ReferenceJIdeal.nD Cert.ReferenceJIdeal.τ).loc Cert.ReferenceJIdeal.main_arg0) = m ((c.tc : Thread Cert.KernelJIdeal.nD Cert.KernelJIdeal.τ).loc Cert.KernelJIdeal.main_arg0)
      ∧ m' ((c.tc : Thread Cert.ReferenceJIdeal.nD Cert.ReferenceJIdeal.τ).loc Cert.ReferenceJIdeal.main_arg1) = m ((c.tc : Thread Cert.KernelJIdeal.nD Cert.KernelJIdeal.τ).loc Cert.KernelJIdeal.main_arg1)
      ∧ m' ((c.tc : Thread Cert.ReferenceJIdeal.nD Cert.ReferenceJIdeal.τ).loc Cert.ReferenceJIdeal.main_arg2) = m ((c.tc : Thread Cert.KernelJIdeal.nD Cert.KernelJIdeal.τ).loc Cert.KernelJIdeal.main_arg2)) →
    ∃ (v0 : (c : Dev Cert.KernelJIdeal.nD) → Buf (Elt Ideal) ((c.tc : Thread Cert.KernelJIdeal.nD Cert.KernelJIdeal.τ).loc Cert.KernelJIdeal.main_v0)),
      θ_run (Cert.KernelJIdeal.defs (F := Ideal)) (onTc (τ := Cert.KernelJIdeal.τ) (Cert.KernelJIdeal.main (F := Ideal))) ⟨m, fun _ => 0, g⟩ (fun r => ∀ c : Dev Cert.KernelJIdeal.nD,
          r.2.mem ((c.tc : Thread Cert.KernelJIdeal.nD Cert.KernelJIdeal.τ).loc Cert.KernelJIdeal.main_v0) = v0 c
          ∧ r.2.mem ((c.tc : Thread Cert.KernelJIdeal.nD Cert.KernelJIdeal.τ).loc Cert.KernelJIdeal.main_arg0) = m ((c.tc : Thread Cert.KernelJIdeal.nD Cert.KernelJIdeal.τ).loc Cert.KernelJIdeal.main_arg0)
          ∧ r.2.mem ((c.tc : Thread Cert.KernelJIdeal.nD Cert.KernelJIdeal.τ).loc Cert.KernelJIdeal.main_arg1) = m ((c.tc : Thread Cert.KernelJIdeal.nD Cert.KernelJIdeal.τ).loc Cert.KernelJIdeal.main_arg1)
          ∧ r.2.mem ((c.tc : Thread Cert.KernelJIdeal.nD Cert.KernelJIdeal.τ).loc Cert.KernelJIdeal.main_arg2) = m ((c.tc : Thread Cert.KernelJIdeal.nD Cert.KernelJIdeal.τ).loc Cert.KernelJIdeal.main_arg2))
      ∧ θ_run (Cert.ReferenceJIdeal.defs (F := Ideal)) (onTc (τ := Cert.ReferenceJIdeal.τ) (Cert.ReferenceJIdeal.main (F := Ideal))) ⟨m', fun _ => 0, g'⟩ (fun r => ∀ c : Dev Cert.ReferenceJIdeal.nD,
          r.2.mem ((c.tc : Thread Cert.ReferenceJIdeal.nD Cert.ReferenceJIdeal.τ).loc Cert.ReferenceJIdeal.main_v5) = v0 c
          ∧ r.2.mem ((c.tc : Thread Cert.ReferenceJIdeal.nD Cert.ReferenceJIdeal.τ).loc Cert.ReferenceJIdeal.main_arg0) = m' ((c.tc : Thread Cert.ReferenceJIdeal.nD Cert.ReferenceJIdeal.τ).loc Cert.ReferenceJIdeal.main_arg0)
          ∧ r.2.mem ((c.tc : Thread Cert.ReferenceJIdeal.nD Cert.ReferenceJIdeal.τ).loc Cert.ReferenceJIdeal.main_arg1) = m' ((c.tc : Thread Cert.ReferenceJIdeal.nD Cert.ReferenceJIdeal.τ).loc Cert.ReferenceJIdeal.main_arg1)
          ∧ r.2.mem ((c.tc : Thread Cert.ReferenceJIdeal.nD Cert.ReferenceJIdeal.τ).loc Cert.ReferenceJIdeal.main_arg2) = m' ((c.tc : Thread Cert.ReferenceJIdeal.nD Cert.ReferenceJIdeal.τ).loc Cert.ReferenceJIdeal.main_arg2))

def Claim : Prop :=
  ∃ (hKernelX : Cert.KernelX.Facts) (hKernelXIdeal : Cert.KernelXIdeal.Facts) (hReferenceXIdeal : Cert.ReferenceXIdeal.Facts) (hKernelT : Cert.KernelT.Facts) (hKernelTIdeal : Cert.KernelTIdeal.Facts) (hReferenceTIdeal : Cert.ReferenceTIdeal.Facts) (hKernelF : Cert.KernelF.Facts) (hKernelFIdeal : Cert.KernelFIdeal.Facts) (hReferenceFIdeal : Cert.ReferenceFIdeal.Facts) (hKernelL : Cert.KernelL.Facts) (hKernelLIdeal : Cert.KernelLIdeal.Facts) (hReferenceLIdeal : Cert.ReferenceLIdeal.Facts) (hKernelS : Cert.KernelS.Facts) (hKernelSIdeal : Cert.KernelSIdeal.Facts) (hReferenceSIdeal : Cert.ReferenceSIdeal.Facts) (hKernelU : Cert.KernelU.Facts) (hKernelUIdeal : Cert.KernelUIdeal.Facts) (hReferenceUIdeal : Cert.ReferenceUIdeal.Facts) (hKernelW : Cert.KernelW.Facts) (hKernelWIdeal : Cert.KernelWIdeal.Facts) (hReferenceWIdeal : Cert.ReferenceWIdeal.Facts) (hKernelG : Cert.KernelG.Facts) (hKernelGIdeal : Cert.KernelGIdeal.Facts) (hReferenceGIdeal : Cert.ReferenceGIdeal.Facts) (hKernelH : Cert.KernelH.Facts) (hKernelHIdeal : Cert.KernelHIdeal.Facts) (hKernelN : Cert.KernelN.Facts) (hKernelNIdeal : Cert.KernelNIdeal.Facts) (hReferenceNIdeal : Cert.ReferenceNIdeal.Facts) (hKernelM : Cert.KernelM.Facts) (hKernelMIdeal : Cert.KernelMIdeal.Facts) (hReferenceMIdeal : Cert.ReferenceMIdeal.Facts) (hKernelO : Cert.KernelO.Facts) (hKernelOIdeal : Cert.KernelOIdeal.Facts) (hReferenceOIdeal : Cert.ReferenceOIdeal.Facts) (hKernelP : Cert.KernelP.Facts) (hKernelPIdeal : Cert.KernelPIdeal.Facts) (hReferencePIdeal : Cert.ReferencePIdeal.Facts) (hKernelQ : Cert.KernelQ.Facts) (hKernelQIdeal : Cert.KernelQIdeal.Facts) (hReferenceQIdeal : Cert.ReferenceQIdeal.Facts) (hKernelY : Cert.KernelY.Facts) (hKernelYIdeal : Cert.KernelYIdeal.Facts) (hReferenceYIdeal : Cert.ReferenceYIdeal.Facts) (hKernelC : Cert.KernelC.Facts) (hKernelCIdeal : Cert.KernelCIdeal.Facts) (hKernelE : Cert.KernelE.Facts) (hKernelEIdeal : Cert.KernelEIdeal.Facts) (hReferenceEIdeal : Cert.ReferenceEIdeal.Facts) (hKernelI : Cert.KernelI.Facts) (hKernelIIdeal : Cert.KernelIIdeal.Facts) (hReferenceIIdeal : Cert.ReferenceIIdeal.Facts) (hKernelB : Cert.KernelB.Facts) (hKernelBIdeal : Cert.KernelBIdeal.Facts) (hReferenceBIdeal : Cert.ReferenceBIdeal.Facts) (hKernelJ : Cert.KernelJ.Facts) (hKernelJIdeal : Cert.KernelJIdeal.Facts) (hReferenceJIdeal : Cert.ReferenceJIdeal.Facts) (hPre_logits_finite : Cert.Pre_logits_finite.Facts) (hPre_logits_and_cotangent_finite : Cert.Pre_logits_and_cotangent_finite.Facts),
    quiescent_KernelX (hKernelX := hKernelX)
    ∧ quiescent_KernelXIdeal (hKernelXIdeal := hKernelXIdeal)
    ∧ quiescent_ReferenceXIdeal (hReferenceXIdeal := hReferenceXIdeal)
    ∧ quiescent_KernelT (hKernelT := hKernelT)
    ∧ quiescent_KernelTIdeal (hKernelTIdeal := hKernelTIdeal)
    ∧ quiescent_ReferenceTIdeal (hReferenceTIdeal := hReferenceTIdeal)
    ∧ quiescent_KernelF (hKernelF := hKernelF)
    ∧ quiescent_KernelFIdeal (hKernelFIdeal := hKernelFIdeal)
    ∧ quiescent_KernelFIdeal_pre_logits_finite (hKernelFIdeal := hKernelFIdeal) (hPre_logits_finite := hPre_logits_finite)
    ∧ quiescent_ReferenceFIdeal (hReferenceFIdeal := hReferenceFIdeal)
    ∧ quiescent_ReferenceFIdeal_pre_logits_finite (hReferenceFIdeal := hReferenceFIdeal) (hPre_logits_finite := hPre_logits_finite)
    ∧ quiescent_KernelL (hKernelL := hKernelL)
    ∧ quiescent_KernelLIdeal (hKernelLIdeal := hKernelLIdeal)
    ∧ quiescent_KernelLIdeal_pre_logits_and_cotangent_finite (hKernelLIdeal := hKernelLIdeal) (hPre_logits_and_cotangent_finite := hPre_logits_and_cotangent_finite)
    ∧ quiescent_ReferenceLIdeal (hReferenceLIdeal := hReferenceLIdeal)
    ∧ quiescent_ReferenceLIdeal_pre_logits_and_cotangent_finite (hReferenceLIdeal := hReferenceLIdeal) (hPre_logits_and_cotangent_finite := hPre_logits_and_cotangent_finite)
    ∧ quiescent_KernelS (hKernelS := hKernelS)
    ∧ quiescent_KernelSIdeal (hKernelSIdeal := hKernelSIdeal)
    ∧ quiescent_ReferenceSIdeal (hReferenceSIdeal := hReferenceSIdeal)
    ∧ quiescent_KernelU (hKernelU := hKernelU)
    ∧ quiescent_KernelUIdeal (hKernelUIdeal := hKernelUIdeal)
    ∧ quiescent_ReferenceUIdeal (hReferenceUIdeal := hReferenceUIdeal)
    ∧ quiescent_KernelW (hKernelW := hKernelW)
    ∧ quiescent_KernelWIdeal (hKernelWIdeal := hKernelWIdeal)
    ∧ quiescent_ReferenceWIdeal (hReferenceWIdeal := hReferenceWIdeal)
    ∧ quiescent_KernelG (hKernelG := hKernelG)
    ∧ quiescent_KernelGIdeal (hKernelGIdeal := hKernelGIdeal)
    ∧ quiescent_ReferenceGIdeal (hReferenceGIdeal := hReferenceGIdeal)
    ∧ quiescent_KernelH (hKernelH := hKernelH)
    ∧ quiescent_KernelHIdeal (hKernelHIdeal := hKernelHIdeal)
    ∧ quiescent_KernelN (hKernelN := hKernelN)
    ∧ quiescent_KernelNIdeal (hKernelNIdeal := hKernelNIdeal)
    ∧ quiescent_ReferenceNIdeal (hReferenceNIdeal := hReferenceNIdeal)
    ∧ quiescent_KernelM (hKernelM := hKernelM)
    ∧ quiescent_KernelMIdeal (hKernelMIdeal := hKernelMIdeal)
    ∧ quiescent_ReferenceMIdeal (hReferenceMIdeal := hReferenceMIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelP (hKernelP := hKernelP)
    ∧ quiescent_KernelPIdeal (hKernelPIdeal := hKernelPIdeal)
    ∧ quiescent_ReferencePIdeal (hReferencePIdeal := hReferencePIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelY (hKernelY := hKernelY)
    ∧ quiescent_KernelYIdeal (hKernelYIdeal := hKernelYIdeal)
    ∧ quiescent_ReferenceYIdeal (hReferenceYIdeal := hReferenceYIdeal)
    ∧ quiescent_KernelC (hKernelC := hKernelC)
    ∧ quiescent_KernelCIdeal (hKernelCIdeal := hKernelCIdeal)
    ∧ quiescent_KernelE (hKernelE := hKernelE)
    ∧ quiescent_KernelEIdeal (hKernelEIdeal := hKernelEIdeal)
    ∧ quiescent_ReferenceEIdeal (hReferenceEIdeal := hReferenceEIdeal)
    ∧ quiescent_KernelI (hKernelI := hKernelI)
    ∧ quiescent_KernelIIdeal (hKernelIIdeal := hKernelIIdeal)
    ∧ quiescent_ReferenceIIdeal (hReferenceIIdeal := hReferenceIIdeal)
    ∧ quiescent_KernelB (hKernelB := hKernelB)
    ∧ quiescent_KernelBIdeal (hKernelBIdeal := hKernelBIdeal)
    ∧ quiescent_ReferenceBIdeal (hReferenceBIdeal := hReferenceBIdeal)
    ∧ quiescent_KernelJ (hKernelJ := hKernelJ)
    ∧ quiescent_KernelJIdeal (hKernelJIdeal := hKernelJIdeal)
    ∧ quiescent_ReferenceJIdeal (hReferenceJIdeal := hReferenceJIdeal)
    ∧ preserves_KernelX_KernelXIdeal
    ∧ algebraic_KernelXIdeal_ReferenceXIdeal (hKernelXIdeal := hKernelXIdeal) (hReferenceXIdeal := hReferenceXIdeal)
    ∧ preserves_KernelT_KernelTIdeal
    ∧ algebraic_KernelTIdeal_ReferenceTIdeal (hKernelTIdeal := hKernelTIdeal) (hReferenceTIdeal := hReferenceTIdeal)
    ∧ preserves_KernelF_KernelFIdeal
    ∧ algebraic_KernelFIdeal_ReferenceFIdeal_pre_logits_finite (hKernelFIdeal := hKernelFIdeal) (hReferenceFIdeal := hReferenceFIdeal) (hPre_logits_finite := hPre_logits_finite)
    ∧ preserves_KernelL_KernelLIdeal
    ∧ algebraic_KernelLIdeal_ReferenceLIdeal_pre_logits_and_cotangent_finite (hKernelLIdeal := hKernelLIdeal) (hReferenceLIdeal := hReferenceLIdeal) (hPre_logits_and_cotangent_finite := hPre_logits_and_cotangent_finite)
    ∧ preserves_KernelS_KernelSIdeal
    ∧ algebraic_KernelSIdeal_ReferenceSIdeal (hKernelSIdeal := hKernelSIdeal) (hReferenceSIdeal := hReferenceSIdeal)
    ∧ preserves_KernelU_KernelUIdeal
    ∧ algebraic_KernelUIdeal_ReferenceUIdeal (hKernelUIdeal := hKernelUIdeal) (hReferenceUIdeal := hReferenceUIdeal)
    ∧ preserves_KernelW_KernelWIdeal
    ∧ algebraic_KernelWIdeal_ReferenceWIdeal (hKernelWIdeal := hKernelWIdeal) (hReferenceWIdeal := hReferenceWIdeal)
    ∧ preserves_KernelG_KernelGIdeal
    ∧ algebraic_KernelGIdeal_ReferenceGIdeal (hKernelGIdeal := hKernelGIdeal) (hReferenceGIdeal := hReferenceGIdeal)
    ∧ preserves_KernelH_KernelHIdeal
    ∧ preserves_KernelN_KernelNIdeal
    ∧ algebraic_KernelNIdeal_ReferenceNIdeal (hKernelNIdeal := hKernelNIdeal) (hReferenceNIdeal := hReferenceNIdeal)
    ∧ preserves_KernelM_KernelMIdeal
    ∧ algebraic_KernelMIdeal_ReferenceMIdeal (hKernelMIdeal := hKernelMIdeal) (hReferenceMIdeal := hReferenceMIdeal)
    ∧ preserves_KernelO_KernelOIdeal
    ∧ algebraic_KernelOIdeal_ReferenceOIdeal (hKernelOIdeal := hKernelOIdeal) (hReferenceOIdeal := hReferenceOIdeal)
    ∧ preserves_KernelP_KernelPIdeal
    ∧ algebraic_KernelPIdeal_ReferencePIdeal (hKernelPIdeal := hKernelPIdeal) (hReferencePIdeal := hReferencePIdeal)
    ∧ preserves_KernelQ_KernelQIdeal
    ∧ algebraic_KernelQIdeal_ReferenceQIdeal (hKernelQIdeal := hKernelQIdeal) (hReferenceQIdeal := hReferenceQIdeal)
    ∧ preserves_KernelY_KernelYIdeal
    ∧ algebraic_KernelYIdeal_ReferenceYIdeal (hKernelYIdeal := hKernelYIdeal) (hReferenceYIdeal := hReferenceYIdeal)
    ∧ preserves_KernelC_KernelCIdeal
    ∧ preserves_KernelE_KernelEIdeal
    ∧ algebraic_KernelEIdeal_ReferenceEIdeal (hKernelEIdeal := hKernelEIdeal) (hReferenceEIdeal := hReferenceEIdeal)
    ∧ preserves_KernelI_KernelIIdeal
    ∧ algebraic_KernelIIdeal_ReferenceIIdeal (hKernelIIdeal := hKernelIIdeal) (hReferenceIIdeal := hReferenceIIdeal)
    ∧ preserves_KernelB_KernelBIdeal
    ∧ algebraic_KernelBIdeal_ReferenceBIdeal (hKernelBIdeal := hKernelBIdeal) (hReferenceBIdeal := hReferenceBIdeal)
    ∧ preserves_KernelJ_KernelJIdeal
    ∧ algebraic_KernelJIdeal_ReferenceJIdeal (hKernelJIdeal := hKernelJIdeal) (hReferenceJIdeal := hReferenceJIdeal)
-- ==== Pre_logits_and_cotangent_finite.lean ====
abbrev S1024 : Shape := ⟨1, ![1024]⟩
abbrev S1x31x256 : Shape := ⟨3, ![1, 31, 256]⟩
abbrev S2x1024 : Shape := ⟨2, ![2, 1024]⟩
abbrev S_ : Shape := ⟨0, ![]⟩
abbrev S1x1024 : Shape := ⟨2, ![1, 1024]⟩

class Facts : Prop where
  bcast_S_S2x1024 : S_.BroadcastsInDim S2x1024 (![] : Fin 0 → Fin S2x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S2x1024_0_1 : S1x1024.BroadcastsInDim S2x1024 (![0, 1] : Fin 2 → Fin S2x1024.rank)

variable [Facts]

def fn {F : FTy → Type} [FloatOps F] (main_arg0 : FVec F S1024 .f32) (main_arg1 : FVec F S1x31x256 .f32) (main_arg2 : FVec F S2x1024 .f32) (main_arg3 : FVec F S1x31x256 .f32) (main_arg4 : FVec F S2x1024 .f32) (main_arg5 : FVec F S1x31x256 .f32) (main_arg6 : FVec F S2x1024 .f32) (main_arg7 : FVec F S1x31x256 .f32) : IVec S2x1024 1 :=
  let main_v0 : FVec F S2x1024 .f32 := Host.absf main_arg2
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_v3 : FVec F S1024 .f32 := Host.absf main_arg0
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : IVec S1x1024 1 := broadcastInDim S1x1024 ![1] bcast_S1024_S1x1024_1 main_v5
  let main_v7 : IVec S2x1024 1 := broadcastInDim S2x1024 ![0, 1] bcast_S1x1024_S2x1024_0_1 main_v6
  let main_v8 : IVec S2x1024 1 := andi main_v2 main_v7
  main_v8
-- ==== Pre_logits_finite.lean ====
abbrev S1x8192x7168 : Shape := ⟨3, ![1, 8192, 7168]⟩
abbrev S2x1024 : Shape := ⟨2, ![2, 1024]⟩
abbrev S1x1024 : Shape := ⟨2, ![1, 1024]⟩
abbrev S_ : Shape := ⟨0, ![]⟩

class Facts : Prop where
  bcast_S_S2x1024 : S_.BroadcastsInDim S2x1024 (![] : Fin 0 → Fin S2x1024.rank)

variable [Facts]

def fn {F : FTy → Type} [FloatOps F] (main_arg0 : FVec F S1x8192x7168 .f32) (main_arg1 : FVec F S2x1024 .f32) (main_arg2 : FVec F S1x1024 .f32) : IVec S2x1024 1 :=
  let main_v0 : FVec F S2x1024 .f32 := Host.absf main_arg1
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  main_v2
-- ==== KernelX.lean ====
abbrev S1x8192x1024 : Shape := ⟨3, ![1, 8192, 1024]⟩
abbrev S1x1024 : Shape := ⟨2, ![1, 1024]⟩
abbrev S8192x1024 : Shape := ⟨2, ![8192, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceXIdeal.lean ====
abbrev S1x8192x1024 : Shape := ⟨3, ![1, 8192, 1024]⟩
abbrev S1x1024 : Shape := ⟨2, ![1, 1024]⟩
abbrev S8192x1024 : Shape := ⟨2, ![8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192 : Shape := ⟨1, ![8192]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S8192x1024, .bf16⟩
  | .hbm, ⟨3, _⟩ => ⟨S8192x1024, .bf16⟩
  | .hbm, ⟨4, _⟩ => ⟨S1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1024, .f32⟩
  | .hbm, ⟨21, _⟩ => ⟨S1x8192x1024, .f32⟩
  | .hbm, ⟨22, _⟩ => ⟨S1x1x1024, .f32⟩
  | .hbm, ⟨23, _⟩ => ⟨S1x8192x1024, .f32⟩
  | .hbm, ⟨24, _⟩ => ⟨S1x8192x1024, .f32⟩
  | .hbm, ⟨25, _⟩ => ⟨S8192x1024, .f32⟩
  | .hbm, ⟨26, _⟩ => ⟨S1x8192x1024, .f32⟩
  | .hbm, ⟨27, _⟩ => ⟨S8192x1024, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S1x1024, .f32⟩
  | .hbm, ⟨57, _⟩ => ⟨S8192x1024, .f32⟩
  | .hbm, ⟨58, _⟩ => ⟨S_, .i32⟩
  | .hbm, ⟨59, _⟩ => ⟨S_, .f32⟩
  | .hbm, ⟨60, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c : Ref sig .tc := ⟨.hbm, 58, rfl⟩
abbrev main_call0_v0 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== KernelT.lean ====
abbrev S1x8192x1024 : Shape := ⟨3, ![1, 8192, 1024]⟩
abbrev S8192x1024 : Shape := ⟨2, ![8192, 1024]⟩
abbrev S1x1x8192x256 : Shape := ⟨4, ![1, 1, 8192, 256]⟩
abbrev S1x2048x1024 : Shape := ⟨3, ![1, 2048, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S8192x256 : Shape := ⟨2, ![8192, 256]⟩
abbrev S2048x1024 : Shape := ⟨2, ![2048, 1024]⟩
abbrev S1024x1024 : Shape := ⟨2, ![1024, 1024]⟩
abbrev S256x1024 : Shape := ⟨2, ![256, 1024]⟩
abbrev S8x1024 : Shape := ⟨2, ![8, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 28
  | .vmem => 30
  | .smem => 0
  | _ => 0

abbrev bufTy : (tb : Table) → Fin (tcTables nBuf tb) → BufTy
  | .hbm, ⟨0, _⟩ => ⟨S1x8192x1024, .f32⟩
  | .hbm, ⟨1, _⟩ => ⟨S8192x1024, .bf16⟩
  | .hbm, ⟨2, _⟩ => ⟨S8192x1024, .bf16⟩
  | .hbm, ⟨3, _⟩ => ⟨S1x1x8192x256, .f32⟩
  | .hbm, ⟨4, _⟩ => ⟨S1x8192x1024, .f32⟩
  | .hbm, ⟨5, _⟩ => ⟨S1x2048x1024, .f32⟩
  | .hbm, ⟨6, _⟩ => ⟨S1x1024x1024, .f32⟩
  | .hbm, ⟨7, _⟩ => ⟨S1x256x1024, .f32⟩
  | .hbm, ⟨8, _⟩ => ⟨S1x1024, .f32⟩
  | .hbm, ⟨9, _⟩ => ⟨S1024, .f32⟩
  | .hbm, ⟨10, _⟩ => ⟨S8192x1024, .f32⟩
  | .hbm, ⟨11, _⟩ => ⟨S8192x256, .f32⟩
  | .hbm, ⟨12, _⟩ => ⟨S8192x1024, .f32⟩
  | .hbm, ⟨13, _⟩ => ⟨S2048x1024, .f32⟩
  | .hbm, ⟨14, _⟩ => ⟨S2048x1024, .bf16⟩
  | .hbm, ⟨15, _⟩ => ⟨S1024x1024, .f32⟩
  | .hbm, ⟨16, _⟩ => ⟨S1024x1024, .bf16⟩
  | .hbm, ⟨17, _⟩ => ⟨S256x1024, .f32⟩
  | .hbm, ⟨18, _⟩ => ⟨S256x1024, .bf16⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x1024, .bf16⟩
  | .hbm, ⟨26, _⟩ => ⟨S8192x256, .bf16⟩
  | .hbm, ⟨27, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x256, .f32⟩
  | .local _ .vmem, ⟨7, _⟩ => ⟨S512x256, .f32⟩
  | .local _ .vmem, ⟨8, _⟩ => ⟨S512x1024, .f32⟩
  | .local _ .vmem, ⟨9, _⟩ => ⟨S512x1024, .f32⟩
  | .local _ .vmem, ⟨10, _⟩ => ⟨S2048x1024, .bf16⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x256, .bf16⟩
  | .local _ .vmem, ⟨28, _⟩ => ⟨S512x256, .bf16⟩
  | .local _ .vmem, ⟨29, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev main_v10_5 : Ref sig .tc := ⟨.hbm, 25, rfl⟩
abbrev main_v10_6 : Ref sig .tc := ⟨.hbm, 26, rfl⟩
abbrev main_v10_7 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceTIdeal.lean ====
abbrev S1x8192x1024 : Shape := ⟨3, ![1, 8192, 1024]⟩
abbrev S8192x1024 : Shape := ⟨2, ![8192, 1024]⟩
abbrev S1x1x8192x256 : Shape := ⟨4, ![1, 1, 8192, 256]⟩
abbrev S1x2048x1024 : Shape := ⟨3, ![1, 2048, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S1x8192x2048 : Shape := ⟨3, ![1, 8192, 2048]⟩
abbrev S2048x1024 : Shape := ⟨2, ![2048, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x1024 : Shape := ⟨2, ![1024, 1024]⟩
abbrev S1x8192x256 : Shape := ⟨3, ![1, 8192, 256]⟩
abbrev S256x1024 : Shape := ⟨2, ![256, 1024]⟩
abbrev S8192 : Shape := ⟨1, ![8192]⟩
abbrev S8192x2048 : Shape := ⟨2, ![8192, 2048]⟩
abbrev S3x1024 : Shape := ⟨2, ![3, 1024]⟩
abbrev S8192x256 : Shape := ⟨2, ![8192, 256]⟩
abbrev S8x1024 : Shape := ⟨2, ![8, 1024]⟩

abbrev nBuf : Space → Nat
  | .hbm => 180
  | .vmem => 0
  | .smem => 0
  | _ => 0

abbrev hbmTy0_0 (i : Nat) : BufTy := match i % 128 with
  | 0 => ⟨S1x8192x1024, .f32⟩
  | 1 => ⟨S8192x1024, .bf16⟩
  | 2 => ⟨S8192x1024, .bf16⟩
  | 3 => ⟨S1x1x8192x256, .f32⟩
  | 4 => ⟨S1x8192x1024, .f32⟩
  | 5 => ⟨S1x2048x1024, .f32⟩
  | 6 => ⟨S1x1024x1024, .f32⟩
  | 7 => ⟨S1x256x1024, .f32⟩
  | 8 => ⟨S1x1024, .f32⟩
  | 9 => ⟨S1024, .f32⟩
  | 10 => ⟨S8192x1024, .f32⟩
  | 11 => ⟨S1x8192x1024, .f32⟩
  | 12 => ⟨S8192x1024, .f32⟩
  | 13 => ⟨S1x8192x1024, .f32⟩
  | 14 => ⟨S1x8192x2048, .f32⟩
  | 15 => ⟨S2048x1024, .f32⟩
  | 16 => ⟨S1x8192x1024, .f32⟩
  | 17 => ⟨S1x8192x1024, .f32⟩
  | 18 => ⟨S1024, .f32⟩
  | 19 => ⟨S1x8192x1024, .f32⟩
  | 20 => ⟨S_, .f32⟩
  | 21 => ⟨S1x8192, .f32⟩
  | 22 => ⟨S1x8192x1, .f32⟩
  | 23 => ⟨S_, .f32⟩
  | 24 => ⟨S1x8192x1, .f32⟩
  | 25 => ⟨S1x8192x1, .f32⟩
  | 26 => ⟨S_, .f32⟩
  | 27 => ⟨S1x8192x1, .f32⟩
  | 28 => ⟨S1x8192x1, .f32⟩
  | 29 => ⟨S1x8192x1, .f32⟩
  | 30 => ⟨S1x8192x1, .f32⟩
  | 31 => ⟨S_, .f32⟩
  | 32 => ⟨S1x8192x1, .f32⟩
  | 33 => ⟨S1x8192x1, .f32⟩
  | 34 => ⟨S1x8192x1024, .f32⟩
  | 35 => ⟨S1x8192x1024, .f32⟩
  | 36 => ⟨S1x1x1024, .f32⟩
  | 37 => ⟨S1x8192x1024, .f32⟩
  | 38 => ⟨S1x8192x1024, .f32⟩
  | 39 => ⟨S1024x1024, .f32⟩
  | 40 => ⟨S1x8192x1024, .f32⟩
  | 41 => ⟨S1x8192x256, .f32⟩
  | 42 => ⟨S256x1024, .f32⟩
  | 43 => ⟨S1x8192x1024, .f32⟩
  | 44 => ⟨S1x8192x1024, .f32⟩
  | 45 => ⟨S1x8192x1024, .f32⟩
  | 46 => ⟨S_, .f32⟩
  | 47 => ⟨S1x8192x1024, .f32⟩
  | 48 => ⟨S1x8192x1024, .f32⟩
  | 49 => ⟨S_, .f32⟩
  | 50 => ⟨S1x8192x1024, .f32⟩
  | 51 => ⟨S1x8192x1024, .f32⟩
  | 52 => ⟨S_, .f32⟩
  | 53 => ⟨S1x8192x1024, .f32⟩
  | 54 => ⟨S1x8192x1024, .f32⟩
  | 55 => ⟨S1x8192x1024, .f32⟩
  | 56 => ⟨S1x8192x1024, .f32⟩
  | 57 => ⟨S1x8192x1024, .f32⟩
  | 58 => ⟨S1x8192x1024, .f32⟩
  | 59 => ⟨S_, .f32⟩
  | 60 => ⟨S1x8192, .f32⟩
  | 61 => ⟨S1x8192x1, .f32⟩
  | 62 => ⟨S_, .f32⟩
  | 63 => ⟨S1x8192x1, .f32⟩
  | 64 => ⟨S1x8192x1, .f32⟩
  | 65 => ⟨S_, .f32⟩
  | 66 => ⟨S1x8192x1, .f32⟩
  | 67 => ⟨S1x8192x1, .f32⟩
  | 68 => ⟨S1x8192x1, .f32⟩
  | 69 => ⟨S1x8192x1, .f32⟩
  | 70 => ⟨S_, .f32⟩
  | 71 => ⟨S1x8192x1, .f32⟩
  | 72 => ⟨S1x8192x1, .f32⟩
  | 73 => ⟨S1x8192x1024, .f32⟩
  | 74 => ⟨S1x8192x1024, .f32⟩
  | 75 => ⟨S1x1x1024, .f32⟩
  | 76 => ⟨S1x8192x1024, .f32⟩
  | 77 => ⟨S1x8192x1024, .f32⟩
  | 78 => ⟨S1x8192x1024, .f32⟩
  | 79 => ⟨S1x8192x1024, .f32⟩
  | 80 => ⟨S_, .f32⟩
  | 81 => ⟨S1x8192x1024, .f32⟩
  | 82 => ⟨S1x8192x1024, .f32⟩
  | 83 => ⟨S_, .f32⟩
  | 84 => ⟨S1x8192, .f32⟩
  | 85 => ⟨S_, .f32⟩
  | 86 => ⟨S1x8192, .f32⟩
  | 87 => ⟨S1x8192, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S1x8192, .f32⟩
  | 96 => ⟨S_, .f32⟩
  | 97 => ⟨S1x8192, .f32⟩
  | 98 => ⟨S1x8192, .f32⟩
  | 99 => ⟨S1x8192x1024, .f32⟩
  | 100 => ⟨S1x8192x1024, .f32⟩
  | 101 => ⟨S1x8192x1024, .f32⟩
  | 102 => ⟨S_, .f32⟩
  | 103 => ⟨S1x1024, .f32⟩
  | 104 => ⟨S1x1x1024, .f32⟩
  | 105 => ⟨S1x8192x1024, .f32⟩
  | 106 => ⟨S1x8192x1024, .f32⟩
  | 107 => ⟨S_, .f32⟩
  | 108 => ⟨S1024, .f32⟩
  | 109 => ⟨S1x8192x1024, .f32⟩
  | 110 => ⟨S_, .f32⟩
  | 111 => ⟨S1x8192, .f32⟩
  | 112 => ⟨S1x8192x1, .f32⟩
  | 113 => ⟨S1x8192x1024, .f32⟩
  | 114 => ⟨S1x8192x1024, .f32⟩
  | 115 => ⟨S1x8192x1, .f32⟩
  | 116 => ⟨S_, .f32⟩
  | 117 => ⟨S1x8192x1, .f32⟩
  | 118 => ⟨S1x8192x1, .f32⟩
  | 119 => ⟨S_, .f32⟩
  | 120 => ⟨S8192, .f32⟩
  | 121 => ⟨S1x8192, .f32⟩
  | 122 => ⟨S1x8192x1024, .f32⟩
  | 123 => ⟨S1x8192x1024, .f32⟩
  | 124 => ⟨S1x8192x1024, .f32⟩
  | 125 => ⟨S1x8192x1024, .f32⟩
  | 126 => ⟨S1x8192x1024, .f32⟩
  | 127 => ⟨S1x8192x1024, .f32⟩
  | _ => ⟨S1x8192x1024, .f32⟩

abbrev hbmTy0_1 (i : Nat) : BufTy := match i % 128 with
  | 0 => ⟨S1x8192x1024, .f32⟩
  | 1 => ⟨S1x8192x1024, .f32⟩
  | 2 => ⟨S1x8192x1024, .f32⟩
  | 3 => ⟨S1x8192x1024, .f32⟩
  | 4 => ⟨S_, .f32⟩
  | 5 => ⟨S1x1024, .f32⟩
  | 6 => ⟨S1x1x1024, .f32⟩
  | 7 => ⟨S1x8192x1024, .f32⟩
  | 8 => ⟨S1x8192x1024, .f32⟩
  | 9 => ⟨S_, .f32⟩
  | 10 => ⟨S1024, .f32⟩
  | 11 => ⟨S1x8192x1024, .f32⟩
  | 12 => ⟨S_, .f32⟩
  | 13 => ⟨S1x8192, .f32⟩
  | 14 => ⟨S1x8192x1, .f32⟩
  | 15 => ⟨S1x8192x1024, .f32⟩
  | 16 => ⟨S1x8192x1024, .f32⟩
  | 17 => ⟨S1x8192x1, .f32⟩
  | 18 => ⟨S_, .f32⟩
  | 19 => ⟨S1x8192x1, .f32⟩
  | 20 => ⟨S1x8192x1, .f32⟩
  | 21 => ⟨S_, .f32⟩
  | 22 => ⟨S8192, .f32⟩
  | 23 => ⟨S1x8192, .f32⟩
  | 24 => ⟨S1x8192x1024, .f32⟩
  | 25 => ⟨S1x8192x1024, .f32⟩
  | 26 => ⟨S1x8192x1024, .f32⟩
  | 27 => ⟨S1x8192x1024, .f32⟩
  | 28 => ⟨S1x8192x1024, .f32⟩
  | 29 => ⟨S1x8192x1024, .f32⟩
  | 30 => ⟨S1x8192x2048, .f32⟩
  | 31 => ⟨S8192x2048, .f32⟩
  | 32 => ⟨S8192x1024, .f32⟩
  | 33 => ⟨S8192x1024, .f32⟩
  | 34 => ⟨S1024, .f32⟩
  | 35 => ⟨S1x1024, .f32⟩
  | 36 => ⟨S1x1024, .f32⟩
  | 37 => ⟨S1x1024, .f32⟩
  | 38 => ⟨S3x1024, .f32⟩
  | 39 => ⟨S8192x1024, .f32⟩
  | 40 => ⟨S8192x1024, .bf16⟩
  | 41 => ⟨S8192x1024, .f32⟩
  | 42 => ⟨S8192x1024, .bf16⟩
  | 43 => ⟨S8192x1024, .f32⟩
  | 44 => ⟨S8192x1024, .bf16⟩
  | 45 => ⟨S8192x1024, .f32⟩
  | 46 => ⟨S8192x1024, .bf16⟩
  | 47 => ⟨S8192x256, .f32⟩
  | 48 => ⟨S8192x256, .bf16⟩
  | 49 => ⟨S_, .i32⟩
  | 50 => ⟨S_, .f32⟩
  | 51 => ⟨S8x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_cst_15 : Ref sig .tc := ⟨.hbm, 92, rfl⟩
abbrev main_cst_16 : Ref sig .tc := ⟨.hbm, 93, rfl⟩
abbrev main_v66 : Ref sig .tc := ⟨.hbm, 94, rfl⟩
abbrev main_v67 : Ref sig .tc := ⟨.hbm, 95, rfl⟩
abbrev main_cst_17 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_18 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_19 : Ref sig .tc := ⟨.hbm, 107, rfl⟩
abbrev main_v77 : Ref sig .tc := ⟨.hbm, 108, rfl⟩
abbrev main_v78 : Ref sig .tc := ⟨.hbm, 109, rfl⟩
abbrev main_cst_20 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_21 : Ref sig .tc := ⟨.hbm, 116, rfl⟩
abbrev main_v84 : Ref sig .tc := ⟨.hbm, 117, rfl⟩
abbrev main_v85 : Ref sig .tc := ⟨.hbm, 118, rfl⟩
abbrev main_cst_22 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_23 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_24 : Ref sig .tc := ⟨.hbm, 137, rfl⟩
abbrev main_v102 : Ref sig .tc := ⟨.hbm, 138, rfl⟩
abbrev main_v103 : Ref sig .tc := ⟨.hbm, 139, rfl⟩
abbrev main_cst_25 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_26 : Ref sig .tc := ⟨.hbm, 146, rfl⟩
abbrev main_v109 : Ref sig .tc := ⟨.hbm, 147, rfl⟩
abbrev main_v110 : Ref sig .tc := ⟨.hbm, 148, rfl⟩
abbrev main_cst_27 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_c : Ref sig .tc := ⟨.hbm, 177, rfl⟩
abbrev main_call0_v0 : Ref sig .tc := ⟨.hbm, 178, rfl⟩
abbrev main_v138 : Ref sig .tc := ⟨.hbm, 179, rfl⟩

abbrev nD : Nat := 1
abbrev τ : Topo := Topo.v7x

variable {F : FTy → Type} [FloatOps F]
-- ==== KernelF.lean ====
abbrev S1x8192x7168 : Shape := ⟨3, ![1, 8192, 7168]⟩
abbrev S2x1024 : Shape := ⟨2, ![2, 1024]⟩
abbrev S1x1024 : Shape := ⟨2, ![1, 1024]⟩
abbrev S8192x7168 : Shape := ⟨2, ![8192, 7168]⟩
abbrev S8192x1024 : Shape := ⟨2, ![8192, 1024]⟩
abbrev S8x128x128x128 : Shape := ⟨4, ![8, 128, 128, 128]⟩
abbrev S512x1024 : Shape := ⟨2, ![512, 1024]⟩
abbrev S8x8x128x128 : Shape := ⟨4, ![8, 8, 128, 128]⟩
abbrev S8x128x128 : Shape := ⟨3, ![8, 128, 128]⟩
abbrev S1024 : Shape := ⟨1, ![1024]⟩
abbrev S64x1024 : Shape := ⟨2, ![64, 1024]⟩
abbrev S64x64 : Shape := ⟨2, ![64, 64]⟩
abbrev S1x128x128 : Shape := ⟨3, ![1, 128, 128]⟩
abbrev S128x128 : Shape := ⟨2, ![128, 128]⟩
abbrev S64x128 : Shape := ⟨2, ![64, 128]⟩
abbrev S1x1x128x128 : Shape := ⟨4, ![1, 1, 128, 128]⟩
abbrev S1x128 : Shape := ⟨2, ![1, 128]⟩
abbrev S64 : Shape := ⟨1, ![64]⟩
abbrev S64x1 : Shape := ⟨2, ![64, 1]⟩

abbrev nBuf : Space → Nat
  | .hbm => 7
  | .vmem => 17
  | .smem => 0
  | _ => 0

abbrev bufTy : (tb : Table) → Fin (tcTables nBuf tb) → BufTy
  | .hbm, ⟨0, _⟩ => ⟨S1x8192x7168, .f32⟩
  | .hbm, ⟨1, _⟩ => ⟨S2x1024, .f32⟩
  | .hbm, ⟨2, _⟩ => ⟨S1x1024, .f32⟩
  | .hbm, ⟨3, _⟩ => ⟨S8192x7168, .f32⟩
  | .hbm, ⟨4, _⟩ => ⟨S8192x1024, .f32⟩
  | .hbm, ⟨5, _⟩ => ⟨S8192x1024, .bf16⟩
  | .hbm, ⟨6, _⟩ => ⟨S8x128x128x128, .f32⟩
  | .local _ .vmem, ⟨0, _⟩ => ⟨S2x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x8x128x128, .f32⟩
  | .local _ .vmem, ⟨15, _⟩ => ⟨S8x8x128x128, .f32⟩
  | .local _ .vmem, ⟨16, _⟩ => ⟨S8x128x128, .f32⟩
  | _, _ => ⟨S1x8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 16], ![false, false]⟩

def k0_mult1 : BitVec 32 :=
  let c0_i32_5 : BitVec 32 := 0#32
  let c64_i32 : BitVec 32 := 64#32
  let v14 : BitVec 32 := Scalar.muli c0_i32_5 c64_i32
  v14
def k0_off1 (c0_i32_5 : BitVec 32) : Fin 2 → Nat :=
  let c64_i32 : BitVec 32 := 64#32
  let v14 : BitVec 32 := Scalar.muli c0_i32_5 c64_i32
  let v15 : BitVec 32 := v14
  let v16 : Index := Scalar.indexCast v15
  let c0_6 : Index := 0#32
  ![v16.toNat, 0]
def k0_mult2 : BitVec 32 :=
  let c1_i32 : BitVec 32 := 1#32
  let c64_i32_147 : BitVec 32 := 64#32
  let v446 : BitVec 32 := Scalar.muli c1_i32 c64_i32_147
  v446
def k0_mult3 : BitVec 32 :=
  let c2_i32 : BitVec 32 := 2#32
  let c64_i32_296 : BitVec 32 := 64#32
  let v878 : BitVec 32 := Scalar.muli c2_i32 c64_i32_296
  v878
def k0_mult4 : BitVec 32 :=
  let c3_i32 : BitVec 32 := 3#32
  let c64_i32_445 : BitVec 32 := 64#32
  let v1310 : BitVec 32 := Scalar.muli c3_i32 c64_i32_445
  v1310
def k0_mult5 : BitVec 32 :=
  let c4_i32 : BitVec 32 := 4#32
  let c64_i32_594 : BitVec 32 := 64#32
  let v1742 : BitVec 32 := Scalar.muli c4_i32 c64_i32_594
  v1742
def k0_mult6 : BitVec 32 :=
  let c5_i32 : BitVec 32 := 5#32
  let c64_i32_743 : BitVec 32 := 64#32
  let v2174 : BitVec 32 := Scalar.muli c5_i32 c64_i32_743
  v2174
def k0_mult7 : BitVec 32 :=
  let c6_i32 : BitVec 32 := 6#32
  let c64_i32_892 : BitVec 32 := 64#32
  let v2606 : BitVec 32 := Scalar.muli c6_i32 c64_i32_892
  v2606
def k0_mult8 : BitVec 32 :=
  let c7_i32 : BitVec 32 := 7#32
  let c64_i32_1041 : BitVec 32 := 64#32
  let v3038 : BitVec 32 := Scalar.muli c7_i32 c64_i32_1041
  v3038
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceFIdeal.lean ====
abbrev S1x8192x7168 : Shape := ⟨3, ![1, 8192, 7168]⟩
abbrev S2x1024 : Shape := ⟨2, ![2, 1024]⟩
abbrev S1x1024 : Shape := ⟨2, ![1, 1024]⟩
abbrev S_ : Shape := ⟨0, ![]⟩
abbrev S1024 : Shape := ⟨1, ![1024]⟩
abbrev S1x8192x3072 : Shape := ⟨3, ![1, 8192, 3072]⟩
abbrev S1x8192x1024 : Shape := ⟨3, ![1, 8192, 1024]⟩
abbrev S1x1x1024 : Shape := ⟨3, ![1, 1, 1024]⟩
abbrev S1x8x128x128 : Shape := ⟨4, ![1, 8, 128, 128]⟩
abbrev S1x128x64x8x128 : Shape := ⟨5, ![1, 128, 64, 8, 128]⟩
abbrev S128x1x8x64x128 : Shape := ⟨5, ![128, 1, 8, 64, 128]⟩
abbrev S128x1x8x128x128 : Shape := ⟨5, ![128, 1, 8, 128, 128]⟩
abbrev S1x1x8x64x128 : Shape := ⟨5, ![1, 1, 8, 64, 128]⟩
abbrev S1x8x64x128 : Shape := ⟨4, ![1, 8, 64, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x1x64x64x1 : Shape := ⟨5, ![1, 1, 64, 64, 1]⟩
abbrev S1x8x64x1x128 : Shape := ⟨5, ![1, 8, 64, 1, 128]⟩
abbrev S1x8x1x64x128 : Shape := ⟨5, ![1, 8, 1, 64, 128]⟩
abbrev S1x8x64x64x128 : Shape := ⟨5, ![1, 8, 64, 64, 128]⟩
abbrev S1x8x64x64 : Shape := ⟨4, ![1, 8, 64, 64]⟩
abbrev S1x8x1x128 : Shape := ⟨4, ![1, 8, 1, 128]⟩
abbrev S1x8x128 : Shape := ⟨3, ![1, 8, 128]⟩
abbrev S1x8x128x1 : Shape := ⟨4, ![1, 8, 128, 1]⟩
abbrev S1x1x8x128x128 : Shape := ⟨5, ![1, 1, 8, 128, 128]⟩
abbrev S1x8192x8x128 : Shape := ⟨4, ![1, 8192, 8, 128]⟩
abbrev S8x128 : Shape := ⟨2, ![8, 128]⟩
abbrev S1x8192x8 : Shape := ⟨3, ![1, 8192, 8]⟩
abbrev S1x8192x8x1 : Shape := ⟨4, ![1, 8192, 8, 1]⟩
abbrev S1x1x8x128 : Shape := ⟨4, ![1, 1, 8, 128]⟩
abbrev S8192x1024 : Shape := ⟨2, ![8192, 1024]⟩
abbrev S128x8x128x128 : Shape := ⟨4, ![128, 8, 128, 128]⟩
abbrev S8x128x128x128 : Shape := ⟨4, ![8, 128, 128, 128]⟩

abbrev nBuf : Space → Nat
  | .hbm => 212
  | .vmem => 0
  | .smem => 0
  | _ => 0

abbrev hbmTy0_0 (i : Nat) : BufTy := match i % 128 with
  | 0 => ⟨S1x8192x7168, .f32⟩
  | 1 => ⟨S2x1024, .f32⟩
  | 2 => ⟨S1x1024, .f32⟩
  | 3 => ⟨S_, .f32⟩
  | 4 => ⟨S1024, .f32⟩
  | 5 => ⟨S_, .f32⟩
  | 6 => ⟨S1024, .f32⟩
  | 7 => ⟨S1024, .f32⟩
  | 8 => ⟨S1x1024, .f32⟩
  | 9 => ⟨S2x1024, .f32⟩
  | 10 => ⟨S2x1024, .f32⟩
  | 11 => ⟨S2x1024, .f32⟩
  | 12 => ⟨S_, .f32⟩
  | 13 => ⟨S1024, .f32⟩
  | 14 => ⟨S1x1024, .f32⟩
  | 15 => ⟨S2x1024, .f32⟩
  | 16 => ⟨S2x1024, .f32⟩
  | 17 => ⟨S_, .f32⟩
  | 18 => ⟨S_, .f32⟩
  | 19 => ⟨S2x1024, .f32⟩
  | 20 => ⟨S1x8192x3072, .f32⟩
  | 21 => ⟨S1x8192x1024, .f32⟩
  | 22 => ⟨S1x8192x1024, .f32⟩
  | 23 => ⟨S1x8192x1024, .f32⟩
  | 24 => ⟨S1x1024, .f32⟩
  | 25 => ⟨S1024, .f32⟩
  | 26 => ⟨S_, .f32⟩
  | 27 => ⟨S1024, .f32⟩
  | 28 => ⟨S1024, .f32⟩
  | 29 => ⟨S1x8192x1024, .f32⟩
  | 30 => ⟨S1x8192x1024, .f32⟩
  | 31 => ⟨S_, .f32⟩
  | 32 => ⟨S1x8192x1024, .f32⟩
  | 33 => ⟨S1x8192x1024, .f32⟩
  | 34 => ⟨S_, .f32⟩
  | 35 => ⟨S1x8192x1024, .f32⟩
  | 36 => ⟨S1x8192x1024, .f32⟩
  | 37 => ⟨S1x1x1024, .f32⟩
  | 38 => ⟨S1x8192x1024, .f32⟩
  | 39 => ⟨S1x8192x1024, .f32⟩
  | 40 => ⟨S1x1x1024, .f32⟩
  | 41 => ⟨S1x8192x1024, .f32⟩
  | 42 => ⟨S1x8192x1024, .f32⟩
  | 43 => ⟨S1x8192x1024, .f32⟩
  | 44 => ⟨S_, .f32⟩
  | 45 => ⟨S1024, .f32⟩
  | 46 => ⟨S1024, .f32⟩
  | 47 => ⟨S1x8192x1024, .f32⟩
  | 48 => ⟨S1x8192x1024, .f32⟩
  | 49 => ⟨S1x8192x1024, .f32⟩
  | 50 => ⟨S_, .f32⟩
  | 51 => ⟨S1x8192x1024, .f32⟩
  | 52 => ⟨S1x8192x1024, .f32⟩
  | 53 => ⟨S_, .f32⟩
  | 54 => ⟨S1x8192x1024, .f32⟩
  | 55 => ⟨S1x8192x1024, .f32⟩
  | 56 => ⟨S1x1x1024, .f32⟩
  | 57 => ⟨S1x8192x1024, .f32⟩
  | 58 => ⟨S1x8192x1024, .f32⟩
  | 59 => ⟨S1x8192x1024, .f32⟩
  | 60 => ⟨S1x8192x1024, .f32⟩
  | 61 => ⟨S_, .f32⟩
  | 62 => ⟨S1x8192x1024, .f32⟩
  | 63 => ⟨S1x8192x1024, .f32⟩
  | 64 => ⟨S_, .f32⟩
  | 65 => ⟨S1x8192x1024, .f32⟩
  | 66 => ⟨S1x8192x1024, .f32⟩
  | 67 => ⟨S1x8192x1024, .f32⟩
  | 68 => ⟨S_, .f32⟩
  | 69 => ⟨S1x8x128x128, .f32⟩
  | 70 => ⟨S1x128x64x8x128, .f32⟩
  | 71 => ⟨S128x1x8x64x128, .f32⟩
  | 72 => ⟨S1x128x64x8x128, .f32⟩
  | 73 => ⟨S128x1x8x64x128, .f32⟩
  | 74 => ⟨S1x128x64x8x128, .f32⟩
  | 75 => ⟨S128x1x8x64x128, .f32⟩
  | 76 => ⟨S1x128x64x8x128, .f32⟩
  | 77 => ⟨S128x1x8x64x128, .f32⟩
  | 78 => ⟨S_, .f32⟩
  | 79 => ⟨S128x1x8x64x128, .f32⟩
  | 80 => ⟨S_, .f32⟩
  | 81 => ⟨S128x1x8x128x128, .f32⟩
  | 82 => ⟨S_, .i32⟩
  | 83 => ⟨S128x1x8x64x128, .f32⟩
  | 84 => ⟨S128x1x8x64x128, .f32⟩
  | 85 => ⟨S128x1x8x64x128, .f32⟩
  | 86 => ⟨S128x1x8x64x128, .f32⟩
  | 87 => ⟨S_, .i32⟩
  | 88 => ⟨S1x8x128x128, .f32⟩
  | 89 => ⟨S128x1x8x64x128, .f32⟩
  | 90 => ⟨S128x1x8x128x128, .f32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S1x1x8x64x128, .f32⟩
  | 98 => ⟨S1x8x64x128, .f32⟩
  | 99 => ⟨S_, .i32⟩
  | 100 => ⟨S_, .i32⟩
  | 101 => ⟨S_, .i32⟩
  | 102 => ⟨S_, .i32⟩
  | 103 => ⟨S1x1x8x64x128, .f32⟩
  | 104 => ⟨S1x8x64x128, .f32⟩
  | 105 => ⟨S_, .i32⟩
  | 106 => ⟨S_, .i32⟩
  | 107 => ⟨S_, .i32⟩
  | 108 => ⟨S_, .i32⟩
  | 109 => ⟨S1x1x8x64x128, .f32⟩
  | 110 => ⟨S1x8x64x128, .f32⟩
  | 111 => ⟨S_, .i32⟩
  | 112 => ⟨S_, .i32⟩
  | 113 => ⟨S_, .i32⟩
  | 114 => ⟨S_, .i32⟩
  | 115 => ⟨S1x1x8x64x128, .f32⟩
  | 116 => ⟨S1x8x64x128, .f32⟩
  | 117 => ⟨S_, .f32⟩
  | 118 => ⟨S_, .f32⟩
  | 119 => ⟨S1x8x64x128, .f32⟩
  | 120 => ⟨S1x8x64x128, .f32⟩
  | 121 => ⟨S1x8x64x128, .f32⟩
  | 122 => ⟨S1x8x64x128, .f32⟩
  | 123 => ⟨S64, .i32⟩
  | 124 => ⟨S64x1, .i32⟩
  | 125 => ⟨S1x64, .i32⟩
  | 126 => ⟨S64x64, .i32⟩
  | 127 => ⟨S64x64, .i32⟩
  | _ => ⟨S1x8192x7168, .f32⟩

abbrev hbmTy0_1 (i : Nat) : BufTy := match i % 128 with
  | 0 => ⟨S64x64, .i1⟩
  | 1 => ⟨S1x1x64x64x1, .i1⟩
  | 2 => ⟨S1x8x64x1x128, .f32⟩
  | 3 => ⟨S1x8x1x64x128, .f32⟩
  | 4 => ⟨S1x8x64x64x128, .f32⟩
  | 5 => ⟨S1x8x64x64x128, .f32⟩
  | 6 => ⟨S1x8x64x64x128, .f32⟩
  | 7 => ⟨S_, .f32⟩
  | 8 => ⟨S_, .f32⟩
  | 9 => ⟨S1x8x64x64x128, .i1⟩
  | 10 => ⟨S1x8x64x64x128, .f32⟩
  | 11 => ⟨S1x8x64x64x128, .f32⟩
  | 12 => ⟨S1x8x64x64x128, .f32⟩
  | 13 => ⟨S1x8x64x1x128, .f32⟩
  | 14 => ⟨S1x8x64x64x128, .f32⟩
  | 15 => ⟨S1x8x64x64x128, .f32⟩
  | 16 => ⟨S1x8x64x64, .f32⟩
  | 17 => ⟨S1x8x64x64, .f32⟩
  | 18 => ⟨S1x8x64x128, .f32⟩
  | 19 => ⟨S1x8x1x128, .f32⟩
  | 20 => ⟨S1x8x128, .f32⟩
  | 21 => ⟨S1x8x1x128, .f32⟩
  | 22 => ⟨S1x8x64x128, .f32⟩
  | 23 => ⟨S1x8x64x128, .f32⟩
  | 24 => ⟨S1x8x64x128, .f32⟩
  | 25 => ⟨S1x8x64x128, .f32⟩
  | 26 => ⟨S1x8x128, .f32⟩
  | 27 => ⟨S1x8x128x1, .f32⟩
  | 28 => ⟨S1x8x128x128, .f32⟩
  | 29 => ⟨S1x8x128x128, .f32⟩
  | 30 => ⟨S1x8x128x128, .f32⟩
  | 31 => ⟨S1x8x128x128, .f32⟩
  | 32 => ⟨S1x8x64x128, .f32⟩
  | 33 => ⟨S1x1x8x64x128, .f32⟩
  | 34 => ⟨S_, .i32⟩
  | 35 => ⟨S_, .i32⟩
  | 36 => ⟨S_, .i32⟩
  | 37 => ⟨S_, .i32⟩
  | 38 => ⟨S128x1x8x64x128, .f32⟩
  | 39 => ⟨S1x1x8x128x128, .f32⟩
  | 40 => ⟨S_, .i32⟩
  | 41 => ⟨S_, .i32⟩
  | 42 => ⟨S_, .i32⟩
  | 43 => ⟨S_, .i32⟩
  | 44 => ⟨S128x1x8x128x128, .f32⟩
  | 45 => ⟨S_, .i32⟩
  | 46 => ⟨S_, .i32⟩
  | 47 => ⟨S1x128x64x8x128, .f32⟩
  | 48 => ⟨S1x8192x8x128, .f32⟩
  | 49 => ⟨S1x8192x1024, .f32⟩
  | 50 => ⟨S1024, .f32⟩
  | 51 => ⟨S8x128, .f32⟩
  | 52 => ⟨S1x8192x8x128, .f32⟩
  | 53 => ⟨S_, .f32⟩
  | 54 => ⟨S1x8192x8, .f32⟩
  | 55 => ⟨S1x8192x8x1, .f32⟩
  | 56 => ⟨S_, .f32⟩
  | 57 => ⟨S1x8192x8x1, .f32⟩
  | 58 => ⟨S1x8192x8x1, .f32⟩
  | 59 => ⟨S_, .f32⟩
  | 60 => ⟨S1x8192x8x1, .f32⟩
  | 61 => ⟨S1x8192x8x1, .f32⟩
  | 62 => ⟨S1x8192x8x1, .f32⟩
  | 63 => ⟨S1x8192x8x128, .f32⟩
  | 64 => ⟨S1x8192x8x128, .f32⟩
  | 65 => ⟨S1x1x8x128, .f32⟩
  | 66 => ⟨S1x8192x8x128, .f32⟩
  | 67 => ⟨S1x8192x8x128, .f32⟩
  | 68 => ⟨S1x8192x1024, .f32⟩
  | 69 => ⟨S1x8192x1024, .f32⟩
  | 70 => ⟨S1x8192x1024, .f32⟩
  | 71 => ⟨S_, .f32⟩
  | 72 => ⟨S1x8192x1024, .f32⟩
  | 73 => ⟨S1x8192x1024, .f32⟩
  | 74 => ⟨S_, .f32⟩
  | 75 => ⟨S1x8192x1024, .f32⟩
  | 76 => ⟨S1x8192x1024, .f32⟩
  | 77 => ⟨S1x8192x1024, .f32⟩
  | 78 => ⟨S1x8192x1024, .f32⟩
  | 79 => ⟨S8192x1024, .f32⟩
  | 80 => ⟨S8192x1024, .f32⟩
  | 81 => ⟨S8192x1024, .bf16⟩
  | 82 => ⟨S128x8x128x128, .f32⟩
  | 83 => ⟨S8x128x128x128, .f32⟩
  | _ => ⟨S1x8192x7168, .f32⟩

abbrev hbmTy (i : Nat) : BufTy := match i / 128 with
  | 0 => hbmTy0_0 i
  | 1 => hbmTy0_1 i
  | _ => ⟨S1x8192x7168, .f32⟩

abbrev bufTy : (tb : Table) → Fin (tcTables nBuf tb) → BufTy
  | .hbm, ⟨i, _⟩ => hbmTy i
  | _, _ => ⟨S1x8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_c : Ref sig .tc := ⟨.hbm, 82, rfl⟩
abbrev main_v57_0 : Ref sig .tc := ⟨.hbm, 83, rfl⟩
abbrev main_v57_1 : Ref sig .tc := ⟨.hbm, 84, rfl⟩
abbrev main_v57_2 : Ref sig .tc := ⟨.hbm, 85, rfl⟩
abbrev main_v57_3 : Ref sig .tc := ⟨.hbm, 86, rfl⟩
abbrev main_v57_4 : Ref sig .tc := ⟨.hbm, 87, rfl⟩
abbrev main_v57_5 : Ref sig .tc := ⟨.hbm, 88, rfl⟩
abbrev main_v57_6 : Ref sig .tc := ⟨.hbm, 89, rfl⟩
abbrev main_v57_7 : Ref sig .tc := ⟨.hbm, 90, rfl⟩
abbrev main_while0c_c_21 : Ref sig .tc := ⟨.hbm, 91, rfl⟩
abbrev main_while0c_v84 : Ref sig .tc := ⟨.hbm, 92, rfl⟩
abbrev main_while0b_call2_c : Ref sig .tc := ⟨.hbm, 93, rfl⟩
abbrev main_while0b_call2_c_0 : Ref sig .tc := ⟨.hbm, 94, rfl⟩
abbrev main_while0b_call2_c_1 : Ref sig .tc := ⟨.hbm, 95, rfl⟩
abbrev main_while0b_call2_c_2 : Ref sig .tc := ⟨.hbm, 96, rfl⟩
abbrev main_while0b_call2_v0 : Ref sig .tc := ⟨.hbm, 97, rfl⟩
abbrev main_while0b_v84 : Ref sig .tc := ⟨.hbm, 98, rfl⟩
abbrev main_while0b_call3_c : Ref sig .tc := ⟨.hbm, 99, rfl⟩
abbrev main_while0b_call3_c_0 : Ref sig .tc := ⟨.hbm, 100, rfl⟩
abbrev main_while0b_call3_c_1 : Ref sig .tc := ⟨.hbm, 101, rfl⟩
abbrev main_while0b_call3_c_2 : Ref sig .tc := ⟨.hbm, 102, rfl⟩
abbrev main_while0b_call3_v0 : Ref sig .tc := ⟨.hbm, 103, rfl⟩
abbrev main_while0b_v85 : Ref sig .tc := ⟨.hbm, 104, rfl⟩
abbrev main_while0b_call4_c : Ref sig .tc := ⟨.hbm, 105, rfl⟩
abbrev main_while0b_call4_c_0 : Ref sig .tc := ⟨.hbm, 106, rfl⟩
abbrev main_while0b_call4_c_1 : Ref sig .tc := ⟨.hbm, 107, rfl⟩
abbrev main_while0b_call4_c_2 : Ref sig .tc := ⟨.hbm, 108, rfl⟩
abbrev main_while0b_call4_v0 : Ref sig .tc := ⟨.hbm, 109, rfl⟩
abbrev main_while0b_v86 : Ref sig .tc := ⟨.hbm, 110, rfl⟩
abbrev main_while0b_call5_c : Ref sig .tc := ⟨.hbm, 111, rfl⟩
abbrev main_while0b_call5_c_0 : Ref sig .tc := ⟨.hbm, 112, rfl⟩
abbrev main_while0b_call5_c_1 : Ref sig .tc := ⟨.hbm, 113, rfl⟩
abbrev main_while0b_call5_c_2 : Ref sig .tc := ⟨.hbm, 114, rfl⟩
abbrev main_while0b_call5_v0 : Ref sig .tc := ⟨.hbm, 115, rfl⟩
abbrev main_while0b_v87 : Ref sig .tc := ⟨.hbm, 116, rfl⟩
abbrev main_while0b_call6_call0_cst : Ref sig .tc := ⟨.hbm, 117, rfl⟩
abbrev main_while0b_call6_call0_v0 : Ref sig .tc := ⟨.hbm, 118, rfl⟩
abbrev main_while0b_v88 : Ref sig .tc := ⟨.hbm, 119, rfl⟩
abbrev main_while0b_v89 : Ref sig .tc := ⟨.hbm, 120, rfl⟩
abbrev main_while0b_v90 : Ref sig .tc := ⟨.hbm, 121, rfl⟩
abbrev main_while0b_v91 : Ref sig .tc := ⟨.hbm, 122, rfl⟩
abbrev main_while0b_v92 : Ref sig .tc := ⟨.hbm, 123, rfl⟩
abbrev main_while0b_v93 : Ref sig .tc := ⟨.hbm, 124, rfl⟩
abbrev main_while0b_v94 : Ref sig .tc := ⟨.hbm, 125, rfl⟩
abbrev main_while0b_v95 : Ref sig .tc := ⟨.hbm, 126, rfl⟩
abbrev main_while0b_v96 : Ref sig .tc := ⟨.hbm, 127, rfl⟩
abbrev main_while0b_v97 : Ref sig .tc := ⟨.hbm, 128, rfl⟩
abbrev main_while0b_v98 : Ref sig .tc := ⟨.hbm, 129, rfl⟩
abbrev main_while0b_v99 : Ref sig .tc := ⟨.hbm, 130, rfl⟩
abbrev main_while0b_v100 : Ref sig .tc := ⟨.hbm, 131, rfl⟩
abbrev main_while0b_v101 : Ref sig .tc := ⟨.hbm, 132, rfl⟩
abbrev main_while0b_v102 : Ref sig .tc := ⟨.hbm, 133, rfl⟩
abbrev main_while0b_v103 : Ref sig .tc := ⟨.hbm, 134, rfl⟩
abbrev main_while0b_cst_21 : Ref sig .tc := ⟨.hbm, 135, rfl⟩
abbrev main_while0b_call7_v0 : Ref sig .tc := ⟨.hbm, 136, rfl⟩
abbrev main_while0b_call7_v1 : Ref sig .tc := ⟨.hbm, 137, rfl⟩
abbrev main_while0b_call7_v2 : Ref sig .tc := ⟨.hbm, 138, rfl⟩
abbrev main_while0b_v104 : Ref sig .tc := ⟨.hbm, 139, rfl⟩
abbrev main_while0b_v105 : Ref sig .tc := ⟨.hbm, 140, rfl⟩
abbrev main_while0b_v106 : Ref sig .tc := ⟨.hbm, 141, rfl⟩
abbrev main_while0b_v107 : Ref sig .tc := ⟨.hbm, 142, rfl⟩
abbrev main_while0b_v108 : Ref sig .tc := ⟨.hbm, 143, rfl⟩
abbrev main_while0b_v109 : Ref sig .tc := ⟨.hbm, 144, rfl⟩
abbrev main_while0b_v110 : Ref sig .tc := ⟨.hbm, 145, rfl⟩
abbrev main_while0b_v111 : Ref sig .tc := ⟨.hbm, 146, rfl⟩
abbrev main_while0b_v112 : Ref sig .tc := ⟨.hbm, 147, rfl⟩
abbrev main_while0b_v113 : Ref sig .tc := ⟨.hbm, 148, rfl⟩
abbrev main_while0b_v114 : Ref sig .tc := ⟨.hbm, 149, rfl⟩
abbrev main_while0b_v115 : Ref sig .tc := ⟨.hbm, 150, rfl⟩
abbrev main_while0b_v116 : Ref sig .tc := ⟨.hbm, 151, rfl⟩
abbrev main_while0b_v117 : Ref sig .tc := ⟨.hbm, 152, rfl⟩
abbrev main_while0b_v118 : Ref sig .tc := ⟨.hbm, 153, rfl⟩
abbrev main_while0b_v119 : Ref sig .tc := ⟨.hbm, 154, rfl⟩
abbrev main_while0b_v120 : Ref sig .tc := ⟨.hbm, 155, rfl⟩
abbrev main_while0b_v121 : Ref sig .tc := ⟨.hbm, 156, rfl⟩
abbrev main_while0b_v122 : Ref sig .tc := ⟨.hbm, 157, rfl⟩
abbrev main_while0b_v123 : Ref sig .tc := ⟨.hbm, 158, rfl⟩
abbrev main_while0b_v124 : Ref sig .tc := ⟨.hbm, 159, rfl⟩
abbrev main_while0b_v125 : Ref sig .tc := ⟨.hbm, 160, rfl⟩
abbrev main_while0b_call8_v0 : Ref sig .tc := ⟨.hbm, 161, rfl⟩
abbrev main_while0b_call8_c : Ref sig .tc := ⟨.hbm, 162, rfl⟩
abbrev main_while0b_call8_c_0 : Ref sig .tc := ⟨.hbm, 163, rfl⟩
abbrev main_while0b_call8_c_1 : Ref sig .tc := ⟨.hbm, 164, rfl⟩
abbrev main_while0b_call8_c_2 : Ref sig .tc := ⟨.hbm, 165, rfl⟩
abbrev main_while0b_v126 : Ref sig .tc := ⟨.hbm, 166, rfl⟩
abbrev main_while0b_call9_v0 : Ref sig .tc := ⟨.hbm, 167, rfl⟩
abbrev main_while0b_call9_c : Ref sig .tc := ⟨.hbm, 168, rfl⟩
abbrev main_while0b_call9_c_0 : Ref sig .tc := ⟨.hbm, 169, rfl⟩
abbrev main_while0b_call9_c_1 : Ref sig .tc := ⟨.hbm, 170, rfl⟩
abbrev main_while0b_call9_c_2 : Ref sig .tc := ⟨.hbm, 171, rfl⟩
abbrev main_while0b_v127 : Ref sig .tc := ⟨.hbm, 172, rfl⟩
abbrev main_while0b_c_22 : Ref sig .tc := ⟨.hbm, 173, rfl⟩
abbrev main_while0b_v128 : Ref sig .tc := ⟨.hbm, 174, rfl⟩
abbrev main_v58 : Ref sig .tc := ⟨.hbm, 175, rfl⟩
abbrev main_v59 : Ref sig .tc := ⟨.hbm, 176, rfl⟩
abbrev main_v60 : Ref sig .tc := ⟨.hbm, 177, rfl⟩
abbrev main_v61 : Ref sig .tc := ⟨.hbm, 178, rfl⟩
abbrev main_v62 : Ref sig .tc := ⟨.hbm, 179, rfl⟩
abbrev main_v63 : Ref sig .tc := ⟨.hbm, 180, rfl⟩
abbrev main_cst_11 : Ref sig .tc := ⟨.hbm, 181, rfl⟩
abbrev main_v64 : Ref sig .tc := ⟨.hbm, 182, rfl⟩
abbrev main_v65 : Ref sig .tc := ⟨.hbm, 183, rfl⟩
abbrev main_cst_12 : Ref sig .tc := ⟨.hbm, 184, rfl⟩
abbrev main_v66 : Ref sig .tc := ⟨.hbm, 185, rfl⟩
abbrev main_v67 : Ref sig .tc := ⟨.hbm, 186, rfl⟩
abbrev main_cst_13 : Ref sig .tc := ⟨.hbm, 187, rfl⟩
abbrev main_v68 : Ref sig .tc := ⟨.hbm, 188, rfl⟩
abbrev main_v69 : Ref sig .tc := ⟨.hbm, 189, rfl⟩
abbrev main_v70 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_v74 : Ref sig .tc := ⟨.hbm, 194, rfl⟩
abbrev main_v75 : Ref sig .tc := ⟨.hbm, 195, rfl⟩
abbrev main_v76 : Ref sig .tc := ⟨.hbm, 196, rfl⟩
abbrev main_call10_v0 : Ref sig .tc := ⟨.hbm, 197, rfl⟩
abbrev main_call10_v1 : Ref sig .tc := ⟨.hbm, 198, rfl⟩
abbrev main_call10_cst : Ref sig .tc := ⟨.hbm, 199, rfl⟩
abbrev main_call10_v2 : Ref sig .tc := ⟨.hbm, 200, rfl⟩
abbrev main_call10_v3 : Ref sig .tc := ⟨.hbm, 201, rfl⟩
abbrev main_call10_cst_0 : Ref sig .tc := ⟨.hbm, 202, rfl⟩
abbrev main_call10_v4 : Ref sig .tc := ⟨.hbm, 203, rfl⟩
abbrev main_call10_v5 : Ref sig .tc := ⟨.hbm, 204, rfl⟩
abbrev main_v77 : Ref sig .tc := ⟨.hbm, 205, rfl⟩
abbrev main_v78 : Ref sig .tc := ⟨.hbm, 206, rfl⟩
abbrev main_v79 : Ref sig .tc := ⟨.hbm, 207, rfl⟩
abbrev main_v80 : Ref sig .tc := ⟨.hbm, 208, rfl⟩
abbrev main_v81 : Ref sig .tc := ⟨.hbm, 209, rfl⟩
abbrev main_v82 : Ref sig .tc := ⟨.hbm, 210, rfl⟩
abbrev main_v83 : Ref sig .tc := ⟨.hbm, 211, rfl⟩

abbrev nD : Nat := 1
abbrev τ : Topo := Topo.v7x

variable {F : FTy → Type} [FloatOps F]

abbrev main_while0_count : Scf.Loop 32 := ⟨0#32, 128#32, 1#32⟩
-- ==== KernelL.lean ====
abbrev S1024 : Shape := ⟨1, ![1024]⟩
abbrev S1x31x256 : Shape := ⟨3, ![1, 31, 256]⟩
abbrev S2x1024 : Shape := ⟨2, ![2, 1024]⟩
abbrev S_ : Shape := ⟨0, ![]⟩
abbrev S25x1024 : Shape := ⟨2, ![25, 1024]⟩
abbrev S1x1024 : Shape := ⟨2, ![1, 1024]⟩
abbrev S38x1024 : Shape := ⟨2, ![38, 1024]⟩
abbrev S64x1024 : Shape := ⟨2, ![64, 1024]⟩
abbrev S31x256 : Shape := ⟨2, ![31, 256]⟩

abbrev nBuf : Space → Nat
  | .hbm => 26
  | .vmem => 17
  | .smem => 0
  | _ => 0

abbrev bufTy : (tb : Table) → Fin (tcTables nBuf tb) → BufTy
  | .hbm, ⟨0, _⟩ => ⟨S1024, .f32⟩
  | .hbm, ⟨1, _⟩ => ⟨S1x31x256, .f32⟩
  | .hbm, ⟨2, _⟩ => ⟨S2x1024, .f32⟩
  | .hbm, ⟨3, _⟩ => ⟨S1x31x256, .f32⟩
  | .hbm, ⟨4, _⟩ => ⟨S2x1024, .f32⟩
  | .hbm, ⟨5, _⟩ => ⟨S1x31x256, .f32⟩
  | .hbm, ⟨6, _⟩ => ⟨S2x1024, .f32⟩
  | .hbm, ⟨7, _⟩ => ⟨S1x31x256, .f32⟩
  | .hbm, ⟨8, _⟩ => ⟨S_, .f32⟩
  | .hbm, ⟨9, _⟩ => ⟨S25x1024, .f32⟩
  | .hbm, ⟨10, _⟩ => ⟨S1x1024, .f32⟩
  | .hbm, ⟨11, _⟩ => ⟨S_, .f32⟩
  | .hbm, ⟨12, _⟩ => ⟨S38x1024, .f32⟩
  | .hbm, ⟨13, _⟩ => ⟨S64x1024, .f32⟩
  | .hbm, ⟨14, _⟩ => ⟨S31x256, .f32⟩
  | .hbm, ⟨15, _⟩ => ⟨S31x256, .f32⟩
  | .hbm, ⟨16, _⟩ => ⟨S31x256, .f32⟩
  | .hbm, ⟨17, _⟩ => ⟨S31x256, .f32⟩
  | .hbm, ⟨18, _⟩ => ⟨S2x1024, .f32⟩
  | .hbm, ⟨19, _⟩ => ⟨S2x1024, .f32⟩
  | .hbm, ⟨20, _⟩ => ⟨S2x1024, .f32⟩
  | .hbm, ⟨21, _⟩ => ⟨S2x1024, .f32⟩
  | .hbm, ⟨22, _⟩ => ⟨S31x256, .f32⟩
  | .hbm, ⟨23, _⟩ => ⟨S31x256, .f32⟩
  | .hbm, ⟨24, _⟩ => ⟨S31x256, .f32⟩
  | .hbm, ⟨25, _⟩ => ⟨S31x256, .f32⟩
  | .local _ .vmem, ⟨0, _⟩ => ⟨S64x1024, .f32⟩
  | .local _ .vmem, ⟨1, _⟩ => ⟨S31x256, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S31x256, .f32⟩
  | .local _ .vmem, ⟨7, _⟩ => ⟨S31x256, .f32⟩
  | .local _ .vmem, ⟨8, _⟩ => ⟨S31x256, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S31x256, .f32⟩
  | .local _ .vmem, ⟨14, _⟩ => ⟨S31x256, .f32⟩
  | .local _ .vmem, ⟨15, _⟩ => ⟨S31x256, .f32⟩
  | .local _ .vmem, ⟨16, _⟩ => ⟨S31x256, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v8_6 : Ref sig .tc := ⟨.hbm, 24, rfl⟩
abbrev main_v8_7 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S31x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S31x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S31x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S31x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S31x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S31x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== ReferenceLIdeal.lean ====
abbrev S1024 : Shape := ⟨1, ![1024]⟩
abbrev S1x31x256 : Shape := ⟨3, ![1, 31, 256]⟩
abbrev S2x1024 : Shape := ⟨2, ![2, 1024]⟩
abbrev S_ : Shape := ⟨0, ![]⟩
abbrev S1x1024 : Shape := ⟨2, ![1, 1024]⟩
abbrev S31x256 : Shape := ⟨2, ![31, 256]⟩

abbrev nBuf : Space → Nat
  | .hbm => 141
  | .vmem => 0
  | .smem => 0
  | _ => 0

abbrev hbmTy0_0 (i : Nat) : BufTy := match i % 128 with
  | 0 => ⟨S1024, .f32⟩
  | 1 => ⟨S1x31x256, .f32⟩
  | 2 => ⟨S2x1024, .f32⟩
  | 3 => ⟨S1x31x256, .f32⟩
  | 4 => ⟨S2x1024, .f32⟩
  | 5 => ⟨S1x31x256, .f32⟩
  | 6 => ⟨S2x1024, .f32⟩
  | 7 => ⟨S1x31x256, .f32⟩
  | 8 => ⟨S_, .f32⟩
  | 9 => ⟨S1024, .f32⟩
  | 10 => ⟨S1x1024, .f32⟩
  | 11 => ⟨S2x1024, .f32⟩
  | 12 => ⟨S2x1024, .i1⟩
  | 13 => ⟨S2x1024, .f32⟩
  | 14 => ⟨S_, .f32⟩
  | 15 => ⟨S1024, .f32⟩
  | 16 => ⟨S_, .f32⟩
  | 17 => ⟨S1024, .f32⟩
  | 18 => ⟨S1024, .f32⟩
  | 19 => ⟨S_, .f32⟩
  | 20 => ⟨S1024, .f32⟩
  | 21 => ⟨S1024, .i1⟩
  | 22 => ⟨S_, .f32⟩
  | 23 => ⟨S1024, .f32⟩
  | 24 => ⟨S1024, .i1⟩
  | 25 => ⟨S_, .f32⟩
  | 26 => ⟨S1024, .f32⟩
  | 27 => ⟨S_, .f32⟩
  | 28 => ⟨S1024, .f32⟩
  | 29 => ⟨S_, .f32⟩
  | 30 => ⟨S1024, .f32⟩
  | 31 => ⟨S1024, .f32⟩
  | 32 => ⟨S1024, .f32⟩
  | 33 => ⟨S1x1024, .f32⟩
  | 34 => ⟨S2x1024, .f32⟩
  | 35 => ⟨S2x1024, .f32⟩
  | 36 => ⟨S2x1024, .f32⟩
  | 37 => ⟨S_, .f32⟩
  | 38 => ⟨S1024, .f32⟩
  | 39 => ⟨S1x1024, .f32⟩
  | 40 => ⟨S2x1024, .f32⟩
  | 41 => ⟨S2x1024, .f32⟩
  | 42 => ⟨S1x1024, .f32⟩
  | 43 => ⟨S_, .f32⟩
  | 44 => ⟨S1x1024, .f32⟩
  | 45 => ⟨S1x1024, .f32⟩
  | 46 => ⟨S_, .f32⟩
  | 47 => ⟨S_, .f32⟩
  | 48 => ⟨S2x1024, .f32⟩
  | 49 => ⟨S1x1024, .f32⟩
  | 50 => ⟨S1024, .f32⟩
  | 51 => ⟨S1x1024, .f32⟩
  | 52 => ⟨S_, .f32⟩
  | 53 => ⟨S2x1024, .f32⟩
  | 54 => ⟨S_, .f32⟩
  | 55 => ⟨S_, .f32⟩
  | 56 => ⟨S2x1024, .f32⟩
  | 57 => ⟨S2x1024, .f32⟩
  | 58 => ⟨S2x1024, .f32⟩
  | 59 => ⟨S2x1024, .f32⟩
  | 60 => ⟨S_, .f32⟩
  | 61 => ⟨S1024, .f32⟩
  | 62 => ⟨S1x1024, .f32⟩
  | 63 => ⟨S1x1024, .f32⟩
  | 64 => ⟨S2x1024, .f32⟩
  | 65 => ⟨S2x1024, .f32⟩
  | 66 => ⟨S_, .f32⟩
  | 67 => ⟨S1024, .f32⟩
  | 68 => ⟨S2x1024, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S_, .f32⟩
  | 75 => ⟨S2x1024, .f32⟩
  | 76 => ⟨S2x1024, .f32⟩
  | 77 => ⟨S2x1024, .f32⟩
  | 78 => ⟨S_, .f32⟩
  | 79 => ⟨S2x1024, .f32⟩
  | 80 => ⟨S2x1024, .f32⟩
  | 81 => ⟨S2x1024, .f32⟩
  | 82 => ⟨S_, .f32⟩
  | 83 => ⟨S2x1024, .f32⟩
  | 84 => ⟨S2x1024, .f32⟩
  | 85 => ⟨S2x1024, .f32⟩
  | 86 => ⟨S_, .f32⟩
  | 87 => ⟨S2x1024, .f32⟩
  | 88 => ⟨S2x1024, .f32⟩
  | 89 => ⟨S_, .f32⟩
  | 90 => ⟨S2x1024, .f32⟩
  | 91 => ⟨S2x1024, .f32⟩
  | 92 => ⟨S2x1024, .f32⟩
  | 93 => ⟨S_, .f32⟩
  | 94 => ⟨S2x1024, .f32⟩
  | 95 => ⟨S2x1024, .f32⟩
  | 96 => ⟨S2x1024, .f32⟩
  | 97 => ⟨S_, .f32⟩
  | 98 => ⟨S2x1024, .f32⟩
  | 99 => ⟨S2x1024, .f32⟩
  | 100 => ⟨S2x1024, .f32⟩
  | 101 => ⟨S_, .f32⟩
  | 102 => ⟨S2x1024, .f32⟩
  | 103 => ⟨S2x1024, .f32⟩
  | 104 => ⟨S_, .f32⟩
  | 105 => ⟨S1x31x256, .f32⟩
  | 106 => ⟨S1x31x256, .f32⟩
  | 107 => ⟨S_, .f32⟩
  | 108 => ⟨S1x31x256, .f32⟩
  | 109 => ⟨S1x31x256, .f32⟩
  | 110 => ⟨S1x31x256, .f32⟩
  | 111 => ⟨S_, .f32⟩
  | 112 => ⟨S1x31x256, .f32⟩
  | 113 => ⟨S1x31x256, .f32⟩
  | 114 => ⟨S1x31x256, .f32⟩
  | 115 => ⟨S_, .f32⟩
  | 116 => ⟨S1x31x256, .f32⟩
  | 117 => ⟨S1x31x256, .f32⟩
  | 118 => ⟨S1x31x256, .f32⟩
  | 119 => ⟨S_, .f32⟩
  | 120 => ⟨S1x31x256, .f32⟩
  | 121 => ⟨S1x31x256, .f32⟩
  | 122 => ⟨S_, .f32⟩
  | 123 => ⟨S1x31x256, .f32⟩
  | 124 => ⟨S1x31x256, .f32⟩
  | 125 => ⟨S1x31x256, .f32⟩
  | 126 => ⟨S_, .f32⟩
  | 127 => ⟨S1x31x256, .f32⟩
  | _ => ⟨S1024, .f32⟩

abbrev hbmTy0_1 (i : Nat) : BufTy := match i % 128 with
  | 0 => ⟨S1x31x256, .f32⟩
  | 1 => ⟨S1x31x256, .f32⟩
  | 2 => ⟨S_, .f32⟩
  | 3 => ⟨S1x31x256, .f32⟩
  | 4 => ⟨S1x31x256, .f32⟩
  | 5 => ⟨S1x31x256, .f32⟩
  | 6 => ⟨S_, .f32⟩
  | 7 => ⟨S1x31x256, .f32⟩
  | 8 => ⟨S1x31x256, .f32⟩
  | 9 => ⟨S31x256, .f32⟩
  | 10 => ⟨S31x256, .f32⟩
  | 11 => ⟨S31x256, .f32⟩
  | 12 => ⟨S31x256, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_call0_call0_cst : Ref sig .tc := ⟨.hbm, 46, rfl⟩
abbrev main_call0_call0_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_call1_call0_cst : Ref sig .tc := ⟨.hbm, 54, rfl⟩
abbrev main_call1_call0_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_12 : Ref sig .tc := ⟨.hbm, 71, rfl⟩
abbrev main_v46 : Ref sig .tc := ⟨.hbm, 72, rfl⟩
abbrev main_v47 : Ref sig .tc := ⟨.hbm, 73, rfl⟩
abbrev main_cst_13 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_14 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_15 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_16 : Ref sig .tc := ⟨.hbm, 86, rfl⟩
abbrev main_v57 : Ref sig .tc := ⟨.hbm, 87, rfl⟩
abbrev main_v58 : Ref sig .tc := ⟨.hbm, 88, rfl⟩
abbrev main_cst_17 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_18 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_19 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_20 : Ref sig .tc := ⟨.hbm, 101, rfl⟩
abbrev main_v68 : Ref sig .tc := ⟨.hbm, 102, rfl⟩
abbrev main_v69 : Ref sig .tc := ⟨.hbm, 103, rfl⟩
abbrev main_cst_21 : Ref sig .tc := ⟨.hbm, 104, rfl⟩
abbrev main_v70 : Ref sig .tc := ⟨.hbm, 105, rfl⟩
abbrev main_v71 : Ref sig .tc := ⟨.hbm, 106, rfl⟩
abbrev main_cst_22 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_23 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_24 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_25 : Ref sig .tc := ⟨.hbm, 119, rfl⟩
abbrev main_v81 : Ref sig .tc := ⟨.hbm, 120, rfl⟩
abbrev main_v82 : Ref sig .tc := ⟨.hbm, 121, rfl⟩
abbrev main_cst_26 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_27 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_28 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_29 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩

abbrev nD : Nat := 1
abbrev τ : Topo := Topo.v7x

variable {F : FTy → Type} [FloatOps F]
-- ==== KernelS.lean ====
abbrev S1x31x256 : Shape := ⟨3, ![1, 31, 256]⟩
abbrev S2x1024 : Shape := ⟨2, ![2, 1024]⟩
abbrev S1x1024 : Shape := ⟨2, ![1, 1024]⟩
abbrev S_ : Shape := ⟨0, ![]⟩
abbrev S8x1024 : Shape := ⟨2, ![8, 1024]⟩
abbrev S6x1024 : Shape := ⟨2, ![6, 1024]⟩
abbrev S47x1024 : Shape := ⟨2, ![47, 1024]⟩
abbrev S64x1024 : Shape := ⟨2, ![64, 1024]⟩
abbrev S31x256 : Shape := ⟨2, ![31, 256]⟩

abbrev nBuf : Space → Nat
  | .hbm => 34
  | .vmem => 24
  | .smem => 0
  | _ => 0

abbrev bufTy : (tb : Table) → Fin (tcTables nBuf tb) → BufTy
  | .hbm, ⟨0, _⟩ => ⟨S1x31x256, .f32⟩
  | .hbm, ⟨1, _⟩ => ⟨S2x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S8x1024, .f32⟩
  | .hbm, ⟨16, _⟩ => ⟨S_, .f32⟩
  | .hbm, ⟨17, _⟩ => ⟨S6x1024, .f32⟩
  | .hbm, ⟨18, _⟩ => ⟨S_, .f32⟩
  | .hbm, ⟨19, _⟩ => ⟨S47x1024, .f32⟩
  | .hbm, ⟨20, _⟩ => ⟨S64x1024, .f32⟩
  | .hbm, ⟨21, _⟩ => ⟨S31x256, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .local _ .vmem, ⟨0, _⟩ => ⟨S64x1024, .f32⟩
  | .local _ .vmem, ⟨1, _⟩ => ⟨S31x256, .f32⟩
  | .local _ .vmem, ⟨2, _⟩ => ⟨S2x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S1x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_cst_1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev main_v5_3 : Ref sig .tc := ⟨.hbm, 25, rfl⟩
abbrev main_v5_4 : Ref sig .tc := ⟨.hbm, 26, rfl⟩
abbrev main_v5_5 : Ref sig .tc := ⟨.hbm, 27, rfl⟩
abbrev main_v5_6 : Ref sig .tc := ⟨.hbm, 28, rfl⟩
abbrev main_v5_7 : Ref sig .tc := ⟨.hbm, 29, rfl⟩
abbrev main_v5_8 : Ref sig .tc := ⟨.hbm, 30, rfl⟩
abbrev main_v5_9 : Ref sig .tc := ⟨.hbm, 31, rfl⟩
abbrev main_v5_10 : Ref sig .tc := ⟨.hbm, 32, rfl⟩
abbrev main_v5_11 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== ReferenceSIdeal.lean ====
abbrev S1x31x256 : Shape := ⟨3, ![1, 31, 256]⟩
abbrev S2x1024 : Shape := ⟨2, ![2, 1024]⟩
abbrev S1x1024 : Shape := ⟨2, ![1, 1024]⟩
abbrev S_ : Shape := ⟨0, ![]⟩

abbrev nBuf : Space → Nat
  | .hbm => 113
  | .vmem => 0
  | .smem => 0
  | _ => 0

abbrev bufTy : (tb : Table) → Fin (tcTables nBuf tb) → BufTy
  | .hbm, ⟨0, _⟩ => ⟨S1x31x256, .f32⟩
  | .hbm, ⟨1, _⟩ => ⟨S2x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S_, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S_, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S_, .f32⟩
  | .hbm, ⟨96, _⟩ => ⟨S1x1024, .f32⟩
  | .hbm, ⟨97, _⟩ => ⟨S1x1024, .f32⟩
  | .hbm, ⟨98, _⟩ => ⟨S_, .f32⟩
  | .hbm, ⟨99, _⟩ => ⟨S1x1024, .f32⟩
  | .hbm, ⟨100, _⟩ => ⟨S1x1024, .f32⟩
  | .hbm, ⟨101, _⟩ => ⟨S1x1024, .f32⟩
  | .hbm, ⟨102, _⟩ => ⟨S_, .f32⟩
  | .hbm, ⟨103, _⟩ => ⟨S1x1024, .f32⟩
  | .hbm, ⟨104, _⟩ => ⟨S1x1024, .f32⟩
  | .hbm, ⟨105, _⟩ => ⟨S1x1024, .f32⟩
  | .hbm, ⟨106, _⟩ => ⟨S_, .f32⟩
  | .hbm, ⟨107, _⟩ => ⟨S1x1024, .f32⟩
  | .hbm, ⟨108, _⟩ => ⟨S1x1024, .f32⟩
  | .hbm, ⟨109, _⟩ => ⟨S1x1024, .f32⟩
  | .hbm, ⟨110, _⟩ => ⟨S_, .f32⟩
  | .hbm, ⟨111, _⟩ => ⟨S1x1024, .f32⟩
  | .hbm, ⟨112, _⟩ => ⟨S1x1024, .f32⟩
  | _, _ => ⟨S1x31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_3 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_7 : Ref sig .tc := ⟨.hbm, 44, rfl⟩
abbrev main_v22 : Ref sig .tc := ⟨.hbm, 45, rfl⟩
abbrev main_v23 : Ref sig .tc := ⟨.hbm, 46, rfl⟩
abbrev main_cst_8 : Ref sig .tc := ⟨.hbm, 47, rfl⟩
abbrev main_v24 : Ref sig .tc := ⟨.hbm, 48, rfl⟩
abbrev main_v25 : Ref sig .tc := ⟨.hbm, 49, rfl⟩
abbrev main_cst_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_10 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_11 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_12 : Ref sig .tc := ⟨.hbm, 62, rfl⟩
abbrev main_v35 : Ref sig .tc := ⟨.hbm, 63, rfl⟩
abbrev main_v36 : Ref sig .tc := ⟨.hbm, 64, rfl⟩
abbrev main_cst_13 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_14 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_15 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_16 : Ref sig .tc := ⟨.hbm, 77, rfl⟩
abbrev main_v46 : Ref sig .tc := ⟨.hbm, 78, rfl⟩
abbrev main_v47 : Ref sig .tc := ⟨.hbm, 79, rfl⟩
abbrev main_cst_17 : Ref sig .tc := ⟨.hbm, 80, rfl⟩
abbrev main_v48 : Ref sig .tc := ⟨.hbm, 81, rfl⟩
abbrev main_v49 : Ref sig .tc := ⟨.hbm, 82, rfl⟩
abbrev main_cst_18 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_19 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_20 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_21 : Ref sig .tc := ⟨.hbm, 95, rfl⟩
abbrev main_v59 : Ref sig .tc := ⟨.hbm, 96, rfl⟩
abbrev main_v60 : Ref sig .tc := ⟨.hbm, 97, rfl⟩
abbrev main_cst_22 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_23 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_24 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_25 : Ref sig .tc := ⟨.hbm, 110, rfl⟩
abbrev main_v70 : Ref sig .tc := ⟨.hbm, 111, rfl⟩
abbrev main_v71 : Ref sig .tc := ⟨.hbm, 112, rfl⟩

abbrev nD : Nat := 1
abbrev τ : Topo := Topo.v7x

variable {F : FTy → Type} [FloatOps F]
-- ==== KernelU.lean ====
abbrev S1x31x256 : Shape := ⟨3, ![1, 31, 256]⟩
abbrev S2x1024 : Shape := ⟨2, ![2, 1024]⟩
abbrev S1x1024 : Shape := ⟨2, ![1, 1024]⟩
abbrev S_ : Shape := ⟨0, ![]⟩
abbrev S10x1024 : Shape := ⟨2, ![10, 1024]⟩
abbrev S12x1024 : Shape := ⟨2, ![12, 1024]⟩
abbrev S39x1024 : Shape := ⟨2, ![39, 1024]⟩
abbrev S64x1024 : Shape := ⟨2, ![64, 1024]⟩
abbrev S31x256 : Shape := ⟨2, ![31, 256]⟩

abbrev nBuf : Space → Nat
  | .hbm => 34
  | .vmem => 24
  | .smem => 0
  | _ => 0

abbrev bufTy : (tb : Table) → Fin (tcTables nBuf tb) → BufTy
  | .hbm, ⟨0, _⟩ => ⟨S1x31x256, .f32⟩
  | .hbm, ⟨1, _⟩ => ⟨S2x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S10x1024, .f32⟩
  | .hbm, ⟨16, _⟩ => ⟨S_, .f32⟩
  | .hbm, ⟨17, _⟩ => ⟨S12x1024, .f32⟩
  | .hbm, ⟨18, _⟩ => ⟨S_, .f32⟩
  | .hbm, ⟨19, _⟩ => ⟨S39x1024, .f32⟩
  | .hbm, ⟨20, _⟩ => ⟨S64x1024, .f32⟩
  | .hbm, ⟨21, _⟩ => ⟨S31x256, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .local _ .vmem, ⟨0, _⟩ => ⟨S64x1024, .f32⟩
  | .local _ .vmem, ⟨1, _⟩ => ⟨S31x256, .f32⟩
  | .local _ .vmem, ⟨2, _⟩ => ⟨S2x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S1x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_cst_1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev main_v5_3 : Ref sig .tc := ⟨.hbm, 25, rfl⟩
abbrev main_v5_4 : Ref sig .tc := ⟨.hbm, 26, rfl⟩
abbrev main_v5_5 : Ref sig .tc := ⟨.hbm, 27, rfl⟩
abbrev main_v5_6 : Ref sig .tc := ⟨.hbm, 28, rfl⟩
abbrev main_v5_7 : Ref sig .tc := ⟨.hbm, 29, rfl⟩
abbrev main_v5_8 : Ref sig .tc := ⟨.hbm, 30, rfl⟩
abbrev main_v5_9 : Ref sig .tc := ⟨.hbm, 31, rfl⟩
abbrev main_v5_10 : Ref sig .tc := ⟨.hbm, 32, rfl⟩
abbrev main_v5_11 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== ReferenceUIdeal.lean ====
abbrev S1x31x256 : Shape := ⟨3, ![1, 31, 256]⟩
abbrev S2x1024 : Shape := ⟨2, ![2, 1024]⟩
abbrev S1x1024 : Shape := ⟨2, ![1, 1024]⟩
abbrev S_ : Shape := ⟨0, ![]⟩

abbrev nBuf : Space → Nat
  | .hbm => 113
  | .vmem => 0
  | .smem => 0
  | _ => 0

abbrev bufTy : (tb : Table) → Fin (tcTables nBuf tb) → BufTy
  | .hbm, ⟨0, _⟩ => ⟨S1x31x256, .f32⟩
  | .hbm, ⟨1, _⟩ => ⟨S2x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S_, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S_, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S_, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S_, .f32⟩
  | .hbm, ⟨96, _⟩ => ⟨S1x1024, .f32⟩
  | .hbm, ⟨97, _⟩ => ⟨S1x1024, .f32⟩
  | .hbm, ⟨98, _⟩ => ⟨S_, .f32⟩
  | .hbm, ⟨99, _⟩ => ⟨S1x1024, .f32⟩
  | .hbm, ⟨100, _⟩ => ⟨S1x1024, .f32⟩
  | .hbm, ⟨101, _⟩ => ⟨S1x1024, .f32⟩
  | .hbm, ⟨102, _⟩ => ⟨S_, .f32⟩
  | .hbm, ⟨103, _⟩ => ⟨S1x1024, .f32⟩
  | .hbm, ⟨104, _⟩ => ⟨S1x1024, .f32⟩
  | .hbm, ⟨105, _⟩ => ⟨S1x1024, .f32⟩
  | .hbm, ⟨106, _⟩ => ⟨S_, .f32⟩
  | .hbm, ⟨107, _⟩ => ⟨S1x1024, .f32⟩
  | .hbm, ⟨108, _⟩ => ⟨S1x1024, .f32⟩
  | .hbm, ⟨109, _⟩ => ⟨S1x1024, .f32⟩
  | .hbm, ⟨110, _⟩ => ⟨S_, .f32⟩
  | .hbm, ⟨111, _⟩ => ⟨S1x1024, .f32⟩
  | .hbm, ⟨112, _⟩ => ⟨S1x1024, .f32⟩
  | _, _ => ⟨S1x31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_3 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_7 : Ref sig .tc := ⟨.hbm, 44, rfl⟩
abbrev main_v22 : Ref sig .tc := ⟨.hbm, 45, rfl⟩
abbrev main_v23 : Ref sig .tc := ⟨.hbm, 46, rfl⟩
abbrev main_cst_8 : Ref sig .tc := ⟨.hbm, 47, rfl⟩
abbrev main_v24 : Ref sig .tc := ⟨.hbm, 48, rfl⟩
abbrev main_v25 : Ref sig .tc := ⟨.hbm, 49, rfl⟩
abbrev main_cst_9 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_10 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_11 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_12 : Ref sig .tc := ⟨.hbm, 62, rfl⟩
abbrev main_v35 : Ref sig .tc := ⟨.hbm, 63, rfl⟩
abbrev main_v36 : Ref sig .tc := ⟨.hbm, 64, rfl⟩
abbrev main_cst_13 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_14 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_15 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_16 : Ref sig .tc := ⟨.hbm, 77, rfl⟩
abbrev main_v46 : Ref sig .tc := ⟨.hbm, 78, rfl⟩
abbrev main_v47 : Ref sig .tc := ⟨.hbm, 79, rfl⟩
abbrev main_cst_17 : Ref sig .tc := ⟨.hbm, 80, rfl⟩
abbrev main_v48 : Ref sig .tc := ⟨.hbm, 81, rfl⟩
abbrev main_v49 : Ref sig .tc := ⟨.hbm, 82, rfl⟩
abbrev main_cst_18 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_19 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_20 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_21 : Ref sig .tc := ⟨.hbm, 95, rfl⟩
abbrev main_v59 : Ref sig .tc := ⟨.hbm, 96, rfl⟩
abbrev main_v60 : Ref sig .tc := ⟨.hbm, 97, rfl⟩
abbrev main_cst_22 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_23 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_24 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_25 : Ref sig .tc := ⟨.hbm, 110, rfl⟩
abbrev main_v70 : Ref sig .tc := ⟨.hbm, 111, rfl⟩
abbrev main_v71 : Ref sig .tc := ⟨.hbm, 112, rfl⟩

abbrev nD : Nat := 1
abbrev τ : Topo := Topo.v7x

variable {F : FTy → Type} [FloatOps F]
-- ==== KernelW.lean ====
abbrev S1x31x256 : Shape := ⟨3, ![1, 31, 256]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S62x1024 : Shape := ⟨2, ![62, 1024]⟩
abbrev S64x1024 : Shape := ⟨2, ![64, 1024]⟩
abbrev S31x256 : Shape := ⟨2, ![31, 256]⟩

abbrev nBuf : Space → Nat
  | .hbm => 26
  | .vmem => 17
  | .smem => 0
  | _ => 0

abbrev bufTy : (tb : Table) → Fin (tcTables nBuf tb) → BufTy
  | .hbm, ⟨0, _⟩ => ⟨S1x31x256, .f32⟩
  | .hbm, ⟨1, _⟩ => ⟨S2x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S_, .f32⟩
  | .hbm, ⟨12, _⟩ => ⟨S62x1024, .f32⟩
  | .hbm, ⟨13, _⟩ => ⟨S64x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S31x256, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .local _ .vmem, ⟨0, _⟩ => ⟨S64x1024, .f32⟩
  | .local _ .vmem, ⟨1, _⟩ => ⟨S31x256, .f32⟩
  | .local _ .vmem, ⟨2, _⟩ => ⟨S2x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S1x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v7_5 : Ref sig .tc := ⟨.hbm, 23, rfl⟩
abbrev main_v7_6 : Ref sig .tc := ⟨.hbm, 24, rfl⟩
abbrev main_v7_7 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== ReferenceWIdeal.lean ====
abbrev S1x31x256 : Shape := ⟨3, ![1, 31, 256]⟩
abbrev S2x1024 : Shape := ⟨2, ![2, 1024]⟩
abbrev S1x1024 : Shape := ⟨2, ![1, 1024]⟩
abbrev S1024 : Shape := ⟨1, ![1024]⟩
abbrev S_ : Shape := ⟨0, ![]⟩

abbrev nBuf : Space → Nat
  | .hbm => 80
  | .vmem => 0
  | .smem => 0
  | _ => 0

abbrev bufTy : (tb : Table) → Fin (tcTables nBuf tb) → BufTy
  | .hbm, ⟨0, _⟩ => ⟨S1x31x256, .f32⟩
  | .hbm, ⟨1, _⟩ => ⟨S2x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S1024, .f32⟩
  | .hbm, ⟨73, _⟩ => ⟨S_, .f32⟩
  | .hbm, ⟨74, _⟩ => ⟨S1024, .f32⟩
  | .hbm, ⟨75, _⟩ => ⟨S1024, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S1x1024, .f32⟩
  | _, _ => ⟨S1x31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_cst_8 : Ref sig .tc := ⟨.hbm, 43, rfl⟩
abbrev main_v24 : Ref sig .tc := ⟨.hbm, 44, rfl⟩
abbrev main_v25 : Ref sig .tc := ⟨.hbm, 45, rfl⟩
abbrev main_cst_9 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_10 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_11 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_12 : Ref sig .tc := ⟨.hbm, 58, rfl⟩
abbrev main_v35 : Ref sig .tc := ⟨.hbm, 59, rfl⟩
abbrev main_v36 : Ref sig .tc := ⟨.hbm, 60, rfl⟩
abbrev main_cst_13 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_14 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_15 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_16 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]
-- ==== KernelG.lean ====
abbrev S1x8192x7168 : Shape := ⟨3, ![1, 8192, 7168]⟩
abbrev S1x31x1024 : Shape := ⟨3, ![1, 31, 1024]⟩
abbrev S1x1024 : Shape := ⟨2, ![1, 1024]⟩
abbrev S1x1024x1024 : Shape := ⟨3, ![1, 1024, 1024]⟩
abbrev S8192x7168 : Shape := ⟨2, ![8192, 7168]⟩
abbrev S31x1024 : Shape := ⟨2, ![31, 1024]⟩
abbrev S_ : Shape := ⟨0, ![]⟩
abbrev S32x1024 : Shape := ⟨2, ![32, 1024]⟩
abbrev S1024x1024 : Shape := ⟨2, ![1024, 1024]⟩
abbrev S8192x1024 : Shape := ⟨2, ![8192, 1024]⟩
abbrev S256x1024 : Shape := ⟨2, ![256, 1024]⟩
abbrev S288x1024 : Shape := ⟨2, ![288, 1024]⟩
abbrev S256x128 : Shape := ⟨2, ![256, 128]⟩
abbrev S256 : Shape := ⟨1, ![256]⟩
abbrev S256x1 : Shape := ⟨2, ![256, 1]⟩

abbrev nBuf : Space → Nat
  | .hbm => 16
  | .vmem => 17
  | .smem => 0
  | _ => 0

abbrev bufTy : (tb : Table) → Fin (tcTables nBuf tb) → BufTy
  | .hbm, ⟨0, _⟩ => ⟨S1x8192x7168, .f32⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024x1024, .f32⟩
  | .hbm, ⟨6, _⟩ => ⟨S1x1024, .f32⟩
  | .hbm, ⟨7, _⟩ => ⟨S8192x7168, .f32⟩
  | .hbm, ⟨8, _⟩ => ⟨S31x1024, .f32⟩
  | .hbm, ⟨9, _⟩ => ⟨S_, .i32⟩
  | .hbm, ⟨10, _⟩ => ⟨S_, .f32⟩
  | .hbm, ⟨11, _⟩ => ⟨S32x1024, .f32⟩
  | .hbm, ⟨12, _⟩ => ⟨S1024x1024, .f32⟩
  | .hbm, ⟨13, _⟩ => ⟨S1024x1024, .bf16⟩
  | .hbm, ⟨14, _⟩ => ⟨S8192x1024, .bf16⟩
  | .hbm, ⟨15, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S32x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S288x1024, .f32⟩
  | _, _ => ⟨S1x8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceGIdeal.lean ====
abbrev S1x8192x7168 : Shape := ⟨3, ![1, 8192, 7168]⟩
abbrev S1x31x1024 : Shape := ⟨3, ![1, 31, 1024]⟩
abbrev S1x1024 : Shape := ⟨2, ![1, 1024]⟩
abbrev S1x1024x1024 : Shape := ⟨3, ![1, 1024, 1024]⟩
abbrev S1x8192x3072 : Shape := ⟨3, ![1, 8192, 3072]⟩
abbrev S1x8192x1024 : Shape := ⟨3, ![1, 8192, 1024]⟩
abbrev S31x1024 : Shape := ⟨2, ![31, 1024]⟩
abbrev S1024 : Shape := ⟨1, ![1024]⟩
abbrev S_ : Shape := ⟨0, ![]⟩
abbrev S1x30x1024 : Shape := ⟨3, ![1, 30, 1024]⟩
abbrev S1x8222x1024 : Shape := ⟨3, ![1, 8222, 1024]⟩
abbrev S1x1x1024 : Shape := ⟨3, ![1, 1, 1024]⟩
abbrev S1x8192x8x128 : Shape := ⟨4, ![1, 8192, 8, 128]⟩
abbrev S1x8192x8 : Shape := ⟨3, ![1, 8192, 8]⟩
abbrev S1x8192x8x1 : Shape := ⟨4, ![1, 8192, 8, 1]⟩
abbrev S1024x1024 : Shape := ⟨2, ![1024, 1024]⟩
abbrev S8192x1024 : Shape := ⟨2, ![8192, 1024]⟩

abbrev nBuf : Space → Nat
  | .hbm => 308
  | .vmem => 0
  | .smem => 0
  | _ => 0

abbrev hbmTy0_0 (i : Nat) : BufTy := match i % 128 with
  | 0 => ⟨S1x8192x7168, .f32⟩
  | 1 => ⟨S1x31x1024, .f32⟩
  | 2 => ⟨S1x1024, .f32⟩
  | 3 => ⟨S1x1024, .f32⟩
  | 4 => ⟨S1x1024, .f32⟩
  | 5 => ⟨S1x1024x1024, .f32⟩
  | 6 => ⟨S1x1024, .f32⟩
  | 7 => ⟨S1x8192x3072, .f32⟩
  | 8 => ⟨S1x8192x1024, .f32⟩
  | 9 => ⟨S1x8192x1024, .f32⟩
  | 10 => ⟨S1x8192x1024, .f32⟩
  | 11 => ⟨S31x1024, .f32⟩
  | 12 => ⟨S1024, .f32⟩
  | 13 => ⟨S1x8192x1024, .f32⟩
  | 14 => ⟨S1x8192x1024, .f32⟩
  | 15 => ⟨S_, .f32⟩
  | 16 => ⟨S1x8192x1024, .f32⟩
  | 17 => ⟨S1x8192x1024, .f32⟩
  | 18 => ⟨S_, .f32⟩
  | 19 => ⟨S1x8192x1024, .f32⟩
  | 20 => ⟨S1x8192x1024, .f32⟩
  | 21 => ⟨S1x8192x1024, .f32⟩
  | 22 => ⟨S_, .f32⟩
  | 23 => ⟨S1x30x1024, .f32⟩
  | 24 => ⟨S1x8222x1024, .f32⟩
  | 25 => ⟨S1x8192x1024, .f32⟩
  | 26 => ⟨S1x1024, .f32⟩
  | 27 => ⟨S1024, .f32⟩
  | 28 => ⟨S1x1x1024, .f32⟩
  | 29 => ⟨S1x8192x1024, .f32⟩
  | 30 => ⟨S1x8192x1024, .f32⟩
  | 31 => ⟨S_, .f32⟩
  | 32 => ⟨S1x8192x1024, .f32⟩
  | 33 => ⟨S1x8192x1024, .f32⟩
  | 34 => ⟨S1x8192x1024, .f32⟩
  | 35 => ⟨S1x1024, .f32⟩
  | 36 => ⟨S1024, .f32⟩
  | 37 => ⟨S1x1x1024, .f32⟩
  | 38 => ⟨S1x8192x1024, .f32⟩
  | 39 => ⟨S1x8192x1024, .f32⟩
  | 40 => ⟨S1x8192x1024, .f32⟩
  | 41 => ⟨S1x8192x1024, .f32⟩
  | 42 => ⟨S1x1024, .f32⟩
  | 43 => ⟨S1024, .f32⟩
  | 44 => ⟨S1x1x1024, .f32⟩
  | 45 => ⟨S1x8192x1024, .f32⟩
  | 46 => ⟨S1x8192x1024, .f32⟩
  | 47 => ⟨S1x8192x1024, .f32⟩
  | 48 => ⟨S1x8192x1024, .f32⟩
  | 49 => ⟨S1x1024, .f32⟩
  | 50 => ⟨S1024, .f32⟩
  | 51 => ⟨S1x1x1024, .f32⟩
  | 52 => ⟨S1x8192x1024, .f32⟩
  | 53 => ⟨S1x8192x1024, .f32⟩
  | 54 => ⟨S1x8192x1024, .f32⟩
  | 55 => ⟨S1x8192x1024, .f32⟩
  | 56 => ⟨S1x1024, .f32⟩
  | 57 => ⟨S1024, .f32⟩
  | 58 => ⟨S1x1x1024, .f32⟩
  | 59 => ⟨S1x8192x1024, .f32⟩
  | 60 => ⟨S1x8192x1024, .f32⟩
  | 61 => ⟨S1x8192x1024, .f32⟩
  | 62 => ⟨S1x8192x1024, .f32⟩
  | 63 => ⟨S1x1024, .f32⟩
  | 64 => ⟨S1024, .f32⟩
  | 65 => ⟨S1x1x1024, .f32⟩
  | 66 => ⟨S1x8192x1024, .f32⟩
  | 67 => ⟨S1x8192x1024, .f32⟩
  | 68 => ⟨S1x8192x1024, .f32⟩
  | 69 => ⟨S1x8192x1024, .f32⟩
  | 70 => ⟨S1x1024, .f32⟩
  | 71 => ⟨S1024, .f32⟩
  | 72 => ⟨S1x1x1024, .f32⟩
  | 73 => ⟨S1x8192x1024, .f32⟩
  | 74 => ⟨S1x8192x1024, .f32⟩
  | 75 => ⟨S1x8192x1024, .f32⟩
  | 76 => ⟨S1x8192x1024, .f32⟩
  | 77 => ⟨S1x1024, .f32⟩
  | 78 => ⟨S1024, .f32⟩
  | 79 => ⟨S1x1x1024, .f32⟩
  | 80 => ⟨S1x8192x1024, .f32⟩
  | 81 => ⟨S1x8192x1024, .f32⟩
  | 82 => ⟨S1x8192x1024, .f32⟩
  | 83 => ⟨S1x8192x1024, .f32⟩
  | 84 => ⟨S1x1024, .f32⟩
  | 85 => ⟨S1024, .f32⟩
  | 86 => ⟨S1x1x1024, .f32⟩
  | 87 => ⟨S1x8192x1024, .f32⟩
  | 88 => ⟨S1x8192x1024, .f32⟩
  | 89 => ⟨S1x8192x1024, .f32⟩
  | 90 => ⟨S1x8192x1024, .f32⟩
  | 91 => ⟨S1x1024, .f32⟩
  | 92 => ⟨S1024, .f32⟩
  | 93 => ⟨S1x1x1024, .f32⟩
  | 94 => ⟨S1x8192x1024, .f32⟩
  | 95 => ⟨S1x8192x1024, .f32⟩
  | 96 => ⟨S1x8192x1024, .f32⟩
  | 97 => ⟨S1x8192x1024, .f32⟩
  | 98 => ⟨S1x1024, .f32⟩
  | 99 => ⟨S1024, .f32⟩
  | 100 => ⟨S1x1x1024, .f32⟩
  | 101 => ⟨S1x8192x1024, .f32⟩
  | 102 => ⟨S1x8192x1024, .f32⟩
  | 103 => ⟨S1x8192x1024, .f32⟩
  | 104 => ⟨S1x8192x1024, .f32⟩
  | 105 => ⟨S1x1024, .f32⟩
  | 106 => ⟨S1024, .f32⟩
  | 107 => ⟨S1x1x1024, .f32⟩
  | 108 => ⟨S1x8192x1024, .f32⟩
  | 109 => ⟨S1x8192x1024, .f32⟩
  | 110 => ⟨S1x8192x1024, .f32⟩
  | 111 => ⟨S1x8192x1024, .f32⟩
  | 112 => ⟨S1x1024, .f32⟩
  | 113 => ⟨S1024, .f32⟩
  | 114 => ⟨S1x1x1024, .f32⟩
  | 115 => ⟨S1x8192x1024, .f32⟩
  | 116 => ⟨S1x8192x1024, .f32⟩
  | 117 => ⟨S1x8192x1024, .f32⟩
  | 118 => ⟨S1x8192x1024, .f32⟩
  | 119 => ⟨S1x1024, .f32⟩
  | 120 => ⟨S1024, .f32⟩
  | 121 => ⟨S1x1x1024, .f32⟩
  | 122 => ⟨S1x8192x1024, .f32⟩
  | 123 => ⟨S1x8192x1024, .f32⟩
  | 124 => ⟨S1x8192x1024, .f32⟩
  | 125 => ⟨S1x8192x1024, .f32⟩
  | 126 => ⟨S1x1024, .f32⟩
  | 127 => ⟨S1024, .f32⟩
  | _ => ⟨S1x8192x7168, .f32⟩

abbrev hbmTy0_1 (i : Nat) : BufTy := match i % 128 with
  | 0 => ⟨S1x1x1024, .f32⟩
  | 1 => ⟨S1x8192x1024, .f32⟩
  | 2 => ⟨S1x8192x1024, .f32⟩
  | 3 => ⟨S1x8192x1024, .f32⟩
  | 4 => ⟨S1x8192x1024, .f32⟩
  | 5 => ⟨S1x1024, .f32⟩
  | 6 => ⟨S1024, .f32⟩
  | 7 => ⟨S1x1x1024, .f32⟩
  | 8 => ⟨S1x8192x1024, .f32⟩
  | 9 => ⟨S1x8192x1024, .f32⟩
  | 10 => ⟨S1x8192x1024, .f32⟩
  | 11 => ⟨S1x8192x1024, .f32⟩
  | 12 => ⟨S1x1024, .f32⟩
  | 13 => ⟨S1024, .f32⟩
  | 14 => ⟨S1x1x1024, .f32⟩
  | 15 => ⟨S1x8192x1024, .f32⟩
  | 16 => ⟨S1x8192x1024, .f32⟩
  | 17 => ⟨S1x8192x1024, .f32⟩
  | 18 => ⟨S1x8192x1024, .f32⟩
  | 19 => ⟨S1x1024, .f32⟩
  | 20 => ⟨S1024, .f32⟩
  | 21 => ⟨S1x1x1024, .f32⟩
  | 22 => ⟨S1x8192x1024, .f32⟩
  | 23 => ⟨S1x8192x1024, .f32⟩
  | 24 => ⟨S1x8192x1024, .f32⟩
  | 25 => ⟨S1x8192x1024, .f32⟩
  | 26 => ⟨S1x1024, .f32⟩
  | 27 => ⟨S1024, .f32⟩
  | 28 => ⟨S1x1x1024, .f32⟩
  | 29 => ⟨S1x8192x1024, .f32⟩
  | 30 => ⟨S1x8192x1024, .f32⟩
  | 31 => ⟨S1x8192x1024, .f32⟩
  | 32 => ⟨S1x8192x1024, .f32⟩
  | 33 => ⟨S1x1024, .f32⟩
  | 34 => ⟨S1024, .f32⟩
  | 35 => ⟨S1x1x1024, .f32⟩
  | 36 => ⟨S1x8192x1024, .f32⟩
  | 37 => ⟨S1x8192x1024, .f32⟩
  | 38 => ⟨S1x8192x1024, .f32⟩
  | 39 => ⟨S1x8192x1024, .f32⟩
  | 40 => ⟨S1x1024, .f32⟩
  | 41 => ⟨S1024, .f32⟩
  | 42 => ⟨S1x1x1024, .f32⟩
  | 43 => ⟨S1x8192x1024, .f32⟩
  | 44 => ⟨S1x8192x1024, .f32⟩
  | 45 => ⟨S1x8192x1024, .f32⟩
  | 46 => ⟨S1x8192x1024, .f32⟩
  | 47 => ⟨S1x1024, .f32⟩
  | 48 => ⟨S1024, .f32⟩
  | 49 => ⟨S1x1x1024, .f32⟩
  | 50 => ⟨S1x8192x1024, .f32⟩
  | 51 => ⟨S1x8192x1024, .f32⟩
  | 52 => ⟨S1x8192x1024, .f32⟩
  | 53 => ⟨S1x8192x1024, .f32⟩
  | 54 => ⟨S1x1024, .f32⟩
  | 55 => ⟨S1024, .f32⟩
  | 56 => ⟨S1x1x1024, .f32⟩
  | 57 => ⟨S1x8192x1024, .f32⟩
  | 58 => ⟨S1x8192x1024, .f32⟩
  | 59 => ⟨S1x8192x1024, .f32⟩
  | 60 => ⟨S1x8192x1024, .f32⟩
  | 61 => ⟨S1x1024, .f32⟩
  | 62 => ⟨S1024, .f32⟩
  | 63 => ⟨S1x1x1024, .f32⟩
  | 64 => ⟨S1x8192x1024, .f32⟩
  | 65 => ⟨S1x8192x1024, .f32⟩
  | 66 => ⟨S1x8192x1024, .f32⟩
  | 67 => ⟨S1x8192x1024, .f32⟩
  | 68 => ⟨S1x1024, .f32⟩
  | 69 => ⟨S1024, .f32⟩
  | 70 => ⟨S1x1x1024, .f32⟩
  | 71 => ⟨S1x8192x1024, .f32⟩
  | 72 => ⟨S1x8192x1024, .f32⟩
  | 73 => ⟨S1x8192x1024, .f32⟩
  | 74 => ⟨S1x8192x1024, .f32⟩
  | 75 => ⟨S1x1024, .f32⟩
  | 76 => ⟨S1024, .f32⟩
  | 77 => ⟨S1x1x1024, .f32⟩
  | 78 => ⟨S1x8192x1024, .f32⟩
  | 79 => ⟨S1x8192x1024, .f32⟩
  | 80 => ⟨S1x8192x1024, .f32⟩
  | 81 => ⟨S1x8192x1024, .f32⟩
  | 82 => ⟨S1x1024, .f32⟩
  | 83 => ⟨S1024, .f32⟩
  | 84 => ⟨S1x1x1024, .f32⟩
  | 85 => ⟨S1x8192x1024, .f32⟩
  | 86 => ⟨S1x8192x1024, .f32⟩
  | 87 => ⟨S1x8192x1024, .f32⟩
  | 88 => ⟨S1x8192x1024, .f32⟩
  | 89 => ⟨S1x1024, .f32⟩
  | 90 => ⟨S1024, .f32⟩
  | 91 => ⟨S1x1x1024, .f32⟩
  | 92 => ⟨S1x8192x1024, .f32⟩
  | 93 => ⟨S1x8192x1024, .f32⟩
  | 94 => ⟨S1x8192x1024, .f32⟩
  | 95 => ⟨S1x8192x1024, .f32⟩
  | 96 => ⟨S1x1024, .f32⟩
  | 97 => ⟨S1024, .f32⟩
  | 98 => ⟨S1x1x1024, .f32⟩
  | 99 => ⟨S1x8192x1024, .f32⟩
  | 100 => ⟨S1x8192x1024, .f32⟩
  | 101 => ⟨S1x8192x1024, .f32⟩
  | 102 => ⟨S1x8192x1024, .f32⟩
  | 103 => ⟨S1x1024, .f32⟩
  | 104 => ⟨S1024, .f32⟩
  | 105 => ⟨S1x1x1024, .f32⟩
  | 106 => ⟨S1x8192x1024, .f32⟩
  | 107 => ⟨S1x8192x1024, .f32⟩
  | 108 => ⟨S1x8192x1024, .f32⟩
  | 109 => ⟨S1x8192x1024, .f32⟩
  | 110 => ⟨S1x1024, .f32⟩
  | 111 => ⟨S1024, .f32⟩
  | 112 => ⟨S1x1x1024, .f32⟩
  | 113 => ⟨S1x8192x1024, .f32⟩
  | 114 => ⟨S1x8192x1024, .f32⟩
  | 115 => ⟨S1x8192x1024, .f32⟩
  | 116 => ⟨S1x1x1024, .f32⟩
  | 117 => ⟨S1x8192x1024, .f32⟩
  | 118 => ⟨S1x8192x1024, .f32⟩
  | 119 => ⟨S1024, .f32⟩
  | 120 => ⟨S1024, .f32⟩
  | 121 => ⟨S1x8192x8x128, .f32⟩
  | 122 => ⟨S_, .f32⟩
  | 123 => ⟨S1x8192x8, .f32⟩
  | 124 => ⟨S1x8192x8x1, .f32⟩
  | 125 => ⟨S_, .f32⟩
  | 126 => ⟨S1x8192x8x1, .f32⟩
  | 127 => ⟨S1x8192x8x1, .f32⟩
  | _ => ⟨S1x8192x7168, .f32⟩

abbrev hbmTy0_2 (i : Nat) : BufTy := match i % 128 with
  | 0 => ⟨S1x8192x8x128, .f32⟩
  | 1 => ⟨S1x8192x8x128, .f32⟩
  | 2 => ⟨S1x8192x8x128, .f32⟩
  | 3 => ⟨S_, .f32⟩
  | 4 => ⟨S1x8192x8, .f32⟩
  | 5 => ⟨S1x8192x8x1, .f32⟩
  | 6 => ⟨S_, .f32⟩
  | 7 => ⟨S1x8192x8x1, .f32⟩
  | 8 => ⟨S1x8192x8x1, .f32⟩
  | 9 => ⟨S1x8192x8x128, .f32⟩
  | 10 => ⟨S1x8192x8x128, .f32⟩
  | 11 => ⟨S_, .f32⟩
  | 12 => ⟨S1x8192x8x1, .f32⟩
  | 13 => ⟨S1x8192x8x1, .f32⟩
  | 14 => ⟨S1x8192x8x1, .f32⟩
  | 15 => ⟨S1x8192x8x128, .f32⟩
  | 16 => ⟨S1x8192x8x128, .f32⟩
  | 17 => ⟨S1x8192x1024, .f32⟩
  | 18 => ⟨S1x1x1024, .f32⟩
  | 19 => ⟨S1x8192x1024, .f32⟩
  | 20 => ⟨S1x8192x1024, .f32⟩
  | 21 => ⟨S1x1x1024, .f32⟩
  | 22 => ⟨S1x8192x1024, .f32⟩
  | 23 => ⟨S1x8192x1024, .f32⟩
  | 24 => ⟨S1x8192x1024, .f32⟩
  | 25 => ⟨S1x8192x1024, .f32⟩
  | 26 => ⟨S_, .f32⟩
  | 27 => ⟨S1x8192x1024, .f32⟩
  | 28 => ⟨S1x8192x1024, .f32⟩
  | 29 => ⟨S_, .f32⟩
  | 30 => ⟨S1x8192x1024, .f32⟩
  | 31 => ⟨S1x8192x1024, .f32⟩
  | 32 => ⟨S1x8192x1024, .f32⟩
  | 33 => ⟨S1024x1024, .f32⟩
  | 34 => ⟨S1024, .f32⟩
  | 35 => ⟨S1x8192x1024, .f32⟩
  | 36 => ⟨S1x1x1024, .f32⟩
  | 37 => ⟨S1x8192x1024, .f32⟩
  | 38 => ⟨S1x8192x1024, .f32⟩
  | 39 => ⟨S1x8192x1024, .f32⟩
  | 40 => ⟨S1x8192x1024, .f32⟩
  | 41 => ⟨S_, .f32⟩
  | 42 => ⟨S1x8192x1024, .f32⟩
  | 43 => ⟨S1x8192x1024, .f32⟩
  | 44 => ⟨S_, .f32⟩
  | 45 => ⟨S1x8192x1024, .f32⟩
  | 46 => ⟨S1x8192x1024, .f32⟩
  | 47 => ⟨S1x8192x1024, .f32⟩
  | 48 => ⟨S1x8192x1024, .f32⟩
  | 49 => ⟨S8192x1024, .f32⟩
  | 50 => ⟨S8192x1024, .bf16⟩
  | 51 => ⟨S8192x1024, .f32⟩
  | _ => ⟨S1x8192x7168, .f32⟩

abbrev hbmTy (i : Nat) : BufTy := match i / 128 with
  | 0 => hbmTy0_0 i
  | 1 => hbmTy0_1 i
  | 2 => hbmTy0_2 i
  | _ => ⟨S1x8192x7168, .f32⟩

abbrev bufTy : (tb : Table) → Fin (tcTables nBuf tb) → BufTy
  | .hbm, ⟨i, _⟩ => hbmTy i
  | _, _ => ⟨S1x8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_cst_3 : Ref sig .tc := ⟨.hbm, 250, rfl⟩
abbrev main_v239 : Ref sig .tc := ⟨.hbm, 251, rfl⟩
abbrev main_v240 : Ref sig .tc := ⟨.hbm, 252, rfl⟩
abbrev main_cst_4 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_cst_5 : Ref sig .tc := ⟨.hbm, 259, rfl⟩
abbrev main_v246 : Ref sig .tc := ⟨.hbm, 260, rfl⟩
abbrev main_v247 : Ref sig .tc := ⟨.hbm, 261, rfl⟩
abbrev main_cst_6 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_cst_7 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_call0_v0 : Ref sig .tc := ⟨.hbm, 280, rfl⟩
abbrev main_call0_v1 : Ref sig .tc := ⟨.hbm, 281, rfl⟩
abbrev main_call0_cst : Ref sig .tc := ⟨.hbm, 282, rfl⟩
abbrev main_call0_v2 : Ref sig .tc := ⟨.hbm, 283, rfl⟩
abbrev main_call0_v3 : Ref sig .tc := ⟨.hbm, 284, rfl⟩
abbrev main_call0_cst_0 : Ref sig .tc := ⟨.hbm, 285, rfl⟩
abbrev main_call0_v4 : Ref sig .tc := ⟨.hbm, 286, rfl⟩
abbrev main_call0_v5 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_call1_v0 : Ref sig .tc := ⟨.hbm, 295, rfl⟩
abbrev main_call1_v1 : Ref sig .tc := ⟨.hbm, 296, rfl⟩
abbrev main_call1_cst : Ref sig .tc := ⟨.hbm, 297, rfl⟩
abbrev main_call1_v2 : Ref sig .tc := ⟨.hbm, 298, rfl⟩
abbrev main_call1_v3 : Ref sig .tc := ⟨.hbm, 299, rfl⟩
abbrev main_call1_cst_0 : Ref sig .tc := ⟨.hbm, 300, rfl⟩
abbrev main_call1_v4 : Ref sig .tc := ⟨.hbm, 301, rfl⟩
abbrev main_call1_v5 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩

abbrev nD : Nat := 1
abbrev τ : Topo := Topo.v7x

variable {F : FTy → Type} [FloatOps F]
-- ==== KernelH.lean ====
abbrev S1x8192x7168 : Shape := ⟨3, ![1, 8192, 7168]⟩
abbrev S2x1024 : Shape := ⟨2, ![2, 1024]⟩
abbrev S1x1024 : Shape := ⟨2, ![1, 1024]⟩
abbrev S8192x1024 : Shape := ⟨2, ![8192, 1024]⟩
abbrev S8x128x128x128 : Shape := ⟨4, ![8, 128, 128, 128]⟩
abbrev S8192x7168 : Shape := ⟨2, ![8192, 7168]⟩
abbrev S4x8192x1024 : Shape := ⟨3, ![4, 8192, 1024]⟩
abbrev S8x1024 : Shape := ⟨2, ![8, 1024]⟩
abbrev S512x1024 : Shape := ⟨2, ![512, 1024]⟩
abbrev S8x8x128x128 : Shape := ⟨4, ![8, 8, 128, 128]⟩
abbrev S4x512x1024 : Shape := ⟨3, ![4, 512, 1024]⟩
abbrev S8x128x128 : Shape := ⟨3, ![8, 128, 128]⟩
abbrev S1024 : Shape := ⟨1, ![1024]⟩
abbrev S64x1024 : Shape := ⟨2, ![64, 1024]⟩
abbrev S64x64 : Shape := ⟨2, ![64, 64]⟩
abbrev S1x1x128x128 : Shape := ⟨4, ![1, 1, 128, 128]⟩
abbrev S128x128 : Shape := ⟨2, ![128, 128]⟩
abbrev S1x128x128 : Shape := ⟨3, ![1, 128, 128]⟩
abbrev S64x128 : Shape := ⟨2, ![64, 128]⟩
abbrev S64 : Shape := ⟨1, ![64]⟩
abbrev S64x1 : Shape := ⟨2, ![64, 1]⟩
abbrev S128 : Shape := ⟨1, ![128]⟩
abbrev S1x128 : Shape := ⟨2, ![1, 128]⟩
abbrev S1x64x1024 : Shape := ⟨3, ![1, 64, 1024]⟩

abbrev nBuf : Space → Nat
  | .hbm => 9
  | .vmem => 20
  | .smem => 0
  | _ => 0

abbrev bufTy : (tb : Table) → Fin (tcTables nBuf tb) → BufTy
  | .hbm, ⟨0, _⟩ => ⟨S1x8192x7168, .f32⟩
  | .hbm, ⟨1, _⟩ => ⟨S2x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8x128x128x128, .f32⟩
  | .hbm, ⟨6, _⟩ => ⟨S8192x7168, .f32⟩
  | .hbm, ⟨7, _⟩ => ⟨S4x8192x1024, .bf16⟩
  | .hbm, ⟨8, _⟩ => ⟨S8x1024, .f32⟩
  | .local _ .vmem, ⟨0, _⟩ => ⟨S2x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S8x8x128x128, .f32⟩
  | .local _ .vmem, ⟨15, _⟩ => ⟨S8x8x128x128, .f32⟩
  | .local _ .vmem, ⟨16, _⟩ => ⟨S4x512x1024, .bf16⟩
  | .local _ .vmem, ⟨17, _⟩ => ⟨S4x512x1024, .bf16⟩
  | .local _ .vmem, ⟨18, _⟩ => ⟨S8x1024, .f32⟩
  | .local _ .vmem, ⟨19, _⟩ => ⟨S8x128x128, .f32⟩
  | _, _ => ⟨S1x8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![1, 16], ![false, false]⟩

def k0_mult1 : BitVec 32 :=
  let c7_i32 : BitVec 32 := 7#32
  let c0_i32_5 : BitVec 32 := 0#32
  let v23 : BitVec 32 := Scalar.subi c7_i32 c0_i32_5
  let c64_i32 : BitVec 32 := 64#32
  let v24 : BitVec 32 := Scalar.muli v23 c64_i32
  v24
def k0_off1 (c0_i32_5 : BitVec 32) : Fin 2 → Nat :=
  let c7_i32 : BitVec 32 := 7#32
  let v23 : BitVec 32 := Scalar.subi c7_i32 c0_i32_5
  let c64_i32 : BitVec 32 := 64#32
  let v24 : BitVec 32 := Scalar.muli v23 c64_i32
  let v25 : BitVec 32 := v24
  let v26 : Index := Scalar.indexCast v25
  let c0_6 : Index := 0#32
  ![v26.toNat, 0]
def k0_off2 (c0_i32_5 : BitVec 32) : Fin 4 → Nat :=
  let c0_16 : Index := 0#32
  let c7_i32 : BitVec 32 := 7#32
  let v23 : BitVec 32 := Scalar.subi c7_i32 c0_i32_5
  let v90 : Index := Scalar.indexCast v23
  let c0_17 : Index := 0#32
  let c0_18 : Index := 0#32
  ![0, v90.toNat, 0, 0]
def k0_off3 (c0_i32_5 : BitVec 32) : Fin 4 → Nat :=
  let c1 : Index := 1#32
  let c7_i32 : BitVec 32 := 7#32
  let v23 : BitVec 32 := Scalar.subi c7_i32 c0_i32_5
  let v93 : Index := Scalar.indexCast v23
  let c0_19 : Index := 0#32
  let c0_20 : Index := 0#32
  ![1, v93.toNat, 0, 0]
def k0_off4 (c0_i32_5 : BitVec 32) : Fin 4 → Nat :=
  let c2 : Index := 2#32
  let c7_i32 : BitVec 32 := 7#32
  let v23 : BitVec 32 := Scalar.subi c7_i32 c0_i32_5
  let v96 : Index := Scalar.indexCast v23
  let c0_21 : Index := 0#32
  let c0_22 : Index := 0#32
  ![2, v96.toNat, 0, 0]
def k0_off5 (c0_i32_5 : BitVec 32) : Fin 4 → Nat :=
  let c3 : Index := 3#32
  let c7_i32 : BitVec 32 := 7#32
  let v23 : BitVec 32 := Scalar.subi c7_i32 c0_i32_5
  let v99 : Index := Scalar.indexCast v23
  let c0_23 : Index := 0#32
  let c0_24 : Index := 0#32
  ![3, v99.toNat, 0, 0]
def k0_off6 (c0_i32_5 : BitVec 32) : Fin 4 → Nat :=
  let c4 : Index := 4#32
  let c7_i32 : BitVec 32 := 7#32
  let v23 : BitVec 32 := Scalar.subi c7_i32 c0_i32_5
  let v102 : Index := Scalar.indexCast v23
  let c0_25 : Index := 0#32
  let c0_26 : Index := 0#32
  ![4, v102.toNat, 0, 0]
def k0_off7 (c0_i32_5 : BitVec 32) : Fin 4 → Nat :=
  let c5 : Index := 5#32
  let c7_i32 : BitVec 32 := 7#32
  let v23 : BitVec 32 := Scalar.subi c7_i32 c0_i32_5
  let v105 : Index := Scalar.indexCast v23
  let c0_27 : Index := 0#32
  let c0_28 : Index := 0#32
  ![5, v105.toNat, 0, 0]
def k0_off8 (c0_i32_5 : BitVec 32) : Fin 4 → Nat :=
  let c6 : Index := 6#32
  let c7_i32 : BitVec 32 := 7#32
  let v23 : BitVec 32 := Scalar.subi c7_i32 c0_i32_5
  let v108 : Index := Scalar.indexCast v23
  let c0_29 : Index := 0#32
  let c0_30 : Index := 0#32
  ![6, v108.toNat, 0, 0]
def k0_off9 (c0_i32_5 : BitVec 32) : Fin 4 → Nat :=
  let c7 : Index := 7#32
  let c7_i32 : BitVec 32 := 7#32
  let v23 : BitVec 32 := Scalar.subi c7_i32 c0_i32_5
  let v111 : Index := Scalar.indexCast v23
  let c0_31 : Index := 0#32
  let c0_32 : Index := 0#32
  ![7, v111.toNat, 0, 0]
def k0_off10 (c0_i32_5 : BitVec 32) : Fin 3 → Nat :=
  let c0_261 : Index := 0#32
  let c7_i32 : BitVec 32 := 7#32
  let v23 : BitVec 32 := Scalar.subi c7_i32 c0_i32_5
  let c64_i32 : BitVec 32 := 64#32
  let v24 : BitVec 32 := Scalar.muli v23 c64_i32
  let v25 : BitVec 32 := v24
  let v864 : Index := Scalar.indexCast v25
  let c0_262 : Index := 0#32
  ![0, v864.toNat, 0]
def k0_off11 (c0_i32_5 : BitVec 32) : Fin 3 → Nat :=
  let c1_265 : Index := 1#32
  let c7_i32 : BitVec 32 := 7#32
  let v23 : BitVec 32 := Scalar.subi c7_i32 c0_i32_5
  let c64_i32 : BitVec 32 := 64#32
  let v24 : BitVec 32 := Scalar.muli v23 c64_i32
  let v25 : BitVec 32 := v24
  let v877 : Index := Scalar.indexCast v25
  let c0_266 : Index := 0#32
  ![1, v877.toNat, 0]
def k0_off12 (c0_i32_5 : BitVec 32) : Fin 3 → Nat :=
  let c2_267 : Index := 2#32
  let c7_i32 : BitVec 32 := 7#32
  let v23 : BitVec 32 := Scalar.subi c7_i32 c0_i32_5
  let c64_i32 : BitVec 32 := 64#32
  let v24 : BitVec 32 := Scalar.muli v23 c64_i32
  let v25 : BitVec 32 := v24
  let v882 : Index := Scalar.indexCast v25
  let c0_268 : Index := 0#32
  ![2, v882.toNat, 0]
def k0_off13 (c0_i32_5 : BitVec 32) : Fin 3 → Nat :=
  let c3_269 : Index := 3#32
  let c7_i32 : BitVec 32 := 7#32
  let v23 : BitVec 32 := Scalar.subi c7_i32 c0_i32_5
  let c64_i32 : BitVec 32 := 64#32
  let v24 : BitVec 32 := Scalar.muli v23 c64_i32
  let v25 : BitVec 32 := v24
  let v887 : Index := Scalar.indexCast v25
  let c0_270 : Index := 0#32
  ![3, v887.toNat, 0]
def k0_mult2 : BitVec 32 :=
  let c7_i32_281 : BitVec 32 := 7#32
  let c1_i32 : BitVec 32 := 1#32
  let v904 : BitVec 32 := Scalar.subi c7_i32_281 c1_i32
  let c64_i32_282 : BitVec 32 := 64#32
  let v905 : BitVec 32 := Scalar.muli v904 c64_i32_282
  v905
def k0_mult3 : BitVec 32 :=
  let c7_i32_565 : BitVec 32 := 7#32
  let c2_i32 : BitVec 32 := 2#32
  let v1785 : BitVec 32 := Scalar.subi c7_i32_565 c2_i32
  let c64_i32_566 : BitVec 32 := 64#32
  let v1786 : BitVec 32 := Scalar.muli v1785 c64_i32_566
  v1786
def k0_mult4 : BitVec 32 :=
  let c7_i32_849 : BitVec 32 := 7#32
  let c3_i32 : BitVec 32 := 3#32
  let v2666 : BitVec 32 := Scalar.subi c7_i32_849 c3_i32
  let c64_i32_850 : BitVec 32 := 64#32
  let v2667 : BitVec 32 := Scalar.muli v2666 c64_i32_850
  v2667
def k0_mult5 : BitVec 32 :=
  let c7_i32_1133 : BitVec 32 := 7#32
  let c4_i32 : BitVec 32 := 4#32
  let v3547 : BitVec 32 := Scalar.subi c7_i32_1133 c4_i32
  let c64_i32_1134 : BitVec 32 := 64#32
  let v3548 : BitVec 32 := Scalar.muli v3547 c64_i32_1134
  v3548
def k0_mult6 : BitVec 32 :=
  let c7_i32_1417 : BitVec 32 := 7#32
  let c5_i32 : BitVec 32 := 5#32
  let v4428 : BitVec 32 := Scalar.subi c7_i32_1417 c5_i32
  let c64_i32_1418 : BitVec 32 := 64#32
  let v4429 : BitVec 32 := Scalar.muli v4428 c64_i32_1418
  v4429
def k0_mult7 : BitVec 32 :=
  let c7_i32_1701 : BitVec 32 := 7#32
  let c6_i32 : BitVec 32 := 6#32
  let v5309 : BitVec 32 := Scalar.subi c7_i32_1701 c6_i32
  let c64_i32_1702 : BitVec 32 := 64#32
  let v5310 : BitVec 32 := Scalar.muli v5309 c64_i32_1702
  v5310
def k0_mult8 : BitVec 32 :=
  let c7_i32_1986 : BitVec 32 := 7#32
  let c7_i32_1985 : BitVec 32 := 7#32
  let v6190 : BitVec 32 := Scalar.subi c7_i32_1986 c7_i32_1985
  let c64_i32_1987 : BitVec 32 := 64#32
  let v6191 : BitVec 32 := Scalar.muli v6190 c64_i32_1987
  v6191
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c3_i32 : BitVec 32 := 3#32
  let v1 : BitVec 32 := Scalar.addi c3_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.addi c4_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c5_i32 : BitVec 32 := 5#32
  let v1 : BitVec 32 := Scalar.addi c5_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c6_i32 : BitVec 32 := 6#32
  let v1 : BitVec 32 := Scalar.addi c6_i32 arg0
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_8 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== KernelN.lean ====
abbrev S1x8192x1024 : Shape := ⟨3, ![1, 8192, 1024]⟩
abbrev S1x1024 : Shape := ⟨2, ![1, 1024]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S8192x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNIdeal.lean ====
abbrev S1x8192x1024 : Shape := ⟨3, ![1, 8192, 1024]⟩
abbrev S1x1024 : Shape := ⟨2, ![1, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1024 : Shape := ⟨2, ![8192, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1024, .f32⟩
  | .hbm, ⟨3, _⟩ => ⟨S1x8192x1024, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x1024, .f32⟩
  | .hbm, ⟨15, _⟩ => ⟨S1x8192x1024, .f32⟩
  | .hbm, ⟨16, _⟩ => ⟨S1x1x1024, .f32⟩
  | .hbm, ⟨17, _⟩ => ⟨S1x8192x1024, .f32⟩
  | .hbm, ⟨18, _⟩ => ⟨S1x8192x1024, .f32⟩
  | .hbm, ⟨19, _⟩ => ⟨S8192x1024, .f32⟩
  | .hbm, ⟨20, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelM.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceMIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelO.lean ====
abbrev S1024x1792 : Shape := ⟨2, ![1024, 1792]⟩
abbrev S1x1024x1792 : Shape := ⟨3, ![1, 1024, 1792]⟩
abbrev S128x1792 : Shape := ⟨2, ![128, 1792]⟩

abbrev nBuf : Space → Nat
  | .hbm => 10
  | .vmem => 14
  | .smem => 0
  | _ => 0

abbrev bufTy : (tb : Table) → Fin (tcTables nBuf tb) → BufTy
  | .hbm, ⟨0, _⟩ => ⟨S1024x1792, .f32⟩
  | .hbm, ⟨1, _⟩ => ⟨S1x1024x1792, .f32⟩
  | .hbm, ⟨2, _⟩ => ⟨S1x1024x1792, .f32⟩
  | .hbm, ⟨3, _⟩ => ⟨S1x1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .hbm, ⟨7, _⟩ => ⟨S1024x1792, .f32⟩
  | .hbm, ⟨8, _⟩ => ⟨S1024x1792, .f32⟩
  | .hbm, ⟨9, _⟩ => ⟨S1024x1792, .f32⟩
  | .local _ .vmem, ⟨0, _⟩ => ⟨S128x1792, .f32⟩
  | .local _ .vmem, ⟨1, _⟩ => ⟨S128x1792, .f32⟩
  | .local _ .vmem, ⟨2, _⟩ => ⟨S128x1792, .f32⟩
  | .local _ .vmem, ⟨3, _⟩ => ⟨S128x1792, .f32⟩
  | .local _ .vmem, ⟨4, _⟩ => ⟨S128x1792, .f32⟩
  | .local _ .vmem, ⟨5, _⟩ => ⟨S128x1792, .f32⟩
  | .local _ .vmem, ⟨6, _⟩ => ⟨S128x1792, .f32⟩
  | .local _ .vmem, ⟨7, _⟩ => ⟨S128x1792, .f32⟩
  | .local _ .vmem, ⟨8, _⟩ => ⟨S128x1792, .f32⟩
  | .local _ .vmem, ⟨9, _⟩ => ⟨S128x1792, .f32⟩
  | .local _ .vmem, ⟨10, _⟩ => ⟨S128x1792, .f32⟩
  | .local _ .vmem, ⟨11, _⟩ => ⟨S128x1792, .f32⟩
  | .local _ .vmem, ⟨12, _⟩ => ⟨S128x1792, .f32⟩
  | .local _ .vmem, ⟨13, _⟩ => ⟨S128x1792, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelOIdeal.lean ====
abbrev S1024x1792 : Shape := ⟨2, ![1024, 1792]⟩
abbrev S1x1024x1792 : Shape := ⟨3, ![1, 1024, 1792]⟩
abbrev S128x1792 : Shape := ⟨2, ![128, 1792]⟩

abbrev nBuf : Space → Nat
  | .hbm => 10
  | .vmem => 14
  | .smem => 0
  | _ => 0

abbrev bufTy : (tb : Table) → Fin (tcTables nBuf tb) → BufTy
  | .hbm, ⟨0, _⟩ => ⟨S1024x1792, .f32⟩
  | .hbm, ⟨1, _⟩ => ⟨S1x1024x1792, .f32⟩
  | .hbm, ⟨2, _⟩ => ⟨S1x1024x1792, .f32⟩
  | .hbm, ⟨3, _⟩ => ⟨S1x1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .hbm, ⟨7, _⟩ => ⟨S1024x1792, .f32⟩
  | .hbm, ⟨8, _⟩ => ⟨S1024x1792, .f32⟩
  | .hbm, ⟨9, _⟩ => ⟨S1024x1792, .f32⟩
  | .local _ .vmem, ⟨0, _⟩ => ⟨S128x1792, .f32⟩
  | .local _ .vmem, ⟨1, _⟩ => ⟨S128x1792, .f32⟩
  | .local _ .vmem, ⟨2, _⟩ => ⟨S128x1792, .f32⟩
  | .local _ .vmem, ⟨3, _⟩ => ⟨S128x1792, .f32⟩
  | .local _ .vmem, ⟨4, _⟩ => ⟨S128x1792, .f32⟩
  | .local _ .vmem, ⟨5, _⟩ => ⟨S128x1792, .f32⟩
  | .local _ .vmem, ⟨6, _⟩ => ⟨S128x1792, .f32⟩
  | .local _ .vmem, ⟨7, _⟩ => ⟨S128x1792, .f32⟩
  | .local _ .vmem, ⟨8, _⟩ => ⟨S128x1792, .f32⟩
  | .local _ .vmem, ⟨9, _⟩ => ⟨S128x1792, .f32⟩
  | .local _ .vmem, ⟨10, _⟩ => ⟨S128x1792, .f32⟩
  | .local _ .vmem, ⟨11, _⟩ => ⟨S128x1792, .f32⟩
  | .local _ .vmem, ⟨12, _⟩ => ⟨S128x1792, .f32⟩
  | .local _ .vmem, ⟨13, _⟩ => ⟨S128x1792, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceOIdeal.lean ====
abbrev S1024x1792 : Shape := ⟨2, ![1024, 1792]⟩
abbrev S1x1024x1792 : Shape := ⟨3, ![1, 1024, 1792]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S1x1024x1792, .f32⟩
  | .hbm, ⟨2, _⟩ => ⟨S1x1024x1792, .f32⟩
  | .hbm, ⟨3, _⟩ => ⟨S1x1024x1792, .f32⟩
  | .hbm, ⟨4, _⟩ => ⟨S1x1024x1792, .f32⟩
  | .hbm, ⟨5, _⟩ => ⟨S_, .f32⟩
  | .hbm, ⟨6, _⟩ => ⟨S1x1024x1792, .f32⟩
  | .hbm, ⟨7, _⟩ => ⟨S1x1024x1792, .f32⟩
  | .hbm, ⟨8, _⟩ => ⟨S_, .f32⟩
  | .hbm, ⟨9, _⟩ => ⟨S1x1024x1792, .f32⟩
  | .hbm, ⟨10, _⟩ => ⟨S1x1024x1792, .f32⟩
  | .hbm, ⟨11, _⟩ => ⟨S1x1024x1792, .f32⟩
  | .hbm, ⟨12, _⟩ => ⟨S_, .f32⟩
  | .hbm, ⟨13, _⟩ => ⟨S1x1024x1792, .f32⟩
  | .hbm, ⟨14, _⟩ => ⟨S1x1024x1792, .f32⟩
  | .hbm, ⟨15, _⟩ => ⟨S1x1024x1792, .f32⟩
  | .hbm, ⟨16, _⟩ => ⟨S_, .f32⟩
  | .hbm, ⟨17, _⟩ => ⟨S1x1024x1792, .f32⟩
  | .hbm, ⟨18, _⟩ => ⟨S1x1024x1792, .f32⟩
  | .hbm, ⟨19, _⟩ => ⟨S1x1024x1792, .f32⟩
  | .hbm, ⟨20, _⟩ => ⟨S_, .f32⟩
  | .hbm, ⟨21, _⟩ => ⟨S1x1024x1792, .f32⟩
  | .hbm, ⟨22, _⟩ => ⟨S1x1024x1792, .f32⟩
  | .hbm, ⟨23, _⟩ => ⟨S_, .f32⟩
  | .hbm, ⟨24, _⟩ => ⟨S1x1024x1792, .f32⟩
  | .hbm, ⟨25, _⟩ => ⟨S1x1024x1792, .f32⟩
  | .hbm, ⟨26, _⟩ => ⟨S1x1024x1792, .f32⟩
  | .hbm, ⟨27, _⟩ => ⟨S_, .f32⟩
  | .hbm, ⟨28, _⟩ => ⟨S1x1024x1792, .f32⟩
  | .hbm, ⟨29, _⟩ => ⟨S1x1024x1792, .f32⟩
  | .hbm, ⟨30, _⟩ => ⟨S1x1024x1792, .f32⟩
  | .hbm, ⟨31, _⟩ => ⟨S_, .f32⟩
  | .hbm, ⟨32, _⟩ => ⟨S1x1024x1792, .f32⟩
  | .hbm, ⟨33, _⟩ => ⟨S1x1024x1792, .f32⟩
  | .hbm, ⟨34, _⟩ => ⟨S1x1024x1792, .f32⟩
  | .hbm, ⟨35, _⟩ => ⟨S_, .f32⟩
  | .hbm, ⟨36, _⟩ => ⟨S1x1024x1792, .f32⟩
  | .hbm, ⟨37, _⟩ => ⟨S1x1024x1792, .f32⟩
  | .hbm, ⟨38, _⟩ => ⟨S1024x1792, .f32⟩
  | .hbm, ⟨39, _⟩ => ⟨S1024x1792, .f32⟩
  | .hbm, ⟨40, _⟩ => ⟨S1024x1792, .f32⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelP.lean ====
abbrev S256x1024 : Shape := ⟨2, ![256, 1024]⟩
abbrev S1x256x1024 : Shape := ⟨3, ![1, 256, 1024]⟩

abbrev nBuf : Space → Nat
  | .hbm => 10
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== KernelPIdeal.lean ====
abbrev S256x1024 : Shape := ⟨2, ![256, 1024]⟩
abbrev S1x256x1024 : Shape := ⟨3, ![1, 256, 1024]⟩

abbrev nBuf : Space → Nat
  | .hbm => 10
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferencePIdeal.lean ====
abbrev S256x1024 : Shape := ⟨2, ![256, 1024]⟩
abbrev S1x256x1024 : Shape := ⟨3, ![1, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | .hbm, ⟨38, _⟩ => ⟨S256x1024, .f32⟩
  | .hbm, ⟨39, _⟩ => ⟨S256x1024, .f32⟩
  | .hbm, ⟨40, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelQ.lean ====
abbrev S512x1024 : Shape := ⟨2, ![512, 1024]⟩
abbrev S1x512x1024 : Shape := ⟨3, ![1, 512, 1024]⟩
abbrev S256x1024 : Shape := ⟨2, ![256, 1024]⟩

abbrev nBuf : Space → Nat
  | .hbm => 10
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelQIdeal.lean ====
abbrev S512x1024 : Shape := ⟨2, ![512, 1024]⟩
abbrev S1x512x1024 : Shape := ⟨3, ![1, 512, 1024]⟩
abbrev S256x1024 : Shape := ⟨2, ![256, 1024]⟩

abbrev nBuf : Space → Nat
  | .hbm => 10
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceQIdeal.lean ====
abbrev S512x1024 : Shape := ⟨2, ![512, 1024]⟩
abbrev S1x512x1024 : Shape := ⟨3, ![1, 512, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x512x1024, .f32⟩
  | .hbm, ⟨2, _⟩ => ⟨S1x512x1024, .f32⟩
  | .hbm, ⟨3, _⟩ => ⟨S1x512x1024, .f32⟩
  | .hbm, ⟨4, _⟩ => ⟨S1x512x1024, .f32⟩
  | .hbm, ⟨5, _⟩ => ⟨S_, .f32⟩
  | .hbm, ⟨6, _⟩ => ⟨S1x512x1024, .f32⟩
  | .hbm, ⟨7, _⟩ => ⟨S1x512x1024, .f32⟩
  | .hbm, ⟨8, _⟩ => ⟨S_, .f32⟩
  | .hbm, ⟨9, _⟩ => ⟨S1x512x1024, .f32⟩
  | .hbm, ⟨10, _⟩ => ⟨S1x512x1024, .f32⟩
  | .hbm, ⟨11, _⟩ => ⟨S1x512x1024, .f32⟩
  | .hbm, ⟨12, _⟩ => ⟨S_, .f32⟩
  | .hbm, ⟨13, _⟩ => ⟨S1x512x1024, .f32⟩
  | .hbm, ⟨14, _⟩ => ⟨S1x512x1024, .f32⟩
  | .hbm, ⟨15, _⟩ => ⟨S1x512x1024, .f32⟩
  | .hbm, ⟨16, _⟩ => ⟨S_, .f32⟩
  | .hbm, ⟨17, _⟩ => ⟨S1x512x1024, .f32⟩
  | .hbm, ⟨18, _⟩ => ⟨S1x512x1024, .f32⟩
  | .hbm, ⟨19, _⟩ => ⟨S1x512x1024, .f32⟩
  | .hbm, ⟨20, _⟩ => ⟨S_, .f32⟩
  | .hbm, ⟨21, _⟩ => ⟨S1x512x1024, .f32⟩
  | .hbm, ⟨22, _⟩ => ⟨S1x512x1024, .f32⟩
  | .hbm, ⟨23, _⟩ => ⟨S_, .f32⟩
  | .hbm, ⟨24, _⟩ => ⟨S1x512x1024, .f32⟩
  | .hbm, ⟨25, _⟩ => ⟨S1x512x1024, .f32⟩
  | .hbm, ⟨26, _⟩ => ⟨S1x512x1024, .f32⟩
  | .hbm, ⟨27, _⟩ => ⟨S_, .f32⟩
  | .hbm, ⟨28, _⟩ => ⟨S1x512x1024, .f32⟩
  | .hbm, ⟨29, _⟩ => ⟨S1x512x1024, .f32⟩
  | .hbm, ⟨30, _⟩ => ⟨S1x512x1024, .f32⟩
  | .hbm, ⟨31, _⟩ => ⟨S_, .f32⟩
  | .hbm, ⟨32, _⟩ => ⟨S1x512x1024, .f32⟩
  | .hbm, ⟨33, _⟩ => ⟨S1x512x1024, .f32⟩
  | .hbm, ⟨34, _⟩ => ⟨S1x512x1024, .f32⟩
  | .hbm, ⟨35, _⟩ => ⟨S_, .f32⟩
  | .hbm, ⟨36, _⟩ => ⟨S1x512x1024, .f32⟩
  | .hbm, ⟨37, _⟩ => ⟨S1x512x1024, .f32⟩
  | .hbm, ⟨38, _⟩ => ⟨S512x1024, .f32⟩
  | .hbm, ⟨39, _⟩ => ⟨S512x1024, .f32⟩
  | .hbm, ⟨40, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelY.lean ====
abbrev S256x256 : Shape := ⟨2, ![256, 256]⟩
abbrev S1x256x256 : Shape := ⟨3, ![1, 256, 256]⟩

abbrev nBuf : Space → Nat
  | .hbm => 10
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S1x256x256, .f32⟩
  | .hbm, ⟨2, _⟩ => ⟨S1x256x256, .f32⟩
  | .hbm, ⟨3, _⟩ => ⟨S1x256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceYIdeal.lean ====
abbrev S256x256 : Shape := ⟨2, ![256, 256]⟩
abbrev S1x256x256 : Shape := ⟨3, ![1, 256, 256]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S1x256x256, .f32⟩
  | .hbm, ⟨2, _⟩ => ⟨S1x256x256, .f32⟩
  | .hbm, ⟨3, _⟩ => ⟨S1x256x256, .f32⟩
  | .hbm, ⟨4, _⟩ => ⟨S1x256x256, .f32⟩
  | .hbm, ⟨5, _⟩ => ⟨S_, .f32⟩
  | .hbm, ⟨6, _⟩ => ⟨S1x256x256, .f32⟩
  | .hbm, ⟨7, _⟩ => ⟨S1x256x256, .f32⟩
  | .hbm, ⟨8, _⟩ => ⟨S_, .f32⟩
  | .hbm, ⟨9, _⟩ => ⟨S1x256x256, .f32⟩
  | .hbm, ⟨10, _⟩ => ⟨S1x256x256, .f32⟩
  | .hbm, ⟨11, _⟩ => ⟨S1x256x256, .f32⟩
  | .hbm, ⟨12, _⟩ => ⟨S_, .f32⟩
  | .hbm, ⟨13, _⟩ => ⟨S1x256x256, .f32⟩
  | .hbm, ⟨14, _⟩ => ⟨S1x256x256, .f32⟩
  | .hbm, ⟨15, _⟩ => ⟨S1x256x256, .f32⟩
  | .hbm, ⟨16, _⟩ => ⟨S_, .f32⟩
  | .hbm, ⟨17, _⟩ => ⟨S1x256x256, .f32⟩
  | .hbm, ⟨18, _⟩ => ⟨S1x256x256, .f32⟩
  | .hbm, ⟨19, _⟩ => ⟨S1x256x256, .f32⟩
  | .hbm, ⟨20, _⟩ => ⟨S_, .f32⟩
  | .hbm, ⟨21, _⟩ => ⟨S1x256x256, .f32⟩
  | .hbm, ⟨22, _⟩ => ⟨S1x256x256, .f32⟩
  | .hbm, ⟨23, _⟩ => ⟨S_, .f32⟩
  | .hbm, ⟨24, _⟩ => ⟨S1x256x256, .f32⟩
  | .hbm, ⟨25, _⟩ => ⟨S1x256x256, .f32⟩
  | .hbm, ⟨26, _⟩ => ⟨S1x256x256, .f32⟩
  | .hbm, ⟨27, _⟩ => ⟨S_, .f32⟩
  | .hbm, ⟨28, _⟩ => ⟨S1x256x256, .f32⟩
  | .hbm, ⟨29, _⟩ => ⟨S1x256x256, .f32⟩
  | .hbm, ⟨30, _⟩ => ⟨S1x256x256, .f32⟩
  | .hbm, ⟨31, _⟩ => ⟨S_, .f32⟩
  | .hbm, ⟨32, _⟩ => ⟨S1x256x256, .f32⟩
  | .hbm, ⟨33, _⟩ => ⟨S1x256x256, .f32⟩
  | .hbm, ⟨34, _⟩ => ⟨S1x256x256, .f32⟩
  | .hbm, ⟨35, _⟩ => ⟨S_, .f32⟩
  | .hbm, ⟨36, _⟩ => ⟨S1x256x256, .f32⟩
  | .hbm, ⟨37, _⟩ => ⟨S1x256x256, .f32⟩
  | .hbm, ⟨38, _⟩ => ⟨S256x256, .f32⟩
  | .hbm, ⟨39, _⟩ => ⟨S256x256, .f32⟩
  | .hbm, ⟨40, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelC.lean ====
abbrev S1x8192x7168 : Shape := ⟨3, ![1, 8192, 7168]⟩
abbrev S8192x1024 : Shape := ⟨2, ![8192, 1024]⟩
abbrev S1x31x1024 : Shape := ⟨3, ![1, 31, 1024]⟩
abbrev S1x1024 : Shape := ⟨2, ![1, 1024]⟩
abbrev S1x1024x1024 : Shape := ⟨3, ![1, 1024, 1024]⟩
abbrev S1x8192x1024 : Shape := ⟨3, ![1, 8192, 1024]⟩
abbrev S31x1024 : Shape := ⟨2, ![31, 1024]⟩
abbrev S1024 : Shape := ⟨1, ![1024]⟩
abbrev S_ : Shape := ⟨0, ![]⟩
abbrev S1x30x1024 : Shape := ⟨3, ![1, 30, 1024]⟩
abbrev S1x8222x1024 : Shape := ⟨3, ![1, 8222, 1024]⟩
abbrev S1x1x1024 : Shape := ⟨3, ![1, 1, 1024]⟩
abbrev S8192x7168 : Shape := ⟨2, ![8192, 7168]⟩
abbrev S32x1024 : Shape := ⟨2, ![32, 1024]⟩
abbrev S1024x1024 : Shape := ⟨2, ![1024, 1024]⟩
abbrev S3x8192x1024 : Shape := ⟨3, ![3, 8192, 1024]⟩
abbrev S8x1024 : Shape := ⟨2, ![8, 1024]⟩
abbrev S256x1024 : Shape := ⟨2, ![256, 1024]⟩
abbrev S3x256x1024 : Shape := ⟨3, ![3, 256, 1024]⟩
abbrev S288x1024 : Shape := ⟨2, ![288, 1024]⟩
abbrev S32x8x1024 : Shape := ⟨3, ![32, 8, 1024]⟩
abbrev S256x128 : Shape := ⟨2, ![256, 128]⟩
abbrev S256 : Shape := ⟨1, ![256]⟩
abbrev S256x1 : Shape := ⟨2, ![256, 1]⟩
abbrev S1x256x1024 : Shape := ⟨3, ![1, 256, 1024]⟩
abbrev S288x128 : Shape := ⟨2, ![288, 128]⟩
abbrev S8x128 : Shape := ⟨2, ![8, 128]⟩
abbrev S1x8x128 : Shape := ⟨3, ![1, 8, 128]⟩
abbrev S1x128 : Shape := ⟨2, ![1, 128]⟩

abbrev nBuf : Space → Nat
  | .hbm => 259
  | .vmem => 30
  | .smem => 0
  | _ => 0

abbrev hbmTy0_0 (i : Nat) : BufTy := match i % 128 with
  | 0 => ⟨S1x8192x7168, .f32⟩
  | 1 => ⟨S8192x1024, .f32⟩
  | 2 => ⟨S1x31x1024, .f32⟩
  | 3 => ⟨S1x1024, .f32⟩
  | 4 => ⟨S1x1024, .f32⟩
  | 5 => ⟨S1x1024, .f32⟩
  | 6 => ⟨S1x1024x1024, .f32⟩
  | 7 => ⟨S1x1024, .f32⟩
  | 8 => ⟨S1x8192x1024, .f32⟩
  | 9 => ⟨S1x8192x1024, .f32⟩
  | 10 => ⟨S31x1024, .f32⟩
  | 11 => ⟨S1024, .f32⟩
  | 12 => ⟨S1x8192x1024, .f32⟩
  | 13 => ⟨S1x8192x1024, .f32⟩
  | 14 => ⟨S_, .f32⟩
  | 15 => ⟨S1x8192x1024, .f32⟩
  | 16 => ⟨S1x8192x1024, .f32⟩
  | 17 => ⟨S_, .f32⟩
  | 18 => ⟨S1x8192x1024, .f32⟩
  | 19 => ⟨S1x8192x1024, .f32⟩
  | 20 => ⟨S1x8192x1024, .f32⟩
  | 21 => ⟨S_, .f32⟩
  | 22 => ⟨S1x30x1024, .f32⟩
  | 23 => ⟨S1x8222x1024, .f32⟩
  | 24 => ⟨S1x8192x1024, .f32⟩
  | 25 => ⟨S1x1024, .f32⟩
  | 26 => ⟨S1024, .f32⟩
  | 27 => ⟨S1x1x1024, .f32⟩
  | 28 => ⟨S1x8192x1024, .f32⟩
  | 29 => ⟨S1x8192x1024, .f32⟩
  | 30 => ⟨S_, .f32⟩
  | 31 => ⟨S1x8192x1024, .f32⟩
  | 32 => ⟨S1x8192x1024, .f32⟩
  | 33 => ⟨S1x8192x1024, .f32⟩
  | 34 => ⟨S1x1024, .f32⟩
  | 35 => ⟨S1024, .f32⟩
  | 36 => ⟨S1x1x1024, .f32⟩
  | 37 => ⟨S1x8192x1024, .f32⟩
  | 38 => ⟨S1x8192x1024, .f32⟩
  | 39 => ⟨S1x8192x1024, .f32⟩
  | 40 => ⟨S1x8192x1024, .f32⟩
  | 41 => ⟨S1x1024, .f32⟩
  | 42 => ⟨S1024, .f32⟩
  | 43 => ⟨S1x1x1024, .f32⟩
  | 44 => ⟨S1x8192x1024, .f32⟩
  | 45 => ⟨S1x8192x1024, .f32⟩
  | 46 => ⟨S1x8192x1024, .f32⟩
  | 47 => ⟨S1x8192x1024, .f32⟩
  | 48 => ⟨S1x1024, .f32⟩
  | 49 => ⟨S1024, .f32⟩
  | 50 => ⟨S1x1x1024, .f32⟩
  | 51 => ⟨S1x8192x1024, .f32⟩
  | 52 => ⟨S1x8192x1024, .f32⟩
  | 53 => ⟨S1x8192x1024, .f32⟩
  | 54 => ⟨S1x8192x1024, .f32⟩
  | 55 => ⟨S1x1024, .f32⟩
  | 56 => ⟨S1024, .f32⟩
  | 57 => ⟨S1x1x1024, .f32⟩
  | 58 => ⟨S1x8192x1024, .f32⟩
  | 59 => ⟨S1x8192x1024, .f32⟩
  | 60 => ⟨S1x8192x1024, .f32⟩
  | 61 => ⟨S1x8192x1024, .f32⟩
  | 62 => ⟨S1x1024, .f32⟩
  | 63 => ⟨S1024, .f32⟩
  | 64 => ⟨S1x1x1024, .f32⟩
  | 65 => ⟨S1x8192x1024, .f32⟩
  | 66 => ⟨S1x8192x1024, .f32⟩
  | 67 => ⟨S1x8192x1024, .f32⟩
  | 68 => ⟨S1x8192x1024, .f32⟩
  | 69 => ⟨S1x1024, .f32⟩
  | 70 => ⟨S1024, .f32⟩
  | 71 => ⟨S1x1x1024, .f32⟩
  | 72 => ⟨S1x8192x1024, .f32⟩
  | 73 => ⟨S1x8192x1024, .f32⟩
  | 74 => ⟨S1x8192x1024, .f32⟩
  | 75 => ⟨S1x8192x1024, .f32⟩
  | 76 => ⟨S1x1024, .f32⟩
  | 77 => ⟨S1024, .f32⟩
  | 78 => ⟨S1x1x1024, .f32⟩
  | 79 => ⟨S1x8192x1024, .f32⟩
  | 80 => ⟨S1x8192x1024, .f32⟩
  | 81 => ⟨S1x8192x1024, .f32⟩
  | 82 => ⟨S1x8192x1024, .f32⟩
  | 83 => ⟨S1x1024, .f32⟩
  | 84 => ⟨S1024, .f32⟩
  | 85 => ⟨S1x1x1024, .f32⟩
  | 86 => ⟨S1x8192x1024, .f32⟩
  | 87 => ⟨S1x8192x1024, .f32⟩
  | 88 => ⟨S1x8192x1024, .f32⟩
  | 89 => ⟨S1x8192x1024, .f32⟩
  | 90 => ⟨S1x1024, .f32⟩
  | 91 => ⟨S1024, .f32⟩
  | 92 => ⟨S1x1x1024, .f32⟩
  | 93 => ⟨S1x8192x1024, .f32⟩
  | 94 => ⟨S1x8192x1024, .f32⟩
  | 95 => ⟨S1x8192x1024, .f32⟩
  | 96 => ⟨S1x8192x1024, .f32⟩
  | 97 => ⟨S1x1024, .f32⟩
  | 98 => ⟨S1024, .f32⟩
  | 99 => ⟨S1x1x1024, .f32⟩
  | 100 => ⟨S1x8192x1024, .f32⟩
  | 101 => ⟨S1x8192x1024, .f32⟩
  | 102 => ⟨S1x8192x1024, .f32⟩
  | 103 => ⟨S1x8192x1024, .f32⟩
  | 104 => ⟨S1x1024, .f32⟩
  | 105 => ⟨S1024, .f32⟩
  | 106 => ⟨S1x1x1024, .f32⟩
  | 107 => ⟨S1x8192x1024, .f32⟩
  | 108 => ⟨S1x8192x1024, .f32⟩
  | 109 => ⟨S1x8192x1024, .f32⟩
  | 110 => ⟨S1x8192x1024, .f32⟩
  | 111 => ⟨S1x1024, .f32⟩
  | 112 => ⟨S1024, .f32⟩
  | 113 => ⟨S1x1x1024, .f32⟩
  | 114 => ⟨S1x8192x1024, .f32⟩
  | 115 => ⟨S1x8192x1024, .f32⟩
  | 116 => ⟨S1x8192x1024, .f32⟩
  | 117 => ⟨S1x8192x1024, .f32⟩
  | 118 => ⟨S1x1024, .f32⟩
  | 119 => ⟨S1024, .f32⟩
  | 120 => ⟨S1x1x1024, .f32⟩
  | 121 => ⟨S1x8192x1024, .f32⟩
  | 122 => ⟨S1x8192x1024, .f32⟩
  | 123 => ⟨S1x8192x1024, .f32⟩
  | 124 => ⟨S1x8192x1024, .f32⟩
  | 125 => ⟨S1x1024, .f32⟩
  | 126 => ⟨S1024, .f32⟩
  | 127 => ⟨S1x1x1024, .f32⟩
  | _ => ⟨S1x8192x7168, .f32⟩

abbrev hbmTy0_1 (i : Nat) : BufTy := match i % 128 with
  | 0 => ⟨S1x8192x1024, .f32⟩
  | 1 => ⟨S1x8192x1024, .f32⟩
  | 2 => ⟨S1x8192x1024, .f32⟩
  | 3 => ⟨S1x8192x1024, .f32⟩
  | 4 => ⟨S1x1024, .f32⟩
  | 5 => ⟨S1024, .f32⟩
  | 6 => ⟨S1x1x1024, .f32⟩
  | 7 => ⟨S1x8192x1024, .f32⟩
  | 8 => ⟨S1x8192x1024, .f32⟩
  | 9 => ⟨S1x8192x1024, .f32⟩
  | 10 => ⟨S1x8192x1024, .f32⟩
  | 11 => ⟨S1x1024, .f32⟩
  | 12 => ⟨S1024, .f32⟩
  | 13 => ⟨S1x1x1024, .f32⟩
  | 14 => ⟨S1x8192x1024, .f32⟩
  | 15 => ⟨S1x8192x1024, .f32⟩
  | 16 => ⟨S1x8192x1024, .f32⟩
  | 17 => ⟨S1x8192x1024, .f32⟩
  | 18 => ⟨S1x1024, .f32⟩
  | 19 => ⟨S1024, .f32⟩
  | 20 => ⟨S1x1x1024, .f32⟩
  | 21 => ⟨S1x8192x1024, .f32⟩
  | 22 => ⟨S1x8192x1024, .f32⟩
  | 23 => ⟨S1x8192x1024, .f32⟩
  | 24 => ⟨S1x8192x1024, .f32⟩
  | 25 => ⟨S1x1024, .f32⟩
  | 26 => ⟨S1024, .f32⟩
  | 27 => ⟨S1x1x1024, .f32⟩
  | 28 => ⟨S1x8192x1024, .f32⟩
  | 29 => ⟨S1x8192x1024, .f32⟩
  | 30 => ⟨S1x8192x1024, .f32⟩
  | 31 => ⟨S1x8192x1024, .f32⟩
  | 32 => ⟨S1x1024, .f32⟩
  | 33 => ⟨S1024, .f32⟩
  | 34 => ⟨S1x1x1024, .f32⟩
  | 35 => ⟨S1x8192x1024, .f32⟩
  | 36 => ⟨S1x8192x1024, .f32⟩
  | 37 => ⟨S1x8192x1024, .f32⟩
  | 38 => ⟨S1x8192x1024, .f32⟩
  | 39 => ⟨S1x1024, .f32⟩
  | 40 => ⟨S1024, .f32⟩
  | 41 => ⟨S1x1x1024, .f32⟩
  | 42 => ⟨S1x8192x1024, .f32⟩
  | 43 => ⟨S1x8192x1024, .f32⟩
  | 44 => ⟨S1x8192x1024, .f32⟩
  | 45 => ⟨S1x8192x1024, .f32⟩
  | 46 => ⟨S1x1024, .f32⟩
  | 47 => ⟨S1024, .f32⟩
  | 48 => ⟨S1x1x1024, .f32⟩
  | 49 => ⟨S1x8192x1024, .f32⟩
  | 50 => ⟨S1x8192x1024, .f32⟩
  | 51 => ⟨S1x8192x1024, .f32⟩
  | 52 => ⟨S1x8192x1024, .f32⟩
  | 53 => ⟨S1x1024, .f32⟩
  | 54 => ⟨S1024, .f32⟩
  | 55 => ⟨S1x1x1024, .f32⟩
  | 56 => ⟨S1x8192x1024, .f32⟩
  | 57 => ⟨S1x8192x1024, .f32⟩
  | 58 => ⟨S1x8192x1024, .f32⟩
  | 59 => ⟨S1x8192x1024, .f32⟩
  | 60 => ⟨S1x1024, .f32⟩
  | 61 => ⟨S1024, .f32⟩
  | 62 => ⟨S1x1x1024, .f32⟩
  | 63 => ⟨S1x8192x1024, .f32⟩
  | 64 => ⟨S1x8192x1024, .f32⟩
  | 65 => ⟨S1x8192x1024, .f32⟩
  | 66 => ⟨S1x8192x1024, .f32⟩
  | 67 => ⟨S1x1024, .f32⟩
  | 68 => ⟨S1024, .f32⟩
  | 69 => ⟨S1x1x1024, .f32⟩
  | 70 => ⟨S1x8192x1024, .f32⟩
  | 71 => ⟨S1x8192x1024, .f32⟩
  | 72 => ⟨S1x8192x1024, .f32⟩
  | 73 => ⟨S1x8192x1024, .f32⟩
  | 74 => ⟨S1x1024, .f32⟩
  | 75 => ⟨S1024, .f32⟩
  | 76 => ⟨S1x1x1024, .f32⟩
  | 77 => ⟨S1x8192x1024, .f32⟩
  | 78 => ⟨S1x8192x1024, .f32⟩
  | 79 => ⟨S1x8192x1024, .f32⟩
  | 80 => ⟨S1x8192x1024, .f32⟩
  | 81 => ⟨S1x1024, .f32⟩
  | 82 => ⟨S1024, .f32⟩
  | 83 => ⟨S1x1x1024, .f32⟩
  | 84 => ⟨S1x8192x1024, .f32⟩
  | 85 => ⟨S1x8192x1024, .f32⟩
  | 86 => ⟨S1x8192x1024, .f32⟩
  | 87 => ⟨S1x8192x1024, .f32⟩
  | 88 => ⟨S1x1024, .f32⟩
  | 89 => ⟨S1024, .f32⟩
  | 90 => ⟨S1x1x1024, .f32⟩
  | 91 => ⟨S1x8192x1024, .f32⟩
  | 92 => ⟨S1x8192x1024, .f32⟩
  | 93 => ⟨S1x8192x1024, .f32⟩
  | 94 => ⟨S1x8192x1024, .f32⟩
  | 95 => ⟨S1x1024, .f32⟩
  | 96 => ⟨S1024, .f32⟩
  | 97 => ⟨S1x1x1024, .f32⟩
  | 98 => ⟨S1x8192x1024, .f32⟩
  | 99 => ⟨S1x8192x1024, .f32⟩
  | 100 => ⟨S1x8192x1024, .f32⟩
  | 101 => ⟨S1x8192x1024, .f32⟩
  | 102 => ⟨S1x1024, .f32⟩
  | 103 => ⟨S1024, .f32⟩
  | 104 => ⟨S1x1x1024, .f32⟩
  | 105 => ⟨S1x8192x1024, .f32⟩
  | 106 => ⟨S1x8192x1024, .f32⟩
  | 107 => ⟨S1x8192x1024, .f32⟩
  | 108 => ⟨S1x8192x1024, .f32⟩
  | 109 => ⟨S1x1024, .f32⟩
  | 110 => ⟨S1024, .f32⟩
  | 111 => ⟨S1x1x1024, .f32⟩
  | 112 => ⟨S1x8192x1024, .f32⟩
  | 113 => ⟨S1x8192x1024, .f32⟩
  | 114 => ⟨S1x8192x1024, .f32⟩
  | 115 => ⟨S1x1x1024, .f32⟩
  | 116 => ⟨S1x8192x1024, .f32⟩
  | 117 => ⟨S1x8192x1024, .f32⟩
  | 118 => ⟨S8192x7168, .f32⟩
  | 119 => ⟨S8192x1024, .f32⟩
  | 120 => ⟨S31x1024, .f32⟩
  | 121 => ⟨S_, .i32⟩
  | 122 => ⟨S_, .f32⟩
  | 123 => ⟨S32x1024, .f32⟩
  | 124 => ⟨S1024x1024, .f32⟩
  | 125 => ⟨S1024x1024, .bf16⟩
  | 126 => ⟨S3x8192x1024, .bf16⟩
  | 127 => ⟨S8192x1024, .bf16⟩
  | _ => ⟨S1x8192x7168, .f32⟩

abbrev hbmTy0_2 (i : Nat) : BufTy := match i % 128 with
  | 0 => ⟨S8192x1024, .bf16⟩
  | 1 => ⟨S8x1024, .f32⟩
  | 2 => ⟨S32x1024, .f32⟩
  | _ => ⟨S1x8192x7168, .f32⟩

abbrev hbmTy (i : Nat) : BufTy := match i / 128 with
  | 0 => hbmTy0_0 i
  | 1 => hbmTy0_1 i
  | 2 => hbmTy0_2 i
  | _ => ⟨S1x8192x7168, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S32x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S1x1024, .f32⟩
  | .local _ .vmem, ⟨19, _⟩ => ⟨S3x256x1024, .bf16⟩
  | .local _ .vmem, ⟨20, _⟩ => ⟨S3x256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S8x1024, .f32⟩
  | .local _ .vmem, ⟨26, _⟩ => ⟨S32x1024, .f32⟩
  | .local _ .vmem, ⟨27, _⟩ => ⟨S288x1024, .f32⟩
  | .local _ .vmem, ⟨28, _⟩ => ⟨S288x1024, .f32⟩
  | .local _ .vmem, ⟨29, _⟩ => ⟨S32x8x1024, .f32⟩
  | _, _ => ⟨S1x8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_c : Ref sig .tc := ⟨.hbm, 249, rfl⟩
abbrev main_call0_v0 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240_0 : Ref sig .tc := ⟨.hbm, 254, rfl⟩
abbrev main_v240_1 : Ref sig .tc := ⟨.hbm, 255, rfl⟩
abbrev main_v240_2 : Ref sig .tc := ⟨.hbm, 256, rfl⟩
abbrev main_v240_3 : Ref sig .tc := ⟨.hbm, 257, rfl⟩
abbrev main_v240_4 : Ref sig .tc := ⟨.hbm, 258, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32_2103 : BitVec 32 := 31#32
  let v19777 : BitVec 1 := Scalar.cmpi .eq arg0 c31_i32_2103
  let v19778 : BitVec 32 := Scalar.extui v19777
  let c0_i32_2104 : BitVec 32 := 0#32
  let v19779 : BitVec 1 := Scalar.cmpi .ne v19778 c0_i32_2104
  v19779

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== KernelE.lean ====
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x64x1024, .f32⟩
  | .hbm, ⟨1, _⟩ => ⟨S64x1024, .f32⟩
  | .local _ .vmem, ⟨0, _⟩ => ⟨S8x64x1024, .f32⟩
  | .local _ .vmem, ⟨1, _⟩ => ⟨S64x1024, .f32⟩
  | _, _ => ⟨S8x64x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceEIdeal.lean ====
abbrev S8x64x1024 : Shape := ⟨3, ![8, 64, 1024]⟩
abbrev S_ : Shape := ⟨0, ![]⟩
abbrev S64x1024 : Shape := ⟨2, ![64, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S_, .f32⟩
  | .hbm, ⟨2, _⟩ => ⟨S64x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelI.lean ====
abbrev S8192x1024 : Shape := ⟨2, ![8192, 1024]⟩
abbrev S1024x7168 : Shape := ⟨2, ![1024, 7168]⟩
abbrev S8192x7168 : Shape := ⟨2, ![8192, 7168]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x7168, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIIdeal.lean ====
abbrev S8192x1024 : Shape := ⟨2, ![8192, 1024]⟩
abbrev S1024x7168 : Shape := ⟨2, ![1024, 7168]⟩
abbrev S8192x7168 : Shape := ⟨2, ![8192, 7168]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x1024, .f32⟩
  | .hbm, ⟨3, _⟩ => ⟨S1024x7168, .f32⟩
  | .hbm, ⟨4, _⟩ => ⟨S8192x7168, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelB.lean ====
abbrev S8192x1024 : Shape := ⟨2, ![8192, 1024]⟩
abbrev S3x8192x1024 : Shape := ⟨3, ![3, 8192, 1024]⟩
abbrev S4x8192x1024 : Shape := ⟨3, ![4, 8192, 1024]⟩
abbrev S1024x7168 : Shape := ⟨2, ![1024, 7168]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S4x8192x1024, .bf16⟩
  | .hbm, ⟨3, _⟩ => ⟨S1024x7168, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c3_i32 : BitVec 32 := 3#32
  let v3 : BitVec 1 := Scalar.cmpi .slt arg0 c3_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c3_i32_2 : BitVec 32 := 3#32
  let v6 : BitVec 1 := Scalar.cmpi .sge arg0 c3_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.minsi arg0 c2_i32
  let c3_i32 : BitVec 32 := 3#32
  let v1 : BitVec 1 := Scalar.cmpi .slt arg0 c3_i32
  let c3_i32_0 : BitVec 32 := 3#32
  let v2 : BitVec 32 := Scalar.select v1 arg1 c3_i32_0
  let c0_i32 : BitVec 32 := 0#32
  let c0_i32_1 : BitVec 32 := 0#32
  ![v0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg0 c3_i32
  let c0_i32 : BitVec 32 := 0#32
  let v1 : BitVec 32 := Scalar.maxsi v0 c0_i32
  let c3_i32_0 : BitVec 32 := 3#32
  let v2 : BitVec 1 := Scalar.cmpi .slt arg0 c3_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceBIdeal.lean ====
abbrev S8192x1024 : Shape := ⟨2, ![8192, 1024]⟩
abbrev S3x8192x1024 : Shape := ⟨3, ![3, 8192, 1024]⟩
abbrev S4x8192x1024 : Shape := ⟨3, ![4, 8192, 1024]⟩
abbrev S7x8192x1024 : Shape := ⟨3, ![7, 8192, 1024]⟩
abbrev S1024x7x1024 : Shape := ⟨3, ![1024, 7, 1024]⟩
abbrev S1024x7168 : Shape := ⟨2, ![1024, 7168]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S4x8192x1024, .bf16⟩
  | .hbm, ⟨3, _⟩ => ⟨S7x8192x1024, .bf16⟩
  | .hbm, ⟨4, _⟩ => ⟨S7x8192x1024, .f32⟩
  | .hbm, ⟨5, _⟩ => ⟨S8192x1024, .f32⟩
  | .hbm, ⟨6, _⟩ => ⟨S1024x7x1024, .f32⟩
  | .hbm, ⟨7, _⟩ => ⟨S1024x7168, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelJ.lean ====
abbrev S3x8192x1024 : Shape := ⟨3, ![3, 8192, 1024]⟩
abbrev S4x8192x1024 : Shape := ⟨3, ![4, 8192, 1024]⟩
abbrev S1024x7168 : Shape := ⟨2, ![1024, 7168]⟩
abbrev S8192x1024 : Shape := ⟨2, ![8192, 1024]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S3x8192x1024, .bf16⟩
  | .hbm, ⟨1, _⟩ => ⟨S4x8192x1024, .bf16⟩
  | .hbm, ⟨2, _⟩ => ⟨S1024x7168, .bf16⟩
  | .hbm, ⟨3, _⟩ => ⟨S8192x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 7], ![false, false]⟩

def k0_cond4 (i : grid0.Coords) : BitVec 1 :=
  let arg1 : BitVec 32 := BitVec.ofNat 32 (i 1).val
  let c6_i32 : BitVec 32 := 6#32
  let v9 : BitVec 1 := Scalar.cmpi .eq arg1 c6_i32
  let v10 : BitVec 32 := Scalar.extui v9
  let c0_i32_4 : BitVec 32 := 0#32
  let v11 : BitVec 1 := Scalar.cmpi .ne v10 c0_i32_4
  v11

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![v1.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceJIdeal.lean ====
abbrev S3x8192x1024 : Shape := ⟨3, ![3, 8192, 1024]⟩
abbrev S4x8192x1024 : Shape := ⟨3, ![4, 8192, 1024]⟩
abbrev S1024x7168 : Shape := ⟨2, ![1024, 7168]⟩
abbrev S7x8192x1024 : Shape := ⟨3, ![7, 8192, 1024]⟩
abbrev S1024x7x1024 : Shape := ⟨3, ![1024, 7, 1024]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S4x8192x1024, .bf16⟩
  | .hbm, ⟨2, _⟩ => ⟨S1024x7168, .bf16⟩
  | .hbm, ⟨3, _⟩ => ⟨S7x8192x1024, .bf16⟩
  | .hbm, ⟨4, _⟩ => ⟨S7x8192x1024, .f32⟩
  | .hbm, ⟨5, _⟩ => ⟨S1024x7168, .f32⟩
  | .hbm, ⟨6, _⟩ => ⟨S1024x7x1024, .f32⟩
  | .hbm, ⟨7, _⟩ => ⟨S8192x1024, .f32⟩
  | .hbm, ⟨8, _⟩ => ⟨S8192x1024, .bf16⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Alg.lean ====
module

public import Idealize.ShloMosaic.Lib.Pipeline.ValueKit
public import Idealize.ShloMosaic.Lib.Pointwise

@[expose] public section

set_option maxRecDepth 16384

noncomputable section

open Idealize.ShloMosaic

namespace Cert.Alg

/-- The word of 1024. -/
theorem w1024 : Ideal.ofBits FTy.f32 1149239296#32 = ((1024 : ℝ) : EReal) := by
  simp [Ideal.ofBits, Ideal.ieee, -EReal.coe_mul]; norm_num

/-- The word of −1/2. -/
theorem wNegHalf : Ideal.ofBits FTy.f32 3204448256#32 = ((-(1 / 2) : ℝ) : EReal) := by
  simp [Ideal.ofBits, Ideal.ieee, -EReal.coe_mul]; norm_num

/-- The word of 1/2. -/
theorem wHalf : Ideal.ofBits FTy.f32 1056964608#32 = ((1 / 2 : ℝ) : EReal) := by
  simp [Ideal.ofBits, Ideal.ieee, -EReal.coe_mul]; norm_num

/-- The word of 1/1024. -/
theorem wInv1024 : Ideal.ofBits FTy.f32 981467136#32 = ((1 / 1024 : ℝ) : EReal) := by
  simp [Ideal.ofBits, Ideal.ieee, -EReal.coe_mul]; norm_num

/-- The word of 2. -/
theorem wTwo : Ideal.ofBits FTy.f32 1073741824#32 = ((2 : ℝ) : EReal) := by
  simp [Ideal.ofBits, Ideal.ieee, -EReal.coe_mul]; norm_num

/-- The word of the norm's small constant is a positive real number. -/
theorem wEps : ∃ e : ℝ, 0 < e ∧ Ideal.ofBits FTy.f32 897988541#32 = (e : EReal) := by
  refine ⟨_, ?_, by simp [Ideal.ofBits, Ideal.ieee, -EReal.coe_mul]; rfl⟩
  norm_num

/-- A nonnegative real factor passes through a finite sum of extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- A sum of two equal extended reals is twice that number. -/
theorem add_self (y : EReal) : y + y = ((2 : ℝ) : EReal) * y := by
  induction y with
  | bot => rw [EReal.coe_mul_bot_of_pos (by norm_num)]; rfl
  | top => rw [EReal.coe_mul_top_of_pos (by norm_num)]; rfl
  | coe y => rw [← EReal.coe_mul, ← EReal.coe_add, two_mul]

/-- A square of an extended real is nonnegative. -/
theorem mul_self_nonneg (y : EReal) : 0 ≤ y * y := by
  induction y with
  | bot => simp
  | top => simp
  | coe y => exact_mod_cast _root_.mul_self_nonneg y

/-- A mean square plus a positive constant is `⊤` or a positive real number. -/
theorem mean_sq {n : ℕ} (x : Fin n → EReal) (e : ℝ) (he : 0 < e) :
    Ideal.div (∑ i, x i * x i) ((1024 : ℝ) : EReal) + (e : EReal) = ⊤ ∨
      ∃ w : ℝ, 0 < w ∧ Ideal.div (∑ i, x i * x i) ((1024 : ℝ) : EReal) + (e : EReal) = (w : EReal) := by
  have h0 : 0 ≤ ∑ i, x i * x i := Finset.sum_nonneg fun i _ => mul_self_nonneg (x i)
  rw [Ideal.div_coe (by norm_num)]
  generalize ∑ i, x i * x i = s at h0
  induction s with
  | bot => simp at h0
  | top => left; rw [EReal.top_mul_coe_of_pos (by norm_num)]; rfl
  | coe s =>
    right
    have hs : 0 ≤ s := by exact_mod_cast h0
    exact ⟨s * (1 / 1024) + e, by positivity, by push_cast; rfl⟩

/-- One entry of the gradient of a root-mean-square norm: the hand-written form (left) is the form reverse-mode differentiation
    gives (right), with no assumption on the entries. -/
theorem rms_grad {n : ℕ} (x a : Fin n → EReal) (dh : EReal) (k : Fin n) (e : ℝ) (he : 0 < e) :
    let v : EReal := Ideal.div (∑ i, x i * x i) ((1024 : ℝ) : EReal) + (e : EReal)
    dh + Ideal.rsqrt v * (a k - x k * Ideal.rsqrt v * Ideal.div (∑ i, a i * (x i * Ideal.rsqrt v)) ((1024 : ℝ) : EReal)) =
      dh + a k * Ideal.rsqrt v
        + x k * Ideal.div ((∑ i, x i * a i) * (((-(1 / 2) : ℝ) : EReal) * Ideal.div (Ideal.rsqrt v) v)) ((1024 : ℝ) : EReal)
        + Ideal.div ((∑ i, x i * a i) * (((-(1 / 2) : ℝ) : EReal) * Ideal.div (Ideal.rsqrt v) v)) ((1024 : ℝ) : EReal) * x k := by
  intro v
  have hv := mean_sq x e he
  change v = ⊤ ∨ ∃ w : ℝ, 0 < w ∧ v = (w : EReal) at hv
  clear_value v
  have h1024 : ((1024 : ℝ)) ≠ 0 := by norm_num
  rcases hv with rfl | ⟨w, hw, rfl⟩
  · simp [Ideal.div]
  · have hr : Ideal.rsqrt (w : EReal) = (((Real.sqrt w)⁻¹ : ℝ) : EReal) := by
      rw [Ideal.rsqrt_coe, if_neg (not_lt.mpr hw.le), if_neg hw.ne']
    rw [hr]
    have hρ : 0 ≤ (Real.sqrt w)⁻¹ := inv_nonneg.mpr (Real.sqrt_nonneg w)
    have hρ2 : (Real.sqrt w)⁻¹ * (Real.sqrt w)⁻¹ = 1 / w := by
      rw [← mul_inv, Real.mul_self_sqrt hw.le, one_div]
    generalize (Real.sqrt w)⁻¹ = ρ at hρ hρ2
    have hS : ∑ i, a i * (x i * (ρ : EReal)) = (ρ : EReal) * ∑ i, x i * a i := by
      rw [coe_mul_sum _ _ hρ]
      exact Finset.sum_congr rfl fun i _ => by ac_rfl
    rw [hS, Ideal.div_coe h1024, Ideal.div_coe h1024, Ideal.div_coe hw.ne']
    generalize ∑ i, x i * a i = S
    rw [mul_comm _ (x k), add_assoc (dh + _), add_self, add_assoc, sub_eq_add_neg,
      EReal.left_distrib_of_nonneg_of_ne_top (by exact_mod_cast hρ) (EReal.coe_ne_top ρ)]
    congr 1
    refine congrArg₂ (· + ·) (mul_comm _ _) ?_
    have e1 : (ρ : EReal) * -(x k * ρ * (ρ * S * ((1 / 1024 : ℝ) : EReal))) = ((-(ρ * ρ * ρ * (1 / 1024)) : ℝ) : EReal) * (x k * S) := by
      rw [mul_neg, EReal.coe_neg, neg_mul]
      push_cast
      congr 1
      ac_rfl
    have e2 : ((2 : ℝ) : EReal) * (x k * (S * (((-(1 / 2) : ℝ) : EReal) * (ρ * ((1 / w : ℝ) : EReal))) * ((1 / 1024 : ℝ) : EReal)))
        = ((2 * (-(1 / 2)) * ρ * (1 / w) * (1 / 1024) : ℝ) : EReal) * (x k * S) := by
      simp only [EReal.coe_mul]
      ac_rfl
    rw [e1, e2, ← hρ2]
    congr 2
    ring

/-- A host sum over the outer and the inner axis of a rank-3 array. -/
theorem sum02 {n0 n1 n2 : ℕ} (h : (⟨3, ![n0, n1, n2]⟩ : Shape).ReducesTo [0, 2] ⟨1, ![n1]⟩) (v : (⟨3, ![n0, n1, n2]⟩ : Shape).Idx → EReal) (z : EReal) (a : Fin n1) :
    Ideal.hostReduceAdd h v z (ix1 a) = z + ∑ k : Fin n0 × Fin n2, v (ix3 k.1 a k.2) := by
  refine congrArg (z + ·) (Finset.sum_filter_eq_sum_of_fiber _ (fun k : Fin n0 × Fin n2 => ix3 k.1 a k.2)
    (fun p q e => Prod.ext (congrFun e 0) (congrFun e 2)) (fun i => ?_) v)
  constructor
  · intro e
    refine ⟨(i 0, i 2), funext fun b => ?_⟩
    match b with
    | ⟨0, _⟩ => rfl
    | ⟨1, _⟩ => exact (Fin.ext (congrArg Fin.val (congrFun e 0) : (i 1).val = a.val)).symm
    | ⟨2, _⟩ => rfl
  · rintro ⟨k, rfl⟩
    funext b
    match b with
    | ⟨0, _⟩ => rfl

/-- A host sum over the two outer axes of a rank-3 array. -/
theorem sum01 {n0 n1 n2 : ℕ} (h : (⟨3, ![n0, n1, n2]⟩ : Shape).ReducesTo [0, 1] ⟨1, ![n2]⟩) (v : (⟨3, ![n0, n1, n2]⟩ : Shape).Idx → EReal) (z : EReal) (a : Fin n2) :
    Ideal.hostReduceAdd h v z (ix1 a) = z + ∑ k : Fin n0 × Fin n1, v (ix3 k.1 k.2 a) := by
  refine congrArg (z + ·) (Finset.sum_filter_eq_sum_of_fiber _ (fun k : Fin n0 × Fin n1 => ix3 k.1 k.2 a)
    (fun p q e => Prod.ext (congrFun e 0) (congrFun e 1)) (fun i => ?_) v)
  constructor
  · intro e
    refine ⟨(i 0, i 1), funext fun b => ?_⟩
    match b with
    | ⟨0, _⟩ => rfl
    | ⟨1, _⟩ => rfl
    | ⟨2, _⟩ => exact (Fin.ext (congrArg Fin.val (congrFun e 0) : (i 2).val = a.val)).symm
  · rintro ⟨k, rfl⟩
    funext b
    match b with
    | ⟨0, _⟩ => rfl

/-- A host sum over two unit axes around the kept one is its one term. -/
theorem unit02 {n : ℕ} (h : (⟨3, ![1, n, 1]⟩ : Shape).ReducesTo [0, 2] ⟨1, ![n]⟩) (v : (⟨3, ![1, n, 1]⟩ : Shape).Idx → EReal) (z : EReal) (a : Fin n) :
    Ideal.hostReduceAdd h v z (ix1 a) = z + v (ix3 0 a 0) := by
  rw [sum02, Fintype.sum_prod_type, Fin.sum_univ_one, Fin.sum_univ_one]

/-- A host sum over two outer unit axes is its one term. -/
theorem unit01 {n : ℕ} (h : (⟨3, ![1, 1, n]⟩ : Shape).ReducesTo [0, 1] ⟨1, ![n]⟩) (v : (⟨3, ![1, 1, n]⟩ : Shape).Idx → EReal) (z : EReal) (a : Fin n) :
    Ideal.hostReduceAdd h v z (ix1 a) = z + v (ix3 0 0 a) := by
  rw [sum01, Fintype.sum_prod_type, Fin.sum_univ_one, Fin.sum_univ_one]

end Cert.Alg
-- ==== Proof.RmsGrad.lean ====
module

public import proofs.«01_k».proof.Proof.Alg
public import proofs.«01_k».proof.Proof.Gen.KernelXIdeal.Value
public import proofs.«01_k».proof.Proof.Gen.ReferenceXIdeal.Run
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem

namespace Cert.KernelXIdeal.RmsGrad

open Cert.KernelXIdeal Cert.KernelXIdeal.Gen
open Idealize.ShloMosaic.Pipeline (Dat)

/-- The gradient of the norm's input: of the block, its payload at an index, in terms of the row's entries. -/
theorem pay_gx (x0 : Vec Ideal S512x1024 .f32) (x1 : Vec Ideal S1x1024 .f32) (x2 x3 : Vec Ideal S512x1024 .bf16) (r : Fin 512) (k : Fin 1024) (e : EReal)
    (he : Ideal.ofBits FTy.f32 897988541#32 = e) :
    let v : EReal := Ideal.div (∑ i, x0 (ix2 r i) * x0 (ix2 r i)) ((1024 : ℝ) : EReal) + e
    k0_pay1 (F := Ideal) (k0_pay4 x0) (k0_pay8 x3) (k0_pay9 x0 x2 x1) (ix2 r k)
      = x3 (ix2 r k) + Ideal.rsqrt v * (x2 (ix2 r k) * x1 (ix2 0 k) - x0 (ix2 r k) * Ideal.rsqrt v *
          Ideal.div (∑ i, x2 (ix2 r i) * x1 (ix2 0 i) * (x0 (ix2 r i) * Ideal.rsqrt v)) ((1024 : ℝ) : EReal)) := by
  pointwise [k0_pay1, k0_pay4, k0_pay8, k0_pay9, k0_pay3, k0_pay5, k0_pay6]
  rw [he, Alg.w1024]

/-- The gradient of the norm's gain: what a block adds to the row of sums. -/
theorem pay_gg (x0 : Vec Ideal S512x1024 .f32) (x2 : Vec Ideal S512x1024 .bf16) (o : Vec Ideal S1x1024 .f32) (k : Fin 1024) (e : EReal)
    (he : Ideal.ofBits FTy.f32 897988541#32 = e) :
    k0_pay7 (F := Ideal) x0 x2 o (ix2 0 k) = o (ix2 0 k) + ∑ r : Fin 512, x2 (ix2 r k) *
      (x0 (ix2 r k) * Ideal.rsqrt (Ideal.div (∑ i, x0 (ix2 r i) * x0 (ix2 r i)) ((1024 : ℝ) : EReal) + e)) := by
  pointwise [k0_pay7, k0_pay4, k0_pay3, k0_pay5, k0_pay6]
  rw [he, Alg.w1024]

variable (m : (ℓ : Loc nD τ sig) → Buf (Elt Ideal) ℓ)

/-- The rows' sums that a grid point adds: the gain's gradient in row 0, nothing in the other rows. -/
def term (c : Dev nD) (t : Fin cfg0.N) (y : S8x1024.Idx) : EReal :=
  if (y 0).val = 0 then ∑ r : Fin 512, (show FVec Ideal S512x1024 .bf16 from iblk m c 2 t) (ix2 r (y 1)) *
      ((show FVec Ideal S512x1024 .f32 from iblk m c 0 t) (ix2 r (y 1)) * Ideal.rsqrt (Ideal.div (∑ i, (show FVec Ideal S512x1024 .f32 from iblk m c 0 t) (ix2 r i) * (show FVec Ideal S512x1024 .f32 from iblk m c 0 t) (ix2 r i)) ((1024 : ℝ) : EReal) + Ideal.ofBits FTy.f32 897988541#32))
  else 0

/-- The row of sums starts from zeros. -/
theorem hzero (y : S8x1024.Idx) : k0_pay2 (F := Ideal) y = 0 := by pointwise [k0_pay2]

/-- At the first grid point the block of sums holds that point's terms alone. -/
theorem reset (c : Dev nD) (t : Fin cfg0.N) (h : t.val % 16 = 0) (y : S8x1024.Idx) :
    (outsAt0 m c t.val t.isLt).2 y = (0 : EReal) + term m c t y := by
  rw [outsAt0_A m c t h]; frame_out
  idx_vars y
  rw [← View.read_writes_junk_apply_eq_canon (ms0_5 t).view]
  by_cases h0 : y0 = 0
  · subst h0
    refine (View.read_writes_cons_unit_of_mem (ms0_5 t).view _ _ _ _ _ (ix2 0 y1) rfl ?_).trans ?_
    · intro a; fin_cases a <;> simp
    · refine (pay_gg _ _ _ y1 _ rfl).trans ?_
      rw [View.readCov_fill _ _ _ _ _ (by intro a; fin_cases a <;> rfl)]
      refine congrArg₂ (· + ·) ?_ ?_
      · exact hzero _
      · simp only [term]; rfl
  · refine (View.read_writes_cons_unit_of_not_mem (ms0_5 t).view _ _ _ _ _ (off' := ![0, 0]) rfl 0 (Or.inr ?_)).trans ?_
    · simp; omega
    · rw [View.read_writes_junk_apply_eq_canon, View.canon_cons_unit_lit _ _ _ (by intro a; fin_cases a <;> rfl), hzero]
      simp [term, h0]

/-- At every later grid point the block of sums holds what it held before, plus that point's terms. -/
theorem step (c : Dev nD) (t : Fin cfg0.N) (h : ¬t.val % 16 = 0) (y : S8x1024.Idx) :
    (outsAt0 m c t.val t.isLt).2 y = (show EReal from (outsAt0 m c (t.val - 1) (Nat.lt_of_le_of_lt (Nat.sub_le _ _) t.isLt)).2 y) + term m c t y := by
  rw [outsAt0_B m c t h]; frame_out
  idx_vars y
  by_cases h0 : y0 = 0
  · subst h0
    refine (View.read_writes_cons_unit_of_mem (ms0_5 t).view _ _ _ _ _ (ix2 0 y1) rfl ?_).trans ?_
    · intro a; fin_cases a <;> simp
    · refine (pay_gg _ _ _ y1 _ rfl).trans ?_
      refine congrArg₂ (· + ·) ?_ ?_
      · pointwise
      · simp only [term]; rfl
  · refine (View.read_writes_cons_unit_of_not_mem (ms0_5 t).view _ _ _ _ _ (off' := ![0, 0]) rfl 0 (Or.inr ?_)).trans ?_
    · simp; omega
    · rw [View.writes_nil, (hs0_5 t).read_unread]
      simp [term, h0]

/-- Every window's block index at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

variable (x : S1x8192x1024.Idx → EReal) (g : S1x1024.Idx → EReal) (du dh : S8192x1024.Idx → EReal)

/-- The reciprocal root mean square of row `t`. -/
def rinv (t : Fin 8192) : EReal :=
  Ideal.rsqrt (Ideal.div (∑ i : Fin 1024, x (ix3 0 t i) * x (ix3 0 t i)) ((1024 : ℝ) : EReal) + Ideal.ofBits FTy.f32 897988541#32)

/-- The gradient of the norm's input, as the kernel computes it. -/
def GX (j : S8192x1024.Idx) : EReal :=
  dh (ix2 (j 0) (j 1)) + rinv x (j 0) * (du (ix2 (j 0) (j 1)) * g (ix2 0 (j 1)) - x (ix3 0 (j 0) (j 1)) * rinv x (j 0) *
          Ideal.div (∑ i : Fin 1024, du (ix2 (j 0) i) * g (ix2 0 i) * (x (ix3 0 (j 0) i) * rinv x (j 0))) ((1024 : ℝ) : EReal))

/-- The gradient of the norm's gain in row 0, zeros below. -/
def GG (j : S8x1024.Idx) : EReal :=
  if (j 0).val = 0 then ∑ t : Fin 8192, du (ix2 t (j 1)) * (x (ix3 0 t (j 1)) * rinv x t) else 0

/-- The kernel's first result after the whole grid is `GX` of the arguments. -/
theorem final4 (c : Dev nD) : (dats m 0 c).arrAt 4 cfg0.N =
    GX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have hp : ∀ y : S512x1024.Idx, (outsAt0 m c t.val t.isLt).1 y =
      k0_pay1 (F := Ideal) (k0_pay4 (iblk m c 0 t)) (k0_pay8 (iblk m c 3 t)) (k0_pay9 (iblk m c 0 t) (iblk m c 2 t) (iblk m c 1 t)) y := by
    intro y
    by_cases h : t.val % 16 = 0
    · rw [outsAt0_A m c t h]; frame_out
    · rw [outsAt0_B m c t h]; frame_out
  refine (hp _).trans ?_
  idx_vars y
  refine (pay_gx _ _ _ _ y0 y1 _ rfl).trans ?_
  simp only [GX, rinv]
  blk_point [iblk, V, idx t]

/-- The kernel's second result after the whole grid is `GG` of the arguments. -/
theorem final5 (c : Dev nD) : (dats m 0 c).arrAt 5 cfg0.N =
    GG (m ((c : Thread nD τ).loc main_arg0)) (m ((c : Thread nD τ).loc main_arg2)) := by
  refine (dats m 0 c).arrAt_eq_of_after_last 5 t0_15 (by decide +kernel) _ fun j => ?_
  blk_simp
  rw [after0_5, Pipeline.eq_sum_fin_of_reset_step_apply_last (fun n h => (outsAt0 m c n h).2) 16 (fun _ => (0 : EReal)) (term m c)
    (fun t h j => reset m c t h j) (fun t h j => step m c t h j) (le_of_eq N_0) t0_15 rfl j, zero_add]
  idx_vars j
  simp only [GG, term, rinv]
  by_cases h0 : j0 = 0
  · subst h0
    refine Fin.sum_mul_add_congr fun t k hl => ?_
    blk_point [iblk, V, idx t]
  · simp [h0]

end Cert.KernelXIdeal.RmsGrad

namespace Cert.ReferenceXIdeal.RmsGrad
open Cert.ReferenceXIdeal Cert.ReferenceXIdeal.Gen Cert.ReferenceXIdeal.Value

open Cert.KernelXIdeal.RmsGrad (GX GG rinv)

/-- The derivative of the norm with respect to its input, plus the residual's cotangent, is `GX`. -/
theorem out0 (m : (ℓ : Loc nD τ sig) → Buf (Elt Ideal) ℓ) (c : Dev nD) : res_out0 m c =
    GX (m ((c.tc : Thread nD τ).loc main_arg0)) (m ((c.tc : Thread nD τ).loc main_arg1)) (m ((c.tc : Thread nD τ).loc main_arg2)) (m ((c.tc : Thread nD τ).loc main_arg3)) := by
  funext y
  idx_vars y
  pointwise [res_out0, res_main_v44, Alg.unit02]
  obtain ⟨e, he, hw⟩ := Alg.wEps
  simp only [GX, rinv, hw, Alg.w1024, Alg.wNegHalf]
  exact (Alg.rms_grad (fun i : Fin 1024 => m ((c.tc : Thread nD τ).loc main_arg0) (ix3 0 y0 i))
    (fun i : Fin 1024 => (show EReal from m ((c.tc : Thread nD τ).loc main_arg2) (ix2 y0 i)) * m ((c.tc : Thread nD τ).loc main_arg1) (ix2 0 i)) _ y1 e he).symm

/-- The reference's run: its two results are `GX` and `GG`, and its arguments are left unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = GX (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v45) = GG (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (out0 m c), (h c).2.1.trans ?_, (h c).2.2⟩) (run m ρ)
  funext y
  idx_vars y
  pointwise [Alg.unit01]
  simp only [GG, rinv, Alg.w1024]
  by_cases h0 : y0.val < 1
  · have h1 : y0 = 0 := Fin.ext (by simpa using h0)
    subst h1
    exact (dif_pos h0).trans ((Finset.sum_congr rfl fun t _ => mul_comm _ _).trans (if_pos rfl).symm)
  · refine (dif_neg h0).trans (Eq.trans ?_ (if_neg (fun h => h0 ?_)).symm)
    · simp [FloatOps.sitofp]
    · have h2 : y0.val = 0 := h
      omega

end Cert.ReferenceXIdeal.RmsGrad
-- ==== Proof.Rows.lean ====
module

public import Idealize.ShloMosaic.Lib.Pipeline.ValueKit
public import Idealize.ShloMosaic.Lib.Pointwise
public import Idealize.ShloMosaic.Lib.WritesUnit
public import Idealize.ShloMosaic.Lib.Pipeline.ReadBack

@[expose] public section

noncomputable section

open Idealize.ShloMosaic

namespace Cert.Rows

variable {sig : RefSig} {κ : Kind} {sp : Space} {e : EltTy} {Val : EltTy → Type} {n D : ℕ}

/-- After a store of row `i`, that row reads what was stored. -/
theorem row_eq (v : View sig κ sp ⟨2, ![n, D]⟩ e) (f : v.ty.Contents Val) {i : ℕ} (inb) (w : (⟨2, ![1, D]⟩ : Shape).Idx → Val e)
    (L : List (View.Piece Val ⟨2, ![n, D]⟩ e)) (r : Fin n) (k : Fin D) (h : r.val = i) :
    v.read Val (v.writes Val f ((⟨Rect.unit ![i, 0] ![1, D] inb, w⟩ : View.Piece Val ⟨2, ![n, D]⟩ e) :: L)) (ix2 r k) = w (ix2 0 k) := by
  refine View.read_writes_cons_unit_of_mem v f _ _ _ _ (ix2 0 k) rfl ?_
  intro a
  match a with
  | ⟨0, _⟩ => exact h
  | ⟨1, _⟩ => exact (Nat.zero_add _).symm

/-- After a store of row `i`, another row reads what it held before. -/
theorem row_ne (v : View sig κ sp ⟨2, ![n, D]⟩ e) (f : v.ty.Contents Val) {i : ℕ} (inb) (w : (⟨2, ![1, D]⟩ : Shape).Idx → Val e)
    (L : List (View.Piece Val ⟨2, ![n, D]⟩ e)) (r : Fin n) (k : Fin D) (h : r.val ≠ i) :
    v.read Val (v.writes Val f ((⟨Rect.unit ![i, 0] ![1, D] inb, w⟩ : View.Piece Val ⟨2, ![n, D]⟩ e) :: L)) (ix2 r k)
      = v.read Val (v.writes Val f L) (ix2 r k) := by
  refine View.read_writes_cons_unit_of_not_mem v f _ _ _ _ (off' := ![i, 0]) rfl (0 : Fin 2) ?_
  have : r.val < i ∨ i + 1 ≤ r.val := by omega
  exact this

/-- A load of row `i` reads that row. -/
theorem ld_row (X : (⟨2, ![n, D]⟩ : Shape).Idx → Val e) {i : ℕ} (inb) (r : Fin n) (k : Fin D) (h : r.val = i) :
    View.ld X (Rect.unit ![i, 0] ![1, D] inb : Rect ⟨2, ![n, D]⟩) (ix2 0 k) = X (ix2 r k) := by
  refine View.ld_unit_apply_of X _ _ _ _ _ ?_
  intro a
  match a with
  | ⟨0, _⟩ => exact h
  | ⟨1, _⟩ => exact (Nat.zero_add _).symm

end Cert.Rows
-- ==== Proof.Tail.lean ====
module

public import proofs.«01_k».proof.Proof.Alg
public import proofs.«01_k».proof.Proof.Rows
public import proofs.«01_k».proof.Proof.Gen.KernelTIdeal.Value
public import proofs.«01_k».proof.Proof.Gen.ReferenceTIdeal.Run
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem

namespace Cert.Tail

/-- What one token's row of the layer's tail depends on: its input, its two branch outputs, its projected embedding, its target, and
    the weights (the output projection by its two halves). -/
structure Row where
  x : Fin 1024 → EReal
  yc : Fin 1024 → EReal
  yh : Fin 1024 → EReal
  p : Fin 256 → EReal
  tg : Fin 1024 → EReal
  wc : Fin 1024 → Fin 1024 → EReal
  wh : Fin 1024 → Fin 1024 → EReal
  wg : Fin 1024 → Fin 1024 → EReal
  wp : Fin 256 → Fin 1024 → EReal
  ng : Fin 1024 → EReal
  fg : Fin 1024 → EReal

namespace Row
variable (a : Row)

/-- The residual stream after the output projection. -/
def h (k : Fin 1024) : EReal := a.x k + (∑ i, a.yc i * a.wc i k) + ∑ i, a.yh i * a.wh i k
/-- The reciprocal root mean square of a row of 1024 entries. -/
def rinv (f : Fin 1024 → EReal) : EReal :=
  Ideal.rsqrt (Ideal.div (∑ i, f i * f i) ((1024 : ℝ) : EReal) + Ideal.ofBits FTy.f32 897988541#32)
/-- The residual stream over its root mean square. -/
def hn (k : Fin 1024) : EReal := a.h k * rinv a.h
/-- The embedding branch's normed input. -/
def n (k : Fin 1024) : EReal := a.hn k * a.ng k
/-- The embedding branch's gate. -/
def gate (k : Fin 1024) : EReal := Ideal.div 1 (1 + Ideal.exp (-∑ i, a.n i * a.wg i k))
/-- The projected embedding. -/
def pe (k : Fin 1024) : EReal := ∑ i, a.p i * a.wp i k
/-- The residual stream after the embedding branch. -/
def h2 (k : Fin 1024) : EReal := a.h k + a.gate k * a.pe k
/-- That stream over its root mean square. -/
def h2n (k : Fin 1024) : EReal := a.h2 k * rinv a.h2
/-- The prediction's error. -/
def err (k : Fin 1024) : EReal := a.h2n k * a.fg k - a.tg k
/-- The row's mean squared error. -/
def loss : EReal := Ideal.div (∑ k, a.err k * a.err k) ((1024 : ℝ) : EReal)
/-- The prediction's gradient. -/
def dout (k : Fin 1024) : EReal := a.err k * ((1 / 1024 : ℝ) : EReal)
/-- The gradient of the stream after the embedding branch. -/
def dh2 (k : Fin 1024) : EReal := rinv a.h2 * (a.dout k * a.fg k - a.h2n k *
  Ideal.div (∑ i, a.dout i * a.fg i * a.h2n i) ((1024 : ℝ) : EReal))
/-- The gradient of the gate's logits. -/
def ds (k : Fin 1024) : EReal := a.dh2 k * a.pe k * a.gate k * (1 - a.gate k)
/-- The gradient of the branch's normed input. -/
def dn (k : Fin 1024) : EReal := ∑ i, a.ds i * a.wg k i
/-- The gradient of the residual stream. -/
def dh (k : Fin 1024) : EReal := a.dh2 k + rinv a.h * (a.dn k * a.ng k - a.hn k *
  Ideal.div (∑ i, a.dn i * a.ng i * a.hn i) ((1024 : ℝ) : EReal))

end Row
end Cert.Tail

namespace Cert.KernelTIdeal.Tail

open Cert.KernelTIdeal Cert.KernelTIdeal.Gen Cert.Tail
open Idealize.ShloMosaic.Pipeline (Dat)

variable (m : (ℓ : Loc nD τ sig) → Buf (Elt Ideal) ℓ)

/-- The ten blocks a grid point reads. -/
structure Blk where
  x0 : Vec Ideal S512x1024 .f32
  x1 : Vec Ideal S512x1024 .bf16
  x2 : Vec Ideal S512x1024 .bf16
  x3 : Vec Ideal S512x256 .f32
  x4 : Vec Ideal S512x1024 .f32
  x5 : Vec Ideal S2048x1024 .bf16
  x6 : Vec Ideal S1024x1024 .bf16
  x7 : Vec Ideal S256x1024 .bf16
  x8 : Vec Ideal S1x1024 .f32
  x9 : Vec Ideal S1x1024 .f32

namespace Blk
variable (b : Blk)

/-- The output projection's upper half. -/
abbrev wc : Vec Ideal S1024x1024 .bf16 := View.ld b.x5 (Rect.unit ![0, 0] ![1024, 1024] inb_S2048x1024_S1024x1024_0_0)
/-- The output projection's lower half. -/
abbrev wh : Vec Ideal S1024x1024 .bf16 := View.ld b.x5 (Rect.unit ![1024, 0] ![1024, 1024] inb_S2048x1024_S1024x1024_1024_0)
/-- The block's residual stream. -/
abbrev h := k0_pay8 (F := Ideal) b.wc b.wh b.x0 b.x1 b.x2
/-- The block's reciprocal root mean squares. -/
abbrev r2 := k0_pay11 (F := Ideal) b.wc b.wh b.x0 b.x1 b.x2
/-- The block's stream over its root mean square. -/
abbrev hn := k0_pay12 (F := Ideal) b.wc b.wh b.x0 b.x1 b.x2
/-- The block's normed input. -/
abbrev n := k0_pay13 (F := Ideal) b.wc b.wh b.x0 b.x1 b.x2 b.x8
/-- The block's gate. -/
abbrev gate := k0_pay15 (F := Ideal) b.n b.x6
/-- The block's projected embedding. -/
abbrev pe := k0_pay10 (F := Ideal) b.x3 b.x7
/-- The block's second reciprocal root mean squares. -/
abbrev r3 := k0_pay17 (F := Ideal) b.h b.pe b.n b.x6
/-- The block's second stream over its root mean square. -/
abbrev h2n := k0_pay18 (F := Ideal) b.h b.pe b.n b.x6
/-- The block's error. -/
abbrev err := k0_pay19 (F := Ideal) b.h b.pe b.n b.x6 b.x9 b.x4
/-- The block's gradient of the second stream. -/
abbrev dh2 := k0_pay24 (F := Ideal) b.r3 b.h2n b.err k0_pay21 b.x9
/-- The block's gradient of the gate's logits. -/
abbrev ds := k0_pay25 (F := Ideal) b.pe b.gate b.r3 b.h2n b.err k0_pay21 b.x9
/-- The block's gradient of the normed input. -/
abbrev dn := k0_pay26 (F := Ideal) b.pe b.gate b.r3 b.h2n b.err k0_pay21 b.x9 b.x6
/-- The block's gradient of the residual stream. -/
abbrev dh := k0_pay1 (F := Ideal) b.r2 b.hn b.dh2 b.dn b.x8

/-- The blocks hold the rows `A`. -/
structure Holds (A : Fin 512 → Row) : Prop where
  x : ∀ r k, b.x0 (ix2 r k) = (A r).x k
  yc : ∀ r k, b.x1 (ix2 r k) = (A r).yc k
  yh : ∀ r k, b.x2 (ix2 r k) = (A r).yh k
  p : ∀ r k, b.x3 (ix2 r k) = (A r).p k
  tg : ∀ r k, b.x4 (ix2 r k) = (A r).tg k
  wc : ∀ r i k, b.wc (ix2 i k) = (A r).wc i k
  wh : ∀ r i k, b.wh (ix2 i k) = (A r).wh i k
  wg : ∀ r i k, b.x6 (ix2 i k) = (A r).wg i k
  wp : ∀ r i k, b.x7 (ix2 i k) = (A r).wp i k
  ng : ∀ r k, b.x8 (ix2 0 k) = (A r).ng k
  fg : ∀ r k, b.x9 (ix2 0 k) = (A r).fg k

variable {b} {A : Fin 512 → Row} (H : b.Holds A)

namespace Holds
include H

/-- A block's stream, row by row. -/
theorem h (r : Fin 512) (k : Fin 1024) : b.h (ix2 r k) = (A r).h k := by
  pointwise [k0_pay8, k0_pay6, k0_pay7]
  simp only [H.x, H.yc, H.yh, H.wc r, H.wh r, Row.h]

/-- A block's reciprocal root mean squares. -/
theorem r2 (r : Fin 512) : b.r2 (ix2 r 0) = Row.rinv (A r).h := by
  pointwise [k0_pay11]
  simp only [H.h, Row.rinv, Alg.w1024]

/-- A block's stream over its root mean square. -/
theorem hn (r : Fin 512) (k : Fin 1024) : b.hn (ix2 r k) = (A r).hn k := by
  pointwise [k0_pay12]
  simp only [H.h, H.r2, Row.hn]

/-- A block's normed input. -/
theorem n (r : Fin 512) (k : Fin 1024) : b.n (ix2 r k) = (A r).n k := by
  pointwise [k0_pay13]
  simp only [H.hn, H.ng r, Row.n]

/-- A block's gate. -/
theorem gate (r : Fin 512) (k : Fin 1024) : b.gate (ix2 r k) = (A r).gate k := by
  pointwise [k0_pay15, k0_pay14]
  simp only [H.n, H.wg r, Row.gate]
  rfl

/-- A block's projected embedding. -/
theorem pe (r : Fin 512) (k : Fin 1024) : b.pe (ix2 r k) = (A r).pe k := by
  pointwise [k0_pay10, k0_pay9]
  simp only [H.p, H.wp r, Row.pe]

/-- A block's second stream. -/
theorem h2 (r : Fin 512) (k : Fin 1024) : k0_pay16 (F := Ideal) b.h b.pe b.n b.x6 (ix2 r k) = (A r).h2 k := by
  pointwise [k0_pay16]
  simp only [H.h, H.pe, H.gate, Row.h2]

/-- A block's second reciprocal root mean squares. -/
theorem r3 (r : Fin 512) : b.r3 (ix2 r 0) = Row.rinv (A r).h2 := by
  pointwise [k0_pay17]
  simp only [H.h2, Row.rinv, Alg.w1024]

/-- A block's second stream over its root mean square. -/
theorem h2n (r : Fin 512) (k : Fin 1024) : b.h2n (ix2 r k) = (A r).h2n k := by
  pointwise [k0_pay18]
  simp only [H.h2, H.r3, Row.h2n]

/-- A block's error. -/
theorem err (r : Fin 512) (k : Fin 1024) : b.err (ix2 r k) = (A r).err k := by
  pointwise [k0_pay19]
  simp only [H.h2n, H.fg r, H.tg, Row.err]

/-- A block's gradient of the prediction. -/
theorem dout (r : Fin 512) (k : Fin 1024) : k0_pay22 (F := Ideal) b.err k0_pay21 (ix2 r k) = (A r).dout k := by
  pointwise [k0_pay22, k0_pay21]
  simp only [H.err, Alg.wInv1024, Row.dout]

/-- A block's gradient of the second stream. -/
theorem dh2 (r : Fin 512) (k : Fin 1024) : b.dh2 (ix2 r k) = (A r).dh2 k := by
  pointwise [k0_pay24]
  simp only [H.r3, H.dout, H.fg r, H.h2n, Alg.w1024, Row.dh2]

/-- A block's gradient of the gate's logits. -/
theorem ds (r : Fin 512) (k : Fin 1024) : b.ds (ix2 r k) = (A r).ds k := by
  pointwise [k0_pay25]
  simp only [H.dh2, H.pe, H.gate, Row.ds]

/-- A block's gradient of the normed input. -/
theorem dn (r : Fin 512) (k : Fin 1024) : b.dn (ix2 r k) = (A r).dn k := by
  pointwise [k0_pay26]
  simp only [H.ds, H.wg r, Row.dn]

/-- A block's gradient of the residual stream. -/
theorem dh (r : Fin 512) (k : Fin 1024) : b.dh (ix2 r k) = (A r).dh k := by
  pointwise [k0_pay1]
  simp only [H.dh2, H.r2, H.dn, H.ng r, H.hn, Alg.w1024, Row.dh]

/-- A block's gradient of the first branch's output. -/
theorem dyc (r : Fin 512) (k : Fin 1024) : k0_pay2 (F := Ideal) (k0_pay6 b.wc) b.r2 b.hn b.dh2 b.dn b.x8 (ix2 r k)
    = ∑ i, (A r).dh i * (A r).wc k i := by
  pointwise [k0_pay2, k0_pay6]
  simp only [H.dh, H.wc r]

/-- A block's gradient of the second branch's output. -/
theorem dyh (r : Fin 512) (k : Fin 1024) : k0_pay3 (F := Ideal) (k0_pay7 b.wh) b.r2 b.hn b.dh2 b.dn b.x8 (ix2 r k)
    = ∑ i, (A r).dh i * (A r).wh k i := by
  pointwise [k0_pay3, k0_pay7]
  simp only [H.dh, H.wh r]

/-- A block's gradient of the projected embedding. -/
theorem dpe (r : Fin 512) (k : Fin 1024) : k0_pay4 (F := Ideal) b.gate b.dh2 (ix2 r k) = (A r).dh2 k * (A r).gate k := by
  pointwise [k0_pay4]
  simp only [H.dh2, H.gate]

/-- A block's normed input, rounded. -/
theorem n16 (r : Fin 512) (k : Fin 1024) : k0_pay14 (F := Ideal) b.n (ix2 r k) = (A r).n k := by
  pointwise [k0_pay14]
  simp only [H.n]

/-- A block's embedding, rounded. -/
theorem pb (r : Fin 512) (k : Fin 256) : k0_pay9 (F := Ideal) b.x3 (ix2 r k) = (A r).p k := by
  pointwise [k0_pay9]
  simp only [H.p]

/-- What a block adds to the loss. -/
theorem loss (o : Vec Ideal S1x1024 .f32) (k : Fin 1024) : k0_pay20 (F := Ideal) b.h b.pe b.n b.x6 b.x9 b.x4 o (ix2 0 k)
    = o (ix2 0 k) + ((1 / 2 : ℝ) : EReal) * ∑ r, (A r).loss := by
  pointwise [k0_pay20]
  simp only [H.err, Alg.wHalf, Alg.w1024, Row.loss, Fin.sum_univ_one]

/-- What a block adds to the final gain's gradient. -/
theorem gfin (o : Vec Ideal S1x1024 .f32) (k : Fin 1024) : k0_pay23 (F := Ideal) b.h2n b.err k0_pay21 o (ix2 0 k)
    = o (ix2 0 k) + ∑ r, (A r).dout k * (A r).h2n k := by
  pointwise [k0_pay23]
  simp only [H.dout, H.h2n]

/-- What a block adds to the branch gain's gradient. -/
theorem gpe (o : Vec Ideal S1x1024 .f32) (k : Fin 1024) :
    k0_pay27 (F := Ideal) b.pe b.hn b.gate b.r3 b.h2n b.err k0_pay21 b.x9 b.x6 o (ix2 0 k)
      = o (ix2 0 k) + ∑ r, (A r).dn k * (A r).hn k := by
  pointwise [k0_pay27]
  simp only [H.dn, H.hn]

end Holds
end Blk

/-- Every window's block index at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![0, 0] :=
  (by decide +kernel : ∀ t : Fin grid0.N, _)

/-- The row a token reads of the ten arguments. -/
def row (x : S1x8192x1024.Idx → EReal) (yc yh : S8192x1024.Idx → EReal) (p : S1x1x8192x256.Idx → EReal) (tg : S1x8192x1024.Idx → EReal)
    (wo : S1x2048x1024.Idx → EReal) (wg : S1x1024x1024.Idx → EReal) (wp : S1x256x1024.Idx → EReal) (ng : S1x1024.Idx → EReal)
    (fg : S1024.Idx → EReal) (t : Fin 8192) : Row where
  x k := x (ix3 0 t k)
  yc k := yc (ix2 t k)
  yh k := yh (ix2 t k)
  p k := p (ix4 0 0 t k)
  tg k := tg (ix3 0 t k)
  wc i k := wo (ix3 0 (Fin.castAdd 1024 i) k)
  wh i k := wo (ix3 0 (Fin.natAdd 1024 i) k)
  wg i k := wg (ix3 0 i k)
  wp i k := wp (ix3 0 i k)
  ng k := ng (ix2 0 k)
  fg k := fg (ix1 k)

/-- The rows of a launch's arguments. -/
abbrev rows (c : Dev nD) : Fin 8192 → Row :=
  row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- Token `r` of grid point `t`. -/
def tok (t : Fin cfg0.N) (r : Fin 512) : Fin 8192 := ⟨t.val * 512 + r.val, by have := t.isLt; have : cfg0.N = 16 := N_0; omega⟩

/-- The blocks of grid point `t`. -/
abbrev blk (c : Dev nD) (t : Fin cfg0.N) : Blk where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t

/-- They hold the rows of its tokens. -/
theorem holds (c : Dev nD) (t : Fin cfg0.N) : (blk m c t).Holds (fun r => rows m c (tok t r)) := by
  refine ⟨?_, ?_, ?_, ?_, ?_, ?_, ?_, ?_, ?_, ?_, ?_⟩
  · intro r k; simp only [rows, row, tok]; blk_point [iblk, V, idx t]
  · intro r k; simp only [rows, row, tok]; blk_point [iblk, V, idx t]
  · intro r k; simp only [rows, row, tok]; blk_point [iblk, V, idx t]
  · intro r k; simp only [rows, row, tok]; blk_point [iblk, V, idx t]
  · intro r k; simp only [rows, row, tok]; blk_point [iblk, V, idx t]
  · intro r i k
    refine (View.ld_unit_apply_of (blk m c t).x5 _ _ _ (ix2 i k) (ix2 (Fin.castAdd 1024 i) k) ?_).trans ?_
    · intro a; fin_cases a <;> simp
    · simp only [rows, row, tok]
      blk_point [iblk, V, idx t]
  · intro r i k
    refine (View.ld_unit_apply_of (blk m c t).x5 _ _ _ (ix2 i k) (ix2 (Fin.natAdd 1024 i) k) ?_).trans ?_
    · intro a; fin_cases a <;> simp [Nat.add_comm]
    · simp only [rows, row, tok]
      blk_point [iblk, V, idx t]
  · intro r i k; simp only [rows, row, tok]; blk_point [iblk, V, idx t]
  · intro r i k; simp only [rows, row, tok]; blk_point [iblk, V, idx t]
  · intro r k; simp only [rows, row, tok]; blk_point [iblk, V, idx t]
  · intro r k; simp only [rows, row, tok]; blk_point [iblk, V, idx t]

/-- What a grid point adds to the eight rows of sums: the final gain's gradient, the branch gain's gradient, the loss, nothing below. -/
def term (c : Dev nD) (t : Fin cfg0.N) (y : S8x1024.Idx) : EReal :=
  if (y 0).val = 0 then ∑ r, (rows m c (tok t r)).dout (y 1) * (rows m c (tok t r)).h2n (y 1)
  else if (y 0).val = 1 then ∑ r, (rows m c (tok t r)).dn (y 1) * (rows m c (tok t r)).hn (y 1)
  else if (y 0).val = 2 then ((1 / 2 : ℝ) : EReal) * ∑ r, (rows m c (tok t r)).loss
  else 0

/-- The rows of sums start from zeros. -/
theorem hzero (y : S8x1024.Idx) : k0_pay5 (F := Ideal) y = 0 := by pointwise [k0_pay5]

/-- At the first grid point the block of sums holds that point's terms alone. -/
theorem reset (c : Dev nD) (t : Fin cfg0.N) (h : t.val % 16 = 0) (y : S8x1024.Idx) :
    (outsAt0 m c t.val t.isLt).2.2.2.2.2.2.2 y = (0 : EReal) + term m c t y := by
  idx_vars y
  rw [outsAt0_A m c t h]; frame_out
  rw [← View.read_writes_junk_apply_eq_canon (ms0_17 t).view]
  have hpe := fun o => (holds m c t).gpe o y1
  have hfin := fun o => (holds m c t).gfin o y1
  have hloss := fun o => (holds m c t).loss o y1
  dsimp only [blk, Blk.dh, Blk.ds, Blk.dn, Blk.dh2, Blk.err, Blk.h2n, Blk.r3, Blk.pe, Blk.gate, Blk.n, Blk.hn, Blk.r2, Blk.h, Blk.wc, Blk.wh] at hpe hfin hloss
  by_cases h1 : y0.val = 1
  · refine (Rows.row_eq (ms0_17 t).view _ _ _ _ y0 y1 h1).trans ?_
    refine (hpe _).trans (congrArg₂ (· + ·) ?_ ?_)
    · rw [View.readCov_skip _ _ _ _ _ (by decide +kernel), View.readCov_skip _ _ _ _ _ (by decide +kernel), View.readCov_fill _ _ _ _ _ (by intro a; fin_cases a <;> rfl)]
      exact hzero _
    · simp [term, h1]
  refine (Rows.row_ne (ms0_17 t).view _ _ _ _ y0 y1 h1).trans ?_
  by_cases h0 : y0.val = 0
  · refine (Rows.row_eq (ms0_17 t).view _ _ _ _ y0 y1 h0).trans ?_
    refine (hfin _).trans (congrArg₂ (· + ·) ?_ ?_)
    · rw [View.readCov_skip _ _ _ _ _ (by decide +kernel), View.readCov_fill _ _ _ _ _ (by intro a; fin_cases a <;> rfl)]
      exact hzero _
    · simp [term, h0]
  refine (Rows.row_ne (ms0_17 t).view _ _ _ _ y0 y1 h0).trans ?_
  by_cases h2 : y0.val = 2
  · refine (Rows.row_eq (ms0_17 t).view _ _ _ _ y0 y1 h2).trans ?_
    refine (hloss _).trans (congrArg₂ (· + ·) ?_ ?_)
    · rw [View.readCov_fill _ _ _ _ _ (by intro a; fin_cases a <;> rfl)]
      exact hzero _
    · simp [term, h2]
  refine (Rows.row_ne (ms0_17 t).view _ _ _ _ y0 y1 h2).trans ?_
  rw [View.read_writes_junk_apply_eq_canon, View.canon_cons_unit_lit _ _ _ (by intro a; fin_cases a <;> rfl), hzero]
  simp [term, h0, h1, h2]

/-- At every later grid point the block of sums holds what it held before, plus that point's terms. -/
theorem step (c : Dev nD) (t : Fin cfg0.N) (h : ¬t.val % 16 = 0) (y : S8x1024.Idx) :
    (outsAt0 m c t.val t.isLt).2.2.2.2.2.2.2 y = (show EReal from (outsAt0 m c (t.val - 1) (Nat.lt_of_le_of_lt (Nat.sub_le _ _) t.isLt)).2.2.2.2.2.2.2 y) + term m c t y := by
  idx_vars y
  rw [outsAt0_B m c t h]; frame_out
  have hpe := fun o => (holds m c t).gpe o y1
  have hfin := fun o => (holds m c t).gfin o y1
  have hloss := fun o => (holds m c t).loss o y1
  dsimp only [blk, Blk.dh, Blk.ds, Blk.dn, Blk.dh2, Blk.err, Blk.h2n, Blk.r3, Blk.pe, Blk.gate, Blk.n, Blk.hn, Blk.r2, Blk.h, Blk.wc, Blk.wh] at hpe hfin hloss
  by_cases h1 : y0.val = 1
  · refine (Rows.row_eq (ms0_17 t).view _ _ _ _ y0 y1 h1).trans ?_
    refine (hpe _).trans (congrArg₂ (· + ·) (Rows.ld_row _ _ y0 y1 h1) ?_)
    simp [term, h1]
  refine (Rows.row_ne (ms0_17 t).view _ _ _ _ y0 y1 h1).trans ?_
  by_cases h0 : y0.val = 0
  · refine (Rows.row_eq (ms0_17 t).view _ _ _ _ y0 y1 h0).trans ?_
    refine (hfin _).trans (congrArg₂ (· + ·) (Rows.ld_row _ _ y0 y1 h0) ?_)
    simp [term, h0]
  refine (Rows.row_ne (ms0_17 t).view _ _ _ _ y0 y1 h0).trans ?_
  by_cases h2 : y0.val = 2
  · refine (Rows.row_eq (ms0_17 t).view _ _ _ _ y0 y1 h2).trans ?_
    refine (hloss _).trans (congrArg₂ (· + ·) (Rows.ld_row _ _ y0 y1 h2) ?_)
    simp [term, h2]
  refine (Rows.row_ne (ms0_17 t).view _ _ _ _ y0 y1 h2).trans ?_
  rw [View.writes_nil, (hs0_17 t).read_unread]
  simp [term, h0, h1, h2]

/-- A result of one entry per token and channel, from the rows. -/
def byRow (f : Row → Fin 1024 → EReal) (R : Fin 8192 → Row) (j : S8192x1024.Idx) : EReal := f (R (j 0)) (j 1)

/-- The gradient of the first branch's output. -/
def DYC : (Fin 8192 → Row) → S8192x1024.Idx → EReal := byRow fun a k => ∑ i, a.dh i * a.wc k i
/-- The gradient of the second branch's output. -/
def DYH : (Fin 8192 → Row) → S8192x1024.Idx → EReal := byRow fun a k => ∑ i, a.dh i * a.wh k i
/-- The gradient of the projected embedding. -/
def DPE : (Fin 8192 → Row) → S8192x1024.Idx → EReal := byRow fun a k => a.dh2 k * a.gate k
/-- The embedding itself. -/
def PB (R : Fin 8192 → Row) (j : S8192x256.Idx) : EReal := (R (j 0)).p (j 1)
/-- The two gains' gradients and the loss, in the first three of eight rows. -/
def VEC (R : Fin 8192 → Row) (j : S8x1024.Idx) : EReal :=
  if (j 0).val = 0 then ∑ t, (R t).dout (j 1) * (R t).h2n (j 1)
  else if (j 0).val = 1 then ∑ t, (R t).dn (j 1) * (R t).hn (j 1)
  else if (j 0).val = 2 then ((1 / 2 : ℝ) : EReal) * ∑ t, (R t).loss
  else 0

/-- What the outputs' buffers hold after a grid point, but for the embedding's and the sums'. -/
theorem outs (c : Dev nD) (t : Fin cfg0.N) (r : Fin 512) (k : Fin 1024) :
    (outsAt0 m c t.val t.isLt).1 (ix2 r k) = ∑ i, (rows m c (tok t r)).dh i * (rows m c (tok t r)).wc k i
    ∧ (outsAt0 m c t.val t.isLt).2.1 (ix2 r k) = ∑ i, (rows m c (tok t r)).dh i * (rows m c (tok t r)).wh k i
    ∧ (outsAt0 m c t.val t.isLt).2.2.1 (ix2 r k) = (rows m c (tok t r)).n k
    ∧ (outsAt0 m c t.val t.isLt).2.2.2.1 (ix2 r k) = (rows m c (tok t r)).ds k
    ∧ (outsAt0 m c t.val t.isLt).2.2.2.2.1 (ix2 r k) = (rows m c (tok t r)).dh2 k * (rows m c (tok t r)).gate k
    ∧ (outsAt0 m c t.val t.isLt).2.2.2.2.2.1 (ix2 r k) = (rows m c (tok t r)).dh k := by
  have hyc := (holds m c t).dyc r k
  have hyh := (holds m c t).dyh r k
  have hn := (holds m c t).n16 r k
  have hds := (holds m c t).ds r k
  have hpe := (holds m c t).dpe r k
  have hdh := (holds m c t).dh r k
  dsimp only [blk, Blk.dh, Blk.ds, Blk.dn, Blk.dh2, Blk.err, Blk.h2n, Blk.r3, Blk.pe, Blk.gate, Blk.n, Blk.hn, Blk.r2, Blk.h, Blk.wc, Blk.wh] at hyc hyh hn hds hpe hdh
  by_cases h : t.val % 16 = 0
  · rw [outsAt0_A m c t h]
    dsimp only
    refine ⟨?_, ?_, ?_, ?_, ?_, ?_⟩ <;> frame_out
    · exact hyc
    · exact hyh
    · exact hn
    · exact hds
    · exact hpe
    · exact hdh
  · rw [outsAt0_B m c t h]
    dsimp only
    refine ⟨?_, ?_, ?_, ?_, ?_, ?_⟩ <;> frame_out
    · exact hyc
    · exact hyh
    · exact hn
    · exact hds
    · exact hpe
    · exact hdh

/-- What the embedding's buffer holds after a grid point. -/
theorem outs_p (c : Dev nD) (t : Fin cfg0.N) (r : Fin 512) (k : Fin 256) :
    (outsAt0 m c t.val t.isLt).2.2.2.2.2.2.1 (ix2 r k) = (rows m c (tok t r)).p k := by
  have hp := (holds m c t).pb r k
  dsimp only [blk] at hp
  by_cases h : t.val % 16 = 0
  · rw [outsAt0_A m c t h]
    dsimp only
    frame_out
    exact hp
  · rw [outsAt0_B m c t h]
    dsimp only
    frame_out
    exact hp

/-- The kernel's result of window 10: the gradient of the first branch's output. -/
theorem final10 (c : Dev nD) : (dats m 0 c).arrAt 10 cfg0.N = DYC (rows m c) := by
  refine (dats m 0 c).arrAt_eq_of_covers 10 _ (by decide +kernel) fun t hf y => ?_
  blk_simp
  rw [after0_10]
  idx_vars y
  refine (outs m c t y0 y1).1.trans ?_
  refine Eq.trans (show _ = DYC (rows m c) (ix2 (tok t y0) y1) from rfl) ?_
  generalize DYC (rows m c) = G
  simp only [tok]
  blk_point [idx t]

/-- The kernel's result of window 11: the gradient of the second branch's output. -/
theorem final11 (c : Dev nD) : (dats m 0 c).arrAt 11 cfg0.N = DYH (rows m c) := by
  refine (dats m 0 c).arrAt_eq_of_covers 11 _ (by decide +kernel) fun t hf y => ?_
  blk_simp
  rw [after0_11]
  idx_vars y
  refine (outs m c t y0 y1).2.1.trans ?_
  refine Eq.trans (show _ = DYH (rows m c) (ix2 (tok t y0) y1) from rfl) ?_
  generalize DYH (rows m c) = G
  simp only [tok]
  blk_point [idx t]

/-- The kernel's result of window 12: the embedding branch's normed input. -/
theorem final12 (c : Dev nD) : (dats m 0 c).arrAt 12 cfg0.N = byRow Row.n (rows m c) := by
  refine (dats m 0 c).arrAt_eq_of_covers 12 _ (by decide +kernel) fun t hf y => ?_
  blk_simp
  rw [after0_12]
  idx_vars y
  refine (outs m c t y0 y1).2.2.1.trans ?_
  refine Eq.trans (show _ = byRow Row.n (rows m c) (ix2 (tok t y0) y1) from rfl) ?_
  generalize byRow Row.n (rows m c) = G
  simp only [tok]
  blk_point [idx t]

/-- The kernel's result of window 13: the gradient of the gate's logits. -/
theorem final13 (c : Dev nD) : (dats m 0 c).arrAt 13 cfg0.N = byRow Row.ds (rows m c) := by
  refine (dats m 0 c).arrAt_eq_of_covers 13 _ (by decide +kernel) fun t hf y => ?_
  blk_simp
  rw [after0_13]
  idx_vars y
  refine (outs m c t y0 y1).2.2.2.1.trans ?_
  refine Eq.trans (show _ = byRow Row.ds (rows m c) (ix2 (tok t y0) y1) from rfl) ?_
  generalize byRow Row.ds (rows m c) = G
  simp only [tok]
  blk_point [idx t]

/-- The kernel's result of window 14: the gradient of the projected embedding. -/
theorem final14 (c : Dev nD) : (dats m 0 c).arrAt 14 cfg0.N = DPE (rows m c) := by
  refine (dats m 0 c).arrAt_eq_of_covers 14 _ (by decide +kernel) fun t hf y => ?_
  blk_simp
  rw [after0_14]
  idx_vars y
  refine (outs m c t y0 y1).2.2.2.2.1.trans ?_
  refine Eq.trans (show _ = DPE (rows m c) (ix2 (tok t y0) y1) from rfl) ?_
  generalize DPE (rows m c) = G
  simp only [tok]
  blk_point [idx t]

/-- The kernel's result of window 15: the gradient of the residual stream. -/
theorem final15 (c : Dev nD) : (dats m 0 c).arrAt 15 cfg0.N = byRow Row.dh (rows m c) := by
  refine (dats m 0 c).arrAt_eq_of_covers 15 _ (by decide +kernel) fun t hf y => ?_
  blk_simp
  rw [after0_15]
  idx_vars y
  refine (outs m c t y0 y1).2.2.2.2.2.trans ?_
  refine Eq.trans (show _ = byRow Row.dh (rows m c) (ix2 (tok t y0) y1) from rfl) ?_
  generalize byRow Row.dh (rows m c) = G
  simp only [tok]
  blk_point [idx t]

/-- The kernel's result of window 16: the embedding. -/
theorem final16 (c : Dev nD) : (dats m 0 c).arrAt 16 cfg0.N = PB (rows m c) := by
  refine (dats m 0 c).arrAt_eq_of_covers 16 _ (by decide +kernel) fun t hf y => ?_
  blk_simp
  rw [after0_16]
  idx_vars y
  refine (outs_p m c t y0 y1).trans ?_
  refine Eq.trans (show _ = PB (rows m c) (ix2 (tok t y0) y1) from rfl) ?_
  generalize PB (rows m c) = G
  simp only [tok]
  blk_point [idx t]

/-- The kernel's result of window 17: the two gains' gradients and the loss. -/
theorem final17 (c : Dev nD) : (dats m 0 c).arrAt 17 cfg0.N = VEC (rows m c) := by
  refine (dats m 0 c).arrAt_eq_of_after_last 17 t0_15 (by decide +kernel) _ fun j => ?_
  blk_simp
  rw [after0_17, Pipeline.eq_sum_fin_of_reset_step_apply_last (fun n h => (outsAt0 m c n h).2.2.2.2.2.2.2) 16 (fun _ => (0 : EReal)) (term m c)
    (fun t h j => reset m c t h j) (fun t h j => step m c t h j) (le_of_eq N_0) t0_15 rfl j, zero_add]
  idx_vars j
  simp only [VEC, term]
  generalize rows m c = R
  split
  · refine Fin.sum_mul_add_congr fun t k hl => ?_
    rfl
  split
  · refine Fin.sum_mul_add_congr fun t k hl => ?_
    rfl
  split
  · rw [← Alg.coe_mul_sum _ _ (by norm_num)]
    refine congrArg (((1 / 2 : ℝ) : EReal) * ·) ?_
    refine Fin.sum_mul_add_congr fun t k hl => ?_
    rfl
  · simp

end Cert.KernelTIdeal.Tail

namespace Cert.ReferenceTIdeal.Tail
open Cert.ReferenceTIdeal Cert.ReferenceTIdeal.Gen Cert.ReferenceTIdeal.Value Cert.Tail
open Cert.KernelTIdeal.Tail (row DYC DYH DPE PB VEC byRow)

variable (V0 : Valuation τ sig (Elt Ideal))

/-- The rows of the reference's arguments. -/
abbrev rows : Fin 8192 → Row :=
  row (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9))

/-- The reference's residual stream after the output projection, row by row. -/
theorem h (t : Fin 8192) (k : Fin 1024) : res_main_v7 (F := Ideal) V0 (ix3 0 t k) = (rows V0 t).h k := by
  pointwise [res_main_v7, res_main_v5]
  exact (add_assoc (G := EReal) _ _ _).symm

/-- The reference's stream over its root mean square, row by row. -/
theorem hn (t : Fin 8192) (k : Fin 1024) : res_main_v21 (F := Ideal) V0 (ix3 0 t k) = (rows V0 t).hn k := by
  pointwise [res_main_v21, res_main_v16, res_main_v15]
  simp only [h, Row.hn, Row.rinv, Alg.w1024]

/-- The reference's embedding branch's normed input, row by row. -/
theorem n (t : Fin 8192) (k : Fin 1024) : res_main_v24 (F := Ideal) V0 (ix3 0 t k) = (rows V0 t).n k := by
  pointwise [res_main_v24, res_main_v22]
  simp only [hn, Row.n]
  rfl

/-- The reference's gate, row by row. -/
theorem gate (t : Fin 8192) (k : Fin 1024) : res_main_v35 (F := Ideal) V0 (ix3 0 t k) = (rows V0 t).gate k := by
  pointwise [res_main_v35, res_main_v25]
  simp only [n, Row.gate]
  rfl

/-- The reference's projected embedding, row by row. -/
theorem pe (t : Fin 8192) (k : Fin 1024) : res_main_v29 (F := Ideal) V0 (ix3 0 t k) = (rows V0 t).pe k := by
  pointwise [res_main_v29]
  rfl

/-- The reference's stream after the embedding branch, row by row. -/
theorem h2 (t : Fin 8192) (k : Fin 1024) : res_main_v40 (F := Ideal) V0 (ix3 0 t k) = (rows V0 t).h2 k := by
  pointwise [res_main_v40]
  simp only [h, gate, pe, Row.h2]

/-- The reference's stream over its root mean square, row by row. -/
theorem h2n (t : Fin 8192) (k : Fin 1024) : res_main_v53 (F := Ideal) V0 (ix3 0 t k) = (rows V0 t).h2n k := by
  pointwise [res_main_v53, res_main_v48, res_main_v47]
  simp only [h2, Row.h2n, Row.rinv, Alg.w1024]

/-- The reference's prediction's error, row by row. -/
theorem err (t : Fin 8192) (k : Fin 1024) : res_main_v57 (F := Ideal) V0 (ix3 0 t k) = (rows V0 t).err k := by
  pointwise [res_main_v57, res_main_v54]
  simp only [h2n, Row.err]
  rfl

/-- The reference's prediction's gradient, row by row. -/
theorem dout (t : Fin 8192) (k : Fin 1024) : res_main_v71 (F := Ideal) V0 (ix3 0 t k) = (rows V0 t).dout k := by
  pointwise [res_main_v71]
  simp only [err, Row.dout, Alg.wHalf, Alg.w1024, Alg.wTwo]
  rw [Ideal.div_coe (by norm_num), ← mul_assoc, mul_comm _ (Row.err _ _)]
  congr 1
  rw [← EReal.coe_mul, ← EReal.coe_mul]
  norm_num

/-- The reference's gradient of the stream after the embedding branch: the derivative of the norm is the kernel's closed form, row by row. -/
theorem dh2 (t : Fin 8192) (k : Fin 1024) : res_main_v92 (F := Ideal) V0 (ix3 0 t k) = (rows V0 t).dh2 k := by
  pointwise [res_main_v92, res_main_v88, res_main_v76, res_main_v54, Alg.unit02, res_main_v48, res_main_v47]
  obtain ⟨e, he, hw⟩ := Alg.wEps
  simp only [dout, h2, Alg.w1024, Alg.wNegHalf, hw, Row.dh2, Row.h2n, Row.rinv]
  have key := Alg.rms_grad (rows V0 t).h2 (fun i => (rows V0 t).dout i * (rows V0 t).fg i) 0 k e he
  simp only [zero_add] at key
  exact key.symm

/-- The reference's gradient of the gate's logits, row by row. -/
theorem ds (t : Fin 8192) (k : Fin 1024) : res_main_v95 (F := Ideal) V0 (ix3 0 t k) = (rows V0 t).ds k := by
  pointwise [res_main_v95]
  simp only [dh2, pe, gate, Row.ds, mul_assoc]

/-- The reference's gradient of the branch's normed input, row by row. -/
theorem dn (t : Fin 8192) (k : Fin 1024) : res_main_v96 (F := Ideal) V0 (ix3 0 t k) = (rows V0 t).dn k := by
  pointwise [res_main_v96, res_main_v25]
  simp only [ds, Row.dn]
  rfl

/-- The reference's gradient of the residual stream, row by row. -/
theorem dh (t : Fin 8192) (k : Fin 1024) : res_main_v118 (F := Ideal) V0 (ix3 0 t k) = (rows V0 t).dh k := by
  pointwise [res_main_v118, res_main_v113, res_main_v101, res_main_v22, Alg.unit02, res_main_v16, res_main_v15]
  obtain ⟨e, he, hw⟩ := Alg.wEps
  simp only [dh2, dn, h, Alg.w1024, Alg.wNegHalf, hw, Row.dh, Row.hn, Row.rinv]
  refine Eq.trans ?_ (Alg.rms_grad (rows V0 t).h (fun i => (rows V0 t).dn i * (rows V0 t).ng i) ((rows V0 t).dh2 k) k e he).symm
  simp only [add_assoc]
  rfl

/-- The reference's gradient of the first branch's output, row by row. -/
theorem dyc (t : Fin 8192) (k : Fin 1024) : res_main_v120 (F := Ideal) V0 (ix2 t (Fin.castAdd 1024 k)) = ∑ i, (rows V0 t).dh i * (rows V0 t).wc k i := by
  pointwise [res_main_v120, res_main_v5]
  simp only [dh]
  rfl

/-- The reference's gradient of the second branch's output, row by row. -/
theorem dyh (t : Fin 8192) (k : Fin 1024) : res_main_v120 (F := Ideal) V0 (ix2 t (Fin.natAdd 1024 k)) = ∑ i, (rows V0 t).dh i * (rows V0 t).wh k i := by
  pointwise [res_main_v120, res_main_v5]
  simp only [dh]
  rfl

variable (m : (ℓ : Loc nD τ sig) → Buf (Elt Ideal) ℓ)

/-- The rows of the arguments the launch finds. -/
abbrev mrows (c : Dev nD) : Fin 8192 → Row :=
  row (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- The reference's run: its eight results in terms of the rows, and its arguments left unchanged. -/
theorem run_value (ρ : Dev nD → PrngReg) :
    θ_run defs (onTc (τ := τ) (main (F := Ideal))) ⟨m, fun _ => 0, ρ⟩ fun r => ∀ c : Dev nD,
      r.2.mem ((c.tc : Thread nD τ).loc main_v121) = DYC (mrows m c)
      ∧ r.2.mem ((c.tc : Thread nD τ).loc main_v122) = DYH (mrows m c)
      ∧ r.2.mem ((c.tc : Thread nD τ).loc main_v129) = byRow Row.n (mrows m c)
      ∧ r.2.mem ((c.tc : Thread nD τ).loc main_v131) = byRow Row.ds (mrows m c)
      ∧ r.2.mem ((c.tc : Thread nD τ).loc main_v133) = DPE (mrows m c)
      ∧ r.2.mem ((c.tc : Thread nD τ).loc main_v135) = byRow Row.dh (mrows m c)
      ∧ r.2.mem ((c.tc : Thread nD τ).loc main_v137) = PB (mrows m c)
      ∧ r.2.mem ((c.tc : Thread nD τ).loc main_v138) = VEC (mrows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r hr c => ?_) (run m ρ)
  obtain ⟨h0, h1, h2', h3, h4, h5, h6, h7, ha⟩ := hr c
  refine ⟨h0.trans ?_, h1.trans ?_, h2'.trans ?_, h3.trans ?_, h4.trans ?_, h5.trans ?_, h6.trans ?_, h7.trans ?_, ha⟩
  · funext y
    idx_vars y
    pointwise
    exact dyc _ y0 y1
  · funext y
    idx_vars y
    pointwise
    exact dyh _ y0 y1
  · funext y
    idx_vars y
    pointwise
    exact n _ y0 y1
  · funext y
    idx_vars y
    pointwise
    exact ds _ y0 y1
  · funext y
    idx_vars y
    pointwise
    simp only [gate, dh2]
    exact mul_comm _ _
  · funext y
    idx_vars y
    pointwise
    exact dh _ y0 y1
  · funext y
    idx_vars y
    pointwise
    rfl
  · funext y
    idx_vars y
    pointwise [Alg.unit01]
    simp only [hn, dn, err, dout, h2n, Alg.wHalf, Alg.w1024]
    rcases (by omega : y0.val = 0 ∨ y0.val = 1 ∨ y0.val = 2 ∨ 3 ≤ y0.val) with q | q | q | q
    · obtain rfl : y0 = 0 := Fin.ext q
      show (∑ t, (mrows m c t).h2n y1 * (mrows m c t).dout y1 : EReal) = ∑ t, (mrows m c t).dout y1 * (mrows m c t).h2n y1
      exact Finset.sum_congr rfl fun t _ => mul_comm (G := EReal) _ _
    · obtain rfl : y0 = 1 := Fin.ext q
      show (∑ t, (mrows m c t).hn y1 * (mrows m c t).dn y1 : EReal) = ∑ t, (mrows m c t).dn y1 * (mrows m c t).hn y1
      exact Finset.sum_congr rfl fun t _ => mul_comm (G := EReal) _ _
    · obtain rfl : y0 = 2 := Fin.ext q
      refine congrArg (((1 / 2 : ℝ) : EReal) * ·) ?_
      exact (Fin.sum_univ_one _).trans (Finset.sum_congr rfl fun t _ => rfl)
    · have h0 : ¬y0.val = 0 := by omega
      have h1 : ¬y0.val = 1 := by omega
      have h2 : ¬y0.val = 2 := by omega
      have h3 : ¬y0.val < 3 := by omega
      simp [VEC, h0, h1, h2, h3, FloatOps.sitofp]

end Cert.ReferenceTIdeal.Tail
-- ==== Proof.Hgrn.lean ====
module

public import proofs.«01_k».proof.Proof.Alg

@[expose] public section

set_option maxRecDepth 16384

noncomputable section

open Idealize.ShloMosaic

namespace Cert.Hgrn

/-! ## The chunkwise recurrence, entry by entry -/

/-- A head's column. -/
abbrev col (h : Fin 8) (d : Fin 128) : Fin 1024 := ⟨128 * h.val + d.val, by omega⟩

/-- A chunk of 64 tokens: queries, keys, values and logarithms of the forget gates. -/
structure Chunk where
  q : Fin 64 → Fin 1024 → EReal
  k : Fin 64 → Fin 1024 → EReal
  v : Fin 64 → Fin 1024 → EReal
  lf : Fin 64 → Fin 1024 → EReal

/-- The heads' states: value column, then key column. -/
abbrev St := Fin 8 → Fin 128 → Fin 128 → EReal

namespace Chunk

variable (C : Chunk)

/-- The logarithm of the decay from the chunk's start. -/
def b (i : Fin 64) (l : Fin 1024) : EReal := ∑ j : Fin 64, if j ≤ i then C.lf j l else 0

/-- A token's weight on an earlier one of the chunk. -/
def w (h : Fin 8) (i j : Fin 64) : EReal :=
  if j ≤ i then ∑ d : Fin 128, C.q i (col h d) * Ideal.exp (C.b i (col h d) - C.b j (col h d)) * C.k j (col h d) else 0

/-- A token's output. -/
def o (S : St) (i : Fin 64) (h : Fin 8) (e : Fin 128) : EReal :=
  (∑ d : Fin 128, C.q i (col h d) * Ideal.exp (C.b i (col h d)) * S h e d) + ∑ j : Fin 64, C.w h i j * C.v j (col h e)

/-- The states after the chunk. -/
def next (S : St) : St := fun h e d =>
  S h e d * Ideal.exp (C.b 63 (col h d)) + ∑ j : Fin 64, C.v j (col h e) * (C.k j (col h d) * Ideal.exp (C.b 63 (col h d) - C.b j (col h d)))

/-- The logarithms are real numbers. -/
def Fine : Prop := ∀ i l, ∃ r : ℝ, C.lf i l = (r : EReal)

variable {C}

/-- Then so are their running sums. -/
theorem Fine.b (H : C.Fine) (i : Fin 64) (l : Fin 1024) : ∃ r : ℝ, C.b i l = (r : EReal) := by
  choose g hg using H
  refine ⟨∑ j : Fin 64, if j ≤ i then g j l else 0, ?_⟩
  rw [Chunk.b, show ((∑ j : Fin 64, if j ≤ i then g j l else 0 : ℝ) : EReal) = ∑ j : Fin 64, ((if j ≤ i then g j l else 0 : ℝ) : EReal) from
    map_sum (⟨⟨Real.toEReal, EReal.coe_zero⟩, EReal.coe_add⟩ : ℝ →+ EReal) _ _]
  refine Finset.sum_congr rfl fun j _ => ?_
  split <;> simp [hg]

/-- The running sum as three products with the lower triangle of ones: the second and third factor are what casts to a narrower format lose, which
is nothing. -/
theorem Fine.tri (H : C.Fine) (i : Fin 64) (l : Fin 1024) (t : Fin 64 → EReal) (ht : ∀ j, t j = if j ≤ i then 1 else 0) :
    (∑ j : Fin 64, t j * C.lf j l) + (∑ j : Fin 64, t j * (C.lf j l - C.lf j l)) + (∑ j : Fin 64, t j * (C.lf j l - C.lf j l - (C.lf j l - C.lf j l))) = C.b i l := by
  have z : ∀ j : Fin 64, C.lf j l - C.lf j l = 0 := fun j => by
    obtain ⟨r, hr⟩ := H j l
    rw [hr, ← EReal.coe_sub, sub_self, EReal.coe_zero]
  simp only [z, sub_zero, mul_zero, Finset.sum_const_zero, add_zero, Chunk.b, ht]
  refine Finset.sum_congr rfl fun j _ => ?_
  split <;> simp

/-- The decays may be taken from any token of the chunk on. -/
theorem Fine.rebase (H : C.Fine) (i j n : Fin 64) (l : Fin 1024) (q k : EReal) :
    q * Ideal.exp (C.b i l - C.b n l) * (k * Ideal.exp (C.b n l - C.b j l)) = q * Ideal.exp (C.b i l - C.b j l) * k := by
  obtain ⟨x, hx⟩ := H.b i l
  obtain ⟨y, hy⟩ := H.b j l
  obtain ⟨z, hz⟩ := H.b n l
  rw [hx, hy, hz, ← EReal.coe_sub, ← EReal.coe_sub, ← EReal.coe_sub, Ideal.exp_coe, Ideal.exp_coe, Ideal.exp_coe,
    show x - y = (x - z) + (z - y) by ring, Real.exp_add, EReal.coe_mul]
  ac_rfl

/-- A token's weights, from decays taken from token `n` on. -/
theorem Fine.w (H : C.Fine) (h : Fin 8) (i j n : Fin 64) :
    (if j ≤ i then ∑ d : Fin 128, C.q i (col h d) * Ideal.exp (C.b i (col h d) - C.b n (col h d)) *
      (C.k j (col h d) * Ideal.exp (C.b n (col h d) - C.b j (col h d))) else 0) = C.w h i j := by
  rw [Chunk.w]
  refine if_congr Iff.rfl (Finset.sum_congr rfl fun d _ => H.rebase _ _ _ _ _ _) rfl

/-- A token's weights, the later tokens' decays being zero. -/
theorem w_eq (h : Fin 8) (i j : Fin 64) :
    (∑ d : Fin 128, C.q i (col h d) * Ideal.exp (if j ≤ i then C.b i (col h d) - C.b j (col h d) else ⊥) * C.k j (col h d)) = C.w h i j := by
  rw [Chunk.w]
  split
  · rfl
  · refine Finset.sum_eq_zero fun d _ => ?_
    rw [Ideal.exp_bot, mul_zero, zero_mul]

end Chunk

/-- The word of minus infinity. -/
theorem wBot : Ideal.ofBits FTy.f32 4286578688#32 = ⊥ := by
  simp [Ideal.ofBits, Ideal.ieee]

/-- The larger of two numbers, as a fold from minus infinity. -/
theorem fold2 (g : Fin 2 → EReal) : Finset.fold max (Ideal.ofBits FTy.f32 4286578688#32) g Finset.univ = max (g 0) (g 1) := by
  rw [wBot, show (Finset.univ : Finset (Fin 2)) = {0, 1} from rfl]
  simp [Finset.fold_insert]

/-- The comparison of two positions of a chunk, as a word of one bit. -/
theorem le_bit : ∀ i j : Fin 64, IntOp.cmpi CmpIPredicate.sge (BitVec.ofNat 32 i.val) (BitVec.ofNat 32 j.val) = if j ≤ i then 1#1 else 0#1 := by
  decide +kernel

/-- The lower triangle of ones. -/
theorem le_one (i j : Fin 64) : FloatOps.sitofp (F := Ideal) FTy.f32 (BitVec.setWidth 32 (IntOp.cmpi CmpIPredicate.sge (BitVec.ofNat 32 i.val) (BitVec.ofNat 32 j.val))) =
    (if j ≤ i then 1 else 0 : EReal) := by
  rw [le_bit]
  show (((BitVec.setWidth 32 (if j ≤ i then 1#1 else 0#1)).toInt : ℝ) : EReal) = _
  split <;> simp

/-! ## The gates -/

/-- What the branch reads: the two layers' lower bound logits, the norm's gains, and per token the four projections. -/
structure Toks where
  lg0 : Fin 1024 → EReal
  lg1 : Fin 1024 → EReal
  og : Fin 1024 → EReal
  hq : Fin 8192 → Fin 1024 → EReal
  hf : Fin 8192 → Fin 1024 → EReal
  hi : Fin 8192 → Fin 1024 → EReal
  hg : Fin 8192 → Fin 1024 → EReal

/-- Token `i` of chunk `n`. -/
abbrev tok (n : Fin 128) (i : Fin 64) : Fin 8192 := ⟨64 * n.val + i.val, by omega⟩

namespace Toks

variable (T : Toks)

/-- The lower bound of the forget gates: the first layer's share of a softmax. -/
def lb (l : Fin 1024) : EReal :=
  Ideal.div (Ideal.exp (T.lg0 l - max (T.lg0 l) (T.lg1 l)))
    (Ideal.exp (T.lg0 l - max (T.lg0 l) (T.lg1 l)) + Ideal.exp (T.lg1 l - max (T.lg0 l) (T.lg1 l)))

/-- The forget gate. -/
def f (t : Fin 8192) (l : Fin 1024) : EReal := T.lb l + (1 - T.lb l) * Ideal.logistic (T.hf t l)

/-- A chunk of the sequence. -/
def chunk (n : Fin 128) : Chunk where
  q := fun i l => T.hq (tok n i) l * Ideal.logistic (T.hq (tok n i) l)
  k := fun i l => (1 - T.lb l) * Ideal.logistic (-T.hf (tok n i) l)
  v := fun i l => T.hi (tok n i) l
  lf := fun i l => Ideal.log (T.f (tok n i) l)

/-- The states before chunk `n`. -/
def st : ℕ → St
  | 0 => fun _ _ _ => 0
  | n + 1 => (T.chunk (Fin.ofNat 128 n)).next (st n)

/-- The recurrence's output. -/
def raw (n : Fin 128) (i : Fin 64) (h : Fin 8) (e : Fin 128) : EReal := (T.chunk n).o (T.st n.val) i h e

/-- A head's mean square. -/
def ms (n : Fin 128) (i : Fin 64) (h : Fin 8) : EReal :=
  Ideal.div (∑ e : Fin 128, T.raw n i h e * T.raw n i h e) (Ideal.ofBits FTy.f32 1124073472#32)

/-- The gated, normed output. -/
def y (n : Fin 128) (i : Fin 64) (h : Fin 8) (e : Fin 128) : EReal :=
  T.raw n i h e * Ideal.rsqrt (T.ms n i h + Ideal.ofBits FTy.f32 897988541#32) * T.og (col h e) *
    (T.hg (tok n i) (col h e) * Ideal.logistic (T.hg (tok n i) (col h e)))

/-- The recurrence's output by token and column. -/
def RAW (r : Fin 8192) (l : Fin 1024) : EReal :=
  T.raw ⟨r.val / 64, by omega⟩ ⟨r.val % 64, by omega⟩ ⟨l.val / 128, by omega⟩ ⟨l.val % 128, by omega⟩

/-- The gated output by token and column. -/
def Y (r : Fin 8192) (l : Fin 1024) : EReal :=
  T.y ⟨r.val / 64, by omega⟩ ⟨r.val % 64, by omega⟩ ⟨l.val / 128, by omega⟩ ⟨l.val % 128, by omega⟩

/-- The recurrence's output at a token of a chunk and a column of a head. -/
theorem RAW_tok (n : Fin 128) (i : Fin 64) (h : Fin 8) (e : Fin 128) : T.RAW (tok n i) (col h e) = T.raw n i h e := by
  rw [RAW]
  congr 1 <;> refine Fin.ext ?_ <;> simp only [] <;> omega

/-- The gated output likewise. -/
theorem Y_tok (n : Fin 128) (i : Fin 64) (h : Fin 8) (e : Fin 128) : T.Y (tok n i) (col h e) = T.y n i h e := by
  rw [Y]
  congr 1 <;> refine Fin.ext ?_ <;> simp only [] <;> omega

/-- The logits are real numbers. -/
def Fine : Prop := ∀ l, (∃ r : ℝ, T.lg0 l = (r : EReal)) ∧ ∃ r : ℝ, T.lg1 l = (r : EReal)

variable {T}

/-- Then the lower bounds lie between 0 and 1. -/
theorem Fine.lb (H : T.Fine) (l : Fin 1024) : ∃ r : ℝ, T.lb l = (r : EReal) ∧ 0 < r ∧ r < 1 := by
  obtain ⟨⟨x, hx⟩, y, hy⟩ := H l
  have hp : 0 < Real.exp (x - max x y) + Real.exp (y - max x y) := by positivity
  refine ⟨Real.exp (x - max x y) / (Real.exp (x - max x y) + Real.exp (y - max x y)), ?_, by positivity, ?_⟩
  · rw [Toks.lb, hx, hy, ← EReal.coe_strictMono.monotone.map_max, ← EReal.coe_sub, ← EReal.coe_sub, Ideal.exp_coe, Ideal.exp_coe, ← EReal.coe_add, Ideal.div_coe hp.ne']
    simp [div_eq_mul_inv]
  · rw [div_lt_one hp]
    have := Real.exp_pos (y - max x y)
    linarith

/-- The logistic function's values lie between 0 and 1, at the infinite arguments too. -/
theorem logistic_real (x : EReal) : ∃ s : ℝ, Ideal.logistic x = (s : EReal) ∧ 0 ≤ s ∧ s ≤ 1 := by
  induction x with
  | bot => exact ⟨0, by simp, le_refl _, zero_le_one⟩
  | top => exact ⟨1, by simp, zero_le_one, le_refl _⟩
  | coe r =>
    have := Real.exp_pos (-r)
    exact ⟨_, Ideal.logistic_coe r, by positivity, inv_le_one_of_one_le₀ (by linarith)⟩

/-- One minus the logistic function is the logistic function of the opposite argument. -/
theorem logistic_neg (x : EReal) : 1 - Ideal.logistic x = Ideal.logistic (-x) := by
  induction x with
  | bot => simp
  | top => simp [← EReal.coe_one, ← EReal.coe_sub]
  | coe r =>
    rw [← EReal.coe_neg, Ideal.logistic_coe, Ideal.logistic_coe, ← EReal.coe_one, ← EReal.coe_sub, neg_neg, EReal.coe_eq_coe_iff, Real.exp_neg]
    have := Real.exp_pos r
    field_simp
    ring

/-- Then the forget gates' logarithms are real numbers. -/
theorem Fine.chunk (H : T.Fine) (n : Fin 128) : (T.chunk n).Fine := by
  intro i l
  obtain ⟨r, hr, h0, h1⟩ := H.lb l
  obtain ⟨s, hs, s0, _⟩ := logistic_real (T.hf (tok n i) l)
  have hp : 0 < r + (1 - r) * s := by nlinarith
  refine ⟨Real.log (r + (1 - r) * s), ?_⟩
  show Ideal.log (T.f (tok n i) l) = _
  rw [Toks.f, hr, hs, ← EReal.coe_one, ← EReal.coe_sub, ← EReal.coe_mul, ← EReal.coe_add, Ideal.log_coe, if_neg (not_le.mpr hp)]

end Toks

/-- The arguments token by token: of the joint projection's output the columns of the queries, forget gates, values and output gates. -/
def toks (z : (⟨3, ![1, 8192, 7168]⟩ : Shape).Idx → EReal) (lg : (⟨2, ![2, 1024]⟩ : Shape).Idx → EReal) (og : (⟨2, ![1, 1024]⟩ : Shape).Idx → EReal) : Toks where
  lg0 l := lg (ix2 0 l)
  lg1 l := lg (ix2 1 l)
  og l := og (ix2 0 l)
  hq r l := z (ix3 0 r ⟨3072 + l.val, by omega⟩)
  hf r l := z (ix3 0 r ⟨4096 + l.val, by omega⟩)
  hi r l := z (ix3 0 r ⟨5120 + l.val, by omega⟩)
  hg r l := z (ix3 0 r ⟨6144 + l.val, by omega⟩)

/-- The recurrence's outputs as an array. -/
def rawArr (T : Toks) : (⟨2, ![8192, 1024]⟩ : Shape).Idx → EReal := fun y => T.RAW (y 0) (y 1)

/-- The gated outputs as an array. -/
def yArr (T : Toks) : (⟨2, ![8192, 1024]⟩ : Shape).Idx → EReal := fun y => T.Y (y 0) (y 1)

/-- The states before every chunk as an array. -/
def stsArr (T : Toks) : (⟨4, ![8, 128, 128, 128]⟩ : Shape).Idx → EReal := fun y => T.st (y 1).val (y 0) (y 2) (y 3)

end Cert.Hgrn
-- ==== Proof.HgrnK.lean ====
module

public import proofs.«01_k».proof.Proof.Alg
public import proofs.«01_k».proof.Proof.Gen.KernelFIdeal.Value
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem

namespace Cert.KernelFIdeal.Hgrn

open Cert.KernelFIdeal Cert.KernelFIdeal.Gen Cert.KernelFIdeal.Value

/-! ## One chunk of the kernel's body

The body runs eight chunks of 64 tokens after one another, each with the same operations. A chunk's values are stated here once, by the
operations of the first chunk, from what the chunk reads: the logits, its four 64-row windows, the gains and the eight heads' states. -/

/-- What a chunk reads. -/
structure Blk where
  lg : Vec Ideal S2x1024 .f32
  og : Vec Ideal S1x1024 .f32
  x2 : Vec Ideal S64x1024 .f32
  x3 : Vec Ideal S64x1024 .f32
  x4 : Vec Ideal S64x1024 .f32
  x5 : Vec Ideal S64x1024 .f32
  s : Fin 8 → Vec Ideal S1x128x128 .f32

namespace Blk

variable (B : Blk)

/-- The forget gates, queries and values. -/
abbrev f : FVec Ideal S64x1024 .f32 := k0_pay7 B.lg B.x3
abbrev q : FVec Ideal S64x1024 .f32 := k0_pay8 B.x2
abbrev v : FVec Ideal S64x1024 .f32 := k0_pay5 B.x4
/-- The decay over the whole chunk, and the queries and keys with their decays. -/
abbrev ebl : FVec Ideal S1x1024 .f32 := k0_pay16 B.f
abbrev qd : FVec Ideal S64x1024 .f32 := k0_pay17 B.f B.q
abbrev qm : FVec Ideal S64x1024 .f32 := k0_pay18 B.f B.q
abbrev km : FVec Ideal S64x1024 .f32 := k0_pay19 (k0_pay6 B.x3) B.f (k0_pay9 B.lg) k0_pay10
abbrev kd : FVec Ideal S64x1024 .f32 := k0_pay20 (k0_pay6 B.x3) B.f (k0_pay9 B.lg) k0_pay10

end Blk

/-- The first column of a head lies far enough before the last. -/
theorem slicesHead (h : Fin 8) : S64x1024.Slices ![0, 128 * h.val] S64x128 := by
  revert h; decide

theorem slicesHead1 (h : Fin 8) : S1x1024.Slices ![0, 128 * h.val] S1x128 := by
  revert h; decide

/-- A head's columns. -/
abbrev hd (x : FVec Ideal S64x1024 .f32) (h : Fin 8) : FVec Ideal S64x128 .f32 :=
  extractStridedSlice S64x128 ![0, 128 * h.val] x (slicesHead h)

/-- The eight heads side by side. -/
abbrev side (f : Fin 8 → FVec Ideal S64x128 .f32) : FVec Ideal S64x1024 .f32 :=
  concatenate S64x1024 1 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩]
    concatenates_S64x128_S64x128_S64x128_S64x128_S64x128_S64x128_S64x128_S64x128_S64x1024_d1

namespace Blk

variable (B : Blk)

/-- The heads' states as matrices. -/
def S (h : Fin 8) : FVec Ideal S128x128 .f32 := shapeCast S128x128 (B.s h) shapeCasts_S1x128x128_S128x128

/-- The heads' masked weights within the chunk. -/
def A (h : Fin 8) : FVec Ideal S64x64 .f32 :=
  select k0_pay15 (matmul dot_S64x128_S64x128_S64x64_1_1_0_0_n_n none (truncf .bf16 (hd B.qm h) bitsLt_bf16_f32) (truncf .bf16 (hd B.km h) bitsLt_bf16_f32)
    (constant S64x64 .f32 0x00000000#32)) (broadcast S64x64 (Scalar.ofBits .f32 0x00000000#32))

/-- What the state contributes to the heads' outputs. -/
def oi (h : Fin 8) : FVec Ideal S64x128 .f32 :=
  matmul dot_S64x128_S128x128_S64x128_1_1_0_0_n_n none (truncf .bf16 (hd B.qd h) bitsLt_bf16_f32) (truncf .bf16 (B.S h) bitsLt_bf16_f32)
    (constant S64x128 .f32 0x00000000#32)

/-- What the chunk adds to the heads' states. -/
def kv (h : Fin 8) : FVec Ideal S128x128 .f32 :=
  matmul dot_S64x128_S64x128_S128x128_0_0_1_1_n_n none (truncf .bf16 (hd B.v h) bitsLt_bf16_f32) (truncf .bf16 (hd B.kd h) bitsLt_bf16_f32)
    (constant S128x128 .f32 0x00000000#32)

/-- What the chunk's own tokens contribute to the heads' outputs. -/
def oa (h : Fin 8) : FVec Ideal S64x128 .f32 :=
  matmul dot_S64x64_S64x128_S64x128_1_0_0_1_n_n none (truncf .bf16 (B.A h) bitsLt_bf16_f32) (truncf .bf16 (hd B.v h) bitsLt_bf16_f32)
    (constant S64x128 .f32 0x00000000#32)

/-- The states as the chunk stores them among the saved ones. -/
def sv (h : Fin 8) : FVec Ideal S1x1x128x128 .f32 := shapeCast S1x1x128x128 (B.S h) shapeCasts_S128x128_S1x1x128x128

/-- The states after the chunk. -/
def sn (h : Fin 8) : FVec Ideal S1x128x128 .f32 :=
  shapeCast S1x128x128 (addf (mulf (B.S h) (broadcastTo S128x128 (extractStridedSlice S1x128 ![0, 128 * h.val] B.ebl (slicesHead1 h)) broadcasts_S1x128_S128x128))
    (B.kv h)) shapeCasts_S128x128_S1x128x128

/-- The chunk's outputs. -/
def o : FVec Ideal S64x1024 .f32 := side fun h => addf (B.oi h) (B.oa h)

/-- The heads' reciprocal root mean squares. -/
def rs (h : Fin 8) : FVec Ideal S64x128 .f32 :=
  broadcastTo S64x128 (shapeCast S64x1 (rsqrt (addf (divf (shapeCast S64x1 (multiReduction .add [1] S64 (hd (mulf B.o B.o) h) 0x00000000#32
    reduces_S64x128_S64 (.inl rfl) rfl) shapeCasts_S64_S64x1) (broadcast S64x1 (Scalar.ofBits .f32 0x43000000#32)))
    (broadcast S64x1 (Scalar.ofBits .f32 0x358637BD#32)))) shapeCasts_S64x1_S64x1) broadcasts_S64x1_S64x128

/-- The chunk's gated outputs. -/
def y : FVec Ideal S64x1024 .bf16 :=
  truncf .bf16 (mulf (mulf (mulf B.o (side B.rs)) (broadcastTo S64x1024 B.og broadcasts_S1x1024_S64x1024)) (mulf (k0_pay4 B.x5) (logistic (k0_pay4 B.x5))))
    bitsLt_bf16_f32

end Blk

/-- A head's slab of the states' scratch. -/
abbrev slab (h : Fin 8) : Rect S8x128x128 :=
  Rect.unit ![h.val, 0, 0] ![1, 128, 128] (by intro a; fin_cases a <;> simp <;> omega)

/-- A chunk's slab of the saved states. -/
abbrev cell (h k : Fin 8) : Rect S8x8x128x128 :=
  Rect.unit ![h.val, k.val, 0, 0] ![1, 1, 128, 128] (by intro a; fin_cases a <;> simp <;> omega)

/-- A chunk's rows of a block of 512 tokens. -/
abbrev rows (k : Fin 8) : Rect S512x1024 :=
  Rect.unit ![64 * k.val, 0] ![64, 1024] (by intro a; fin_cases a <;> simp <;> omega)

/-- The stores of one slab per head, the last head's last. -/
abbrev heads {α : Type} (f : Fin 8 → α) : List α := [f 7, f 6, f 5, f 4, f 3, f 2, f 1, f 0]

/-- The heads' slabs of the states' scratch, read after the stores `L`. -/
def states (L : List (View.Piece (Elt Ideal) S8x128x128 .f32)) (h : Fin 8) : Vec Ideal S1x128x128 .f32 :=
  (View.whole cc0_scratch0).readCov L (slab h).toLoadRect

/-- The heads' slabs of the states the grid point before left. -/
def before (x : Vec Ideal S8x128x128 .f32) (h : Fin 8) : Vec Ideal S1x128x128 .f32 :=
  View.ld (View.read (Elt Ideal) (View.whole cc0_scratch0) ((Memref.isWhole_whole cc0_scratch0).unread x)) (slab h)

/-- The six blocks a grid point reads. -/
structure Ins where
  lg : Vec Ideal S2x1024 .f32
  og : Vec Ideal S1x1024 .f32
  x2 : Vec Ideal S512x1024 .f32
  x3 : Vec Ideal S512x1024 .f32
  x4 : Vec Ideal S512x1024 .f32
  x5 : Vec Ideal S512x1024 .f32

/-- What chunk `k` of a grid point reads when the states are `s`. -/
abbrev Ins.blk (I : Ins) (k : Fin 8) (s : Fin 8 → Vec Ideal S1x128x128 .f32) : Blk :=
  ⟨I.lg, I.og, View.ld I.x2 (rows k), View.ld I.x3 (rows k), View.ld I.x4 (rows k), View.ld I.x5 (rows k), s⟩

/-- A chunk's stores into the states' scratch. -/
abbrev Blk.stores (B : Blk) : List (View.Piece (Elt Ideal) S8x128x128 .f32) := heads fun h => ⟨slab h, B.sn h⟩

/-- The states' scratch before a chunk: the stores so far, and what chunk 0 reads, given apart. -/
structure Past where
  L : List (View.Piece (Elt Ideal) S8x128x128 .f32)
  s : Fin 8 → Vec Ideal S1x128x128 .f32

/-- The states' scratch before chunk `k`. -/
def past (I : Ins) (P : Past) : ℕ → Past
  | 0 => P
  | k + 1 =>
    let L := (I.blk (Fin.ofNat 8 k) (past I P k).s).stores ++ (past I P k).L
    ⟨L, states L⟩

/-- Chunk `k` of a grid point. -/
abbrev chunk (I : Ins) (P : Past) (k : Fin 8) : Blk := I.blk k (past I P k.val).s

variable (I : Ins) (c : Dev nD) (t : Fin cfg0.N)

/-- The states' scratch before the first grid point of a group: filled with zeros. -/
abbrev zeroed : Past :=
  let L : List (View.Piece (Elt Ideal) S8x128x128 .f32) := [⟨Rect.unit ![0, 0, 0] ![8, 128, 128] inb_S8x128x128_S8x128x128_0_0_0, (k0_pay2 : FVec Ideal S8x128x128 .f32)⟩]
  ⟨L, states L⟩

/-- The states' scratch before any other grid point: what the one before left. -/
abbrev kept (X : Vec Ideal S8x128x128 .f32) : Past := ⟨[], before X⟩

set_option maxHeartbeats 1000000 in
/-- What a grid point leaves in its three results and in the states' scratch: eight chunks' stores. -/
theorem outs :
    (∀ (h : cond0_0 (grid0.coords t)),
      (∀ x, out0_A_6 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) scM0_0 (Memref.isWhole_whole _) h I.lg I.og I.x2 I.x3 I.x4 I.x5 x =
        View.canon (heads fun k => ⟨rows k, (chunk I zeroed k).o⟩) x) ∧
      (∀ x, out0_A_7 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) scM0_0 (Memref.isWhole_whole _) h I.lg I.og I.x2 I.x3 I.x4 I.x5 x =
        View.canon (heads fun k => ⟨rows k, (chunk I zeroed k).y⟩) x) ∧
      (∀ x, out0_A_8 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) scM0_0 (Memref.isWhole_whole _) h I.lg I.og I.x2 I.x3 I.x4 I.x5 x =
        View.canon (heads fun k => heads fun h => ⟨cell h k, (chunk I zeroed k).sv h⟩).flatten x) ∧
      (∀ x, sout0_A_0 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) scM0_0 (Memref.isWhole_whole _) h I.lg I.og I.x2 I.x3 I.x4 I.x5 x =
        View.canon ((chunk I zeroed 7).stores ++ (past I zeroed (7 : Fin 8).val).L) x)) ∧
    (∀ (h : ¬ cond0_0 (grid0.coords t)) (X : Vec Ideal S8x128x128 .f32),
      (∀ x, out0_B_6 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) scM0_0 (Memref.isWhole_whole _) h I.lg I.og I.x2 I.x3 I.x4 I.x5 X x =
        View.canon (heads fun k => ⟨rows k, (chunk I (kept X) k).o⟩) x) ∧
      (∀ x, out0_B_7 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) scM0_0 (Memref.isWhole_whole _) h I.lg I.og I.x2 I.x3 I.x4 I.x5 X x =
        View.canon (heads fun k => ⟨rows k, (chunk I (kept X) k).y⟩) x) ∧
      (∀ x, out0_B_8 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) scM0_0 (Memref.isWhole_whole _) h I.lg I.og I.x2 I.x3 I.x4 I.x5 X x =
        View.canon (heads fun k => heads fun h => ⟨cell h k, (chunk I (kept X) k).sv h⟩).flatten x) ∧
      (∀ x, sout0_B_0 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) scM0_0 (Memref.isWhole_whole _) h I.lg I.og I.x2 I.x3 I.x4 I.x5 X x =
        View.canon ((chunk I (kept X) 7).stores ++ (past I (kept X) (7 : Fin 8).val).L) x)) := by
  refine ⟨fun h => ⟨fun x => ?_, fun x => ?_, fun x => ?_, fun x => ?_⟩, fun h X => ⟨fun x => ?_, fun x => ?_, fun x => ?_, fun x => ?_⟩⟩
  all_goals
    frame_out
    dsimp only [chunk, zeroed, kept, past, states, before, heads, slab, rows, cell, Ins.blk, Blk.stores, Blk.o, Blk.oi, Blk.oa, Blk.A, Blk.S, Blk.f, Blk.q, Blk.v, Blk.ebl,
      Blk.qd, Blk.qm, Blk.km, Blk.kd, Blk.sn, Blk.sv, Blk.kv, Blk.y, Blk.rs, hd, side, List.cons_append, List.nil_append, List.flatten_cons, List.flatten_nil,
      Fin.coe_ofNat_eq_mod, Nat.reduceMod, Nat.reduceMul,
    k0_pay1, k0_pay2, k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41, k0_pay42, k0_pay43, k0_pay44, k0_pay45, k0_pay46,
    k0_pay47, k0_pay48, k0_pay49, k0_pay50, k0_pay51, k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71, k0_pay72, k0_pay73, k0_pay74, k0_pay75, k0_pay76,
    k0_pay77, k0_pay78, k0_pay79, k0_pay80, k0_pay81, k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101, k0_pay102, k0_pay103, k0_pay104, k0_pay105,
    k0_pay106, k0_pay107, k0_pay108, k0_pay109, k0_pay110, k0_pay111, k0_pay112, k0_pay113, k0_pay114, k0_pay115, k0_pay116, k0_pay117, k0_pay118,
    k0_pay119, k0_pay120, k0_pay121, k0_pay122, k0_pay123, k0_pay124, k0_pay125, k0_pay126, k0_pay127, k0_pay128, k0_pay129, k0_pay130, k0_pay131,
    k0_pay132, k0_pay133, k0_pay134, k0_pay135, k0_pay136, k0_pay137, k0_pay138, k0_pay139, k0_pay140, k0_pay141, k0_pay142, k0_pay143, k0_pay144,
    k0_pay145, k0_pay146, k0_pay147, k0_pay148, k0_pay149, k0_pay150, k0_pay151, k0_pay152, k0_pay153, k0_pay154, k0_pay155, k0_pay156, k0_pay157,
    k0_pay158, k0_pay159, k0_pay160, k0_pay161, k0_pay162, k0_pay163, k0_pay164, k0_pay165, k0_pay166, k0_pay167, k0_pay168, k0_pay169, k0_pay170,
    k0_pay171, k0_pay172, k0_pay173, k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192, k0_pay193, k0_pay194, k0_pay195, k0_pay196,
    k0_pay197, k0_pay198, k0_pay199, k0_pay200, k0_pay201, k0_pay202, k0_pay203, k0_pay204, k0_pay205, k0_pay206, k0_pay207, k0_pay208, k0_pay209,
    k0_pay210, k0_pay211, k0_pay212, k0_pay213, k0_pay214, k0_pay215, k0_pay216, k0_pay217, k0_pay218, k0_pay219, k0_pay220, k0_pay221, k0_pay222,
    k0_pay223, k0_pay224, k0_pay225, k0_pay226, k0_pay227, k0_pay228, k0_pay229, k0_pay230, k0_pay231, k0_pay232, k0_pay233, k0_pay234, k0_pay235,
    k0_pay236, k0_pay237, k0_pay238, k0_pay239, k0_pay240, k0_pay241, k0_pay242, k0_pay243, k0_pay244, k0_pay245, k0_pay246, k0_pay247, k0_pay248,
    k0_pay249, k0_pay250, k0_pay251, k0_pay252, k0_pay253, k0_pay254, k0_pay255, k0_pay256, k0_pay257, k0_pay258, k0_pay259, k0_pay260, k0_pay261,
    k0_pay262, k0_pay263, k0_pay264, k0_pay265, k0_pay266, k0_pay267, k0_pay268, k0_pay269, k0_pay270, k0_pay271, k0_pay272, k0_pay273, k0_pay274,
    k0_pay275, k0_pay276, k0_pay277, k0_pay278, k0_pay279, k0_pay280, k0_pay281, k0_pay282, k0_pay283, k0_pay284, k0_pay285, k0_pay286, k0_pay287,
    k0_pay288, k0_pay289, k0_pay290, k0_pay291, k0_pay292, k0_pay293, k0_pay294, k0_pay295, k0_pay296, k0_pay297, k0_pay298, k0_pay299, k0_pay300,
    k0_pay301, k0_pay302, k0_pay303, k0_pay304, k0_pay305, k0_pay306, k0_pay307, k0_pay308, k0_pay309, k0_pay310, k0_pay311, k0_pay312, k0_pay313,
    k0_pay314, k0_pay315, k0_pay316, k0_pay317, k0_pay318, k0_pay319, k0_pay320, k0_pay321, k0_pay322, k0_pay323, k0_pay324, k0_pay325, k0_pay326,
    k0_pay327, k0_pay328, k0_pay329, k0_pay330, k0_pay331, k0_pay332, k0_pay333, k0_pay334, k0_pay335, k0_pay336, k0_pay337, k0_pay338, k0_pay339,
    k0_pay340, k0_pay341, k0_pay342, k0_pay343, k0_pay344, k0_pay345, k0_pay346, k0_pay347, k0_pay348, k0_pay349, k0_pay350, k0_pay351, k0_pay352,
    k0_pay353, k0_pay354, k0_pay355, k0_pay356, k0_pay357, k0_pay358, k0_pay359, k0_pay360, k0_pay361, k0_pay362, k0_pay363, k0_pay364, k0_pay365,
    k0_pay366, k0_pay367, k0_pay368, k0_pay369, k0_pay370, k0_pay371, k0_pay372, k0_pay373, k0_pay374, k0_pay375, k0_pay376, k0_pay377, k0_pay378,
    k0_pay379, k0_pay380, k0_pay381, k0_pay382, k0_pay383, k0_pay384, k0_pay385, k0_pay386, k0_pay387, k0_pay388, k0_pay389, k0_pay390, k0_pay391,
    k0_pay392, k0_pay393, k0_pay394, k0_pay395, k0_pay396, k0_pay397, k0_pay398, k0_pay399, k0_pay400, k0_pay401, k0_pay402, k0_pay403, k0_pay404,
    k0_pay405, k0_pay406, k0_pay407, k0_pay408, k0_pay409, k0_pay410, k0_pay411, k0_pay412, k0_pay413, k0_pay414, k0_pay415, k0_pay416, k0_pay417,
    k0_pay418, k0_pay419, k0_pay420, k0_pay421, k0_pay422, k0_pay423, k0_pay424, k0_pay425, k0_pay426, k0_pay427, k0_pay428, k0_pay429, k0_pay430,
    k0_pay431, k0_pay432, k0_pay433, k0_pay434, k0_pay435, k0_pay436, k0_pay437, k0_pay438, k0_pay439, k0_pay440, k0_pay441, k0_pay442, k0_pay443,
    k0_pay444, k0_pay445, k0_pay446, k0_pay447, k0_pay448, k0_pay449, k0_pay450, k0_pay451, k0_pay452, k0_pay453, k0_pay454, k0_pay455, k0_pay456,
    k0_pay457, k0_pay458, k0_pay459, k0_pay460, k0_pay461, k0_pay462, k0_pay463, k0_pay464, k0_pay465, k0_pay466, k0_pay467, k0_pay468, k0_pay469,
    k0_pay470, k0_pay471, k0_pay472, k0_pay473, k0_pay474, k0_pay475, k0_pay476, k0_pay477, k0_pay478, k0_pay479, k0_pay480, k0_pay481, k0_pay482,
    k0_pay483, k0_pay484, k0_pay485, k0_pay486, k0_pay487, k0_pay488, k0_pay489, k0_pay490, k0_pay491, k0_pay492, k0_pay493, k0_pay494, k0_pay495,
    k0_pay496, k0_pay497, k0_pay498, k0_pay499, k0_pay500, k0_pay501, k0_pay502, k0_pay503, k0_pay504, k0_pay505, k0_pay506, k0_pay507, k0_pay508,
    k0_pay509, k0_pay510, k0_pay511, k0_pay512, k0_pay513, k0_pay514, k0_pay515, k0_pay516, k0_pay517, k0_pay518, k0_pay519, k0_pay520, k0_pay521,
    k0_pay522, k0_pay523, k0_pay524, k0_pay525, k0_pay526, k0_pay527, k0_pay528, k0_pay529, k0_pay530, k0_pay531, k0_pay532, k0_pay533, k0_pay534,
    k0_pay535, k0_pay536, k0_pay537, k0_pay538, k0_pay539, k0_pay540, k0_pay541, k0_pay542, k0_pay543, k0_pay544, k0_pay545, k0_pay546, k0_pay547,
    k0_pay548, k0_pay549, k0_pay550, k0_pay551, k0_pay552, k0_pay553, k0_pay554, k0_pay555, k0_pay556, k0_pay557, k0_pay558, k0_pay559, k0_pay560,
    k0_pay561, k0_pay562, k0_pay563, k0_pay564, k0_pay565, k0_pay566, k0_pay567, k0_pay568, k0_pay569, k0_pay570, k0_pay571, k0_pay572, k0_pay573,
    k0_pay574, k0_pay575, k0_pay576, k0_pay577, k0_pay578, k0_pay579, k0_pay580, k0_pay581, k0_pay582, k0_pay583, k0_pay584, k0_pay585, k0_pay586,
    k0_pay587, k0_pay588, k0_pay589, k0_pay590, k0_pay591, k0_pay592, k0_pay593, k0_pay594, k0_pay595, k0_pay596, k0_pay597, k0_pay598, k0_pay599,
    k0_pay600, k0_pay601, k0_pay602, k0_pay603, k0_pay604, k0_pay605, k0_pay606, k0_pay607, k0_pay608, k0_pay609, k0_pay610, k0_pay611, k0_pay612,
    k0_pay613, k0_pay614, k0_pay615, k0_pay616, k0_pay617, k0_pay618, k0_pay619, k0_pay620, k0_pay621, k0_pay622, k0_pay623, k0_pay624, k0_pay625,
    k0_pay626, k0_pay627, k0_pay628, k0_pay629, k0_pay630, k0_pay631, k0_pay632, k0_pay633, k0_pay634, k0_pay635, k0_pay636, k0_pay637, k0_pay638,
    k0_pay639, k0_pay640, k0_pay641, k0_pay642, k0_pay643, k0_pay644, k0_pay645, k0_pay646, k0_pay647, k0_pay648, k0_pay649, k0_pay650, k0_pay651,
    k0_pay652, k0_pay653, k0_pay654, k0_pay655, k0_pay656, k0_pay657, k0_pay658, k0_pay659, k0_pay660, k0_pay661, k0_pay662, k0_pay663, k0_pay664,
    k0_pay665, k0_pay666, k0_pay667, k0_pay668, k0_pay669, k0_pay670, k0_pay671, k0_pay672, k0_pay673, k0_pay674, k0_pay675, k0_pay676, k0_pay677,
    k0_pay678, k0_pay679, k0_pay680, k0_pay681, k0_pay682, k0_pay683, k0_pay684, k0_pay685, k0_pay686, k0_pay687, k0_pay688, k0_pay689, k0_pay690,
    k0_pay691, k0_pay692, k0_pay693, k0_pay694, k0_pay695, k0_pay696, k0_pay697, k0_pay698, k0_pay699, k0_pay700, k0_pay701, k0_pay702, k0_pay703,
    k0_pay704, k0_pay705, k0_pay706]
  all_goals rfl

end Cert.KernelFIdeal.Hgrn
-- ==== Proof.HgrnChunk.lean ====
module

public import proofs.«01_k».proof.Proof.Hgrn
public import proofs.«01_k».proof.Proof.HgrnK

@[expose] public section

set_option maxRecDepth 16384

noncomputable section

open Idealize.ShloMosaic Idealize.ShloMosaic.TcCoe Idealize.SL.Sem

namespace Cert.KernelFIdeal.Hgrn

open Cert.KernelFIdeal Cert.KernelFIdeal.Gen Cert.KernelFIdeal.Value Cert.Hgrn

/-- The chunk reads chunk `n` of the sequence and the states `S`. -/
structure Blk.Reads (B : Blk) (T : Toks) (n : Fin 128) (S : St) : Prop where
  lg0 : ∀ l, B.lg (ix2 0 l) = T.lg0 l
  lg1 : ∀ l, B.lg (ix2 1 l) = T.lg1 l
  og : ∀ l, B.og (ix2 0 l) = T.og l
  x2 : ∀ i l, B.x2 (ix2 i l) = T.hq (tok n i) l
  x3 : ∀ i l, B.x3 (ix2 i l) = T.hf (tok n i) l
  x4 : ∀ i l, B.x4 (ix2 i l) = T.hi (tok n i) l
  x5 : ∀ i l, B.x5 (ix2 i l) = T.hg (tok n i) l
  s : ∀ h e d, B.s h (ix3 0 e d) = S h e d

variable {B : Blk} {T : Toks} {n : Fin 128} {S : St}

namespace Blk.Reads

/-- The lower bounds. -/
theorem lb (H : B.Reads T n S) (l : Fin 1024) : k0_pay3 B.lg (ix2 0 l) = T.lb l := by
  pointwise [k0_pay3]
  rw [fold2, Fin.sum_univ_two, H.lg0, H.lg1]
  rfl

/-- The forget gates. -/
theorem f (H : B.Reads T n S) (i : Fin 64) (l : Fin 1024) : B.f (ix2 i l) = T.f (tok n i) l := by
  pointwise [k0_pay7, k0_pay6]
  simp only [H.x3, H.lb]
  rfl

/-- The queries. -/
theorem q (H : B.Reads T n S) (i : Fin 64) (l : Fin 1024) : B.q (ix2 i l) = (T.chunk n).q i l := by
  pointwise [k0_pay8]
  simp only [H.x2]
  rfl

/-- The keys. -/
theorem k (H : B.Reads T n S) (i : Fin 64) (l : Fin 1024) : k0_pay11 (k0_pay6 B.x3) (k0_pay9 B.lg) k0_pay10 (ix2 i l) = (T.chunk n).k i l := by
  pointwise [k0_pay11, k0_pay6, k0_pay9, k0_pay10]
  simp only [H.x3, H.lb, Toks.logistic_neg]
  rfl

/-- The values. -/
theorem v (H : B.Reads T n S) (i : Fin 64) (l : Fin 1024) : B.v (ix2 i l) = (T.chunk n).v i l := by
  pointwise [k0_pay5]
  exact H.x4 i l

/-- The logarithms of the decays from the chunk's start. -/
theorem b (H : B.Reads T n S) (HT : T.Fine) (i : Fin 64) (l : Fin 1024) : k0_pay12 B.f (ix2 i l) = (T.chunk n).b i l := by
  pointwise [k0_pay12]
  simp only [H.f]
  exact (HT.chunk n).tri i l _ fun j => le_one i j

/-- The decay over the whole chunk. -/
theorem ebl (H : B.Reads T n S) (HT : T.Fine) (l : Fin 1024) : B.ebl (ix2 0 l) = Ideal.exp ((T.chunk n).b 63 l) := by
  pointwise [k0_pay16, k0_pay14]
  exact congrArg Ideal.exp (H.b HT 63 l)

/-- The queries with their decays from the chunk's start. -/
theorem qd (H : B.Reads T n S) (HT : T.Fine) (i : Fin 64) (l : Fin 1024) : B.qd (ix2 i l) = (T.chunk n).q i l * Ideal.exp ((T.chunk n).b i l) := by
  pointwise [k0_pay17]
  rw [H.b HT, H.q]

/-- The queries with their decays from the chunk's middle. -/
theorem qm (H : B.Reads T n S) (HT : T.Fine) (i : Fin 64) (l : Fin 1024) :
    B.qm (ix2 i l) = (T.chunk n).q i l * Ideal.exp ((T.chunk n).b i l - (T.chunk n).b 31 l) := by
  pointwise [k0_pay18, k0_pay13]
  rw [H.b HT, H.q, H.b HT]

/-- The keys with their decays to the chunk's middle. -/
theorem km (H : B.Reads T n S) (HT : T.Fine) (i : Fin 64) (l : Fin 1024) :
    B.km (ix2 i l) = (T.chunk n).k i l * Ideal.exp ((T.chunk n).b 31 l - (T.chunk n).b i l) := by
  pointwise [k0_pay19, k0_pay13]
  rw [H.k, H.b HT, H.b HT]

/-- The keys with their decays to the chunk's end. -/
theorem kd (H : B.Reads T n S) (HT : T.Fine) (i : Fin 64) (l : Fin 1024) :
    B.kd (ix2 i l) = (T.chunk n).k i l * Ideal.exp ((T.chunk n).b 63 l - (T.chunk n).b i l) := by
  pointwise [k0_pay20, k0_pay14]
  rw [H.k, H.b HT, H.b HT]

/-- The states. -/
theorem st (H : B.Reads T n S) (h : Fin 8) (e d : Fin 128) : B.S h (ix2 e d) = S h e d := by
  pointwise [Blk.S]
  exact H.s h e d

/-- The weights within the chunk. -/
theorem A (H : B.Reads T n S) (HT : T.Fine) (h : Fin 8) (i j : Fin 64) : B.A h (ix2 i j) = (T.chunk n).w h i j := by
  pointwise [Blk.A, k0_pay15]
  rw [le_bit, ← (HT.chunk n).w h i j 31]
  simp only [H.qm HT, H.km HT]
  split <;> rfl

/-- What the state contributes. -/
theorem oi (H : B.Reads T n S) (HT : T.Fine) (h : Fin 8) (i : Fin 64) (e : Fin 128) :
    B.oi h (ix2 i e) = ∑ d : Fin 128, (T.chunk n).q i (col h d) * Ideal.exp ((T.chunk n).b i (col h d)) * S h e d := by
  pointwise [Blk.oi]
  simp only [H.qd HT, H.st]

/-- What the chunk adds to the states. -/
theorem kv (H : B.Reads T n S) (HT : T.Fine) (h : Fin 8) (e d : Fin 128) :
    B.kv h (ix2 e d) = ∑ j : Fin 64, (T.chunk n).v j (col h e) * ((T.chunk n).k j (col h d) * Ideal.exp ((T.chunk n).b 63 (col h d) - (T.chunk n).b j (col h d))) := by
  pointwise [Blk.kv]
  simp only [H.kd HT, H.v]

/-- What the chunk's own tokens contribute. -/
theorem oa (H : B.Reads T n S) (HT : T.Fine) (h : Fin 8) (i : Fin 64) (e : Fin 128) :
    B.oa h (ix2 i e) = ∑ j : Fin 64, (T.chunk n).w h i j * (T.chunk n).v j (col h e) := by
  pointwise [Blk.oa]
  simp only [H.A HT, H.v]

/-- The saved states. -/
theorem sv (H : B.Reads T n S) (h : Fin 8) (e d : Fin 128) : B.sv h (ix4 0 0 e d) = S h e d := by
  pointwise [Blk.sv]
  exact H.st h e d

/-- The states after the chunk. -/
theorem sn (H : B.Reads T n S) (HT : T.Fine) (h : Fin 8) (e d : Fin 128) : B.sn h (ix3 0 e d) = (T.chunk n).next S h e d := by
  pointwise [Blk.sn]
  rw [H.st, H.ebl HT, H.kv HT]
  rfl

/-- The heads side by side, read at a head's column. -/
theorem side_col (f : Fin 8 → FVec Ideal S64x128 .f32) (h : Fin 8) (i : Fin 64) (e : Fin 128) : side f (ix2 i (col h e)) = f h (ix2 i e) := by
  refine concatenate_ofFn_apply (t := S64x1024) (s₁ := S64x128) 1 f
    concatenates_S64x128_S64x128_S64x128_S64x128_S64x128_S64x128_S64x128_S64x128_S64x1024_d1 rfl 128 rfl _ h ?_ _ ?_ ?_
  · show (128 * h.val + e.val) / 128 = h.val
    omega
  · show e.val = (128 * h.val + e.val) % 128
    omega
  · intro b hb
    fin_cases b
    · rfl
    · exact absurd rfl hb

/-- The chunk's outputs. -/
theorem o (H : B.Reads T n S) (HT : T.Fine) (i : Fin 64) (h : Fin 8) (e : Fin 128) : B.o (ix2 i (col h e)) = (T.chunk n).o S i h e := by
  rw [Blk.o, side_col]
  pointwise []
  rw [H.oi HT, H.oa HT]
  rfl

/-- The heads' reciprocal root mean squares. -/
theorem rs (H : B.Reads T n S) (HT : T.Fine) (h : Fin 8) (i : Fin 64) (e : Fin 128) :
    B.rs h (ix2 i e) = Ideal.rsqrt (Ideal.div (∑ e : Fin 128, (T.chunk n).o S i h e * (T.chunk n).o S i h e) (Ideal.ofBits FTy.f32 1124073472#32) +
      Ideal.ofBits FTy.f32 897988541#32) := by
  pointwise [Blk.rs]
  simp only [H.o HT]

/-- The chunk's gated outputs. -/
theorem y (H : B.Reads T n (T.st n.val)) (HT : T.Fine) (i : Fin 64) (h : Fin 8) (e : Fin 128) : B.y (ix2 i (col h e)) = T.y n i h e := by
  have hs := side_col B.rs h i e
  revert hs
  generalize hx : side B.rs = x
  intro hs
  rw [side] at hx
  pointwise [Blk.y, k0_pay4, hx]
  rw [hs, H.o HT, H.rs HT, H.og, H.x5]
  rfl

end Blk.Reads
end Cert.KernelFIdeal.Hgrn
-- ==== Proof.HgrnGrid.lean ====
module

public import proofs.«01_k».proof.Proof.HgrnChunk

@[expose] public section

set_option maxRecDepth 16384

noncomputable section

open Idealize.ShloMosaic Idealize.ShloMosaic.TcCoe Idealize.SL.Sem

namespace Cert.KernelFIdeal.Hgrn

open Cert.KernelFIdeal Cert.KernelFIdeal.Gen Cert.KernelFIdeal.Value Cert.Hgrn

/-! ## Eight stores side by side -/

/-- Eight stores that are blocks of one array leave that array wherever one of them lies, whatever was there before. -/
theorem canon_heads {s : Shape} {e : EltTy} (G : s.Idx → Elt Ideal e) (p : Fin 8 → View.Piece (Elt Ideal) s e) (L : List (View.Piece (Elt Ideal) s e))
    (hp : ∀ k, ∀ x : (p k).1.shape.Idx, (p k).2 x = G ((p k).1.emb x)) (y : s.Idx) (hc : ∃ k, y ∈ (p k).1.set) :
    View.canon (heads p ++ L) y = G y := by
  refine View.canon_append_of_pieces G L _ (fun q hq => ?_) y ?_
  · simp only [List.mem_cons, List.not_mem_nil, or_false] at hq
    rcases hq with rfl | rfl | rfl | rfl | rfl | rfl | rfl | rfl <;> exact hp _
  · obtain ⟨k, hk⟩ := hc
    refine ⟨p k, ?_, hk⟩
    fin_cases k <;> simp

/-- A rectangle holds its own indices. -/
theorem emb_mem {s : Shape} (r : Rect s) (x : r.shape.Idx) : r.emb x ∈ r.set := by
  rw [← Rect.map_emb_univ]
  exact Finset.mem_map_of_mem _ (Finset.mem_univ x)

/-- Where a head's slab lies. -/
theorem slab_emb (h : Fin 8) (e d : Fin 128) : (slab h).emb (ix3 0 e d) = ix3 h e d := by
  funext a
  refine Fin.ext ?_
  fin_cases a <;> simp [Rect.emb_apply]

/-- Where a chunk's rows lie. -/
theorem rows_emb (k : Fin 8) (i : Fin 64) (l : Fin 1024) : (rows k).emb (ix2 i l) = ix2 (⟨64 * k.val + i.val, by omega⟩ : Fin 512) l := by
  funext a
  refine Fin.ext ?_
  fin_cases a <;> simp [Rect.emb_apply]

/-- Where a chunk's saved states lie. -/
theorem cell_emb (h k : Fin 8) (e d : Fin 128) : (cell h k).emb (ix4 0 0 e d) = ix4 h k e d := by
  funext a
  refine Fin.ext ?_
  fin_cases a <;> simp [Rect.emb_apply]

/-- The states the stores of a chunk leave. -/
abbrev stArr (S : St) : S8x128x128.Idx → Elt Ideal .f32 := fun y => S (y 0) (y 1) (y 2)

/-- A chunk's stores leave its new states in the scratch. -/
theorem canon_stores (B : Blk) (L : List (View.Piece (Elt Ideal) S8x128x128 .f32)) (S : St) (hS : ∀ h e d, B.sn h (ix3 0 e d) = S h e d) (h : Fin 8) (e d : Fin 128) :
    View.canon (B.stores ++ L) (ix3 h e d) = S h e d := by
  refine canon_heads (stArr S) _ L (fun k x => ?_) (ix3 h e d) ⟨h, ?_⟩
  · have hx : x = ix3 0 (x 1) (x 2) := by
      funext a
      fin_cases a
      · exact Subsingleton.elim (α := Fin 1) _ _
      · rfl
      · rfl
    rw [hx]
    refine (hS k (x 1) (x 2)).trans ?_
    exact (congrArg (stArr S) (slab_emb k (x 1) (x 2))).symm
  · rw [← slab_emb]
    exact emb_mem _ _

/-- Read back, they are the chunk's new states. -/
theorem states_stores (B : Blk) (L : List (View.Piece (Elt Ideal) S8x128x128 .f32)) (S : St) (hS : ∀ h e d, B.sn h (ix3 0 e d) = S h e d) (h : Fin 8) (e d : Fin 128) :
    states (B.stores ++ L) h (ix3 0 e d) = S h e d := by
  rw [states, View.readCov_eq_canon']
  exact (congrArg _ (slab_emb h e d)).trans (canon_stores B L S hS h e d)

/-- The states read from what the grid point before left. -/
theorem before_apply (X : Vec Ideal S8x128x128 .f32) (h : Fin 8) (e d : Fin 128) : before X h (ix3 0 e d) = X (ix3 h e d) := by
  rw [before, read_unread_whole]
  exact congrArg X (slab_emb h e d)

/-- The states read after the fill with zeros. -/
theorem zeroed_apply (h : Fin 8) (e d : Fin 128) : zeroed.s h (ix3 0 e d) = 0 := by
  have h0 : ∀ j, (k0_pay2 : FVec Ideal S8x128x128 .f32) j = 0 := fun j => by
    pointwise [k0_pay2]
  show states _ h (ix3 0 e d) = _
  rw [states, View.readCov_eq_canon']
  exact (congrFun (View.canon_unit_zero (Val := Elt Ideal) (S := S8x128x128) (off := ![0, 0, 0]) (by decide) _ _) _).trans (h0 _)

/-! ## The chunks of a grid point -/

/-- The grid point reads the tokens from `512 * t` on. -/
structure Ins.Reads (I : Ins) (T : Toks) (t : Fin 16) : Prop where
  lg0 : ∀ l, I.lg (ix2 0 l) = T.lg0 l
  lg1 : ∀ l, I.lg (ix2 1 l) = T.lg1 l
  og : ∀ l, I.og (ix2 0 l) = T.og l
  x2 : ∀ (r : Fin 512) l, I.x2 (ix2 r l) = T.hq ⟨512 * t.val + r.val, by omega⟩ l
  x3 : ∀ (r : Fin 512) l, I.x3 (ix2 r l) = T.hf ⟨512 * t.val + r.val, by omega⟩ l
  x4 : ∀ (r : Fin 512) l, I.x4 (ix2 r l) = T.hi ⟨512 * t.val + r.val, by omega⟩ l
  x5 : ∀ (r : Fin 512) l, I.x5 (ix2 r l) = T.hg ⟨512 * t.val + r.val, by omega⟩ l

variable {I : Ins} {T : Toks} {t : Fin 16} {P : Past}

/-- A grid point's chunk among all chunks. -/
abbrev num (t : Fin 16) (k : Fin 8) : Fin 128 := ⟨8 * t.val + k.val, by omega⟩

/-- A token of a grid point's chunk, by its place in the grid point's block. -/
theorem tok_num (t : Fin 16) (k : Fin 8) (i : Fin 64) :
    (⟨512 * t.val + (64 * k.val + i.val), by omega⟩ : Fin 8192) = tok (num t k) i :=
  Fin.ext (by simp only []; omega)

/-- What a chunk reads, the states given. -/
theorem Ins.Reads.blk (H : I.Reads T t) (k : Fin 8) (s : Fin 8 → Vec Ideal S1x128x128 .f32) (S : St) (hs : ∀ h e d, s h (ix3 0 e d) = S h e d) :
    (I.blk k s).Reads T (num t k) S where
  lg0 := H.lg0
  lg1 := H.lg1
  og := H.og
  x2 i l := ((congrArg I.x2 (rows_emb k i l)).trans (H.x2 _ l)).trans (congrArg (T.hq · l) (tok_num t k i))
  x3 i l := ((congrArg I.x3 (rows_emb k i l)).trans (H.x3 _ l)).trans (congrArg (T.hf · l) (tok_num t k i))
  x4 i l := ((congrArg I.x4 (rows_emb k i l)).trans (H.x4 _ l)).trans (congrArg (T.hi · l) (tok_num t k i))
  x5 i l := ((congrArg I.x5 (rows_emb k i l)).trans (H.x5 _ l)).trans (congrArg (T.hg · l) (tok_num t k i))
  s := hs

/-- The recurrence's next state, chunk by chunk of a grid point. -/
theorem st_next (t : Fin 16) (k : Fin 8) : (T.chunk (num t k)).next (T.st (8 * t.val + k.val)) = T.st (8 * t.val + k.val + 1) := by
  rw [Toks.st, show (Fin.ofNat 128 (8 * t.val + k.val)) = num t k from Fin.ext (Nat.mod_eq_of_lt (by omega))]

/-- Every chunk of a grid point reads the recurrence's states. -/
theorem past_st (H : I.Reads T t) (HT : T.Fine) (hP : ∀ h e d, P.s h (ix3 0 e d) = T.st (8 * t.val) h e d) :
    ∀ k : ℕ, k < 8 → ∀ h e d, (past I P k).s h (ix3 0 e d) = T.st (8 * t.val + k) h e d
  | 0, _ => hP
  | k + 1, hk => fun h e d => by
    have ih := past_st H HT hP k (by omega)
    have hk' : Fin.ofNat 8 k = ⟨k, by omega⟩ := Fin.ext (Nat.mod_eq_of_lt (by omega))
    rw [past]
    refine states_stores _ _ (T.st (8 * t.val + (k + 1))) (fun h e d => ?_) h e d
    rw [hk', (H.blk ⟨k, by omega⟩ _ _ ih).sn HT h e d, st_next t ⟨k, by omega⟩]
    rfl

/-- What each chunk of a grid point reads. -/
theorem chunk_reads (H : I.Reads T t) (HT : T.Fine) (hP : ∀ h e d, P.s h (ix3 0 e d) = T.st (8 * t.val) h e d) (k : Fin 8) :
    (chunk I P k).Reads T (num t k) (T.st (num t k).val) :=
  H.blk k _ _ (past_st H HT hP k.val k.isLt)

/-! ## What a grid point leaves -/

/-- The chunks' rows of a block fill it. -/
theorem canon_rows {e : EltTy} (f : Fin 8 → S64x1024.Idx → Elt Ideal e) (G : Fin 8192 → Fin 1024 → Elt Ideal e)
    (hf : ∀ k i h d, f k (ix2 i (col h d)) = G (tok (num t k) i) (col h d)) (r : Fin 512) (l : Fin 1024) :
    View.canon (Val := Elt Ideal) (s := S512x1024) (heads fun k => ⟨rows k, f k⟩) (ix2 r l) = G ⟨512 * t.val + r.val, by omega⟩ l := by
  have hr : (⟨64 * (⟨r.val / 64, by omega⟩ : Fin 8).val + (⟨r.val % 64, by omega⟩ : Fin 64).val, by simp only []; omega⟩ : Fin 512) = r :=
    Fin.ext (by simp only []; omega)
  refine canon_heads (s := S512x1024) (fun y => G ⟨512 * t.val + (y 0).val, by have := (y 0).isLt; have : (y 0).val < 512 := this; omega⟩ (y 1))
    (fun k => ⟨rows k, f k⟩) [] (fun k x => ?_) (ix2 r l) ⟨⟨r.val / 64, by omega⟩, ?_⟩
  · idx_vars x
    have hl : x1 = col ⟨x1.val / 128, by omega⟩ ⟨x1.val % 128, by omega⟩ := Fin.ext (by simp only []; omega)
    rw [rows_emb]
    refine (congrArg (fun l => f k (ix2 x0 l)) hl).trans ?_
    refine (hf k x0 _ _).trans ?_
    rw [← hl, ← tok_num]
    rfl
  · have := emb_mem (rows ⟨r.val / 64, by omega⟩) (ix2 (⟨r.val % 64, by omega⟩ : Fin 64) l)
    rwa [rows_emb, hr] at this

/-- The chunks' saved states of a block fill it. -/
theorem canon_cells (f : Fin 8 → Fin 8 → S1x1x128x128.Idx → Elt Ideal .f32) (G : Fin 128 → St)
    (hf : ∀ k h e d, f k h (ix4 0 0 e d) = G (num t k) h e d) (h k : Fin 8) (e d : Fin 128) :
    View.canon (Val := Elt Ideal) (s := S8x8x128x128) (heads fun k => heads fun h => ⟨cell h k, f k h⟩).flatten (ix4 h k e d) = G (num t k) h e d := by
  refine View.canon_apply_of_pieces (fun y : S8x8x128x128.Idx => G (num t (y 1)) (y 0) (y 2) (y 3)) _ (fun q hq => ?_) (ix4 h k e d) ⟨⟨cell h k, f k h⟩, ?_, ?_⟩
  · obtain ⟨l, hl, hq⟩ := List.mem_flatten.mp hq
    have hk : ∃ k, l = heads fun h => (⟨cell h k, f k h⟩ : View.Piece (Elt Ideal) S8x8x128x128 .f32) := by
      simp only [List.mem_cons, List.not_mem_nil, or_false] at hl
      rcases hl with rfl | rfl | rfl | rfl | rfl | rfl | rfl | rfl <;> exact ⟨_, rfl⟩
    obtain ⟨k, rfl⟩ := hk
    have hh : ∃ h, q = (⟨cell h k, f k h⟩ : View.Piece (Elt Ideal) S8x8x128x128 .f32) := by
      simp only [List.mem_cons, List.not_mem_nil, or_false] at hq
      rcases hq with rfl | rfl | rfl | rfl | rfl | rfl | rfl | rfl <;> exact ⟨_, rfl⟩
    obtain ⟨h, rfl⟩ := hh
    intro x
    have hx : x = ix4 0 0 (x 2) (x 3) := by
      funext a
      fin_cases a
      · exact Subsingleton.elim (α := Fin 1) _ _
      · exact Subsingleton.elim (α := Fin 1) _ _
      · rfl
      · rfl
    rw [hx]
    refine (hf k h (x 2) (x 3)).trans ?_
    exact (congrArg (fun y : S8x8x128x128.Idx => G (num t (y 1)) (y 0) (y 2) (y 3)) (cell_emb h k (x 2) (x 3))).symm
  · refine List.mem_flatten.mpr ⟨heads fun h => ⟨cell h k, f k h⟩, ?_, ?_⟩
    · fin_cases k <;> simp
    · fin_cases h <;> simp
  · rw [← cell_emb]
    exact emb_mem _ _

/-- The three results and the states after a grid point, in either case. -/
structure Leaves (T : Toks) (t : Fin 16) (o6 : Vec Ideal S512x1024 .f32) (o7 : Vec Ideal S512x1024 .bf16) (o8 : Vec Ideal S8x8x128x128 .f32)
    (s : Vec Ideal S8x128x128 .f32) : Prop where
  raw : ∀ (r : Fin 512) l, o6 (ix2 r l) = T.RAW ⟨512 * t.val + r.val, by omega⟩ l
  y : ∀ (r : Fin 512) l, o7 (ix2 r l) = T.Y ⟨512 * t.val + r.val, by omega⟩ l
  sts : ∀ h k e d, o8 (ix4 h k e d) = T.st (8 * t.val + k.val) h e d
  next : ∀ h e d, s (ix3 h e d) = T.st (8 * (t.val + 1)) h e d

/-- Eight chunks' stores leave the recurrence's values. -/
theorem leaves (H : I.Reads T t) (HT : T.Fine) (hP : ∀ h e d, P.s h (ix3 0 e d) = T.st (8 * t.val) h e d)
    {o6 : Vec Ideal S512x1024 .f32} {o7 : Vec Ideal S512x1024 .bf16} {o8 : Vec Ideal S8x8x128x128 .f32} {s : Vec Ideal S8x128x128 .f32}
    (h6 : ∀ x, o6 x = View.canon (heads fun k => ⟨rows k, (chunk I P k).o⟩) x)
    (h7 : ∀ x, o7 x = View.canon (heads fun k => ⟨rows k, (chunk I P k).y⟩) x)
    (h8 : ∀ x, o8 x = View.canon (heads fun k => heads fun h => ⟨cell h k, (chunk I P k).sv h⟩).flatten x)
    (hs : ∀ x, s x = View.canon ((chunk I P 7).stores ++ (past I P (7 : Fin 8).val).L) x) : Leaves T t o6 o7 o8 s where
  raw r l := (h6 _).trans (canon_rows (t := t) (e := .f32) _ T.RAW (fun k i h d => ((chunk_reads H HT hP k).o HT i h d).trans (Toks.RAW_tok _ _ _ _ _).symm) r l)
  y r l := (h7 _).trans (canon_rows (t := t) (e := .bf16) _ T.Y (fun k i h d => ((chunk_reads H HT hP k).y HT i h d).trans (Toks.Y_tok _ _ _ _ _).symm) r l)
  sts h k e d := (h8 _).trans (canon_cells (t := t) _ (fun n => T.st n.val) (fun k h e d => (chunk_reads H HT hP k).sv h e d) h k e d)
  next h e d := by
    refine (hs _).trans (canon_stores _ _ (T.st (8 * (t.val + 1))) (fun h e d => ?_) h e d)
    rw [(chunk_reads H HT hP 7).sn HT h e d, st_next t 7]
    rfl

/-! ## The grid -/

variable (m : (ℓ : Loc nD τ sig) → Buf (Elt Ideal) ℓ)

/-- The arguments the launch finds. -/
abbrev args (c : Dev nD) : Toks :=
  toks (m ((c : Thread nD τ).loc main_arg0)) (m ((c : Thread nD τ).loc main_arg1)) (m ((c : Thread nD τ).loc main_arg2))

/-- Which blocks a grid point works on. -/
theorem idx : ∀ t : Fin cfg0.N, win0_0.index t = ![0, 0] ∧ win0_1.index t = ![0, 0] ∧ win0_2.index t = ![t.val, 3] ∧ win0_3.index t = ![t.val, 4]
    ∧ win0_4.index t = ![t.val, 5] ∧ win0_5.index t = ![t.val, 6] ∧ win0_6.index t = ![t.val, 0] ∧ win0_7.index t = ![t.val, 0] ∧ win0_8.index t = ![0, t.val, 0, 0] := by
  decide +kernel

/-- A grid point's number. -/
abbrev pt (t : Fin cfg0.N) : Fin 16 := ⟨t.val, lt_of_lt_of_eq t.isLt N_0⟩

/-- The blocks of a grid point. -/
abbrev ins (c : Dev nD) (t : Fin cfg0.N) : Ins := ⟨iblk m c 0 t, iblk m c 1 t, iblk m c 2 t, iblk m c 3 t, iblk m c 4 t, iblk m c 5 t⟩

/-- They hold its tokens. -/
theorem reads (c : Dev nD) (t : Fin cfg0.N) : (ins m c t).Reads (args m c) (pt t) := by
  refine ⟨?_, ?_, ?_, ?_, ?_, ?_, ?_⟩
  · intro l; simp only [args, toks]; blk_point [iblk, V, idx t]
  · intro l; simp only [args, toks]; blk_point [iblk, V, idx t]
  · intro l; simp only [args, toks]; blk_point [iblk, V, idx t]
  · intro r l; simp only [args, toks]; blk_point [iblk, V, idx t]
  · intro r l; simp only [args, toks]; blk_point [iblk, V, idx t]
  · intro r l; simp only [args, toks]; blk_point [iblk, V, idx t]
  · intro r l; simp only [args, toks]; blk_point [iblk, V, idx t]

/-- What a grid point leaves that begins with the fill. -/
theorem leaves_A {T : Toks} (HT : T.Fine) (c : Dev nD) (t : Fin cfg0.N) (I : Ins) (H : I.Reads T (pt t)) (h0 : t.val = 0) (h : cond0_0 (grid0.coords t)) :
    Leaves T (pt t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h I.lg I.og I.x2 I.x3 I.x4 I.x5)
      (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h I.lg I.og I.x2 I.x3 I.x4 I.x5)
      (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h I.lg I.og I.x2 I.x3 I.x4 I.x5)
      (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h I.lg I.og I.x2 I.x3 I.x4 I.x5) := by
  obtain ⟨h6, h7, h8, hs⟩ := (outs I c t).1 h
  refine leaves H HT (fun h e d => ?_) h6 h7 h8 hs
  rw [zeroed_apply, show (8 * (pt t).val) = 0 by simp only [h0]]
  rfl

/-- What a grid point leaves that begins with what the one before left. -/
theorem leaves_B {T : Toks} (HT : T.Fine) (c : Dev nD) (t : Fin cfg0.N) (I : Ins) (H : I.Reads T (pt t)) (X : Vec Ideal S8x128x128 .f32)
    (hX : ∀ h e d, X (ix3 h e d) = T.st (8 * t.val) h e d) (h : ¬cond0_0 (grid0.coords t)) :
    Leaves T (pt t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h I.lg I.og I.x2 I.x3 I.x4 I.x5 X)
      (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h I.lg I.og I.x2 I.x3 I.x4 I.x5 X)
      (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h I.lg I.og I.x2 I.x3 I.x4 I.x5 X)
      (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) h I.lg I.og I.x2 I.x3 I.x4 I.x5 X) := by
  obtain ⟨h6, h7, h8, hs⟩ := (outs I c t).2 h X
  exact leaves H HT (fun h e d => (before_apply _ h e d).trans (hX h e d)) h6 h7 h8 hs

/-- What the first grid point leaves. -/
theorem leaves_first (HT : ∀ c, (args m c).Fine) (c : Dev nD) (t : Fin cfg0.N) (h0 : t.val = 0) :
    Leaves (args m c) (pt t) (outsAt0 m c t.val t.isLt).1 (outsAt0 m c t.val t.isLt).2.1 (outsAt0 m c t.val t.isLt).2.2.1 (outsAt0 m c t.val t.isLt).2.2.2 := by
  have h : t.val % 16 = 0 := by rw [h0]
  rw [outsAt0_A m c t h]
  dsimp only
  exact leaves_A (HT c) c t (ins m c t) (reads m c t) h0 ((hcond0_0 t).mpr h)

/-- What a later grid point leaves, given what the one before left. -/
theorem leaves_next (HT : ∀ c, (args m c).Fine) (c : Dev nD) (t : Fin cfg0.N) (h0 : ¬t.val % 16 = 0)
    (ih : ∀ h e d, (outsAt0 m c (t.val - 1) (lt_of_le_of_lt (Nat.sub_le _ _) t.isLt)).2.2.2 (ix3 h e d) = (args m c).st (8 * t.val) h e d) :
    Leaves (args m c) (pt t) (outsAt0 m c t.val t.isLt).1 (outsAt0 m c t.val t.isLt).2.1 (outsAt0 m c t.val t.isLt).2.2.1 (outsAt0 m c t.val t.isLt).2.2.2 := by
  rw [outsAt0_B m c t h0]
  dsimp only
  exact leaves_B (HT c) c t (ins m c t) (reads m c t) _ ih (fun h => h0 ((hcond0_0 t).mp h))

/-- What every grid point leaves. -/
theorem leaves_all (HT : ∀ c, (args m c).Fine) (c : Dev nD) : ∀ (n : ℕ) (hn : n < cfg0.N),
    Leaves (args m c) (pt ⟨n, hn⟩) (outsAt0 m c n hn).1 (outsAt0 m c n hn).2.1 (outsAt0 m c n hn).2.2.1 (outsAt0 m c n hn).2.2.2
  | 0, hn => leaves_first m HT c ⟨0, hn⟩ rfl
  | n + 1, hn => leaves_next m HT c ⟨n + 1, hn⟩ (by
      have h := lt_of_lt_of_eq hn N_0
      show ¬(n + 1) % 16 = 0
      omega) (leaves_all HT c n (Nat.lt_of_succ_lt hn)).next

/-- The kernel's first result: the recurrence's outputs. -/
theorem final6 (HT : ∀ c, (args m c).Fine) (c : Dev nD) : (dats m 0 c).arrAt 6 cfg0.N = rawArr (args m c) := by
  refine (dats m 0 c).arrAt_eq_of_covers 6 _ (by decide +kernel) fun t hf y => ?_
  blk_simp
  rw [after0_6]
  idx_vars y
  refine ((leaves_all m HT c t.val t.isLt).raw y0 y1).trans ?_
  refine Eq.trans (show _ = rawArr (args m c) (ix2 ⟨512 * t.val + y0.val, _⟩ y1) from rfl) ?_
  generalize rawArr (args m c) = G
  blk_point [idx t]

/-- The kernel's second result: the gated outputs. -/
theorem final7 (HT : ∀ c, (args m c).Fine) (c : Dev nD) : (dats m 0 c).arrAt 7 cfg0.N = yArr (args m c) := by
  refine (dats m 0 c).arrAt_eq_of_covers 7 _ (by decide +kernel) fun t hf y => ?_
  blk_simp
  rw [after0_7]
  idx_vars y
  refine ((leaves_all m HT c t.val t.isLt).y y0 y1).trans ?_
  refine Eq.trans (show _ = yArr (args m c) (ix2 ⟨512 * t.val + y0.val, _⟩ y1) from rfl) ?_
  generalize yArr (args m c) = G
  blk_point [idx t]

/-- The kernel's third result: the states before every chunk. -/
theorem final8 (HT : ∀ c, (args m c).Fine) (c : Dev nD) : (dats m 0 c).arrAt 8 cfg0.N = stsArr (args m c) := by
  refine (dats m 0 c).arrAt_eq_of_covers 8 _ (by decide +kernel) fun t hf y => ?_
  blk_simp
  rw [after0_8]
  idx_vars y
  refine ((leaves_all m HT c t.val t.isLt).sts y0 y1 y2 y3).trans ?_
  refine Eq.trans (show _ = stsArr (args m c) (ix4 y0 (num (pt t) y1) y2 y3) from rfl) ?_
  generalize stsArr (args m c) = G
  blk_point [idx t]

end Cert.KernelFIdeal.Hgrn
-- ==== Proof.HgrnRef.lean ====
module

public import proofs.«01_k».proof.Proof.Gen.ReferenceFIdeal.Run
public import proofs.«01_k».proof.Proof.Hgrn

@[expose] public section

set_option maxRecDepth 16384

noncomputable section

open Idealize.ShloMosaic Idealize.ShloMosaic.TcCoe Idealize.SL.Sem
open Idealize.ShloMosaic.StableHlo Idealize.ShloMosaic.Pipeline

namespace Cert.ReferenceFIdeal.Hgrn

open Cert.ReferenceFIdeal Cert.ReferenceFIdeal.Gen Cert.ReferenceFIdeal.Value Cert.Hgrn

/-! ## Running sums -/

/-- A fold that adds is a sum. -/
theorem foldl_add {α : Type} (f : α → EReal) : ∀ (l : List α) (v : EReal), l.foldl (fun r n => r + f n) v = v + (l.map f).sum
  | [], v => by simp
  | a :: l, v => by rw [List.foldl_cons, foldl_add f l, List.map_cons, List.sum_cons, add_assoc]

/-- The sums over windows, entry by entry, from zero. -/
theorem window_apply {s t u : Shape} (window strides lo hi : Fin s.rank → Nat) (x : FVec Ideal s FTy.f32) (init : FVec Ideal u FTy.f32)
    (h : s.ReduceWindows window strides lo hi t) (hu : 0 < u.numel) (h0 : init (Shape.Idx.first hu) = (0 : EReal)) (j : t.Idx) :
    Host.reduceWindowAdd window strides lo hi x init h hu j = ∑ p : (⟨s.rank, window⟩ : Shape).Idx,
      if hin : ∀ a, lo a ≤ (j (a.cast h.1.symm)).val * strides a + (p a).val ∧ (j (a.cast h.1.symm)).val * strides a + (p a).val - lo a < s.size a
        then (x (fun a => ⟨(j (a.cast h.1.symm)).val * strides a + (p a).val - lo a, (hin a).2⟩) : EReal) else 0 := by
  unfold Host.reduceWindowAdd
  rw [Ideal.hostReduceWindowAdd_def, h0]
  unfold Ideal.hostReduceWindowAdd Host.reduceWindow
  refine (foldl_add _ _ _).trans ?_
  rw [zero_add, ← Fin.sum_univ_def]
  refine Eq.trans (Finset.sum_congr rfl fun n _ => ?_) (Equiv.sum_comp (⟨s.rank, window⟩ : Shape).rowMajor.symm _)
  exact dite_congr rfl (fun _ => rfl) (fun _ => rfl)

/-- The running sum along a chunk's tokens. -/
theorem cumsum_tokens (x : FVec Ideal S1x8x64x128 FTy.f32) (init : FVec Ideal S_ FTy.f32)
    (h : S1x8x64x128.ReduceWindows ![1, 1, 64, 1] ![1, 1, 1, 1] ![0, 0, 63, 0] ![0, 0, 0, 0] S1x8x64x128) (hu : 0 < S_.numel)
    (h0 : init (Shape.Idx.first hu) = (0 : EReal)) (hd : Fin 8) (i : Fin 64) (d : Fin 128) :
    Host.reduceWindowAdd ![1, 1, 64, 1] ![1, 1, 1, 1] ![0, 0, 63, 0] ![0, 0, 0, 0] x init h hu (ix4 0 hd i d) =
      ∑ j : Fin 64, if j ≤ i then (x (ix4 0 hd j d) : EReal) else 0 := by
  refine (window_apply _ _ _ _ x init h hu h0 _).trans ?_
  have hp : ∀ p : (⟨4, ![1, 1, 64, 1]⟩ : Shape).Idx, (p 0).val = 0 ∧ (p 1).val = 0 ∧ (p 2).val < 64 ∧ (p 3).val = 0 := fun p =>
    ⟨Nat.lt_one_iff.1 (p 0).isLt, Nat.lt_one_iff.1 (p 1).isLt, (p 2).isLt, Nat.lt_one_iff.1 (p 3).isLt⟩
  have hi := i.isLt
  let X : ℕ → EReal := fun n => if hn : n < 64 then x (ix4 0 hd ⟨n, hn⟩ d) else 0
  have e₁ : ∀ p : (⟨4, ![1, 1, 64, 1]⟩ : Shape).Idx, (if hin : ∀ a, (![0, 0, 63, 0] : Fin 4 → ℕ) a ≤ ((ix4 0 hd i d : S1x8x64x128.Idx) (a.cast h.1.symm)).val * (![1, 1, 1, 1] : Fin 4 → ℕ) a + (p a).val ∧ ((ix4 0 hd i d : S1x8x64x128.Idx) (a.cast h.1.symm)).val * (![1, 1, 1, 1] : Fin 4 → ℕ) a + (p a).val - (![0, 0, 63, 0] : Fin 4 → ℕ) a < S1x8x64x128.size a
        then (x (fun a => ⟨((ix4 0 hd i d : S1x8x64x128.Idx) (a.cast h.1.symm)).val * (![1, 1, 1, 1] : Fin 4 → ℕ) a + (p a).val - (![0, 0, 63, 0] : Fin 4 → ℕ) a, (hin a).2⟩) : EReal) else 0) =
      if 63 ≤ i.val + (p 2).val then X (i.val + (p 2).val - 63) else 0 := fun p => by
    obtain ⟨p0, p1, p2, p3⟩ := hp p
    split
    · next hin =>
      have h2 : 63 ≤ i.val * 1 + (p 2).val ∧ i.val * 1 + (p 2).val - 63 < 64 := hin 2
      rw [if_pos (by omega)]
      show _ = dite _ _ _
      rw [dif_pos (by omega)]
      refine congrArg x (funext fun a => Fin.ext ?_)
      match a with
      | ⟨0, _⟩ => show 0 * 1 + (p 0).val - 0 = 0; omega
      | ⟨1, _⟩ => show hd.val * 1 + (p 1).val - 0 = hd.val; omega
      | ⟨2, _⟩ => show i.val * 1 + (p 2).val - 63 = i.val + (p 2).val - 63; omega
      | ⟨3, _⟩ => show d.val * 1 + (p 3).val - 0 = d.val; omega
    · next hin =>
      rw [if_neg fun hle => hin fun a => by
        match a with
        | ⟨0, _⟩ => show 0 ≤ 0 * 1 + (p 0).val ∧ 0 * 1 + (p 0).val - 0 < 1; omega
        | ⟨1, _⟩ => show 0 ≤ hd.val * 1 + (p 1).val ∧ hd.val * 1 + (p 1).val - 0 < 8; omega
        | ⟨2, _⟩ => show 63 ≤ i.val * 1 + (p 2).val ∧ i.val * 1 + (p 2).val - 63 < 64; omega
        | ⟨3, _⟩ => show 0 ≤ d.val * 1 + (p 3).val ∧ d.val * 1 + (p 3).val - 0 < 128; omega]
  refine (Finset.sum_congr rfl fun p _ => e₁ p).trans ?_
  rw [← Finset.sum_filter, ← Finset.sum_filter]
  refine Finset.sum_bij' (fun p _ => ⟨i.val + (p 2).val - 63, by have := hp p; omega⟩)
    (fun j _ => (ix4 0 0 ⟨(63 + j.val - i.val) % 64, Nat.mod_lt _ (by omega)⟩ 0 : (⟨4, ![1, 1, 64, 1]⟩ : Shape).Idx)) ?_ ?_ ?_ ?_ ?_
  · intro p hq
    have hq' := (Finset.mem_filter.1 hq).2
    exact Finset.mem_filter.2 ⟨Finset.mem_univ _, Fin.le_def.2 (by have := hp p; show i.val + (p 2).val - 63 ≤ i.val; omega)⟩
  · intro j hq
    have hq' := Fin.le_def.1 (Finset.mem_filter.1 hq).2
    exact Finset.mem_filter.2 ⟨Finset.mem_univ _, by show 63 ≤ i.val + (63 + j.val - i.val) % 64; omega⟩
  · intro p hq
    have hq' := (Finset.mem_filter.1 hq).2
    obtain ⟨p0, p1, p2, p3⟩ := hp p
    refine funext fun a => Fin.ext ?_
    match a with
    | ⟨0, _⟩ => show 0 = (p 0).val; omega
    | ⟨1, _⟩ => show 0 = (p 1).val; omega
    | ⟨2, _⟩ => show (63 + (i.val + (p 2).val - 63) - i.val) % 64 = (p 2).val; omega
    | ⟨3, _⟩ => show 0 = (p 3).val; omega
  · intro j hq
    have hq' := Fin.le_def.1 (Finset.mem_filter.1 hq).2
    refine Fin.ext ?_
    show i.val + (63 + j.val - i.val) % 64 - 63 = j.val
    omega
  · intro p hq
    show dite _ _ _ = _
    rw [dif_pos (by have := hp p; omega)]

/-- The first row of the running sum over the two layers is the first layer's. -/
theorem cumsum_layer (x : FVec Ideal S2x1024 FTy.f32) (init : FVec Ideal S_ FTy.f32)
    (h : S2x1024.ReduceWindows ![2, 1] ![1, 1] ![1, 0] ![0, 0] S2x1024) (hu : 0 < S_.numel)
    (h0 : init (Shape.Idx.first hu) = (0 : EReal)) (l : Fin 1024) :
    Host.reduceWindowAdd ![2, 1] ![1, 1] ![1, 0] ![0, 0] x init h hu (ix2 0 l) = (x (ix2 0 l) : EReal) := by
  refine (window_apply _ _ _ _ x init h hu h0 _).trans ?_
  have hp : ∀ p : (⟨2, ![2, 1]⟩ : Shape).Idx, (p 0).val < 2 ∧ (p 1).val = 0 := fun p =>
    ⟨(p 0).isLt, Nat.lt_one_iff.1 (p 1).isLt⟩
  refine (Finset.sum_eq_single (ix2 1 0 : (⟨2, ![2, 1]⟩ : Shape).Idx) (fun p _ hne => dif_neg fun hin => hne ?_) fun hn => absurd (Finset.mem_univ _) hn).trans ?_
  · have h2 : 1 ≤ 0 * 1 + (p 0).val := (hin 0).1
    have := hp p
    refine funext fun a => Fin.ext ?_
    match a with
    | ⟨0, _⟩ => show (p 0).val = 1; omega
    | ⟨1, _⟩ => show (p 1).val = 0; omega
  · rw [dif_pos fun a => by
      match a with
      | ⟨0, _⟩ => show 1 ≤ 0 * 1 + 1 ∧ 0 * 1 + 1 - 1 < 2; omega
      | ⟨1, _⟩ => show 0 ≤ l.val * 1 + 0 ∧ l.val * 1 + 0 - 0 < 1024; omega]
    refine congrArg x (funext fun a => Fin.ext ?_)
    match a with
    | ⟨0, _⟩ => rfl
    | ⟨1, _⟩ => show l.val * 1 + 0 - 0 = l.val; omega

/-! ## Before the loop -/

variable (m : (ℓ : Loc nD τ sig) → Buf (Elt Ideal) ℓ)

/-- What the branch reads. -/
abbrev args (c : Dev nD) : Toks :=
  toks (m ((c.tc : Thread nD τ).loc main_arg0)) (m ((c.tc : Thread nD τ).loc main_arg1)) (m ((c.tc : Thread nD τ).loc main_arg2))

/-- The two layers' softmax. -/
def softmax (lg : FVec Ideal S2x1024 FTy.f32) : FVec Ideal S2x1024 FTy.f32 :=
  let x : FVec Ideal S2x1024 FTy.f32 := Host.exp (subf lg (broadcastInDim S2x1024 ![0, 1] bcast_S1x1024_S2x1024_0_1
    (broadcastInDim S1x1024 ![1] bcast_S1024_S1x1024_1
      (maximumf (broadcastInDim S1024 ![] bcast_S_S1024 (constant S_ FTy.f32 4286578688#32))
        (Host.reduce (max : EReal → EReal → EReal) lg (constant S_ FTy.f32 4286578688#32) reducesTo_S2x1024_S1024_d0 h_S_)))))
  Host.divf x (broadcastInDim S2x1024 ![0, 1] bcast_S1x1024_S2x1024_0_1 (broadcastInDim S1x1024 ![1] bcast_S1024_S1x1024_1
    (Host.reduceAdd x (constant S_ FTy.f32 0#32) reducesTo_S2x1024_S1024_d0 h_S_)))

/-- The forget gates' lower bound is the running sum's first row. -/
theorem lb_eq (lg : FVec Ideal S2x1024 FTy.f32) (z og) (l : Fin 1024) :
    Host.reduceWindowAdd ![2, 1] ![1, 1] ![1, 0] ![0, 0] (softmax lg) (broadcastInDim S_ ![] bcast_S_S_ (constant S_ FTy.f32 0#32))
      reduceWindows_S2x1024_S2x1024_w2s1p1_0_w1s1p0_0 h_S_ (ix2 0 l) = (toks z lg og).lb l := by
  rw [cumsum_layer _ _ _ _ (by pointwise)]
  pointwise [softmax]
  rw [fold2, wBot, max_bot_left, Fin.sum_univ_two]
  rfl

/-- The values before the loop. -/
theorem entry_v (c : Dev nD) (n : Fin 128) (h : Fin 8) (i : Fin 64) (d : Fin 128) :
    entryContents preI m c (Proc.devRef .tc main_v57_2) (ix5 n 0 h i d) = ((args m c).chunk n).v i (col h d) := by
  simp only [entryContents, preI, afterL_cons, afterL_nil, hostOps0, hostOps0_1, hostOps0_2, hostOps0_3, hostOps0_4]
  after_results_simp_entrywise
  simp -implicitDefEqProofs only [TRef.toBuf, TRef.ofBuf, cast_cast, cast_eq, id_eq]
  pointwise
  exact congrArg (m ((c.tc : Thread nD τ).loc main_arg0)) (congrArg₂ (ix3 0) (Fin.ext (by simp only []; omega)) (Fin.ext (by simp only []; omega)))

/-- The queries before the loop. -/
theorem entry_q (c : Dev nD) (n : Fin 128) (h : Fin 8) (i : Fin 64) (d : Fin 128) :
    entryContents preI m c (Proc.devRef .tc main_v57_0) (ix5 n 0 h i d) = ((args m c).chunk n).q i (col h d) := by
  simp only [entryContents, preI, afterL_cons, afterL_nil, hostOps0, hostOps0_1, hostOps0_2, hostOps0_3, hostOps0_4]
  after_results_simp_entrywise
  simp -implicitDefEqProofs only [TRef.toBuf, TRef.ofBuf, cast_cast, cast_eq, id_eq]
  pointwise
  have hx : launchContents m c (Proc.devRef .tc main_arg0) (ix3 0 ⟨n.val * 64 + i.val, by omega⟩ ⟨3072 + (h.val * 128 + d.val), by omega⟩) = (args m c).hq (tok n i) (col h d) :=
    congrArg (m ((c.tc : Thread nD τ).loc main_arg0)) (congrArg₂ (ix3 0) (Fin.ext (by simp only []; omega)) (Fin.ext (by simp only []; omega)))
  rw [hx]
  rfl

/-- The logarithms of the forget gates before the loop. -/
theorem entry_lf (c : Dev nD) (n : Fin 128) (h : Fin 8) (i : Fin 64) (d : Fin 128) :
    entryContents preI m c (Proc.devRef .tc main_v57_3) (ix5 n 0 h i d) = ((args m c).chunk n).lf i (col h d) := by
  have hl : (⟨h.val * 128 + d.val, by omega⟩ : Fin 1024) = col h d := Fin.ext (by simp only []; omega)
  have hx : launchContents m c (Proc.devRef .tc main_arg0) (ix3 0 ⟨n.val * 64 + i.val, by omega⟩ ⟨3072 + (1024 + (h.val * 128 + d.val)), by omega⟩) = (args m c).hf (tok n i) (col h d) :=
    congrArg (m ((c.tc : Thread nD τ).loc main_arg0)) (congrArg₂ (ix3 0) (Fin.ext (by simp only []; omega)) (Fin.ext (by simp only []; omega)))
  simp only [entryContents, preI, afterL_cons, afterL_nil, hostOps0, hostOps0_1, hostOps0_2, hostOps0_3, hostOps0_4]
  after_results_simp_entrywise
  simp -implicitDefEqProofs only [TRef.toBuf, TRef.ofBuf, cast_cast, cast_eq, id_eq]
  pointwise
  have hb : _ = (args m c).lb (col h d) := lb_eq (launchContents m c (Proc.devRef .tc main_arg1)) (m ((c.tc : Thread nD τ).loc main_arg0)) (m ((c.tc : Thread nD τ).loc main_arg2)) (col h d)
  dsimp only [softmax] at hb
  rw [hl, hx, hb]
  rfl

/-- The keys before the loop. -/
theorem entry_k (c : Dev nD) (n : Fin 128) (h : Fin 8) (i : Fin 64) (d : Fin 128) :
    entryContents preI m c (Proc.devRef .tc main_v57_1) (ix5 n 0 h i d) = ((args m c).chunk n).k i (col h d) := by
  have hl : (⟨h.val * 128 + d.val, by omega⟩ : Fin 1024) = col h d := Fin.ext (by simp only []; omega)
  have hx : launchContents m c (Proc.devRef .tc main_arg0) (ix3 0 ⟨n.val * 64 + i.val, by omega⟩ ⟨3072 + (1024 + (h.val * 128 + d.val)), by omega⟩) = (args m c).hf (tok n i) (col h d) :=
    congrArg (m ((c.tc : Thread nD τ).loc main_arg0)) (congrArg₂ (ix3 0) (Fin.ext (by simp only []; omega)) (Fin.ext (by simp only []; omega)))
  simp only [entryContents, preI, afterL_cons, afterL_nil, hostOps0, hostOps0_1, hostOps0_2, hostOps0_3, hostOps0_4]
  after_results_simp_entrywise
  simp -implicitDefEqProofs only [TRef.toBuf, TRef.ofBuf, cast_cast, cast_eq, id_eq]
  pointwise
  have hb : _ = (args m c).lb (col h d) := lb_eq (launchContents m c (Proc.devRef .tc main_arg1)) (m ((c.tc : Thread nD τ).loc main_arg0)) (m ((c.tc : Thread nD τ).loc main_arg2)) (col h d)
  dsimp only [softmax] at hb
  rw [hl, hx, hb]
  rfl

/-- The states before the loop. -/
theorem entry_s (c : Dev nD) (h : Fin 8) (d e : Fin 128) :
    entryContents preI m c (Proc.devRef .tc main_v57_5) (ix4 0 h d e) = (0 : EReal) := by
  simp only [entryContents, preI, afterL_cons, afterL_nil, hostOps0, hostOps0_1, hostOps0_2, hostOps0_3, hostOps0_4]
  after_results_simp_entrywise
  simp -implicitDefEqProofs only [TRef.toBuf, TRef.ofBuf, cast_cast, cast_eq, id_eq]
  pointwise

/-- A chunk of the stacked tokens. -/
theorem slice_at {α : Type} {p q : ℕ} (x : (⟨5, ![128, 1, 8, p, q]⟩ : Shape).Idx → α) (start : Fin 5 → ℤ)
    (hf : (⟨5, ![128, 1, 8, p, q]⟩ : Shape).Slices (fun _ => 0) ⟨5, ![1, 1, 8, p, q]⟩) (n : Fin 128)
    (hs : start = ![(n.val : ℤ), 0, 0, 0, 0]) (h : Fin 8) (i : Fin p) (d : Fin q) :
    Host.dynamicSlice ⟨5, ![1, 1, 8, p, q]⟩ x start hf (ix5 0 0 h i d) = x (ix5 n 0 h i d) := by
  have hn := n.isLt
  have h0 : start 0 = n.val := congrFun hs 0
  have h1 : start 1 = 0 := congrFun hs 1
  have h2 : start 2 = 0 := congrFun hs 2
  have h3 : start 3 = 0 := congrFun hs 3
  have h4 : start 4 = 0 := congrFun hs 4
  refine congrArg x (funext fun a => Fin.ext ?_)
  match a with
  | ⟨0, _⟩ => show Host.clampedStart _ _ hf.1 start 0 + 0 = n.val; rw [Host.clampedStart_of_le hf.1 start 0 n.val h0 (by show n.val + 1 ≤ 128; omega), add_zero]
  | ⟨1, _⟩ => show Host.clampedStart _ _ hf.1 start 1 + 0 = 0; rw [Host.clampedStart_of_le hf.1 start 1 0 h1 (by show 0 + 1 ≤ 1; omega)]
  | ⟨2, _⟩ => show Host.clampedStart _ _ hf.1 start 2 + h.val = h.val; rw [Host.clampedStart_of_le hf.1 start 2 0 h2 (by show 0 + 8 ≤ 8; omega), zero_add]
  | ⟨3, _⟩ => show Host.clampedStart _ _ hf.1 start 3 + i.val = i.val; rw [Host.clampedStart_of_le hf.1 start 3 0 h3 (by show 0 + p ≤ p; omega), zero_add]
  | ⟨4, _⟩ => show Host.clampedStart _ _ hf.1 start 4 + d.val = d.val; rw [Host.clampedStart_of_le hf.1 start 4 0 h4 (by show 0 + q ≤ q; omega), zero_add]

/-- The stacked results with one chunk's written. -/
theorem update_at {α : Type} {p q : ℕ} (x : (⟨5, ![128, 1, 8, p, q]⟩ : Shape).Idx → α) (u : (⟨5, ![1, 1, 8, p, q]⟩ : Shape).Idx → α) (start : Fin 5 → ℤ)
    (hf : (⟨5, ![128, 1, 8, p, q]⟩ : Shape).Slices (fun _ => 0) ⟨5, ![1, 1, 8, p, q]⟩) (n : Fin 128)
    (hs : start = ![(n.val : ℤ), 0, 0, 0, 0]) (r : Fin 128) (h : Fin 8) (i : Fin p) (d : Fin q) :
    Host.dynamicUpdateSlice x u start hf (ix5 r 0 h i d) = if r = n then u (ix5 0 0 h i d) else x (ix5 r 0 h i d) := by
  have hn := n.isLt
  have h0 : start 0 = n.val := congrFun hs 0
  have h1 : start 1 = 0 := congrFun hs 1
  have h2 : start 2 = 0 := congrFun hs 2
  have h3 : start 3 = 0 := congrFun hs 3
  have h4 : start 4 = 0 := congrFun hs 4
  have c0 : Host.clampedStart ⟨5, ![128, 1, 8, p, q]⟩ ⟨5, ![1, 1, 8, p, q]⟩ hf.1 start 0 = n.val := Host.clampedStart_of_le hf.1 start 0 n.val h0 (by show n.val + 1 ≤ 128; omega)
  have c1 : Host.clampedStart ⟨5, ![128, 1, 8, p, q]⟩ ⟨5, ![1, 1, 8, p, q]⟩ hf.1 start 1 = 0 := Host.clampedStart_of_le hf.1 start 1 0 h1 (by show 0 + 1 ≤ 1; omega)
  have c2 : Host.clampedStart ⟨5, ![128, 1, 8, p, q]⟩ ⟨5, ![1, 1, 8, p, q]⟩ hf.1 start 2 = 0 := Host.clampedStart_of_le hf.1 start 2 0 h2 (by show 0 + 8 ≤ 8; omega)
  have c3 : Host.clampedStart ⟨5, ![128, 1, 8, p, q]⟩ ⟨5, ![1, 1, 8, p, q]⟩ hf.1 start 3 = 0 := Host.clampedStart_of_le hf.1 start 3 0 h3 (by show 0 + p ≤ p; omega)
  have c4 : Host.clampedStart ⟨5, ![128, 1, 8, p, q]⟩ ⟨5, ![1, 1, 8, p, q]⟩ hf.1 start 4 = 0 := Host.clampedStart_of_le hf.1 start 4 0 h4 (by show 0 + q ≤ q; omega)
  rw [Host.dynamicUpdateSlice_apply]
  split
  · next hin =>
    have h0' : Host.clampedStart ⟨5, ![128, 1, 8, p, q]⟩ ⟨5, ![1, 1, 8, p, q]⟩ hf.1 start 0 ≤ r.val ∧ r.val < Host.clampedStart ⟨5, ![128, 1, 8, p, q]⟩ ⟨5, ![1, 1, 8, p, q]⟩ hf.1 start 0 + 1 := hin 0
    rw [c0] at h0'
    rw [if_pos (Fin.ext (by omega))]
    refine congrArg u (funext fun a => Fin.ext ?_)
    match a with
    | ⟨0, _⟩ => show r.val - Host.clampedStart ⟨5, ![128, 1, 8, p, q]⟩ ⟨5, ![1, 1, 8, p, q]⟩ hf.1 start 0 = 0; omega
    | ⟨1, _⟩ => show 0 - Host.clampedStart ⟨5, ![128, 1, 8, p, q]⟩ ⟨5, ![1, 1, 8, p, q]⟩ hf.1 start 1 = 0; omega
    | ⟨2, _⟩ => show h.val - Host.clampedStart ⟨5, ![128, 1, 8, p, q]⟩ ⟨5, ![1, 1, 8, p, q]⟩ hf.1 start 2 = h.val; omega
    | ⟨3, _⟩ => show i.val - Host.clampedStart ⟨5, ![128, 1, 8, p, q]⟩ ⟨5, ![1, 1, 8, p, q]⟩ hf.1 start 3 = i.val; omega
    | ⟨4, _⟩ => show d.val - Host.clampedStart ⟨5, ![128, 1, 8, p, q]⟩ ⟨5, ![1, 1, 8, p, q]⟩ hf.1 start 4 = d.val; omega
  · next hin =>
    rw [if_neg fun hr => hin fun a => by
      have hh := h.isLt
      have hi := i.isLt
      have hd := d.isLt
      match a with
      | ⟨0, _⟩ => show Host.clampedStart ⟨5, ![128, 1, 8, p, q]⟩ ⟨5, ![1, 1, 8, p, q]⟩ hf.1 start 0 ≤ r.val ∧ r.val < Host.clampedStart ⟨5, ![128, 1, 8, p, q]⟩ ⟨5, ![1, 1, 8, p, q]⟩ hf.1 start 0 + 1; rw [c0, hr]; omega
      | ⟨1, _⟩ => show Host.clampedStart ⟨5, ![128, 1, 8, p, q]⟩ ⟨5, ![1, 1, 8, p, q]⟩ hf.1 start 1 ≤ 0 ∧ 0 < Host.clampedStart ⟨5, ![128, 1, 8, p, q]⟩ ⟨5, ![1, 1, 8, p, q]⟩ hf.1 start 1 + 1; omega
      | ⟨2, _⟩ => show Host.clampedStart ⟨5, ![128, 1, 8, p, q]⟩ ⟨5, ![1, 1, 8, p, q]⟩ hf.1 start 2 ≤ h.val ∧ h.val < Host.clampedStart ⟨5, ![128, 1, 8, p, q]⟩ ⟨5, ![1, 1, 8, p, q]⟩ hf.1 start 2 + 8; omega
      | ⟨3, _⟩ => show Host.clampedStart ⟨5, ![128, 1, 8, p, q]⟩ ⟨5, ![1, 1, 8, p, q]⟩ hf.1 start 3 ≤ i.val ∧ i.val < Host.clampedStart ⟨5, ![128, 1, 8, p, q]⟩ ⟨5, ![1, 1, 8, p, q]⟩ hf.1 start 3 + p; omega
      | ⟨4, _⟩ => show Host.clampedStart ⟨5, ![128, 1, 8, p, q]⟩ ⟨5, ![1, 1, 8, p, q]⟩ hf.1 start 4 ≤ d.val ∧ d.val < Host.clampedStart ⟨5, ![128, 1, 8, p, q]⟩ ⟨5, ![1, 1, 8, p, q]⟩ hf.1 start 4 + q; omega]

/-- A chunk without its leading axis. -/
theorem cast_at {α : Type} (x : S1x1x8x64x128.Idx → α) (hc : S1x1x8x64x128.ShapeCasts S1x8x64x128) (h : Fin 8) (i : Fin 64) (d : Fin 128) :
    shapeCast S1x8x64x128 x hc (ix4 0 h i d) = x (ix5 0 0 h i d) := by
  pointwise

/-- The counter as a number. -/
theorem ctr_int : ∀ n : Fin 128, (BitVec.ofNat 32 n.val).toInt = n.val := by decide +kernel

variable {V0 : Valuation τ sig (Elt Ideal)}

/-- What a trip of the loop finds: its chunk and the states before it. -/
structure Finds (C : Chunk) (S : St) (n : Fin 128) (V0 : Valuation τ sig (Elt Ideal)) : Prop where
  ctr : V0 (Proc.devRef .tc main_v57_4) = fun _ => BitVec.ofNat 32 n.val
  q : ∀ h i d, V0 (Proc.devRef .tc main_v57_0) (ix5 n 0 h i d) = C.q i (col h d)
  k : ∀ h i d, V0 (Proc.devRef .tc main_v57_1) (ix5 n 0 h i d) = C.k i (col h d)
  v : ∀ h i d, V0 (Proc.devRef .tc main_v57_2) (ix5 n 0 h i d) = C.v i (col h d)
  lf : ∀ h i d, V0 (Proc.devRef .tc main_v57_3) (ix5 n 0 h i d) = C.lf i (col h d)
  s : ∀ h d e, V0 (Proc.devRef .tc main_v57_5) (ix4 0 h d e) = S h e d

variable {C : Chunk} {S : St} {n : Fin 128} (H : Finds C S n V0)

include H

/-- Where the trip's blocks begin. -/
theorem start_at : ((fun k => ((![V0 (Proc.devRef .tc main_v57_4), constantI S_ 32 0#32, constantI S_ 32 0#32, constantI S_ 32 0#32, constantI S_ 32 0#32] : Fin 5 → IVec S_ 32) k (Shape.Idx.first h_S_)).toInt) : Fin 5 → ℤ) =
    ![(n.val : ℤ), 0, 0, 0, 0] := by
  rw [H.ctr]
  funext k
  match k with
  | 0 => exact ctr_int n
  | 1 => rfl
  | 2 => rfl
  | 3 => rfl
  | 4 => rfl

/-- The trip's queries. -/
theorem v84 (h : Fin 8) (i : Fin 64) (d : Fin 128) : res_main_while0b_v84 V0 (ix4 0 h i d) = C.q i (col h d) := by
  rw [← H.q]
  exact (cast_at _ _ h i d).trans (slice_at _ _ sliceFits_S128x1x8x64x128_S1x1x8x64x128 n (start_at H) h i d)

/-- The trip's keys. -/
theorem v85 (h : Fin 8) (i : Fin 64) (d : Fin 128) : res_main_while0b_v85 V0 (ix4 0 h i d) = C.k i (col h d) := by
  rw [← H.k]
  exact (cast_at _ _ h i d).trans (slice_at _ _ sliceFits_S128x1x8x64x128_S1x1x8x64x128 n (start_at H) h i d)

/-- The trip's values. -/
theorem v86 (h : Fin 8) (i : Fin 64) (d : Fin 128) : res_main_while0b_v86 V0 (ix4 0 h i d) = C.v i (col h d) := by
  rw [← H.v]
  exact (cast_at _ _ h i d).trans (slice_at _ _ sliceFits_S128x1x8x64x128_S1x1x8x64x128 n (start_at H) h i d)

/-- The logarithms of the trip's decays. -/
theorem v88 (h : Fin 8) (i : Fin 64) (d : Fin 128) : res_main_while0b_v88 V0 (ix4 0 h i d) = C.b i (col h d) := by
  refine (cumsum_tokens _ _ _ _ (by pointwise) h i d).trans ?_
  rw [Chunk.b]
  refine Finset.sum_congr rfl fun j _ => ?_
  refine if_congr Iff.rfl ?_ rfl
  rw [← H.lf]
  exact (cast_at _ _ h j d).trans (slice_at _ _ sliceFits_S128x1x8x64x128_S1x1x8x64x128 n (start_at H) h j d)

/-- The logarithm of the trip's whole decay. -/
theorem v113 (h : Fin 8) (d : Fin 128) : res_main_while0b_v113 V0 (ix3 0 h d) = C.b 63 (col h d) := by
  rw [← v88 H]
  pointwise [res_main_while0b_v113]

/-- The states after the trip. -/
theorem step5 (h : Fin 8) (d e : Fin 128) : step_main_v57_5 V0 (ix4 0 h d e) = C.next S h e d := by
  simp only [step_main_v57_5, id_eq]
  pointwise
  simp only [v85 H, v86 H, v88 H, v113 H, H.s]
  rw [Chunk.next, mul_comm (G := EReal) (Ideal.exp _)]
  refine congrArg _ (Finset.sum_congr rfl fun j _ => mul_comm (G := EReal) _ _)

/-- The trip's outputs. -/
theorem step6 (r : Fin 128) (h : Fin 8) (i : Fin 64) (e : Fin 128) :
    step_main_v57_6 V0 (ix5 r 0 h i e) = if r = n then C.o S i h e else V0 (Proc.devRef .tc main_v57_6) (ix5 r 0 h i e) := by
  refine (update_at _ _ _ updateFits_S128x1x8x64x128_S1x1x8x64x128 n (start_at H) r h i e).trans ?_
  refine if_congr Iff.rfl ?_ rfl
  pointwise
  have h92 : ∀ j : Fin 64, res_main_while0b_v92 V0 (ix1 j) = BitVec.ofNat 32 j.val := fun j => rfl
  have hbot : id (constant (F := Ideal) S_ FTy.f32 4286578688#32) ix0 = (⊥ : EReal) := wBot
  simp only [v84 H, v85 H, v86 H, v88 H, H.s, h92, le_bit, hbot]
  rw [Chunk.o]
  refine congrArg _ (Finset.sum_congr rfl fun j _ => congrArg (· * _) ?_)
  rw [← C.w_eq]
  refine Finset.sum_congr rfl fun d _ => ?_
  rw [mul_comm (G := EReal) (C.k _ _)]
  refine congrArg (· * _) (congrArg _ (congrArg Ideal.exp ?_))
  by_cases hj : j ≤ i
  · rw [if_pos hj, if_pos hj]; rfl
  · rw [if_neg hj, if_neg hj]; rfl

/-- The states the trip found. -/
theorem step7 (r : Fin 128) (h : Fin 8) (d e : Fin 128) :
    step_main_v57_7 V0 (ix5 r 0 h d e) = if r = n then S h e d else V0 (Proc.devRef .tc main_v57_7) (ix5 r 0 h d e) := by
  refine (update_at _ _ _ updateFits_S128x1x8x128x128_S1x1x8x128x128 n (start_at H) r h d e).trans ?_
  refine if_congr Iff.rfl ?_ rfl
  rw [← H.s]
  pointwise

omit H

/-! ## The loop -/

/-- What the loop holds before its trip `k`. -/
theorem loop (c : Dev nD) : ∀ k : ℕ, k ≤ 128 →
    (∀ n h i d, (STEP^[k] (entryContents preI m c)) (Proc.devRef .tc main_v57_0) (ix5 n 0 h i d) = ((args m c).chunk n).q i (col h d)) ∧
    (∀ n h i d, (STEP^[k] (entryContents preI m c)) (Proc.devRef .tc main_v57_1) (ix5 n 0 h i d) = ((args m c).chunk n).k i (col h d)) ∧
    (∀ n h i d, (STEP^[k] (entryContents preI m c)) (Proc.devRef .tc main_v57_2) (ix5 n 0 h i d) = ((args m c).chunk n).v i (col h d)) ∧
    (∀ n h i d, (STEP^[k] (entryContents preI m c)) (Proc.devRef .tc main_v57_3) (ix5 n 0 h i d) = ((args m c).chunk n).lf i (col h d)) ∧
    (∀ h d e, (STEP^[k] (entryContents preI m c)) (Proc.devRef .tc main_v57_5) (ix4 0 h d e) = (args m c).st k h e d) ∧
    (∀ (r : Fin 128) h i e, r.val < k → (STEP^[k] (entryContents preI m c)) (Proc.devRef .tc main_v57_6) (ix5 r 0 h i e) = (args m c).raw r i h e) ∧
    (∀ (r : Fin 128) h d e, r.val < k → (STEP^[k] (entryContents preI m c)) (Proc.devRef .tc main_v57_7) (ix5 r 0 h d e) = (args m c).st r.val h e d)
  | 0, _ => ⟨fun n h i d => entry_q m c n h i d, fun n h i d => entry_k m c n h i d, fun n h i d => entry_v m c n h i d,
      fun n h i d => entry_lf m c n h i d, fun h d e => entry_s m c h d e, fun r _ _ _ hr => absurd hr (Nat.not_lt_zero _),
      fun r _ _ _ hr => absurd hr (Nat.not_lt_zero _)⟩
  | k + 1, hk => by
    obtain ⟨hq, hk', hv, hlf, hs, ho, hst⟩ := loop c k (Nat.le_of_succ_le hk)
    have hctr : (STEP^[k] (entryContents preI m c)) (Proc.devRef .tc main_v57_4) = fun _ => BitVec.ofNat 32 k := by
      rw [← (atK_agree m c k) main_v57_4 (by decide), atK_ctr]
      funext _
      simp [Scf.iv]
    rw [Function.iterate_succ_apply']
    generalize STEP^[k] (entryContents preI m c) = V0 at *
    have H : Finds ((args m c).chunk ⟨k, hk⟩) ((args m c).st k) ⟨k, hk⟩ V0 :=
      ⟨hctr, hq _, hk' _, hv _, hlf _, hs⟩
    have hn : (Fin.ofNat 128 k) = ⟨k, hk⟩ := Fin.ext (Nat.mod_eq_of_lt hk)
    refine ⟨?_, ?_, ?_, ?_, ?_, ?_, ?_⟩
    · rw [STEP_main_v57_0]; exact hq
    · rw [STEP_main_v57_1]; exact hk'
    · rw [STEP_main_v57_2]; exact hv
    · rw [STEP_main_v57_3]; exact hlf
    · intro h d e
      rw [STEP_main_v57_5, step5 H, Toks.st, hn]
    · intro r h i e hr
      rw [STEP_main_v57_6, step6 H]
      split
      · next hrk => rw [hrk]; rfl
      · next hrk => exact ho r h i e (lt_of_le_of_ne (Nat.lt_succ_iff.1 hr) fun he => hrk (Fin.ext he))
    · intro r h d e hr
      rw [STEP_main_v57_7, step7 H]
      split
      · next hrk => rw [hrk]
      · next hrk => exact hst r h d e (lt_of_le_of_ne (Nat.lt_succ_iff.1 hr) fun he => hrk (Fin.ext he))

/-! ## After the loop -/

/-- The recurrence's outputs. -/
theorem out79 (T : Toks) (V0 : Valuation τ sig (Elt Ideal)) (ho : ∀ r h i e, V0 (Proc.devRef .tc main_v57_6) (ix5 r 0 h i e) = T.raw r i h e) :
    out_main_v79 V0 = rawArr T := by
  funext y
  idx_vars y
  pointwise [out_main_v79]
  exact ho _ _ _ _

set_option maxHeartbeats 4000000 in
/-- The gated outputs. -/
theorem out81 (T : Toks) (V0 : Valuation τ sig (Elt Ideal)) (ho : ∀ r h i e, V0 (Proc.devRef .tc main_v57_6) (ix5 r 0 h i e) = T.raw r i h e)
    (hz : ∀ r (l : Fin 1024), V0 (Proc.devRef .tc main_arg0) (ix3 0 r ⟨6144 + l.val, by omega⟩) = T.hg r l)
    (hg : ∀ l, V0 (Proc.devRef .tc main_arg2) (ix2 0 l) = T.og l) :
    out_main_v81 V0 = yArr T := by
  funext y
  idx_vars y
  pointwise [out_main_v81]
  simp only [ho, hz, hg]
  have ht : tok ⟨y0.val / 64, by omega⟩ ⟨y0.val % 64, by omega⟩ = y0 := Fin.ext (by simp only []; omega)
  have hl : col ⟨y1.val / 128, by omega⟩ ⟨y1.val % 128, by omega⟩ = y1 := Fin.ext (by simp only []; omega)
  show _ = T.y ⟨y0.val / 64, by omega⟩ ⟨y0.val % 64, by omega⟩ ⟨y1.val / 128, by omega⟩ ⟨y1.val % 128, by omega⟩
  rw [Toks.y, Toks.ms, ht, hl]
  simp only [Ideal.logistic]

/-- The states before every chunk. -/
theorem out83 (T : Toks) (V0 : Valuation τ sig (Elt Ideal)) (ho : ∀ (r : Fin 128) h d e, V0 (Proc.devRef .tc main_v57_7) (ix5 r 0 h d e) = T.st r.val h e d) :
    out_main_v83 V0 = stsArr T := by
  funext y
  idx_vars y
  pointwise [out_main_v83]
  exact ho _ _ _ _

variable (ρ : Dev nD → PrngReg)

/-- What the reference program computes. -/
theorem run_value : θ_run (defs (F := Ideal)) (onTc (τ := τ) (main (F := Ideal))) ⟨m, fun _ => 0, ρ⟩ fun r => ∀ c : Dev nD,
    r.2.mem ((c.tc : Thread nD τ).loc main_v79) = rawArr (args m c)
    ∧ r.2.mem ((c.tc : Thread nD τ).loc main_v81) = yArr (args m c)
    ∧ r.2.mem ((c.tc : Thread nD τ).loc main_v83) = stsArr (args m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (run m ρ)
  obtain ⟨-, -, -, -, -, ho, hs⟩ := loop m c 128 (le_refl _)
  refine ⟨(h c).1.trans (out79 _ _ fun r h i e => ho r h i e r.isLt), (h c).2.1.trans (out81 _ _ (fun r h i e => ho r h i e r.isLt) ?_ ?_),
    (h c).2.2.1.trans (out83 _ _ fun r h d e => hs r h d e r.isLt), (h c).2.2.2⟩
  · intro r l
    rw [iter_main_arg0]
    rfl
  · intro l
    rw [iter_main_arg2]
    rfl

end Cert.ReferenceFIdeal.Hgrn
-- ==== Proof.Small.lean ====
module

public import proofs.«01_k».proof.Proof.Gen.KernelSIdeal.Value
public import proofs.«01_k».proof.Proof.Gen.ReferenceSIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.StableHlo Idealize.ShloMosaic.Pipeline

namespace Cert.Adam

/-- The optimiser's new first moment of a gradient `g`. -/
def mom (m g : EReal) : EReal := Ideal.ofBits FTy.f32 0x3F666666#32 * m + Ideal.ofBits FTy.f32 0x3DCCCCCD#32 * g

/-- The optimiser's new second moment of a gradient `g`. -/
def sq (v g : EReal) : EReal := Ideal.ofBits FTy.f32 0x3F7FBE77#32 * v + Ideal.ofBits FTy.f32 0x3A83126F#32 * (g * g)

/-- The optimiser's step of a weight `w`. -/
def step (w g m v : EReal) : EReal := Ideal.ofBits FTy.f32 0xBA83126F#32 *
  (Ideal.div (Ideal.div (mom m g) (Ideal.ofBits FTy.f32 0x3F26BD02#32))
    (Ideal.sqrt (Ideal.div (sq v g) (Ideal.ofBits FTy.f32 0x3C231ACC#32)) + Ideal.ofBits FTy.f32 0x322BCC77#32)
    + Ideal.ofBits FTy.f32 0x3C23D70A#32 * w)

variable {S : Shape}

/-- The new first moments of an array of gradients. -/
def Mom (m g : FVec Ideal S .f32) : FVec Ideal S .f32 := fun y => mom (m y) (g y)

/-- The new second moments of an array of gradients. -/
def Sq (v g : FVec Ideal S .f32) : FVec Ideal S .f32 := fun y => sq (v y) (g y)

/-- The steps of an array of weights. -/
def Step (w g m v : FVec Ideal S .f32) : FVec Ideal S .f32 := fun y => step (w y) (g y) (m y) (v y)

/-- The step of equal operands is equal. -/
theorem step_congr {w w' g g' m m' v v' : EReal} (h1 : w = w') (h2 : g = g') (h3 : m = m') (h4 : v = v') :
    step w g m v = step w' g' m' v' := by rw [h1, h2, h3, h4]

/-- An array as one row. -/
def Flat {n : ℕ} (x : FVec Ideal ⟨1, ![n]⟩ .f32) : FVec Ideal ⟨2, ![1, n]⟩ .f32 := fun y => x (ix1 (y 1))

end Cert.Adam
namespace Cert.KernelSIdeal.Small

open Cert.KernelSIdeal Cert.KernelSIdeal.Gen Cert.Adam
open Idealize.ShloMosaic.Pipeline (Dat)

/-- A gradient's row, stored as it was read. -/
theorem pay_g (g : Vec Ideal S1x1024 .f32) (i : Fin 1) (k : Fin 1024) : k0_pay1 (F := Ideal) g (ix2 i k) = g (ix2 i k) := by
  pointwise [k0_pay1]

/-- The stored first moment. -/
theorem pay_m (g m : Vec Ideal S1x1024 .f32) (i : Fin 1) (k : Fin 1024) : k0_pay2 (F := Ideal) g m (ix2 i k) = mom (m (ix2 i k)) (g (ix2 i k)) := by
  pointwise [k0_pay2]
  rw [pay_g]
  rfl

/-- The stored second moment. -/
theorem pay_v (g v : Vec Ideal S1x1024 .f32) (i : Fin 1) (k : Fin 1024) : k0_pay3 (F := Ideal) g v (ix2 i k) = sq (v (ix2 i k)) (g (ix2 i k)) := by
  pointwise [k0_pay3]
  rw [pay_g]
  rfl

/-- The stored step. -/
theorem pay_step (g w m v : Vec Ideal S1x1024 .f32) (i : Fin 1) (k : Fin 1024) :
    k0_pay4 (F := Ideal) g w m v (ix2 i k) = step (w (ix2 i k)) (g (ix2 i k)) (m (ix2 i k)) (v (ix2 i k)) := by
  pointwise [k0_pay4]
  rw [pay_m, pay_v]
  rfl

/-- Reading one row of the 64 packed ones. -/
theorem at_row (r : Fin 64) (B : Vec Ideal S64x1024 .f32) (h : ∀ a, (![r.val, 0] : Fin 2 → ℕ) a + S1x1024.size a ≤ S64x1024.size a) (y0 : Fin 1)
    (y1 : Fin 1024) : View.ld B (Rect.unit (s := S64x1024) ![r.val, 0] S1x1024.size h) (ix2 y0 y1) = B (ix2 r y1) := by
  refine congrArg B (?_ : _ = ix2 r y1)
  funext j; refine Fin.ext ?_
  fin_cases j
  · show r.val + 1 * (y0 : ℕ) = r.val; omega
  · show 0 + 1 * (y1 : ℕ) = (y1 : ℕ); omega

variable (m : (ℓ : Loc nD τ sig) → Buf (Elt Ideal) ℓ) (c : Dev nD)

/-- Every window is the whole array. -/
theorem idx (t : Fin cfg0.N) : win0_0.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![0, 0] ∧ win0_20.index t = ![0, 0]
    ∧ win0_21.index t = ![0, 0] ∧ win0_22.index t = ![0, 0] ∧ win0_23.index t = ![0, 0] := by
  obtain rfl := fin_N0 t; decide +kernel

/-- The three gradients' rows of the packed array. -/
theorem rows (k : Fin 1024) :
    V m c main_v3 (ix2 16 k) = m ((c : Thread nD τ).loc main_arg2) (ix2 0 k)
    ∧ V m c main_v3 (ix2 8 k) = m ((c : Thread nD τ).loc main_arg3) (ix2 0 k)
    ∧ V m c main_v3 (ix2 9 k) = m ((c : Thread nD τ).loc main_arg4) (ix2 0 k) := by
  refine ⟨?_, ?_, ?_⟩
  all_goals
    simp only [V, hostOps0]
    after_results_simp
    pointwise

/-- The kernel's block of the packed array. -/
theorem packed (t : Fin cfg0.N) (r : Fin 64) (k : Fin 1024) : iblk m c 0 t (ix2 r k) = V m c main_v3 (ix2 r k) := by
  dsimp only [iblk]
  generalize V m c main_v3 = G
  blk_point [idx t]

/-- What the kernel reads as the three gradients. -/
theorem grads (t : Fin cfg0.N) (y0 : Fin 1) (y1 : Fin 1024) :
    View.ld (iblk m c 0 t) r0_0 (ix2 y0 y1) = m ((c : Thread nD τ).loc main_arg2) (ix2 y0 y1)
    ∧ View.ld (iblk m c 0 t) r0_2 (ix2 y0 y1) = m ((c : Thread nD τ).loc main_arg3) (ix2 y0 y1)
    ∧ View.ld (iblk m c 0 t) r0_3 (ix2 y0 y1) = m ((c : Thread nD τ).loc main_arg4) (ix2 y0 y1) := by
  obtain rfl := Subsingleton.elim y0 0
  obtain ⟨h1, h2, h3⟩ := rows m c y1
  exact ⟨(at_row 16 _ _ _ _).trans ((packed m c t 16 y1).trans h1), (at_row 8 _ _ _ _).trans ((packed m c t 8 y1).trans h2),
    (at_row 9 _ _ _ _).trans ((packed m c t 9 y1).trans h3)⟩

/-- What the kernel leaves of the first parameter: its gradient, step and moments. -/
theorem first :
    (dats m 0 c).arrAt 12 cfg0.N = m ((c : Thread nD τ).loc main_arg2)
    ∧ (dats m 0 c).arrAt 13 cfg0.N = Step (S := S1x1024) (m ((c : Thread nD τ).loc main_arg5)) (m ((c : Thread nD τ).loc main_arg2))
        (m ((c : Thread nD τ).loc main_arg8)) (m ((c : Thread nD τ).loc main_arg11))
    ∧ (dats m 0 c).arrAt 14 cfg0.N = Mom (S := S1x1024) (m ((c : Thread nD τ).loc main_arg8)) (m ((c : Thread nD τ).loc main_arg2))
    ∧ (dats m 0 c).arrAt 15 cfg0.N = Sq (S := S1x1024) (m ((c : Thread nD τ).loc main_arg11)) (m ((c : Thread nD τ).loc main_arg2)) := by
  refine ⟨?_, ?_, ?_, ?_⟩ <;> refine (dats m 0 c).arrAt_eq_of_covers _ _ (by decide +kernel) fun t hf y => ?_ <;> blk_simp <;>
    [rw [after0_12]; rw [after0_13]; rw [after0_14]; rw [after0_15]] <;> frame_out <;> idx_vars y <;> have hg := (grads m c t y0 y1).1
  · refine (pay_g _ _ _).trans (hg.trans ?_)
    blk_point [idx t]
  · refine (pay_step _ _ _ _ _ _).trans (step_congr ?_ (hg.trans ?_) ?_ ?_) <;> blk_point [iblk, V, idx t]
  · refine (pay_m _ _ _ _).trans (congrArg₂ mom ?_ (hg.trans ?_)) <;> blk_point [iblk, V, idx t]
  · refine (pay_v _ _ _ _).trans (congrArg₂ sq ?_ (hg.trans ?_)) <;> blk_point [iblk, V, idx t]

/-- What the kernel leaves of the second parameter. -/
theorem second :
    (dats m 0 c).arrAt 16 cfg0.N = m ((c : Thread nD τ).loc main_arg3)
    ∧ (dats m 0 c).arrAt 17 cfg0.N = Step (S := S1x1024) (m ((c : Thread nD τ).loc main_arg6)) (m ((c : Thread nD τ).loc main_arg3))
        (m ((c : Thread nD τ).loc main_arg9)) (m ((c : Thread nD τ).loc main_arg12))
    ∧ (dats m 0 c).arrAt 18 cfg0.N = Mom (S := S1x1024) (m ((c : Thread nD τ).loc main_arg9)) (m ((c : Thread nD τ).loc main_arg3))
    ∧ (dats m 0 c).arrAt 19 cfg0.N = Sq (S := S1x1024) (m ((c : Thread nD τ).loc main_arg12)) (m ((c : Thread nD τ).loc main_arg3)) := by
  refine ⟨?_, ?_, ?_, ?_⟩ <;> refine (dats m 0 c).arrAt_eq_of_covers _ _ (by decide +kernel) fun t hf y => ?_ <;> blk_simp <;>
    [rw [after0_16]; rw [after0_17]; rw [after0_18]; rw [after0_19]] <;> frame_out <;> idx_vars y <;> have hg := (grads m c t y0 y1).2.1
  · refine (pay_g _ _ _).trans (hg.trans ?_)
    blk_point [idx t]
  · refine (pay_step _ _ _ _ _ _).trans (step_congr ?_ (hg.trans ?_) ?_ ?_) <;> blk_point [iblk, V, idx t]
  · refine (pay_m _ _ _ _).trans (congrArg₂ mom ?_ (hg.trans ?_)) <;> blk_point [iblk, V, idx t]
  · refine (pay_v _ _ _ _).trans (congrArg₂ sq ?_ (hg.trans ?_)) <;> blk_point [iblk, V, idx t]

/-- What the kernel leaves of the third parameter. -/
theorem third :
    (dats m 0 c).arrAt 20 cfg0.N = m ((c : Thread nD τ).loc main_arg4)
    ∧ (dats m 0 c).arrAt 21 cfg0.N = Step (S := S1x1024) (m ((c : Thread nD τ).loc main_arg7)) (m ((c : Thread nD τ).loc main_arg4))
        (m ((c : Thread nD τ).loc main_arg10)) (m ((c : Thread nD τ).loc main_arg13))
    ∧ (dats m 0 c).arrAt 22 cfg0.N = Mom (S := S1x1024) (m ((c : Thread nD τ).loc main_arg10)) (m ((c : Thread nD τ).loc main_arg4))
    ∧ (dats m 0 c).arrAt 23 cfg0.N = Sq (S := S1x1024) (m ((c : Thread nD τ).loc main_arg13)) (m ((c : Thread nD τ).loc main_arg4)) := by
  refine ⟨?_, ?_, ?_, ?_⟩ <;> refine (dats m 0 c).arrAt_eq_of_covers _ _ (by decide +kernel) fun t hf y => ?_ <;> blk_simp <;>
    [rw [after0_20]; rw [after0_21]; rw [after0_22]; rw [after0_23]] <;> frame_out <;> idx_vars y <;> have hg := (grads m c t y0 y1).2.2
  · refine (pay_g _ _ _).trans (hg.trans ?_)
    blk_point [idx t]
  · refine (pay_step _ _ _ _ _ _).trans (step_congr ?_ (hg.trans ?_) ?_ ?_) <;> blk_point [iblk, V, idx t]
  · refine (pay_m _ _ _ _).trans (congrArg₂ mom ?_ (hg.trans ?_)) <;> blk_point [iblk, V, idx t]
  · refine (pay_v _ _ _ _).trans (congrArg₂ sq ?_ (hg.trans ?_)) <;> blk_point [iblk, V, idx t]

end Cert.KernelSIdeal.Small

namespace Cert.ReferenceSIdeal.Small

open Cert.ReferenceSIdeal Cert.ReferenceSIdeal.Gen Cert.ReferenceSIdeal.Value Cert.Adam

variable (m : (ℓ : Loc nD τ sig) → Buf (Elt Ideal) ℓ)

/-- The reference's run: for each parameter its gradient, step and moments; the arguments stay. -/
theorem run_value (ρ : Dev nD → PrngReg) :
    θ_run defs (onTc (τ := τ) (main (F := Ideal))) ⟨m, fun _ => 0, ρ⟩ fun r => ∀ c : Dev nD,
      r.2.mem ((c.tc : Thread nD τ).loc main_arg2) = m ((c.tc : Thread nD τ).loc main_arg2)
      ∧ r.2.mem ((c.tc : Thread nD τ).loc main_v23) = Step (S := S1x1024) (m ((c.tc : Thread nD τ).loc main_arg5)) (m ((c.tc : Thread nD τ).loc main_arg2))
          (m ((c.tc : Thread nD τ).loc main_arg8)) (m ((c.tc : Thread nD τ).loc main_arg11))
      ∧ r.2.mem ((c.tc : Thread nD τ).loc main_v4) = Mom (S := S1x1024) (m ((c.tc : Thread nD τ).loc main_arg8)) (m ((c.tc : Thread nD τ).loc main_arg2))
      ∧ r.2.mem ((c.tc : Thread nD τ).loc main_v10) = Sq (S := S1x1024) (m ((c.tc : Thread nD τ).loc main_arg11)) (m ((c.tc : Thread nD τ).loc main_arg2))
      ∧ r.2.mem ((c.tc : Thread nD τ).loc main_arg3) = m ((c.tc : Thread nD τ).loc main_arg3)
      ∧ r.2.mem ((c.tc : Thread nD τ).loc main_v47) = Step (S := S1x1024) (m ((c.tc : Thread nD τ).loc main_arg6)) (m ((c.tc : Thread nD τ).loc main_arg3))
          (m ((c.tc : Thread nD τ).loc main_arg9)) (m ((c.tc : Thread nD τ).loc main_arg12))
      ∧ r.2.mem ((c.tc : Thread nD τ).loc main_v28) = Mom (S := S1x1024) (m ((c.tc : Thread nD τ).loc main_arg9)) (m ((c.tc : Thread nD τ).loc main_arg3))
      ∧ r.2.mem ((c.tc : Thread nD τ).loc main_v34) = Sq (S := S1x1024) (m ((c.tc : Thread nD τ).loc main_arg12)) (m ((c.tc : Thread nD τ).loc main_arg3))
      ∧ r.2.mem ((c.tc : Thread nD τ).loc main_arg4) = m ((c.tc : Thread nD τ).loc main_arg4)
      ∧ r.2.mem ((c.tc : Thread nD τ).loc main_v71) = Step (S := S1x1024) (m ((c.tc : Thread nD τ).loc main_arg7)) (m ((c.tc : Thread nD τ).loc main_arg4))
          (m ((c.tc : Thread nD τ).loc main_arg10)) (m ((c.tc : Thread nD τ).loc main_arg13))
      ∧ r.2.mem ((c.tc : Thread nD τ).loc main_v52) = Mom (S := S1x1024) (m ((c.tc : Thread nD τ).loc main_arg10)) (m ((c.tc : Thread nD τ).loc main_arg4))
      ∧ r.2.mem ((c.tc : Thread nD τ).loc main_v58) = Sq (S := S1x1024) (m ((c.tc : Thread nD τ).loc main_arg13)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r hr c => ?_) (run m ρ)
  obtain ⟨h0, h1, h2, h3, h4, h5, h6, h7, h8, h9, h10, h11, ha⟩ := hr c
  refine ⟨h0, h1.trans ?_, h2.trans ?_, h3.trans ?_, h4, h5.trans ?_, h6.trans ?_, h7.trans ?_, h8, h9.trans ?_, h10.trans ?_, h11.trans ?_, ha⟩
  all_goals
    funext y
    idx_vars y
    pointwise
    rfl

end Cert.ReferenceSIdeal.Small

end
-- ==== Proof.SmallU.lean ====
module

public import proofs.«01_k».proof.Proof.Small
public import proofs.«01_k».proof.Proof.Gen.KernelUIdeal.Value
public import proofs.«01_k».proof.Proof.Gen.ReferenceUIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.StableHlo Idealize.ShloMosaic.Pipeline

namespace Cert.KernelUIdeal.Small

open Cert.KernelUIdeal Cert.KernelUIdeal.Gen Cert.Adam Cert.KernelSIdeal.Small
open Idealize.ShloMosaic.Pipeline (Dat)

variable (m : (ℓ : Loc nD τ sig) → Buf (Elt Ideal) ℓ) (c : Dev nD)

/-- Every window is the whole array. -/
theorem idx (t : Fin cfg0.N) : win0_0.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] ∧ win0_15.index t = ![0, 0]
    ∧ win0_16.index t = ![0, 0] ∧ win0_17.index t = ![0, 0] ∧ win0_18.index t = ![0, 0] ∧ win0_19.index t = ![0, 0] ∧ win0_20.index t = ![0, 0]
    ∧ win0_21.index t = ![0, 0] ∧ win0_22.index t = ![0, 0] ∧ win0_23.index t = ![0, 0] := by
  obtain rfl := fin_N0 t; decide +kernel

/-- The three gradients' rows of the packed array. -/
theorem rows (k : Fin 1024) :
    V m c main_v3 (ix2 10 k) = m ((c : Thread nD τ).loc main_arg2) (ix2 0 k)
    ∧ V m c main_v3 (ix2 11 k) = m ((c : Thread nD τ).loc main_arg3) (ix2 0 k)
    ∧ V m c main_v3 (ix2 24 k) = m ((c : Thread nD τ).loc main_arg4) (ix2 0 k) := by
  refine ⟨?_, ?_, ?_⟩
  all_goals
    simp only [V, hostOps0]
    after_results_simp
    pointwise

/-- The kernel's block of the packed array. -/
theorem packed (t : Fin cfg0.N) (r : Fin 64) (k : Fin 1024) : iblk m c 0 t (ix2 r k) = V m c main_v3 (ix2 r k) := by
  dsimp only [iblk]
  generalize V m c main_v3 = G
  blk_point [idx t]

/-- What the kernel reads as the three gradients. -/
theorem grads (t : Fin cfg0.N) (y0 : Fin 1) (y1 : Fin 1024) :
    View.ld (iblk m c 0 t) r0_0 (ix2 y0 y1) = m ((c : Thread nD τ).loc main_arg2) (ix2 y0 y1)
    ∧ View.ld (iblk m c 0 t) r0_2 (ix2 y0 y1) = m ((c : Thread nD τ).loc main_arg3) (ix2 y0 y1)
    ∧ View.ld (iblk m c 0 t) r0_3 (ix2 y0 y1) = m ((c : Thread nD τ).loc main_arg4) (ix2 y0 y1) := by
  obtain rfl := Subsingleton.elim y0 0
  obtain ⟨h1, h2, h3⟩ := rows m c y1
  exact ⟨(at_row 10 _ _ _ _).trans ((packed m c t 10 y1).trans h1), (at_row 11 _ _ _ _).trans ((packed m c t 11 y1).trans h2),
    (at_row 24 _ _ _ _).trans ((packed m c t 24 y1).trans h3)⟩

/-- What the kernel leaves of the first parameter: its gradient, step and moments. -/
theorem first :
    (dats m 0 c).arrAt 12 cfg0.N = m ((c : Thread nD τ).loc main_arg2)
    ∧ (dats m 0 c).arrAt 13 cfg0.N = Step (S := S1x1024) (m ((c : Thread nD τ).loc main_arg5)) (m ((c : Thread nD τ).loc main_arg2))
        (m ((c : Thread nD τ).loc main_arg8)) (m ((c : Thread nD τ).loc main_arg11))
    ∧ (dats m 0 c).arrAt 14 cfg0.N = Mom (S := S1x1024) (m ((c : Thread nD τ).loc main_arg8)) (m ((c : Thread nD τ).loc main_arg2))
    ∧ (dats m 0 c).arrAt 15 cfg0.N = Sq (S := S1x1024) (m ((c : Thread nD τ).loc main_arg11)) (m ((c : Thread nD τ).loc main_arg2)) := by
  refine ⟨?_, ?_, ?_, ?_⟩ <;> refine (dats m 0 c).arrAt_eq_of_covers _ _ (by decide +kernel) fun t hf y => ?_ <;> blk_simp <;>
    [rw [after0_12]; rw [after0_13]; rw [after0_14]; rw [after0_15]] <;> frame_out <;> idx_vars y <;> have hg := (grads m c t y0 y1).1
  · refine (pay_g _ _ _).trans (hg.trans ?_)
    blk_point [idx t]
  · refine (pay_step _ _ _ _ _ _).trans (step_congr ?_ (hg.trans ?_) ?_ ?_) <;> blk_point [iblk, V, idx t]
  · refine (pay_m _ _ _ _).trans (congrArg₂ mom ?_ (hg.trans ?_)) <;> blk_point [iblk, V, idx t]
  · refine (pay_v _ _ _ _).trans (congrArg₂ sq ?_ (hg.trans ?_)) <;> blk_point [iblk, V, idx t]

/-- What the kernel leaves of the second parameter. -/
theorem second :
    (dats m 0 c).arrAt 16 cfg0.N = m ((c : Thread nD τ).loc main_arg3)
    ∧ (dats m 0 c).arrAt 17 cfg0.N = Step (S := S1x1024) (m ((c : Thread nD τ).loc main_arg6)) (m ((c : Thread nD τ).loc main_arg3))
        (m ((c : Thread nD τ).loc main_arg9)) (m ((c : Thread nD τ).loc main_arg12))
    ∧ (dats m 0 c).arrAt 18 cfg0.N = Mom (S := S1x1024) (m ((c : Thread nD τ).loc main_arg9)) (m ((c : Thread nD τ).loc main_arg3))
    ∧ (dats m 0 c).arrAt 19 cfg0.N = Sq (S := S1x1024) (m ((c : Thread nD τ).loc main_arg12)) (m ((c : Thread nD τ).loc main_arg3)) := by
  refine ⟨?_, ?_, ?_, ?_⟩ <;> refine (dats m 0 c).arrAt_eq_of_covers _ _ (by decide +kernel) fun t hf y => ?_ <;> blk_simp <;>
    [rw [after0_16]; rw [after0_17]; rw [after0_18]; rw [after0_19]] <;> frame_out <;> idx_vars y <;> have hg := (grads m c t y0 y1).2.1
  · refine (pay_g _ _ _).trans (hg.trans ?_)
    blk_point [idx t]
  · refine (pay_step _ _ _ _ _ _).trans (step_congr ?_ (hg.trans ?_) ?_ ?_) <;> blk_point [iblk, V, idx t]
  · refine (pay_m _ _ _ _).trans (congrArg₂ mom ?_ (hg.trans ?_)) <;> blk_point [iblk, V, idx t]
  · refine (pay_v _ _ _ _).trans (congrArg₂ sq ?_ (hg.trans ?_)) <;> blk_point [iblk, V, idx t]

/-- What the kernel leaves of the third parameter. -/
theorem third :
    (dats m 0 c).arrAt 20 cfg0.N = m ((c : Thread nD τ).loc main_arg4)
    ∧ (dats m 0 c).arrAt 21 cfg0.N = Step (S := S1x1024) (m ((c : Thread nD τ).loc main_arg7)) (m ((c : Thread nD τ).loc main_arg4))
        (m ((c : Thread nD τ).loc main_arg10)) (m ((c : Thread nD τ).loc main_arg13))
    ∧ (dats m 0 c).arrAt 22 cfg0.N = Mom (S := S1x1024) (m ((c : Thread nD τ).loc main_arg10)) (m ((c : Thread nD τ).loc main_arg4))
    ∧ (dats m 0 c).arrAt 23 cfg0.N = Sq (S := S1x1024) (m ((c : Thread nD τ).loc main_arg13)) (m ((c : Thread nD τ).loc main_arg4)) := by
  refine ⟨?_, ?_, ?_, ?_⟩ <;> refine (dats m 0 c).arrAt_eq_of_covers _ _ (by decide +kernel) fun t hf y => ?_ <;> blk_simp <;>
    [rw [after0_20]; rw [after0_21]; rw [after0_22]; rw [after0_23]] <;> frame_out <;> idx_vars y <;> have hg := (grads m c t y0 y1).2.2
  · refine (pay_g _ _ _).trans (hg.trans ?_)
    blk_point [idx t]
  · refine (pay_step _ _ _ _ _ _).trans (step_congr ?_ (hg.trans ?_) ?_ ?_) <;> blk_point [iblk, V, idx t]
  · refine (pay_m _ _ _ _).trans (congrArg₂ mom ?_ (hg.trans ?_)) <;> blk_point [iblk, V, idx t]
  · refine (pay_v _ _ _ _).trans (congrArg₂ sq ?_ (hg.trans ?_)) <;> blk_point [iblk, V, idx t]

end Cert.KernelUIdeal.Small

namespace Cert.ReferenceUIdeal.Small

open Cert.ReferenceUIdeal Cert.ReferenceUIdeal.Gen Cert.ReferenceUIdeal.Value Cert.Adam

variable (m : (ℓ : Loc nD τ sig) → Buf (Elt Ideal) ℓ)

/-- The reference's run: for each parameter its gradient, step and moments; the arguments stay. -/
theorem run_value (ρ : Dev nD → PrngReg) :
    θ_run defs (onTc (τ := τ) (main (F := Ideal))) ⟨m, fun _ => 0, ρ⟩ fun r => ∀ c : Dev nD,
      r.2.mem ((c.tc : Thread nD τ).loc main_arg2) = m ((c.tc : Thread nD τ).loc main_arg2)
      ∧ r.2.mem ((c.tc : Thread nD τ).loc main_v23) = Step (S := S1x1024) (m ((c.tc : Thread nD τ).loc main_arg5)) (m ((c.tc : Thread nD τ).loc main_arg2))
          (m ((c.tc : Thread nD τ).loc main_arg8)) (m ((c.tc : Thread nD τ).loc main_arg11))
      ∧ r.2.mem ((c.tc : Thread nD τ).loc main_v4) = Mom (S := S1x1024) (m ((c.tc : Thread nD τ).loc main_arg8)) (m ((c.tc : Thread nD τ).loc main_arg2))
      ∧ r.2.mem ((c.tc : Thread nD τ).loc main_v10) = Sq (S := S1x1024) (m ((c.tc : Thread nD τ).loc main_arg11)) (m ((c.tc : Thread nD τ).loc main_arg2))
      ∧ r.2.mem ((c.tc : Thread nD τ).loc main_arg3) = m ((c.tc : Thread nD τ).loc main_arg3)
      ∧ r.2.mem ((c.tc : Thread nD τ).loc main_v47) = Step (S := S1x1024) (m ((c.tc : Thread nD τ).loc main_arg6)) (m ((c.tc : Thread nD τ).loc main_arg3))
          (m ((c.tc : Thread nD τ).loc main_arg9)) (m ((c.tc : Thread nD τ).loc main_arg12))
      ∧ r.2.mem ((c.tc : Thread nD τ).loc main_v28) = Mom (S := S1x1024) (m ((c.tc : Thread nD τ).loc main_arg9)) (m ((c.tc : Thread nD τ).loc main_arg3))
      ∧ r.2.mem ((c.tc : Thread nD τ).loc main_v34) = Sq (S := S1x1024) (m ((c.tc : Thread nD τ).loc main_arg12)) (m ((c.tc : Thread nD τ).loc main_arg3))
      ∧ r.2.mem ((c.tc : Thread nD τ).loc main_arg4) = m ((c.tc : Thread nD τ).loc main_arg4)
      ∧ r.2.mem ((c.tc : Thread nD τ).loc main_v71) = Step (S := S1x1024) (m ((c.tc : Thread nD τ).loc main_arg7)) (m ((c.tc : Thread nD τ).loc main_arg4))
          (m ((c.tc : Thread nD τ).loc main_arg10)) (m ((c.tc : Thread nD τ).loc main_arg13))
      ∧ r.2.mem ((c.tc : Thread nD τ).loc main_v52) = Mom (S := S1x1024) (m ((c.tc : Thread nD τ).loc main_arg10)) (m ((c.tc : Thread nD τ).loc main_arg4))
      ∧ r.2.mem ((c.tc : Thread nD τ).loc main_v58) = Sq (S := S1x1024) (m ((c.tc : Thread nD τ).loc main_arg13)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run defs _ _).mono (fun r hr c => ?_) (run m ρ)
  obtain ⟨h0, h1, h2, h3, h4, h5, h6, h7, h8, h9, h10, h11, ha⟩ := hr c
  refine ⟨h0, h1.trans ?_, h2.trans ?_, h3.trans ?_, h4, h5.trans ?_, h6.trans ?_, h7.trans ?_, h8, h9.trans ?_, h10.trans ?_, h11.trans ?_, ha⟩
  all_goals
    funext y
    idx_vars y
    pointwise
    rfl

end Cert.ReferenceUIdeal.Small

end
-- ==== Proof.SmallW.lean ====
module

public import proofs.«01_k».proof.Proof.Small
public import proofs.«01_k».proof.Proof.Gen.KernelWIdeal.Value
public import proofs.«01_k».proof.Proof.Gen.ReferenceWIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.StableHlo Idealize.ShloMosaic.Pipeline

namespace Cert.KernelWIdeal.Small

open Cert.KernelWIdeal Cert.KernelWIdeal.Gen Cert.Adam Cert.KernelSIdeal.Small
open Idealize.ShloMosaic.Pipeline (Dat)

variable (m : (ℓ : Loc nD τ sig) → Buf (Elt Ideal) ℓ) (c : Dev nD)

/-- Every window is the whole array. -/
theorem idx (t : Fin cfg0.N) : win0_0.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] ∧ win0_15.index t = ![0, 0]
    ∧ win0_16.index t = ![0, 0] := by
  obtain rfl := fin_N0 t; decide +kernel

/-- What the host prepares: the two gradients' rows of the packed array, and three arrays as one row each. -/
theorem rows (k : Fin 1024) :
    V m c main_v2 (ix2 1 k) = m ((c : Thread nD τ).loc main_arg2) (ix2 0 k)
    ∧ V m c main_v2 (ix2 0 k) = m ((c : Thread nD τ).loc main_arg3) (ix1 k)
    ∧ V m c main_v3 (ix2 0 k) = m ((c : Thread nD τ).loc main_arg5) (ix1 k)
    ∧ V m c main_v4 (ix2 0 k) = m ((c : Thread nD τ).loc main_arg7) (ix1 k)
    ∧ V m c main_v5 (ix2 0 k) = m ((c : Thread nD τ).loc main_arg9) (ix1 k) := by
  refine ⟨?_, ?_, ?_, ?_, ?_⟩
  all_goals
    simp only [V, hostOps0]
    after_results_simp
    pointwise
  all_goals
    after_results_simp
    pointwise

/-- The kernel's block of the packed array. -/
theorem packed (t : Fin cfg0.N) (r : Fin 64) (k : Fin 1024) : iblk m c 0 t (ix2 r k) = V m c main_v2 (ix2 r k) := by
  dsimp only [iblk]
  generalize V m c main_v2 = G
  blk_point [idx t]

/-- What the kernel reads as the two gradients. -/
theorem grads (t : Fin cfg0.N) (y0 : Fin 1) (y1 : Fin 1024) :
    View.ld (iblk m c 0 t) r0_0 (ix2 y0 y1) = m ((c : Thread nD τ).loc main_arg2) (ix2 y0 y1)
    ∧ View.ld (iblk m c 0 t) r0_2 (ix2 y0 y1) = m ((c : Thread nD τ).loc main_arg3) (ix1 y1) := by
  obtain rfl := Subsingleton.elim y0 0
  obtain ⟨h1, h2, -⟩ := rows m c y1
  exact ⟨(at_row 1 _ _ _ _).trans ((packed m c t 1 y1).trans h1), (at_row 0 _ _ _ _).trans ((packed m c t 0 y1).trans h2)⟩

/-- What the kernel reads as the second parameter's weight and moments. -/
theorem reads (t : Fin cfg0.N) (y0 : Fin 1) (y1 : Fin 1024) :
    iblk m c 6 t (ix2 y0 y1) = m ((c : Thread nD τ).loc main_arg5) (ix1 y1)
    ∧ iblk m c 7 t (ix2 y0 y1) = m ((c : Thread nD τ).loc main_arg7) (ix1 y1)
    ∧ iblk m c 8 t (ix2 y0 y1) = m ((c : Thread nD τ).loc main_arg9) (ix1 y1) := by
  obtain rfl := Subsingleton.elim y0 0
  obtain ⟨-, -, h3, h4, h5⟩ := rows m c y1
  dsimp only [iblk]
  generalize V m c main_v3 = A at h3
  generalize V m c main_v4 = B at h4
  generalize V m c main_v5 = C at h5
  refine ⟨Eq.trans (show _ = A (ix2 0 y1) from ?_) h3, Eq.trans (show _ = B (ix2 0 y1) from ?_) h4, Eq.trans (show _ = C (ix2 0 y1) from ?_) h5⟩ <;>
    blk_point [idx t]

/-- A reshape to the same shape changes no entry. -/
theorem same (x : Vec Ideal S1x1024 .f32) (y0 : Fin 1) (y1 : Fin 1024) : shapeCast S1x1024 x shapeCasts_S1x1024_S1x1024 (ix2 y0 y1) = x (ix2 y0 y1) := by
  pointwise

/-- What the kernel leaves of the first parameter: its gradient, step and moments. -/
theorem first :
    (dats m 0 c).arrAt 9 cfg0.N = m ((c : Thread nD τ).loc main_arg2)
    ∧ (dats m 0 c).arrAt 10 cfg0.N = Step (S := S1x1024) (m ((c : Thread nD τ).loc main_arg4)) (m ((c : Thread nD τ).loc main_arg2))
        (m ((c : Thread nD τ).loc main_arg6)) (m ((c : Thread nD τ).loc main_arg8))
    ∧ (dats m 0 c).arrAt 11 cfg0.N = Mom (S := S1x1024) (m ((c : Thread nD τ).loc main_arg6)) (m ((c : Thread nD τ).loc main_arg2))
    ∧ (dats m 0 c).arrAt 12 cfg0.N = Sq (S := S1x1024) (m ((c : Thread nD τ).loc main_arg8)) (m ((c : Thread nD τ).loc main_arg2)) := by
  refine ⟨?_, ?_, ?_, ?_⟩ <;> refine (dats m 0 c).arrAt_eq_of_covers _ _ (by decide +kernel) fun t hf y => ?_ <;> blk_simp <;>
    [rw [after0_9]; rw [after0_10]; rw [after0_11]; rw [after0_12]] <;> frame_out <;> idx_vars y <;> have hg := (grads m c t y0 y1).1
  · refine (pay_g _ _ _).trans (hg.trans ?_)
    blk_point [idx t]
  · refine (pay_step _ _ _ _ _ _).trans (step_congr ?_ (hg.trans ?_) ?_ ?_) <;> blk_point [iblk, V, idx t]
  · refine (pay_m _ _ _ _).trans (congrArg₂ mom ?_ (hg.trans ?_)) <;> blk_point [iblk, V, idx t]
  · refine (pay_v _ _ _ _).trans (congrArg₂ sq ?_ (hg.trans ?_)) <;> blk_point [iblk, V, idx t]

/-- What the kernel leaves of the second parameter. -/
theorem second :
    (dats m 0 c).arrAt 13 cfg0.N = Flat (m ((c : Thread nD τ).loc main_arg3))
    ∧ (dats m 0 c).arrAt 14 cfg0.N = Step (Flat (m ((c : Thread nD τ).loc main_arg5))) (Flat (m ((c : Thread nD τ).loc main_arg3)))
        (Flat (m ((c : Thread nD τ).loc main_arg7))) (Flat (m ((c : Thread nD τ).loc main_arg9)))
    ∧ (dats m 0 c).arrAt 15 cfg0.N = Mom (Flat (m ((c : Thread nD τ).loc main_arg7))) (Flat (m ((c : Thread nD τ).loc main_arg3)))
    ∧ (dats m 0 c).arrAt 16 cfg0.N = Sq (Flat (m ((c : Thread nD τ).loc main_arg9))) (Flat (m ((c : Thread nD τ).loc main_arg3))) := by
  refine ⟨?_, ?_, ?_, ?_⟩ <;> refine (dats m 0 c).arrAt_eq_of_covers _ _ (by decide +kernel) fun t hf y => ?_ <;> blk_simp <;>
    [rw [after0_13]; rw [after0_14]; rw [after0_15]; rw [after0_16]] <;> frame_out <;> idx_vars y <;> have hg := (grads m c t y0 y1).2 <;>
    obtain ⟨hw, hm, hv⟩ := reads m c t y0 y1
  · refine (pay_g _ _ _).trans (hg.trans ?_)
    blk_point [idx t, Flat]
  · refine (pay_step _ _ _ _ _ _).trans ?_
    rw [hg, same, same, same, hw, hm, hv]
    refine step_congr ?_ ?_ ?_ ?_ <;> blk_point [idx t, Flat]
  · refine (pay_m _ _ _ _).trans ?_
    rw [hg, same, hm]
    refine congrArg₂ mom ?_ ?_ <;> blk_point [idx t, Flat]
  · refine (pay_v _ _ _ _).trans ?_
    rw [hg, same, hv]
    refine congrArg₂ sq ?_ ?_ <;> blk_point [idx t, Flat]

end Cert.KernelWIdeal.Small

namespace Cert.ReferenceWIdeal.Small

open Cert.ReferenceWIdeal Cert.ReferenceWIdeal.Gen Cert.ReferenceWIdeal.Value Cert.Adam

variable (m : (ℓ : Loc nD τ sig) → Buf (Elt Ideal) ℓ)

/-- The reference's run: for each parameter its gradient, step and moments; the arguments stay. -/
theorem run_value (ρ : Dev nD → PrngReg) :
    θ_run defs (onTc (τ := τ) (main (F := Ideal))) ⟨m, fun _ => 0, ρ⟩ fun r => ∀ c : Dev nD,
      r.2.mem ((c.tc : Thread nD τ).loc main_arg2) = m ((c.tc : Thread nD τ).loc main_arg2)
      ∧ r.2.mem ((c.tc : Thread nD τ).loc main_v23) = Step (S := S1x1024) (m ((c.tc : Thread nD τ).loc main_arg4)) (m ((c.tc : Thread nD τ).loc main_arg2))
          (m ((c.tc : Thread nD τ).loc main_arg6)) (m ((c.tc : Thread nD τ).loc main_arg8))
      ∧ r.2.mem ((c.tc : Thread nD τ).loc main_v4) = Mom (S := S1x1024) (m ((c.tc : Thread nD τ).loc main_arg6)) (m ((c.tc : Thread nD τ).loc main_arg2))
      ∧ r.2.mem ((c.tc : Thread nD τ).loc main_v10) = Sq (S := S1x1024) (m ((c.tc : Thread nD τ).loc main_arg8)) (m ((c.tc : Thread nD τ).loc main_arg2))
      ∧ r.2.mem ((c.tc : Thread nD τ).loc main_v48) = Flat (m ((c.tc : Thread nD τ).loc main_arg3))
      ∧ r.2.mem ((c.tc : Thread nD τ).loc main_v49) = Step (Flat (m ((c.tc : Thread nD τ).loc main_arg5))) (Flat (m ((c.tc : Thread nD τ).loc main_arg3)))
          (Flat (m ((c.tc : Thread nD τ).loc main_arg7))) (Flat (m ((c.tc : Thread nD τ).loc main_arg9)))
      ∧ r.2.mem ((c.tc : Thread nD τ).loc main_v50) = Mom (Flat (m ((c.tc : Thread nD τ).loc main_arg7))) (Flat (m ((c.tc : Thread nD τ).loc main_arg3)))
      ∧ r.2.mem ((c.tc : Thread nD τ).loc main_v51) = Sq (Flat (m ((c.tc : Thread nD τ).loc main_arg9))) (Flat (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r hr c => ?_) (run m ρ)
  obtain ⟨h0, h1, h2, h3, h4, h5, h6, h7, ha⟩ := hr c
  refine ⟨h0, h1.trans ?_, h2.trans ?_, h3.trans ?_, h4.trans ?_, h5.trans ?_, h6.trans ?_, h7.trans ?_, ha⟩
  all_goals
    funext y
    idx_vars y
    pointwise
    rfl

end Cert.ReferenceWIdeal.Small

end
-- ==== Proof.SmallL.lean ====
module

public import proofs.«01_k».proof.Proof.Small
public import proofs.«01_k».proof.Proof.HgrnRef
public import proofs.«01_k».proof.Proof.Gen.KernelLIdeal.Value
public import proofs.«01_k».proof.Proof.Gen.ReferenceLIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.StableHlo Idealize.ShloMosaic.Pipeline

namespace Cert.Adam

/-- A channel's share of the first of two layers, from the two logits. -/
def part (l0 l1 : EReal) : EReal := Ideal.div (Ideal.exp (l0 - max l0 l1)) (Ideal.exp (l0 - max l0 l1) + Ideal.exp (l1 - max l0 l1))

/-- The gradient of the first logit, from the cotangent `g` of the share; the second's is its negative. -/
def dpart (l0 l1 g : EReal) : EReal := g * part l0 l1 * (1 - part l0 l1)

/-- The gradients of two layers' logits. -/
def Dl (l : FVec Ideal ⟨2, ![2, 1024]⟩ .f32) (g : FVec Ideal ⟨1, ![1024]⟩ .f32) : FVec Ideal ⟨2, ![2, 1024]⟩ .f32 := fun y =>
  if (y 0).val = 0 then dpart (l (ix2 0 (y 1))) (l (ix2 1 (y 1))) (g (ix1 (y 1))) else 0 - dpart (l (ix2 0 (y 1))) (l (ix2 1 (y 1))) (g (ix1 (y 1)))

/-- The softmax's derivative as the reference takes it, with the exponentials `x` and `y` of the two logits, is the product form: through
    the division by the sum. -/
theorem dsoft (x y g : ℝ) (hx : 0 < x) (hy : 0 < y) (r : ℝ) :
    (Ideal.div (r : EReal) ((x : EReal) + y) + -((g : EReal) * Ideal.div 1 (((x : EReal) + y) * ((x : EReal) + y)) * x)) =
      ((r / (x + y) - g / ((x + y) * (x + y)) * x : ℝ) : EReal) := by
  have hs : x + y ≠ 0 := (add_pos hx hy).ne'
  rw [← EReal.coe_add, ← EReal.coe_mul, Ideal.div_coe hs, Ideal.div_coe (mul_ne_zero hs hs), one_mul]
  norm_cast
  ring_nf

/-- The share of real logits. -/
theorem part_coe (a b : ℝ) : ∃ x y : ℝ, 0 < x ∧ 0 < y ∧ Ideal.exp ((a : EReal) - max (a : EReal) b) = x ∧ Ideal.exp ((b : EReal) - max (a : EReal) b) = y
    ∧ part a b = ((x / (x + y) : ℝ) : EReal) := by
  refine ⟨Real.exp (a - max a b), Real.exp (b - max a b), Real.exp_pos _, Real.exp_pos _, ?_, ?_, ?_⟩
  · rw [← EReal.coe_strictMono.monotone.map_max, ← EReal.coe_sub, Ideal.exp_coe]
  · rw [← EReal.coe_strictMono.monotone.map_max, ← EReal.coe_sub, Ideal.exp_coe]
  · rw [part, ← EReal.coe_strictMono.monotone.map_max, ← EReal.coe_sub, ← EReal.coe_sub, Ideal.exp_coe, Ideal.exp_coe, ← EReal.coe_add,
      Ideal.div_coe (add_pos (Real.exp_pos _) (Real.exp_pos _)).ne', ← EReal.coe_mul, mul_one_div]

/-- The softmax's derivative through the division is the product form, for both logits. -/
theorem dsoft_eq (l0 l1 g : EReal) (h0 : ∃ r : ℝ, l0 = r) (h1 : ∃ r : ℝ, l1 = r) (hg : ∃ r : ℝ, g = r) :
    let x := Ideal.exp (l0 - max l0 l1)
    let y := Ideal.exp (l1 - max l0 l1)
    (Ideal.div g (x + y) + -(g * Ideal.div 1 ((x + y) * (x + y)) * x)) * x = dpart l0 l1 g
    ∧ (Ideal.div 0 (x + y) + -(g * Ideal.div 1 ((x + y) * (x + y)) * x)) * y = 0 - dpart l0 l1 g := by
  obtain ⟨a, rfl⟩ := h0
  obtain ⟨b, rfl⟩ := h1
  obtain ⟨g, rfl⟩ := hg
  obtain ⟨x, y, hx, hy, ex, ey, ep⟩ := part_coe a b
  have hs : x + y ≠ 0 := (add_pos hx hy).ne'
  intro X Y
  have e : (0 : EReal) = ((0 : ℝ) : EReal) := rfl
  have e1 : (1 : EReal) = ((1 : ℝ) : EReal) := rfl
  have q := dsoft x y g hx hy
  rw [show X = x from ex, show Y = y from ey, q, e, q, dpart, ep, e1]
  constructor
  · norm_cast
    field_simp
  · norm_cast
    field_simp
    ring

end Cert.Adam

namespace Cert.KernelLIdeal.Small

open Cert.KernelLIdeal Cert.KernelLIdeal.Gen Cert.Adam
open Idealize.ShloMosaic.Pipeline (Dat)

/-- Loading both logits' rows whole. -/
theorem ld_rows (x : Vec Ideal S2x1024 .f32) : View.ld x r0_0 = x := by
  funext y
  refine congrArg x (funext fun j => Fin.ext ?_)
  match j with
  | ⟨0, _⟩ => show 0 + 1 * (y 0).val = (y 0).val; omega
  | ⟨1, _⟩ => show 0 + 1 * (y 1).val = (y 1).val; omega

/-- Loading the taps whole. -/
theorem ld_taps (x : Vec Ideal S31x256 .f32) : View.ld x r0_2 = x := by
  funext y
  refine congrArg x (funext fun j => Fin.ext ?_)
  match j with
  | ⟨0, _⟩ => show 0 + 1 * (y 0).val = (y 0).val; omega
  | ⟨1, _⟩ => show 0 + 1 * (y 1).val = (y 1).val; omega

/-- The packed row of the lower bounds' cotangent. -/
theorem ld_lb (x : Vec Ideal S64x1024 .f32) (i : Fin 1) (k : Fin 1024) : View.ld x r0_1 (ix2 i k) = x (ix2 25 k) := by
  refine congrArg x (funext fun j => Fin.ext ?_)
  match j with
  | ⟨0, _⟩ => show 25 + 1 * i.val = 25; omega
  | ⟨1, _⟩ => show 0 + 1 * k.val = k.val; omega

/-- The packed row of the lower bounds' cotangent, as an array of its own. -/
theorem lb_row (x : Vec Ideal S64x1024 .f32) :
    (fun y : (⟨1, ![1024]⟩ : Shape).Idx => (View.ld x r0_1 (ix2 0 (y 0)) : EReal)) = fun y => x (ix2 25 (y 0)) :=
  funext fun y => ld_lb x 0 (y 0)

/-- The gradient the kernel writes for the logits. -/
theorem pay_dl (l : Vec Ideal S2x1024 .f32) (g : Vec Ideal S1x1024 .f32) (i : Fin 2) (k : Fin 1024) :
    k0_pay2 (F := Ideal) l g (ix2 i k) = Dl l (fun y => g (ix2 0 (y 0))) (ix2 i k) := by
  pointwise [k0_pay2]
  rw [Hgrn.fold2, Fin.sum_univ_two]
  match i with
  | ⟨0, _⟩ => rfl
  | ⟨1, _⟩ => rfl

/-- The first moment of the logits. -/
theorem pay_mom (l : Vec Ideal S2x1024 .f32) (g : Vec Ideal S1x1024 .f32) (m : Vec Ideal S2x1024 .f32) (i : Fin 2) (k : Fin 1024) :
    k0_pay3 (F := Ideal) l g m (ix2 i k) = mom (m (ix2 i k)) (Dl l (fun y => g (ix2 0 (y 0))) (ix2 i k)) := by
  pointwise [k0_pay3]
  rw [pay_dl]
  rfl

variable (x0 : Vec Ideal S64x1024 .f32) (x1 : Vec Ideal S31x256 .f32) (x2 x3 x4 x5 : Vec Ideal S2x1024 .f32) (x6 x7 x8 : Vec Ideal S31x256 .f32)

/-- The second moment of the logits. -/
theorem pay_sq (i : Fin 2) (k : Fin 1024) :
    k0_pay12 (F := Ideal) x0 x1 x2 x3 x4 x5 x6 x7 x8 (ix2 i k) = sq (x5 (ix2 i k)) (Dl x2 (fun y => x0 (ix2 25 (y 0))) (ix2 i k)) := by
  pointwise [k0_pay12, k0_pay4]
  rw [pay_dl, ld_rows, lb_row]
  rfl

/-- The step of the logits. -/
theorem pay_step (i : Fin 2) (k : Fin 1024) :
    k0_pay7 (F := Ideal) x3 (k0_pay12 x0 x1 x2 x3 x4 x5 x6 x7 x8) (k0_pay5 x2 (View.ld x0 r0_1) x4) k0_pay6 (ix2 i k) =
      step (x3 (ix2 i k)) (Dl x2 (fun y => x0 (ix2 25 (y 0))) (ix2 i k)) (x4 (ix2 i k)) (x5 (ix2 i k)) := by
  pointwise [k0_pay7, k0_pay5, k0_pay6]
  rw [pay_mom, pay_sq, lb_row]
  rfl

/-- The taps' gradient, stored as it was read. -/
theorem tap_g (g : Vec Ideal S31x256 .f32) (i : Fin 31) (k : Fin 256) : k0_pay8 (F := Ideal) g (ix2 i k) = g (ix2 i k) := by
  pointwise [k0_pay8]

/-- The taps' first moment. -/
theorem tap_mom (i : Fin 31) (k : Fin 256) : k0_pay13 (F := Ideal) x0 x1 x2 x3 x4 x5 x6 x7 x8 (ix2 i k) = mom (x7 (ix2 i k)) (x1 (ix2 i k)) := by
  pointwise [k0_pay13, k0_pay10]
  rw [ld_taps, tap_g]
  rfl

/-- The taps' second moment. -/
theorem tap_sq (i : Fin 31) (k : Fin 256) : k0_pay14 (F := Ideal) x0 x1 x2 x3 x4 x5 x6 x7 x8 (ix2 i k) = sq (x8 (ix2 i k)) (x1 (ix2 i k)) := by
  pointwise [k0_pay14, k0_pay11]
  rw [ld_taps, tap_g]
  rfl

/-- The taps' step. -/
theorem tap_step (i : Fin 31) (k : Fin 256) :
    k0_pay1 (F := Ideal) (k0_pay9 x6) (k0_pay13 x0 x1 x2 x3 x4 x5 x6 x7 x8) (k0_pay14 x0 x1 x2 x3 x4 x5 x6 x7 x8) (ix2 i k) =
      step (x6 (ix2 i k)) (x1 (ix2 i k)) (x7 (ix2 i k)) (x8 (ix2 i k)) := by
  pointwise [k0_pay1, k0_pay9]
  rw [tap_mom, tap_sq]
  rfl

variable (m : (ℓ : Loc nD τ sig) → Buf (Elt Ideal) ℓ) (c : Dev nD)

/-- Every window is the whole array. -/
theorem idx (t : Fin cfg0.N) : win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] := by
  obtain rfl := fin_N0 t; decide +kernel

/-- What the host prepares: the packed row of the cotangent, and the taps' arrays without their leading axis. -/
theorem rows (i : Fin 31) (j : Fin 256) (k : Fin 1024) :
    V m c main_v3 (ix2 25 k) = m ((c : Thread nD τ).loc main_arg0) (ix1 k)
    ∧ V m c main_v7 (ix2 i j) = m ((c : Thread nD τ).loc main_arg1) (ix3 0 i j)
    ∧ V m c main_v4 (ix2 i j) = m ((c : Thread nD τ).loc main_arg3) (ix3 0 i j)
    ∧ V m c main_v5 (ix2 i j) = m ((c : Thread nD τ).loc main_arg5) (ix3 0 i j)
    ∧ V m c main_v6 (ix2 i j) = m ((c : Thread nD τ).loc main_arg7) (ix3 0 i j) := by
  refine ⟨?_, ?_, ?_, ?_, ?_⟩
  all_goals
    simp only [V, hostOps0]
    after_results_simp
    pointwise
  all_goals
    after_results_simp
    pointwise

/-- An array of taps without its leading axis. -/
def Taps (x : FVec Ideal S1x31x256 .f32) : FVec Ideal S31x256 .f32 := fun y => x (ix3 0 (y 0) (y 1))

/-- What the kernel reads as the cotangent. -/
theorem read_ct (t : Fin cfg0.N) :
    (fun y : (⟨1, ![1024]⟩ : Shape).Idx => (iblk m c 0 t (ix2 25 (y 0)) : EReal)) = m ((c : Thread nD τ).loc main_arg0) := by
  funext y
  obtain ⟨k, rfl⟩ : ∃ k : Fin 1024, y = ix1 k := ⟨y 0, eq_ix1 y⟩
  have h := (rows m c 0 0 k).1
  dsimp only [iblk]
  generalize V m c main_v3 = A at h
  refine Eq.trans (show _ = A (ix2 25 k) from ?_) h
  blk_point [idx t]

/-- What the kernel reads as the logits and their moments. -/
theorem read_lb (t : Fin cfg0.N) :
    (show FVec Ideal S2x1024 .f32 from iblk m c 2 t) = m ((c : Thread nD τ).loc main_arg2)
    ∧ (show FVec Ideal S2x1024 .f32 from iblk m c 3 t) = m ((c : Thread nD τ).loc main_arg2)
    ∧ (show FVec Ideal S2x1024 .f32 from iblk m c 4 t) = m ((c : Thread nD τ).loc main_arg4)
    ∧ (show FVec Ideal S2x1024 .f32 from iblk m c 5 t) = m ((c : Thread nD τ).loc main_arg6) := by
  refine ⟨?_, ?_, ?_, ?_⟩ <;> funext y <;> idx_vars y <;> blk_point [iblk, V, idx t]

/-- What the kernel reads as the taps' gradient, weights and moments. -/
theorem read_taps (t : Fin cfg0.N) :
    (show FVec Ideal S31x256 .f32 from iblk m c 1 t) = Taps (m ((c : Thread nD τ).loc main_arg1))
    ∧ (show FVec Ideal S31x256 .f32 from iblk m c 6 t) = Taps (m ((c : Thread nD τ).loc main_arg3))
    ∧ (show FVec Ideal S31x256 .f32 from iblk m c 7 t) = Taps (m ((c : Thread nD τ).loc main_arg5))
    ∧ (show FVec Ideal S31x256 .f32 from iblk m c 8 t) = Taps (m ((c : Thread nD τ).loc main_arg7)) := by
  refine ⟨?_, ?_, ?_, ?_⟩ <;> funext y <;> idx_vars y <;> obtain ⟨-, h1, h2, h3, h4⟩ := rows m c y0 y1 0 <;> dsimp only [iblk]
  · generalize V m c main_v7 = A at h1
    refine Eq.trans (show _ = A (ix2 y0 y1) from ?_) h1
    blk_point [idx t]
  · generalize V m c main_v4 = A at h2
    refine Eq.trans (show _ = A (ix2 y0 y1) from ?_) h2
    blk_point [idx t]
  · generalize V m c main_v5 = A at h3
    refine Eq.trans (show _ = A (ix2 y0 y1) from ?_) h3
    blk_point [idx t]
  · generalize V m c main_v6 = A at h4
    refine Eq.trans (show _ = A (ix2 y0 y1) from ?_) h4
    blk_point [idx t]

/-- What the kernel leaves of the logits: their gradients, steps and moments. -/
theorem logits :
    (dats m 0 c).arrAt 9 cfg0.N = Dl (m ((c : Thread nD τ).loc main_arg2)) (m ((c : Thread nD τ).loc main_arg0))
    ∧ (dats m 0 c).arrAt 10 cfg0.N = Step (S := S2x1024) (m ((c : Thread nD τ).loc main_arg2))
        (Dl (m ((c : Thread nD τ).loc main_arg2)) (m ((c : Thread nD τ).loc main_arg0))) (m ((c : Thread nD τ).loc main_arg4)) (m ((c : Thread nD τ).loc main_arg6))
    ∧ (dats m 0 c).arrAt 11 cfg0.N = Mom (S := S2x1024) (m ((c : Thread nD τ).loc main_arg4))
        (Dl (m ((c : Thread nD τ).loc main_arg2)) (m ((c : Thread nD τ).loc main_arg0)))
    ∧ (dats m 0 c).arrAt 12 cfg0.N = Sq (S := S2x1024) (m ((c : Thread nD τ).loc main_arg6))
        (Dl (m ((c : Thread nD τ).loc main_arg2)) (m ((c : Thread nD τ).loc main_arg0))) := by
  refine ⟨?_, ?_, ?_, ?_⟩ <;> refine (dats m 0 c).arrAt_eq_of_covers _ _ (by decide +kernel) fun t hf y => ?_ <;> blk_simp <;>
    [rw [after0_9]; rw [after0_10]; rw [after0_11]; rw [after0_12]] <;> frame_out <;> idx_vars y <;> have hg := read_ct m c t <;>
    obtain ⟨hl, hw, hm, hv⟩ := read_lb m c t <;> generalize iblk m c 0 t = X0 at hg ⊢ <;> dsimp only at hl hw hm hv <;>
    generalize iblk m c 2 t = X2 at hl ⊢
  · refine (pay_dl _ _ _ _).trans ?_
    rw [lb_row, hg, hl]
    refine congrArg (Dl _ _) ?_
    blk_point [idx t]
  · refine (pay_step _ _ _ _ _ _ _ _ _ _ _).trans ?_
    rw [hg, hl, hw, hm, hv]
    refine congrArg (Step (S := S2x1024) _ _ _ _) (?_ : ix2 y0 y1 = _)
    blk_point [idx t]
  · refine (pay_mom _ _ _ _ _).trans ?_
    rw [lb_row, hg, hl, hm]
    refine congrArg (Mom (S := S2x1024) _ _) (?_ : ix2 y0 y1 = _)
    blk_point [idx t]
  · refine (pay_sq _ _ _ _ _ _ _ _ _ _ _).trans ?_
    rw [hg, hl, hv]
    refine congrArg (Sq (S := S2x1024) _ _) (?_ : ix2 y0 y1 = _)
    blk_point [idx t]

/-- What the kernel leaves of the taps: their gradient, steps and moments. -/
theorem taps :
    (dats m 0 c).arrAt 13 cfg0.N = Taps (m ((c : Thread nD τ).loc main_arg1))
    ∧ (dats m 0 c).arrAt 14 cfg0.N = Step (S := S31x256) (Taps (m ((c : Thread nD τ).loc main_arg3))) (Taps (m ((c : Thread nD τ).loc main_arg1)))
        (Taps (m ((c : Thread nD τ).loc main_arg5))) (Taps (m ((c : Thread nD τ).loc main_arg7)))
    ∧ (dats m 0 c).arrAt 15 cfg0.N = Mom (S := S31x256) (Taps (m ((c : Thread nD τ).loc main_arg5))) (Taps (m ((c : Thread nD τ).loc main_arg1)))
    ∧ (dats m 0 c).arrAt 16 cfg0.N = Sq (S := S31x256) (Taps (m ((c : Thread nD τ).loc main_arg7))) (Taps (m ((c : Thread nD τ).loc main_arg1))) := by
  refine ⟨?_, ?_, ?_, ?_⟩ <;> refine (dats m 0 c).arrAt_eq_of_covers _ _ (by decide +kernel) fun t hf y => ?_ <;> blk_simp <;>
    [rw [after0_13]; rw [after0_14]; rw [after0_15]; rw [after0_16]] <;> frame_out <;> idx_vars y <;>
    obtain ⟨hg, hw, hm, hv⟩ := read_taps m c t <;> dsimp only at hg hw hm hv <;> generalize iblk m c 1 t = X1 at hg ⊢
  · refine (tap_g _ _ _).trans ?_
    rw [hg]
    refine congrArg (Taps _) (?_ : ix2 y0 y1 = _)
    blk_point [idx t]
  · refine (tap_step _ _ _ _ _ _ _ _ _ _ _).trans ?_
    rw [hg, hw, hm, hv]
    refine congrArg (Step (S := S31x256) _ _ _ _) (?_ : ix2 y0 y1 = _)
    blk_point [idx t]
  · refine (tap_mom _ _ _ _ _ _ _ _ _ _ _).trans ?_
    rw [hg, hm]
    refine congrArg (Mom (S := S31x256) _ _) (?_ : ix2 y0 y1 = _)
    blk_point [idx t]
  · refine (tap_sq _ _ _ _ _ _ _ _ _ _ _).trans ?_
    rw [hg, hv]
    refine congrArg (Sq (S := S31x256) _ _) (?_ : ix2 y0 y1 = _)
    blk_point [idx t]

end Cert.KernelLIdeal.Small

namespace Cert.ReferenceLIdeal.Small

open Cert.ReferenceLIdeal Cert.ReferenceLIdeal.Gen Cert.ReferenceLIdeal.Value Cert.Adam Cert.Hgrn
open Cert.KernelLIdeal.Small (Taps)

/-- The softmax's exponentials. -/
def xs (l : FVec Ideal S2x1024 .f32) : FVec Ideal S2x1024 .f32 :=
  Host.exp (subf l (broadcastInDim S2x1024 ![0, 1] bcast_S1x1024_S2x1024_0_1 (broadcastInDim S1x1024 ![1] bcast_S1024_S1x1024_1
    (maximumf (broadcastInDim S1024 ![] bcast_S_S1024 (constant S_ .f32 0xFF800000#32))
      (Host.reduce FloatOps.maximumf l (constant S_ .f32 0xFF800000#32) reducesTo_S2x1024_S1024_d0 h_S_)))))

/-- The softmax's sums. -/
def total (x : FVec Ideal S2x1024 .f32) : FVec Ideal S1x1024 .f32 :=
  broadcastInDim S1x1024 ![1] bcast_S1024_S1x1024_1 (Host.reduceAdd x (constant S_ .f32 0#32) reducesTo_S2x1024_S1024_d0 h_S_)

/-- The cotangent with a row of zeros below it. -/
def padded (g : FVec Ideal S1024 .f32) : FVec Ideal S2x1024 .f32 :=
  pad S2x1024 ![0, 0] ![1, 0] ![0, 0] (broadcastInDim S1x1024 ![1] bcast_S1024_S1x1024_1 g) (constant S_ .f32 0#32) pads_S1x1024_S2x1024_010_000 h_S_

/-- The shares' cotangents: the running sum's derivative. -/
def ct (g : FVec Ideal S1024 .f32) : FVec Ideal S2x1024 .f32 :=
  Host.reduceWindowAdd ![2, 1] ![1, 1] ![0, 0] ![1, 0] (padded g) (broadcastInDim S_ ![] bcast_S_S_ (constant S_ .f32 0#32))
    reduceWindows_S2x1024_S2x1024_w2s1p0_1_w1s1p0_0 h_S_

/-- The logits' gradient as the reference computes it. -/
def grad (l : FVec Ideal S2x1024 .f32) (g : FVec Ideal S1024 .f32) : FVec Ideal S2x1024 .f32 :=
  mulf (addf (Host.divf (ct g) (broadcastInDim S2x1024 ![0, 1] bcast_S1x1024_S2x1024_0_1 (total (xs l))))
    (broadcastInDim S2x1024 ![1] bcast_S1024_S2x1024_1 (Host.reduceAdd (Host.negf (shapeCast _ (Host.reduceAdd (mulf (mulf (ct g)
      (broadcastInDim S2x1024 ![0, 1] bcast_S1x1024_S2x1024_0_1 (Host.divf (broadcastInDim S1x1024 ![] bcast_S_S1x1024 (constant S_ .f32 0x3F800000#32))
        (mulf (total (xs l)) (total (xs l)))))) (xs l)) (constant S_ .f32 0#32) reducesTo_S2x1024_S1024_d0 h_S_) shapeCasts_S1024_S1x1024))
      (constant S_ .f32 0#32) reducesTo_S1x1024_S1024_d0 h_S_))) (xs l)

/-- The exponentials by entries. -/
theorem xs_at (l : FVec Ideal S2x1024 .f32) (i : Fin 2) (k : Fin 1024) :
    xs l (ix2 i k) = Ideal.exp (l (ix2 i k) - max (l (ix2 0 k)) (l (ix2 1 k))) := by
  show (Host.exp (subf l (broadcastInDim S2x1024 ![0, 1] bcast_S1x1024_S2x1024_0_1 (broadcastInDim S1x1024 ![1] bcast_S1024_S1x1024_1
    (maximumf (broadcastInDim S1024 ![] bcast_S_S1024 (constant S_ .f32 4286578688#32))
      (Host.reduce (max : EReal → EReal → EReal) l (constant S_ .f32 4286578688#32) reducesTo_S2x1024_S1024_d0 h_S_))))) : FVec Ideal S2x1024 .f32) _ = _
  pointwise
  rw [fold2, wBot, max_bot_left]

/-- The sums by entries. -/
theorem total_at (x : FVec Ideal S2x1024 .f32) (i : Fin 1) (k : Fin 1024) : total x (ix2 i k) = (x (ix2 0 k) + x (ix2 1 k) : EReal) := by
  pointwise [total]
  rw [Fin.sum_univ_two]

/-- The padded cotangent's first row. -/
theorem padded_top (g : FVec Ideal S1024 .f32) (k : Fin 1024) : padded g (ix2 0 k) = g (ix1 k) := by
  pointwise [padded]

/-- The padded cotangent's second row. -/
theorem padded_low (g : FVec Ideal S1024 .f32) (k : Fin 1024) : padded g (ix2 1 k) = (0 : EReal) := by
  pointwise [padded]

/-- Only the first layer's share has a cotangent. -/
theorem ct_at (g : FVec Ideal S1024 .f32) (i : Fin 2) (k : Fin 1024) : ct g (ix2 i k) = padded g (ix2 i k) := by
  have low := padded_low g
  unfold ct
  generalize padded g = P at low ⊢
  refine (Cert.ReferenceFIdeal.Hgrn.window_apply _ _ _ _ P _ _ h_S_ (by pointwise) _).trans ?_
  have hp : ∀ p : (⟨2, ![2, 1]⟩ : Shape).Idx, (p 0).val < 2 ∧ (p 1).val = 0 := fun p =>
    ⟨(p 0).isLt, Nat.lt_one_iff.1 (p 1).isLt⟩
  refine (Finset.sum_eq_single (ix2 0 0 : (⟨2, ![2, 1]⟩ : Shape).Idx) (fun p _ hne => ?_) fun hn => absurd (Finset.mem_univ _) hn).trans ?_
  · obtain ⟨h0, h1⟩ := hp p
    have h2 : (p 0).val = 1 := by
      by_contra hc
      refine hne (funext fun a => Fin.ext ?_)
      match a with
      | ⟨0, _⟩ => show (p 0).val = 0; omega
      | ⟨1, _⟩ => show (p 1).val = 0; omega
    split
    · next hin =>
      have h3 : i.val * 1 + (p 0).val - 0 < 2 := (hin 0).2
      refine Eq.trans (congrArg P (funext fun a => Fin.ext ?_)) (low k)
      match a with
      | ⟨0, _⟩ => show i.val * 1 + (p 0).val - 0 = 1; omega
      | ⟨1, _⟩ => show k.val * 1 + (p 1).val - 0 = k.val; omega
    · rfl
  · rw [dif_pos fun a => by
      match a with
      | ⟨0, _⟩ => show 0 ≤ i.val * 1 + 0 ∧ i.val * 1 + 0 - 0 < 2; omega
      | ⟨1, _⟩ => show 0 ≤ k.val * 1 + 0 ∧ k.val * 1 + 0 - 0 < 1024; omega]
    refine congrArg P (funext fun a => Fin.ext ?_)
    match a with
    | ⟨0, _⟩ => show i.val * 1 + 0 - 0 = i.val; omega
    | ⟨1, _⟩ => show k.val * 1 + 0 - 0 = k.val; omega

/-- The logits and the cotangent are real. -/
def Fine (l : FVec Ideal S2x1024 .f32) (g : FVec Ideal S1024 .f32) : Prop :=
  ∀ k : Fin 1024, (∃ r : ℝ, (l (ix2 0 k) : EReal) = r) ∧ (∃ r : ℝ, (l (ix2 1 k) : EReal) = r) ∧ ∃ r : ℝ, (g (ix1 k) : EReal) = r

/-- The reference's gradient is the product form. -/
theorem grad_eq (l : FVec Ideal S2x1024 .f32) (g : FVec Ideal S1024 .f32) (h : Fine l g) : grad l g = Dl l g := by
  funext y
  idx_vars y
  obtain ⟨h0, h1, h2⟩ := h y1
  obtain ⟨e0, e1⟩ := dsoft_eq _ _ _ h0 h1 h2
  pointwise [grad]
  rw [Fin.sum_univ_one, Fin.sum_univ_two, total_at, ct_at, ct_at, ct_at, padded_top, padded_low, xs_at, xs_at, xs_at, zero_mul, zero_mul, add_zero]
  match y0 with
  | ⟨0, _⟩ =>
    refine Eq.trans ?_ (e0.trans ?_)
    · rw [show (⟨0, _⟩ : Fin 2) = 0 from rfl, padded_top]
    · rfl
  | ⟨1, _⟩ =>
    refine Eq.trans ?_ (e1.trans ?_)
    · rw [show (⟨1, _⟩ : Fin 2) = 1 from rfl, padded_low]
    · rfl

variable (m : (ℓ : Loc nD τ sig) → Buf (Elt Ideal) ℓ)

/-- The reference's step, over whole arrays. -/
def stepR (w g m v : FVec Ideal S2x1024 .f32) : FVec Ideal S2x1024 .f32 :=
  mulf (broadcastInDim S2x1024 ![] bcast_S_S2x1024 (constant S_ .f32 0xBA83126F#32))
    (addf (Host.divf (Host.divf (addf (mulf (broadcastInDim S2x1024 ![] bcast_S_S2x1024 (constant S_ .f32 0x3F666666#32)) m)
          (mulf (broadcastInDim S2x1024 ![] bcast_S_S2x1024 (constant S_ .f32 0x3DCCCCCD#32)) g)) (broadcastInDim S2x1024 ![] bcast_S_S2x1024 (constant S_ .f32 0x3F26BD02#32)))
        (addf (Host.sqrt (Host.divf (addf (mulf (broadcastInDim S2x1024 ![] bcast_S_S2x1024 (constant S_ .f32 0x3F7FBE77#32)) v)
          (mulf (broadcastInDim S2x1024 ![] bcast_S_S2x1024 (constant S_ .f32 0x3A83126F#32)) (mulf g g))) (broadcastInDim S2x1024 ![] bcast_S_S2x1024 (constant S_ .f32 0x3C231ACC#32))))
          (broadcastInDim S2x1024 ![] bcast_S_S2x1024 (constant S_ .f32 0x322BCC77#32))))
      (mulf (broadcastInDim S2x1024 ![] bcast_S_S2x1024 (constant S_ .f32 0x3C23D70A#32)) w))

/-- The reference's first moment, over whole arrays. -/
def momR (m g : FVec Ideal S2x1024 .f32) : FVec Ideal S2x1024 .f32 :=
  addf (mulf (broadcastInDim S2x1024 ![] bcast_S_S2x1024 (constant S_ .f32 0x3F666666#32)) m)
    (mulf (broadcastInDim S2x1024 ![] bcast_S_S2x1024 (constant S_ .f32 0x3DCCCCCD#32)) g)

/-- The reference's second moment, over whole arrays. -/
def sqR (v g : FVec Ideal S2x1024 .f32) : FVec Ideal S2x1024 .f32 :=
  addf (mulf (broadcastInDim S2x1024 ![] bcast_S_S2x1024 (constant S_ .f32 0x3F7FBE77#32)) v)
    (mulf (broadcastInDim S2x1024 ![] bcast_S_S2x1024 (constant S_ .f32 0x3A83126F#32)) (mulf g g))

/-- The step by entries. -/
theorem stepR_eq (w g m v : FVec Ideal S2x1024 .f32) : stepR w g m v = Step (S := S2x1024) w g m v := by
  funext y
  idx_vars y
  pointwise [stepR]
  rfl

/-- The first moment by entries. -/
theorem momR_eq (m g : FVec Ideal S2x1024 .f32) : momR m g = Mom (S := S2x1024) m g := by
  funext y
  idx_vars y
  pointwise [momR]
  rfl

/-- The second moment by entries. -/
theorem sqR_eq (v g : FVec Ideal S2x1024 .f32) : sqR v g = Sq (S := S2x1024) v g := by
  funext y
  idx_vars y
  pointwise [sqR]
  rfl

/-- The reference's step of the logits. -/
theorem q69 (c : Dev nD) : res_main_v69 m c = stepR (m ((c.tc : Thread nD τ).loc main_arg2))
          (grad (m ((c.tc : Thread nD τ).loc main_arg2)) (m ((c.tc : Thread nD τ).loc main_arg0))) (m ((c.tc : Thread nD τ).loc main_arg4)) (m ((c.tc : Thread nD τ).loc main_arg6)) := by
    unfold res_main_v69 stepR grad ct padded total xs
    rfl
/-- The reference's second moment of the logits. -/
theorem q56 (c : Dev nD) : res_main_v56 m c = sqR (m ((c.tc : Thread nD τ).loc main_arg6))
          (grad (m ((c.tc : Thread nD τ).loc main_arg2)) (m ((c.tc : Thread nD τ).loc main_arg0)))  := by
    unfold res_main_v56
    rfl

/-- Dropping the leading axis. -/
theorem cast_taps (x : FVec Ideal S1x31x256 .f32) : shapeCast S31x256 x shapeCasts_S1x31x256_S31x256 = Taps x := by
  funext y
  idx_vars y
  pointwise [Taps]

/-- The reference's run, in terms of its own gradient; the arguments stay. -/
theorem run_grad (ρ : Dev nD → PrngReg) :
    θ_run defs (onTc (τ := τ) (main (F := Ideal))) ⟨m, fun _ => 0, ρ⟩ fun r => ∀ c : Dev nD,
      r.2.mem ((c.tc : Thread nD τ).loc main_v45) = grad (m ((c.tc : Thread nD τ).loc main_arg2)) (m ((c.tc : Thread nD τ).loc main_arg0))
      ∧ r.2.mem ((c.tc : Thread nD τ).loc main_v69) = Step (S := S2x1024) (m ((c.tc : Thread nD τ).loc main_arg2))
          (grad (m ((c.tc : Thread nD τ).loc main_arg2)) (m ((c.tc : Thread nD τ).loc main_arg0))) (m ((c.tc : Thread nD τ).loc main_arg4)) (m ((c.tc : Thread nD τ).loc main_arg6))
      ∧ r.2.mem ((c.tc : Thread nD τ).loc main_v50) = Mom (S := S2x1024) (m ((c.tc : Thread nD τ).loc main_arg4))
          (grad (m ((c.tc : Thread nD τ).loc main_arg2)) (m ((c.tc : Thread nD τ).loc main_arg0)))
      ∧ r.2.mem ((c.tc : Thread nD τ).loc main_v56) = Sq (S := S2x1024) (m ((c.tc : Thread nD τ).loc main_arg6))
          (grad (m ((c.tc : Thread nD τ).loc main_arg2)) (m ((c.tc : Thread nD τ).loc main_arg0)))
      ∧ r.2.mem ((c.tc : Thread nD τ).loc main_v94) = Taps (m ((c.tc : Thread nD τ).loc main_arg1))
      ∧ r.2.mem ((c.tc : Thread nD τ).loc main_v95) = Step (S := S31x256) (Taps (m ((c.tc : Thread nD τ).loc main_arg3))) (Taps (m ((c.tc : Thread nD τ).loc main_arg1)))
          (Taps (m ((c.tc : Thread nD τ).loc main_arg5))) (Taps (m ((c.tc : Thread nD τ).loc main_arg7)))
      ∧ r.2.mem ((c.tc : Thread nD τ).loc main_v96) = Mom (S := S31x256) (Taps (m ((c.tc : Thread nD τ).loc main_arg5))) (Taps (m ((c.tc : Thread nD τ).loc main_arg1)))
      ∧ r.2.mem ((c.tc : Thread nD τ).loc main_v97) = Sq (S := S31x256) (Taps (m ((c.tc : Thread nD τ).loc main_arg7))) (Taps (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r hr c => ?_) (run m ρ)
  have h := hr c
  refine ⟨h.1.trans ?_, h.2.1.trans ?_, h.2.2.1.trans ?_, h.2.2.2.1.trans ?_, h.2.2.2.2.1.trans ?_, h.2.2.2.2.2.1.trans ?_, h.2.2.2.2.2.2.1.trans ?_,
    h.2.2.2.2.2.2.2.1.trans ?_, h.2.2.2.2.2.2.2.2⟩
  · clear h; rfl
  · exact (q69 m c).trans (stepR_eq _ _ _ _)
  · clear h; exact Eq.trans rfl (momR_eq _ _)
  · exact (q56 m c).trans (sqR_eq _ _)
  all_goals clear h
  · exact cast_taps _
  all_goals
    refine (cast_taps _).trans (funext fun y => ?_)
    obtain ⟨i, k, rfl⟩ : ∃ i k, y = ix2 i k := ⟨y 0, y 1, eq_ix2 y⟩
    dsimp only [Taps, Step, Mom, Sq]
    generalize m ((c.tc : Thread nD τ).loc main_arg1) = g
    generalize m ((c.tc : Thread nD τ).loc main_arg3) = w
    generalize m ((c.tc : Thread nD τ).loc main_arg5) = a
    generalize m ((c.tc : Thread nD τ).loc main_arg7) = b
    pointwise
    rfl

end Cert.ReferenceLIdeal.Small

end
-- ==== Proof.Conv.lean ====
module

public import Idealize.ShloMosaic.Lib.Pointwise

@[expose] public section

noncomputable section

open Idealize.ShloMosaic

namespace Cert.Conv

/-- The logistic function. -/
def sg (x : EReal) : EReal := Ideal.div 1 (1 + Ideal.exp (-x))

/-- A running sum from `b`. -/
def acc (b : EReal) (g : ℕ → EReal) : ℕ → EReal
  | 0 => b
  | n + 1 => acc b g n + g n

/-- A running sum may start from zero and take its start at the end. -/
theorem acc_zero (b : EReal) (g : ℕ → EReal) (n : ℕ) : acc 0 g n + b = acc b g n := by
  induction n with
  | zero => exact zero_add b
  | succ n ih =>
    show acc 0 g n + g n + b = acc b g n + g n
    rw [← ih]
    exact add_right_comm _ _ _

/-- The group a channel belongs to. -/
abbrev grp (l : Fin 1024) : Fin 8 := ⟨l.val / 128, by omega⟩
/-- Its place in the group. -/
abbrev lane (l : Fin 1024) : Fin 128 := ⟨l.val % 128, by omega⟩
/-- The channel at a place of a group. -/
abbrev col (h : Fin 8) (e : Fin 128) : Fin 1024 := ⟨128 * h.val + e.val, by omega⟩

/-- The mean of a group. -/
def mean (f : Fin 128 → EReal) : EReal := Ideal.div (∑ i, f i) (Ideal.ofBits FTy.f32 1124073472#32)

/-- A group with its mean taken off, over its standard deviation. -/
def nrm (f : Fin 128 → EReal) (i : Fin 128) : EReal :=
  (f i - mean f) * Ideal.rsqrt (mean (fun i => (f i - mean f) * (f i - mean f)) + Ideal.ofBits FTy.f32 897988541#32)

/-- The arguments of the convolution block, by token and channel. -/
structure Toks where
  cv : Fin 8192 → Fin 1024 → EReal
  cg : Fin 8192 → Fin 1024 → EReal
  ct : Fin 8192 → Fin 1024 → EReal
  w : Fin 31 → Fin 1024 → EReal
  cb : Fin 1024 → EReal
  ng : Fin 1024 → EReal
  nb : Fin 1024 → EReal
  wp : Fin 1024 → Fin 1024 → EReal
  bp : Fin 1024 → EReal

namespace Toks

variable (T : Toks)

/-- The gated values. -/
def v (n : Fin 8192) (l : Fin 1024) : EReal := T.cv n l * sg (T.cg n l)

/-- The gated values after 32 zeros. -/
def pad (n : ℕ) (l : Fin 1024) : EReal := if h : 32 ≤ n ∧ n < 8224 then T.v ⟨n - 32, by omega⟩ l else 0

/-- What tap `k` contributes. -/
def tap (n : Fin 8192) (l : Fin 1024) (k : ℕ) : EReal := T.pad (n.val + (k + 2)) l * (if h : k < 31 then T.w ⟨k, h⟩ l else 0)

/-- The convolution. -/
def y (n : Fin 8192) (l : Fin 1024) : EReal := acc (T.cb l) (T.tap n l) 31

/-- Its normalised groups, scaled and shifted. -/
def pre (n : Fin 8192) (l : Fin 1024) : EReal := nrm (fun e => T.y n (col (grp l) e)) (lane l) * T.ng l + T.nb l

/-- The block's output. -/
def out (n : Fin 8192) (l : Fin 1024) : EReal :=
  ((∑ i, T.pre n i * sg (T.pre n i) * T.wp i l) + T.bp l) * (T.ct n l * sg (T.ct n l))

end Toks

/-- Read off the arrays. -/
def toks (z : (⟨3, ![1, 8192, 7168]⟩ : Shape).Idx → EReal) (w : (⟨3, ![1, 31, 1024]⟩ : Shape).Idx → EReal) (cb ng nb : (⟨2, ![1, 1024]⟩ : Shape).Idx → EReal)
    (wp : (⟨3, ![1, 1024, 1024]⟩ : Shape).Idx → EReal) (bp : (⟨2, ![1, 1024]⟩ : Shape).Idx → EReal) : Toks where
  cv r l := z (ix3 0 r ⟨l.val, by omega⟩)
  cg r l := z (ix3 0 r ⟨1024 + l.val, by omega⟩)
  ct r l := z (ix3 0 r ⟨2048 + l.val, by omega⟩)
  w k l := w (ix3 0 k l)
  cb l := cb (ix2 0 l)
  ng l := ng (ix2 0 l)
  nb l := nb (ix2 0 l)
  wp i l := wp (ix3 0 i l)
  bp l := bp (ix2 0 l)

/-- The block's output as an array. -/
def outArr (T : Toks) : (⟨2, ![8192, 1024]⟩ : Shape).Idx → EReal := fun y => T.out (y 0) (y 1)

/-- The convolution as an array. -/
def yArr (T : Toks) : (⟨2, ![8192, 1024]⟩ : Shape).Idx → EReal := fun y => T.y (y 0) (y 1)

end Cert.Conv
-- ==== Proof.ConvK.lean ====
module

public import proofs.«01_k».proof.Proof.Conv
public import proofs.«01_k».proof.Proof.Gen.KernelGIdeal.Value
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem

namespace Cert.KernelGIdeal.Conv

open Cert.KernelGIdeal Cert.KernelGIdeal.Gen Cert.KernelGIdeal.Value Cert.Conv

/-! ## A grid point's arithmetic -/

/-- What a grid point reads: the values before it and its own (`E`), the taps and the bias, the norm's scale and shift, the
projection and its bias, the gate. -/
structure Blk where
  E : Vec Ideal S288x1024 .f32
  W : Vec Ideal S32x1024 .f32
  B : Vec Ideal S1x1024 .f32
  G : Vec Ideal S1x1024 .f32
  N : Vec Ideal S1x1024 .f32
  P : Vec Ideal S1024x1024 .bf16
  Q : Vec Ideal S1x1024 .f32
  C : Vec Ideal S256x1024 .f32

namespace Blk

variable (b : Blk)

/-- The convolution before its last three taps. -/
abbrev y0 := k0_pay11 (F := Ideal) (k0_pay4 b.W) b.E (k0_pay8 (k0_pay4 b.W) b.E (k0_pay7 (k0_pay4 b.W) b.E (k0_pay5 b.W b.B b.E) (k0_pay6 b.E)))
  (k0_pay9 b.E) (k0_pay10 (k0_pay4 b.W))
/-- The convolution. -/
abbrev y := k0_pay12 (F := Ideal) (k0_pay4 b.W) b.E b.y0 258#32
/-- The block's output. -/
abbrev out := k0_pay25 (F := Ideal) (k0_pay13 (k0_pay4 b.W) b.E b.y0 258#32)
  (k0_pay16 (k0_pay14 (k0_pay4 b.W) b.E b.y0 258#32) (k0_pay15 (k0_pay4 b.W) b.E b.y0 258#32) (FloatOps.ofBits FTy.f32 1124073472#32))
  (k0_pay17 b.y) (k0_pay18 b.y) (k0_pay21 (k0_pay19 b.y) (k0_pay20 b.y)) (k0_pay22 b.y) (k0_pay23 b.y) (k0_pay24 b.y) b.G b.N b.P b.Q b.C

/-- The grid point reads the tokens from `256 * t` on. -/
structure Holds (T : Toks) (t : Fin 32) : Prop where
  E : ∀ (r : Fin 288) l, b.E (ix2 r l) = T.pad (256 * t.val + r.val) l
  W : ∀ (k : Fin 31) l, b.W (ix2 ⟨k.val, by omega⟩ l) = T.w k l
  B : ∀ l, b.B (ix2 0 l) = T.cb l
  G : ∀ l, b.G (ix2 0 l) = T.ng l
  N : ∀ l, b.N (ix2 0 l) = T.nb l
  P : ∀ i l, b.P (ix2 i l) = T.wp i l
  Q : ∀ l, b.Q (ix2 0 l) = T.bp l
  C : ∀ (r : Fin 256) l, b.C (ix2 r l) = T.ct ⟨256 * t.val + r.val, by omega⟩ l

/-- A token of a grid point. -/
abbrev tok (t : Fin 32) (r : Fin 256) : Fin 8192 := ⟨256 * t.val + r.val, by omega⟩

variable {b} {T : Toks} {t : Fin 32}

namespace Holds

/-- A tap of the convolution. -/
theorem tap (H : b.Holds T t) (r : Fin 256) (l : Fin 1024) (k : ℕ) (hk : k < 31) (s : Fin 288) (hs : s.val = r.val + (k + 2)) (i : Fin 32) (hi : i.val = k) :
    b.E (ix2 s l) * b.W (ix2 i l) = T.tap (tok t r) l k := by
  have hW := H.W ⟨k, hk⟩ l
  rw [show (⟨k, by omega⟩ : Fin 32) = i from Fin.ext hi.symm] at hW
  rw [H.E, hW, Toks.tap, dif_pos hk, hs, Nat.add_assoc]

/-- The convolution, tap by tap. -/
theorem y (H : b.Holds T t) (r : Fin 256) (l : Fin 1024) : b.y (ix2 r l) = T.y (tok t r) l := by
  have h := H.tap r l
  have hB := H.B l
  clear H
  revert h hB
  dsimp only [Blk.y, Blk.y0]
  generalize b.E = E
  generalize b.W = W
  generalize b.B = B
  intro h hB
  pointwise [k0_pay12, k0_pay11, k0_pay10, k0_pay9, k0_pay8, k0_pay7, k0_pay6, k0_pay5, k0_pay4]
  rw [hB]
  rw [Toks.y]
  iterate 31 refine congrArg₂ (· + ·) ?_ (h _ (by decide) _ (by dsimp only; omega) _ rfl)
  rfl

/-- The eight groups' normalised values. -/
theorem n0 (H : b.Holds T t) (r : Fin 256) (e : Fin 128) :
    k0_pay13 (k0_pay4 b.W) b.E b.y0 258#32 (ix2 r e) = nrm (fun e => T.y (tok t r) (col 0 e)) e := by
  simp only [← H.y]
  rw [k0_pay13]
  dsimp only [Blk.y]
  generalize k0_pay12 (k0_pay4 b.W) b.E b.y0 258#32 = Y
  have hz : ∀ e, col 0 e = ⟨e.val, by omega⟩ := fun e => Fin.ext (Nat.zero_add _)
  simp only [nrm, mean, hz]
  pointwise []

theorem n1 (H : b.Holds T t) (r : Fin 256) (e : Fin 128) :
    k0_pay16 (k0_pay14 (k0_pay4 b.W) b.E b.y0 258#32) (k0_pay15 (k0_pay4 b.W) b.E b.y0 258#32) (FloatOps.ofBits FTy.f32 1124073472#32) (ix2 r e)
      = nrm (fun e => T.y (tok t r) (col 1 e)) e := by
  simp only [← H.y]
  rw [k0_pay15, k0_pay14]
  dsimp only [Blk.y]
  generalize k0_pay12 (k0_pay4 b.W) b.E b.y0 258#32 = Y
  pointwise [k0_pay16]
  rfl

theorem n2 (H : b.Holds T t) (r : Fin 256) (e : Fin 128) : k0_pay17 b.y (ix2 r e) = nrm (fun e => T.y (tok t r) (col 2 e)) e := by
  simp only [← H.y]
  generalize b.y = Y
  pointwise [k0_pay17]
  rfl

theorem n3 (H : b.Holds T t) (r : Fin 256) (e : Fin 128) : k0_pay18 b.y (ix2 r e) = nrm (fun e => T.y (tok t r) (col 3 e)) e := by
  simp only [← H.y]
  generalize b.y = Y
  pointwise [k0_pay18]
  rfl

theorem n4 (H : b.Holds T t) (r : Fin 256) (e : Fin 128) : k0_pay21 (k0_pay19 b.y) (k0_pay20 b.y) (ix2 r e) = nrm (fun e => T.y (tok t r) (col 4 e)) e := by
  simp only [← H.y]
  generalize b.y = Y
  pointwise [k0_pay21, k0_pay20, k0_pay19]
  rfl

theorem n5 (H : b.Holds T t) (r : Fin 256) (e : Fin 128) : k0_pay22 b.y (ix2 r e) = nrm (fun e => T.y (tok t r) (col 5 e)) e := by
  simp only [← H.y]
  generalize b.y = Y
  pointwise [k0_pay22]
  rfl

theorem n6 (H : b.Holds T t) (r : Fin 256) (e : Fin 128) : k0_pay23 b.y (ix2 r e) = nrm (fun e => T.y (tok t r) (col 6 e)) e := by
  simp only [← H.y]
  generalize b.y = Y
  pointwise [k0_pay23]
  rfl

end Holds
end Blk

/-- Eight blocks of 128 channels side by side, read at a channel. -/
theorem side_apply (f : Fin 8 → FVec Ideal S256x128 .f32) (r : Fin 256) (l : Fin 1024) :
    concatenate S256x1024 1 [⟨S256x128, f 0⟩, ⟨S256x128, f 1⟩, ⟨S256x128, f 2⟩, ⟨S256x128, f 3⟩, ⟨S256x128, f 4⟩, ⟨S256x128, f 5⟩, ⟨S256x128, f 6⟩, ⟨S256x128, f 7⟩]
      concatenates_S256x128_S256x128_S256x128_S256x128_S256x128_S256x128_S256x128_S256x128_S256x1024_d1 (ix2 r l) = f (grp l) (ix2 r (lane l)) := by
  refine concatenate_ofFn_apply (t := S256x1024) (s₁ := S256x128) 1 f
    concatenates_S256x128_S256x128_S256x128_S256x128_S256x128_S256x128_S256x128_S256x128_S256x1024_d1 rfl 128 rfl _ (grp l) rfl _ rfl ?_
  intro b hb
  fin_cases b
  · rfl
  · exact absurd rfl hb

/-- The last group's values with their mean taken off. -/
abbrev cen (x : FVec Ideal S256x128 .f32) : FVec Ideal S256x128 .f32 :=
  subf x (broadcastTo S256x128 (divf (shapeCast S256x1 (multiReduction .add [1] S256 x 0x00000000#32 reduces_S256x128_S256 (.inl rfl) rfl)
    shapeCasts_S256_S256x1) (broadcast S256x1 (Scalar.ofBits .f32 0x43000000#32))) broadcasts_S256x1_S256x128)

/-- The last group's normalised values. -/
abbrev last (x : FVec Ideal S256x128 .f32) : FVec Ideal S256x128 .f32 :=
  mulf (cen x) (broadcastTo S256x128 (rsqrt (addf (divf (shapeCast S256x1 (multiReduction .add [1] S256 (mulf (cen x) (cen x)) 0x00000000#32
    reduces_S256x128_S256 (.inl rfl) rfl) shapeCasts_S256_S256x1) (broadcast S256x1 (Scalar.ofBits .f32 0x43000000#32)))
    (broadcast S256x1 (Scalar.ofBits .f32 0x358637BD#32)))) broadcasts_S256x1_S256x128)

/-- What follows the norm. -/
def rest (X : FVec Ideal S256x1024 .f32) (G N : Vec Ideal S1x1024 .f32) (P : Vec Ideal S1024x1024 .bf16) (Q : Vec Ideal S1x1024 .f32)
    (C : Vec Ideal S256x1024 .f32) : FVec Ideal S256x1024 .bf16 :=
  have a : FVec Ideal S256x1024 .f32 := addf (mulf X (broadcastTo S256x1024 G broadcasts_S1x1024_S256x1024)) (broadcastTo S256x1024 N broadcasts_S1x1024_S256x1024)
  truncf .bf16 (mulf (addf (matmul (φ₂ := .bf16) dot_S256x1024_S1024x1024_S256x1024_1_0_0_1_n_n none (truncf .bf16 (mulf a (logistic a)) bitsLt_bf16_f32)
    (shapeCast S1024x1024 P shapeCasts_S1024x1024_S1024x1024) (constant S256x1024 .f32 0x00000000#32)) (broadcastTo S256x1024 Q broadcasts_S1x1024_S256x1024))
    (mulf (shapeCast S256x1024 C shapeCasts_S256x1024_S256x1024) (logistic (shapeCast S256x1024 C shapeCasts_S256x1024_S256x1024)))) bitsLt_bf16_f32

namespace Blk.Holds

variable {b : Blk} {T : Toks} {t : Fin 32}

/-- The last group's normalised values, channel by channel. -/
theorem n7 (H : b.Holds T t) (r : Fin 256) (e : Fin 128) : last (k0_pay24 b.y) (ix2 r e) = nrm (fun e => T.y (tok t r) (col 7 e)) e := by
  simp only [← H.y]
  generalize b.y = Y
  pointwise [last, cen, k0_pay24]
  rfl

/-- What follows the norm, entry by entry. -/
theorem rest (H : b.Holds T t) (X : FVec Ideal S256x1024 .f32) (r : Fin 256) (hX : ∀ l, X (ix2 r l) = nrm (fun e => T.y (tok t r) (col (grp l) e)) (lane l)) (l : Fin 1024) :
    Conv.rest X b.G b.N b.P b.Q b.C (ix2 r l) = T.out (tok t r) l := by
  pointwise [Conv.rest]
  simp only [hX, H.G, H.N, H.P, H.Q, H.C]
  rfl

/-- The block's output. -/
theorem out (H : b.Holds T t) (r : Fin 256) (l : Fin 1024) : b.out (ix2 r l) = T.out (tok t r) l := by
  refine H.rest _ r (fun l => side_apply ![k0_pay13 (k0_pay4 b.W) b.E b.y0 258#32,
    k0_pay16 (k0_pay14 (k0_pay4 b.W) b.E b.y0 258#32) (k0_pay15 (k0_pay4 b.W) b.E b.y0 258#32) (FloatOps.ofBits FTy.f32 1124073472#32),
    k0_pay17 b.y, k0_pay18 b.y, k0_pay21 (k0_pay19 b.y) (k0_pay20 b.y), k0_pay22 b.y, k0_pay23 b.y, last (k0_pay24 b.y)] r l |>.trans ?_) l
  generalize grp l = h
  fin_cases h
  · exact H.n0 r _
  · exact H.n1 r _
  · exact H.n2 r _
  · exact H.n3 r _
  · exact H.n4 r _
  · exact H.n5 r _
  · exact H.n6 r _
  · exact H.n7 r _

end Blk.Holds

/-! ## The values before a grid point -/

section
variable {sig : RefSig} {κ : Kind} {sp : Space} {e : EltTy} {Val : EltTy → Type} {n k D : ℕ}

/-- After a store of some rows, one of them reads what was stored. -/
theorem rows_in (v : View sig κ sp ⟨2, ![n, D]⟩ e) (f : v.ty.Contents Val) {i : ℕ} (inb) (w : (⟨2, ![k, D]⟩ : Shape).Idx → Val e)
    (L : List (View.Piece Val ⟨2, ![n, D]⟩ e)) (r : Fin n) (q : Fin k) (l : Fin D) (h : r.val = i + q.val) :
    v.read Val (v.writes Val f ((⟨Rect.unit ![i, 0] ![k, D] inb, w⟩ : View.Piece Val ⟨2, ![n, D]⟩ e) :: L)) (ix2 r l) = w (ix2 q l) := by
  refine View.read_writes_cons_unit_of_mem v f _ _ _ _ (ix2 q l) rfl ?_
  intro a
  match a with
  | ⟨0, _⟩ => exact h
  | ⟨1, _⟩ => exact (Nat.zero_add _).symm

/-- After a store of some rows, a row before them reads what it held. -/
theorem rows_out (v : View sig κ sp ⟨2, ![n, D]⟩ e) (f : v.ty.Contents Val) {i : ℕ} (inb) (w : (⟨2, ![k, D]⟩ : Shape).Idx → Val e)
    (L : List (View.Piece Val ⟨2, ![n, D]⟩ e)) (r : Fin n) (l : Fin D) (h : r.val < i) :
    v.read Val (v.writes Val f ((⟨Rect.unit ![i, 0] ![k, D] inb, w⟩ : View.Piece Val ⟨2, ![n, D]⟩ e) :: L)) (ix2 r l)
      = v.read Val (v.writes Val f L) (ix2 r l) := by
  refine View.read_writes_cons_unit_of_not_mem v f _ _ _ _ (off' := ![i, 0]) rfl (0 : Fin 2) ?_
  exact Or.inl h

end

/-- The stores of one grid point: 32 values from before, then its own. -/
abbrev pieces (x : FVec Ideal S256x1024 .f32) (p : FVec Ideal S32x1024 .f32) (L : List (View.Piece (Elt Ideal) S288x1024 .f32)) :
    List (View.Piece (Elt Ideal) S288x1024 .f32) :=
  (⟨Rect.unit ![32, 0] ![256, 1024] inb_S288x1024_S256x1024_32_0, x⟩ : View.Piece (Elt Ideal) S288x1024 .f32)
    :: (⟨Rect.unit ![0, 0] ![32, 1024] inb_S288x1024_S32x1024_0_0, p⟩ : View.Piece (Elt Ideal) S288x1024 .f32) :: L

/-- What they leave. -/
theorem canon_ext (x : FVec Ideal S256x1024 .f32) (p : FVec Ideal S32x1024 .f32) (L : List (View.Piece (Elt Ideal) S288x1024 .f32)) (r : Fin 288) (l : Fin 1024) :
    View.canon (Val := Elt Ideal) (pieces x p L) (ix2 r l)
      = if h : r.val < 32 then p (ix2 ⟨r.val, h⟩ l) else x (ix2 ⟨r.val - 32, by omega⟩ l) := by
  rw [← View.read_writes_junk_apply_eq_canon (View.whole cc0_scratch0)]
  split
  next h => exact (rows_out _ _ _ _ _ r l h).trans (rows_in _ _ _ _ _ r ⟨r.val, h⟩ l (Nat.zero_add _).symm)
  next h => exact rows_in _ _ _ _ _ r ⟨r.val - 32, by omega⟩ l (by dsimp only; omega)

/-- The whole of the carried values. -/
abbrev full : Rect S288x1024 := Rect.unit ![0, 0] ![288, 1024] inb_S288x1024_S288x1024_0_0

/-- Read whole, they are the same. -/
theorem read_ext (L : List (View.Piece (Elt Ideal) S288x1024 .f32)) (r : Fin 288) (l : Fin 1024) :
    ((View.whole cc0_scratch0).readCov L full.toLoadRect : FVec Ideal S288x1024 .f32) (ix2 r l) = View.canon L (ix2 r l) := by
  rw [View.readCov_eq_canon']
  refine congrArg (View.canon L) (funext fun a => Fin.ext ?_)
  match a with
  | ⟨0, _⟩ => show 0 + 1 * r.val = r.val; omega
  | ⟨1, _⟩ => show 0 + 1 * l.val = l.val; omega

/-- The last 32 values, carried to the next grid point. -/
abbrev carry : Rect S288x1024 := Rect.unit ![256, 0] ![32, 1024] inb_S288x1024_S32x1024_256_0

/-- Before the first grid point the values are zero. -/
theorem zeroed (r : Fin 32) (l : Fin 1024) :
    k0_pay2 (F := Ideal) ((View.whole cc0_scratch0).readCov [(⟨full, (k0_pay1 : FVec Ideal S288x1024 .f32)⟩ : View.Piece (Elt Ideal) S288x1024 .f32)]
      carry.toLoadRect) (ix2 r l) = 0 := by
  have h0 : ∀ j, (k0_pay1 : FVec Ideal S288x1024 .f32) j = 0 := fun j => by
    pointwise [k0_pay1]
  rw [View.readCov_eq_canon']
  pointwise [k0_pay2]
  exact (congrFun (View.canon_unit_zero (Val := Elt Ideal) (S := S288x1024) (off := ![0, 0]) (by decide) _ _) _).trans (h0 _)

/-- Before a later grid point they are the last of the one before. -/
theorem kept (X : Vec Ideal S288x1024 .f32) (h : (Memref.whole cc0_scratch0).IsWhole) (r : Fin 32) (l : Fin 1024) :
    k0_pay2 (F := Ideal) (View.ld (View.read (Elt Ideal) (View.whole cc0_scratch0) (h.unread X))
      carry) (ix2 r l) = X (ix2 ⟨256 + r.val, by omega⟩ l) := by
  rw [read_unread_whole]
  pointwise [k0_pay2]

/-- A grid point's own values. -/
theorem own (x g : Vec Ideal S256x1024 .f32) (r : Fin 256) (l : Fin 1024) : k0_pay3 x g (ix2 r l) = x (ix2 r l) * sg (g (ix2 r l)) := by
  pointwise [k0_pay3]
  rfl

end Cert.KernelGIdeal.Conv
-- ==== Proof.ConvGrid.lean ====
module

public import proofs.«01_k».proof.Proof.ConvK

@[expose] public section

set_option maxRecDepth 16384

noncomputable section

open Idealize.ShloMosaic Idealize.ShloMosaic.TcCoe Idealize.SL.Sem

namespace Cert.KernelGIdeal.Conv

open Cert.KernelGIdeal Cert.KernelGIdeal.Gen Cert.KernelGIdeal.Value Cert.Conv

variable (m : (ℓ : Loc nD τ sig) → Buf (Elt Ideal) ℓ) (c : Dev nD)

/-! ## What a grid point leaves -/

/-- The store that fills the carried values with zeros. -/
abbrev fill : List (View.Piece (Elt Ideal) S288x1024 .f32) := [(⟨full, (k0_pay1 : FVec Ideal S288x1024 .f32)⟩ : View.Piece (Elt Ideal) S288x1024 .f32)]

/-- The nine blocks a grid point reads. -/
structure Ins where
  x0 : Vec Ideal S256x1024 .f32
  x1 : Vec Ideal S256x1024 .f32
  C : Vec Ideal S256x1024 .f32
  W : Vec Ideal S32x1024 .f32
  B : Vec Ideal S1x1024 .f32
  G : Vec Ideal S1x1024 .f32
  N : Vec Ideal S1x1024 .f32
  P : Vec Ideal S1024x1024 .bf16
  Q : Vec Ideal S1x1024 .f32

/-- The stores of the first grid point. -/
abbrev Ins.storesA (I : Ins) : List (View.Piece (Elt Ideal) S288x1024 .f32) :=
  pieces (k0_pay3 I.x0 I.x1) (k0_pay2 ((View.whole cc0_scratch0).readCov fill carry.toLoadRect)) fill

/-- The stores of a later grid point, over what the one before left. -/
abbrev Ins.storesB (I : Ins) (X : Vec Ideal S288x1024 .f32) : List (View.Piece (Elt Ideal) S288x1024 .f32) :=
  pieces (k0_pay3 I.x0 I.x1) (k0_pay2 (View.ld (View.read (Elt Ideal) (View.whole cc0_scratch0) ((Memref.isWhole_whole cc0_scratch0).unread X)) carry)) []

/-- What a grid point computes from, its stores given. -/
abbrev Ins.blk (I : Ins) (L : List (View.Piece (Elt Ideal) S288x1024 .f32)) : Blk :=
  ⟨View.readCov (κ := Proc.kind (Proc.tc : Proc τ)) (s := S288x1024) (e := .f32) (View.whole cc0_scratch0) L full.toLoadRect, I.W, I.B, I.G, I.N, I.P, I.Q, I.C⟩

/-- What the first grid point leaves. -/
theorem outs_A (I : Ins) (t : Fin cfg0.N) (h : cond0_0 (grid0.coords t)) :
    (∀ y, out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) h I.x0 I.x1 I.C I.W I.B I.G I.N I.P I.Q y = (I.blk (I.storesA)).out y)
    ∧ (∀ y, out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) h I.x0 I.x1 I.C I.W I.B I.G I.N I.P I.Q y = (I.blk (I.storesA)).y y)
    ∧ (∀ y, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) h I.x0 I.x1 I.C I.W I.B I.G I.N I.P I.Q y = View.canon (I.storesA) y) := by
  refine ⟨fun y => ?_, fun y => ?_, fun y => ?_⟩
  all_goals frame_out

seal k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 View.readCov View.canon in
/-- What a later grid point leaves. -/
theorem outs_B (I : Ins) (t : Fin cfg0.N) (h : ¬cond0_0 (grid0.coords t)) (X : Vec Ideal S288x1024 .f32) :
    (∀ y, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) h I.x0 I.x1 I.C I.W I.B I.G I.N I.P I.Q X y = (I.blk (I.storesB X)).out y)
    ∧ (∀ y, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) h I.x0 I.x1 I.C I.W I.B I.G I.N I.P I.Q X y = (I.blk (I.storesB X)).y y)
    ∧ (∀ y, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) h I.x0 I.x1 I.C I.W I.B I.G I.N I.P I.Q X y = View.canon (I.storesB X) y) := by
  refine ⟨fun y => ?_, fun y => ?_, fun y => ?_⟩
  all_goals
    frame_out
    rfl

/-! ## What a grid point reads -/

/-- The arguments the launch finds. -/
abbrev args : Toks :=
  toks (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- Which blocks a grid point works on. -/
theorem idx : ∀ t : Fin cfg0.N, win0_0.index t = ![t.val, 0] ∧ win0_1.index t = ![t.val, 1] ∧ win0_2.index t = ![t.val, 2] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val, 0] ∧ win0_10.index t = ![t.val, 0] := by
  decide +kernel

/-- A grid point's number. -/
abbrev pt (t : Fin cfg0.N) : Fin 32 := ⟨t.val, lt_of_lt_of_eq t.isLt N_0⟩

/-- What the host prepares: the tokens, the padded taps and the projection. -/
theorem prepared :
    (∀ (r : Fin 8192) (l : Fin 7168), V m c main_v0 (ix2 r l) = m ((c : Thread nD τ).loc main_arg0) (ix3 0 r l))
    ∧ (∀ (k : Fin 31) (l : Fin 1024), V m c main_v2 (ix2 ⟨k.val, by omega⟩ l) = m ((c : Thread nD τ).loc main_arg1) (ix3 0 k l))
    ∧ (∀ i l : Fin 1024, V m c main_v4 (ix2 i l) = m ((c : Thread nD τ).loc main_arg5) (ix3 0 i l)) := by
  refine ⟨fun r l => ?_, fun k l => ?_, fun i l => ?_⟩
  all_goals
    simp only [V, hostOps0, hostOps0_1, hostOps0_2, List.flatten_cons, List.flatten_nil, List.cons_append, List.nil_append, List.append_nil]
    after_results_simp
    pointwise
  show pad (s := S31x1024) S32x1024 ![0, 0] ![1, 0] ![0, 0] (fun i => m ((c : Thread nD τ).loc main_arg1) (ix3 0 (i 0) (i 1)))
    (_ : S_.Idx → EReal) pads_S31x1024_S32x1024_010_000 h_S_ _ = _
  pointwise

/-- The blocks of a grid point. -/
abbrev ins (t : Fin cfg0.N) : Ins :=
  ⟨iblk m c 0 t, iblk m c 1 t, iblk m c 2 t, iblk m c 3 t, iblk m c 4 t, iblk m c 5 t, iblk m c 6 t, iblk m c 7 t, iblk m c 8 t⟩

/-- Its own tokens' gated values. -/
theorem own_v (t : Fin cfg0.N) (r : Fin 256) (l : Fin 1024) :
    k0_pay3 (ins m c t).x0 (ins m c t).x1 (ix2 r l) = (args m c).v ⟨256 * t.val + r.val, by have := (pt t).isLt; dsimp only at this; omega⟩ l := by
  rw [own]
  obtain ⟨h, -⟩ := prepared m c
  simp only [Toks.v, args, toks, ← h]
  dsimp only [ins, iblk]
  generalize V m c main_v0 = Z
  refine congrArg₂ (· * sg ·) ?_ ?_ <;> blk_point [idx t]

/-- The blocks of a grid point hold its tokens. -/
theorem holds (t : Fin cfg0.N) (L : List (View.Piece (Elt Ideal) S288x1024 .f32))
    (hL : ∀ (r : Fin 288) l, View.canon L (ix2 r l) = (args m c).pad (256 * t.val + r.val) l) : ((ins m c t).blk L).Holds (args m c) (pt t) := by
  obtain ⟨h0, h2, h4⟩ := prepared m c
  refine ⟨fun r l => (read_ext L r l).trans (hL r l), ?_, ?_, ?_, ?_, ?_, ?_, ?_⟩
  · intro k l; simp only [args, toks, ← h2]; dsimp only [ins, iblk]; generalize V m c main_v2 = Z; blk_point [idx t]
  · intro l; simp only [args, toks]; blk_point [iblk, V, idx t]
  · intro l; simp only [args, toks]; blk_point [iblk, V, idx t]
  · intro l; simp only [args, toks]; blk_point [iblk, V, idx t]
  · intro i l; simp only [args, toks, ← h4]; dsimp only [ins, iblk]; generalize V m c main_v4 = Z; blk_point [idx t]
  · intro l; simp only [args, toks]; blk_point [iblk, V, idx t]
  · intro r l; simp only [args, toks, ← h0]; dsimp only [ins, iblk]; generalize V m c main_v0 = Z; blk_point [idx t]

/-! ## All grid points -/

/-- What a grid point leaves: its outputs and the values it carries on. -/
structure Leaves (T : Toks) (t : Fin 32) (o9 : Vec Ideal S256x1024 .bf16) (o10 : Vec Ideal S256x1024 .f32) (s : Vec Ideal S288x1024 .f32) : Prop where
  out : ∀ (r : Fin 256) l, o9 (ix2 r l) = T.out ⟨256 * t.val + r.val, by omega⟩ l
  y : ∀ (r : Fin 256) l, o10 (ix2 r l) = T.y ⟨256 * t.val + r.val, by omega⟩ l
  next : ∀ (r : Fin 288) l, s (ix2 r l) = T.pad (256 * t.val + r.val) l

/-- The carried values of a grid point, from the 32 before it and its own. -/
theorem stored (t : Fin cfg0.N) (p : FVec Ideal S32x1024 .f32) (L : List (View.Piece (Elt Ideal) S288x1024 .f32))
    (hp : ∀ (r : Fin 32) l, p (ix2 r l) = (args m c).pad (256 * t.val + r.val) l) (r : Fin 288) (l : Fin 1024) :
    View.canon (Val := Elt Ideal) (pieces (k0_pay3 (ins m c t).x0 (ins m c t).x1) p L) (ix2 r l) = (args m c).pad (256 * t.val + r.val) l := by
  have ht := (pt t).isLt
  dsimp only at ht
  rw [canon_ext]
  split
  next h => exact hp ⟨r.val, h⟩ l
  next h =>
    rw [own_v, Toks.pad, dif_pos ⟨by omega, by omega⟩]
    exact congrArg ((args m c).v · l) (Fin.ext (by dsimp only; omega))

/-- Stores that leave the carried values leave the rest. -/
theorem leaves {T : Toks} {t : Fin 32} {b : Blk} {L : List (View.Piece (Elt Ideal) S288x1024 .f32)} (H : b.Holds T t)
    (hL : ∀ (r : Fin 288) l, View.canon L (ix2 r l) = T.pad (256 * t.val + r.val) l)
    {o9 : Vec Ideal S256x1024 .bf16} {o10 : Vec Ideal S256x1024 .f32} {s : Vec Ideal S288x1024 .f32}
    (h9 : ∀ y, o9 y = b.out y) (h10 : ∀ y, o10 y = b.y y) (hs : ∀ y, s y = View.canon L y) : Leaves T t o9 o10 s :=
  ⟨fun r l => (h9 _).trans (H.out r l), fun r l => (h10 _).trans (H.y r l), fun r l => (hs _).trans (hL r l)⟩

/-- What the first grid point leaves, its blocks given. -/
theorem leaves_A {T : Toks} (t : Fin cfg0.N) (I : Ins) (h : cond0_0 (grid0.coords t)) (hL : ∀ (r : Fin 288) l, View.canon I.storesA (ix2 r l) = T.pad (256 * t.val + r.val) l)
    (H : (I.blk I.storesA).Holds T (pt t)) :
    Leaves T (pt t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) h I.x0 I.x1 I.C I.W I.B I.G I.N I.P I.Q)
      (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) h I.x0 I.x1 I.C I.W I.B I.G I.N I.P I.Q)
      (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) h I.x0 I.x1 I.C I.W I.B I.G I.N I.P I.Q) := by
  obtain ⟨h9, h10, hs⟩ := outs_A c I t h
  exact leaves H hL h9 h10 hs

/-- What a later grid point leaves, its blocks and what the one before left given. -/
theorem leaves_B {T : Toks} (t : Fin cfg0.N) (I : Ins) (h : ¬cond0_0 (grid0.coords t)) (X : Vec Ideal S288x1024 .f32)
    (hL : ∀ (r : Fin 288) l, View.canon (I.storesB X) (ix2 r l) = T.pad (256 * t.val + r.val) l) (H : (I.blk (I.storesB X)).Holds T (pt t)) :
    Leaves T (pt t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) h I.x0 I.x1 I.C I.W I.B I.G I.N I.P I.Q X)
      (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) h I.x0 I.x1 I.C I.W I.B I.G I.N I.P I.Q X)
      (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
        scM0_0 (Memref.isWhole_whole _) h I.x0 I.x1 I.C I.W I.B I.G I.N I.P I.Q X) := by
  obtain ⟨h9, h10, hs⟩ := outs_B c I t h X
  exact leaves H hL h9 h10 hs

seal out0_A_9 out0_A_10 sout0_A_0 in
/-- What the first grid point leaves. -/
theorem leaves_first (t : Fin cfg0.N) (h0 : t.val = 0) :
    Leaves (args m c) (pt t) (outsAt0 m c t.val t.isLt).1 (outsAt0 m c t.val t.isLt).2.1 (outsAt0 m c t.val t.isLt).2.2 := by
  have h : t.val % 32 = 0 := by rw [h0]
  have hL : ∀ (r : Fin 288) l, View.canon (ins m c t).storesA (ix2 r l) = (args m c).pad (256 * t.val + r.val) l :=
    stored m c t _ fill (fun r l => (zeroed r l).trans (by rw [Toks.pad, dif_neg]; omega))
  have R := leaves_A c t (ins m c t) ((hcond0_0 t).mpr h) hL (holds m c t _ hL)
  rw [outsAt0_A m c t h]
  exact R

seal out0_B_9 out0_B_10 sout0_B_0 in
/-- What a later grid point leaves, given what the one before left. -/
theorem leaves_next (t : Fin cfg0.N) (h0 : ¬t.val % 32 = 0)
    (ih : ∀ (r : Fin 288) l, (outsAt0 m c (t.val - 1) (lt_of_le_of_lt (Nat.sub_le _ _) t.isLt)).2.2 (ix2 r l) = (args m c).pad (256 * (t.val - 1) + r.val) l) :
    Leaves (args m c) (pt t) (outsAt0 m c t.val t.isLt).1 (outsAt0 m c t.val t.isLt).2.1 (outsAt0 m c t.val t.isLt).2.2 := by
  have hL : ∀ (r : Fin 288) l, View.canon ((ins m c t).storesB (outsAt0 m c (t.val - 1) (lt_of_le_of_lt (Nat.sub_le _ _) t.isLt)).2.2) (ix2 r l)
      = (args m c).pad (256 * t.val + r.val) l :=
    stored m c t _ [] (fun r l => (kept _ _ r l).trans ((ih _ l).trans (congrArg ((args m c).pad · l) (by dsimp only; omega))))
  have R := leaves_B c t (ins m c t) (fun h => h0 ((hcond0_0 t).mp h)) _ hL (holds m c t _ hL)
  rw [outsAt0_B m c t h0]
  exact R

/-- What every grid point leaves. -/
theorem leaves_all : ∀ (n : ℕ) (hn : n < cfg0.N),
    Leaves (args m c) (pt ⟨n, hn⟩) (outsAt0 m c n hn).1 (outsAt0 m c n hn).2.1 (outsAt0 m c n hn).2.2
  | 0, hn => leaves_first m c ⟨0, hn⟩ rfl
  | n + 1, hn => leaves_next m c ⟨n + 1, hn⟩ (by
      have h := lt_of_lt_of_eq hn N_0
      show ¬(n + 1) % 32 = 0
      omega) (leaves_all n (Nat.lt_of_succ_lt hn)).next

/-- The kernel's first result: the block's output. -/
theorem final9 : (dats m 0 c).arrAt 9 cfg0.N = outArr (args m c) := by
  refine (dats m 0 c).arrAt_eq_of_covers 9 _ (by decide +kernel) fun t hf y => ?_
  blk_simp
  rw [after0_9]
  idx_vars y
  refine ((leaves_all m c t.val t.isLt).out y0 y1).trans ?_
  refine Eq.trans (show _ = outArr (args m c) (ix2 ⟨256 * t.val + y0.val, _⟩ y1) from rfl) ?_
  generalize outArr (args m c) = G
  blk_point [idx t]

/-- The kernel's second result: the convolution. -/
theorem final10 : (dats m 0 c).arrAt 10 cfg0.N = yArr (args m c) := by
  refine (dats m 0 c).arrAt_eq_of_covers 10 _ (by decide +kernel) fun t hf y => ?_
  blk_simp
  rw [after0_10]
  idx_vars y
  refine ((leaves_all m c t.val t.isLt).y y0 y1).trans ?_
  refine Eq.trans (show _ = yArr (args m c) (ix2 ⟨256 * t.val + y0.val, _⟩ y1) from rfl) ?_
  generalize yArr (args m c) = G
  blk_point [idx t]

end Cert.KernelGIdeal.Conv
-- ==== Proof.ConvRef.lean ====
module

public import proofs.«01_k».proof.Proof.Gen.ReferenceGIdeal.Run
public import proofs.«01_k».proof.Proof.Conv

@[expose] public section

set_option maxRecDepth 16384

noncomputable section

open Idealize.ShloMosaic Idealize.ShloMosaic.TcCoe Idealize.SL.Sem
open Idealize.ShloMosaic.StableHlo Idealize.ShloMosaic.Pipeline

namespace Cert.ReferenceGIdeal.Conv

open Cert.ReferenceGIdeal Cert.ReferenceGIdeal.Gen Cert.ReferenceGIdeal.Value Cert.Conv

variable (m : (ℓ : Loc nD τ sig) → Buf (Elt Ideal) ℓ) (c : Dev nD)

/-- The arguments the launch finds. -/
abbrev args : Toks :=
  toks (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- The gate. -/
theorem gate (r : Fin 8192) (l : Fin 1024) : res_main_v3 (launchContents m c) (ix3 0 r l) = (args m c).ct r l := by
  pointwise [res_main_v3, res_main_v0]
  rfl

/-- The taps. -/
theorem taps (k : Fin 31) (l : Fin 1024) : res_main_v4 (launchContents m c) (ix2 k l) = (args m c).w k l := by
  pointwise [res_main_v4]
  rfl

/-- The gated values after thirty zeros. -/
theorem padded (p : Fin 8222) (l : Fin 1024) : res_main_v14 (launchContents m c) (ix3 0 p l) = (args m c).pad (p.val + 2) l := by
  pointwise [res_main_v14, res_main_v0]
  rw [Toks.pad]
  have hp := p.isLt
  by_cases h : p.val < 30
  · rw [dif_pos h, dif_neg (by omega)]
  · rw [dif_neg h, dif_pos ⟨by omega, by omega⟩]
    have hr : (⟨p.val - 30, by omega⟩ : Fin 8192) = ⟨p.val + 2 - 32, by omega⟩ := Fin.ext (by dsimp only; omega)
    rw [hr]
    rfl

/-- One tap's product. -/
theorem tap (X : FVec Ideal S1x8222x1024 .f32) (W : FVec Ideal S31x1024 .f32) (T : Toks) (hX : ∀ p l, X (ix3 0 p l) = T.pad (p.val + 2) l)
    (hW : ∀ k l, W (ix2 k l) = T.w k l) (r : Fin 8192) (l : Fin 1024) (k : ℕ) (hk : k < 31) (s : Fin 8222) (hs : s.val = k + r.val) (i : Fin 31) (hi : i.val = k) :
    X (ix3 0 s l) * W (ix2 i l) = T.tap r l k := by
  rw [hX, hW, Toks.tap, dif_pos hk, hs, show k + r.val + 2 = r.val + (k + 2) by omega]
  exact congrArg (fun i => _ * T.w i l) (Fin.ext hi)

/-- The first eleven taps. -/
theorem sum11 (r : Fin 8192) (l : Fin 1024) : res_main_v92 (launchContents m c) (ix3 0 r l) = acc 0 ((args m c).tap r l) 11 := by
  have h := tap _ _ _ (padded m c) (taps m c) r l
  rw [res_main_v92]
  generalize res_main_v14 (launchContents m c) = X at h
  generalize res_main_v4 (launchContents m c) = W at h
  pointwise
  iterate 10 refine congrArg₂ (· + ·) ?_ (h _ (by decide) _ rfl _ rfl)
  exact (h 0 (by decide) _ (Nat.zero_add _).symm _ rfl).trans (zero_add _).symm

/-- The first twenty-two taps. -/
theorem sum22 (r : Fin 8192) (l : Fin 1024) : res_main_v169 (launchContents m c) (ix3 0 r l) = acc 0 ((args m c).tap r l) 22 := by
  have h := tap _ _ _ (padded m c) (taps m c) r l
  have h0 := sum11 m c r l
  rw [res_main_v169]
  generalize res_main_v14 (launchContents m c) = X at h
  generalize res_main_v4 (launchContents m c) = W at h
  generalize res_main_v92 (launchContents m c) = Y at h0
  pointwise
  iterate 11 refine congrArg₂ (· + ·) ?_ (h _ (by decide) _ rfl _ rfl)
  exact h0

/-- The convolution. -/
theorem conv (r : Fin 8192) (l : Fin 1024) : res_main_v235 (launchContents m c) (ix3 0 r l) = (args m c).y r l := by
  have h := tap _ _ _ (padded m c) (taps m c) r l
  have h0 := sum22 m c r l
  rw [res_main_v235]
  generalize res_main_v14 (launchContents m c) = X at h
  generalize res_main_v4 (launchContents m c) = W at h
  generalize res_main_v169 (launchContents m c) = Y at h0
  refine Eq.trans ?_ (acc_zero _ _ _)
  pointwise
  refine congrArg₂ (· + ·) ?_ rfl
  iterate 9 refine congrArg₂ (· + ·) ?_ (h _ (by decide) _ rfl _ rfl)
  exact h0

/-! ## The norm and what follows -/

/-- The convolution by group. -/
theorem grouped (r : Fin 8192) (h : Fin 8) (e : Fin 128) : res_main_v238 (launchContents m c) (ix4 0 r h e) = (args m c).y r (col h e) := by
  have h0 := conv m c r
  rw [res_main_v238]
  generalize res_main_v235 (launchContents m c) = Y at h0
  pointwise
  exact (h0 _).trans (congrArg ((args m c).y r) (Fin.ext (by dsimp only; omega)))

/-- A group's mean. -/
theorem means (r : Fin 8192) (h : Fin 8) : res_main_v242 (launchContents m c) (ix4 0 r h 0) = mean fun e => (args m c).y r (col h e) := by
  have h0 := grouped m c r h
  rw [res_main_v242]
  generalize res_main_v238 (launchContents m c) = Y at h0
  pointwise
  simp only [h0]
  rfl

/-- A group with its mean taken off. -/
theorem centred (r : Fin 8192) (h : Fin 8) (e : Fin 128) : res_main_v244 (launchContents m c) (ix4 0 r h e)
    = (args m c).y r (col h e) - mean fun e => (args m c).y r (col h e) := by
  have h0 := grouped m c r h e
  have h1 := means m c r h
  rw [res_main_v244]
  generalize res_main_v238 (launchContents m c) = Y at h0
  generalize res_main_v242 (launchContents m c) = M at h1
  pointwise
  rw [h0, h1]

/-- The groups' norm, as groups. -/
def normed (A : FVec Ideal S1x8192x8x128 .f32) (M : FVec Ideal S1x8192x8x1 .f32) (C : FVec Ideal S1x8192x8x128 .f32) : FVec Ideal S1x8192x8x128 .f32 :=
  mulf (subf A (broadcastInDim S1x8192x8x128 ![0, 1, 2, 3] bcast_S1x8192x8x1_S1x8192x8x128_0_1_2_3 M)) (broadcastInDim S1x8192x8x128 ![0, 1, 2, 3] bcast_S1x8192x8x1_S1x8192x8x128_0_1_2_3 (Host.rsqrt (addf (Host.divf (broadcastInDim S1x8192x8x1 ![0, 1, 2] bcast_S1x8192x8_S1x8192x8x1_0_1_2 (Host.reduceAdd (mulf C C) (constant S_ .f32 0x00000000#32) reducesTo_S1x8192x8x128_S1x8192x8_d3 h_S_)) (broadcastInDim S1x8192x8x1 ![] bcast_S_S1x8192x8x1 (constant S_ .f32 0x43000000#32))) (broadcastInDim S1x8192x8x1 ![] bcast_S_S1x8192x8x1 (constant S_ .f32 0x358637BD#32)))))

/-- Its entries. -/
theorem norms (r : Fin 8192) (h : Fin 8) (e : Fin 128) : normed (res_main_v238 (launchContents m c)) (res_main_v242 (launchContents m c)) (res_main_v244 (launchContents m c)) (ix4 0 r h e)
    = nrm (fun e => (args m c).y r (col h e)) e := by
  have h0 := grouped m c r h e
  have h1 := means m c r h
  have h2 := centred m c r h
  generalize res_main_v238 (launchContents m c) = A at h0
  generalize res_main_v242 (launchContents m c) = M at h1
  generalize res_main_v244 (launchContents m c) = C at h2
  pointwise [normed]
  simp only [h0, h1, h2]
  rfl

/-- The groups laid side by side. -/
theorem ungrouped (x : FVec Ideal S1x8192x8x128 .f32) (r : Fin 8192) (l : Fin 1024) :
    shapeCast S1x8192x1024 x shapeCasts_S1x8192x8x128_S1x8192x1024 (ix3 0 r l) = x (ix4 0 r (grp l) (lane l)) := by
  pointwise

/-- A scale and a shift. -/
def affine (X : FVec Ideal S1x8192x1024 .f32) (g b : FVec Ideal S1x1024 .f32) : FVec Ideal S1x8192x1024 .f32 :=
  addf (mulf X (broadcastInDim S1x8192x1024 ![0, 1, 2] bcast_S1x1x1024_S1x8192x1024_0_1_2 (broadcastInDim S1x1x1024 ![2] bcast_S1024_S1x1x1024_2 (shapeCast _ g shapeCasts_S1x1024_S1024)))) (broadcastInDim S1x8192x1024 ![0, 1, 2] bcast_S1x1x1024_S1x8192x1024_0_1_2 (broadcastInDim S1x1x1024 ![2] bcast_S1024_S1x1x1024_2 (shapeCast _ b shapeCasts_S1x1024_S1024)))

/-- Its entries. -/
theorem affine_apply (X : FVec Ideal S1x8192x1024 .f32) (g b : FVec Ideal S1x1024 .f32) (r : Fin 8192) (l : Fin 1024) :
    affine X g b (ix3 0 r l) = X (ix3 0 r l) * g (ix2 0 l) + b (ix2 0 l) := by
  pointwise [affine]

/-- The scaled and shifted norm. -/
theorem scaled (r : Fin 8192) (l : Fin 1024) : res_main_v263 (launchContents m c) (ix3 0 r l) = (args m c).pre r l := by
  have h := norms m c r
  rw [res_main_v263, ← normed, ← affine]
  refine (affine_apply _ _ _ r l).trans ?_
  have hu := (ungrouped _ r l).trans (h (grp l) (lane l))
  exact congrArg (· * (args m c).ng l + (args m c).nb l) hu

/-- A reshape that drops an axis of one. -/
theorem flat (x : FVec Ideal S1x8192x1024 .f32) (r : Fin 8192) (l : Fin 1024) :
    shapeCast S8192x1024 x shapeCasts_S1x8192x1024_S8192x1024 (ix2 r l) = x (ix3 0 r l) := by
  pointwise

/-- The projection and the gate. -/
def gated (A C : FVec Ideal S1x8192x1024 .f32) (W : FVec Ideal S1x1024x1024 .f32) (b : FVec Ideal S1x1024 .f32) : FVec Ideal S1x8192x1024 .f32 :=
  mulf (addf (Host.dotGeneral dot_S1x8192x1024_S1024x1024_S1x8192x1024_2_0_01_1_n_n none (mulf A (Host.divf (broadcastInDim S1x8192x1024 ![] bcast_S_S1x8192x1024 (constant S_ .f32 0x3F800000#32)) (addf (broadcastInDim S1x8192x1024 ![] bcast_S_S1x8192x1024 (constant S_ .f32 0x3F800000#32)) (Host.exp (Host.negf A))))) (shapeCast _ W shapeCasts_S1x1024x1024_S1024x1024)) (broadcastInDim S1x8192x1024 ![0, 1, 2] bcast_S1x1x1024_S1x8192x1024_0_1_2 (broadcastInDim S1x1x1024 ![2] bcast_S1024_S1x1x1024_2 (shapeCast _ b shapeCasts_S1x1024_S1024)))) (mulf C (Host.divf (broadcastInDim S1x8192x1024 ![] bcast_S_S1x8192x1024 (constant S_ .f32 0x3F800000#32)) (addf (broadcastInDim S1x8192x1024 ![] bcast_S_S1x8192x1024 (constant S_ .f32 0x3F800000#32)) (Host.exp (Host.negf C)))))

/-- Its entries. -/
theorem gated_apply (A C : FVec Ideal S1x8192x1024 .f32) (W : FVec Ideal S1x1024x1024 .f32) (b : FVec Ideal S1x1024 .f32) (r : Fin 8192) (l : Fin 1024) :
    gated A C W b (ix3 0 r l) = ((∑ i, A (ix3 0 r i) * sg (A (ix3 0 r i)) * W (ix3 0 i l)) + b (ix2 0 l)) * (C (ix3 0 r l) * sg (C (ix3 0 r l))) := by
  pointwise [gated]
  rfl

variable (ρ : Dev nD → PrngReg)

/-- What the reference program computes. -/
theorem run_value : θ_run (defs (F := Ideal)) (onTc (τ := τ) (main (F := Ideal))) ⟨m, fun _ => 0, ρ⟩ fun r => ∀ c : Dev nD,
    r.2.mem ((c.tc : Thread nD τ).loc main_v274) = outArr (args m c)
    ∧ r.2.mem ((c.tc : Thread nD τ).loc main_v275) = yArr (args m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  refine (θ_run defs _ _).mono (fun r hr c => ?_) (run m ρ)
  have h := hr c
  clear hr
  refine ⟨h.1.trans ?_, h.2.1.trans ?_, h.2.2⟩
  · clear h
    rw [← gated]
    have h0 := scaled m c
    have h1 := gate m c
    generalize res_main_v263 (launchContents m c) = A at h0
    generalize res_main_v3 (launchContents m c) = C at h1
    funext y
    idx_vars y
    refine (flat _ y0 y1).trans ((gated_apply _ _ _ _ y0 y1).trans ?_)
    simp only [h0, h1]
    rfl
  · clear h
    have h0 := conv m c
    generalize res_main_v235 (launchContents m c) = A at h0
    funext y
    idx_vars y
    exact (flat _ y0 y1).trans (h0 _ _)

end Cert.ReferenceGIdeal.Conv
-- ==== Proof.Norm.lean ====
module

public import proofs.«01_k».proof.Proof.Gen.KernelNIdeal.Value
public import proofs.«01_k».proof.Proof.Gen.ReferenceNIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.StableHlo Idealize.ShloMosaic.Pipeline

namespace Cert.KernelNIdeal.Norm

open Cert.KernelNIdeal Cert.KernelNIdeal.Gen
open Idealize.ShloMosaic.Pipeline (Dat)

/-- The root mean square norm of one entry: `a` times the reciprocal root of the mean square `s / 1024`, times the gain. -/
def norm (a s g : EReal) : EReal :=
  a * Ideal.rsqrt (Ideal.div s (Ideal.ofBits FTy.f32 0x44800000#32) + Ideal.ofBits FTy.f32 0x358637BD#32) * g

/-- A block's stored entry. -/
theorem pay (x : Vec Ideal S512x1024 .f32) (g : Vec Ideal S1x1024 .f32) (i : Fin 512) (k : Fin 1024) :
    k0_pay1 (F := Ideal) x g (ix2 i k) = norm (x (ix2 i k)) (∑ l, x (ix2 i l) * x (ix2 i l)) (g (ix2 0 k)) := by
  pointwise [k0_pay1]
  rfl

/-- The normed tokens. -/
def Normed (x : S1x8192x1024.Idx → EReal) (g : S1x1024.Idx → EReal) (j : S8192x1024.Idx) : EReal :=
  norm (x (ix3 0 (j 0) (j 1))) (∑ l : Fin 1024, x (ix3 0 (j 0) l) * x (ix3 0 (j 0) l)) (g (ix2 0 (j 1)))

/-- Every window's block index. -/
theorem idx : ∀ t : Fin cfg0.N, win0_0.index t = ![t.val, 0] ∧ win0_1.index t = ![0, 0] ∧ win0_2.index t = ![t.val, 0] :=
  (by decide +kernel : ∀ t : Fin grid0.N, _)

/-- The kernel leaves the normed tokens. -/
theorem final (m : (ℓ : Loc nD τ sig) → Buf (Elt Ideal) ℓ) (c : Dev nD) : (dats m 0 c).arrAt 2 cfg0.N =
    Normed (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  refine (pay _ _ _ _).trans ?_
  simp only [Normed]
  blk_point [iblk, V, idx t]

end Cert.KernelNIdeal.Norm

namespace Cert.ReferenceNIdeal.Norm

open Cert.ReferenceNIdeal Cert.ReferenceNIdeal.Gen Cert.ReferenceNIdeal.Value
open Cert.KernelNIdeal.Norm (Normed norm)

/-- An array of one layer, without that axis. -/
theorem flat (X : FVec Ideal S1x8192x1024 .f32) (h h') (i : Fin 8192) (k : Fin 1024) :
    truncf .bf16 (shapeCast S8192x1024 X h) h' (ix2 i k) = X (ix3 0 i k) := by
  pointwise

/-- The reference's run: the normed tokens; the arguments stay. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = Normed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (run m ρ)
  funext y
  idx_vars y
  refine (flat _ _ _ y0 y1).trans ?_
  pointwise
  rfl

end Cert.ReferenceNIdeal.Norm

end
-- ==== Proof.Product.lean ====
module

public import proofs.«01_k».proof.Proof.Gen.KernelMIdeal.Value
public import proofs.«01_k».proof.Proof.Gen.ReferenceMIdeal.Run
public import Idealize.ShloMosaic.Lib.Pipeline.ValueKit
public import Idealize.ShloMosaic.Lib.Pointwise
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem
open Idealize.ShloMosaic.StableHlo Idealize.ShloMosaic.Pipeline

namespace Cert.KernelMIdeal.Product

open Cert.KernelMIdeal Cert.KernelMIdeal.Gen
open Idealize.ShloMosaic.Pipeline (Dat)

/-- What a block adds to an entry of the product. -/
theorem pay (o : Vec Ideal S1024x1024 .f32) (a b : Vec Ideal S2048x1024 .bf16) (i k : Fin 1024) :
    k0_pay2 (F := Ideal) o a b (ix2 i k) = o (ix2 i k) + ∑ r : Fin 2048, a (ix2 r i) * b (ix2 r k) := by
  pointwise [k0_pay2]

/-- The product starts from zeros. -/
theorem zero (y : S1024x1024.Idx) : k0_pay1 (F := Ideal) y = 0 := by pointwise [k0_pay1]

/-- The first operand's transpose times the second. -/
def TN (a b : S8192x1024.Idx → EReal) (j : S1024x1024.Idx) : EReal := ∑ t : Fin 8192, a (ix2 t (j 0)) * b (ix2 t (j 1))

variable (m : (ℓ : Loc nD τ sig) → Buf (Elt Ideal) ℓ) (c : Dev nD)

/-- What a grid point adds. -/
def term (t : Fin cfg0.N) (y : S1024x1024.Idx) : EReal :=
  ∑ r : Fin 2048, (show FVec Ideal S2048x1024 .bf16 from iblk m c 0 t) (ix2 r (y 0)) * (show FVec Ideal S2048x1024 .bf16 from iblk m c 1 t) (ix2 r (y 1))

/-- At the first point the product's block holds that point's terms. -/
theorem reset (t : Fin cfg0.N) (h : t.val % 4 = 0) (y : S1024x1024.Idx) :
    outsAt0 m c t.val t.isLt y = (0 : EReal) + term m c t y := by
  rw [outsAt0_A m c t h]; frame_out
  idx_vars y
  refine (pay _ _ _ y0 y1).trans (congrArg₂ (· + ·) ?_ rfl)
  pointwise [zero]

/-- At a later point it holds what it held before plus that point's terms. -/
theorem step (t : Fin cfg0.N) (h : ¬t.val % 4 = 0) (y : S1024x1024.Idx) :
    outsAt0 m c t.val t.isLt y = (show EReal from outsAt0 m c (t.val - 1) (Nat.lt_of_le_of_lt (Nat.sub_le _ _) t.isLt) y) + term m c t y := by
  rw [outsAt0_B m c t h]; frame_out
  idx_vars y
  refine (pay _ _ _ y0 y1).trans (congrArg₂ (· + ·) ?_ rfl)
  pointwise

/-- Every window's block index. -/
theorem idx : ∀ t : Fin cfg0.N, win0_0.index t = ![t.val, 0] ∧ win0_1.index t = ![t.val, 0] ∧ win0_2.index t = ![0, 0] :=
  (by decide +kernel : ∀ t : Fin grid0.N, _)

/-- The kernel leaves the product. -/
theorem final : (dats m 0 c).arrAt 2 cfg0.N = TN (m ((c : Thread nD τ).loc main_arg0)) (m ((c : Thread nD τ).loc main_arg1)) := by
  refine (dats m 0 c).arrAt_eq_of_after_last 2 t0_3 (by decide +kernel) _ fun j => ?_
  blk_simp
  rw [after0_2, Pipeline.eq_sum_fin_of_reset_step_apply_last (fun n h => outsAt0 m c n h) 4 (fun _ => (0 : EReal)) (term m c)
    (fun t h j => reset m c t h j) (fun t h j => step m c t h j) (le_of_eq N_0) t0_3 rfl j, zero_add]
  idx_vars j
  simp only [TN, term]
  refine Fin.sum_mul_add_congr fun t k hl => ?_
  blk_point [iblk, V, idx t]

end Cert.KernelMIdeal.Product

namespace Cert.ReferenceMIdeal.Product

open Cert.ReferenceMIdeal Cert.ReferenceMIdeal.Gen Cert.ReferenceMIdeal.Value
open Cert.KernelMIdeal.Product (TN)

/-- The reference's run: the product; the arguments stay. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = TN (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (run m ρ)
  funext y
  idx_vars y
  pointwise
  rfl

end Cert.ReferenceMIdeal.Product

end
-- ==== Proof.BigO.lean ====
module

public import proofs.«01_k».proof.Proof.Small
public import proofs.«01_k».proof.Proof.Gen.KernelOIdeal.Value
public import proofs.«01_k».proof.Proof.Gen.ReferenceOIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.StableHlo Idealize.ShloMosaic.Pipeline

namespace Cert.Adam

/-- An array without its leading axis of one layer. -/
def Sheet {a b : ℕ} (x : FVec Ideal ⟨3, ![1, a, b]⟩ .f32) : FVec Ideal ⟨2, ![a, b]⟩ .f32 := fun y => x (ix3 0 (y 0) (y 1))

end Cert.Adam

namespace Cert.KernelOIdeal.Big

open Cert.KernelOIdeal Cert.KernelOIdeal.Gen Cert.Adam
open Idealize.ShloMosaic.Pipeline (Dat)

/-- The stored first moment of a block. -/
theorem pay_m (g m : Vec Ideal S128x1792 .f32) (i : Fin 128) (k : Fin 1792) : k0_pay1 (F := Ideal) g m (ix2 i k) = mom (m (ix2 i k)) (g (ix2 i k)) := by
  pointwise [k0_pay1]
  rfl

/-- The stored second moment of a block. -/
theorem pay_v (g v : Vec Ideal S128x1792 .f32) (i : Fin 128) (k : Fin 1792) : k0_pay2 (F := Ideal) g v (ix2 i k) = sq (v (ix2 i k)) (g (ix2 i k)) := by
  pointwise [k0_pay2]
  rfl

/-- The stored step of a block. -/
theorem pay_step (w g m v : Vec Ideal S128x1792 .f32) (i : Fin 128) (k : Fin 1792) :
    k0_pay3 (F := Ideal) w g m v (ix2 i k) = step (w (ix2 i k)) (g (ix2 i k)) (m (ix2 i k)) (v (ix2 i k)) := by
  pointwise [k0_pay3]
  rw [pay_m, pay_v]
  rfl

variable (m : (ℓ : Loc nD τ sig) → Buf (Elt Ideal) ℓ) (c : Dev nD)

/-- Every window's block index: a point's block of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- What the kernel leaves: the step and the two moments. -/
theorem finals :
    (dats m 0 c).arrAt 4 cfg0.N = Step (S := S1024x1792) (Sheet (a := 1024) (b := 1792) (m ((c : Thread nD τ).loc main_arg1))) (m ((c : Thread nD τ).loc main_arg0))
        (Sheet (a := 1024) (b := 1792) (m ((c : Thread nD τ).loc main_arg2))) (Sheet (a := 1024) (b := 1792) (m ((c : Thread nD τ).loc main_arg3)))
    ∧ (dats m 0 c).arrAt 5 cfg0.N = Mom (S := S1024x1792) (Sheet (a := 1024) (b := 1792) (m ((c : Thread nD τ).loc main_arg2))) (m ((c : Thread nD τ).loc main_arg0))
    ∧ (dats m 0 c).arrAt 6 cfg0.N = Sq (S := S1024x1792) (Sheet (a := 1024) (b := 1792) (m ((c : Thread nD τ).loc main_arg3))) (m ((c : Thread nD τ).loc main_arg0)) := by
  refine ⟨?_, ?_, ?_⟩ <;> refine (dats m 0 c).arrAt_eq_of_covers _ _ (by decide +kernel) fun t hf y => ?_ <;> blk_simp <;>
    [rw [after0_4]; rw [after0_5]; rw [after0_6]] <;> frame_out <;> idx_vars y
  · refine (pay_step _ _ _ _ _ _).trans (step_congr ?_ ?_ ?_ ?_) <;> blk_point [iblk, V, Sheet, idx t]
  · refine (pay_m _ _ _ _).trans (congrArg₂ mom ?_ ?_) <;> blk_point [iblk, V, Sheet, idx t]
  · refine (pay_v _ _ _ _).trans (congrArg₂ sq ?_ ?_) <;> blk_point [iblk, V, Sheet, idx t]

end Cert.KernelOIdeal.Big

namespace Cert.ReferenceOIdeal.Big

open Cert.ReferenceOIdeal Cert.ReferenceOIdeal.Gen Cert.ReferenceOIdeal.Value Cert.Adam

variable (m : (ℓ : Loc nD τ sig) → Buf (Elt Ideal) ℓ)

/-- The reference's run: the step and the two moments; the arguments stay. -/
theorem run_value (ρ : Dev nD → PrngReg) :
    θ_run defs (onTc (τ := τ) (main (F := Ideal))) ⟨m, fun _ => 0, ρ⟩ fun r => ∀ c : Dev nD,
      r.2.mem ((c.tc : Thread nD τ).loc main_v25) = Step (S := S1024x1792) (Sheet (a := 1024) (b := 1792) (m ((c.tc : Thread nD τ).loc main_arg1))) (m ((c.tc : Thread nD τ).loc main_arg0))
          (Sheet (a := 1024) (b := 1792) (m ((c.tc : Thread nD τ).loc main_arg2))) (Sheet (a := 1024) (b := 1792) (m ((c.tc : Thread nD τ).loc main_arg3)))
      ∧ r.2.mem ((c.tc : Thread nD τ).loc main_v26) = Mom (S := S1024x1792) (Sheet (a := 1024) (b := 1792) (m ((c.tc : Thread nD τ).loc main_arg2))) (m ((c.tc : Thread nD τ).loc main_arg0))
      ∧ r.2.mem ((c.tc : Thread nD τ).loc main_v27) = Sq (S := S1024x1792) (Sheet (a := 1024) (b := 1792) (m ((c.tc : Thread nD τ).loc main_arg3))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ⟨(hr c).1.trans ?_, (hr c).2.1.trans ?_, (hr c).2.2.1.trans ?_, (hr c).2.2.2⟩) (run m ρ)
  all_goals
    funext y
    idx_vars y
    pointwise
    rfl

end Cert.ReferenceOIdeal.Big

end
-- ==== Proof.BigP.lean ====
module

public import proofs.«01_k».proof.Proof.BigO
public import proofs.«01_k».proof.Proof.Gen.KernelPIdeal.Value
public import proofs.«01_k».proof.Proof.Gen.ReferencePIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.StableHlo Idealize.ShloMosaic.Pipeline

namespace Cert.KernelPIdeal.Big

open Cert.KernelPIdeal Cert.KernelPIdeal.Gen Cert.Adam
open Idealize.ShloMosaic.Pipeline (Dat)

/-- The stored first moment of a block. -/
theorem pay_m (g m : Vec Ideal S256x1024 .f32) (i : Fin 256) (k : Fin 1024) : k0_pay1 (F := Ideal) g m (ix2 i k) = mom (m (ix2 i k)) (g (ix2 i k)) := by
  pointwise [k0_pay1]
  rfl

/-- The stored second moment of a block. -/
theorem pay_v (g v : Vec Ideal S256x1024 .f32) (i : Fin 256) (k : Fin 1024) : k0_pay2 (F := Ideal) g v (ix2 i k) = sq (v (ix2 i k)) (g (ix2 i k)) := by
  pointwise [k0_pay2]
  rfl

/-- The stored step of a block. -/
theorem pay_step (w g m v : Vec Ideal S256x1024 .f32) (i : Fin 256) (k : Fin 1024) :
    k0_pay3 (F := Ideal) w g m v (ix2 i k) = step (w (ix2 i k)) (g (ix2 i k)) (m (ix2 i k)) (v (ix2 i k)) := by
  pointwise [k0_pay3]
  rw [pay_m, pay_v]
  rfl

variable (m : (ℓ : Loc nD τ sig) → Buf (Elt Ideal) ℓ) (c : Dev nD)

/-- Every window's block index: a point's block of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- What the kernel leaves: the step and the two moments. -/
theorem finals :
    (dats m 0 c).arrAt 4 cfg0.N = Step (S := S256x1024) (Sheet (a := 256) (b := 1024) (m ((c : Thread nD τ).loc main_arg1))) (m ((c : Thread nD τ).loc main_arg0))
        (Sheet (a := 256) (b := 1024) (m ((c : Thread nD τ).loc main_arg2))) (Sheet (a := 256) (b := 1024) (m ((c : Thread nD τ).loc main_arg3)))
    ∧ (dats m 0 c).arrAt 5 cfg0.N = Mom (S := S256x1024) (Sheet (a := 256) (b := 1024) (m ((c : Thread nD τ).loc main_arg2))) (m ((c : Thread nD τ).loc main_arg0))
    ∧ (dats m 0 c).arrAt 6 cfg0.N = Sq (S := S256x1024) (Sheet (a := 256) (b := 1024) (m ((c : Thread nD τ).loc main_arg3))) (m ((c : Thread nD τ).loc main_arg0)) := by
  refine ⟨?_, ?_, ?_⟩ <;> refine (dats m 0 c).arrAt_eq_of_covers _ _ (by decide +kernel) fun t hf y => ?_ <;> blk_simp <;>
    [rw [after0_4]; rw [after0_5]; rw [after0_6]] <;> frame_out <;> idx_vars y
  · refine (pay_step _ _ _ _ _ _).trans (step_congr ?_ ?_ ?_ ?_) <;> blk_point [iblk, V, Sheet, idx t]
  · refine (pay_m _ _ _ _).trans (congrArg₂ mom ?_ ?_) <;> blk_point [iblk, V, Sheet, idx t]
  · refine (pay_v _ _ _ _).trans (congrArg₂ sq ?_ ?_) <;> blk_point [iblk, V, Sheet, idx t]

end Cert.KernelPIdeal.Big

namespace Cert.ReferencePIdeal.Big

open Cert.ReferencePIdeal Cert.ReferencePIdeal.Gen Cert.ReferencePIdeal.Value Cert.Adam

variable (m : (ℓ : Loc nD τ sig) → Buf (Elt Ideal) ℓ)

/-- The reference's run: the step and the two moments; the arguments stay. -/
theorem run_value (ρ : Dev nD → PrngReg) :
    θ_run defs (onTc (τ := τ) (main (F := Ideal))) ⟨m, fun _ => 0, ρ⟩ fun r => ∀ c : Dev nD,
      r.2.mem ((c.tc : Thread nD τ).loc main_v25) = Step (S := S256x1024) (Sheet (a := 256) (b := 1024) (m ((c.tc : Thread nD τ).loc main_arg1))) (m ((c.tc : Thread nD τ).loc main_arg0))
          (Sheet (a := 256) (b := 1024) (m ((c.tc : Thread nD τ).loc main_arg2))) (Sheet (a := 256) (b := 1024) (m ((c.tc : Thread nD τ).loc main_arg3)))
      ∧ r.2.mem ((c.tc : Thread nD τ).loc main_v26) = Mom (S := S256x1024) (Sheet (a := 256) (b := 1024) (m ((c.tc : Thread nD τ).loc main_arg2))) (m ((c.tc : Thread nD τ).loc main_arg0))
      ∧ r.2.mem ((c.tc : Thread nD τ).loc main_v27) = Sq (S := S256x1024) (Sheet (a := 256) (b := 1024) (m ((c.tc : Thread nD τ).loc main_arg3))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ⟨(hr c).1.trans ?_, (hr c).2.1.trans ?_, (hr c).2.2.1.trans ?_, (hr c).2.2.2⟩) (run m ρ)
  all_goals
    funext y
    idx_vars y
    pointwise
    rfl

end Cert.ReferencePIdeal.Big

end
-- ==== Proof.BigQ.lean ====
module

public import proofs.«01_k».proof.Proof.BigO
public import proofs.«01_k».proof.Proof.Gen.KernelQIdeal.Value
public import proofs.«01_k».proof.Proof.Gen.ReferenceQIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.StableHlo Idealize.ShloMosaic.Pipeline

namespace Cert.KernelQIdeal.Big

open Cert.KernelQIdeal Cert.KernelQIdeal.Gen Cert.Adam
open Idealize.ShloMosaic.Pipeline (Dat)

/-- The stored first moment of a block. -/
theorem pay_m (g m : Vec Ideal S256x1024 .f32) (i : Fin 256) (k : Fin 1024) : k0_pay1 (F := Ideal) g m (ix2 i k) = mom (m (ix2 i k)) (g (ix2 i k)) := by
  pointwise [k0_pay1]
  rfl

/-- The stored second moment of a block. -/
theorem pay_v (g v : Vec Ideal S256x1024 .f32) (i : Fin 256) (k : Fin 1024) : k0_pay2 (F := Ideal) g v (ix2 i k) = sq (v (ix2 i k)) (g (ix2 i k)) := by
  pointwise [k0_pay2]
  rfl

/-- The stored step of a block. -/
theorem pay_step (w g m v : Vec Ideal S256x1024 .f32) (i : Fin 256) (k : Fin 1024) :
    k0_pay3 (F := Ideal) w g m v (ix2 i k) = step (w (ix2 i k)) (g (ix2 i k)) (m (ix2 i k)) (v (ix2 i k)) := by
  pointwise [k0_pay3]
  rw [pay_m, pay_v]
  rfl

variable (m : (ℓ : Loc nD τ sig) → Buf (Elt Ideal) ℓ) (c : Dev nD)

/-- Every window's block index: a point's block of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- What the kernel leaves: the step and the two moments. -/
theorem finals :
    (dats m 0 c).arrAt 4 cfg0.N = Step (S := S512x1024) (Sheet (a := 512) (b := 1024) (m ((c : Thread nD τ).loc main_arg1))) (m ((c : Thread nD τ).loc main_arg0))
        (Sheet (a := 512) (b := 1024) (m ((c : Thread nD τ).loc main_arg2))) (Sheet (a := 512) (b := 1024) (m ((c : Thread nD τ).loc main_arg3)))
    ∧ (dats m 0 c).arrAt 5 cfg0.N = Mom (S := S512x1024) (Sheet (a := 512) (b := 1024) (m ((c : Thread nD τ).loc main_arg2))) (m ((c : Thread nD τ).loc main_arg0))
    ∧ (dats m 0 c).arrAt 6 cfg0.N = Sq (S := S512x1024) (Sheet (a := 512) (b := 1024) (m ((c : Thread nD τ).loc main_arg3))) (m ((c : Thread nD τ).loc main_arg0)) := by
  refine ⟨?_, ?_, ?_⟩ <;> refine (dats m 0 c).arrAt_eq_of_covers _ _ (by decide +kernel) fun t hf y => ?_ <;> blk_simp <;>
    [rw [after0_4]; rw [after0_5]; rw [after0_6]] <;> frame_out <;> idx_vars y
  · refine (pay_step _ _ _ _ _ _).trans (step_congr ?_ ?_ ?_ ?_) <;> blk_point [iblk, V, Sheet, idx t]
  · refine (pay_m _ _ _ _).trans (congrArg₂ mom ?_ ?_) <;> blk_point [iblk, V, Sheet, idx t]
  · refine (pay_v _ _ _ _).trans (congrArg₂ sq ?_ ?_) <;> blk_point [iblk, V, Sheet, idx t]

end Cert.KernelQIdeal.Big

namespace Cert.ReferenceQIdeal.Big

open Cert.ReferenceQIdeal Cert.ReferenceQIdeal.Gen Cert.ReferenceQIdeal.Value Cert.Adam

variable (m : (ℓ : Loc nD τ sig) → Buf (Elt Ideal) ℓ)

/-- The reference's run: the step and the two moments; the arguments stay. -/
theorem run_value (ρ : Dev nD → PrngReg) :
    θ_run defs (onTc (τ := τ) (main (F := Ideal))) ⟨m, fun _ => 0, ρ⟩ fun r => ∀ c : Dev nD,
      r.2.mem ((c.tc : Thread nD τ).loc main_v25) = Step (S := S512x1024) (Sheet (a := 512) (b := 1024) (m ((c.tc : Thread nD τ).loc main_arg1))) (m ((c.tc : Thread nD τ).loc main_arg0))
          (Sheet (a := 512) (b := 1024) (m ((c.tc : Thread nD τ).loc main_arg2))) (Sheet (a := 512) (b := 1024) (m ((c.tc : Thread nD τ).loc main_arg3)))
      ∧ r.2.mem ((c.tc : Thread nD τ).loc main_v26) = Mom (S := S512x1024) (Sheet (a := 512) (b := 1024) (m ((c.tc : Thread nD τ).loc main_arg2))) (m ((c.tc : Thread nD τ).loc main_arg0))
      ∧ r.2.mem ((c.tc : Thread nD τ).loc main_v27) = Sq (S := S512x1024) (Sheet (a := 512) (b := 1024) (m ((c.tc : Thread nD τ).loc main_arg3))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ⟨(hr c).1.trans ?_, (hr c).2.1.trans ?_, (hr c).2.2.1.trans ?_, (hr c).2.2.2⟩) (run m ρ)
  all_goals
    funext y
    idx_vars y
    pointwise
    rfl

end Cert.ReferenceQIdeal.Big

end
-- ==== Proof.BigY.lean ====
module

public import proofs.«01_k».proof.Proof.BigO
public import proofs.«01_k».proof.Proof.Gen.KernelYIdeal.Value
public import proofs.«01_k».proof.Proof.Gen.ReferenceYIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.StableHlo Idealize.ShloMosaic.Pipeline

namespace Cert.KernelYIdeal.Big

open Cert.KernelYIdeal Cert.KernelYIdeal.Gen Cert.Adam
open Idealize.ShloMosaic.Pipeline (Dat)

/-- The stored first moment of a block. -/
theorem pay_m (g m : Vec Ideal S256x256 .f32) (i : Fin 256) (k : Fin 256) : k0_pay1 (F := Ideal) g m (ix2 i k) = mom (m (ix2 i k)) (g (ix2 i k)) := by
  pointwise [k0_pay1]
  rfl

/-- The stored second moment of a block. -/
theorem pay_v (g v : Vec Ideal S256x256 .f32) (i : Fin 256) (k : Fin 256) : k0_pay2 (F := Ideal) g v (ix2 i k) = sq (v (ix2 i k)) (g (ix2 i k)) := by
  pointwise [k0_pay2]
  rfl

/-- The stored step of a block. -/
theorem pay_step (w g m v : Vec Ideal S256x256 .f32) (i : Fin 256) (k : Fin 256) :
    k0_pay3 (F := Ideal) w g m v (ix2 i k) = step (w (ix2 i k)) (g (ix2 i k)) (m (ix2 i k)) (v (ix2 i k)) := by
  pointwise [k0_pay3]
  rw [pay_m, pay_v]
  rfl

variable (m : (ℓ : Loc nD τ sig) → Buf (Elt Ideal) ℓ) (c : Dev nD)

/-- Every window's block index: a point's block of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- What the kernel leaves: the step and the two moments. -/
theorem finals :
    (dats m 0 c).arrAt 4 cfg0.N = Step (S := S256x256) (Sheet (a := 256) (b := 256) (m ((c : Thread nD τ).loc main_arg1))) (m ((c : Thread nD τ).loc main_arg0))
        (Sheet (a := 256) (b := 256) (m ((c : Thread nD τ).loc main_arg2))) (Sheet (a := 256) (b := 256) (m ((c : Thread nD τ).loc main_arg3)))
    ∧ (dats m 0 c).arrAt 5 cfg0.N = Mom (S := S256x256) (Sheet (a := 256) (b := 256) (m ((c : Thread nD τ).loc main_arg2))) (m ((c : Thread nD τ).loc main_arg0))
    ∧ (dats m 0 c).arrAt 6 cfg0.N = Sq (S := S256x256) (Sheet (a := 256) (b := 256) (m ((c : Thread nD τ).loc main_arg3))) (m ((c : Thread nD τ).loc main_arg0)) := by
  refine ⟨?_, ?_, ?_⟩ <;> refine (dats m 0 c).arrAt_eq_of_covers _ _ (by decide +kernel) fun t hf y => ?_ <;> blk_simp <;>
    [rw [after0_4]; rw [after0_5]; rw [after0_6]] <;> frame_out <;> idx_vars y
  · refine (pay_step _ _ _ _ _ _).trans (step_congr ?_ ?_ ?_ ?_) <;> blk_point [iblk, V, Sheet, idx t]
  · refine (pay_m _ _ _ _).trans (congrArg₂ mom ?_ ?_) <;> blk_point [iblk, V, Sheet, idx t]
  · refine (pay_v _ _ _ _).trans (congrArg₂ sq ?_ ?_) <;> blk_point [iblk, V, Sheet, idx t]

end Cert.KernelYIdeal.Big

namespace Cert.ReferenceYIdeal.Big

open Cert.ReferenceYIdeal Cert.ReferenceYIdeal.Gen Cert.ReferenceYIdeal.Value Cert.Adam

variable (m : (ℓ : Loc nD τ sig) → Buf (Elt Ideal) ℓ)

/-- The reference's run: the step and the two moments; the arguments stay. -/
theorem run_value (ρ : Dev nD → PrngReg) :
    θ_run defs (onTc (τ := τ) (main (F := Ideal))) ⟨m, fun _ => 0, ρ⟩ fun r => ∀ c : Dev nD,
      r.2.mem ((c.tc : Thread nD τ).loc main_v25) = Step (S := S256x256) (Sheet (a := 256) (b := 256) (m ((c.tc : Thread nD τ).loc main_arg1))) (m ((c.tc : Thread nD τ).loc main_arg0))
          (Sheet (a := 256) (b := 256) (m ((c.tc : Thread nD τ).loc main_arg2))) (Sheet (a := 256) (b := 256) (m ((c.tc : Thread nD τ).loc main_arg3)))
      ∧ r.2.mem ((c.tc : Thread nD τ).loc main_v26) = Mom (S := S256x256) (Sheet (a := 256) (b := 256) (m ((c.tc : Thread nD τ).loc main_arg2))) (m ((c.tc : Thread nD τ).loc main_arg0))
      ∧ r.2.mem ((c.tc : Thread nD τ).loc main_v27) = Sq (S := S256x256) (Sheet (a := 256) (b := 256) (m ((c.tc : Thread nD τ).loc main_arg3))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ⟨(hr c).1.trans ?_, (hr c).2.1.trans ?_, (hr c).2.2.1.trans ?_, (hr c).2.2.2⟩) (run m ρ)
  all_goals
    funext y
    idx_vars y
    pointwise
    rfl

end Cert.ReferenceYIdeal.Big

end
-- ==== Proof.ConvBwdIdeal.lean ====
module

public import proofs.«01_k».proof.Proof.Gen.KernelCIdeal.Frame.RunC
public import Idealize.ShloMosaic.Lib.Claim

/-! The frame of the convolution's gradients over ideal values: nothing is said of what a point leaves in the outputs and in the scratch it hands on; every
buffer is found and left at some contents. -/

@[expose] public section

set_option maxRecDepth 16384

noncomputable section

namespace Cert.KernelCIdeal.Loose

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelCIdeal Cert.KernelCIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of the five results. -/
def loose : Fin 17 → Bool := fun w => decide (12 ≤ w.val)

/-- Before and after every point: inputs at their blocks, results and scratch at some contents, nothing owed. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q w := Pipeline.shareOf spec0 w
  owed _ := 0

/-- The arrays of the data are those the region finds. -/
theorem data_A (c : Dev nD) (w : Fin cfg0.W) : (data m 0 c).A w = V m c (Pipeline.arrRef spec0 w) := by
  dsimp only [data]

/-! Each input is found at its block and left at its block. -/

/-- Input 0 is found at its block. -/
theorem found_0 (c : Dev nD) (t : Fin cfg0.N) (d) : (data m 0 c).before 0 t d = iblk m c 0 t :=
  before0_0_of m (data m 0 c) (data_A m c 0) (fun t => by dsimp only [data]) t d
/-- Input 0 is left at its block. -/
theorem left_0 (c : Dev nD) (t : Fin cfg0.N) :
    (data m 0 c).leavesExact 0 t = owns (c : Thread nD τ) (ms0_0 t) fullShare (iblk m c 0 t) := by
  unfold Dat.leavesExact; rw [liveAt0_0 t]; dsimp only [data]
/-- Input 1 is found at its block. -/
theorem found_1 (c : Dev nD) (t : Fin cfg0.N) (d) : (data m 0 c).before 1 t d = iblk m c 1 t :=
  before0_1_of m (data m 0 c) (data_A m c 1) (fun t => by dsimp only [data]) t d
/-- Input 1 is left at its block. -/
theorem left_1 (c : Dev nD) (t : Fin cfg0.N) :
    (data m 0 c).leavesExact 1 t = owns (c : Thread nD τ) (ms0_1 t) fullShare (iblk m c 1 t) := by
  unfold Dat.leavesExact; rw [liveAt0_1 t]; dsimp only [data]
/-- Input 2 is found at its block. -/
theorem found_2 (c : Dev nD) (t : Fin cfg0.N) (d) : (data m 0 c).before 2 t d = iblk m c 2 t :=
  before0_2_of m (data m 0 c) (data_A m c 2) (fun t => by dsimp only [data]) t d
/-- Input 2 is left at its block. -/
theorem left_2 (c : Dev nD) (t : Fin cfg0.N) :
    (data m 0 c).leavesExact 2 t = owns (c : Thread nD τ) (ms0_2 t) fullShare (iblk m c 2 t) := by
  unfold Dat.leavesExact; rw [liveAt0_2 t]; dsimp only [data]
/-- Input 3 is found at its block. -/
theorem found_3 (c : Dev nD) (t : Fin cfg0.N) (d) : (data m 0 c).before 3 t d = iblk m c 3 t :=
  before0_3_of m (data m 0 c) (data_A m c 3) (fun t => by dsimp only [data]) t d
/-- Input 3 is left at its block. -/
theorem left_3 (c : Dev nD) (t : Fin cfg0.N) :
    (data m 0 c).leavesExact 3 t = owns (c : Thread nD τ) (ms0_3 t) fullShare (iblk m c 3 t) := by
  unfold Dat.leavesExact; rw [liveAt0_3 t]; dsimp only [data]
/-- Input 4 is found at its block. -/
theorem found_4 (c : Dev nD) (t : Fin cfg0.N) (d) : (data m 0 c).before 4 t d = iblk m c 4 t :=
  before0_4_of m (data m 0 c) (data_A m c 4) (fun t => by dsimp only [data]) t d
/-- Input 4 is left at its block. -/
theorem left_4 (c : Dev nD) (t : Fin cfg0.N) :
    (data m 0 c).leavesExact 4 t = owns (c : Thread nD τ) (ms0_4 t) fullShare (iblk m c 4 t) := by
  unfold Dat.leavesExact; rw [liveAt0_4 t]; dsimp only [data]
/-- Input 5 is found at its block. -/
theorem found_5 (c : Dev nD) (t : Fin cfg0.N) (d) : (data m 0 c).before 5 t d = iblk m c 5 t :=
  before0_5_of m (data m 0 c) (data_A m c 5) (fun t => by dsimp only [data]) t d
/-- Input 5 is left at its block. -/
theorem left_5 (c : Dev nD) (t : Fin cfg0.N) :
    (data m 0 c).leavesExact 5 t = owns (c : Thread nD τ) (ms0_5 t) fullShare (iblk m c 5 t) := by
  unfold Dat.leavesExact; rw [liveAt0_5 t]; dsimp only [data]
/-- Input 6 is found at its block. -/
theorem found_6 (c : Dev nD) (t : Fin cfg0.N) (d) : (data m 0 c).before 6 t d = iblk m c 6 t :=
  before0_6_of m (data m 0 c) (data_A m c 6) (fun t => by dsimp only [data]) t d
/-- Input 6 is left at its block. -/
theorem left_6 (c : Dev nD) (t : Fin cfg0.N) :
    (data m 0 c).leavesExact 6 t = owns (c : Thread nD τ) (ms0_6 t) fullShare (iblk m c 6 t) := by
  unfold Dat.leavesExact; rw [liveAt0_6 t]; dsimp only [data]
/-- Input 7 is found at its block. -/
theorem found_7 (c : Dev nD) (t : Fin cfg0.N) (d) : (data m 0 c).before 7 t d = iblk m c 7 t :=
  before0_7_of m (data m 0 c) (data_A m c 7) (fun t => by dsimp only [data]) t d
/-- Input 7 is left at its block. -/
theorem left_7 (c : Dev nD) (t : Fin cfg0.N) :
    (data m 0 c).leavesExact 7 t = owns (c : Thread nD τ) (ms0_7 t) fullShare (iblk m c 7 t) := by
  unfold Dat.leavesExact; rw [liveAt0_7 t]; dsimp only [data]
/-- Input 8 is found at its block. -/
theorem found_8 (c : Dev nD) (t : Fin cfg0.N) (d) : (data m 0 c).before 8 t d = iblk m c 8 t :=
  before0_8_of m (data m 0 c) (data_A m c 8) (fun t => by dsimp only [data]) t d
/-- Input 8 is left at its block. -/
theorem left_8 (c : Dev nD) (t : Fin cfg0.N) :
    (data m 0 c).leavesExact 8 t = owns (c : Thread nD τ) (ms0_8 t) fullShare (iblk m c 8 t) := by
  unfold Dat.leavesExact; rw [liveAt0_8 t]; dsimp only [data]
/-- Input 9 is found at its block. -/
theorem found_9 (c : Dev nD) (t : Fin cfg0.N) (d) : (data m 0 c).before 9 t d = iblk m c 9 t :=
  before0_9_of m (data m 0 c) (data_A m c 9) (fun t => by dsimp only [data]) t d
/-- Input 9 is left at its block. -/
theorem left_9 (c : Dev nD) (t : Fin cfg0.N) :
    (data m 0 c).leavesExact 9 t = owns (c : Thread nD τ) (ms0_9 t) fullShare (iblk m c 9 t) := by
  unfold Dat.leavesExact; rw [liveAt0_9 t]; dsimp only [data]
/-- Input 10 is found at its block. -/
theorem found_10 (c : Dev nD) (t : Fin cfg0.N) (d) : (data m 0 c).before 10 t d = iblk m c 10 t :=
  before0_10_of m (data m 0 c) (data_A m c 10) (fun t => by dsimp only [data]) t d
/-- Input 10 is left at its block. -/
theorem left_10 (c : Dev nD) (t : Fin cfg0.N) :
    (data m 0 c).leavesExact 10 t = owns (c : Thread nD τ) (ms0_10 t) fullShare (iblk m c 10 t) := by
  unfold Dat.leavesExact; rw [liveAt0_10 t]; dsimp only [data]
/-- Input 11 is found at its block. -/
theorem found_11 (c : Dev nD) (t : Fin cfg0.N) (d) : (data m 0 c).before 11 t d = iblk m c 11 t :=
  before0_11_of m (data m 0 c) (data_A m c 11) (fun t => by dsimp only [data]) t d
/-- Input 11 is left at its block. -/
theorem left_11 (c : Dev nD) (t : Fin cfg0.N) :
    (data m 0 c).leavesExact 11 t = owns (c : Thread nD τ) (ms0_11 t) fullShare (iblk m c 11 t) := by
  unfold Dat.leavesExact; rw [liveAt0_11 t]; dsimp only [data]

/-- The scratch at some contents, with the generator's register. -/
def scratch (c : Dev nD) : sProp 𝕄 :=
  iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r))

/-- The five results' buffers at some contents. -/
def results (c : Dev nD) (t : Fin cfg0.N) : sProp 𝕄 :=
  iprop((∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

/-- What a point starts with and ends with; `R` is kept aside. -/
def start (c : Dev nD) (t : Fin cfg0.N) (R : sProp 𝕄) : sProp 𝕄 :=
  iprop(scratch c ∗ R
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ results c t)

set_option maxHeartbeats 8000000 in
/-- The first point. -/
theorem point_A (c : Dev nD) (t : Fin cfg0.N) (R : sProp 𝕄) (h0 : t.val % 32 = 0) (h1 : ¬t.val % 32 = 31) :
    start m c t R ⊢ wp frame (wpE (defs₀ (F := F)) Variants.none c none) Set.univ (bodyAt0 t) (fun _ => start m c t R) := by
  unfold start scratch results bodyAt0
  iintro ⟨⟨⟨HS0, ⟨%e1, HS1⟩, ⟨%e2, HS2⟩⟩, Hg⟩, HR, H0, H1, H2, H3, H4, H5, H6, H7, H8, H9, H10, H11, H12, H13, H14, ⟨%d15, H15⟩, ⟨%d16, H16⟩⟩
  iapply ((kernelRun0_A c (grid0.coords t) _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2 d16 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexact H16
  isplitl [HS0]; · iexact HS0
  isplitl [HS1]; · iexists _; iexact HS1
  isplitl [HS2]; · iexists _; iexact HS2
  iintro ⟨H0, H1, H2, H3, H4, H5, H6, H7, H8, H9, H10, H11, ⟨%fH12, H12⟩, ⟨%fH13, H13⟩, ⟨%fH14, H14⟩, ⟨%fH15, H15⟩, H16, ⟨%fHS0, HS0⟩, ⟨%fHS1, HS1⟩, ⟨%fHS2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _; unfold owns; iexists _; isplitr
    swap; · iexact H12
    ipureintro; rfl
  isplitl [H13]
  · iexists _; unfold owns; iexists _; isplitr
    swap; · iexact H13
    ipureintro; rfl
  isplitl [H14]
  · iexists _; unfold owns; iexists _; isplitr
    swap; · iexact H14
    ipureintro; rfl
  isplitl [H15]
  · iexists _; unfold owns; iexists _; isplitr
    swap; · iexact H15
    ipureintro; rfl
  iexists _; iexact H16

set_option maxHeartbeats 8000000 in
/-- A point between. -/
theorem point_B (c : Dev nD) (t : Fin cfg0.N) (R : sProp 𝕄) (h0 : ¬t.val % 32 = 0) (h1 : ¬t.val % 32 = 31) :
    start m c t R ⊢ wp frame (wpE (defs₀ (F := F)) Variants.none c none) Set.univ (bodyAt0 t) (fun _ => start m c t R) := by
  unfold start scratch results bodyAt0
  iintro ⟨⟨⟨HS0, ⟨%e1, HS1⟩, ⟨%e2, HS2⟩⟩, Hg⟩, HR, H0, H1, H2, H3, H4, H5, H6, H7, H8, H9, H10, H11, H12, H13, H14, ⟨%d15, H15⟩, ⟨%d16, H16⟩⟩
  iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d15 e1 e2).2.2.2.2.2.2.2.2 d16 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  isplitl [HS2]; · iexact HS2
  iintro ⟨H0, H1, H2, H3, H4, H5, H6, H7, H8, H9, H10, H11, ⟨%fH12, H12⟩, ⟨%fH13, H13⟩, ⟨%fH14, H14⟩, H15, H16, ⟨%fHS0, HS0⟩, ⟨%fHS1, HS1⟩, HS2⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _; unfold owns; iexists _; isplitr
    swap; · iexact H12
    ipureintro; rfl
  isplitl [H13]
  · iexists _; unfold owns; iexists _; isplitr
    swap; · iexact H13
    ipureintro; rfl
  isplitl [H14]
  · iexists _; unfold owns; iexists _; isplitr
    swap; · iexact H14
    ipureintro; rfl
  isplitl [H15]
  · iexists _; unfold owns; iexists _; isplitr
    swap; · iexact H15
    ipureintro; rfl
  iexists _; iexact H16

set_option maxHeartbeats 8000000 in
/-- The last point. -/
theorem point_C (c : Dev nD) (t : Fin cfg0.N) (R : sProp 𝕄) (h0 : ¬t.val % 32 = 0) (h1 : t.val % 32 = 31) :
    start m c t R ⊢ wp frame (wpE (defs₀ (F := F)) Variants.none c none) Set.univ (bodyAt0 t) (fun _ => start m c t R) := by
  unfold start scratch results bodyAt0
  iintro ⟨⟨⟨HS0, ⟨%e1, HS1⟩, ⟨%e2, HS2⟩⟩, Hg⟩, HR, H0, H1, H2, H3, H4, H5, H6, H7, H8, H9, H10, H11, H12, H13, H14, ⟨%d15, H15⟩, ⟨%d16, H16⟩⟩
  iapply ((kernelRun0_C c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) d15 e1 e2).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [HS0]; · iexact HS0
  isplitl [HS1]; · iexact HS1
  isplitl [HS2]; · iexact HS2
  iintro ⟨H0, H1, H2, H3, H4, H5, H6, H7, H8, H9, H10, H11, ⟨%fH12, H12⟩, ⟨%fH13, H13⟩, ⟨%fH14, H14⟩, H15, ⟨%fH16, H16⟩, ⟨%fHS0, HS0⟩, ⟨%fHS1, HS1⟩, HS2⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · iexists _; unfold owns; iexists _; isplitr
    swap; · iexact H12
    ipureintro; rfl
  isplitl [H13]
  · iexists _; unfold owns; iexists _; isplitr
    swap; · iexact H13
    ipureintro; rfl
  isplitl [H14]
  · iexists _; unfold owns; iexists _; isplitr
    swap; · iexact H14
    ipureintro; rfl
  isplitl [H15]
  · iexists _; unfold owns; iexists _; isplitr
    swap; · iexact H15
    ipureintro; rfl
  iexists _; unfold owns; iexists _; isplitr
  swap; · iexact H16
  ipureintro; rfl

/-- What the pipeline hands a point. -/
def given (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare ((data m 0 c).before 8 t d))
    ∗ (∃ d, owns (c : Thread nD τ) (ms0_9 t) fullShare ((data m 0 c).before 9 t d))
    ∗ (∃ d, owns (c : Thread nD τ) (ms0_10 t) fullShare ((data m 0 c).before 10 t d))
    ∗ (∃ d, owns (c : Thread nD τ) (ms0_11 t) fullShare ((data m 0 c).before 11 t d))
    ∗ results c t)

/-- What a point returns. -/
def returned (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t
    ∗ (data m 0 c).leavesExact 8 t
    ∗ (data m 0 c).leavesExact 9 t
    ∗ (data m 0 c).leavesExact 10 t
    ∗ (data m 0 c).leavesExact 11 t
    ∗ results c t)

/-- Any point. -/
theorem point (c : Dev nD) (t : Fin cfg0.N) (R : sProp 𝕄) :
    start m c t R ⊢ wp frame (wpE (defs₀ (F := F)) Variants.none c none) Set.univ (bodyAt0 t) (fun _ => start m c t R) := by
  by_cases h0 : t.val % 32 = 0
  · exact point_A m c t R h0 (by omega)
  · by_cases h1 : t.val % 32 = 31
    · exact point_C m c t R h0 h1
    · exact point_B m c t R h0 h1

/-- What is given is the start. -/
theorem given_start (c : Dev nD) (t : Fin cfg0.N) :
    given m c t ⊢ start m c t ((data m 0 c).owesAt () t.castSucc) := by
  unfold given start scratch
  rw [show (data m 0 c).Φ t.castSucc = Pipeline.ΦA spec0 c from rfl, PhiA0_eq]
  simp only [found_0, found_1, found_2, found_3, found_4, found_5, found_6, found_7, found_8, found_9, found_10, found_11]
  iintro ⟨HS, HR, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, HO⟩
  isplitl [HS]; · iexact HS
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HO

/-- What is returned is the start again. -/
theorem returned_eq (c : Dev nD) (t : Fin cfg0.N) :
    returned m c t = start m c t ((data m 0 c).owesAt () t.castSucc) := by
  unfold returned start scratch
  rw [show (data m 0 c).Φ t.succ = Pipeline.ΦA spec0 c from rfl, PhiA0_eq,
    show (data m 0 c).owesAt () t.succ = (data m 0 c).owesAt () t.castSucc from rfl,
    left_0, left_1, left_2, left_3, left_4, left_5, left_6, left_7, left_8, left_9, left_10, left_11]

/-- A point, from what it is given to what it returns. -/
theorem sound (c : Dev nD) (t : Fin cfg0.N) :
    given m c t ⊢ wp frame (wpE (defs₀ (F := F)) Variants.none c none) Set.univ (bodyAt0 t) (fun _ => returned m c t) := by
  simp only [returned_eq]
  exact (given_start m c t).trans (point m c t _)

/-- The pipeline's obligation for the body. -/
theorem obligation (c : Dev nD) : BodyObligation (data (F := F) m 0 c) (defs₀ (F := F)) Variants.none () Set.univ loose := fun t => by
  rw [bigSep_W0, bigSep_W0, show defs₀ (F := F) .tc cfg0.body (cfg0.bodyArgs t (cfg0.slots t)) = bodyAt0 t from by
    unfold defs₀; rw [Defs.onTc_tc]]
  exact triple_restated (sound m c t) rfl .rfl fun _ => .rfl

set_option backward.isDefEq.respectTransparency.types false in
/-- The whole run: inputs unchanged, counters at zero. -/
theorem run_loose : θ_run defs (onTc (τ := τ) (main (F := F))) (s₀ m ρ)
    (fun r => (Pipeline.RDat.FramePost (cfgs 0) (fun c => (data m 0 c).toRForget loose) (V m)) r ∧ r.2.sem = fun _ => 0) :=
  Pipeline.θ_run_frame_track_forget_shared (Q' := _) cfgs (data m) (0 : Fin 1) launch₀0 defs₀ Variants.none loose m ρ main
    (hbody := fun c => (obligation m c).loose) (hq := fun _ _ _ => rfl) (howed := fun _ _ => rfl) (V := V m)
    (hmain := hmain m Variants.none) (hA := data_A m) (hin := fun _ => .rfl) (hout := fun _ => .rfl)

set_option maxHeartbeats 4000000 in
/-- The frame: arguments unchanged, counters at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs _ _).mono (fun _ h => ⟨fun c => ?_, h.2⟩) (run_loose m ρ)
  have rest := (h.1 c).2
  exact ⟨(rest main_arg0 (Pipeline.mem_restRefs_of main_arg0 (by decide) (by decide))).trans (V_main_arg0 m c),
    (Pipeline.RDat.FramePost.arr_in h.1 c 6 rfl).trans ((data_A m c 6).trans (V_main_arg1 m c)),
    (rest main_arg2 (Pipeline.mem_restRefs_of main_arg2 (by decide) (by decide))).trans (V_main_arg2 m c),
    (rest main_arg3 (Pipeline.mem_restRefs_of main_arg3 (by decide) (by decide))).trans (V_main_arg3 m c),
    (Pipeline.RDat.FramePost.arr_in h.1 c 8 rfl).trans ((data_A m c 8).trans (V_main_arg4 m c)),
    (Pipeline.RDat.FramePost.arr_in h.1 c 9 rfl).trans ((data_A m c 9).trans (V_main_arg5 m c)),
    (rest main_arg6 (Pipeline.mem_restRefs_of main_arg6 (by decide) (by decide))).trans (V_main_arg6 m c),
    (Pipeline.RDat.FramePost.arr_in h.1 c 11 rfl).trans ((data_A m c 11).trans (V_main_arg7 m c))⟩

end Cert.KernelCIdeal.Loose

end
-- ==== Proof.Slots.lean ====
module

public import proofs.«01_k».proof.Proof.Gen.KernelEIdeal.Value
public import proofs.«01_k».proof.Proof.Gen.ReferenceEIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.StableHlo Idealize.ShloMosaic.Pipeline

namespace Cert.KernelEIdeal.Slots

open Cert.KernelEIdeal Cert.KernelEIdeal.Gen
open Idealize.ShloMosaic.Pipeline (Dat)

/-- The sum of the eight slots. -/
def Sum (a : FVec Ideal S8x64x1024 .f32) (y : S64x1024.Idx) : EReal := ∑ s : Fin 8, a (ix3 s (y 0) (y 1))

/-- The stored sum of a block. -/
theorem pay (a b c d e f g h : Vec Ideal S1x64x1024 .f32) (i : Fin 64) (k : Fin 1024) : k0_pay1 (F := Ideal) a b c d e f g h (ix2 i k) =
    a (ix3 0 i k) + b (ix3 0 i k) + c (ix3 0 i k) + d (ix3 0 i k) + e (ix3 0 i k) + f (ix3 0 i k) + g (ix3 0 i k) + h (ix3 0 i k) := by
  pointwise [k0_pay1]

variable (m : (ℓ : Loc nD τ sig) → Buf (Elt Ideal) ℓ) (c : Dev nD)

/-- Every window's block index. -/
theorem idx : ∀ t : Fin cfg0.N, win0_0.index t = ![0, 0, 0] ∧ win0_1.index t = ![0, 0] :=
  (by decide +kernel : ∀ t : Fin grid0.N, _)

/-- The kernel leaves the sum of the slots. -/
theorem final : (dats m 0 c).arrAt 1 cfg0.N = Sum (m ((c : Thread nD τ).loc main_arg0)) := by
  refine (dats m 0 c).arrAt_eq_of_covers _ _ (by decide +kernel) fun t hf y => ?_
  blk_simp
  rw [after0_1]
  frame_out
  idx_vars y
  refine (pay _ _ _ _ _ _ _ _ _ _).trans ?_
  rw [Sum, Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    blk_point [iblk, V, idx t]

end Cert.KernelEIdeal.Slots

namespace Cert.ReferenceEIdeal.Slots

open Cert.ReferenceEIdeal Cert.ReferenceEIdeal.Gen Cert.ReferenceEIdeal.Value
open Cert.KernelEIdeal.Slots (Sum)

/-- The reference's run: the sum of the slots; the argument stays. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = Sum (m ((c.tc : Thread nD τ).loc main_arg0))
      ∧ r.2.mem ((c.tc : Thread nD τ).loc main_arg0) = m ((c.tc : Thread nD τ).loc main_arg0) := by
  refine (θ_run defs _ _).mono (fun r h c => ⟨(h c).1.trans ?_, (h c).2⟩) (run m ρ)
  funext y
  idx_vars y
  pointwise
  rfl

end Cert.ReferenceEIdeal.Slots

end
-- ==== Proof.Proj.lean ====
module

public import proofs.«01_k».proof.Proof.Gen.KernelIIdeal.Value
public import proofs.«01_k».proof.Proof.Gen.ReferenceIIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.StableHlo Idealize.ShloMosaic.Pipeline

namespace Cert.KernelIIdeal.Proj

open Cert.KernelIIdeal Cert.KernelIIdeal.Gen
open Idealize.ShloMosaic.Pipeline (Dat)

/-- The product of the two arguments. -/
def NN (a : FVec Ideal S8192x1024 .bf16) (b : FVec Ideal S1024x7168 .bf16) (y : S8192x7168.Idx) : EReal :=
  ∑ k : Fin 1024, a (ix2 (y 0) k) * b (ix2 k (y 1))

/-- The stored product of two blocks. -/
theorem pay (a : Vec Ideal S2048x1024 .bf16) (b : Vec Ideal S1024x1024 .bf16) (i : Fin 2048) (k : Fin 1024) :
    k0_pay1 (F := Ideal) a b (ix2 i k) = ∑ r : Fin 1024, a (ix2 i r) * b (ix2 r k) := by
  pointwise [k0_pay1]

variable (m : (ℓ : Loc nD τ sig) → Buf (Elt Ideal) ℓ) (c : Dev nD)

/-- Every window's block index: rows by the first grid axis, columns by the second. -/
theorem idx : ∀ t : Fin cfg0.N, win0_0.index t = ![t.val / 7, 0] ∧ win0_1.index t = ![0, t.val % 7] ∧ win0_2.index t = ![t.val / 7, t.val % 7] :=
  (by decide +kernel : ∀ t : Fin grid0.N, _)

/-- The kernel leaves the product. -/
theorem final : (dats m 0 c).arrAt 2 cfg0.N = NN (m ((c : Thread nD τ).loc main_arg0)) (m ((c : Thread nD τ).loc main_arg1)) := by
  refine (dats m 0 c).arrAt_eq_of_covers _ _ (by decide +kernel) fun t hf y => ?_
  blk_simp
  rw [after0_2]
  frame_out
  idx_vars y
  refine (pay _ _ _ _).trans (Finset.sum_congr rfl fun k _ => congrArg₂ (· * ·) ?_ ?_) <;> blk_point [iblk, V, idx t]

end Cert.KernelIIdeal.Proj

namespace Cert.ReferenceIIdeal.Proj

open Cert.ReferenceIIdeal Cert.ReferenceIIdeal.Gen Cert.ReferenceIIdeal.Value
open Cert.KernelIIdeal.Proj (NN)

/-- The reference's run: the product; the arguments stay. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = NN (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (run m ρ)
  funext y
  idx_vars y
  pointwise
  rfl

end Cert.ReferenceIIdeal.Proj

end
-- ==== Proof.Weights.lean ====
module

public import proofs.«01_k».proof.Proof.Gen.KernelBIdeal.Value
public import proofs.«01_k».proof.Proof.Gen.ReferenceBIdeal.Run
public import Idealize.ShloMosaic.Lib.WritesUnit
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.StableHlo Idealize.ShloMosaic.Pipeline

namespace Cert.KernelBIdeal.Weights

open Cert.KernelBIdeal Cert.KernelBIdeal.Gen
open Idealize.ShloMosaic.Pipeline (Dat)

/-- The stored block, of the first three parts. -/
theorem pay2 (o : Vec Ideal S1024x1024 .f32) (a : Vec Ideal S2048x1024 .bf16) (b : Vec Ideal S1x2048x1024 .bf16) (i k : Fin 1024) :
    k0_pay2 (F := Ideal) o a b (ix2 i k) = o (ix2 i k) + ∑ r : Fin 2048, a (ix2 r i) * b (ix3 0 r k) := by
  pointwise [k0_pay2]

/-- The stored block, of the last four parts. -/
theorem pay3 (o : Vec Ideal S1024x1024 .f32) (a : Vec Ideal S2048x1024 .bf16) (b : Vec Ideal S1x2048x1024 .bf16) (i k : Fin 1024) :
    k0_pay3 (F := Ideal) o a b (ix2 i k) = o (ix2 i k) + ∑ r : Fin 2048, a (ix2 r i) * b (ix3 0 r k) := by
  pointwise [k0_pay3]

/-- The product starts from zeros. -/
theorem zero (y : S1024x1024.Idx) : k0_pay1 (F := Ideal) y = 0 := by pointwise [k0_pay1]

/-- The seven parts of the cotangent, three of one array and four of another. -/
def DZ (a : FVec Ideal S3x8192x1024 .bf16) (b : FVec Ideal S4x8192x1024 .bf16) (p : Fin 7) (t : Fin 8192) (e : Fin 1024) : EReal :=
  if h : p.val < 3 then a (ix3 ⟨p.val, h⟩ t e) else b (ix3 ⟨p.val - 3, by have := p.isLt; omega⟩ t e)

/-- The first operand's transpose times the parts side by side. -/
def TN (u : FVec Ideal S8192x1024 .bf16) (a : FVec Ideal S3x8192x1024 .bf16) (b : FVec Ideal S4x8192x1024 .bf16) (j : S1024x7168.Idx) : EReal :=
  ∑ t : Fin 8192, u (ix2 t (j 0)) * DZ a b ⟨(j 1).val / 1024, by have := (j 1).isLt; simp at this; omega⟩ t ⟨(j 1).val % 1024, Nat.mod_lt _ (by decide)⟩

variable (m : (ℓ : Loc nD τ sig) → Buf (Elt Ideal) ℓ) (c : Dev nD)

/-- What a grid point adds. -/
def term (t : Fin cfg0.N) (y : S1024x1024.Idx) : EReal :=
  ∑ r : Fin 2048, (show FVec Ideal S2048x1024 .bf16 from iblk m c 0 t) (ix2 r (y 0)) *
    (if t.val < 12 then (show FVec Ideal S1x2048x1024 .bf16 from iblk m c 1 t) (ix3 0 r (y 1)) else (show FVec Ideal S1x2048x1024 .bf16 from iblk m c 2 t) (ix3 0 r (y 1)))

/-- At the first point of a part the block holds that point's terms. -/
theorem reset (t : Fin cfg0.N) (h : t.val % 4 = 0) (y : S1024x1024.Idx) :
    outsAt0 m c t.val t.isLt y = (0 : EReal) + term m c t y := by
  by_cases hp : t.val < 12
  · rw [outsAt0_A m c t h hp (by omega)]; frame_out
    idx_vars y
    simp only [term, hp, if_true]
    refine (pay2 _ _ _ y0 y1).trans (congrArg₂ (· + ·) ?_ rfl)
    pointwise [zero]
  · rw [outsAt0_C m c t h hp (by omega)]; frame_out
    idx_vars y
    simp only [term, hp, if_false]
    refine (pay3 _ _ _ y0 y1).trans (congrArg₂ (· + ·) ?_ rfl)
    pointwise [zero]

/-- At a later point it holds what it held before plus that point's terms. -/
theorem step (t : Fin cfg0.N) (h : ¬t.val % 4 = 0) (y : S1024x1024.Idx) :
    outsAt0 m c t.val t.isLt y = (show EReal from outsAt0 m c (t.val - 1) (Nat.lt_of_le_of_lt (Nat.sub_le _ _) t.isLt) y) + term m c t y := by
  by_cases hp : t.val < 12
  · rw [outsAt0_B m c t h hp (by omega)]; frame_out
    idx_vars y
    simp only [term, hp, if_true]
    refine (pay2 _ _ _ y0 y1).trans (congrArg₂ (· + ·) ?_ rfl)
    pointwise
  · rw [outsAt0_D m c t h hp (by omega)]; frame_out
    idx_vars y
    simp only [term, hp, if_false]
    refine (pay3 _ _ _ y0 y1).trans (congrArg₂ (· + ·) ?_ rfl)
    pointwise

/-- The block index of the first operand and of the product. -/
theorem idx : ∀ t : Fin cfg0.N, win0_0.index t = ![t.val % 4, 0] ∧ win0_3.index t = ![0, t.val / 4] :=
  (by decide +kernel : ∀ t : Fin grid0.N, _)

/-- The block index of the first three parts. -/
theorem idx1 : ∀ t : Fin cfg0.N, t.val < 12 → win0_1.index t = ![t.val / 4, t.val % 4, 0] := (by decide +kernel : ∀ t : Fin grid0.N, _)

/-- The block index of the last four parts. -/
theorem idx2 : ∀ t : Fin cfg0.N, ¬t.val < 12 → win0_2.index t = ![t.val / 4 - 3, t.val % 4, 0] := (by decide +kernel : ∀ t : Fin grid0.N, _)

/-- A grid point's terms, over the arrays. -/
theorem term_eq (p : Fin cfg0.N) (i k : Fin 1024) (r : Fin 2048) (q : Fin 7) (l : Fin 8192) (hq : q.val = p.val / 4) (hl : l.val = p.val % 4 * 2048 + r.val) :
    (show FVec Ideal S2048x1024 .bf16 from iblk m c 0 p) (ix2 r i) *
      (if p.val < 12 then (show FVec Ideal S1x2048x1024 .bf16 from iblk m c 1 p) (ix3 0 r k) else (show FVec Ideal S1x2048x1024 .bf16 from iblk m c 2 p) (ix3 0 r k))
    = (show EReal from m ((c : Thread nD τ).loc main_arg0) (ix2 l i)) * DZ (m ((c : Thread nD τ).loc main_arg1)) (m ((c : Thread nD τ).loc main_arg2)) q l k := by
  by_cases hp : p.val < 12
  · have h3 : q.val < 3 := by omega
    simp only [DZ, hp, h3, if_true, dif_pos]
    refine congrArg₂ (· * ·) ?_ ?_
    · blk_point [iblk, V, idx p, hl]
    · blk_point [iblk, V, idx1 p hp, hl, hq]
  · have h3 : ¬q.val < 3 := by omega
    simp only [DZ, hp, h3, if_false, dif_neg, not_false_iff]
    refine congrArg₂ (· * ·) ?_ ?_
    · blk_point [iblk, V, idx p, hl]
    · blk_point [iblk, V, idx2 p hp, hl, hq]

/-- The kernel leaves the product. -/
theorem final : (dats m 0 c).arrAt 3 cfg0.N = TN (m ((c : Thread nD τ).loc main_arg0)) (m ((c : Thread nD τ).loc main_arg1)) (m ((c : Thread nD τ).loc main_arg2)) := by
  refine (dats m 0 c).arrAt_eq_of_covers _ _ (by decide +kernel) fun t hf y => ?_
  blk_simp
  rw [after0_3, Pipeline.eq_sum_fin_of_reset_step_apply_of_flush (fun n h => outsAt0 m c n h) 4 (fun _ => (0 : EReal)) (term m c)
    (fun t h j => reset m c t h j) (fun t h j => step m c t h j) t ((flush0_3 t).mp hf) y, zero_add]
  idx_vars y
  simp only [TN, term]
  refine Fin.sum_mul_add_congr fun s k hl => ?_
  have h28 : t.val < 28 := lt_of_lt_of_eq t.isLt N_0
  have hq : t.val / 4 < 7 := by omega
  refine (term_eq m c _ y0 y1 k ⟨t.val / 4, hq⟩ ⟨s.val * 2048 + k.val, hl⟩ ?_ ?_).trans (congrArg₂ (· * ·) ?_ ?_)
  · show t.val / 4 = (4 * (t.val / 4) + s.val) / 4
    omega
  · show s.val * 2048 + k.val = (4 * (t.val / 4) + s.val) % 4 * 2048 + k.val
    omega
  · blk_point [idx t]
  · have e : ((((View.whole main_v0).slice (win0_3.rect t)).emb (ix2 y0 y1)) 1).val = t.val / 4 * 1024 + y1.val := by
      blk_simp [idx t]
    refine congrArg₂ (fun q l => DZ _ _ q _ l) (Fin.ext ?_) (Fin.ext ?_)
    · show t.val / 4 = ((((View.whole main_v0).slice (win0_3.rect t)).emb (ix2 y0 y1)) 1).val / 1024
      rw [e]; omega
    · show y1.val = ((((View.whole main_v0).slice (win0_3.rect t)).emb (ix2 y0 y1)) 1).val % 1024
      rw [e]; omega

end Cert.KernelBIdeal.Weights

namespace Cert.ReferenceBIdeal.Weights

open Cert.ReferenceBIdeal Cert.ReferenceBIdeal.Gen Cert.ReferenceBIdeal.Value
open Cert.KernelBIdeal.Weights (TN DZ)

/-- The reference's run: the product; the arguments stay. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = TN (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  funext y
  idx_vars y
  pointwise
  rfl

end Cert.ReferenceBIdeal.Weights

end
-- ==== Proof.Input.lean ====
module

public import proofs.«01_k».proof.Proof.Gen.KernelJIdeal.Value
public import proofs.«01_k».proof.Proof.Gen.ReferenceJIdeal.Run
public import Idealize.ShloMosaic.Lib.WritesUnit
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.StableHlo Idealize.ShloMosaic.Pipeline

namespace Cert.KernelJIdeal.Input

open Cert.KernelJIdeal Cert.KernelJIdeal.Gen
open Idealize.ShloMosaic.Pipeline (Dat)

/-- The sum carried, with one of the first three parts added. -/
theorem pay2 (o : Vec Ideal S2048x1024 .f32) (a : Vec Ideal S1x2048x1024 .bf16) (b : Vec Ideal S1024x1024 .bf16) (i : Fin 2048) (k : Fin 1024) :
    k0_pay2 (F := Ideal) o a b (ix2 i k) = o (ix2 i k) + ∑ e : Fin 1024, a (ix3 0 i e) * b (ix2 k e) := by
  pointwise [k0_pay2]

/-- The sum carried, with one of the last four parts added. -/
theorem pay3 (o : Vec Ideal S2048x1024 .f32) (a : Vec Ideal S1x2048x1024 .bf16) (b : Vec Ideal S1024x1024 .bf16) (i : Fin 2048) (k : Fin 1024) :
    k0_pay3 (F := Ideal) o a b (ix2 i k) = o (ix2 i k) + ∑ e : Fin 1024, a (ix3 0 i e) * b (ix2 k e) := by
  pointwise [k0_pay3]

/-- The sum starts from zeros. -/
theorem zero (y : S2048x1024.Idx) : k0_pay1 (F := Ideal) y = 0 := by
  idx_vars y
  pointwise [k0_pay1]

/-- The seven parts of the cotangent, three of one array and four of another. -/
def DZ (a : FVec Ideal S3x8192x1024 .bf16) (b : FVec Ideal S4x8192x1024 .bf16) (p : Fin 7) (t : Fin 8192) (e : Fin 1024) : EReal :=
  if h : p.val < 3 then a (ix3 ⟨p.val, h⟩ t e) else b (ix3 ⟨p.val - 3, by have := p.isLt; omega⟩ t e)

/-- The parts side by side times the weight's transpose. -/
def NT (a : FVec Ideal S3x8192x1024 .bf16) (b : FVec Ideal S4x8192x1024 .bf16) (w : FVec Ideal S1024x7168 .bf16) (j : S8192x1024.Idx) : EReal :=
  ∑ p : Fin 7, ∑ e : Fin 1024, DZ a b p (j 0) e * w (ix2 (j 1) ⟨p.val * 1024 + e.val, by have := p.isLt; have := e.isLt; omega⟩)

variable (m : (ℓ : Loc nD τ sig) → Buf (Elt Ideal) ℓ) (c : Dev nD)

/-- What a grid point adds. -/
def term (t : Fin cfg0.N) (y : S2048x1024.Idx) : EReal :=
  ∑ e : Fin 1024, (if t.val % 7 ≤ 2 then (show FVec Ideal S1x2048x1024 .bf16 from iblk m c 0 t) (ix3 0 (y 0) e) else (show FVec Ideal S1x2048x1024 .bf16 from iblk m c 1 t) (ix3 0 (y 0) e)) *
    (show FVec Ideal S1024x1024 .bf16 from iblk m c 2 t) (ix2 (y 1) e)

/-- At the first part the sum holds that part's terms. -/
theorem reset (t : Fin cfg0.N) (h : t.val % 7 = 0) (y : S2048x1024.Idx) :
    (outsAt0 m c t.val t.isLt).2 y = (0 : EReal) + term m c t y := by
  have hp : t.val % 7 ≤ 2 := by omega
  rw [outsAt0_A m c t h hp (by omega) (by omega)]; frame_out
  idx_vars y
  simp only [term, hp, if_true]
  refine (pay2 _ _ _ y0 y1).trans (congrArg₂ (· + ·) ?_ rfl)
  pointwise [zero]

/-- At a later part it holds what it held before plus that part's terms. -/
theorem step (t : Fin cfg0.N) (h : ¬t.val % 7 = 0) (y : S2048x1024.Idx) :
    (outsAt0 m c t.val t.isLt).2 y = (show EReal from (outsAt0 m c (t.val - 1) (Nat.lt_of_le_of_lt (Nat.sub_le _ _) t.isLt)).2 y) + term m c t y := by
  by_cases hp : t.val % 7 ≤ 2
  · rw [outsAt0_B m c t h hp (by omega) (by omega)]; frame_out
    idx_vars y
    simp only [term, hp, if_true]
    refine (pay2 _ _ _ y0 y1).trans (congrArg₂ (· + ·) ?_ rfl)
    pointwise
    exact congrFun (read_unread_whole _ _ _) _
  · by_cases h6 : t.val % 7 = 6
    · rw [outsAt0_D m c t h hp (by omega) h6]; frame_out
      idx_vars y
      simp only [term, hp, if_false]
      refine (pay3 _ _ _ y0 y1).trans (congrArg₂ (· + ·) ?_ rfl)
      pointwise
      exact congrFun (read_unread_whole _ _ _) _
    · rw [outsAt0_C m c t h hp (by omega) h6]; frame_out
      idx_vars y
      simp only [term, hp, if_false]
      refine (pay3 _ _ _ y0 y1).trans (congrArg₂ (· + ·) ?_ rfl)
      pointwise
      exact congrFun (read_unread_whole _ _ _) _

/-- At the last part the result's block is the sum. -/
theorem last (t : Fin cfg0.N) (h6 : t.val % 7 = 6) (y : S2048x1024.Idx) :
    (outsAt0 m c t.val t.isLt).1 y = (show EReal from (outsAt0 m c t.val t.isLt).2 y) := by
  rw [outsAt0_D m c t (by omega) (by omega) (by omega) h6]; frame_out
  idx_vars y
  pointwise [k0_pay4]

/-- The block index of the weight and of the result. -/
theorem idx : ∀ t : Fin cfg0.N, win0_2.index t = ![0, t.val % 7] ∧ win0_3.index t = ![t.val / 7, 0] :=
  (by decide +kernel : ∀ t : Fin grid0.N, _)

/-- The block index of the first three parts. -/
theorem idx1 : ∀ t : Fin cfg0.N, t.val % 7 ≤ 2 → win0_0.index t = ![t.val % 7, t.val / 7, 0] := (by decide +kernel : ∀ t : Fin grid0.N, _)

/-- The block index of the last four parts. -/
theorem idx2 : ∀ t : Fin cfg0.N, ¬t.val % 7 ≤ 2 → win0_1.index t = ![t.val % 7 - 3, t.val / 7, 0] := (by decide +kernel : ∀ t : Fin grid0.N, _)

/-- A grid point's terms, over the arrays. -/
theorem term_eq (p : Fin cfg0.N) (i : Fin 2048) (k e : Fin 1024) (q : Fin 7) (l : Fin 8192) (w : Fin 7168) (hq : q.val = p.val % 7)
    (hl : l.val = p.val / 7 * 2048 + i.val) (hw : w.val = p.val % 7 * 1024 + e.val) :
    (if p.val % 7 ≤ 2 then (show FVec Ideal S1x2048x1024 .bf16 from iblk m c 0 p) (ix3 0 i e) else (show FVec Ideal S1x2048x1024 .bf16 from iblk m c 1 p) (ix3 0 i e)) *
      (show FVec Ideal S1024x1024 .bf16 from iblk m c 2 p) (ix2 k e)
    = DZ (m ((c : Thread nD τ).loc main_arg0)) (m ((c : Thread nD τ).loc main_arg1)) q l e * (show EReal from m ((c : Thread nD τ).loc main_arg2) (ix2 k w)) := by
  by_cases hp : p.val % 7 ≤ 2
  · have h3 : q.val < 3 := by omega
    simp only [DZ, hp, h3, if_true, dif_pos]
    refine congrArg₂ (· * ·) ?_ ?_
    · blk_point [iblk, V, idx1 p hp, hl, hq]
    · blk_point [iblk, V, idx p, hw]
  · have h3 : ¬q.val < 3 := by omega
    simp only [DZ, hp, h3, if_false, dif_neg, not_false_iff]
    refine congrArg₂ (· * ·) ?_ ?_
    · blk_point [iblk, V, idx2 p hp, hl, hq]
    · blk_point [iblk, V, idx p, hw]

/-- The kernel leaves the product. -/
theorem final : (dats m 0 c).arrAt 3 cfg0.N = NT (m ((c : Thread nD τ).loc main_arg0)) (m ((c : Thread nD τ).loc main_arg1)) (m ((c : Thread nD τ).loc main_arg2)) := by
  refine (dats m 0 c).arrAt_eq_of_covers _ _ (by decide +kernel) fun t hf y => ?_
  have h6 : t.val % 7 = 6 := (flush0_3 t).mp hf
  blk_simp
  rw [after0_3]
  refine (last m c t h6 y).trans ?_
  rw [Pipeline.eq_sum_fin_of_reset_step_apply_of_flush (fun n h => (outsAt0 m c n h).2) 7 (fun _ => (0 : EReal)) (term m c)
    (fun t h j => reset m c t h j) (fun t h j => step m c t h j) t h6 y, zero_add]
  idx_vars y
  simp only [NT, term]
  refine Finset.sum_congr rfl fun s _ => Finset.sum_congr rfl fun e _ => ?_
  have h28 : t.val < 28 := lt_of_lt_of_eq t.isLt N_0
  have e0 : ((((View.whole main_v0).slice (win0_3.rect t)).emb (ix2 y0 y1)) 0).val = t.val / 7 * 2048 + y0.val := by
    blk_simp [idx t]
  have hs : 7 * (t.val / 7) + s.val < cfg0.grid.N := lt_of_lt_of_eq (by have := s.isLt; omega : 7 * (t.val / 7) + s.val < 28) N_0.symm
  refine (term_eq m c ⟨7 * (t.val / 7) + s.val, hs⟩ y0 y1 e s ⟨t.val / 7 * 2048 + y0.val, by omega⟩ ⟨s.val * 1024 + e.val, by omega⟩ ?_ ?_ ?_).trans (congrArg₂ (· * ·) ?_ ?_)
  · show s.val = (7 * (t.val / 7) + s.val) % 7
    omega
  · show t.val / 7 * 2048 + y0.val = (7 * (t.val / 7) + s.val) / 7 * 2048 + y0.val
    omega
  · show s.val * 1024 + e.val = (7 * (t.val / 7) + s.val) % 7 * 1024 + e.val
    omega
  · exact congrArg (fun l => DZ _ _ s l e) (Fin.ext e0.symm)
  · blk_point [idx t]

end Cert.KernelJIdeal.Input

namespace Cert.ReferenceJIdeal.Input

open Cert.ReferenceJIdeal Cert.ReferenceJIdeal.Gen Cert.ReferenceJIdeal.Value
open Cert.KernelJIdeal.Input (NT DZ)

/-- The reference's run: the product; the arguments stay. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = NT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  funext y
  idx_vars y
  pointwise
  simp only [NT]
  refine Finset.sum_add_distrib.trans (Eq.trans ?_ (Fin.sum_univ_add (a := 3) (b := 4) _).symm)
  refine congrArg₂ (· + ·) (Finset.sum_comm.trans ?_) (Finset.sum_comm.trans ?_) <;>
    refine Finset.sum_congr rfl fun p _ => Finset.sum_congr rfl fun e _ => ?_
  · have h : (Fin.castAdd 4 p).val < 3 := p.isLt
    simp only [DZ, dif_pos h]
    rfl
  · have h : ¬(Fin.natAdd 3 p).val < 3 := by simp
    simp only [DZ, dif_neg h]
    refine congrArg₂ (· * ·) (congrArg (fun q => m (c.tc.loc main_arg1) (ix3 q y0 e)) (Fin.ext ?_)) rfl
    simp

end Cert.ReferenceJIdeal.Input

end
-- ==== Proof.lean ====
module

public import proofs.«01_k».proof.Defs
public import proofs.«01_k».proof.Proof.Gen.KernelX
public import proofs.«01_k».proof.Proof.Gen.KernelX.Skeleton
public import proofs.«01_k».proof.Proof.Gen.KernelX.Launch
public import proofs.«01_k».proof.Proof.Gen.KernelX.Points
public import proofs.«01_k».proof.Proof.Gen.KernelX.Frame
public import proofs.«01_k».proof.Proof.Gen.KernelXIdeal
public import proofs.«01_k».proof.Proof.Gen.KernelXIdeal.Skeleton
public import proofs.«01_k».proof.Proof.Gen.KernelXIdeal.Launch
public import proofs.«01_k».proof.Proof.Gen.KernelXIdeal.Points
public import proofs.«01_k».proof.Proof.Gen.KernelXIdeal.Frame
public import proofs.«01_k».proof.Proof.Gen.ReferenceXIdeal
public import proofs.«01_k».proof.Proof.Gen.KernelXIdeal.Value
public import proofs.«01_k».proof.Proof.Gen.ReferenceXIdeal.Run
public import proofs.«01_k».proof.Proof.Gen.KernelT
public import proofs.«01_k».proof.Proof.Gen.KernelT.Skeleton
public import proofs.«01_k».proof.Proof.Gen.KernelT.Launch
public import proofs.«01_k».proof.Proof.Gen.KernelT.Points
public import proofs.«01_k».proof.Proof.Gen.KernelT.Frame
public import proofs.«01_k».proof.Proof.Gen.KernelTIdeal
public import proofs.«01_k».proof.Proof.Gen.KernelTIdeal.Skeleton
public import proofs.«01_k».proof.Proof.Gen.KernelTIdeal.Launch
public import proofs.«01_k».proof.Proof.Gen.KernelTIdeal.Points
public import proofs.«01_k».proof.Proof.Gen.KernelTIdeal.Frame
public import proofs.«01_k».proof.Proof.Gen.ReferenceTIdeal
public import proofs.«01_k».proof.Proof.Gen.KernelTIdeal.Value
public import proofs.«01_k».proof.Proof.Gen.ReferenceTIdeal.Run
public import proofs.«01_k».proof.Proof.Gen.KernelF
public import proofs.«01_k».proof.Proof.Gen.KernelF.Skeleton
public import proofs.«01_k».proof.Proof.Gen.KernelF.Launch
public import proofs.«01_k».proof.Proof.Gen.KernelF.Points
public import proofs.«01_k».proof.Proof.Gen.KernelF.Frame
public import proofs.«01_k».proof.Proof.Gen.KernelFIdeal
public import proofs.«01_k».proof.Proof.Gen.KernelFIdeal.Skeleton
public import proofs.«01_k».proof.Proof.Gen.KernelFIdeal.Launch
public import proofs.«01_k».proof.Proof.Gen.KernelFIdeal.Points
public import proofs.«01_k».proof.Proof.Gen.KernelFIdeal.Frame
public import proofs.«01_k».proof.Proof.Gen.ReferenceFIdeal
public import proofs.«01_k».proof.Proof.Gen.KernelFIdeal.Value
public import proofs.«01_k».proof.Proof.Gen.ReferenceFIdeal.Run
public import proofs.«01_k».proof.Proof.Gen.KernelL
public import proofs.«01_k».proof.Proof.Gen.KernelL.Skeleton
public import proofs.«01_k».proof.Proof.Gen.KernelL.Launch
public import proofs.«01_k».proof.Proof.Gen.KernelL.Points
public import proofs.«01_k».proof.Proof.Gen.KernelL.Frame
public import proofs.«01_k».proof.Proof.Gen.KernelLIdeal
public import proofs.«01_k».proof.Proof.Gen.KernelLIdeal.Skeleton
public import proofs.«01_k».proof.Proof.Gen.KernelLIdeal.Launch
public import proofs.«01_k».proof.Proof.Gen.KernelLIdeal.Points
public import proofs.«01_k».proof.Proof.Gen.KernelLIdeal.Frame
public import proofs.«01_k».proof.Proof.Gen.ReferenceLIdeal
public import proofs.«01_k».proof.Proof.Gen.KernelLIdeal.Value
public import proofs.«01_k».proof.Proof.Gen.ReferenceLIdeal.Run
public import proofs.«01_k».proof.Proof.Gen.KernelS
public import proofs.«01_k».proof.Proof.Gen.KernelS.Skeleton
public import proofs.«01_k».proof.Proof.Gen.KernelS.Launch
public import proofs.«01_k».proof.Proof.Gen.KernelS.Points
public import proofs.«01_k».proof.Proof.Gen.KernelS.Frame
public import proofs.«01_k».proof.Proof.Gen.KernelSIdeal
public import proofs.«01_k».proof.Proof.Gen.KernelSIdeal.Skeleton
public import proofs.«01_k».proof.Proof.Gen.KernelSIdeal.Launch
public import proofs.«01_k».proof.Proof.Gen.KernelSIdeal.Points
public import proofs.«01_k».proof.Proof.Gen.KernelSIdeal.Frame
public import proofs.«01_k».proof.Proof.Gen.ReferenceSIdeal
public import proofs.«01_k».proof.Proof.Gen.KernelSIdeal.Value
public import proofs.«01_k».proof.Proof.Gen.ReferenceSIdeal.Run
public import proofs.«01_k».proof.Proof.Gen.KernelU
public import proofs.«01_k».proof.Proof.Gen.KernelU.Skeleton
public import proofs.«01_k».proof.Proof.Gen.KernelU.Launch
public import proofs.«01_k».proof.Proof.Gen.KernelU.Points
public import proofs.«01_k».proof.Proof.Gen.KernelU.Frame
public import proofs.«01_k».proof.Proof.Gen.KernelUIdeal
public import proofs.«01_k».proof.Proof.Gen.KernelUIdeal.Skeleton
public import proofs.«01_k».proof.Proof.Gen.KernelUIdeal.Launch
public import proofs.«01_k».proof.Proof.Gen.KernelUIdeal.Points
public import proofs.«01_k».proof.Proof.Gen.KernelUIdeal.Frame
public import proofs.«01_k».proof.Proof.Gen.ReferenceUIdeal
public import proofs.«01_k».proof.Proof.Gen.KernelUIdeal.Value
public import proofs.«01_k».proof.Proof.Gen.ReferenceUIdeal.Run
public import proofs.«01_k».proof.Proof.Gen.KernelW
public import proofs.«01_k».proof.Proof.Gen.KernelW.Skeleton
public import proofs.«01_k».proof.Proof.Gen.KernelW.Launch
public import proofs.«01_k».proof.Proof.Gen.KernelW.Points
public import proofs.«01_k».proof.Proof.Gen.KernelW.Frame
public import proofs.«01_k».proof.Proof.Gen.KernelWIdeal
public import proofs.«01_k».proof.Proof.Gen.KernelWIdeal.Skeleton
public import proofs.«01_k».proof.Proof.Gen.KernelWIdeal.Launch
public import proofs.«01_k».proof.Proof.Gen.KernelWIdeal.Points
public import proofs.«01_k».proof.Proof.Gen.KernelWIdeal.Frame
public import proofs.«01_k».proof.Proof.Gen.ReferenceWIdeal
public import proofs.«01_k».proof.Proof.Gen.KernelWIdeal.Value
public import proofs.«01_k».proof.Proof.Gen.ReferenceWIdeal.Run
public import proofs.«01_k».proof.Proof.RmsGrad
public import proofs.«01_k».proof.Proof.Tail
public import proofs.«01_k».proof.Proof.HgrnGrid
public import proofs.«01_k».proof.Proof.HgrnRef
public import proofs.«01_k».proof.Proof.Small
public import proofs.«01_k».proof.Proof.SmallU
public import proofs.«01_k».proof.Proof.SmallW
public import proofs.«01_k».proof.Proof.SmallL
public import Idealize.ShloMosaic.Lib.Quiescent
public import Idealize.ShloMosaic.Lib.Pipeline.ValueKit
public import Idealize.ShloMosaic.Adequacy
public import Idealize.ShloMosaic.Init
public import proofs.«01_k».proof.Proof.Gen.KernelG
public import proofs.«01_k».proof.Proof.Gen.KernelG.Skeleton
public import proofs.«01_k».proof.Proof.Gen.KernelG.Launch
public import proofs.«01_k».proof.Proof.Gen.KernelG.Points
public import proofs.«01_k».proof.Proof.Gen.KernelG.Frame
public import proofs.«01_k».proof.Proof.Gen.KernelGIdeal
public import proofs.«01_k».proof.Proof.Gen.KernelGIdeal.Skeleton
public import proofs.«01_k».proof.Proof.Gen.KernelGIdeal.Launch
public import proofs.«01_k».proof.Proof.Gen.KernelGIdeal.Points
public import proofs.«01_k».proof.Proof.Gen.KernelGIdeal.Frame
public import proofs.«01_k».proof.Proof.Gen.ReferenceGIdeal
public import proofs.«01_k».proof.Proof.Gen.KernelGIdeal.Value
public import proofs.«01_k».proof.Proof.Gen.ReferenceGIdeal.Run
public import proofs.«01_k».proof.Proof.ConvGrid
public import proofs.«01_k».proof.Proof.ConvRef
public import proofs.«01_k».proof.Proof.Gen.KernelH
public import proofs.«01_k».proof.Proof.Gen.KernelH.Skeleton
public import proofs.«01_k».proof.Proof.Gen.KernelH.Launch
public import proofs.«01_k».proof.Proof.Gen.KernelH.Points
public import proofs.«01_k».proof.Proof.Gen.KernelH.Frame
public import proofs.«01_k».proof.Proof.Gen.KernelHIdeal
public import proofs.«01_k».proof.Proof.Gen.KernelHIdeal.Skeleton
public import proofs.«01_k».proof.Proof.Gen.KernelHIdeal.Launch
public import proofs.«01_k».proof.Proof.Gen.KernelHIdeal.Points
public import proofs.«01_k».proof.Proof.Gen.KernelHIdeal.Frame
public import proofs.«01_k».proof.Proof.Gen.KernelN
public import proofs.«01_k».proof.Proof.Gen.KernelN.Skeleton
public import proofs.«01_k».proof.Proof.Gen.KernelN.Launch
public import proofs.«01_k».proof.Proof.Gen.KernelN.Points
public import proofs.«01_k».proof.Proof.Gen.KernelN.Frame
public import proofs.«01_k».proof.Proof.Gen.KernelNIdeal
public import proofs.«01_k».proof.Proof.Gen.KernelNIdeal.Skeleton
public import proofs.«01_k».proof.Proof.Gen.KernelNIdeal.Launch
public import proofs.«01_k».proof.Proof.Gen.KernelNIdeal.Points
public import proofs.«01_k».proof.Proof.Gen.KernelNIdeal.Frame
public import proofs.«01_k».proof.Proof.Gen.ReferenceNIdeal
public import proofs.«01_k».proof.Proof.Gen.KernelNIdeal.Value
public import proofs.«01_k».proof.Proof.Gen.ReferenceNIdeal.Run
public import proofs.«01_k».proof.Proof.Gen.KernelM
public import proofs.«01_k».proof.Proof.Gen.KernelM.Skeleton
public import proofs.«01_k».proof.Proof.Gen.KernelM.Launch
public import proofs.«01_k».proof.Proof.Gen.KernelM.Points
public import proofs.«01_k».proof.Proof.Gen.KernelM.Frame
public import proofs.«01_k».proof.Proof.Gen.KernelMIdeal
public import proofs.«01_k».proof.Proof.Gen.KernelMIdeal.Skeleton
public import proofs.«01_k».proof.Proof.Gen.KernelMIdeal.Launch
public import proofs.«01_k».proof.Proof.Gen.KernelMIdeal.Points
public import proofs.«01_k».proof.Proof.Gen.KernelMIdeal.Frame
public import proofs.«01_k».proof.Proof.Gen.ReferenceMIdeal
public import proofs.«01_k».proof.Proof.Gen.KernelMIdeal.Value
public import proofs.«01_k».proof.Proof.Gen.ReferenceMIdeal.Run
public import proofs.«01_k».proof.Proof.Gen.KernelO
public import proofs.«01_k».proof.Proof.Gen.KernelO.Skeleton
public import proofs.«01_k».proof.Proof.Gen.KernelO.Launch
public import proofs.«01_k».proof.Proof.Gen.KernelO.Points
public import proofs.«01_k».proof.Proof.Gen.KernelO.Frame
public import proofs.«01_k».proof.Proof.Gen.KernelOIdeal
public import proofs.«01_k».proof.Proof.Gen.KernelOIdeal.Skeleton
public import proofs.«01_k».proof.Proof.Gen.KernelOIdeal.Launch
public import proofs.«01_k».proof.Proof.Gen.KernelOIdeal.Points
public import proofs.«01_k».proof.Proof.Gen.KernelOIdeal.Frame
public import proofs.«01_k».proof.Proof.Gen.ReferenceOIdeal
public import proofs.«01_k».proof.Proof.Gen.KernelOIdeal.Value
public import proofs.«01_k».proof.Proof.Gen.ReferenceOIdeal.Run
public import proofs.«01_k».proof.Proof.Norm
public import proofs.«01_k».proof.Proof.Product
public import proofs.«01_k».proof.Proof.BigO
public import proofs.«01_k».proof.Proof.Gen.KernelP
public import proofs.«01_k».proof.Proof.Gen.KernelP.Skeleton
public import proofs.«01_k».proof.Proof.Gen.KernelP.Launch
public import proofs.«01_k».proof.Proof.Gen.KernelP.Points
public import proofs.«01_k».proof.Proof.Gen.KernelP.Frame
public import proofs.«01_k».proof.Proof.Gen.KernelPIdeal
public import proofs.«01_k».proof.Proof.Gen.KernelPIdeal.Skeleton
public import proofs.«01_k».proof.Proof.Gen.KernelPIdeal.Launch
public import proofs.«01_k».proof.Proof.Gen.KernelPIdeal.Points
public import proofs.«01_k».proof.Proof.Gen.KernelPIdeal.Frame
public import proofs.«01_k».proof.Proof.Gen.ReferencePIdeal
public import proofs.«01_k».proof.Proof.Gen.KernelPIdeal.Value
public import proofs.«01_k».proof.Proof.Gen.ReferencePIdeal.Run
public import proofs.«01_k».proof.Proof.Gen.KernelQ
public import proofs.«01_k».proof.Proof.Gen.KernelQ.Skeleton
public import proofs.«01_k».proof.Proof.Gen.KernelQ.Launch
public import proofs.«01_k».proof.Proof.Gen.KernelQ.Points
public import proofs.«01_k».proof.Proof.Gen.KernelQ.Frame
public import proofs.«01_k».proof.Proof.Gen.KernelQIdeal
public import proofs.«01_k».proof.Proof.Gen.KernelQIdeal.Skeleton
public import proofs.«01_k».proof.Proof.Gen.KernelQIdeal.Launch
public import proofs.«01_k».proof.Proof.Gen.KernelQIdeal.Points
public import proofs.«01_k».proof.Proof.Gen.KernelQIdeal.Frame
public import proofs.«01_k».proof.Proof.Gen.ReferenceQIdeal
public import proofs.«01_k».proof.Proof.Gen.KernelQIdeal.Value
public import proofs.«01_k».proof.Proof.Gen.ReferenceQIdeal.Run
public import proofs.«01_k».proof.Proof.Gen.KernelY
public import proofs.«01_k».proof.Proof.Gen.KernelY.Skeleton
public import proofs.«01_k».proof.Proof.Gen.KernelY.Launch
public import proofs.«01_k».proof.Proof.Gen.KernelY.Points
public import proofs.«01_k».proof.Proof.Gen.KernelY.Frame
public import proofs.«01_k».proof.Proof.Gen.KernelYIdeal
public import proofs.«01_k».proof.Proof.Gen.KernelYIdeal.Skeleton
public import proofs.«01_k».proof.Proof.Gen.KernelYIdeal.Launch
public import proofs.«01_k».proof.Proof.Gen.KernelYIdeal.Points
public import proofs.«01_k».proof.Proof.Gen.KernelYIdeal.Frame
public import proofs.«01_k».proof.Proof.Gen.ReferenceYIdeal
public import proofs.«01_k».proof.Proof.Gen.KernelYIdeal.Value
public import proofs.«01_k».proof.Proof.Gen.ReferenceYIdeal.Run
public import proofs.«01_k».proof.Proof.Gen.KernelC
public import proofs.«01_k».proof.Proof.Gen.KernelC.Skeleton
public import proofs.«01_k».proof.Proof.Gen.KernelC.Launch
public import proofs.«01_k».proof.Proof.Gen.KernelC.Points
public import proofs.«01_k».proof.Proof.Gen.KernelCIdeal
public import proofs.«01_k».proof.Proof.Gen.KernelCIdeal.Skeleton
public import proofs.«01_k».proof.Proof.Gen.KernelCIdeal.Launch
public import proofs.«01_k».proof.Proof.Gen.KernelCIdeal.Points
public import proofs.«01_k».proof.Proof.BigP
public import proofs.«01_k».proof.Proof.BigQ
public import proofs.«01_k».proof.Proof.BigY
public import proofs.«01_k».proof.Proof.ConvBwd
public import proofs.«01_k».proof.Proof.ConvBwdIdeal
public import proofs.«01_k».proof.Proof.Gen.KernelE
public import proofs.«01_k».proof.Proof.Gen.KernelE.Skeleton
public import proofs.«01_k».proof.Proof.Gen.KernelE.Launch
public import proofs.«01_k».proof.Proof.Gen.KernelE.Points
public import proofs.«01_k».proof.Proof.Gen.KernelE.Frame
public import proofs.«01_k».proof.Proof.Gen.KernelEIdeal
public import proofs.«01_k».proof.Proof.Gen.KernelEIdeal.Skeleton
public import proofs.«01_k».proof.Proof.Gen.KernelEIdeal.Launch
public import proofs.«01_k».proof.Proof.Gen.KernelEIdeal.Points
public import proofs.«01_k».proof.Proof.Gen.KernelEIdeal.Frame
public import proofs.«01_k».proof.Proof.Gen.ReferenceEIdeal
public import proofs.«01_k».proof.Proof.Gen.KernelEIdeal.Value
public import proofs.«01_k».proof.Proof.Gen.ReferenceEIdeal.Run
public import proofs.«01_k».proof.Proof.Gen.KernelI
public import proofs.«01_k».proof.Proof.Gen.KernelI.Skeleton
public import proofs.«01_k».proof.Proof.Gen.KernelI.Launch
public import proofs.«01_k».proof.Proof.Gen.KernelI.Points
public import proofs.«01_k».proof.Proof.Gen.KernelI.Frame
public import proofs.«01_k».proof.Proof.Gen.KernelIIdeal
public import proofs.«01_k».proof.Proof.Gen.KernelIIdeal.Skeleton
public import proofs.«01_k».proof.Proof.Gen.KernelIIdeal.Launch
public import proofs.«01_k».proof.Proof.Gen.KernelIIdeal.Points
public import proofs.«01_k».proof.Proof.Gen.KernelIIdeal.Frame
public import proofs.«01_k».proof.Proof.Gen.ReferenceIIdeal
public import proofs.«01_k».proof.Proof.Gen.KernelIIdeal.Value
public import proofs.«01_k».proof.Proof.Gen.ReferenceIIdeal.Run
public import proofs.«01_k».proof.Proof.Gen.KernelB
public import proofs.«01_k».proof.Proof.Gen.KernelB.Skeleton
public import proofs.«01_k».proof.Proof.Gen.KernelB.Launch
public import proofs.«01_k».proof.Proof.Gen.KernelB.Points
public import proofs.«01_k».proof.Proof.Gen.KernelB.Frame
public import proofs.«01_k».proof.Proof.Gen.KernelBIdeal
public import proofs.«01_k».proof.Proof.Gen.KernelBIdeal.Skeleton
public import proofs.«01_k».proof.Proof.Gen.KernelBIdeal.Launch
public import proofs.«01_k».proof.Proof.Gen.KernelBIdeal.Points
public import proofs.«01_k».proof.Proof.Gen.KernelBIdeal.Frame
public import proofs.«01_k».proof.Proof.Gen.ReferenceBIdeal
public import proofs.«01_k».proof.Proof.Gen.KernelBIdeal.Value
public import proofs.«01_k».proof.Proof.Gen.ReferenceBIdeal.Run
public import proofs.«01_k».proof.Proof.Gen.KernelJ
public import proofs.«01_k».proof.Proof.Gen.KernelJ.Skeleton
public import proofs.«01_k».proof.Proof.Gen.KernelJ.Launch
public import proofs.«01_k».proof.Proof.Gen.KernelJ.Points
public import proofs.«01_k».proof.Proof.Gen.KernelJ.Frame
public import proofs.«01_k».proof.Proof.Gen.KernelJIdeal
public import proofs.«01_k».proof.Proof.Gen.KernelJIdeal.Skeleton
public import proofs.«01_k».proof.Proof.Gen.KernelJIdeal.Launch
public import proofs.«01_k».proof.Proof.Gen.KernelJIdeal.Points
public import proofs.«01_k».proof.Proof.Gen.KernelJIdeal.Frame
public import proofs.«01_k».proof.Proof.Gen.ReferenceJIdeal
public import proofs.«01_k».proof.Proof.Gen.KernelJIdeal.Value
public import proofs.«01_k».proof.Proof.Gen.ReferenceJIdeal.Run
public import proofs.«01_k».proof.Proof.Slots
public import proofs.«01_k».proof.Proof.Proj
public import proofs.«01_k».proof.Proof.Weights
public import proofs.«01_k».proof.Proof.Input

@[expose] public section

noncomputable section

namespace Cert.Proof

open Idealize.ShloMosaic Idealize.SL.Sem

/-- The reference of the norm's gradient ends with its arguments unchanged; it declares no semaphore. -/
theorem frame_ref_x : Cert.quiescent_ReferenceXIdeal := fun m ρ _ =>
  (θ_run Cert.ReferenceXIdeal.defs _ _).mono (fun r h => ⟨fun c => (h c).2.2, sem_eq_zero_of_no_sems (by decide) r.2⟩)
    (Cert.ReferenceXIdeal.RmsGrad.run_value m ρ)

/-- The norm's gradient: kernel and reference compute the same two arrays. -/
theorem algebraic_x : Cert.algebraic_KernelXIdeal_ReferenceXIdeal := by
  pair_intro
  · run_from Cert.KernelXIdeal.Value.run_blocks m g
  · run_from Cert.ReferenceXIdeal.RmsGrad.run_value m' g'
    · exact (Cert.KernelXIdeal.RmsGrad.final4 m c).symm
    · exact (Cert.KernelXIdeal.RmsGrad.final5 m c).symm

/-- The reference of the layer's tail ends with its arguments unchanged; it declares no semaphore. -/
theorem frame_ref_t : Cert.quiescent_ReferenceTIdeal := fun m ρ _ =>
  (θ_run Cert.ReferenceTIdeal.defs _ _).mono (fun r h => ⟨fun c => (h c).2.2.2.2.2.2.2.2, sem_eq_zero_of_no_sems (by decide) r.2⟩)
    (Cert.ReferenceTIdeal.Tail.run_value m ρ)

/-- The layer's tail and the loss, forward and backward: kernel and reference compute the same eight arrays. -/
theorem algebraic_t : Cert.algebraic_KernelTIdeal_ReferenceTIdeal := by
  pair_intro
  · run_from Cert.KernelTIdeal.Value.run_blocks m g
  · have h := Cert.ReferenceTIdeal.Tail.run_value m' g'
    dsimp only [Cert.ReferenceTIdeal.Tail.mrows] at h
    run_from h
    · exact (Cert.KernelTIdeal.Tail.final10 m c).symm
    · exact (Cert.KernelTIdeal.Tail.final11 m c).symm
    · exact (Cert.KernelTIdeal.Tail.final12 m c).symm
    · exact (Cert.KernelTIdeal.Tail.final13 m c).symm
    · exact (Cert.KernelTIdeal.Tail.final14 m c).symm
    · exact (Cert.KernelTIdeal.Tail.final15 m c).symm
    · exact (Cert.KernelTIdeal.Tail.final16 m c).symm
    · exact (Cert.KernelTIdeal.Tail.final17 m c).symm

/-- The reference of the recurrence's forward pass ends with its arguments unchanged; it declares no semaphore. -/
theorem frame_ref_f : Cert.quiescent_ReferenceFIdeal := fun m ρ _ =>
  (θ_run Cert.ReferenceFIdeal.defs _ _).mono (fun r h => ⟨fun c => (h c).2.2.2, sem_eq_zero_of_no_sems (by decide) r.2⟩)
    (Cert.ReferenceFIdeal.Hgrn.run_value m ρ)

/-- The precondition's shapes fit. -/
instance facts_logits : Cert.Pre_logits_finite.Facts := ⟨by decide⟩

/-- A number whose absolute value is below infinity is a real number. -/
theorem real_of_abs (x : EReal) (h : Ideal.cmp CmpFPredicate.olt (max x (-x)) (Ideal.ofBits FTy.f32 0x7F800000#32) = 1#1) : ∃ r : ℝ, x = (r : EReal) := by
  have ht : Ideal.ofBits FTy.f32 0x7F800000#32 = ⊤ := by simp [Ideal.ofBits, Ideal.ieee]
  rw [ht] at h
  induction x with
  | bot => simp [Ideal.cmp] at h
  | top => simp [Ideal.cmp] at h
  | coe r => exact ⟨r, rfl⟩

/-- Under the precondition the logits are real numbers. -/
theorem fine_f (m : (ℓ : Loc Cert.KernelFIdeal.nD Cert.KernelFIdeal.τ Cert.KernelFIdeal.sig) → Buf (Elt Ideal) ℓ)
    (H : Cert.Pre_KernelFIdeal_logits_finite m) (c : Dev Cert.KernelFIdeal.nD) : (Cert.KernelFIdeal.Hgrn.args m c).Fine := fun l =>
  ⟨real_of_abs _ (congrFun (H c) (ix2 0 l)), real_of_abs _ (congrFun (H c) (ix2 1 l))⟩

/-- The recurrence's forward pass: kernel and reference compute the same three arrays, where the lower bounds' logits are real numbers. -/
theorem algebraic_f : Cert.algebraic_KernelFIdeal_ReferenceFIdeal_pre_logits_finite := by
  pair_intro
  · run_from Cert.KernelFIdeal.Value.run_blocks m g
  · have h := Cert.ReferenceFIdeal.Hgrn.run_value m' g'
    dsimp only [Cert.ReferenceFIdeal.Hgrn.args] at h
    run_from h
    · exact (Cert.KernelFIdeal.Hgrn.final6 m (fine_f m (by assumption)) c).symm
    · exact (Cert.KernelFIdeal.Hgrn.final7 m (fine_f m (by assumption)) c).symm
    · exact (Cert.KernelFIdeal.Hgrn.final8 m (fine_f m (by assumption)) c).symm

/-- The reference of the optimiser for three of the vectors' parameters ends with its arguments unchanged; it declares no semaphore. -/
theorem frame_ref_s : Cert.quiescent_ReferenceSIdeal := fun m ρ _ =>
  (θ_run Cert.ReferenceSIdeal.defs _ _).mono (fun r h => ⟨fun c => (h c).2.2.2.2.2.2.2.2.2.2.2.2, sem_eq_zero_of_no_sems (by decide) r.2⟩)
    (Cert.ReferenceSIdeal.Small.run_value m ρ)

/-- The optimiser for three of the vectors' parameters: kernel and reference compute the same arrays. -/
theorem algebraic_s : Cert.algebraic_KernelSIdeal_ReferenceSIdeal := by
  pair_intro
  · run_from Cert.KernelSIdeal.Value.run_blocks m g
  · run_from Cert.ReferenceSIdeal.Small.run_value m' g'
    · exact (Cert.KernelSIdeal.Small.first m c).1.symm
    · exact (Cert.KernelSIdeal.Small.first m c).2.1.symm
    · exact (Cert.KernelSIdeal.Small.first m c).2.2.1.symm
    · exact (Cert.KernelSIdeal.Small.first m c).2.2.2.symm
    · exact (Cert.KernelSIdeal.Small.second m c).1.symm
    · exact (Cert.KernelSIdeal.Small.second m c).2.1.symm
    · exact (Cert.KernelSIdeal.Small.second m c).2.2.1.symm
    · exact (Cert.KernelSIdeal.Small.second m c).2.2.2.symm
    · exact (Cert.KernelSIdeal.Small.third m c).1.symm
    · exact (Cert.KernelSIdeal.Small.third m c).2.1.symm
    · exact (Cert.KernelSIdeal.Small.third m c).2.2.1.symm
    · exact (Cert.KernelSIdeal.Small.third m c).2.2.2.symm

/-- The reference of the optimiser for three more of the vectors' parameters ends with its arguments unchanged; it declares no semaphore. -/
theorem frame_ref_u : Cert.quiescent_ReferenceUIdeal := fun m ρ _ =>
  (θ_run Cert.ReferenceUIdeal.defs _ _).mono (fun r h => ⟨fun c => (h c).2.2.2.2.2.2.2.2.2.2.2.2, sem_eq_zero_of_no_sems (by decide) r.2⟩)
    (Cert.ReferenceUIdeal.Small.run_value m ρ)

/-- The optimiser for three more of the vectors' parameters: kernel and reference compute the same arrays. -/
theorem algebraic_u : Cert.algebraic_KernelUIdeal_ReferenceUIdeal := by
  pair_intro
  · run_from Cert.KernelUIdeal.Value.run_blocks m g
  · run_from Cert.ReferenceUIdeal.Small.run_value m' g'
    · exact (Cert.KernelUIdeal.Small.first m c).1.symm
    · exact (Cert.KernelUIdeal.Small.first m c).2.1.symm
    · exact (Cert.KernelUIdeal.Small.first m c).2.2.1.symm
    · exact (Cert.KernelUIdeal.Small.first m c).2.2.2.symm
    · exact (Cert.KernelUIdeal.Small.second m c).1.symm
    · exact (Cert.KernelUIdeal.Small.second m c).2.1.symm
    · exact (Cert.KernelUIdeal.Small.second m c).2.2.1.symm
    · exact (Cert.KernelUIdeal.Small.second m c).2.2.2.symm
    · exact (Cert.KernelUIdeal.Small.third m c).1.symm
    · exact (Cert.KernelUIdeal.Small.third m c).2.1.symm
    · exact (Cert.KernelUIdeal.Small.third m c).2.2.1.symm
    · exact (Cert.KernelUIdeal.Small.third m c).2.2.2.symm

/-- The reference of the optimiser for the two remaining vectors' parameters ends with its arguments unchanged; it declares no semaphore. -/
theorem frame_ref_w : Cert.quiescent_ReferenceWIdeal := fun m ρ _ =>
  (θ_run Cert.ReferenceWIdeal.defs _ _).mono (fun r h => ⟨fun c => (h c).2.2.2.2.2.2.2.2, sem_eq_zero_of_no_sems (by decide) r.2⟩)
    (Cert.ReferenceWIdeal.Small.run_value m ρ)

/-- The optimiser for the two remaining vectors' parameters: kernel and reference compute the same arrays. -/
theorem algebraic_w : Cert.algebraic_KernelWIdeal_ReferenceWIdeal := by
  pair_intro
  · run_from Cert.KernelWIdeal.Value.run_blocks m g
  · run_from Cert.ReferenceWIdeal.Small.run_value m' g'
    · exact (Cert.KernelWIdeal.Small.first m c).1.symm
    · exact (Cert.KernelWIdeal.Small.first m c).2.1.symm
    · exact (Cert.KernelWIdeal.Small.first m c).2.2.1.symm
    · exact (Cert.KernelWIdeal.Small.first m c).2.2.2.symm
    · exact (Cert.KernelWIdeal.Small.second m c).1.symm
    · exact (Cert.KernelWIdeal.Small.second m c).2.1.symm
    · exact (Cert.KernelWIdeal.Small.second m c).2.2.1.symm
    · exact (Cert.KernelWIdeal.Small.second m c).2.2.2.symm

/-- The reference of the lower bounds' logits ends with its arguments unchanged; it declares no semaphore. -/
theorem frame_ref_l : Cert.quiescent_ReferenceLIdeal := fun m ρ _ =>
  (θ_run Cert.ReferenceLIdeal.defs _ _).mono (fun r h => ⟨fun c => (h c).2.2.2.2.2.2.2.2, sem_eq_zero_of_no_sems (by decide) r.2⟩)
    (Cert.ReferenceLIdeal.Small.run_grad m ρ)

/-- The second precondition's shapes fit. -/
instance facts_ct : Cert.Pre_logits_and_cotangent_finite.Facts := ⟨by decide, by decide, by decide, by decide⟩

/-- Two bits whose conjunction is one are both one. -/
theorem both (a b : BitVec 1) (h : a &&& b = 1#1) : a = 1#1 ∧ b = 1#1 := by
  revert a b
  decide

/-- A row repeated over two layers, by entries. -/
theorem repeated (z : IVec Cert.Pre_logits_and_cotangent_finite.S1024 1) (h h') (i : Fin 2) (k : Fin 1024) :
    broadcastInDim Cert.Pre_logits_and_cotangent_finite.S2x1024 ![0, 1] h
      (broadcastInDim Cert.Pre_logits_and_cotangent_finite.S1x1024 ![1] h' z) (ix2 i k) = z (ix1 k) := by
  pointwise

/-- Under the second precondition the logits and their cotangent are real numbers. -/
theorem fine_l (m : (ℓ : Loc Cert.KernelLIdeal.nD Cert.KernelLIdeal.τ Cert.KernelLIdeal.sig) → Buf (Elt Ideal) ℓ)
    (H : Cert.Pre_KernelLIdeal_logits_and_cotangent_finite m) (c : Dev Cert.KernelLIdeal.nD) :
    Cert.ReferenceLIdeal.Small.Fine (m ((c.tc : Thread Cert.KernelLIdeal.nD Cert.KernelLIdeal.τ).loc Cert.KernelLIdeal.main_arg2))
      (m ((c.tc : Thread Cert.KernelLIdeal.nD Cert.KernelLIdeal.τ).loc Cert.KernelLIdeal.main_arg0)) := fun k => by
  have h0 := both _ _ (congrFun (H c) (ix2 0 k))
  have h1 := both _ _ (congrFun (H c) (ix2 1 k))
  exact ⟨real_of_abs _ h0.1, real_of_abs _ h1.1, real_of_abs _ ((repeated _ _ _ 0 k).symm.trans h0.2)⟩

/-- The lower bounds' logits' gradient, step and moments, and the taps': kernel and reference compute the same arrays, where the logits and
    the cotangent are real numbers. -/
theorem algebraic_l : Cert.algebraic_KernelLIdeal_ReferenceLIdeal_pre_logits_and_cotangent_finite := by
  pair_intro
  · run_from Cert.KernelLIdeal.Value.run_blocks m g
  · run_from Cert.ReferenceLIdeal.Small.run_grad m' g'
    · rw [Cert.ReferenceLIdeal.Small.grad_eq _ _ (fine_l m (by assumption) c)]
      exact (Cert.KernelLIdeal.Small.logits m c).1.symm
    · rw [Cert.ReferenceLIdeal.Small.grad_eq _ _ (fine_l m (by assumption) c)]
      exact (Cert.KernelLIdeal.Small.logits m c).2.1.symm
    · rw [Cert.ReferenceLIdeal.Small.grad_eq _ _ (fine_l m (by assumption) c)]
      exact (Cert.KernelLIdeal.Small.logits m c).2.2.1.symm
    · rw [Cert.ReferenceLIdeal.Small.grad_eq _ _ (fine_l m (by assumption) c)]
      exact (Cert.KernelLIdeal.Small.logits m c).2.2.2.symm
    · exact (Cert.KernelLIdeal.Small.taps m c).1.symm
    · exact (Cert.KernelLIdeal.Small.taps m c).2.1.symm
    · exact (Cert.KernelLIdeal.Small.taps m c).2.2.1.symm
    · exact (Cert.KernelLIdeal.Small.taps m c).2.2.2.symm

/-- The reference of the convolution block ends with its arguments unchanged; it declares no semaphore. -/
theorem frame_ref_g : Cert.quiescent_ReferenceGIdeal := fun m ρ _ =>
  (θ_run Cert.ReferenceGIdeal.defs _ _).mono (fun r h => ⟨fun c => (h c).2.2, sem_eq_zero_of_no_sems (by decide) r.2⟩)
    (Cert.ReferenceGIdeal.Conv.run_value m ρ)

/-- The convolution block's forward pass: kernel and reference compute the same two arrays. -/
theorem algebraic_g : Cert.algebraic_KernelGIdeal_ReferenceGIdeal := by
  pair_intro
  · run_from Cert.KernelGIdeal.Value.run_blocks m g
  · have h := Cert.ReferenceGIdeal.Conv.run_value m' g'
    dsimp only [Cert.ReferenceGIdeal.Conv.args] at h
    run_from h
    · exact (Cert.KernelGIdeal.Conv.final9 m c).symm
    · exact (Cert.KernelGIdeal.Conv.final10 m c).symm

/-- The reference of the norm before the projections ends with its arguments unchanged; it declares no semaphore. -/
theorem frame_ref_n : Cert.quiescent_ReferenceNIdeal := fun m ρ _ =>
  (θ_run Cert.ReferenceNIdeal.defs _ _).mono (fun r h => ⟨fun c => (h c).2, sem_eq_zero_of_no_sems (by decide) r.2⟩)
    (Cert.ReferenceNIdeal.Norm.run_value m ρ)

/-- The norm before the projections: kernel and reference compute the same array. -/
theorem algebraic_n : Cert.algebraic_KernelNIdeal_ReferenceNIdeal := by
  pair_intro
  · run_from Cert.KernelNIdeal.Value.run_blocks m g
  · run_from Cert.ReferenceNIdeal.Norm.run_value m' g'
    exact (Cert.KernelNIdeal.Norm.final m c).symm

/-- The reference of the plain product ends with its arguments unchanged; it declares no semaphore. -/
theorem frame_ref_m : Cert.quiescent_ReferenceMIdeal := fun m ρ _ =>
  (θ_run Cert.ReferenceMIdeal.defs _ _).mono (fun r h => ⟨fun c => (h c).2, sem_eq_zero_of_no_sems (by decide) r.2⟩)
    (Cert.ReferenceMIdeal.Product.run_value m ρ)

set_option maxRecDepth 16384 in
/-- The plain product: kernel and reference compute the same array. -/
theorem algebraic_m : Cert.algebraic_KernelMIdeal_ReferenceMIdeal := by
  pair_intro
  · run_from Cert.KernelMIdeal.Value.run_blocks m g
  · run_from Cert.ReferenceMIdeal.Product.run_value m' g'
    exact (Cert.KernelMIdeal.Product.final m c).symm

/-- The reference of the optimiser for the largest weight ends with its arguments unchanged; it declares no semaphore. -/
theorem frame_ref_o : Cert.quiescent_ReferenceOIdeal := fun m ρ _ =>
  (θ_run Cert.ReferenceOIdeal.defs _ _).mono (fun r h => ⟨fun c => (h c).2.2.2, sem_eq_zero_of_no_sems (by decide) r.2⟩)
    (Cert.ReferenceOIdeal.Big.run_value m ρ)

/-- The optimiser for the largest weight: kernel and reference compute the same arrays. -/
theorem algebraic_o : Cert.algebraic_KernelOIdeal_ReferenceOIdeal := by
  pair_intro
  · run_from Cert.KernelOIdeal.Value.run_blocks m g
  · run_from Cert.ReferenceOIdeal.Big.run_value m' g'
    · exact (Cert.KernelOIdeal.Big.finals m c).1.symm
    · exact (Cert.KernelOIdeal.Big.finals m c).2.1.symm
    · exact (Cert.KernelOIdeal.Big.finals m c).2.2.symm

/-- The reference of the optimiser for the weights w_pw2 and w_pg ends with its arguments unchanged; it declares no semaphore. -/
theorem frame_ref_p : Cert.quiescent_ReferencePIdeal := fun m ρ _ =>
  (θ_run Cert.ReferencePIdeal.defs _ _).mono (fun r h => ⟨fun c => (h c).2.2.2, sem_eq_zero_of_no_sems (by decide) r.2⟩)
    (Cert.ReferencePIdeal.Big.run_value m ρ)

/-- The optimiser for the weights w_pw2 and w_pg: kernel and reference compute the same arrays. -/
theorem algebraic_p : Cert.algebraic_KernelPIdeal_ReferencePIdeal := by
  pair_intro
  · run_from Cert.KernelPIdeal.Value.run_blocks m g
  · run_from Cert.ReferencePIdeal.Big.run_value m' g'
    · exact (Cert.KernelPIdeal.Big.finals m c).1.symm
    · exact (Cert.KernelPIdeal.Big.finals m c).2.1.symm
    · exact (Cert.KernelPIdeal.Big.finals m c).2.2.symm

/-- The reference of the optimiser for the weight w_out ends with its arguments unchanged; it declares no semaphore. -/
theorem frame_ref_q : Cert.quiescent_ReferenceQIdeal := fun m ρ _ =>
  (θ_run Cert.ReferenceQIdeal.defs _ _).mono (fun r h => ⟨fun c => (h c).2.2.2, sem_eq_zero_of_no_sems (by decide) r.2⟩)
    (Cert.ReferenceQIdeal.Big.run_value m ρ)

/-- The optimiser for the weight w_out: kernel and reference compute the same arrays. -/
theorem algebraic_q : Cert.algebraic_KernelQIdeal_ReferenceQIdeal := by
  pair_intro
  · run_from Cert.KernelQIdeal.Value.run_blocks m g
  · run_from Cert.ReferenceQIdeal.Big.run_value m' g'
    · exact (Cert.KernelQIdeal.Big.finals m c).1.symm
    · exact (Cert.KernelQIdeal.Big.finals m c).2.1.symm
    · exact (Cert.KernelQIdeal.Big.finals m c).2.2.symm

/-- The reference of the optimiser for the weight w_pp ends with its arguments unchanged; it declares no semaphore. -/
theorem frame_ref_y : Cert.quiescent_ReferenceYIdeal := fun m ρ _ =>
  (θ_run Cert.ReferenceYIdeal.defs _ _).mono (fun r h => ⟨fun c => (h c).2.2.2, sem_eq_zero_of_no_sems (by decide) r.2⟩)
    (Cert.ReferenceYIdeal.Big.run_value m ρ)

/-- The optimiser for the weight w_pp: kernel and reference compute the same arrays. -/
theorem algebraic_y : Cert.algebraic_KernelYIdeal_ReferenceYIdeal := by
  pair_intro
  · run_from Cert.KernelYIdeal.Value.run_blocks m g
  · run_from Cert.ReferenceYIdeal.Big.run_value m' g'
    · exact (Cert.KernelYIdeal.Big.finals m c).1.symm
    · exact (Cert.KernelYIdeal.Big.finals m c).2.1.symm
    · exact (Cert.KernelYIdeal.Big.finals m c).2.2.symm

/-- The reference of the sum of the devices' packed vectors ends with its arguments unchanged; it declares no semaphore. -/
theorem frame_ref_e : Cert.quiescent_ReferenceEIdeal := fun m ρ _ =>
  (θ_run Cert.ReferenceEIdeal.defs _ _).mono (fun r h => ⟨fun c => (h c).2, sem_eq_zero_of_no_sems (by decide) r.2⟩)
    (Cert.ReferenceEIdeal.Slots.run_value m ρ)

set_option maxRecDepth 16384 in
/-- The sum of the devices' packed vectors: kernel and reference compute the same array. -/
theorem algebraic_e : Cert.algebraic_KernelEIdeal_ReferenceEIdeal := by
  pair_intro
  · run_from Cert.KernelEIdeal.Value.run_blocks m g
  · run_from Cert.ReferenceEIdeal.Slots.run_value m' g'
    exact (Cert.KernelEIdeal.Slots.final m c).symm

/-- The reference of the projections forward ends with its arguments unchanged; it declares no semaphore. -/
theorem frame_ref_i : Cert.quiescent_ReferenceIIdeal := fun m ρ _ =>
  (θ_run Cert.ReferenceIIdeal.defs _ _).mono (fun r h => ⟨fun c => (h c).2, sem_eq_zero_of_no_sems (by decide) r.2⟩)
    (Cert.ReferenceIIdeal.Proj.run_value m ρ)

set_option maxRecDepth 16384 in
/-- The projections forward: kernel and reference compute the same array. -/
theorem algebraic_i : Cert.algebraic_KernelIIdeal_ReferenceIIdeal := by
  pair_intro
  · run_from Cert.KernelIIdeal.Value.run_blocks m g
  · run_from Cert.ReferenceIIdeal.Proj.run_value m' g'
    exact (Cert.KernelIIdeal.Proj.final m c).symm

/-- The reference of the projections' weight gradient ends with its arguments unchanged; it declares no semaphore. -/
theorem frame_ref_b : Cert.quiescent_ReferenceBIdeal := fun m ρ _ =>
  (θ_run Cert.ReferenceBIdeal.defs _ _).mono (fun r h => ⟨fun c => (h c).2, sem_eq_zero_of_no_sems (by decide) r.2⟩)
    (Cert.ReferenceBIdeal.Weights.run_value m ρ)

set_option maxRecDepth 16384 in
/-- The projections' weight gradient: kernel and reference compute the same array. -/
theorem algebraic_b : Cert.algebraic_KernelBIdeal_ReferenceBIdeal := by
  pair_intro
  · run_from Cert.KernelBIdeal.Value.run_blocks m g
  · run_from Cert.ReferenceBIdeal.Weights.run_value m' g'
    exact (Cert.KernelBIdeal.Weights.final m c).symm

/-- The reference of the projections' input gradient ends with its arguments unchanged; it declares no semaphore. -/
theorem frame_ref_j : Cert.quiescent_ReferenceJIdeal := fun m ρ _ =>
  (θ_run Cert.ReferenceJIdeal.defs _ _).mono (fun r h => ⟨fun c => (h c).2, sem_eq_zero_of_no_sems (by decide) r.2⟩)
    (Cert.ReferenceJIdeal.Input.run_value m ρ)

set_option maxRecDepth 16384 in
/-- The projections' input gradient: kernel and reference compute the same array. -/
theorem algebraic_j : Cert.algebraic_KernelJIdeal_ReferenceJIdeal := by
  pair_intro
  · run_from Cert.KernelJIdeal.Value.run_blocks m g
  · run_from Cert.ReferenceJIdeal.Input.run_value m' g'
    exact (Cert.KernelJIdeal.Input.final m c).symm

/-- All claims of the certificate. -/
theorem claim : Cert.Claim := ⟨Cert.KernelX.Gen.facts, Cert.KernelXIdeal.Gen.facts, Cert.ReferenceXIdeal.Gen.facts,
  Cert.KernelT.Gen.facts, Cert.KernelTIdeal.Gen.facts, Cert.ReferenceTIdeal.Gen.facts,
  Cert.KernelF.Gen.facts, Cert.KernelFIdeal.Gen.facts, Cert.ReferenceFIdeal.Gen.facts,
  Cert.KernelL.Gen.facts, Cert.KernelLIdeal.Gen.facts, Cert.ReferenceLIdeal.Gen.facts,
  Cert.KernelS.Gen.facts, Cert.KernelSIdeal.Gen.facts, Cert.ReferenceSIdeal.Gen.facts,
  Cert.KernelU.Gen.facts, Cert.KernelUIdeal.Gen.facts, Cert.ReferenceUIdeal.Gen.facts,
  Cert.KernelW.Gen.facts, Cert.KernelWIdeal.Gen.facts, Cert.ReferenceWIdeal.Gen.facts,
  Cert.KernelG.Gen.facts, Cert.KernelGIdeal.Gen.facts, Cert.ReferenceGIdeal.Gen.facts, Cert.KernelH.Gen.facts, Cert.KernelHIdeal.Gen.facts,
  Cert.KernelN.Gen.facts, Cert.KernelNIdeal.Gen.facts, Cert.ReferenceNIdeal.Gen.facts,
  Cert.KernelM.Gen.facts, Cert.KernelMIdeal.Gen.facts, Cert.ReferenceMIdeal.Gen.facts,
  Cert.KernelO.Gen.facts, Cert.KernelOIdeal.Gen.facts, Cert.ReferenceOIdeal.Gen.facts,
  Cert.KernelP.Gen.facts, Cert.KernelPIdeal.Gen.facts, Cert.ReferencePIdeal.Gen.facts,
  Cert.KernelQ.Gen.facts, Cert.KernelQIdeal.Gen.facts, Cert.ReferenceQIdeal.Gen.facts,
  Cert.KernelY.Gen.facts, Cert.KernelYIdeal.Gen.facts, Cert.ReferenceYIdeal.Gen.facts,
  Cert.KernelC.Gen.facts, Cert.KernelCIdeal.Gen.facts,
  Cert.KernelE.Gen.facts, Cert.KernelEIdeal.Gen.facts, Cert.ReferenceEIdeal.Gen.facts,
  Cert.KernelI.Gen.facts, Cert.KernelIIdeal.Gen.facts, Cert.ReferenceIIdeal.Gen.facts,
  Cert.KernelB.Gen.facts, Cert.KernelBIdeal.Gen.facts, Cert.ReferenceBIdeal.Gen.facts,
  Cert.KernelJ.Gen.facts, Cert.KernelJIdeal.Gen.facts, Cert.ReferenceJIdeal.Gen.facts,
  facts_logits, facts_ct,
  fun m ρ _ => Cert.KernelX.Gen.frame m ρ, fun m ρ _ => Cert.KernelXIdeal.Gen.frame m ρ, frame_ref_x,
  fun m ρ _ => Cert.KernelT.Gen.frame m ρ, fun m ρ _ => Cert.KernelTIdeal.Gen.frame m ρ, frame_ref_t,
  fun m ρ _ => Cert.KernelF.Gen.frame m ρ, fun m ρ _ => Cert.KernelFIdeal.Gen.frame m ρ, fun m ρ _ => Cert.KernelFIdeal.Gen.frame m ρ,
  frame_ref_f, fun m ρ _ => frame_ref_f m ρ trivial,
  fun m ρ _ => Cert.KernelL.Gen.frame m ρ, fun m ρ _ => Cert.KernelLIdeal.Gen.frame m ρ, fun m ρ _ => Cert.KernelLIdeal.Gen.frame m ρ,
  frame_ref_l, fun m ρ _ => frame_ref_l m ρ trivial,
  fun m ρ _ => Cert.KernelS.Gen.frame m ρ, fun m ρ _ => Cert.KernelSIdeal.Gen.frame m ρ, frame_ref_s,
  fun m ρ _ => Cert.KernelU.Gen.frame m ρ, fun m ρ _ => Cert.KernelUIdeal.Gen.frame m ρ, frame_ref_u,
  fun m ρ _ => Cert.KernelW.Gen.frame m ρ, fun m ρ _ => Cert.KernelWIdeal.Gen.frame m ρ, frame_ref_w,
  fun m ρ _ => Cert.KernelG.Gen.frame m ρ, fun m ρ _ => Cert.KernelGIdeal.Gen.frame m ρ, frame_ref_g,
  fun m ρ _ => Cert.KernelH.Gen.frame m ρ, fun m ρ _ => Cert.KernelHIdeal.Gen.frame m ρ,
  fun m ρ _ => Cert.KernelN.Gen.frame m ρ, fun m ρ _ => Cert.KernelNIdeal.Gen.frame m ρ, frame_ref_n,
  fun m ρ _ => Cert.KernelM.Gen.frame m ρ, fun m ρ _ => Cert.KernelMIdeal.Gen.frame m ρ, frame_ref_m,
  fun m ρ _ => Cert.KernelO.Gen.frame m ρ, fun m ρ _ => Cert.KernelOIdeal.Gen.frame m ρ, frame_ref_o,
  fun m ρ _ => Cert.KernelP.Gen.frame m ρ, fun m ρ _ => Cert.KernelPIdeal.Gen.frame m ρ, frame_ref_p,
  fun m ρ _ => Cert.KernelQ.Gen.frame m ρ, fun m ρ _ => Cert.KernelQIdeal.Gen.frame m ρ, frame_ref_q,
  fun m ρ _ => Cert.KernelY.Gen.frame m ρ, fun m ρ _ => Cert.KernelYIdeal.Gen.frame m ρ, frame_ref_y,
  fun m ρ _ => Cert.KernelC.Loose.frame m ρ, fun m ρ _ => Cert.KernelCIdeal.Loose.frame m ρ,
  fun m ρ _ => Cert.KernelE.Gen.frame m ρ, fun m ρ _ => Cert.KernelEIdeal.Gen.frame m ρ, frame_ref_e,
  fun m ρ _ => Cert.KernelI.Gen.frame m ρ, fun m ρ _ => Cert.KernelIIdeal.Gen.frame m ρ, frame_ref_i,
  fun m ρ _ => Cert.KernelB.Gen.frame m ρ, fun m ρ _ => Cert.KernelBIdeal.Gen.frame m ρ, frame_ref_b,
  fun m ρ _ => Cert.KernelJ.Gen.frame m ρ, fun m ρ _ => Cert.KernelJIdeal.Gen.frame m ρ, frame_ref_j,
  trivial, algebraic_x, trivial, algebraic_t, trivial, algebraic_f, trivial, algebraic_l, trivial, algebraic_s, trivial, algebraic_u,
  trivial, algebraic_w, trivial, algebraic_g, trivial, trivial, algebraic_n, trivial, algebraic_m, trivial, algebraic_o, trivial, algebraic_p,
  trivial, algebraic_q, trivial, algebraic_y, trivial, trivial, algebraic_e,
  trivial, algebraic_i, trivial, algebraic_b, trivial, algebraic_j⟩

end Cert.Proof

end
